-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_names_blocks_Kernel6 : Cert.Pre_names_blocks_Kernel6.Facts] (m : (ℓ : Loc Cert.Kernel6.nD Cert.Kernel6.τ Cert.Kernel6.sig) → Buf (Elt Bits) ℓ) : Prop :=
  ∀ c : Dev Cert.Kernel6.nD,
    (Cert.Pre_names_blocks_Kernel6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3))) = (fun _ => 1#1)

def Pre_Kernel6Ideal [hPre_names_blocks_Kernel6 : Cert.Pre_names_blocks_Kernel6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_names_blocks_Kernel6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_names_blocks_Reference6Ideal [hPre_names_blocks_Reference6Ideal : Cert.Pre_names_blocks_Reference6Ideal.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_names_blocks_Reference6Ideal.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] [hPre_names_blocks_Kernel6 : Cert.Pre_names_blocks_Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] [hPre_names_blocks_Kernel6 : Cert.Pre_names_blocks_Kernel6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_names_blocks_Reference6Ideal [hReference6Ideal : Cert.Reference6Ideal.Facts] [hPre_names_blocks_Reference6Ideal : Cert.Pre_names_blocks_Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_names_blocks_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v7) = v2 c
          ∧ r.2.mem ((c.tc : Thread Cert.Reference3Ideal.nD Cert.Reference3Ideal.τ).loc Cert.Reference3Ideal.main_v13) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_v13) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m ((c.tc : Thread Cert.Kernel5Ideal.nD Cert.Kernel5Ideal.τ).loc Cert.Kernel5Ideal.main_arg0) = Layout.block ⟨1, ![8]⟩ ⟨1, ![64]⟩ 0 8 c (m' (((0 : Dev Cert.Reference5Ideal.nD).tc : Thread Cert.Reference5Ideal.nD Cert.Reference5Ideal.τ).loc Cert.Reference5Ideal.main_arg0))
      ∧ m ((c.tc : Thread Cert.Kernel5Ideal.nD Cert.Kernel5Ideal.τ).loc Cert.Kernel5Ideal.main_arg1) = Layout.block ⟨2, ![8192, 2048]⟩ ⟨2, ![65536, 2048]⟩ 0 8 c (m' (((0 : Dev Cert.Reference5Ideal.nD).tc : Thread Cert.Reference5Ideal.nD Cert.Reference5Ideal.τ).loc Cert.Reference5Ideal.main_arg1))
      ∧ m ((c.tc : Thread Cert.Kernel5Ideal.nD Cert.Kernel5Ideal.τ).loc Cert.Kernel5Ideal.main_arg2) = Layout.block ⟨3, ![4, 8192, 1024]⟩ ⟨3, ![4, 65536, 1024]⟩ 1 8 c (m' (((0 : Dev Cert.Reference5Ideal.nD).tc : Thread Cert.Reference5Ideal.nD Cert.Reference5Ideal.τ).loc Cert.Reference5Ideal.main_arg2))
      ∧ m ((c.tc : Thread Cert.Kernel5Ideal.nD Cert.Kernel5Ideal.τ).loc Cert.Kernel5Ideal.main_arg3) = Layout.block ⟨3, ![4, 8192, 1024]⟩ ⟨3, ![4, 65536, 1024]⟩ 1 8 c (m' (((0 : Dev Cert.Reference5Ideal.nD).tc : Thread Cert.Reference5Ideal.nD Cert.Reference5Ideal.τ).loc Cert.Reference5Ideal.main_arg3))) →
    ∃ (v0 : Buf (Elt Ideal) (((0 : Dev Cert.Reference5Ideal.nD).tc : Thread Cert.Reference5Ideal.nD Cert.Reference5Ideal.τ).loc Cert.Reference5Ideal.main_v41)) (v1 : Buf (Elt Ideal) (((0 : Dev Cert.Reference5Ideal.nD).tc : Thread Cert.Reference5Ideal.nD Cert.Reference5Ideal.τ).loc Cert.Reference5Ideal.main_v46)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = Layout.block ⟨2, ![2048, 1024]⟩ ⟨2, ![16384, 1024]⟩ 0 8 c v0
          ∧ r.2.mem ((c.tc : Thread Cert.Kernel5Ideal.nD Cert.Kernel5Ideal.τ).loc Cert.Kernel5Ideal.main_v1_2) = Layout.block ⟨3, ![3, 2048, 1024]⟩ ⟨3, ![3, 16384, 1024]⟩ 1 8 c v1
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r =>
          r.2.mem (((0 : Dev Cert.Reference5Ideal.nD).tc : Thread Cert.Reference5Ideal.nD Cert.Reference5Ideal.τ).loc Cert.Reference5Ideal.main_v41) = v0
          ∧ r.2.mem (((0 : Dev Cert.Reference5Ideal.nD).tc : Thread Cert.Reference5Ideal.nD Cert.Reference5Ideal.τ).loc Cert.Reference5Ideal.main_v46) = v1
          ∧ r.2.mem (((0 : Dev Cert.Reference5Ideal.nD).tc : Thread Cert.Reference5Ideal.nD Cert.Reference5Ideal.τ).loc Cert.Reference5Ideal.main_arg0) = m' (((0 : Dev Cert.Reference5Ideal.nD).tc : Thread Cert.Reference5Ideal.nD Cert.Reference5Ideal.τ).loc Cert.Reference5Ideal.main_arg0)
          ∧ r.2.mem (((0 : Dev Cert.Reference5Ideal.nD).tc : Thread Cert.Reference5Ideal.nD Cert.Reference5Ideal.τ).loc Cert.Reference5Ideal.main_arg1) = m' (((0 : Dev Cert.Reference5Ideal.nD).tc : Thread Cert.Reference5Ideal.nD Cert.Reference5Ideal.τ).loc Cert.Reference5Ideal.main_arg1)
          ∧ r.2.mem (((0 : Dev Cert.Reference5Ideal.nD).tc : Thread Cert.Reference5Ideal.nD Cert.Reference5Ideal.τ).loc Cert.Reference5Ideal.main_arg2) = m' (((0 : Dev Cert.Reference5Ideal.nD).tc : Thread Cert.Reference5Ideal.nD Cert.Reference5Ideal.τ).loc Cert.Reference5Ideal.main_arg2)
          ∧ r.2.mem (((0 : Dev Cert.Reference5Ideal.nD).tc : Thread Cert.Reference5Ideal.nD Cert.Reference5Ideal.τ).loc Cert.Reference5Ideal.main_arg3) = m' (((0 : Dev Cert.Reference5Ideal.nD).tc : Thread Cert.Reference5Ideal.nD Cert.Reference5Ideal.τ).loc Cert.Reference5Ideal.main_arg3))

def preserves_Kernel6_Kernel6Ideal : Prop :=
  True

def algebraic_Kernel6Ideal_Reference6Ideal_on_own_order [hKernel6Ideal : Cert.Kernel6Ideal.Facts] [hReference6Ideal : Cert.Reference6Ideal.Facts] [hPre_names_blocks_Kernel6 : Cert.Pre_names_blocks_Kernel6.Facts] [hOn_own_order : Cert.On_own_order.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m ((c.tc : Thread Cert.Kernel6Ideal.nD Cert.Kernel6Ideal.τ).loc Cert.Kernel6Ideal.main_arg0) = Layout.block ⟨1, ![8]⟩ ⟨1, ![64]⟩ 0 8 c (m' (((0 : Dev Cert.Reference6Ideal.nD).tc : Thread Cert.Reference6Ideal.nD Cert.Reference6Ideal.τ).loc Cert.Reference6Ideal.main_arg0))
      ∧ m ((c.tc : Thread Cert.Kernel6Ideal.nD Cert.Kernel6Ideal.τ).loc Cert.Kernel6Ideal.main_arg1) = Layout.block ⟨2, ![8192, 2048]⟩ ⟨2, ![65536, 2048]⟩ 0 8 c (m' (((0 : Dev Cert.Reference6Ideal.nD).tc : Thread Cert.Reference6Ideal.nD Cert.Reference6Ideal.τ).loc Cert.Reference6Ideal.main_arg1))
      ∧ m ((c.tc : Thread Cert.Kernel6Ideal.nD Cert.Kernel6Ideal.τ).loc Cert.Kernel6Ideal.main_arg2) = Layout.block ⟨2, ![2048, 1024]⟩ ⟨2, ![2048, 8192]⟩ 1 8 c (m' (((0 : Dev Cert.Reference6Ideal.nD).tc : Thread Cert.Reference6Ideal.nD Cert.Reference6Ideal.τ).loc Cert.Reference6Ideal.main_arg2))
      ∧ m ((c.tc : Thread Cert.Kernel6Ideal.nD Cert.Kernel6Ideal.τ).loc Cert.Kernel6Ideal.main_arg3) = Layout.block ⟨2, ![256, 2048]⟩ ⟨2, ![2048, 2048]⟩ 0 8 c (m' (((0 : Dev Cert.Reference6Ideal.nD).tc : Thread Cert.Reference6Ideal.nD Cert.Reference6Ideal.τ).loc Cert.Reference6Ideal.main_arg3))) →
    ∃ (v0 : Buf (Elt Ideal) (((0 : Dev Cert.Reference6Ideal.nD).tc : Thread Cert.Reference6Ideal.nD Cert.Reference6Ideal.τ).loc Cert.Reference6Ideal.main_v0)) (v1 : Buf (Elt Ideal) (((0 : Dev Cert.Reference6Ideal.nD).tc : Thread Cert.Reference6Ideal.nD Cert.Reference6Ideal.τ).loc Cert.Reference6Ideal.main_v2)) (v2 : Buf (Elt Ideal) (((0 : Dev Cert.Reference6Ideal.nD).tc : Thread Cert.Reference6Ideal.nD Cert.Reference6Ideal.τ).loc Cert.Reference6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![8192, 8192]⟩ : Shape).Idx, (Layout.block ⟨2, ![8192, 8192]⟩ ⟨2, ![65536, 8192]⟩ 0 8 c ((Cert.On_own_order.fn (F := Ideal) (m' (((0 : Dev Cert.Reference6Ideal.nD).tc : Thread Cert.Reference6Ideal.nD Cert.Reference6Ideal.τ).loc Cert.Reference6Ideal.main_arg0)) (m' (((0 : Dev Cert.Reference6Ideal.nD).tc : Thread Cert.Reference6Ideal.nD Cert.Reference6Ideal.τ).loc Cert.Reference6Ideal.main_arg1)) (m' (((0 : Dev Cert.Reference6Ideal.nD).tc : Thread Cert.Reference6Ideal.nD Cert.Reference6Ideal.τ).loc Cert.Reference6Ideal.main_arg2)) (m' (((0 : Dev Cert.Reference6Ideal.nD).tc : Thread Cert.Reference6Ideal.nD Cert.Reference6Ideal.τ).loc Cert.Reference6Ideal.main_arg3))).1) : (⟨2, ![8192, 8192]⟩ : Shape).Idx → _) i = 1#1 → r.2.mem ((c.tc : Thread Cert.Kernel6Ideal.nD Cert.Kernel6Ideal.τ).loc Cert.Kernel6Ideal.main_v1_0) i = (Layout.block ⟨2, ![8192, 8192]⟩ ⟨2, ![65536, 8192]⟩ 0 8 c v0 : (⟨2, ![8192, 8192]⟩ : Shape).Idx → _) i)
          ∧ (∀ i : (⟨3, ![8, 2048, 1024]⟩ : Shape).Idx, (Cert.On_own_order.fn (F := Ideal) (m' (((0 : Dev Cert.Reference6Ideal.nD).tc : Thread Cert.Reference6Ideal.nD Cert.Reference6Ideal.τ).loc Cert.Reference6Ideal.main_arg0)) (m' (((0 : Dev Cert.Reference6Ideal.nD).tc : Thread Cert.Reference6Ideal.nD Cert.Reference6Ideal.τ).loc Cert.Reference6Ideal.main_arg1)) (m' (((0 : Dev Cert.Reference6Ideal.nD).tc : Thread Cert.Reference6Ideal.nD Cert.Reference6Ideal.τ).loc Cert.Reference6Ideal.main_arg2)) (m' (((0 : Dev Cert.Reference6Ideal.nD).tc : Thread Cert.Reference6Ideal.nD Cert.Reference6Ideal.τ).loc Cert.Reference6Ideal.main_arg3))).2.1 i = 1#1 → r.2.mem ((c.tc : Thread Cert.Kernel6Ideal.nD Cert.Kernel6Ideal.τ).loc Cert.Kernel6Ideal.main_v1_1) i = v1 i)
          ∧ (∀ i : (⟨3, ![8, 256, 2048]⟩ : Shape).Idx, (Cert.On_own_order.fn (F := Ideal) (m' (((0 : Dev Cert.Reference6Ideal.nD).tc : Thread Cert.Reference6Ideal.nD Cert.Reference6Ideal.τ).loc Cert.Reference6Ideal.main_arg0)) (m' (((0 : Dev Cert.Reference6Ideal.nD).tc : Thread Cert.Reference6Ideal.nD Cert.Reference6Ideal.τ).loc Cert.Reference6Ideal.main_arg1)) (m' (((0 : Dev Cert.Reference6Ideal.nD).tc : Thread Cert.Reference6Ideal.nD Cert.Reference6Ideal.τ).loc Cert.Reference6Ideal.main_arg2)) (m' (((0 : Dev Cert.Reference6Ideal.nD).tc : Thread Cert.Reference6Ideal.nD Cert.Reference6Ideal.τ).loc Cert.Reference6Ideal.main_arg3))).2.2 i = 1#1 → r.2.mem ((c.tc : Thread Cert.Kernel6Ideal.nD Cert.Kernel6Ideal.τ).loc Cert.Kernel6Ideal.main_v1_2) i = v2 i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r =>
          (∀ i : (⟨2, ![65536, 8192]⟩ : Shape).Idx, (Cert.On_own_order.fn (F := Ideal) (m' (((0 : Dev Cert.Reference6Ideal.nD).tc : Thread Cert.Reference6Ideal.nD Cert.Reference6Ideal.τ).loc Cert.Reference6Ideal.main_arg0)) (m' (((0 : Dev Cert.Reference6Ideal.nD).tc : Thread Cert.Reference6Ideal.nD Cert.Reference6Ideal.τ).loc Cert.Reference6Ideal.main_arg1)) (m' (((0 : Dev Cert.Reference6Ideal.nD).tc : Thread Cert.Reference6Ideal.nD Cert.Reference6Ideal.τ).loc Cert.Reference6Ideal.main_arg2)) (m' (((0 : Dev Cert.Reference6Ideal.nD).tc : Thread Cert.Reference6Ideal.nD Cert.Reference6Ideal.τ).loc Cert.Reference6Ideal.main_arg3))).1 i = 1#1 → r.2.mem (((0 : Dev Cert.Reference6Ideal.nD).tc : Thread Cert.Reference6Ideal.nD Cert.Reference6Ideal.τ).loc Cert.Reference6Ideal.main_v0) i = v0 i)
          ∧ (∀ i : (⟨3, ![8, 2048, 1024]⟩ : Shape).Idx, (Cert.On_own_order.fn (F := Ideal) (m' (((0 : Dev Cert.Reference6Ideal.nD).tc : Thread Cert.Reference6Ideal.nD Cert.Reference6Ideal.τ).loc Cert.Reference6Ideal.main_arg0)) (m' (((0 : Dev Cert.Reference6Ideal.nD).tc : Thread Cert.Reference6Ideal.nD Cert.Reference6Ideal.τ).loc Cert.Reference6Ideal.main_arg1)) (m' (((0 : Dev Cert.Reference6Ideal.nD).tc : Thread Cert.Reference6Ideal.nD Cert.Reference6Ideal.τ).loc Cert.Reference6Ideal.main_arg2)) (m' (((0 : Dev Cert.Reference6Ideal.nD).tc : Thread Cert.Reference6Ideal.nD Cert.Reference6Ideal.τ).loc Cert.Reference6Ideal.main_arg3))).2.1 i = 1#1 → r.2.mem (((0 : Dev Cert.Reference6Ideal.nD).tc : Thread Cert.Reference6Ideal.nD Cert.Reference6Ideal.τ).loc Cert.Reference6Ideal.main_v2) i = v1 i)
          ∧ (∀ i : (⟨3, ![8, 256, 2048]⟩ : Shape).Idx, (Cert.On_own_order.fn (F := Ideal) (m' (((0 : Dev Cert.Reference6Ideal.nD).tc : Thread Cert.Reference6Ideal.nD Cert.Reference6Ideal.τ).loc Cert.Reference6Ideal.main_arg0)) (m' (((0 : Dev Cert.Reference6Ideal.nD).tc : Thread Cert.Reference6Ideal.nD Cert.Reference6Ideal.τ).loc Cert.Reference6Ideal.main_arg1)) (m' (((0 : Dev Cert.Reference6Ideal.nD).tc : Thread Cert.Reference6Ideal.nD Cert.Reference6Ideal.τ).loc Cert.Reference6Ideal.main_arg2)) (m' (((0 : Dev Cert.Reference6Ideal.nD).tc : Thread Cert.Reference6Ideal.nD Cert.Reference6Ideal.τ).loc Cert.Reference6Ideal.main_arg3))).2.2 i = 1#1 → r.2.mem (((0 : Dev Cert.Reference6Ideal.nD).tc : Thread Cert.Reference6Ideal.nD Cert.Reference6Ideal.τ).loc Cert.Reference6Ideal.main_v3) i = v2 i)
          ∧ r.2.mem (((0 : Dev Cert.Reference6Ideal.nD).tc : Thread Cert.Reference6Ideal.nD Cert.Reference6Ideal.τ).loc Cert.Reference6Ideal.main_arg0) = m' (((0 : Dev Cert.Reference6Ideal.nD).tc : Thread Cert.Reference6Ideal.nD Cert.Reference6Ideal.τ).loc Cert.Reference6Ideal.main_arg0)
          ∧ r.2.mem (((0 : Dev Cert.Reference6Ideal.nD).tc : Thread Cert.Reference6Ideal.nD Cert.Reference6Ideal.τ).loc Cert.Reference6Ideal.main_arg1) = m' (((0 : Dev Cert.Reference6Ideal.nD).tc : Thread Cert.Reference6Ideal.nD Cert.Reference6Ideal.τ).loc Cert.Reference6Ideal.main_arg1)
          ∧ r.2.mem (((0 : Dev Cert.Reference6Ideal.nD).tc : Thread Cert.Reference6Ideal.nD Cert.Reference6Ideal.τ).loc Cert.Reference6Ideal.main_arg2) = m' (((0 : Dev Cert.Reference6Ideal.nD).tc : Thread Cert.Reference6Ideal.nD Cert.Reference6Ideal.τ).loc Cert.Reference6Ideal.main_arg2)
          ∧ r.2.mem (((0 : Dev Cert.Reference6Ideal.nD).tc : Thread Cert.Reference6Ideal.nD Cert.Reference6Ideal.τ).loc Cert.Reference6Ideal.main_arg3) = m' (((0 : Dev Cert.Reference6Ideal.nD).tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_names_blocks_Kernel6 : Cert.Pre_names_blocks_Kernel6.Facts) (hPre_names_blocks_Reference6Ideal : Cert.Pre_names_blocks_Reference6Ideal.Facts) (hOn_own_order : Cert.On_own_order.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_names_blocks_Kernel6 := hPre_names_blocks_Kernel6)
    ∧ quiescent_Kernel6Ideal (hKernel6Ideal := hKernel6Ideal) (hPre_names_blocks_Kernel6 := hPre_names_blocks_Kernel6)
    ∧ quiescent_Reference6Ideal (hReference6Ideal := hReference6Ideal)
    ∧ quiescent_Reference6Ideal_pre_names_blocks_Reference6Ideal (hReference6Ideal := hReference6Ideal) (hPre_names_blocks_Reference6Ideal := hPre_names_blocks_Reference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_own_order (hKernel6Ideal := hKernel6Ideal) (hReference6Ideal := hReference6Ideal) (hPre_names_blocks_Kernel6 := hPre_names_blocks_Kernel6) (hOn_own_order := hOn_own_order)
-- ==== On_own_order.lean ====
abbrev S64 : Shape := ⟨1, ![64]⟩
abbrev S65536x2048 : Shape := ⟨2, ![65536, 2048]⟩
abbrev S2048x8192 : Shape := ⟨2, ![2048, 8192]⟩
abbrev S2048x2048 : Shape := ⟨2, ![2048, 2048]⟩
abbrev S8x8 : Shape := ⟨2, ![8, 8]⟩
abbrev S8x1 : Shape := ⟨2, ![8, 1]⟩
abbrev S8 : Shape := ⟨1, ![8]⟩
abbrev S8x8192x8192 : Shape := ⟨3, ![8, 8192, 8192]⟩
abbrev S65536x8192 : Shape := ⟨2, ![65536, 8192]⟩
abbrev S_ : Shape := ⟨0, ![]⟩
abbrev S8x2048x1024 : Shape := ⟨3, ![8, 2048, 1024]⟩
abbrev S8x256x2048 : Shape := ⟨3, ![8, 256, 2048]⟩

class Facts : Prop where
  shapeCasts_S64_S8x8 : S64.ShapeCasts S8x8
  slices_S8x8_S8x1_0_0 : S8x8.Slices ![0, 0] S8x1
  shapeCasts_S8x1_S8 : S8x1.ShapeCasts S8
  slices_S8x8_S8x1_0_1 : S8x8.Slices ![0, 1] S8x1
  slices_S8x8_S8x1_0_2 : S8x8.Slices ![0, 2] S8x1
  slices_S8x8_S8x1_0_3 : S8x8.Slices ![0, 3] S8x1
  slices_S8x8_S8x1_0_4 : S8x8.Slices ![0, 4] S8x1
  slices_S8x8_S8x1_0_5 : S8x8.Slices ![0, 5] S8x1
  slices_S8x8_S8x1_0_6 : S8x8.Slices ![0, 6] S8x1
  slices_S8x8_S8x1_0_7 : S8x8.Slices ![0, 7] S8x1
  bcast_S8_S8x8192x8192_0 : S8.BroadcastsInDim S8x8192x8192 (![0] : Fin 1 → Fin S8x8192x8192.rank)
  shapeCasts_S8x8192x8192_S65536x8192 : S8x8192x8192.ShapeCasts S65536x8192
  bcast_S_S8x2048x1024 : S_.BroadcastsInDim S8x2048x1024 (![] : Fin 0 → Fin S8x2048x1024.rank)
  bcast_S_S8x256x2048 : S_.BroadcastsInDim S8x256x2048 (![] : Fin 0 → Fin S8x256x2048.rank)

variable [Facts]

noncomputable abbrev lit0 : Fin 64 → BitVec 32 := fun
  | 0 => 0#32 | 1 => 1#32 | 2 => 4#32 | 3 => 5#32 | 4 => 2#32 | 5 => 3#32 | 6 => 6#32 | 7 => 7#32
  | 8 => 1#32 | 9 => 0#32 | 10 => 5#32 | 11 => 4#32 | 12 => 3#32 | 13 => 2#32 | 14 => 7#32 | 15 => 6#32
  | 16 => 2#32 | 17 => 3#32 | 18 => 6#32 | 19 => 7#32 | 20 => 0#32 | 21 => 1#32 | 22 => 4#32 | 23 => 5#32
  | 24 => 3#32 | 25 => 2#32 | 26 => 7#32 | 27 => 6#32 | 28 => 1#32 | 29 => 0#32 | 30 => 5#32 | 31 => 4#32
  | 32 => 4#32 | 33 => 5#32 | 34 => 0#32 | 35 => 1#32 | 36 => 6#32 | 37 => 7#32 | 38 => 2#32 | 39 => 3#32
  | 40 => 5#32 | 41 => 4#32 | 42 => 1#32 | 43 => 0#32 | 44 => 7#32 | 45 => 6#32 | 46 => 3#32 | 47 => 2#32
  | 48 => 6#32 | 49 => 7#32 | 50 => 2#32 | 51 => 3#32 | 52 => 4#32 | 53 => 5#32 | 54 => 0#32 | 55 => 1#32
  | 56 => 7#32 | 57 => 6#32 | 58 => 3#32 | 59 => 2#32 | 60 => 5#32 | 61 => 4#32 | 62 => 1#32 | 63 => 0#32
  | _ => 0#32

def fn_part1 {F : FTy → Type} [FloatOps F] (main_v21 : IVec S8 1) (main_v22 : IVec S8x1 1) : IVec S65536x8192 1 × IVec S8x2048x1024 1 × IVec S8x256x2048 1 :=
  let main_v23 : IVec S8 1 := shapeCast S8 main_v22 shapeCasts_S8x1_S8
  let main_v24 : IVec S8 1 := andi main_v21 main_v23
  let main_v25 : IVec S8x8192x8192 1 := broadcastInDim S8x8192x8192 ![0] bcast_S8_S8x8192x8192_0 main_v24
  let main_v26 : IVec S65536x8192 1 := shapeCast S65536x8192 main_v25 shapeCasts_S8x8192x8192_S65536x8192
  let main_c_0 : IVec S_ 1 := constantI S_ 1 1#1
  let main_v27 : IVec S8x2048x1024 1 := broadcastInDim S8x2048x1024 ![] bcast_S_S8x2048x1024 main_c_0
  let main_c_1 : IVec S_ 1 := constantI S_ 1 1#1
  let main_v28 : IVec S8x256x2048 1 := broadcastInDim S8x256x2048 ![] bcast_S_S8x256x2048 main_c_1
  (main_v26, main_v27, main_v28)

def fn {F : FTy → Type} [FloatOps F] (main_arg0 : IVec S64 32) (main_arg1 : FVec F S65536x2048 .bf16) (main_arg2 : FVec F S2048x8192 .bf16) (main_arg3 : FVec F S2048x2048 .bf16) : IVec S65536x8192 1 × IVec S8x2048x1024 1 × IVec S8x256x2048 1 :=
  let main_c : IVec S8x8 32 := fun i => lit0 (S8x8.rowMajor i)
  let main_v0 : IVec S8x8 32 := shapeCast S8x8 main_arg0 shapeCasts_S64_S8x8
  let main_v1 : IVec S8x8 1 := cmpi .eq main_v0 main_c
  let main_v2 : IVec S8x1 1 := (extractStridedSlice S8x1 ![0, 0] · slices_S8x8_S8x1_0_0) main_v1
  let main_v3 : IVec S8 1 := shapeCast S8 main_v2 shapeCasts_S8x1_S8
  let main_v4 : IVec S8x1 1 := (extractStridedSlice S8x1 ![0, 1] · slices_S8x8_S8x1_0_1) main_v1
  let main_v5 : IVec S8 1 := shapeCast S8 main_v4 shapeCasts_S8x1_S8
  let main_v6 : IVec S8 1 := andi main_v3 main_v5
  let main_v7 : IVec S8x1 1 := (extractStridedSlice S8x1 ![0, 2] · slices_S8x8_S8x1_0_2) main_v1
  let main_v8 : IVec S8 1 := shapeCast S8 main_v7 shapeCasts_S8x1_S8
  let main_v9 : IVec S8 1 := andi main_v6 main_v8
  let main_v10 : IVec S8x1 1 := (extractStridedSlice S8x1 ![0, 3] · slices_S8x8_S8x1_0_3) main_v1
  let main_v11 : IVec S8 1 := shapeCast S8 main_v10 shapeCasts_S8x1_S8
  let main_v12 : IVec S8 1 := andi main_v9 main_v11
  let main_v13 : IVec S8x1 1 := (extractStridedSlice S8x1 ![0, 4] · slices_S8x8_S8x1_0_4) main_v1
  let main_v14 : IVec S8 1 := shapeCast S8 main_v13 shapeCasts_S8x1_S8
  let main_v15 : IVec S8 1 := andi main_v12 main_v14
  let main_v16 : IVec S8x1 1 := (extractStridedSlice S8x1 ![0, 5] · slices_S8x8_S8x1_0_5) main_v1
  let main_v17 : IVec S8 1 := shapeCast S8 main_v16 shapeCasts_S8x1_S8
  let main_v18 : IVec S8 1 := andi main_v15 main_v17
  let main_v19 : IVec S8x1 1 := (extractStridedSlice S8x1 ![0, 6] · slices_S8x8_S8x1_0_6) main_v1
  let main_v20 : IVec S8 1 := shapeCast S8 main_v19 shapeCasts_S8x1_S8
  let main_v21 : IVec S8 1 := andi main_v18 main_v20
  let main_v22 : IVec S8x1 1 := (extractStridedSlice S8x1 ![0, 7] · slices_S8x8_S8x1_0_7) main_v1
  fn_part1 (F := F) main_v21 main_v22
-- ==== Pre_names_blocks_Kernel6.lean ====
abbrev S8 : Shape := ⟨1, ![8]⟩
abbrev S8192x2048 : Shape := ⟨2, ![8192, 2048]⟩
abbrev S2048x1024 : Shape := ⟨2, ![2048, 1024]⟩
abbrev S256x2048 : Shape := ⟨2, ![256, 2048]⟩
abbrev S_ : Shape := ⟨0, ![]⟩

class Facts : Prop where
  bcast_S_S8 : S_.BroadcastsInDim S8 (![] : Fin 0 → Fin S8.rank)

variable [Facts]

def fn {F : FTy → Type} [FloatOps F] (main_arg0 : IVec S8 32) (main_arg1 : FVec F S8192x2048 .bf16) (main_arg2 : FVec F S2048x1024 .bf16) (main_arg3 : FVec F S256x2048 .bf16) : IVec S8 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 8#32
  let main_v2 : IVec S8 32 := broadcastInDim S8 ![] bcast_S_S8 main_c_0
  let main_v3 : IVec S8 1 := cmpi .slt main_arg0 main_v2
  let main_v4 : IVec S8 1 := andi main_v1 main_v3
  main_v4
-- ==== Pre_names_blocks_Reference6Ideal.lean ====
abbrev S64 : Shape := ⟨1, ![64]⟩
abbrev S65536x2048 : Shape := ⟨2, ![65536, 2048]⟩
abbrev S2048x8192 : Shape := ⟨2, ![2048, 8192]⟩
abbrev S2048x2048 : Shape := ⟨2, ![2048, 2048]⟩
abbrev S_ : Shape := ⟨0, ![]⟩

class Facts : Prop where
  bcast_S_S64 : S_.BroadcastsInDim S64 (![] : Fin 0 → Fin S64.rank)

variable [Facts]

def fn {F : FTy → Type} [FloatOps F] (main_arg0 : IVec S64 32) (main_arg1 : FVec F S65536x2048 .bf16) (main_arg2 : FVec F S2048x8192 .bf16) (main_arg3 : FVec F S2048x2048 .bf16) : IVec S64 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 32 := constantI S_ 32 8#32
  let main_v2 : IVec S64 32 := broadcastInDim S64 ![] bcast_S_S64 main_c_0
  let main_v3 : IVec S64 1 := cmpi .slt main_arg0 main_v2
  let main_v4 : IVec S64 1 := andi main_v1 main_v3
  main_v4
-- ==== Kernel.lean ====
abbrev S8192x2048 : Shape := ⟨2, ![8192, 2048]⟩
abbrev S8192x1024 : Shape := ⟨2, ![8192, 1024]⟩
abbrev S2048x2048 : Shape := ⟨2, ![2048, 2048]⟩
abbrev S1x2048 : Shape := ⟨2, ![1, 2048]⟩
abbrev S512x2048 : Shape := ⟨2, ![512, 2048]⟩
abbrev S512x1024 : Shape := ⟨2, ![512, 1024]⟩
abbrev S256x2048 : Shape := ⟨2, ![256, 2048]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S1x2048, .f32⟩
  | .hbm, ⟨10, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x2048 : Shape := ⟨2, ![8192, 2048]⟩
abbrev S8192x1024 : Shape := ⟨2, ![8192, 1024]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S1x2048, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S_, .f32⟩
  | .hbm, ⟨40, _⟩ => ⟨S1x2048, .f32⟩
  | .hbm, ⟨41, _⟩ => ⟨S1x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S_, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x2048, .f32⟩
  | .hbm, ⟨68, _⟩ => ⟨S8192x2048, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel2.lean ====
abbrev S4x8192x1024 : Shape := ⟨3, ![4, 8192, 1024]⟩
abbrev S8x2048x1024 : Shape := ⟨3, ![8, 2048, 1024]⟩
abbrev S8192x2048 : Shape := ⟨2, ![8192, 2048]⟩
abbrev S1x2048 : Shape := ⟨2, ![1, 2048]⟩
abbrev S1x1024x1024 : Shape := ⟨3, ![1, 1024, 1024]⟩
abbrev S1x2048x1024 : Shape := ⟨3, ![1, 2048, 1024]⟩
abbrev S1024x2048 : Shape := ⟨2, ![1024, 2048]⟩
abbrev S3 : Shape := ⟨1, ![3]⟩
abbrev S1 : Shape := ⟨1, ![1]⟩
abbrev S_ : Shape := ⟨0, ![]⟩
abbrev S1024x1024 : Shape := ⟨2, ![1024, 1024]⟩
abbrev S2048x1024 : Shape := ⟨2, ![2048, 1024]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 8
  | .vmem => 11
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S8x2048x1024, .bf16⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S1x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg0 : BitVec 32 := BitVec.ofNat 32 (i 0).val
  let c1024_i32_0 : BitVec 32 := 1024#32
  let v2 : BitVec 32 := Scalar.muli arg0 c1024_i32_0
  v2
def k0_cond2 (i : grid0.Coords) : BitVec 1 :=
  let arg1 : BitVec 32 := BitVec.ofNat 32 (i 1).val
  let c2_i32 : BitVec 32 := 2#32
  let v9 : BitVec 1 := Scalar.cmpi .eq arg1 c2_i32
  let arg0 : BitVec 32 := BitVec.ofNat 32 (i 0).val
  let c0_i32_3 : BitVec 32 := 0#32
  let v10 : BitVec 1 := Scalar.cmpi .sgt arg0 c0_i32_3
  let v11 : BitVec 1 := Scalar.andi v9 v10
  let v12 : BitVec 32 := Scalar.extui v11
  let c0_i32_4 : BitVec 32 := 0#32
  let v13 : BitVec 1 := Scalar.cmpi .ne v12 c0_i32_4
  v13

def k0_mult3 (i : grid0.Coords) : BitVec 32 :=
  let arg0 : BitVec 32 := BitVec.ofNat 32 (i 0).val
  let c1024_i32_22 : BitVec 32 := 1024#32
  let v35 : BitVec 32 := Scalar.muli arg0 c1024_i32_22
  v35
def k0_off1 (i : grid0.Coords) : Fin 2 → Nat :=
  let arg0 : BitVec 32 := BitVec.ofNat 32 (i 0).val
  let c1024_i32_22 : BitVec 32 := 1024#32
  let v35 : BitVec 32 := Scalar.muli arg0 c1024_i32_22
  let v36 : BitVec 32 := v35
  let c0_i32_24 : BitVec 32 := 0#32
  ![v36.toNat, 0]
def k0_cond3 (i : grid0.Coords) : BitVec 1 :=
  let arg1 : BitVec 32 := BitVec.ofNat 32 (i 1).val
  let c2_i32_5 : BitVec 32 := 2#32
  let v14 : BitVec 1 := Scalar.cmpi .eq arg1 c2_i32_5
  let v15 : BitVec 32 := Scalar.extui v14
  let c0_i32_7 : BitVec 32 := 0#32
  let v16 : BitVec 1 := Scalar.cmpi .ne v15 c0_i32_7
  v16

def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_22 : BitVec 32 := 0#32
  ![v1.toNat, 0]
def k0_cond5 (i : grid0.Coords) : BitVec 1 :=
  let arg1 : BitVec 32 := BitVec.ofNat 32 (i 1).val
  let c0_i32_11 : BitVec 32 := 0#32
  let v22 : BitVec 1 := Scalar.cmpi .eq arg1 c0_i32_11
  let arg0 : BitVec 32 := BitVec.ofNat 32 (i 0).val
  let c0_i32_12 : BitVec 32 := 0#32
  let v23 : BitVec 1 := Scalar.cmpi .sgt arg0 c0_i32_12
  let v24 : BitVec 1 := Scalar.andi v22 v23
  let v25 : BitVec 32 := Scalar.extui v24
  let c0_i32_15 : BitVec 32 := 0#32
  let v26 : BitVec 1 := Scalar.cmpi .ne v25 c0_i32_15
  v26

def k0_off3 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_23 : BitVec 32 := 0#32
  ![v1.toNat, 0]
def k0_mult4 (i : grid0.Coords) : BitVec 32 :=
  let arg0 : BitVec 32 := BitVec.ofNat 32 (i 0).val
  let c1_i32_22 : BitVec 32 := 1#32
  let v35 : BitVec 32 := Scalar.subi arg0 c1_i32_22
  let c1024_i32_162 : BitVec 32 := 1024#32
  let v331 : BitVec 32 := Scalar.muli v35 c1024_i32_162
  v331
def k0_off4 (i : grid0.Coords) : Fin 2 → Nat :=
  let arg0 : BitVec 32 := BitVec.ofNat 32 (i 0).val
  let c1_i32_22 : BitVec 32 := 1#32
  let v35 : BitVec 32 := Scalar.subi arg0 c1_i32_22
  let c1024_i32_162 : BitVec 32 := 1024#32
  let v331 : BitVec 32 := Scalar.muli v35 c1024_i32_162
  let v332 : BitVec 32 := v331
  let c0_i32_164 : BitVec 32 := 0#32
  ![v332.toNat, 0]
def k0_cond9 (i : grid0.Coords) : BitVec 1 :=
  let arg1 : BitVec 32 := BitVec.ofNat 32 (i 1).val
  let c7_i32 : BitVec 32 := 7#32
  let v30 : BitVec 1 := Scalar.cmpi .eq arg1 c7_i32
  let arg0 : BitVec 32 := BitVec.ofNat 32 (i 0).val
  let c7_i32_18 : BitVec 32 := 7#32
  let v31 : BitVec 1 := Scalar.cmpi .eq arg0 c7_i32_18
  let v32 : BitVec 1 := Scalar.andi v30 v31
  let v33 : BitVec 32 := Scalar.extui v32
  let c0_i32_21 : BitVec 32 := 0#32
  let v34 : BitVec 1 := Scalar.cmpi .ne v33 c0_i32_21
  v34

def k0_off5 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let c0_i32_22 : BitVec 32 := 0#32
  ![v1.toNat, 0]
def k0_mult5 (i : grid0.Coords) : BitVec 32 :=
  let arg0 : BitVec 32 := BitVec.ofNat 32 (i 0).val
  let c1024_i32_161 : BitVec 32 := 1024#32
  let v330 : BitVec 32 := Scalar.muli arg0 c1024_i32_161
  v330
def k0_mult6 (i : grid0.Coords) : BitVec 32 :=
  let arg0 : BitVec 32 := BitVec.ofNat 32 (i 0).val
  let c1024_i32_164 : BitVec 32 := 1024#32
  let v335 : BitVec 32 := Scalar.muli arg0 c1024_i32_164
  v335
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_1 : BitVec 32 := 0#32
  let v5 : BitVec 1 := Scalar.cmpi .eq arg1 c0_i32_1
  let v6 : BitVec 1 := Scalar.andi v4 v5
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![v2.toNat, arg0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference2Ideal.lean ====
abbrev S4x8192x1024 : Shape := ⟨3, ![4, 8192, 1024]⟩
abbrev S8x2048x1024 : Shape := ⟨3, ![8, 2048, 1024]⟩
abbrev S8192x2048 : Shape := ⟨2, ![8192, 2048]⟩
abbrev S1x2048 : Shape := ⟨2, ![1, 2048]⟩
abbrev S8x8192x1024 : Shape := ⟨3, ![8, 8192, 1024]⟩
abbrev S_ : Shape := ⟨0, ![]⟩
abbrev S8192 : Shape := ⟨1, ![8192]⟩
abbrev S8192x1 : Shape := ⟨2, ![8192, 1]⟩
abbrev S8x1024x8192 : Shape := ⟨3, ![8, 1024, 8192]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S8x2048x1024, .bf16⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8x8192x1024, .bf16⟩
  | .hbm, ⟨7, _⟩ => ⟨S8x8192x1024, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8x2048x1024, .f32⟩
  | .hbm, ⟨28, _⟩ => ⟨S8x1024x8192, .f32⟩
  | .hbm, ⟨29, _⟩ => ⟨S8x8192x1024, .f32⟩
  | .hbm, ⟨30, _⟩ => ⟨S8x1024x8192, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S2048x1024 : Shape := ⟨2, ![2048, 1024]⟩
abbrev S3x2048x1024 : Shape := ⟨3, ![3, 2048, 1024]⟩
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel3Ideal.lean ====
abbrev S2048x1024 : Shape := ⟨2, ![2048, 1024]⟩
abbrev S3x2048x1024 : Shape := ⟨3, ![3, 2048, 1024]⟩
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2048x1024 : Shape := ⟨2, ![2048, 1024]⟩
abbrev S3x2048x1024 : Shape := ⟨3, ![3, 2048, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S3x2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel4.lean ====
abbrev S256x2048 : Shape := ⟨2, ![256, 2048]⟩
abbrev S3x256x2048 : Shape := ⟨3, ![3, 256, 2048]⟩
abbrev S1x256x2048 : Shape := ⟨3, ![1, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S3x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference4Ideal.lean ====
abbrev S256x2048 : Shape := ⟨2, ![256, 2048]⟩
abbrev S3x256x2048 : Shape := ⟨3, ![3, 256, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S3x256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S_, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel5.lean ====
abbrev S8 : Shape := ⟨1, ![8]⟩
abbrev S8192x2048 : Shape := ⟨2, ![8192, 2048]⟩
abbrev S4x8192x1024 : Shape := ⟨3, ![4, 8192, 1024]⟩
abbrev S2048x1024 : Shape := ⟨2, ![2048, 1024]⟩
abbrev S4x2048x1024 : Shape := ⟨3, ![4, 2048, 1024]⟩
abbrev S3x2048x1024 : Shape := ⟨3, ![3, 2048, 1024]⟩
abbrev S1x1024x1024 : Shape := ⟨3, ![1, 1024, 1024]⟩
abbrev S1 : Shape := ⟨1, ![1]⟩
abbrev S1024x2048 : Shape := ⟨2, ![1024, 2048]⟩
abbrev S2x2048x1024 : Shape := ⟨3, ![2, 2048, 1024]⟩
abbrev S4 : Shape := ⟨1, ![4]⟩
abbrev S3 : Shape := ⟨1, ![3]⟩
abbrev S_ : Shape := ⟨0, ![]⟩
abbrev S1024x1024 : Shape := ⟨2, ![1024, 1024]⟩
abbrev S1x2048x1024 : Shape := ⟨3, ![1, 2048, 1024]⟩

abbrev nBuf : Space → Nat
  | .hbm => 6
  | .vmem => 9
  | .smem => 1
  | _ => 0

abbrev bufTy : (tb : Table) → Fin (tcTables nBuf tb) → BufTy
  | .hbm, ⟨0, _⟩ => ⟨S8192x2048, .bf16⟩
  | .hbm, ⟨1, _⟩ => ⟨S4x8192x1024, .bf16⟩
  | .hbm, ⟨2, _⟩ => ⟨S4x8192x1024, .bf16⟩
  | .hbm, ⟨3, _⟩ => ⟨S2048x1024, .f32⟩
  | .hbm, ⟨4, _⟩ => ⟨S4x2048x1024, .bf16⟩
  | .hbm, ⟨5, _⟩ => ⟨S3x2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .f32⟩
  | .local _ .vmem, ⟨7, _⟩ => ⟨S2x2048x1024, .bf16⟩
  | .local _ .vmem, ⟨8, _⟩ => ⟨S2048x1024, .bf16⟩
  | .local _ .smem, ⟨0, _⟩ => ⟨S8, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨2, ![8, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg1 : BitVec 32 := BitVec.ofNat 32 (i 1).val
  let c7_i32 : BitVec 32 := 7#32
  let v20 : BitVec 1 := Scalar.cmpi .eq arg1 c7_i32
  let arg0 : BitVec 32 := BitVec.ofNat 32 (i 0).val
  let c0_i32_8 : BitVec 32 := 0#32
  let v21 : BitVec 1 := Scalar.cmpi .eq arg0 c0_i32_8
  let v22 : BitVec 1 := Scalar.andi v20 v21
  let v23 : BitVec 32 := Scalar.extui v22
  let c0_i32_9 : BitVec 32 := 0#32
  let v24 : BitVec 1 := Scalar.cmpi .ne v23 c0_i32_9
  v24

def k0_dev1 (d11 : Dev nD) : Nat :=
  let c0_i32_51 : BitVec 32 := 0#32
  let v11 : BitVec 32 := Dev.word d11
  let c4_i32_4 : BitVec 32 := 4#32
  let v12 : BitVec 32 := Scalar.divsi v11 c4_i32_4
  let c2_i32 : BitVec 32 := 2#32
  let v13 : BitVec 32 := Scalar.remsi v12 c2_i32
  let c4_i32_50 : BitVec 32 := 4#32
  let v79 : BitVec 32 := Scalar.muli v13 c4_i32_50
  let v80 : BitVec 32 := Scalar.addi c0_i32_51 v79
  let v14 : BitVec 32 := Dev.word d11
  let c2_i32_6 : BitVec 32 := 2#32
  let v15 : BitVec 32 := Scalar.divsi v14 c2_i32_6
  let c2_i32_5 : BitVec 32 := 2#32
  let v16 : BitVec 32 := Scalar.remsi v15 c2_i32_5
  let c2_i32_52 : BitVec 32 := 2#32
  let v81 : BitVec 32 := Scalar.muli v16 c2_i32_52
  let v82 : BitVec 32 := Scalar.addi v80 v81
  let c1_i32_45 : BitVec 32 := 1#32
  let v17 : BitVec 32 := Dev.word d11
  let c1_i32 : BitVec 32 := 1#32
  let v18 : BitVec 32 := Scalar.divsi v17 c1_i32
  let c2_i32_7 : BitVec 32 := 2#32
  let v19 : BitVec 32 := Scalar.remsi v18 c2_i32_7
  let v78 : BitVec 32 := Scalar.subi c1_i32_45 v19
  let c1_i32_53 : BitVec 32 := 1#32
  let v83 : BitVec 32 := Scalar.muli v78 c1_i32_53
  let v84 : BitVec 32 := Scalar.addi v82 v83
  v84.toNat
def k0_cond6 (i : grid0.Coords) : BitVec 1 :=
  let arg1 : BitVec 32 := BitVec.ofNat 32 (i 1).val
  let c7_i32 : BitVec 32 := 7#32
  let v20 : BitVec 1 := Scalar.cmpi .eq arg1 c7_i32
  let arg0 : BitVec 32 := BitVec.ofNat 32 (i 0).val
  let c1_i32_14 : BitVec 32 := 1#32
  let v30 : BitVec 1 := Scalar.cmpi .eq arg0 c1_i32_14
  let v31 : BitVec 1 := Scalar.andi v20 v30
  let v32 : BitVec 32 := Scalar.extui v31
  let c0_i32_16 : BitVec 32 := 0#32
  let v33 : BitVec 1 := Scalar.cmpi .ne v32 c0_i32_16
  v33

def k0_dev2 (d11 : Dev nD) : Nat :=
  let c0_i32_60 : BitVec 32 := 0#32
  let v11 : BitVec 32 := Dev.word d11
  let c4_i32_4 : BitVec 32 := 4#32
  let v12 : BitVec 32 := Scalar.divsi v11 c4_i32_4
  let c2_i32 : BitVec 32 := 2#32
  let v13 : BitVec 32 := Scalar.remsi v12 c2_i32
  let c1_i32_52 : BitVec 32 := 1#32
  let v87 : BitVec 32 := Scalar.xori v13 c1_i32_52
  let c4_i32_59 : BitVec 32 := 4#32
  let v90 : BitVec 32 := Scalar.muli v87 c4_i32_59
  let v91 : BitVec 32 := Scalar.addi c0_i32_60 v90
  let v14 : BitVec 32 := Dev.word d11
  let c2_i32_6 : BitVec 32 := 2#32
  let v15 : BitVec 32 := Scalar.divsi v14 c2_i32_6
  let c2_i32_5 : BitVec 32 := 2#32
  let v16 : BitVec 32 := Scalar.remsi v15 c2_i32_5
  let c1_i32_53 : BitVec 32 := 1#32
  let v88 : BitVec 32 := Scalar.xori v16 c1_i32_53
  let c2_i32_61 : BitVec 32 := 2#32
  let v92 : BitVec 32 := Scalar.muli v88 c2_i32_61
  let v93 : BitVec 32 := Scalar.addi v91 v92
  let v17 : BitVec 32 := Dev.word d11
  let c1_i32 : BitVec 32 := 1#32
  let v18 : BitVec 32 := Scalar.divsi v17 c1_i32
  let c2_i32_7 : BitVec 32 := 2#32
  let v19 : BitVec 32 := Scalar.remsi v18 c2_i32_7
  let c0_i32_54 : BitVec 32 := 0#32
  let v89 : BitVec 32 := Scalar.xori v19 c0_i32_54
  let c1_i32_62 : BitVec 32 := 1#32
  let v94 : BitVec 32 := Scalar.muli v89 c1_i32_62
  let v95 : BitVec 32 := Scalar.addi v93 v94
  v95.toNat
def k0_cond7 (i : grid0.Coords) : BitVec 1 :=
  let arg1 : BitVec 32 := BitVec.ofNat 32 (i 1).val
  let c7_i32 : BitVec 32 := 7#32
  let v20 : BitVec 1 := Scalar.cmpi .eq arg1 c7_i32
  let arg0 : BitVec 32 := BitVec.ofNat 32 (i 0).val
  let c2_i32_17 : BitVec 32 := 2#32
  let v34 : BitVec 1 := Scalar.cmpi .eq arg0 c2_i32_17
  let v35 : BitVec 1 := Scalar.andi v20 v34
  let v36 : BitVec 32 := Scalar.extui v35
  let c0_i32_18 : BitVec 32 := 0#32
  let v37 : BitVec 1 := Scalar.cmpi .ne v36 c0_i32_18
  v37

def k0_dev3 (d11 : Dev nD) : Nat :=
  let c0_i32_61 : BitVec 32 := 0#32
  let v11 : BitVec 32 := Dev.word d11
  let c4_i32_4 : BitVec 32 := 4#32
  let v12 : BitVec 32 := Scalar.divsi v11 c4_i32_4
  let c2_i32 : BitVec 32 := 2#32
  let v13 : BitVec 32 := Scalar.remsi v12 c2_i32
  let c4_i32_60 : BitVec 32 := 4#32
  let v86 : BitVec 32 := Scalar.muli v13 c4_i32_60
  let v87 : BitVec 32 := Scalar.addi c0_i32_61 v86
  let v14 : BitVec 32 := Dev.word d11
  let c2_i32_6 : BitVec 32 := 2#32
  let v15 : BitVec 32 := Scalar.divsi v14 c2_i32_6
  let c2_i32_5 : BitVec 32 := 2#32
  let v16 : BitVec 32 := Scalar.remsi v15 c2_i32_5
  let c2_i32_62 : BitVec 32 := 2#32
  let v88 : BitVec 32 := Scalar.muli v16 c2_i32_62
  let v89 : BitVec 32 := Scalar.addi v87 v88
  let c1_i32_55 : BitVec 32 := 1#32
  let v17 : BitVec 32 := Dev.word d11
  let c1_i32 : BitVec 32 := 1#32
  let v18 : BitVec 32 := Scalar.divsi v17 c1_i32
  let c2_i32_7 : BitVec 32 := 2#32
  let v19 : BitVec 32 := Scalar.remsi v18 c2_i32_7
  let v85 : BitVec 32 := Scalar.subi c1_i32_55 v19
  let c1_i32_63 : BitVec 32 := 1#32
  let v90 : BitVec 32 := Scalar.muli v85 c1_i32_63
  let v91 : BitVec 32 := Scalar.addi v89 v90
  v91.toNat
def k0_cond9 (i : grid0.Coords) : BitVec 1 :=
  let arg1 : BitVec 32 := BitVec.ofNat 32 (i 1).val
  let c7_i32 : BitVec 32 := 7#32
  let v20 : BitVec 1 := Scalar.cmpi .eq arg1 c7_i32
  let arg0 : BitVec 32 := BitVec.ofNat 32 (i 0).val
  let c3_i32_22 : BitVec 32 := 3#32
  let v43 : BitVec 1 := Scalar.cmpi .eq arg0 c3_i32_22
  let v44 : BitVec 1 := Scalar.andi v20 v43
  let v45 : BitVec 32 := Scalar.extui v44
  let c0_i32_24 : BitVec 32 := 0#32
  let v46 : BitVec 1 := Scalar.cmpi .ne v45 c0_i32_24
  v46

def k0_dev4 (d11 : Dev nD) : Nat :=
  let c0_i32_72 : BitVec 32 := 0#32
  let v11 : BitVec 32 := Dev.word d11
  let c4_i32_4 : BitVec 32 := 4#32
  let v12 : BitVec 32 := Scalar.divsi v11 c4_i32_4
  let c2_i32 : BitVec 32 := 2#32
  let v13 : BitVec 32 := Scalar.remsi v12 c2_i32
  let c1_i32_64 : BitVec 32 := 1#32
  let v96 : BitVec 32 := Scalar.xori v13 c1_i32_64
  let c4_i32_71 : BitVec 32 := 4#32
  let v99 : BitVec 32 := Scalar.muli v96 c4_i32_71
  let v100 : BitVec 32 := Scalar.addi c0_i32_72 v99
  let v14 : BitVec 32 := Dev.word d11
  let c2_i32_6 : BitVec 32 := 2#32
  let v15 : BitVec 32 := Scalar.divsi v14 c2_i32_6
  let c2_i32_5 : BitVec 32 := 2#32
  let v16 : BitVec 32 := Scalar.remsi v15 c2_i32_5
  let c0_i32_65 : BitVec 32 := 0#32
  let v97 : BitVec 32 := Scalar.xori v16 c0_i32_65
  let c2_i32_73 : BitVec 32 := 2#32
  let v101 : BitVec 32 := Scalar.muli v97 c2_i32_73
  let v102 : BitVec 32 := Scalar.addi v100 v101
  let v17 : BitVec 32 := Dev.word d11
  let c1_i32 : BitVec 32 := 1#32
  let v18 : BitVec 32 := Scalar.divsi v17 c1_i32
  let c2_i32_7 : BitVec 32 := 2#32
  let v19 : BitVec 32 := Scalar.remsi v18 c2_i32_7
  let c0_i32_66 : BitVec 32 := 0#32
  let v98 : BitVec 32 := Scalar.xori v19 c0_i32_66
  let c1_i32_74 : BitVec 32 := 1#32
  let v103 : BitVec 32 := Scalar.muli v98 c1_i32_74
  let v104 : BitVec 32 := Scalar.addi v102 v103
  v104.toNat
def k0_cond10 (i : grid0.Coords) : BitVec 1 :=
  let arg1 : BitVec 32 := BitVec.ofNat 32 (i 1).val
  let c7_i32 : BitVec 32 := 7#32
  let v20 : BitVec 1 := Scalar.cmpi .eq arg1 c7_i32
  let arg0 : BitVec 32 := BitVec.ofNat 32 (i 0).val
  let c4_i32_25 : BitVec 32 := 4#32
  let v47 : BitVec 1 := Scalar.cmpi .eq arg0 c4_i32_25
  let v48 : BitVec 1 := Scalar.andi v20 v47
  let v49 : BitVec 32 := Scalar.extui v48
  let c0_i32_26 : BitVec 32 := 0#32
  let v50 : BitVec 1 := Scalar.cmpi .ne v49 c0_i32_26
  v50

def k0_dev5 (d11 : Dev nD) : Nat :=
  let c0_i32_61 : BitVec 32 := 0#32
  let v11 : BitVec 32 := Dev.word d11
  let c4_i32_4 : BitVec 32 := 4#32
  let v12 : BitVec 32 := Scalar.divsi v11 c4_i32_4
  let c2_i32 : BitVec 32 := 2#32
  let v13 : BitVec 32 := Scalar.remsi v12 c2_i32
  let c4_i32_60 : BitVec 32 := 4#32
  let v86 : BitVec 32 := Scalar.muli v13 c4_i32_60
  let v87 : BitVec 32 := Scalar.addi c0_i32_61 v86
  let v14 : BitVec 32 := Dev.word d11
  let c2_i32_6 : BitVec 32 := 2#32
  let v15 : BitVec 32 := Scalar.divsi v14 c2_i32_6
  let c2_i32_5 : BitVec 32 := 2#32
  let v16 : BitVec 32 := Scalar.remsi v15 c2_i32_5
  let c2_i32_62 : BitVec 32 := 2#32
  let v88 : BitVec 32 := Scalar.muli v16 c2_i32_62
  let v89 : BitVec 32 := Scalar.addi v87 v88
  let c1_i32_55 : BitVec 32 := 1#32
  let v17 : BitVec 32 := Dev.word d11
  let c1_i32 : BitVec 32 := 1#32
  let v18 : BitVec 32 := Scalar.divsi v17 c1_i32
  let c2_i32_7 : BitVec 32 := 2#32
  let v19 : BitVec 32 := Scalar.remsi v18 c2_i32_7
  let v85 : BitVec 32 := Scalar.subi c1_i32_55 v19
  let c1_i32_63 : BitVec 32 := 1#32
  let v90 : BitVec 32 := Scalar.muli v85 c1_i32_63
  let v91 : BitVec 32 := Scalar.addi v89 v90
  v91.toNat
def k0_cond12 (i : grid0.Coords) : BitVec 1 :=
  let arg1 : BitVec 32 := BitVec.ofNat 32 (i 1).val
  let c7_i32 : BitVec 32 := 7#32
  let v20 : BitVec 1 := Scalar.cmpi .eq arg1 c7_i32
  let arg0 : BitVec 32 := BitVec.ofNat 32 (i 0).val
  let c5_i32_30 : BitVec 32 := 5#32
  let v56 : BitVec 1 := Scalar.cmpi .eq arg0 c5_i32_30
  let v57 : BitVec 1 := Scalar.andi v20 v56
  let v58 : BitVec 32 := Scalar.extui v57
  let c0_i32_32 : BitVec 32 := 0#32
  let v59 : BitVec 1 := Scalar.cmpi .ne v58 c0_i32_32
  v59

def k0_dev6 (d11 : Dev nD) : Nat :=
  let c0_i32_72 : BitVec 32 := 0#32
  let v11 : BitVec 32 := Dev.word d11
  let c4_i32_4 : BitVec 32 := 4#32
  let v12 : BitVec 32 := Scalar.divsi v11 c4_i32_4
  let c2_i32 : BitVec 32 := 2#32
  let v13 : BitVec 32 := Scalar.remsi v12 c2_i32
  let c0_i32_64 : BitVec 32 := 0#32
  let v96 : BitVec 32 := Scalar.xori v13 c0_i32_64
  let c4_i32_71 : BitVec 32 := 4#32
  let v99 : BitVec 32 := Scalar.muli v96 c4_i32_71
  let v100 : BitVec 32 := Scalar.addi c0_i32_72 v99
  let v14 : BitVec 32 := Dev.word d11
  let c2_i32_6 : BitVec 32 := 2#32
  let v15 : BitVec 32 := Scalar.divsi v14 c2_i32_6
  let c2_i32_5 : BitVec 32 := 2#32
  let v16 : BitVec 32 := Scalar.remsi v15 c2_i32_5
  let c1_i32_65 : BitVec 32 := 1#32
  let v97 : BitVec 32 := Scalar.xori v16 c1_i32_65
  let c2_i32_73 : BitVec 32 := 2#32
  let v101 : BitVec 32 := Scalar.muli v97 c2_i32_73
  let v102 : BitVec 32 := Scalar.addi v100 v101
  let v17 : BitVec 32 := Dev.word d11
  let c1_i32 : BitVec 32 := 1#32
  let v18 : BitVec 32 := Scalar.divsi v17 c1_i32
  let c2_i32_7 : BitVec 32 := 2#32
  let v19 : BitVec 32 := Scalar.remsi v18 c2_i32_7
  let c0_i32_66 : BitVec 32 := 0#32
  let v98 : BitVec 32 := Scalar.xori v19 c0_i32_66
  let c1_i32_74 : BitVec 32 := 1#32
  let v103 : BitVec 32 := Scalar.muli v98 c1_i32_74
  let v104 : BitVec 32 := Scalar.addi v102 v103
  v104.toNat
def k0_cond13 (i : grid0.Coords) : BitVec 1 :=
  let arg1 : BitVec 32 := BitVec.ofNat 32 (i 1).val
  let c7_i32 : BitVec 32 := 7#32
  let v20 : BitVec 1 := Scalar.cmpi .eq arg1 c7_i32
  let arg0 : BitVec 32 := BitVec.ofNat 32 (i 0).val
  let c6_i32 : BitVec 32 := 6#32
  let v60 : BitVec 1 := Scalar.cmpi .eq arg0 c6_i32
  let v61 : BitVec 1 := Scalar.andi v20 v60
  let v62 : BitVec 32 := Scalar.extui v61
  let c0_i32_33 : BitVec 32 := 0#32
  let v63 : BitVec 1 := Scalar.cmpi .ne v62 c0_i32_33
  v63

def k0_dev7 (d11 : Dev nD) : Nat :=
  let c0_i32_61 : BitVec 32 := 0#32
  let v11 : BitVec 32 := Dev.word d11
  let c4_i32_4 : BitVec 32 := 4#32
  let v12 : BitVec 32 := Scalar.divsi v11 c4_i32_4
  let c2_i32 : BitVec 32 := 2#32
  let v13 : BitVec 32 := Scalar.remsi v12 c2_i32
  let c4_i32_60 : BitVec 32 := 4#32
  let v86 : BitVec 32 := Scalar.muli v13 c4_i32_60
  let v87 : BitVec 32 := Scalar.addi c0_i32_61 v86
  let v14 : BitVec 32 := Dev.word d11
  let c2_i32_6 : BitVec 32 := 2#32
  let v15 : BitVec 32 := Scalar.divsi v14 c2_i32_6
  let c2_i32_5 : BitVec 32 := 2#32
  let v16 : BitVec 32 := Scalar.remsi v15 c2_i32_5
  let c2_i32_62 : BitVec 32 := 2#32
  let v88 : BitVec 32 := Scalar.muli v16 c2_i32_62
  let v89 : BitVec 32 := Scalar.addi v87 v88
  let c1_i32_55 : BitVec 32 := 1#32
  let v17 : BitVec 32 := Dev.word d11
  let c1_i32 : BitVec 32 := 1#32
  let v18 : BitVec 32 := Scalar.divsi v17 c1_i32
  let c2_i32_7 : BitVec 32 := 2#32
  let v19 : BitVec 32 := Scalar.remsi v18 c2_i32_7
  let v85 : BitVec 32 := Scalar.subi c1_i32_55 v19
  let c1_i32_63 : BitVec 32 := 1#32
  let v90 : BitVec 32 := Scalar.muli v85 c1_i32_63
  let v91 : BitVec 32 := Scalar.addi v89 v90
  v91.toNat
def cc0_transform_0 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let v2 : BitVec 32 := Scalar.subi v1 c0_i32
  let c0_i32_0 : BitVec 32 := 0#32
  let c3_i32 : BitVec 32 := 3#32
  let v3 : BitVec 32 := Scalar.maxsi c0_i32_0 v2
  let v4 : BitVec 32 := Scalar.minsi c3_i32 v3
  let c0_i32_1 : BitVec 32 := 0#32
  let c0_i32_2 : BitVec 32 := 0#32
  ![v4.toNat, arg1.toNat, c0_i32_1.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c4_i32 : BitVec 32 := 4#32
  let v2 : BitVec 32 := Scalar.subi v1 c4_i32
  let c0_i32 : BitVec 32 := 0#32
  let c3_i32 : BitVec 32 := 3#32
  let v3 : BitVec 32 := Scalar.maxsi c0_i32 v2
  let v4 : BitVec 32 := Scalar.minsi c3_i32 v3
  let c0_i32_0 : BitVec 32 := 0#32
  let c0_i32_1 : BitVec 32 := 0#32
  ![v4.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference5Ideal.lean ====
abbrev S64 : Shape := ⟨1, ![64]⟩
abbrev S65536x2048 : Shape := ⟨2, ![65536, 2048]⟩
abbrev S4x65536x1024 : Shape := ⟨3, ![4, 65536, 1024]⟩
abbrev S8x65536x1024 : Shape := ⟨3, ![8, 65536, 1024]⟩
abbrev S8x8x8192x1024 : Shape := ⟨4, ![8, 8, 8192, 1024]⟩
abbrev S8x8192x2048 : Shape := ⟨3, ![8, 8192, 2048]⟩
abbrev S8x8x1024x2048 : Shape := ⟨4, ![8, 8, 1024, 2048]⟩
abbrev S8x8x2048x1024 : Shape := ⟨4, ![8, 8, 2048, 1024]⟩
abbrev S64x2048x1024 : Shape := ⟨3, ![64, 2048, 1024]⟩
abbrev S_ : Shape := ⟨0, ![]⟩
abbrev S8x8 : Shape := ⟨2, ![8, 8]⟩
abbrev S8 : Shape := ⟨1, ![8]⟩
abbrev S8x1 : Shape := ⟨2, ![8, 1]⟩
abbrev S8x8x1 : Shape := ⟨3, ![8, 8, 1]⟩
abbrev S4x2x8x2048x1024 : Shape := ⟨5, ![4, 2, 8, 2048, 1024]⟩
abbrev S8x4x2048x1024 : Shape := ⟨4, ![8, 4, 2048, 1024]⟩
abbrev S8x1x2048x1024 : Shape := ⟨4, ![8, 1, 2048, 1024]⟩
abbrev S8x2048x1024 : Shape := ⟨3, ![8, 2048, 1024]⟩
abbrev S4x2x2048x1024 : Shape := ⟨4, ![4, 2, 2048, 1024]⟩
abbrev S16384x1024 : Shape := ⟨2, ![16384, 1024]⟩
abbrev S2x4x2048x1024 : Shape := ⟨4, ![2, 4, 2048, 1024]⟩
abbrev S2x2x2x2048x1024 : Shape := ⟨5, ![2, 2, 2, 2048, 1024]⟩
abbrev S1x16384x1024 : Shape := ⟨3, ![1, 16384, 1024]⟩
abbrev S3x16384x1024 : Shape := ⟨3, ![3, 16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S64, .i32⟩
  | .hbm, ⟨1, _⟩ => ⟨S65536x2048, .bf16⟩
  | .hbm, ⟨2, _⟩ => ⟨S4x65536x1024, .bf16⟩
  | .hbm, ⟨3, _⟩ => ⟨S4x65536x1024, .bf16⟩
  | .hbm, ⟨4, _⟩ => ⟨S8x65536x1024, .bf16⟩
  | .hbm, ⟨5, _⟩ => ⟨S8x65536x1024, .f32⟩
  | .hbm, ⟨6, _⟩ => ⟨S8x8x8192x1024, .f32⟩
  | .hbm, ⟨7, _⟩ => ⟨S65536x2048, .f32⟩
  | .hbm, ⟨8, _⟩ => ⟨S8x8192x2048, .f32⟩
  | .hbm, ⟨9, _⟩ => ⟨S8x8x1024x2048, .f32⟩
  | .hbm, ⟨10, _⟩ => ⟨S8x8x2048x1024, .f32⟩
  | .hbm, ⟨11, _⟩ => ⟨S64x2048x1024, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S8x8, .i32⟩
  | .hbm, ⟨21, _⟩ => ⟨S8, .i32⟩
  | .hbm, ⟨22, _⟩ => ⟨S8x1, .i32⟩
  | .hbm, ⟨23, _⟩ => ⟨S_, .i32⟩
  | .hbm, ⟨24, _⟩ => ⟨S8x1, .i32⟩
  | .hbm, ⟨25, _⟩ => ⟨S8x1, .i32⟩
  | .hbm, ⟨26, _⟩ => ⟨S8x8, .i32⟩
  | .hbm, ⟨27, _⟩ => ⟨S8x8, .i32⟩
  | .hbm, ⟨28, _⟩ => ⟨S8x8x1, .i32⟩
  | .hbm, ⟨29, _⟩ => ⟨S8x8x2048x1024, .f32⟩
  | .hbm, ⟨30, _⟩ => ⟨S4x2x8x2048x1024, .f32⟩
  | .hbm, ⟨31, _⟩ => ⟨S4x2x8x2048x1024, .f32⟩
  | .hbm, ⟨32, _⟩ => ⟨S8x8x2048x1024, .f32⟩
  | .hbm, ⟨33, _⟩ => ⟨S8x4x2048x1024, .f32⟩
  | .hbm, ⟨34, _⟩ => ⟨S8x4x2048x1024, .f32⟩
  | .hbm, ⟨35, _⟩ => ⟨S8x4x2048x1024, .f32⟩
  | .hbm, ⟨36, _⟩ => ⟨S8x1x2048x1024, .f32⟩
  | .hbm, ⟨37, _⟩ => ⟨S8x2048x1024, .f32⟩
  | .hbm, ⟨38, _⟩ => ⟨S4x2x2048x1024, .f32⟩
  | .hbm, ⟨39, _⟩ => ⟨S4x2x2048x1024, .f32⟩
  | .hbm, ⟨40, _⟩ => ⟨S16384x1024, .f32⟩
  | .hbm, ⟨41, _⟩ => ⟨S8x1x2048x1024, .f32⟩
  | .hbm, ⟨42, _⟩ => ⟨S8x2048x1024, .f32⟩
  | .hbm, ⟨43, _⟩ => ⟨S2x4x2048x1024, .f32⟩
  | .hbm, ⟨44, _⟩ => ⟨S2x4x2048x1024, .f32⟩
  | .hbm, ⟨45, _⟩ => ⟨S16384x1024, .f32⟩
  | .hbm, ⟨46, _⟩ => ⟨S8x1x2048x1024, .f32⟩
  | .hbm, ⟨47, _⟩ => ⟨S8x2048x1024, .f32⟩
  | .hbm, ⟨48, _⟩ => ⟨S2x2x2x2048x1024, .f32⟩
  | .hbm, ⟨49, _⟩ => ⟨S2x2x2x2048x1024, .f32⟩
  | .hbm, ⟨50, _⟩ => ⟨S16384x1024, .f32⟩
  | .hbm, ⟨51, _⟩ => ⟨S8x1x2048x1024, .f32⟩
  | .hbm, ⟨52, _⟩ => ⟨S8x2048x1024, .f32⟩
  | .hbm, ⟨53, _⟩ => ⟨S16384x1024, .f32⟩
  | .hbm, ⟨54, _⟩ => ⟨S1x16384x1024, .f32⟩
  | .hbm, ⟨55, _⟩ => ⟨S1x16384x1024, .f32⟩
  | .hbm, ⟨56, _⟩ => ⟨S1x16384x1024, .f32⟩
  | .hbm, ⟨57, _⟩ => ⟨S3x16384x1024, .f32⟩
  | .hbm, ⟨58, _⟩ => ⟨S3x16384x1024, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Kernel6.lean ====
abbrev S8 : Shape := ⟨1, ![8]⟩
abbrev S8192x2048 : Shape := ⟨2, ![8192, 2048]⟩
abbrev S2048x1024 : Shape := ⟨2, ![2048, 1024]⟩
abbrev S256x2048 : Shape := ⟨2, ![256, 2048]⟩
abbrev S8192x8192 : Shape := ⟨2, ![8192, 8192]⟩
abbrev S8x2048x1024 : Shape := ⟨3, ![8, 2048, 1024]⟩
abbrev S8x256x2048 : Shape := ⟨3, ![8, 256, 2048]⟩
abbrev S1024x2048 : Shape := ⟨2, ![1024, 2048]⟩
abbrev S1024x1024 : Shape := ⟨2, ![1024, 1024]⟩
abbrev S1 : Shape := ⟨1, ![1]⟩
abbrev S2x2048x1024 : Shape := ⟨3, ![2, 2048, 1024]⟩
abbrev S7 : Shape := ⟨1, ![7]⟩
abbrev S2 : Shape := ⟨1, ![2]⟩
abbrev S_ : Shape := ⟨0, ![]⟩
abbrev S1x2048x1024 : Shape := ⟨3, ![1, 2048, 1024]⟩
abbrev S1x256x2048 : Shape := ⟨3, ![1, 256, 2048]⟩

abbrev nBuf : Space → Nat
  | .hbm => 6
  | .vmem => 5
  | .smem => 1
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S256x2048, .bf16⟩
  | .hbm, ⟨3, _⟩ => ⟨S8192x8192, .f32⟩
  | .hbm, ⟨4, _⟩ => ⟨S8x2048x1024, .bf16⟩
  | .hbm, ⟨5, _⟩ => ⟨S8x256x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2x2048x1024, .bf16⟩
  | .local _ .smem, ⟨0, _⟩ => ⟨S8, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 8
abbrev τ : Topo := Topo.v7x

variable {F : FTy → Type} [FloatOps F]

abbrev grid0 : Pipeline.Grid := ⟨2, ![8, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_80 : BitVec 32 := 0#32
  let v133 : BitVec 1 := Scalar.cmpi .eq arg0 c0_i32_80
  let arg1 : BitVec 32 := BitVec.ofNat 32 (i 1).val
  let c0_i32_81 : BitVec 32 := 0#32
  let v134 : BitVec 1 := Scalar.cmpi .eq arg1 c0_i32_81
  let v135 : BitVec 1 := Scalar.andi v133 v134
  let v136 : BitVec 32 := Scalar.extui v135
  let c0_i32_103 : BitVec 32 := 0#32
  let v137 : BitVec 1 := Scalar.cmpi .ne v136 c0_i32_103
  v137

def k0_off2 (d0 : Dev nD) : Fin 3 → Nat :=
  let c4_i32_22 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.muli c4_i32_22 v2
  let c2_i32_23 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.muli c2_i32_23 v5
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_212 : BitVec 32 := 0#32
  let c0_i32_213 : BitVec 32 := 0#32
  ![v45.toNat, 0, 0]
def k0_off3 (d0 : Dev nD) : Fin 3 → Nat :=
  let c4_i32_58 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.muli c4_i32_58 v2
  let c2_i32_59 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v96 : BitVec 32 := Scalar.muli c2_i32_59 v5
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.addi v97 v8
  let c0_i32_214 : BitVec 32 := 0#32
  let c0_i32_215 : BitVec 32 := 0#32
  ![v98.toNat, 0, 0]
def k0_dev1 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v243 : BitVec 32 := Scalar.muli v2 c4_i32_216
  let v244 : BitVec 32 := Scalar.addi c0_i32_217 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_218 : BitVec 32 := 2#32
  let v245 : BitVec 32 := Scalar.muli v5 c2_i32_218
  let v246 : BitVec 32 := Scalar.addi v244 v245
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_219 : BitVec 32 := 1#32
  let v247 : BitVec 32 := Scalar.muli v9 c1_i32_219
  let v248 : BitVec 32 := Scalar.addi v246 v247
  v248.toNat
def k0_dev2 (d0 : Dev nD) : Nat :=
  let c0_i32_223 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_222 : BitVec 32 := 4#32
  let v255 : BitVec 32 := Scalar.muli v10 c4_i32_222
  let v256 : BitVec 32 := Scalar.addi c0_i32_223 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_224 : BitVec 32 := 2#32
  let v257 : BitVec 32 := Scalar.muli v5 c2_i32_224
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_225 : BitVec 32 := 1#32
  let v259 : BitVec 32 := Scalar.muli v8 c1_i32_225
  let v260 : BitVec 32 := Scalar.addi v258 v259
  v260.toNat
def k0_dev3 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v267 : BitVec 32 := Scalar.muli v2 c4_i32_228
  let v268 : BitVec 32 := Scalar.addi c0_i32_229 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_230 : BitVec 32 := 2#32
  let v269 : BitVec 32 := Scalar.muli v11 c2_i32_230
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v271 : BitVec 32 := Scalar.muli v8 c1_i32_231
  let v272 : BitVec 32 := Scalar.addi v270 v271
  v272.toNat
def k0_dev4 (d0 : Dev nD) : Nat :=
  let c0_i32_235 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_234 : BitVec 32 := 4#32
  let v279 : BitVec 32 := Scalar.muli v12 c4_i32_234
  let v280 : BitVec 32 := Scalar.addi c0_i32_235 v279
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_236 : BitVec 32 := 2#32
  let v281 : BitVec 32 := Scalar.muli v13 c2_i32_236
  let v282 : BitVec 32 := Scalar.addi v280 v281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_237 : BitVec 32 := 1#32
  let v283 : BitVec 32 := Scalar.muli v8 c1_i32_237
  let v284 : BitVec 32 := Scalar.addi v282 v283
  v284.toNat
def k0_dev5 (d0 : Dev nD) : Nat :=
  let c0_i32_241 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v50 : BitVec 32 := Scalar.xori v2 c0_i32
  let c4_i32_240 : BitVec 32 := 4#32
  let v291 : BitVec 32 := Scalar.muli v50 c4_i32_240
  let v292 : BitVec 32 := Scalar.addi c0_i32_241 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_26 : BitVec 32 := 0#32
  let v51 : BitVec 32 := Scalar.xori v5 c0_i32_26
  let c2_i32_242 : BitVec 32 := 2#32
  let v293 : BitVec 32 := Scalar.muli v51 c2_i32_242
  let v294 : BitVec 32 := Scalar.addi v292 v293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v52 : BitVec 32 := Scalar.xori v8 c1_i32_27
  let c1_i32_243 : BitVec 32 := 1#32
  let v295 : BitVec 32 := Scalar.muli v52 c1_i32_243
  let v296 : BitVec 32 := Scalar.addi v294 v295
  v296.toNat
def k0_dev6 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_30 : BitVec 32 := 0#32
  let v57 : BitVec 32 := Scalar.xori v2 c0_i32_30
  let c4_i32_246 : BitVec 32 := 4#32
  let v303 : BitVec 32 := Scalar.muli v57 c4_i32_246
  let v304 : BitVec 32 := Scalar.addi c0_i32_247 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_31 : BitVec 32 := 1#32
  let v58 : BitVec 32 := Scalar.xori v5 c1_i32_31
  let c2_i32_248 : BitVec 32 := 2#32
  let v305 : BitVec 32 := Scalar.muli v58 c2_i32_248
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_32 : BitVec 32 := 0#32
  let v59 : BitVec 32 := Scalar.xori v8 c0_i32_32
  let c1_i32_249 : BitVec 32 := 1#32
  let v307 : BitVec 32 := Scalar.muli v59 c1_i32_249
  let v308 : BitVec 32 := Scalar.addi v306 v307
  v308.toNat
def k0_dev7 (d0 : Dev nD) : Nat :=
  let c0_i32_253 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_35 : BitVec 32 := 0#32
  let v64 : BitVec 32 := Scalar.xori v2 c0_i32_35
  let c4_i32_252 : BitVec 32 := 4#32
  let v315 : BitVec 32 := Scalar.muli v64 c4_i32_252
  let v316 : BitVec 32 := Scalar.addi c0_i32_253 v315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_36 : BitVec 32 := 1#32
  let v65 : BitVec 32 := Scalar.xori v5 c1_i32_36
  let c2_i32_254 : BitVec 32 := 2#32
  let v317 : BitVec 32 := Scalar.muli v65 c2_i32_254
  let v318 : BitVec 32 := Scalar.addi v316 v317
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v66 : BitVec 32 := Scalar.xori v8 c1_i32_37
  let c1_i32_255 : BitVec 32 := 1#32
  let v319 : BitVec 32 := Scalar.muli v66 c1_i32_255
  let v320 : BitVec 32 := Scalar.addi v318 v319
  v320.toNat
def k0_dev8 (d0 : Dev nD) : Nat :=
  let c0_i32_259 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_40 : BitVec 32 := 1#32
  let v71 : BitVec 32 := Scalar.xori v2 c1_i32_40
  let c4_i32_258 : BitVec 32 := 4#32
  let v327 : BitVec 32 := Scalar.muli v71 c4_i32_258
  let v328 : BitVec 32 := Scalar.addi c0_i32_259 v327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_41 : BitVec 32 := 0#32
  let v72 : BitVec 32 := Scalar.xori v5 c0_i32_41
  let c2_i32_260 : BitVec 32 := 2#32
  let v329 : BitVec 32 := Scalar.muli v72 c2_i32_260
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_42 : BitVec 32 := 0#32
  let v73 : BitVec 32 := Scalar.xori v8 c0_i32_42
  let c1_i32_261 : BitVec 32 := 1#32
  let v331 : BitVec 32 := Scalar.muli v73 c1_i32_261
  let v332 : BitVec 32 := Scalar.addi v330 v331
  v332.toNat
def k0_dev9 (d0 : Dev nD) : Nat :=
  let c0_i32_265 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_45 : BitVec 32 := 1#32
  let v78 : BitVec 32 := Scalar.xori v2 c1_i32_45
  let c4_i32_264 : BitVec 32 := 4#32
  let v339 : BitVec 32 := Scalar.muli v78 c4_i32_264
  let v340 : BitVec 32 := Scalar.addi c0_i32_265 v339
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_46 : BitVec 32 := 0#32
  let v79 : BitVec 32 := Scalar.xori v5 c0_i32_46
  let c2_i32_266 : BitVec 32 := 2#32
  let v341 : BitVec 32 := Scalar.muli v79 c2_i32_266
  let v342 : BitVec 32 := Scalar.addi v340 v341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v80 : BitVec 32 := Scalar.xori v8 c1_i32_47
  let c1_i32_267 : BitVec 32 := 1#32
  let v343 : BitVec 32 := Scalar.muli v80 c1_i32_267
  let v344 : BitVec 32 := Scalar.addi v342 v343
  v344.toNat
def k0_dev10 (d0 : Dev nD) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_50 : BitVec 32 := 1#32
  let v85 : BitVec 32 := Scalar.xori v2 c1_i32_50
  let c4_i32_270 : BitVec 32 := 4#32
  let v351 : BitVec 32 := Scalar.muli v85 c4_i32_270
  let v352 : BitVec 32 := Scalar.addi c0_i32_271 v351
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_51 : BitVec 32 := 1#32
  let v86 : BitVec 32 := Scalar.xori v5 c1_i32_51
  let c2_i32_272 : BitVec 32 := 2#32
  let v353 : BitVec 32 := Scalar.muli v86 c2_i32_272
  let v354 : BitVec 32 := Scalar.addi v352 v353
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_52 : BitVec 32 := 0#32
  let v87 : BitVec 32 := Scalar.xori v8 c0_i32_52
  let c1_i32_273 : BitVec 32 := 1#32
  let v355 : BitVec 32 := Scalar.muli v87 c1_i32_273
  let v356 : BitVec 32 := Scalar.addi v354 v355
  v356.toNat
def k0_dev11 (d0 : Dev nD) : Nat :=
  let c0_i32_277 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_55 : BitVec 32 := 1#32
  let v92 : BitVec 32 := Scalar.xori v2 c1_i32_55
  let c4_i32_276 : BitVec 32 := 4#32
  let v363 : BitVec 32 := Scalar.muli v92 c4_i32_276
  let v364 : BitVec 32 := Scalar.addi c0_i32_277 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_56 : BitVec 32 := 1#32
  let v93 : BitVec 32 := Scalar.xori v5 c1_i32_56
  let c2_i32_278 : BitVec 32 := 2#32
  let v365 : BitVec 32 := Scalar.muli v93 c2_i32_278
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v94 : BitVec 32 := Scalar.xori v8 c1_i32_57
  let c1_i32_279 : BitVec 32 := 1#32
  let v367 : BitVec 32 := Scalar.muli v94 c1_i32_279
  let v368 : BitVec 32 := Scalar.addi v366 v367
  v368.toNat
def k0_cond3 (i : grid0.Coords) : BitVec 1 :=
  let arg0 : BitVec 32 := BitVec.ofNat 32 (i 0).val
  let c0_i32_107 : BitVec 32 := 0#32
  let v143 : BitVec 1 := Scalar.cmpi .eq arg0 c0_i32_107
  let arg1 : BitVec 32 := BitVec.ofNat 32 (i 1).val
  let c6_i32_108 : BitVec 32 := 6#32
  let v144 : BitVec 1 := Scalar.cmpi .eq arg1 c6_i32_108
  let v145 : BitVec 1 := Scalar.andi v143 v144
  let v146 : BitVec 32 := Scalar.extui v145
  let c0_i32_111 : BitVec 32 := 0#32
  let v147 : BitVec 1 := Scalar.cmpi .ne v146 c0_i32_111
  v147

def k0_off4 (d0 : Dev nD) : Fin 3 → Nat :=
  let c4_i32_63 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v102 : BitVec 32 := Scalar.muli c4_i32_63 v2
  let c2_i32_64 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v103 : BitVec 32 := Scalar.muli c2_i32_64 v5
  let v104 : BitVec 32 := Scalar.addi v102 v103
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v105 : BitVec 32 := Scalar.addi v104 v9
  let c0_i32_216 : BitVec 32 := 0#32
  let c0_i32_217 : BitVec 32 := 0#32
  ![v105.toNat, 0, 0]
def k0_cond5 (i : grid0.Coords) : BitVec 1 :=
  let arg0 : BitVec 32 := BitVec.ofNat 32 (i 0).val
  let c1_i32_115 : BitVec 32 := 1#32
  let v153 : BitVec 1 := Scalar.cmpi .eq arg0 c1_i32_115
  let arg1 : BitVec 32 := BitVec.ofNat 32 (i 1).val
  let c6_i32_116 : BitVec 32 := 6#32
  let v154 : BitVec 1 := Scalar.cmpi .eq arg1 c6_i32_116
  let v155 : BitVec 1 := Scalar.andi v153 v154
  let v156 : BitVec 32 := Scalar.extui v155
  let c0_i32_121 : BitVec 32 := 0#32
  let v157 : BitVec 1 := Scalar.cmpi .ne v156 c0_i32_121
  v157

def k0_off5 (d0 : Dev nD) : Fin 3 → Nat :=
  let c4_i32_65 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v106 : BitVec 32 := Scalar.muli c4_i32_65 v10
  let c2_i32_66 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v107 : BitVec 32 := Scalar.muli c2_i32_66 v5
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v109 : BitVec 32 := Scalar.addi v108 v8
  let c0_i32_216 : BitVec 32 := 0#32
  let c0_i32_217 : BitVec 32 := 0#32
  ![v109.toNat, 0, 0]
def k0_dev12 (d0 : Dev nD) : Nat :=
  let c0_i32_221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_220 : BitVec 32 := 4#32
  let v247 : BitVec 32 := Scalar.muli v2 c4_i32_220
  let v248 : BitVec 32 := Scalar.addi c0_i32_221 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_222 : BitVec 32 := 2#32
  let v249 : BitVec 32 := Scalar.muli v5 c2_i32_222
  let v250 : BitVec 32 := Scalar.addi v248 v249
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_223 : BitVec 32 := 1#32
  let v251 : BitVec 32 := Scalar.muli v9 c1_i32_223
  let v252 : BitVec 32 := Scalar.addi v250 v251
  v252.toNat
def k0_cond7 (i : grid0.Coords) : BitVec 1 :=
  let arg0 : BitVec 32 := BitVec.ofNat 32 (i 0).val
  let c2_i32_125 : BitVec 32 := 2#32
  let v163 : BitVec 1 := Scalar.cmpi .eq arg0 c2_i32_125
  let arg1 : BitVec 32 := BitVec.ofNat 32 (i 1).val
  let c6_i32_126 : BitVec 32 := 6#32
  let v164 : BitVec 1 := Scalar.cmpi .eq arg1 c6_i32_126
  let v165 : BitVec 1 := Scalar.andi v163 v164
  let v166 : BitVec 32 := Scalar.extui v165
  let c0_i32_129 : BitVec 32 := 0#32
  let v167 : BitVec 1 := Scalar.cmpi .ne v166 c0_i32_129
  v167

def k0_off6 (d0 : Dev nD) : Fin 3 → Nat :=
  let c4_i32_72 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v119 : BitVec 32 := Scalar.muli c4_i32_72 v10
  let c2_i32_73 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v120 : BitVec 32 := Scalar.muli c2_i32_73 v5
  let v121 : BitVec 32 := Scalar.addi v119 v120
  let c1_i32_71 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v118 : BitVec 32 := Scalar.subi c1_i32_71 v8
  let v122 : BitVec 32 := Scalar.addi v121 v118
  let c0_i32_216 : BitVec 32 := 0#32
  let c0_i32_217 : BitVec 32 := 0#32
  ![v122.toNat, 0, 0]
def k0_cond9 (i : grid0.Coords) : BitVec 1 :=
  let arg0 : BitVec 32 := BitVec.ofNat 32 (i 0).val
  let c3_i32_133 : BitVec 32 := 3#32
  let v173 : BitVec 1 := Scalar.cmpi .eq arg0 c3_i32_133
  let arg1 : BitVec 32 := BitVec.ofNat 32 (i 1).val
  let c6_i32_134 : BitVec 32 := 6#32
  let v174 : BitVec 1 := Scalar.cmpi .eq arg1 c6_i32_134
  let v175 : BitVec 1 := Scalar.andi v173 v174
  let v176 : BitVec 32 := Scalar.extui v175
  let c0_i32_139 : BitVec 32 := 0#32
  let v177 : BitVec 1 := Scalar.cmpi .ne v176 c0_i32_139
  v177

def k0_off7 (d0 : Dev nD) : Fin 3 → Nat :=
  let c4_i32_67 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.muli c4_i32_67 v2
  let c2_i32_68 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v111 : BitVec 32 := Scalar.muli c2_i32_68 v11
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v113 : BitVec 32 := Scalar.addi v112 v8
  let c0_i32_216 : BitVec 32 := 0#32
  let c0_i32_217 : BitVec 32 := 0#32
  ![v113.toNat, 0, 0]
def k0_dev13 (d0 : Dev nD) : Nat :=
  let c0_i32_221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_220 : BitVec 32 := 4#32
  let v247 : BitVec 32 := Scalar.muli v2 c4_i32_220
  let v248 : BitVec 32 := Scalar.addi c0_i32_221 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_222 : BitVec 32 := 2#32
  let v249 : BitVec 32 := Scalar.muli v5 c2_i32_222
  let v250 : BitVec 32 := Scalar.addi v248 v249
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_223 : BitVec 32 := 1#32
  let v251 : BitVec 32 := Scalar.muli v9 c1_i32_223
  let v252 : BitVec 32 := Scalar.addi v250 v251
  v252.toNat
def k0_cond11 (i : grid0.Coords) : BitVec 1 :=
  let arg0 : BitVec 32 := BitVec.ofNat 32 (i 0).val
  let c4_i32_143 : BitVec 32 := 4#32
  let v183 : BitVec 1 := Scalar.cmpi .eq arg0 c4_i32_143
  let arg1 : BitVec 32 := BitVec.ofNat 32 (i 1).val
  let c6_i32_144 : BitVec 32 := 6#32
  let v184 : BitVec 1 := Scalar.cmpi .eq arg1 c6_i32_144
  let v185 : BitVec 1 := Scalar.andi v183 v184
  let v186 : BitVec 32 := Scalar.extui v185
  let c0_i32_147 : BitVec 32 := 0#32
  let v187 : BitVec 1 := Scalar.cmpi .ne v186 c0_i32_147
  v187

def k0_off8 (d0 : Dev nD) : Fin 3 → Nat :=
  let c4_i32_75 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v124 : BitVec 32 := Scalar.muli c4_i32_75 v2
  let c2_i32_76 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v125 : BitVec 32 := Scalar.muli c2_i32_76 v11
  let v126 : BitVec 32 := Scalar.addi v124 v125
  let c1_i32_74 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v123 : BitVec 32 := Scalar.subi c1_i32_74 v8
  let v127 : BitVec 32 := Scalar.addi v126 v123
  let c0_i32_216 : BitVec 32 := 0#32
  let c0_i32_217 : BitVec 32 := 0#32
  ![v127.toNat, 0, 0]
def k0_cond13 (i : grid0.Coords) : BitVec 1 :=
  let arg0 : BitVec 32 := BitVec.ofNat 32 (i 0).val
  let c5_i32_151 : BitVec 32 := 5#32
  let v193 : BitVec 1 := Scalar.cmpi .eq arg0 c5_i32_151
  let arg1 : BitVec 32 := BitVec.ofNat 32 (i 1).val
  let c6_i32_152 : BitVec 32 := 6#32
  let v194 : BitVec 1 := Scalar.cmpi .eq arg1 c6_i32_152
  let v195 : BitVec 1 := Scalar.andi v193 v194
  let v196 : BitVec 32 := Scalar.extui v195
  let c0_i32_157 : BitVec 32 := 0#32
  let v197 : BitVec 1 := Scalar.cmpi .ne v196 c0_i32_157
  v197

def k0_off9 (d0 : Dev nD) : Fin 3 → Nat :=
  let c4_i32_69 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v114 : BitVec 32 := Scalar.muli c4_i32_69 v12
  let c2_i32_70 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v115 : BitVec 32 := Scalar.muli c2_i32_70 v13
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v117 : BitVec 32 := Scalar.addi v116 v8
  let c0_i32_216 : BitVec 32 := 0#32
  let c0_i32_217 : BitVec 32 := 0#32
  ![v117.toNat, 0, 0]
def k0_dev14 (d0 : Dev nD) : Nat :=
  let c0_i32_221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_220 : BitVec 32 := 4#32
  let v247 : BitVec 32 := Scalar.muli v2 c4_i32_220
  let v248 : BitVec 32 := Scalar.addi c0_i32_221 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_222 : BitVec 32 := 2#32
  let v249 : BitVec 32 := Scalar.muli v5 c2_i32_222
  let v250 : BitVec 32 := Scalar.addi v248 v249
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_223 : BitVec 32 := 1#32
  let v251 : BitVec 32 := Scalar.muli v9 c1_i32_223
  let v252 : BitVec 32 := Scalar.addi v250 v251
  v252.toNat
def k0_cond15 (i : grid0.Coords) : BitVec 1 :=
  let arg0 : BitVec 32 := BitVec.ofNat 32 (i 0).val
  let c6_i32_161 : BitVec 32 := 6#32
  let v203 : BitVec 1 := Scalar.cmpi .eq arg0 c6_i32_161
  let arg1 : BitVec 32 := BitVec.ofNat 32 (i 1).val
  let c6_i32_162 : BitVec 32 := 6#32
  let v204 : BitVec 1 := Scalar.cmpi .eq arg1 c6_i32_162
  let v205 : BitVec 1 := Scalar.andi v203 v204
  let v206 : BitVec 32 := Scalar.extui v205
  let c0_i32_165 : BitVec 32 := 0#32
  let v207 : BitVec 1 := Scalar.cmpi .ne v206 c0_i32_165
  v207

def k0_off10 (d0 : Dev nD) : Fin 3 → Nat :=
  let c4_i32_78 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v129 : BitVec 32 := Scalar.muli c4_i32_78 v12
  let c2_i32_79 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v130 : BitVec 32 := Scalar.muli c2_i32_79 v13
  let v131 : BitVec 32 := Scalar.addi v129 v130
  let c1_i32_77 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v128 : BitVec 32 := Scalar.subi c1_i32_77 v8
  let v132 : BitVec 32 := Scalar.addi v131 v128
  let c0_i32_216 : BitVec 32 := 0#32
  let c0_i32_217 : BitVec 32 := 0#32
  ![v132.toNat, 0, 0]
def k0_off11 (i : grid0.Coords) : Fin 3 → Nat :=
  let arg0 : BitVec 32 := BitVec.ofNat 32 (i 0).val
  let c2_i32_169 : BitVec 32 := 2#32
  let c0_i32_170 : BitVec 32 := 0#32
  let v215 : BitVec 1 := Scalar.cmpi .eq c2_i32_169 c0_i32_170
  let c1_i32_171 : BitVec 32 := 1#32
  let v216 : BitVec 32 := Scalar.select v215 c1_i32_171 c2_i32_169
  let v217 : BitVec 32 := Scalar.remsi arg0 v216
  let c0_i32_173 : BitVec 32 := 0#32
  let v219 : BitVec 1 := Scalar.cmpi .slt v217 c0_i32_173
  let c0_i32_174 : BitVec 32 := 0#32
  let v220 : BitVec 1 := Scalar.cmpi .slt v216 c0_i32_174
  let v221 : BitVec 1 := Scalar.xori v219 v220
  let c0_i32_172 : BitVec 32 := 0#32
  let v218 : BitVec 1 := Scalar.cmpi .ne v217 c0_i32_172
  let v222 : BitVec 1 := Scalar.andi v221 v218
  let v223 : BitVec 32 := Scalar.addi v217 v216
  let v224 : BitVec 32 := Scalar.select v222 v223 v217
  let v225 : Index := Scalar.indexCast v224
  let c0_175 : Index := 0#32
  let c0_176 : Index := 0#32
  ![v225.toNat, 0, 0]
def k0_cond17 (i : grid0.Coords) : BitVec 1 :=
  let arg0 : BitVec 32 := BitVec.ofNat 32 (i 0).val
  let c7_i32_179 : BitVec 32 := 7#32
  let v230 : BitVec 1 := Scalar.cmpi .eq arg0 c7_i32_179
  let arg1 : BitVec 32 := BitVec.ofNat 32 (i 1).val
  let c7_i32_180 : BitVec 32 := 7#32
  let v231 : BitVec 1 := Scalar.cmpi .eq arg1 c7_i32_180
  let v232 : BitVec 1 := Scalar.andi v230 v231
  let v233 : BitVec 32 := Scalar.extui v232
  let c0_i32_211 : BitVec 32 := 0#32
  let v234 : BitVec 1 := Scalar.cmpi .ne v233 c0_i32_211
  v234

def k0_off12 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_213 : BitVec 32 := 0#32
  let c0_i32_214 : BitVec 32 := 0#32
  ![v17.toNat, 0, 0]
def k0_off13 (d0 : Dev nD) : Fin 3 → Nat :=
  let c4_i32_16 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v30 : BitVec 32 := Scalar.muli c4_i32_16 v10
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_225 : BitVec 32 := 0#32
  let c0_i32_226 : BitVec 32 := 0#32
  ![v33.toNat, 0, 0]
def k0_off14 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_18 v2
  let c2_i32_19 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v35 : BitVec 32 := Scalar.muli c2_i32_19 v11
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_230 : BitVec 32 := 0#32
  let c0_i32_231 : BitVec 32 := 0#32
  ![v37.toNat, 0, 0]
def k0_off15 (d0 : Dev nD) : Fin 3 → Nat :=
  let c4_i32_20 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v38 : BitVec 32 := Scalar.muli c4_i32_20 v12
  let c2_i32_21 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v39 : BitVec 32 := Scalar.muli c2_i32_21 v13
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.addi v40 v8
  let c0_i32_235 : BitVec 32 := 0#32
  let c0_i32_236 : BitVec 32 := 0#32
  ![v41.toNat, 0, 0]
def k0_off16 (d0 : Dev nD) : Fin 3 → Nat :=
  let c4_i32_24 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.muli c4_i32_24 v2
  let c2_i32_25 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.muli c2_i32_25 v5
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_240 : BitVec 32 := 0#32
  let c0_i32_241 : BitVec 32 := 0#32
  ![v49.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference6Ideal.lean ====
abbrev S64 : Shape := ⟨1, ![64]⟩
abbrev S65536x2048 : Shape := ⟨2, ![65536, 2048]⟩
abbrev S2048x8192 : Shape := ⟨2, ![2048, 8192]⟩
abbrev S2048x2048 : Shape := ⟨2, ![2048, 2048]⟩
abbrev S65536x8192 : Shape := ⟨2, ![65536, 8192]⟩
abbrev S2048x8x1024 : Shape := ⟨3, ![2048, 8, 1024]⟩
abbrev S8x2048x1024 : Shape := ⟨3, ![8, 2048, 1024]⟩
abbrev S8x256x2048 : Shape := ⟨3, ![8, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S64, .i32⟩
  | .hbm, ⟨1, _⟩ => ⟨S65536x2048, .bf16⟩
  | .hbm, ⟨2, _⟩ => ⟨S2048x8192, .bf16⟩
  | .hbm, ⟨3, _⟩ => ⟨S2048x2048, .bf16⟩
  | .hbm, ⟨4, _⟩ => ⟨S65536x8192, .f32⟩
  | .hbm, ⟨5, _⟩ => ⟨S2048x8x1024, .bf16⟩
  | .hbm, ⟨6, _⟩ => ⟨S8x2048x1024, .bf16⟩
  | .hbm, ⟨7, _⟩ => ⟨S8x256x2048, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Rows.lean ====
module

public import Idealize.ShloMosaic.Lib.Pointwise

/-! # What one row of the activations yields

The functions of one row that the kernel and the reference both compute: the hidden row after the
output projection and the residual sum, its root mean square's reciprocal, the error against the
target, the gradient of the row. -/

@[expose] public noncomputable section

namespace Cert.Rows

open Idealize.ShloMosaic

/-- The hidden row: the residual plus the two half projections. -/
def hid (x : Fin 2048 → EReal) (yh ya : Fin 1024 → EReal) (w : Fin 2048 → Fin 2048 → EReal) (l : Fin 2048) : EReal :=
  x l + (∑ k : Fin 1024, yh k * w ⟨k.val, by omega⟩ l + ∑ k : Fin 1024, ya k * w ⟨1024 + k.val, by omega⟩ l)

/-- The reciprocal of a row's root mean square. -/
def rms (a : Fin 2048 → EReal) : EReal :=
  Ideal.rsqrt (Ideal.div (∑ k : Fin 2048, a k * a k) (Ideal.ofBits .f32 0x45000000#32) + Ideal.ofBits .f32 0x358637BD#32)

/-- The normalised row's error against the target. -/
def err (a g t : Fin 2048 → EReal) (l : Fin 2048) : EReal := a l * rms a * g l - t l

/-- The error over the row's length: the gradient of the loss at the normalised row. -/
def outGrad (a g t : Fin 2048 → EReal) (l : Fin 2048) : EReal := err a g t l * Ideal.ofBits .f32 0x3A000000#32

/-- The gradient of the loss at the hidden row. -/
def rowGrad (a g t : Fin 2048 → EReal) (l : Fin 2048) : EReal :=
  rms a * (outGrad a g t l * g l
    - a l * rms a * Ideal.div (∑ k : Fin 2048, outGrad a g t k * g k * (a k * rms a)) (Ideal.ofBits .f32 0x45000000#32))

/-- The row's gradient taken back through the projection. -/
def projGrad (a g t : Fin 2048 → EReal) (w : Fin 2048 → Fin 2048 → EReal) (l : Fin 2048) : EReal :=
  ∑ k : Fin 2048, rowGrad a g t k * w l k

/-- A row's squared error. -/
def sqErr (a g t : Fin 2048 → EReal) (l : Fin 2048) : EReal := err a g t l * err a g t l

/-- A row's contribution to the gain's gradient. -/
def gainGrad (a g t : Fin 2048 → EReal) (l : Fin 2048) : EReal := outGrad a g t l * (a l * rms a)

end Cert.Rows
-- ==== Proof.Pay.lean ====
module

public import proofs.«01_k».proof.Proof.Gen.KernelIdeal.Value
public import proofs.«01_k».proof.Proof.Rows
public import Idealize.ShloMosaic.Lib.Tactic

/-! # What one sub-block of 256 rows computes

Each stored value of a sub-block, at a row and a column, is the row function of that row. The second
sub-block of a grid point computes the same terms as the first. -/

@[expose] public noncomputable section

namespace Cert.KernelIdeal.Pay

open Cert.KernelIdeal Cert.KernelIdeal.Gen Idealize.ShloMosaic Idealize.ShloMosaic.TcCoe Idealize.SL.Sem Cert.Rows

variable (w : Vec Ideal S2048x2048 .bf16) (x : Vec Ideal S256x2048 .f32) (yh ya : Vec Ideal S256x1024 .bf16)
  (g : Vec Ideal S1x2048 .f32) (t : Vec Ideal S256x2048 .f32) (o : Vec Ideal S1x2048 .f32)

/-- Row `r` of the sub-block's hidden rows. -/
abbrev hrow (r : Fin 256) : Fin 2048 → EReal :=
  hid (fun k => x (ix2 r k)) (fun k => yh (ix2 r k)) (fun k => ya (ix2 r k)) (fun a b => w (ix2 a b))
/-- The gain as a row. -/
abbrev grow : Fin 2048 → EReal := fun k => g (ix2 0 k)
/-- Row `r` of the target. -/
abbrev trow (r : Fin 256) : Fin 2048 → EReal := fun k => t (ix2 r k)

theorem pay6_apply (r : Fin 256) (l : Fin 2048) : k0_pay6 w x yh ya (ix2 r l) = hrow w x yh ya r l := by
  unfold k0_pay6
  pointwise
  rw [add_assoc]
  rfl

theorem pay8_apply (r : Fin 256) (l : Fin 1) : k0_pay8 w x yh ya (ix2 r l) = rms (hrow w x yh ya r) := by
  unfold k0_pay8
  pointwise [pay6_apply]
  rfl

theorem pay9_apply (r : Fin 256) (l : Fin 2048) :
    k0_pay9 w x yh ya (ix2 r l) = hrow w x yh ya r l * rms (hrow w x yh ya r) := by
  unfold k0_pay9
  pointwise [pay6_apply, pay8_apply]

theorem pay10_apply (r : Fin 256) (l : Fin 2048) :
    k0_pay10 g (k0_pay9 w x yh ya) t (ix2 r l) = err (hrow w x yh ya r) (grow g) (trow t r) l := by
  unfold k0_pay10
  pointwise [pay9_apply]
  rfl

theorem pay12_apply (r : Fin 256) (l : Fin 2048) :
    k0_pay12 g (k0_pay9 w x yh ya) t (ix2 r l) = outGrad (hrow w x yh ya r) (grow g) (trow t r) l := by
  unfold k0_pay12
  pointwise [pay10_apply]
  rfl

/-- The first sub-block's gradient rows. -/
theorem pay14_apply (r : Fin 256) (l : Fin 2048) :
    k0_pay14 g (k0_pay8 w x yh ya) (k0_pay9 w x yh ya) t (ix2 r l) = rowGrad (hrow w x yh ya r) (grow g) (trow t r) l := by
  unfold k0_pay14
  pointwise [pay9_apply, pay8_apply, pay12_apply]
  rfl

theorem pay15_apply (r : Fin 256) (l : Fin 2048) :
    k0_pay15 g (k0_pay8 w x yh ya) (k0_pay9 w x yh ya) t (ix2 r l) = rowGrad (hrow w x yh ya r) (grow g) (trow t r) l := by
  unfold k0_pay15
  pointwise [pay14_apply]

/-- The first sub-block's gradient rows, taken back through the projection. -/
theorem pay16_apply (r : Fin 256) (l : Fin 2048) :
    k0_pay16 w (k0_pay15 g (k0_pay8 w x yh ya) (k0_pay9 w x yh ya) t) (ix2 r l)
      = projGrad (hrow w x yh ya r) (grow g) (trow t r) (fun a b => w (ix2 a b)) l := by
  unfold k0_pay16
  pointwise [pay15_apply]
  rfl

/-- The loss row after the first sub-block. -/
theorem pay11_apply (l : Fin 2048) :
    k0_pay11 g (k0_pay9 w x yh ya) t o (ix2 0 l)
      = o (ix2 0 l) + (∑ r : Fin 256, sqErr (hrow w x yh ya r) (grow g) (trow t r) l) * Ideal.ofBits .f32 0x39800000#32 := by
  unfold k0_pay11
  pointwise [pay10_apply]
  rfl

/-- The gain's gradient after the first sub-block. -/
theorem pay13_apply (l : Fin 2048) :
    k0_pay13 g (k0_pay9 w x yh ya) t o (ix2 0 l)
      = o (ix2 0 l) + ∑ r : Fin 256, gainGrad (hrow w x yh ya r) (grow g) (trow t r) l := by
  unfold k0_pay13
  pointwise [pay12_apply, pay9_apply]
  rfl

/-! The second sub-block's stored values are the first's, of its own rows. -/

theorem pay1_eq : k0_pay1 (k0_pay17 (k0_pay7 w x yh ya)) (k0_pay18 (k0_pay7 w x yh ya)) (k0_pay23 g (k0_pay7 w x yh ya) t)
    = k0_pay14 g (k0_pay8 w x yh ya) (k0_pay9 w x yh ya) t := rfl
theorem pay2_eq : k0_pay2 (k0_pay17 (k0_pay7 w x yh ya)) (k0_pay18 (k0_pay7 w x yh ya)) (k0_pay23 g (k0_pay7 w x yh ya) t)
    = k0_pay15 g (k0_pay8 w x yh ya) (k0_pay9 w x yh ya) t := rfl
theorem pay3_eq : k0_pay3 w (k0_pay17 (k0_pay7 w x yh ya)) (k0_pay18 (k0_pay7 w x yh ya)) (k0_pay23 g (k0_pay7 w x yh ya) t)
    = k0_pay16 w (k0_pay15 g (k0_pay8 w x yh ya) (k0_pay9 w x yh ya) t) := rfl
theorem pay20_eq : k0_pay20 g (k0_pay7 w x yh ya) t o = k0_pay11 g (k0_pay9 w x yh ya) t o := rfl
theorem pay22_eq : k0_pay22 g (k0_pay7 w x yh ya) t o = k0_pay13 g (k0_pay9 w x yh ya) t o := rfl

theorem pay4_apply (l : Fin 2048) : (k0_pay4 (F := Ideal)) (ix2 0 l) = 0 := by
  unfold k0_pay4
  pointwise

theorem pay5_apply (l : Fin 2048) : (k0_pay5 (F := Ideal)) (ix2 0 l) = 0 := by
  unfold k0_pay5
  pointwise

end Cert.KernelIdeal.Pay
-- ==== Proof.Block.lean ====
module

public import proofs.«01_k».proof.Proof.Pay

/-! # What one grid point's block of 512 rows computes

A grid point stores two sub-blocks of 256 rows. Read back together they are the row functions of the
block's 512 rows; the loss row and the gain's gradient have the two sub-blocks' sums added to them. -/

@[expose] public section

noncomputable section

namespace Cert.KernelIdeal.Block

open Cert.KernelIdeal Cert.KernelIdeal.Gen Idealize.ShloMosaic Idealize.ShloMosaic.TcCoe Idealize.SL.Sem Cert.Rows
open Cert.KernelIdeal.Pay (grow)

theorem hz : (![0, 0] : Fin 2 → Nat) = fun _ => 0 := funext fun a => by fin_cases a <;> rfl

/-- Every index of a two-axis shape is its pair of coordinates. -/
theorem eq_pair {n m : Nat} (y : (⟨2, ![n, m]⟩ : Shape).Idx) : ∃ (r : Fin n) (l : Fin m), y = ix2 r l :=
  ⟨y 0, y 1, funext fun a => by fin_cases a <;> rfl⟩

/-- A load of 256 of 512 rows, at a row and a column. -/
theorem ld_rows {e : EltTy} {n : Nat} (X : (⟨2, ![512, n]⟩ : Shape).Idx → Elt Ideal e) (o : Nat)
    (inb : ∀ a, (![o, 0] : Fin 2 → Nat) a + (![256, n] : Fin 2 → Nat) a ≤ (⟨2, ![512, n]⟩ : Shape).size a)
    (r : Fin 256) (k : Fin n) :
    View.ld X (Rect.unit (s := ⟨2, ![512, n]⟩) ![o, 0] ![256, n] inb) (ix2 r k)
      = X (ix2 ⟨o + r.val, by have h := inb 0; have h' : o + 256 ≤ 512 := h; omega⟩ k) :=
  congrArg X (funext fun a => Fin.ext (by
    match a with
    | ⟨0, _⟩ => show o + 1 * r.val = o + r.val; omega
    | ⟨1, _⟩ => show 0 + 1 * k.val = k.val; omega))

/-- Two stored halves of 256 rows, each the matching rows of one function, read back as that function. -/
theorem canon_halves {e : EltTy} (G : S512x2048.Idx → Elt Ideal e) (p q : S256x2048.Idx → Elt Ideal e)
    (i1 : ∀ a, (![256, 0] : Fin 2 → Nat) a + (![256, 2048] : Fin 2 → Nat) a ≤ S512x2048.size a)
    (i0 : ∀ a, (![0, 0] : Fin 2 → Nat) a + (![256, 2048] : Fin 2 → Nat) a ≤ S512x2048.size a)
    (hp : ∀ (r : Fin 256) (l : Fin 2048), p (ix2 r l) = G (ix2 ⟨256 + r.val, by omega⟩ l))
    (hq : ∀ (r : Fin 256) (l : Fin 2048), q (ix2 r l) = G (ix2 ⟨0 + r.val, by omega⟩ l)) :
    View.canon [(⟨Rect.unit ![256, 0] ![256, 2048] i1, p⟩ : View.Piece (Elt Ideal) S512x2048 e), ⟨Rect.unit ![0, 0] ![256, 2048] i0, q⟩] = G := by
  funext y
  refine View.canon_apply_of_pieces G _ ?_ y ?_
  · intro P hP x
    rcases List.mem_cons.mp hP with rfl | hP
    · obtain ⟨r, l, rfl⟩ := eq_pair x
      refine (hp r l).trans (congrArg G (funext fun a => Fin.ext ?_))
      match a with
      | ⟨0, _⟩ => show 256 + r.val = 256 + 1 * r.val; omega
      | ⟨1, _⟩ => show l.val = 0 + 1 * l.val; omega
    · obtain rfl := List.mem_singleton.mp hP
      obtain ⟨r, l, rfl⟩ := eq_pair x
      refine (hq r l).trans (congrArg G (funext fun a => Fin.ext ?_))
      match a with
      | ⟨0, _⟩ => show 0 + r.val = 0 + 1 * r.val; omega
      | ⟨1, _⟩ => show l.val = 0 + 1 * l.val; omega
  · have h0 : (y 0).val < 512 := (y 0).isLt
    have h1 : (y 1).val < 2048 := (y 1).isLt
    by_cases h : 256 ≤ (y 0).val
    · refine ⟨_, List.mem_cons_self, (Rect.mem_set_unit (inb := i1)).mpr fun a => ?_⟩
      match a with
      | ⟨0, _⟩ => exact ⟨h, by show (y 0).val < 256 + 256; omega⟩
      | ⟨1, _⟩ => exact ⟨Nat.zero_le _, by show (y 1).val < 0 + 2048; omega⟩
    · refine ⟨_, List.mem_cons_of_mem _ List.mem_cons_self, (Rect.mem_set_unit (inb := i0)).mpr fun a => ?_⟩
      match a with
      | ⟨0, _⟩ => exact ⟨Nat.zero_le _, by show (y 0).val < 0 + 256; omega⟩
      | ⟨1, _⟩ => exact ⟨Nat.zero_le _, by show (y 1).val < 0 + 2048; omega⟩

section
variable (c : Dev nD) (i : grid0.Coords) (arg1 : Memref sig .tc .vmem S512x2048 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole) (arg10 : Memref sig .tc .vmem S1x2048 .f32) (harg10 : arg10.IsWhole) (arg11 : Memref sig .tc .vmem S1x2048 .f32) (harg11 : arg11.IsWhole)
  (x0 : Vec Ideal S512x2048 .f32) (x1 : Vec Ideal S512x1024 .bf16) (x2 : Vec Ideal S512x1024 .bf16) (x3 : Vec Ideal S2048x2048 .bf16) (x4 : Vec Ideal S1x2048 .f32) (x5 : Vec Ideal S512x2048 .f32) (xo9 : Vec Ideal S1x2048 .f32) (xo10 : Vec Ideal S1x2048 .f32)

/-- Row `r` of a block's hidden rows. -/
abbrev brow (r : Fin 512) : Fin 2048 → EReal :=
  hid (fun k => x0 (ix2 r k)) (fun k => x1 (ix2 r k)) (fun k => x2 (ix2 r k)) (fun a b => x3 (ix2 a b))
/-- Row `r` of a block's target. -/
abbrev btgt (r : Fin 512) : Fin 2048 → EReal := fun k => x5 (ix2 r k)

theorem hrow_ld (o : Nat) (ib : ∀ a, (![o, 0] : Fin 2 → Nat) a + (![256, 2048] : Fin 2 → Nat) a ≤ S512x2048.size a)
    (ih ih' : ∀ a, (![o, 0] : Fin 2 → Nat) a + (![256, 1024] : Fin 2 → Nat) a ≤ S512x1024.size a) (r : Fin 256) :
    Pay.hrow x3 (View.ld x0 (Rect.unit ![o, 0] ![256, 2048] ib)) (View.ld x1 (Rect.unit ![o, 0] ![256, 1024] ih))
        (View.ld x2 (Rect.unit ![o, 0] ![256, 1024] ih')) r
      = brow x0 x1 x2 x3 ⟨o + r.val, by have h := ib 0; have h' : o + 256 ≤ 512 := h; omega⟩ := by
  show hid _ _ _ _ = hid _ _ _ _
  congr 1
  · exact funext fun k => ld_rows x0 o ib r k
  · exact funext fun k => ld_rows x1 o ih r k
  · exact funext fun k => ld_rows x2 o ih' r k

theorem trow_ld (o : Nat) (ib : ∀ a, (![o, 0] : Fin 2 → Nat) a + (![256, 2048] : Fin 2 → Nat) a ≤ S512x2048.size a) (r : Fin 256) :
    Pay.trow (View.ld x5 (Rect.unit ![o, 0] ![256, 2048] ib)) r
      = btgt x5 ⟨o + r.val, by have h := ib 0; have h' : o + 256 ≤ 512 := h; omega⟩ :=
  funext fun k => ld_rows x5 o ib r k

/-- The block's gradient rows. -/
def gradBlk (y : S512x2048.Idx) : EReal := rowGrad (brow x0 x1 x2 x3 (y 0)) (grow x4) (btgt x5 (y 0)) (y 1)
/-- The block's gradient rows, taken back through the projection. -/
def projBlk (y : S512x2048.Idx) : EReal :=
  projGrad (brow x0 x1 x2 x3 (y 0)) (grow x4) (btgt x5 (y 0)) (fun a b => x3 (ix2 a b)) (y 1)
/-- What the block adds to a column of the loss row: its two halves' sums of squared errors, scaled. -/
def lossBlk (l : Fin 2048) : EReal :=
  (∑ r : Fin 256, sqErr (brow x0 x1 x2 x3 ⟨0 + r.val, by omega⟩) (grow x4) (btgt x5 ⟨0 + r.val, by omega⟩) l) * Ideal.ofBits .f32 0x39800000#32
  + (∑ r : Fin 256, sqErr (brow x0 x1 x2 x3 ⟨256 + r.val, by omega⟩) (grow x4) (btgt x5 ⟨256 + r.val, by omega⟩) l) * Ideal.ofBits .f32 0x39800000#32
/-- What the block adds to a column of the gain's gradient. -/
def gainBlk (l : Fin 2048) : EReal :=
  (∑ r : Fin 256, gainGrad (brow x0 x1 x2 x3 ⟨0 + r.val, by omega⟩) (grow x4) (btgt x5 ⟨0 + r.val, by omega⟩) l)
  + ∑ r : Fin 256, gainGrad (brow x0 x1 x2 x3 ⟨256 + r.val, by omega⟩) (grow x4) (btgt x5 ⟨256 + r.val, by omega⟩) l

/-- At the first point: the gradient rows. -/
theorem out_A_6 (hc0 : cond0_0 i) :
    out0_A_6 c i arg1 harg1 arg2 harg2 arg3 harg3 arg4 harg4 arg5 harg5 arg6 harg6 arg7 harg7 arg8 harg8 arg9 harg9 arg10 harg10 arg11 harg11 hc0 x0 x1 x2 x3 x4 x5 = gradBlk x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  refine canon_halves _ _ _ _ _ (fun r l => ?_) (fun r l => ?_)
  · rw [Pay.pay1_eq, Pay.pay14_apply]
    rw [hrow_ld, trow_ld]
    rfl
  · rw [Pay.pay14_apply]
    rw [hrow_ld, trow_ld]
    rfl

/-- At the first point: the gradient rows. -/
theorem out_A_7 (hc0 : cond0_0 i) :
    out0_A_7 c i arg1 harg1 arg2 harg2 arg3 harg3 arg4 harg4 arg5 harg5 arg6 harg6 arg7 harg7 arg8 harg8 arg9 harg9 arg10 harg10 arg11 harg11 hc0 x0 x1 x2 x3 x4 x5 = gradBlk x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  refine canon_halves _ _ _ _ _ (fun r l => ?_) (fun r l => ?_)
  · rw [Pay.pay2_eq, Pay.pay15_apply]
    rw [hrow_ld, trow_ld]
    rfl
  · rw [Pay.pay15_apply]
    rw [hrow_ld, trow_ld]
    rfl

/-- At the first point: the gradient rows through the projection. -/
theorem out_A_8 (hc0 : cond0_0 i) :
    out0_A_8 c i arg1 harg1 arg2 harg2 arg3 harg3 arg4 harg4 arg5 harg5 arg6 harg6 arg7 harg7 arg8 harg8 arg9 harg9 arg10 harg10 arg11 harg11 hc0 x0 x1 x2 x3 x4 x5 = projBlk x0 x1 x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  refine canon_halves _ _ _ _ _ (fun r l => ?_) (fun r l => ?_)
  · rw [Pay.pay3_eq, Pay.pay16_apply]
    rw [hrow_ld, trow_ld]
    rfl
  · rw [Pay.pay16_apply]
    rw [hrow_ld, trow_ld]
    rfl

/-- At the first point: the loss row. -/
theorem out_A_9 (hc0 : cond0_0 i) (l : Fin 2048) :
    out0_A_9 c i arg1 harg1 arg2 harg2 arg3 harg3 arg4 harg4 arg5 harg5 arg6 harg6 arg7 harg7 arg8 harg8 arg9 harg9 arg10 harg10 arg11 harg11 hc0 x0 x1 x2 x3 x4 x5 (ix2 0 l) = lossBlk x0 x1 x2 x3 x4 x5 l := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.canon_cons_unit_zero (S := S1x2048) hz, View.readCov_cons_toLoadRect, View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  rw [Pay.pay20_eq, Pay.pay11_apply, Pay.pay11_apply, Pay.pay4_apply, zero_add]
  simp only [hrow_ld, trow_ld]
  rfl

/-- At the first point: the gain's gradient. -/
theorem out_A_10 (hc0 : cond0_0 i) (l : Fin 2048) :
    out0_A_10 c i arg1 harg1 arg2 harg2 arg3 harg3 arg4 harg4 arg5 harg5 arg6 harg6 arg7 harg7 arg8 harg8 arg9 harg9 arg10 harg10 arg11 harg11 hc0 x0 x1 x2 x3 x4 x5 (ix2 0 l) = gainBlk x0 x1 x2 x3 x4 x5 l := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  simp only [View.canon_cons_unit_zero (S := S1x2048) hz, View.readCov_cons_toLoadRect, View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  rw [Pay.pay22_eq, Pay.pay13_apply, Pay.pay13_apply, Pay.pay5_apply, zero_add]
  simp only [hrow_ld, trow_ld]
  rfl

/-- At a later point: the gradient rows. -/
theorem out_B_6 (hc0 : ¬cond0_0 i) :
    out0_B_6 c i arg1 harg1 arg2 harg2 arg3 harg3 arg4 harg4 arg5 harg5 arg6 harg6 arg7 harg7 arg8 harg8 arg9 harg9 arg10 harg10 arg11 harg11 hc0 x0 x1 x2 x3 x4 x5 xo9 xo10 = gradBlk x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xo9 xo10)]
  unfold kernelRun0_B
  dsimp only
  sl_unfold_words
  simp only [View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  refine canon_halves _ _ _ _ _ (fun r l => ?_) (fun r l => ?_)
  · rw [Pay.pay1_eq, Pay.pay14_apply]
    rw [hrow_ld, trow_ld]
    rfl
  · rw [Pay.pay14_apply]
    rw [hrow_ld, trow_ld]
    rfl

/-- At a later point: the gradient rows. -/
theorem out_B_7 (hc0 : ¬cond0_0 i) :
    out0_B_7 c i arg1 harg1 arg2 harg2 arg3 harg3 arg4 harg4 arg5 harg5 arg6 harg6 arg7 harg7 arg8 harg8 arg9 harg9 arg10 harg10 arg11 harg11 hc0 x0 x1 x2 x3 x4 x5 xo9 xo10 = gradBlk x0 x1 x2 x3 x4 x5 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 xo9 xo10)]
  unfold kernelRun0_B
  dsimp only
  sl_unfold_words
  simp only [View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  refine canon_halves _ _ _ _ _ (fun r l => ?_) (fun r l => ?_)
  · rw [Pay.pay2_eq, Pay.pay15_apply]
    rw [hrow_ld, trow_ld]
    rfl
  · rw [Pay.pay15_apply]
    rw [hrow_ld, trow_ld]
    rfl

/-- At a later point: the gradient rows through the projection. -/
theorem out_B_8 (hc0 : ¬cond0_0 i) :
    out0_B_8 c i arg1 harg1 arg2 harg2 arg3 harg3 arg4 harg4 arg5 harg5 arg6 harg6 arg7 harg7 arg8 harg8 arg9 harg9 arg10 harg10 arg11 harg11 hc0 x0 x1 x2 x3 x4 x5 xo9 xo10 = projBlk x0 x1 x2 x3 x4 x5 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 xo9 xo10)]
  unfold kernelRun0_B
  dsimp only
  sl_unfold_words
  simp only [View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  refine canon_halves _ _ _ _ _ (fun r l => ?_) (fun r l => ?_)
  · rw [Pay.pay3_eq, Pay.pay16_apply]
    rw [hrow_ld, trow_ld]
    rfl
  · rw [Pay.pay16_apply]
    rw [hrow_ld, trow_ld]
    rfl

/-- At a later point: the loss row. -/
theorem out_B_9 (hc0 : ¬cond0_0 i) (l : Fin 2048) :
    out0_B_9 c i arg1 harg1 arg2 harg2 arg3 harg3 arg4 harg4 arg5 harg5 arg6 harg6 arg7 harg7 arg8 harg8 arg9 harg9 arg10 harg10 arg11 harg11 hc0 x0 x1 x2 x3 x4 x5 xo9 xo10 (ix2 0 l) = xo9 (ix2 0 l) + lossBlk x0 x1 x2 x3 x4 x5 l := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 xo9 xo10)]
  unfold kernelRun0_B
  dsimp only
  sl_unfold_words
  simp only [View.canon_cons_unit_zero (S := S1x2048) hz, View.readCov_cons_toLoadRect, View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  rw [Pay.pay20_eq, Pay.pay11_apply, Pay.pay11_apply, add_assoc]
  simp only [hrow_ld, trow_ld]
  rfl

/-- At a later point: the gain's gradient. -/
theorem out_B_10 (hc0 : ¬cond0_0 i) (l : Fin 2048) :
    out0_B_10 c i arg1 harg1 arg2 harg2 arg3 harg3 arg4 harg4 arg5 harg5 arg6 harg6 arg7 harg7 arg8 harg8 arg9 harg9 arg10 harg10 arg11 harg11 hc0 x0 x1 x2 x3 x4 x5 xo9 xo10 (ix2 0 l) = xo10 (ix2 0 l) + gainBlk x0 x1 x2 x3 x4 x5 l := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 xo9 xo10)]
  unfold kernelRun0_B
  dsimp only
  sl_unfold_words
  simp only [View.canon_cons_unit_zero (S := S1x2048) hz, View.readCov_cons_toLoadRect, View.readAt_eq_ld, harg1.read_unread, harg2.read_unread, harg3.read_unread, harg4.read_unread, harg5.read_unread, harg6.read_unread, harg10.read_unread, harg11.read_unread, shapeCast_self, View.ld_unit_zero (S := S2048x2048) hz, View.ld_unit_zero (S := S1x2048) hz]
  rw [Pay.pay22_eq, Pay.pay13_apply, Pay.pay13_apply, add_assoc]
  simp only [hrow_ld, trow_ld]
  rfl

end

end Cert.KernelIdeal.Block
-- ==== Proof.Arrays.lean ====
module

public import proofs.«01_k».proof.Proof.Block

/-! # What the result arrays hold after the kernel

Block by block the three wide results are the row functions of the arrays' rows. The loss row and the
gain's gradient are carried from grid point to grid point: by induction on the point, each holds the sum
over the blocks up to it. -/

@[expose] public section

noncomputable section

namespace Cert.KernelIdeal.Arrays

open Cert.KernelIdeal Cert.KernelIdeal.Gen Idealize.ShloMosaic Idealize.ShloMosaic.TcCoe Idealize.SL.Sem Cert.Rows
open Cert.KernelIdeal.Block

variable (m : (ℓ : Loc nD τ sig) → Buf (Elt Ideal) ℓ) (c : Dev nD)

abbrev X : S8192x2048.Idx → EReal := m (c.tc.loc main_arg0)
abbrev YH : S8192x1024.Idx → EReal := m (c.tc.loc main_arg1)
abbrev YA : S8192x1024.Idx → EReal := m (c.tc.loc main_arg2)
abbrev W : S2048x2048.Idx → EReal := m (c.tc.loc main_arg3)
abbrev G : S1x2048.Idx → EReal := m (c.tc.loc main_arg4)
abbrev T : S8192x2048.Idx → EReal := m (c.tc.loc main_arg5)

theorem idx0 : ∀ t : Fin grid0.N, win0_0.index t 0 = t.val ∧ win0_0.index t 1 = 0 := by decide
theorem idx1 : ∀ t : Fin grid0.N, win0_1.index t 0 = t.val ∧ win0_1.index t 1 = 0 := by decide
theorem idx2 : ∀ t : Fin grid0.N, win0_2.index t 0 = t.val ∧ win0_2.index t 1 = 0 := by decide
theorem idx3 : ∀ t : Fin grid0.N, win0_3.index t 0 = 0 ∧ win0_3.index t 1 = 0 := by decide
theorem idx4 : ∀ t : Fin grid0.N, win0_4.index t 0 = 0 ∧ win0_4.index t 1 = 0 := by decide
theorem idx5 : ∀ t : Fin grid0.N, win0_5.index t 0 = t.val ∧ win0_5.index t 1 = 0 := by decide

theorem lt16 (t : Fin cfg0.N) : t.val < 16 := lt_of_lt_of_eq t.isLt N_0

/-- Row `r` of block `t` is row `512 t + r` of the array. -/
abbrev at_ (t : Fin cfg0.N) (r : Fin 512) : Fin 8192 := ⟨512 * t.val + r.val, by have := lt16 t; omega⟩

theorem iblk0 (t : Fin cfg0.N) (r : Fin 512) (l : Fin 2048) : iblk m c 0 t (ix2 r l) = X m c (ix2 (at_ t r) l) := by
  unfold iblk
  rw [View.read_apply]
  show V m c main_arg0 _ = _
  unfold V
  refine congrArg (m (c.tc.loc main_arg0)) (funext fun a => Fin.ext ?_)
  match a with
  | ⟨0, _⟩ => show win0_0.index t 0 * 512 + 1 * r.val = 512 * t.val + r.val; rw [(idx0 t).1]; omega
  | ⟨1, _⟩ => show win0_0.index t 1 * 2048 + 1 * l.val = l.val; rw [(idx0 t).2]; omega
theorem iblk1 (t : Fin cfg0.N) (r : Fin 512) (l : Fin 1024) : iblk m c 1 t (ix2 r l) = YH m c (ix2 (at_ t r) l) := by
  unfold iblk
  rw [View.read_apply]
  show V m c main_arg1 _ = _
  unfold V
  refine congrArg (m (c.tc.loc main_arg1)) (funext fun a => Fin.ext ?_)
  match a with
  | ⟨0, _⟩ => show win0_1.index t 0 * 512 + 1 * r.val = 512 * t.val + r.val; rw [(idx1 t).1]; omega
  | ⟨1, _⟩ => show win0_1.index t 1 * 1024 + 1 * l.val = l.val; rw [(idx1 t).2]; omega
theorem iblk2 (t : Fin cfg0.N) (r : Fin 512) (l : Fin 1024) : iblk m c 2 t (ix2 r l) = YA m c (ix2 (at_ t r) l) := by
  unfold iblk
  rw [View.read_apply]
  show V m c main_arg2 _ = _
  unfold V
  refine congrArg (m (c.tc.loc main_arg2)) (funext fun a => Fin.ext ?_)
  match a with
  | ⟨0, _⟩ => show win0_2.index t 0 * 512 + 1 * r.val = 512 * t.val + r.val; rw [(idx2 t).1]; omega
  | ⟨1, _⟩ => show win0_2.index t 1 * 1024 + 1 * l.val = l.val; rw [(idx2 t).2]; omega
theorem iblk3 (t : Fin cfg0.N) (r : Fin 2048) (l : Fin 2048) : iblk m c 3 t (ix2 r l) = W m c (ix2 r l) := by
  unfold iblk
  rw [View.read_apply]
  show V m c main_arg3 _ = _
  unfold V
  refine congrArg (m (c.tc.loc main_arg3)) (funext fun a => Fin.ext ?_)
  match a with
  | ⟨0, _⟩ => show win0_3.index t 0 * 2048 + 1 * r.val = r.val; rw [(idx3 t).1]; omega
  | ⟨1, _⟩ => show win0_3.index t 1 * 2048 + 1 * l.val = l.val; rw [(idx3 t).2]; omega
theorem iblk4 (t : Fin cfg0.N) (l : Fin 2048) : iblk m c 4 t (ix2 0 l) = G m c (ix2 0 l) := by
  unfold iblk
  rw [View.read_apply]
  show V m c main_arg4 _ = _
  unfold V
  refine congrArg (m (c.tc.loc main_arg4)) (funext fun a => Fin.ext ?_)
  match a with
  | ⟨0, _⟩ => show win0_4.index t 0 * 1 + 1 * 0 = 0; rw [(idx4 t).1]
  | ⟨1, _⟩ => show win0_4.index t 1 * 2048 + 1 * l.val = l.val; rw [(idx4 t).2]; omega
theorem iblk5 (t : Fin cfg0.N) (r : Fin 512) (l : Fin 2048) : iblk m c 5 t (ix2 r l) = T m c (ix2 (at_ t r) l) := by
  unfold iblk
  rw [View.read_apply]
  show V m c main_arg5 _ = _
  unfold V
  refine congrArg (m (c.tc.loc main_arg5)) (funext fun a => Fin.ext ?_)
  match a with
  | ⟨0, _⟩ => show win0_5.index t 0 * 512 + 1 * r.val = 512 * t.val + r.val; rw [(idx5 t).1]; omega
  | ⟨1, _⟩ => show win0_5.index t 1 * 2048 + 1 * l.val = l.val; rw [(idx5 t).2]; omega

/-- Row `n` of the arrays' hidden rows. -/
abbrev arow (n : Fin 8192) : Fin 2048 → EReal :=
  hid (fun k => X m c (ix2 n k)) (fun k => YH m c (ix2 n k)) (fun k => YA m c (ix2 n k)) (fun a b => W m c (ix2 a b))
abbrev gain : Fin 2048 → EReal := fun k => G m c (ix2 0 k)
abbrev tgt (n : Fin 8192) : Fin 2048 → EReal := fun k => T m c (ix2 n k)
abbrev proj : Fin 2048 → Fin 2048 → EReal := fun a b => W m c (ix2 a b)

theorem brow_iblk (t : Fin cfg0.N) (r : Fin 512) :
    brow (iblk m c 0 t) (iblk m c 1 t) (iblk m c 2 t) (iblk m c 3 t) r = arow m c (at_ t r) := by
  show hid _ _ _ _ = hid _ _ _ _
  congr 1
  · exact funext fun k => iblk0 m c t r k
  · exact funext fun k => iblk1 m c t r k
  · exact funext fun k => iblk2 m c t r k
  · exact funext fun a => funext fun b => iblk3 m c t a b
theorem grow_iblk (t : Fin cfg0.N) : Pay.grow (iblk m c 4 t) = gain m c := funext fun k => iblk4 m c t k
theorem btgt_iblk (t : Fin cfg0.N) (r : Fin 512) : btgt (iblk m c 5 t) r = tgt m c (at_ t r) := funext fun k => iblk5 m c t r k

/-- The whole array of gradient rows. -/
def gradArr (y : S8192x2048.Idx) : EReal := rowGrad (arow m c (y 0)) (gain m c) (tgt m c (y 0)) (y 1)
/-- The whole array of gradient rows taken back through the projection. -/
def projArr (y : S8192x2048.Idx) : EReal := projGrad (arow m c (y 0)) (gain m c) (tgt m c (y 0)) (proj m c) (y 1)

theorem gradBlk_iblk (t : Fin cfg0.N) (r : Fin 512) (l : Fin 2048) :
    gradBlk (iblk m c 0 t) (iblk m c 1 t) (iblk m c 2 t) (iblk m c 3 t) (iblk m c 4 t) (iblk m c 5 t) (ix2 r l)
      = gradArr m c (ix2 (at_ t r) l) := by
  show rowGrad (brow _ _ _ _ r) (Pay.grow _) (btgt _ r) l = rowGrad _ _ _ _
  rw [brow_iblk, grow_iblk, btgt_iblk]
  rfl
theorem projBlk_iblk (t : Fin cfg0.N) (r : Fin 512) (l : Fin 2048) :
    projBlk (iblk m c 0 t) (iblk m c 1 t) (iblk m c 2 t) (iblk m c 3 t) (iblk m c 4 t) (iblk m c 5 t) (ix2 r l)
      = projArr m c (ix2 (at_ t r) l) := by
  show projGrad (brow _ _ _ _ r) (Pay.grow _) (btgt _ r) _ l = projGrad _ _ _ _ _
  rw [brow_iblk, grow_iblk, btgt_iblk, show (fun a b => iblk m c 3 t (ix2 a b)) = proj m c from
    funext fun a => funext fun b => iblk3 m c t a b]
  rfl

end Cert.KernelIdeal.Arrays
-- ==== Proof.Finals.lean ====
module

public import proofs.«01_k».proof.Proof.Arrays

/-! # The five result arrays after the kernel's run -/

@[expose] public section

noncomputable section

namespace Cert.KernelIdeal.Finals

open Cert.KernelIdeal Cert.KernelIdeal.Gen Cert.KernelIdeal.Value Idealize.ShloMosaic Idealize.ShloMosaic.TcCoe Idealize.SL.Sem Cert.Rows
open Cert.KernelIdeal.Block Cert.KernelIdeal.Arrays
open Idealize.ShloMosaic.Pipeline (Dat)

variable (m : (ℓ : Loc nD τ sig) → Buf (Elt Ideal) ℓ) (ρ : Dev nD → PrngReg) (c : Dev nD)

theorem idx6 : ∀ t : Fin grid0.N, win0_6.index t 0 = t.val ∧ win0_6.index t 1 = 0 := by decide

/-- What point `t` writes back to result 0 is block `t` of the whole array. -/
theorem wrote6 (t : Fin cfg0.N) : (dats m 0 c).flushed 6 t = ((cfg0.win 6).blk t).view.read (Elt Ideal) (gradArr m c) := by
  have h : (dats m 0 c).flushed 6 t = (cfg0.win 6).cut (grid0.coords t)
      (gradBlk (iblk m c 0 t) (iblk m c 1 t) (iblk m c 2 t) (iblk m c 3 t) (iblk m c 4 t) (iblk m c 5 t)) := by
    by_cases h0 : t.val % 16 = 0
    · rw [flushed6_A m c t h0, out_A_6]
    · rw [flushed6_B m c t h0, out_B_6]
  rw [h]
  funext y
  rw [View.read_apply]
  obtain ⟨r, l, rfl⟩ := eq_pair (n := 512) (m := 2048) y
  refine (show _ = gradBlk _ _ _ _ _ _ (ix2 r l) from rfl).trans (((gradBlk_iblk m c t r l)).trans ?_)
  refine congrArg (gradArr m c) (funext fun a => Fin.ext ?_)
  match a with
  | ⟨0, _⟩ => show 512 * t.val + r.val = win0_6.index t 0 * 512 + 1 * r.val; rw [(idx6 t).1]; omega
  | ⟨1, _⟩ => show l.val = win0_6.index t 1 * 2048 + 1 * l.val; rw [(idx6 t).2]; omega

/-- Result 0 after the run. -/
theorem final6 : (dats m 0 c).arrAt 6 cfg0.N = gradArr m c :=
  (dats m 0 c).arrAt_eq_of_cover 6 (gradArr m c) (fun t _ => wrote6 m c t) fun i => by
    have h0 : (i 0 : Nat) < 8192 := (i 0).isLt
    have h1 : (i 1 : Nat) < 2048 := (i 1).isLt
    have ht : (i 0 : Nat) / 512 < cfg0.N := lt_of_lt_of_eq (by omega) N_0.symm
    refine ⟨⟨(i 0 : Nat) / 512, ht⟩, flush0_6 _, ?_⟩
    show i ∈ ((View.whole main_v0_0).slice (win0_6.rect ⟨(i 0 : Nat) / 512, ht⟩)).set
    rw [View.set_slice_whole, Rect.mem_set_unit]
    intro a
    match a with
    | ⟨0, _⟩ =>
      show win0_6.index _ 0 * 512 ≤ (i 0 : Nat) ∧ (i 0 : Nat) < win0_6.index _ 0 * 512 + 512
      rw [(idx6 _).1]; dsimp only; omega
    | ⟨1, _⟩ =>
      show win0_6.index _ 1 * 2048 ≤ (i 1 : Nat) ∧ (i 1 : Nat) < win0_6.index _ 1 * 2048 + 2048
      rw [(idx6 _).2]; omega

theorem idx7 : ∀ t : Fin grid0.N, win0_7.index t 0 = t.val ∧ win0_7.index t 1 = 0 := by decide

/-- What point `t` writes back to result 1 is block `t` of the whole array. -/
theorem wrote7 (t : Fin cfg0.N) : (dats m 0 c).flushed 7 t = ((cfg0.win 7).blk t).view.read (Elt Ideal) (gradArr m c) := by
  have h : (dats m 0 c).flushed 7 t = (cfg0.win 7).cut (grid0.coords t)
      (gradBlk (iblk m c 0 t) (iblk m c 1 t) (iblk m c 2 t) (iblk m c 3 t) (iblk m c 4 t) (iblk m c 5 t)) := by
    by_cases h0 : t.val % 16 = 0
    · rw [flushed7_A m c t h0, out_A_7]
    · rw [flushed7_B m c t h0, out_B_7]
  rw [h]
  funext y
  rw [View.read_apply]
  obtain ⟨r, l, rfl⟩ := eq_pair (n := 512) (m := 2048) y
  refine (show _ = gradBlk _ _ _ _ _ _ (ix2 r l) from rfl).trans (((gradBlk_iblk m c t r l)).trans ?_)
  refine congrArg (gradArr m c) (funext fun a => Fin.ext ?_)
  match a with
  | ⟨0, _⟩ => show 512 * t.val + r.val = win0_7.index t 0 * 512 + 1 * r.val; rw [(idx7 t).1]; omega
  | ⟨1, _⟩ => show l.val = win0_7.index t 1 * 2048 + 1 * l.val; rw [(idx7 t).2]; omega

/-- Result 1 after the run. -/
theorem final7 : (dats m 0 c).arrAt 7 cfg0.N = gradArr m c :=
  (dats m 0 c).arrAt_eq_of_cover 7 (gradArr m c) (fun t _ => wrote7 m c t) fun i => by
    have h0 : (i 0 : Nat) < 8192 := (i 0).isLt
    have h1 : (i 1 : Nat) < 2048 := (i 1).isLt
    have ht : (i 0 : Nat) / 512 < cfg0.N := lt_of_lt_of_eq (by omega) N_0.symm
    refine ⟨⟨(i 0 : Nat) / 512, ht⟩, flush0_7 _, ?_⟩
    show i ∈ ((View.whole main_v0_1).slice (win0_7.rect ⟨(i 0 : Nat) / 512, ht⟩)).set
    rw [View.set_slice_whole, Rect.mem_set_unit]
    intro a
    match a with
    | ⟨0, _⟩ =>
      show win0_7.index _ 0 * 512 ≤ (i 0 : Nat) ∧ (i 0 : Nat) < win0_7.index _ 0 * 512 + 512
      rw [(idx7 _).1]; dsimp only; omega
    | ⟨1, _⟩ =>
      show win0_7.index _ 1 * 2048 ≤ (i 1 : Nat) ∧ (i 1 : Nat) < win0_7.index _ 1 * 2048 + 2048
      rw [(idx7 _).2]; omega

theorem idx8 : ∀ t : Fin grid0.N, win0_8.index t 0 = t.val ∧ win0_8.index t 1 = 0 := by decide

/-- What point `t` writes back to result 2 is block `t` of the whole array. -/
theorem wrote8 (t : Fin cfg0.N) : (dats m 0 c).flushed 8 t = ((cfg0.win 8).blk t).view.read (Elt Ideal) (projArr m c) := by
  have h : (dats m 0 c).flushed 8 t = (cfg0.win 8).cut (grid0.coords t)
      (projBlk (iblk m c 0 t) (iblk m c 1 t) (iblk m c 2 t) (iblk m c 3 t) (iblk m c 4 t) (iblk m c 5 t)) := by
    by_cases h0 : t.val % 16 = 0
    · rw [flushed8_A m c t h0, out_A_8]
    · rw [flushed8_B m c t h0, out_B_8]
  rw [h]
  funext y
  rw [View.read_apply]
  obtain ⟨r, l, rfl⟩ := eq_pair (n := 512) (m := 2048) y
  refine (show _ = projBlk _ _ _ _ _ _ (ix2 r l) from rfl).trans (((projBlk_iblk m c t r l)).trans ?_)
  refine congrArg (projArr m c) (funext fun a => Fin.ext ?_)
  match a with
  | ⟨0, _⟩ => show 512 * t.val + r.val = win0_8.index t 0 * 512 + 1 * r.val; rw [(idx8 t).1]; omega
  | ⟨1, _⟩ => show l.val = win0_8.index t 1 * 2048 + 1 * l.val; rw [(idx8 t).2]; omega

/-- Result 2 after the run. -/
theorem final8 : (dats m 0 c).arrAt 8 cfg0.N = projArr m c :=
  (dats m 0 c).arrAt_eq_of_cover 8 (projArr m c) (fun t _ => wrote8 m c t) fun i => by
    have h0 : (i 0 : Nat) < 8192 := (i 0).isLt
    have h1 : (i 1 : Nat) < 2048 := (i 1).isLt
    have ht : (i 0 : Nat) / 512 < cfg0.N := lt_of_lt_of_eq (by omega) N_0.symm
    refine ⟨⟨(i 0 : Nat) / 512, ht⟩, flush0_8 _, ?_⟩
    show i ∈ ((View.whole main_v0_2).slice (win0_8.rect ⟨(i 0 : Nat) / 512, ht⟩)).set
    rw [View.set_slice_whole, Rect.mem_set_unit]
    intro a
    match a with
    | ⟨0, _⟩ =>
      show win0_8.index _ 0 * 512 ≤ (i 0 : Nat) ∧ (i 0 : Nat) < win0_8.index _ 0 * 512 + 512
      rw [(idx8 _).1]; dsimp only; omega
    | ⟨1, _⟩ =>
      show win0_8.index _ 1 * 2048 ≤ (i 1 : Nat) ∧ (i 1 : Nat) < win0_8.index _ 1 * 2048 + 2048
      rw [(idx8 _).2]; omega

/-! ## The two rows carried from point to point -/

/-- What point `t` adds to a column of the loss row. -/
abbrev lossPt (t : Fin cfg0.N) (l : Fin 2048) : EReal :=
  lossBlk (iblk m c 0 t) (iblk m c 1 t) (iblk m c 2 t) (iblk m c 3 t) (iblk m c 4 t) (iblk m c 5 t) l
/-- What point `t` adds to a column of the gain's gradient. -/
abbrev gainPt (t : Fin cfg0.N) (l : Fin 2048) : EReal :=
  gainBlk (iblk m c 0 t) (iblk m c 1 t) (iblk m c 2 t) (iblk m c 3 t) (iblk m c 4 t) (iblk m c 5 t) l

theorem first9 (t : Fin cfg0.N) (h0 : t.val % 16 = 0) (l : Fin 2048) :
    (outsAt0 m c t.val t.isLt).2.2.2.1 (ix2 0 l) = lossPt m c t l := by
  simp only [outsAt0_A m c t h0]
  rw [out_A_9]
theorem first10 (t : Fin cfg0.N) (h0 : t.val % 16 = 0) (l : Fin 2048) :
    (outsAt0 m c t.val t.isLt).2.2.2.2 (ix2 0 l) = gainPt m c t l := by
  simp only [outsAt0_A m c t h0]
  rw [out_A_10]
theorem next9 (t : Fin cfg0.N) (h0 : ¬t.val % 16 = 0) (l : Fin 2048) :
    (outsAt0 m c t.val t.isLt).2.2.2.1 (ix2 0 l)
      = (outsAt0 m c (t.val - 1) (Nat.lt_of_le_of_lt (Nat.sub_le _ _) t.isLt)).2.2.2.1 (ix2 0 l) + lossPt m c t l := by
  simp only [outsAt0_B m c t h0]
  rw [out_B_9]
theorem next10 (t : Fin cfg0.N) (h0 : ¬t.val % 16 = 0) (l : Fin 2048) :
    (outsAt0 m c t.val t.isLt).2.2.2.2 (ix2 0 l)
      = (outsAt0 m c (t.val - 1) (Nat.lt_of_le_of_lt (Nat.sub_le _ _) t.isLt)).2.2.2.2 (ix2 0 l) + gainPt m c t l := by
  simp only [outsAt0_B m c t h0]
  rw [out_B_10]

/-- After point `n` the two rows hold the sums over the points up to `n`. -/
theorem rows_eq (l : Fin 2048) : ∀ (n : ℕ) (h : n < cfg0.N),
    (outsAt0 m c n h).2.2.2.1 (ix2 0 l) = ∑ t : Fin (n + 1), lossPt m c ⟨t.val, by omega⟩ l
    ∧ (outsAt0 m c n h).2.2.2.2 (ix2 0 l) = ∑ t : Fin (n + 1), gainPt m c ⟨t.val, by omega⟩ l
  | 0, h => by
    refine ⟨(first9 m c ⟨0, h⟩ rfl l).trans ?_, (first10 m c ⟨0, h⟩ rfl l).trans ?_⟩
    · rw [Fin.sum_univ_one]; rfl
    · rw [Fin.sum_univ_one]; rfl
  | n + 1, h => by
    have hN : cfg0.N = 16 := N_0
    have hB : ¬(⟨n + 1, h⟩ : Fin cfg0.N).val % 16 = 0 := by dsimp only; omega
    have ih := rows_eq l n (Nat.lt_of_succ_lt h)
    refine ⟨(next9 m c ⟨n + 1, h⟩ hB l).trans ?_, (next10 m c ⟨n + 1, h⟩ hB l).trans ?_⟩
    · rw [Fin.sum_univ_castSucc]
      exact congrArg (· + lossPt m c ⟨n + 1, h⟩ l) ih.1
    · rw [Fin.sum_univ_castSucc]
      exact congrArg (· + gainPt m c ⟨n + 1, h⟩ l) ih.2

/-- The whole loss row. -/
def lossArr (y : S1x2048.Idx) : EReal := ∑ t : Fin cfg0.N, lossPt m c t (y 1)
/-- The whole row of the gain's gradient. -/
def gainArr (y : S1x2048.Idx) : EReal := ∑ t : Fin cfg0.N, gainPt m c t (y 1)

theorem idx9 : ∀ t : Fin grid0.N, win0_9.index t 0 = 0 ∧ win0_9.index t 1 = 0 := by decide

/-- The last point writes back the whole row. -/
theorem wrote9 (t : Fin cfg0.N) (hf : (cfg0.win 9).flush t = true) :
    (dats m 0 c).flushed 9 t = ((cfg0.win 9).blk t).view.read (Elt Ideal) (lossArr m c) := by
  have hN : cfg0.N = 16 := N_0
  have h15 : t.val = 15 := by have := (flush0_9 t).mp hf; have := t.isLt; omega
  rw [flushed9]
  funext y
  rw [View.read_apply]
  obtain ⟨r, l, rfl⟩ := eq_pair (n := 1) (m := 2048) y
  obtain rfl : r = 0 := Subsingleton.elim _ _
  have h := (rows_eq m c l t.val t.isLt).1
  refine (show _ = (outsAt0 m c t.val t.isLt).2.2.2.1 (ix2 0 l) from rfl).trans (h.trans ?_)
  refine (?_ : _ = lossArr m c (ix2 0 l)).trans (congrArg (lossArr m c) (funext fun a => Fin.ext ?_))
  · obtain ⟨tv, ht⟩ := t
    obtain rfl : tv = 15 := h15
    exact rfl
  · match a with
    | ⟨0, _⟩ => show 0 = win0_9.index t 0 * 1 + 1 * 0; rw [(idx9 t).1]
    | ⟨1, _⟩ => show l.val = win0_9.index t 1 * 2048 + 1 * l.val; rw [(idx9 t).2]; omega

/-- Result 3 after the run. -/
theorem final9 : (dats m 0 c).arrAt 9 cfg0.N = lossArr m c :=
  (dats m 0 c).arrAt_eq_of_cover 9 (lossArr m c) (wrote9 m c) fun i => by
    have h0 : (i 0 : Nat) < 1 := (i 0).isLt
    have h1 : (i 1 : Nat) < 2048 := (i 1).isLt
    have ht : 15 < cfg0.N := lt_of_lt_of_eq (by omega) N_0.symm
    refine ⟨⟨15, ht⟩, (flush0_9 _).mpr rfl, ?_⟩
    show i ∈ ((View.whole main_v0_3).slice (win0_9.rect ⟨15, ht⟩)).set
    rw [View.set_slice_whole, Rect.mem_set_unit]
    intro a
    match a with
    | ⟨0, _⟩ =>
      show win0_9.index _ 0 * 1 ≤ (i 0 : Nat) ∧ (i 0 : Nat) < win0_9.index _ 0 * 1 + 1
      rw [(idx9 _).1]; omega
    | ⟨1, _⟩ =>
      show win0_9.index _ 1 * 2048 ≤ (i 1 : Nat) ∧ (i 1 : Nat) < win0_9.index _ 1 * 2048 + 2048
      rw [(idx9 _).2]; omega

theorem idx10 : ∀ t : Fin grid0.N, win0_10.index t 0 = 0 ∧ win0_10.index t 1 = 0 := by decide

/-- The last point writes back the whole row. -/
theorem wrote10 (t : Fin cfg0.N) (hf : (cfg0.win 10).flush t = true) :
    (dats m 0 c).flushed 10 t = ((cfg0.win 10).blk t).view.read (Elt Ideal) (gainArr m c) := by
  have hN : cfg0.N = 16 := N_0
  have h15 : t.val = 15 := by have := (flush0_10 t).mp hf; have := t.isLt; omega
  rw [flushed10]
  funext y
  rw [View.read_apply]
  obtain ⟨r, l, rfl⟩ := eq_pair (n := 1) (m := 2048) y
  obtain rfl : r = 0 := Subsingleton.elim _ _
  have h := (rows_eq m c l t.val t.isLt).2
  refine (show _ = (outsAt0 m c t.val t.isLt).2.2.2.2 (ix2 0 l) from rfl).trans (h.trans ?_)
  refine (?_ : _ = gainArr m c (ix2 0 l)).trans (congrArg (gainArr m c) (funext fun a => Fin.ext ?_))
  · obtain ⟨tv, ht⟩ := t
    obtain rfl : tv = 15 := h15
    exact rfl
  · match a with
    | ⟨0, _⟩ => show 0 = win0_10.index t 0 * 1 + 1 * 0; rw [(idx10 t).1]
    | ⟨1, _⟩ => show l.val = win0_10.index t 1 * 2048 + 1 * l.val; rw [(idx10 t).2]; omega

/-- Result 4 after the run. -/
theorem final10 : (dats m 0 c).arrAt 10 cfg0.N = gainArr m c :=
  (dats m 0 c).arrAt_eq_of_cover 10 (gainArr m c) (wrote10 m c) fun i => by
    have h0 : (i 0 : Nat) < 1 := (i 0).isLt
    have h1 : (i 1 : Nat) < 2048 := (i 1).isLt
    have ht : 15 < cfg0.N := lt_of_lt_of_eq (by omega) N_0.symm
    refine ⟨⟨15, ht⟩, (flush0_10 _).mpr rfl, ?_⟩
    show i ∈ ((View.whole main_v0_4).slice (win0_10.rect ⟨15, ht⟩)).set
    rw [View.set_slice_whole, Rect.mem_set_unit]
    intro a
    match a with
    | ⟨0, _⟩ =>
      show win0_10.index _ 0 * 1 ≤ (i 0 : Nat) ∧ (i 0 : Nat) < win0_10.index _ 0 * 1 + 1
      rw [(idx10 _).1]; omega
    | ⟨1, _⟩ =>
      show win0_10.index _ 1 * 2048 ≤ (i 1 : Nat) ∧ (i 1 : Nat) < win0_10.index _ 1 * 2048 + 2048
      rw [(idx10 _).2]; omega

end Cert.KernelIdeal.Finals
-- ==== Proof.Ref.lean ====
module

public import proofs.«01_k».proof.Proof.Gen.ReferenceIdeal.Read
public import proofs.«01_k».proof.Proof.Rows
public import Idealize.ShloMosaic.Lib.Tactic

/-! # What the reference computes, row by row

The reference takes the derivative of the plain loss; its backward pass is written here as a function of
one hidden row `a`, the gain `g` and the target row `t`, in the order of the reference's own operations. -/

@[expose] public noncomputable section

namespace Cert.ReferenceIdeal.Ref

open Cert.ReferenceIdeal Cert.ReferenceIdeal.Read Idealize.ShloMosaic Idealize.ShloMosaic.TcCoe Idealize.SL.Sem Cert.Rows

/-- The mean square of a row, with the normaliser's small constant added. -/
def var (a : Fin 2048 → EReal) : EReal :=
  Ideal.div (∑ k, a k * a k) (Ideal.ofBits .f32 0x45000000#32) + Ideal.ofBits .f32 0x358637BD#32

/-- The cotangent of the normalised row, as the derivative of the halved square has it. -/
def outCt (a g t : Fin 2048 → EReal) (l : Fin 2048) : EReal :=
  Ideal.ofBits .f32 0x3F000000#32
      * Ideal.div 1 (Ideal.ofBits .f32 0x45000000#32)
    * (Ideal.ofBits .f32 0x40000000#32 * err a g t l)

/-- The cotangent that the reciprocal root hands to each square of the row. -/
def varCt (a g t : Fin 2048 → EReal) : EReal :=
  Ideal.div ((∑ k, a k * (outCt a g t k * g k))
      * (Ideal.ofBits .f32 0xBF000000#32 * Ideal.div (rms a) (var a))) (Ideal.ofBits .f32 0x45000000#32)

/-- The cotangent of the hidden row. -/
def rowCt (a g t : Fin 2048 → EReal) (l : Fin 2048) : EReal :=
  outCt a g t l * g l * rms a + a l * varCt a g t + varCt a g t * a l

variable (x : Vec Ideal S8192x2048 .f32) (yh ya : Vec Ideal S8192x1024 .bf16) (w : Vec Ideal S2048x2048 .bf16)
  (g : Vec Ideal S1x2048 .f32) (t : Vec Ideal S8192x2048 .f32)

/-- A hidden row of the reference: the residual plus the projected concatenation. -/
def href (n : Fin 8192) : Fin 2048 → EReal :=
  hid (fun l => x (ix2 n l)) (fun k => yh (ix2 n k)) (fun k => ya (ix2 n k)) (fun k l => w (ix2 k l))

/-- The gain as a row. -/
def gref : Fin 2048 → EReal := fun l => g (ix2 0 l)

/-- A target row. -/
def tref (n : Fin 8192) : Fin 2048 → EReal := fun l => t (ix2 n l)

theorem v5_apply (n : Fin 8192) (l : Fin 2048) :
    val_main_v5 (F := Ideal) x yh ya w (ix2 n l) = href x yh ya w n l := by
  unfold val_main_v5 val_main_v4 val_main_v2 val_main_v3 val_main_v0 val_main_v1
  pointwise
  rfl

theorem v12_apply (n : Fin 8192) (l : Fin 1) :
    val_main_v12 (F := Ideal) x yh ya w (ix2 n l) = var (href x yh ya w n) := by
  unfold val_main_v12 val_main_v11 val_main_v10 val_main_v9 val_main_v8 val_main_v7 val_main_v6 val_main_cst
    val_main_cst_0 val_main_cst_1
  pointwise [v5_apply]
  rfl

theorem v13_apply (n : Fin 8192) (l : Fin 1) :
    val_main_v13 (F := Ideal) x yh ya w (ix2 n l) = rms (href x yh ya w n) := by
  unfold val_main_v13
  pointwise [v12_apply]
  rfl

theorem v16_apply (n : Fin 8192) (l : Fin 1) :
    val_main_v16 (F := Ideal) x yh ya w (ix2 n l)
      = Ideal.ofBits .f32 0xBF000000#32 * Ideal.div (rms (href x yh ya w n)) (var (href x yh ya w n)) := by
  unfold val_main_v16 val_main_v15 val_main_v14 val_main_cst_2
  pointwise [v12_apply, v13_apply]

theorem v18_apply (n : Fin 8192) (l : Fin 2048) :
    val_main_v18 (F := Ideal) x yh ya w (ix2 n l) = href x yh ya w n l * rms (href x yh ya w n) := by
  unfold val_main_v18 val_main_v17
  pointwise [v5_apply, v13_apply]

theorem v21_apply (n : Fin 8192) (l : Fin 2048) :
    val_main_v21 (F := Ideal) x yh ya w g t (ix2 n l) = err (href x yh ya w n) (gref g) (tref t n) l := by
  unfold val_main_v21 val_main_v20 val_main_v19
  pointwise [v18_apply]
  rfl

/-- The loss of the reference, column by column. -/
theorem v30_apply (l : Fin 2048) :
    val_main_v30 (F := Ideal) x yh ya w g t (ix2 0 l)
      = Ideal.div (Ideal.ofBits .f32 0x3F000000#32
          * ∑ n, sqErr (href x yh ya w n) (gref g) (tref t n) l) (Ideal.ofBits .f32 0x45000000#32) := by
  unfold val_main_v30 val_main_v29 val_main_v28 val_main_v27 val_main_v26 val_main_v25 val_main_v22
    val_main_cst_4 val_main_cst_5 val_main_cst_6
  pointwise [v21_apply]
  rfl

theorem v38_apply (n : Fin 8192) (l : Fin 2048) :
    val_main_v38 (F := Ideal) x yh ya w g t (ix2 n l) = outCt (href x yh ya w n) (gref g) (tref t n) l := by
  unfold val_main_v38 val_main_v37 val_main_v36 val_main_v35 val_main_v34 val_main_v33 val_main_v32
    val_main_v31 val_main_v24 val_main_v23 val_main_cst_3 val_main_cst_7 val_main_cst_8 val_main_cst_9
    val_main_cst_10
  pointwise [v21_apply]
  simp only [Finset.univ_unique, Finset.sum_singleton]
  rfl

/-- The gain's gradient of the reference. -/
theorem v41_apply (l : Fin 2048) :
    val_main_v41 (F := Ideal) x yh ya w g t (ix2 0 l)
      = ∑ n, href x yh ya w n l * rms (href x yh ya w n)
          * outCt (href x yh ya w n) (gref g) (tref t n) l := by
  unfold val_main_v41 val_main_v40 val_main_v39 val_main_cst_11
  pointwise [v18_apply, v38_apply]

theorem v43_apply (n : Fin 8192) (l : Fin 2048) :
    val_main_v43 (F := Ideal) x yh ya w g t (ix2 n l)
      = outCt (href x yh ya w n) (gref g) (tref t n) l * gref g l := by
  unfold val_main_v43 val_main_v42
  pointwise [v38_apply]
  rfl

theorem v51_apply (n : Fin 8192) (l : Fin 1) :
    val_main_v51 (F := Ideal) x yh ya w g t (ix2 n l) = varCt (href x yh ya w n) (gref g) (tref t n) := by
  unfold val_main_v51 val_main_v50 val_main_v49 val_main_v46 val_main_v45 val_main_v44 val_main_cst_12
    val_main_cst_13
  pointwise [v5_apply, v43_apply, v16_apply]
  rfl

theorem v53_apply (n : Fin 8192) (l : Fin 2048) :
    val_main_v53 (F := Ideal) x yh ya w g t (ix2 n l) = varCt (href x yh ya w n) (gref g) (tref t n) := by
  unfold val_main_v53 val_main_v52 val_main_cst_14
  pointwise [v51_apply]
  simp only [Finset.univ_unique, Finset.sum_singleton]

/-- The hidden rows' gradient of the reference. -/
theorem v57_apply (n : Fin 8192) (l : Fin 2048) :
    val_main_v57 (F := Ideal) x yh ya w g t (ix2 n l) = rowCt (href x yh ya w n) (gref g) (tref t n) l := by
  unfold val_main_v57 val_main_v56 val_main_v55 val_main_v54 val_main_v48 val_main_v47
  pointwise [v5_apply, v43_apply, v13_apply, v53_apply]
  rfl

/-- The gradient of the projection's input: the rows' gradient through the transposed weight. -/
theorem v58_apply (n : Fin 8192) (l : Fin 2048) :
    val_main_v58 (F := Ideal) x yh ya w g t (ix2 n l)
      = ∑ k, rowCt (href x yh ya w n) (gref g) (tref t n) k * w (ix2 l k) := by
  unfold val_main_v58 val_main_v3
  pointwise [v57_apply]

/-- The rows' gradient handed on in the narrow type is the same array. -/
theorem v59_apply (n : Fin 8192) (l : Fin 2048) :
    val_main_v59 (F := Ideal) x yh ya w g t (ix2 n l) = rowCt (href x yh ya w n) (gref g) (tref t n) l := by
  unfold val_main_v59
  pointwise [v57_apply]

end Cert.ReferenceIdeal.Ref
-- ==== Proof.Algebra.lean ====
module

public import proofs.«01_k».proof.Proof.Ref

/-! # The equations between the kernel's and the reference's row formulas

The extended reals do not distribute in general. Here every factor that is pulled through a sum is a
nonnegative real: the constants, and the reciprocal root, which is real because the mean square with the
small constant added is positive (and is zero where the mean square is infinite). So no hypothesis on the
arrays is needed. -/

@[expose] public noncomputable section

namespace Cert.Algebra

open Idealize.ShloMosaic Cert.Rows Cert.ReferenceIdeal.Ref

theorem c2048 : Ideal.ofBits .f32 0x45000000#32 = ((2048 : ℝ) : EReal) := by
  simp [Ideal.ofBits, Ideal.ieee, -EReal.coe_mul]; norm_num
theorem cInv2048 : Ideal.ofBits .f32 0x3A000000#32 = ((1 / 2048 : ℝ) : EReal) := by
  simp [Ideal.ofBits, Ideal.ieee, -EReal.coe_mul]; norm_num
theorem cInv4096 : Ideal.ofBits .f32 0x39800000#32 = ((1 / 4096 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem cTwo : Ideal.ofBits .f32 0x40000000#32 = ((2 : ℝ) : EReal) := by
  simp [Ideal.ofBits, Ideal.ieee, -EReal.coe_mul]; norm_num
theorem cNegHalf : Ideal.ofBits .f32 0xBF000000#32 = ((-(1 / 2) : ℝ) : EReal) := by
  simp [Ideal.ofBits, Ideal.ieee, -EReal.coe_mul]; norm_num
theorem cEps : ∃ e : ℝ, 0 < e ∧ Ideal.ofBits .f32 0x358637BD#32 = (e : EReal) := by
  refine ⟨8796093 * 2⁻¹ ^ 43, by norm_num, ?_⟩
  simp [Ideal.ofBits, Ideal.ieee, -EReal.coe_mul]

theorem div2048 (x : EReal) : Ideal.div x (Ideal.ofBits .f32 0x45000000#32) = x * ((1 / 2048 : ℝ) : EReal) := by
  rw [c2048]; exact Ideal.div_coe (by norm_num) x

/-- A nonnegative real factor goes through a sum. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

theorem mul_self_nonneg (x : EReal) : 0 ≤ x * x := by
  induction x with
  | bot => simp
  | top => simp
  | coe x => rw [← EReal.coe_mul]; exact EReal.coe_nonneg.mpr (_root_.mul_self_nonneg x)

/-- The reciprocal root of a row is a nonnegative real `ρ`, and over the mean square it is `ρ³`. -/
theorem rms_real (a : Fin 2048 → EReal) : ∃ ρ : ℝ, 0 ≤ ρ ∧ rms a = (ρ : EReal)
    ∧ Ideal.div (rms a) (var a) = ((ρ * ρ * ρ : ℝ) : EReal) := by
  obtain ⟨e, he, hE⟩ := cEps
  have hS : (0 : EReal) ≤ (∑ k, a k * a k) * ((1 / 2048 : ℝ) : EReal) :=
    mul_nonneg (Finset.sum_nonneg fun k _ => mul_self_nonneg (a k)) (EReal.coe_nonneg.mpr (by norm_num))
  have hr : rms a = Ideal.rsqrt (var a) := rfl
  have hv : var a = (∑ k, a k * a k) * ((1 / 2048 : ℝ) : EReal) + (e : EReal) := by
    unfold var; rw [div2048, hE]
  rw [hr, hv]
  generalize (∑ k, a k * a k) * ((1 / 2048 : ℝ) : EReal) = q at hS
  induction q with
  | bot => exact absurd hS (by simp)
  | top =>
    refine ⟨0, le_rfl, ?_, ?_⟩
    · rw [EReal.top_add_coe]; rfl
    · rw [EReal.top_add_coe, show Ideal.rsqrt ⊤ = (0 : EReal) from rfl]
      simp [Ideal.div]
  | coe q =>
    have hq : 0 ≤ q := EReal.coe_nonneg.mp hS
    have hp : 0 < q + e := by linarith
    have hs : Ideal.rsqrt (((q + e : ℝ)) : EReal) = (((√(q + e))⁻¹ : ℝ) : EReal) := by
      show (if q + e < 0 then ⊥ else if q + e = 0 then ⊤ else (((√(q + e))⁻¹ : ℝ) : EReal)) = _
      rw [if_neg (by linarith), if_neg hp.ne']
    refine ⟨(√(q + e))⁻¹, by positivity, ?_, ?_⟩
    · rw [← EReal.coe_add, hs]
    · rw [← EReal.coe_add, hs, Ideal.div_coe hp.ne', ← EReal.coe_mul]
      congr 1
      have h2 : √(q + e) * √(q + e) = q + e := Real.mul_self_sqrt hp.le
      have h3 : √(q + e) ≠ 0 := (Real.sqrt_pos.mpr hp).ne'
      rw [mul_assoc, ← mul_inv, h2, one_div]

theorem outCt_eq (a g t : Fin 2048 → EReal) (l : Fin 2048) : outCt a g t l = outGrad a g t l := by
  unfold outCt outGrad
  rw [div2048, cHalf, cTwo, cInv2048, one_mul, ← mul_assoc, ← EReal.coe_mul, ← EReal.coe_mul, mul_comm]
  congr 2
  norm_num

theorem add_self_real (x : EReal) (r : ℝ) : x * (r : EReal) + x * (r : EReal) = x * ((2 * r : ℝ) : EReal) := by
  have h : x * (r : EReal) * ((1 : EReal) + 1) = x * (r : EReal) * 1 + x * (r : EReal) * 1 :=
    EReal.left_distrib_of_nonneg zero_le_one zero_le_one
  rw [mul_one] at h
  rw [← h, mul_assoc, show (1 : EReal) + 1 = ((2 : ℝ) : EReal) from by rw [← EReal.coe_one, ← EReal.coe_add]; norm_num,
    ← EReal.coe_mul, mul_comm r 2]

/-- The reference's gradient of a hidden row is the kernel's. -/
theorem rowCt_eq (a g t : Fin 2048 → EReal) (l : Fin 2048) : rowCt a g t l = rowGrad a g t l := by
  obtain ⟨ρ, h0, hr, hd⟩ := rms_real a
  have hsum : (∑ k, outGrad a g t k * g k * (a k * (ρ : EReal)))
      = (∑ k, a k * (outGrad a g t k * g k)) * (ρ : EReal) := by
    rw [sum_mul_real _ _ h0]
    exact Finset.sum_congr rfl fun k _ => by rw [← mul_assoc, mul_comm (a k)]
  unfold rowCt rowGrad varCt
  simp only [outCt_eq]
  rw [hd, hr, div2048, div2048, hsum, cNegHalf]
  generalize (∑ k, a k * (outGrad a g t k * g k)) = S
  generalize outGrad a g t l * g l = u
  generalize a l = b
  have hW : S * (((-(1 / 2) : ℝ) : EReal) * ((ρ * ρ * ρ : ℝ) : EReal)) * ((1 / 2048 : ℝ) : EReal)
      = S * ((-(ρ * ρ * ρ / 4096) : ℝ) : EReal) := by
    rw [mul_assoc, ← EReal.coe_mul, ← EReal.coe_mul]
    congr 2; ring
  have hq : b * (ρ : EReal) * (S * (ρ : EReal) * ((1 / 2048 : ℝ) : EReal))
      = b * S * ((ρ * ρ / 2048 : ℝ) : EReal) := by
    rw [mul_assoc S, ← EReal.coe_mul, mul_mul_mul_comm, ← EReal.coe_mul]
    congr 2; ring
  rw [hW, hq, mul_comm (S * _) b, add_assoc, ← mul_assoc, add_self_real, sub_eq_add_neg,
    EReal.left_distrib_of_nonneg_of_ne_top (EReal.coe_nonneg.mpr h0) (EReal.coe_ne_top ρ), mul_comm u,
    ← mul_neg, ← EReal.coe_neg, mul_left_comm, ← EReal.coe_mul]
  congr 3; ring

/-- The reference's scaling of a whole column's squared errors is the kernel's scaling of its parts. -/
theorem loss_scale (s : EReal) : Ideal.div (Ideal.ofBits .f32 0x3F000000#32 * s) (Ideal.ofBits .f32 0x45000000#32)
    = s * Ideal.ofBits .f32 0x39800000#32 := by
  rw [div2048, cHalf, cInv4096, mul_comm _ s, mul_assoc, ← EReal.coe_mul]
  congr 2; norm_num

/-- The sums over the blocks' two halves make the sum over all rows. -/
theorem sum_blocks (q : ℕ → EReal) : ∀ N : ℕ,
    (∑ t : Fin N, ((∑ r : Fin 256, q (512 * t.val + (0 + r.val))) + ∑ r : Fin 256, q (512 * t.val + (256 + r.val))))
      = ∑ n ∈ Finset.range (512 * N), q n
  | 0 => by simp
  | N + 1 => by
    rw [Fin.sum_univ_castSucc, show 512 * (N + 1) = 512 * N + (256 + 256) from by ring,
      Finset.sum_range_add, Finset.sum_range_add]
    refine congrArg₂ (· + ·) (sum_blocks q N) (congrArg₂ (· + ·) ?_ ?_)
    · rw [Finset.sum_range]; simp
    · rw [Finset.sum_range]; rfl

/-- The same for a function of the 8192 rows and 16 blocks. -/
theorem sum_rows (f : Fin 8192 → EReal) {N : ℕ} (hN : N = 16) (hb : ∀ (t : Fin N) (r : ℕ), r < 512 → 512 * t.val + r < 8192) :
    (∑ t : Fin N, ((∑ r : Fin 256, f ⟨512 * t.val + (0 + r.val), hb t _ (by omega)⟩)
      + ∑ r : Fin 256, f ⟨512 * t.val + (256 + r.val), hb t _ (by omega)⟩)) = ∑ n, f n := by
  subst hN
  have h := sum_blocks (fun n => if h : n < 8192 then f ⟨n, h⟩ else 0) 16
  rw [show 512 * 16 = 8192 from rfl, Finset.sum_range] at h
  refine (Finset.sum_congr rfl fun t _ => congrArg₂ (· + ·) (Finset.sum_congr rfl fun r _ => ?_)
    (Finset.sum_congr rfl fun r _ => ?_)).trans (h.trans (Finset.sum_congr rfl fun n _ => ?_))
  · rw [dif_pos (hb t _ (by omega))]
  · rw [dif_pos (hb t _ (by omega))]
  · rw [dif_pos n.isLt]

end Cert.Algebra
-- ==== Proof.Equation.lean ====
module

public import proofs.«01_k».proof.Proof.Finals
public import proofs.«01_k».proof.Proof.Algebra

/-! # The kernel's result arrays are the reference's -/

@[expose] public noncomputable section

namespace Cert.Equation

open Idealize.ShloMosaic Idealize.ShloMosaic.TcCoe Idealize.SL.Sem Cert.Rows
open Cert.KernelIdeal (nD τ sig S8192x2048 S1x2048 cfg0)
open Cert.KernelIdeal.Block Cert.KernelIdeal.Arrays Cert.KernelIdeal.Finals Cert.ReferenceIdeal.Read
  Cert.ReferenceIdeal.Ref Cert.Algebra

variable (m : (ℓ : Loc nD τ sig) → Buf (Elt Ideal) ℓ) (c : Dev nD)

theorem grad_eq : gradArr m c = val_main_v57 (F := Ideal) (X m c) (YH m c) (YA m c) (W m c) (G m c) (T m c) := by
  funext y
  obtain ⟨n, l, rfl⟩ := eq_pair (n := 8192) (m := 2048) y
  rw [v57_apply, rowCt_eq]
  rfl

theorem grad_narrow_eq :
    gradArr m c = val_main_v59 (F := Ideal) (X m c) (YH m c) (YA m c) (W m c) (G m c) (T m c) := by
  funext y
  obtain ⟨n, l, rfl⟩ := eq_pair (n := 8192) (m := 2048) y
  rw [v59_apply, rowCt_eq]
  rfl

theorem proj_eq : projArr m c = val_main_v58 (F := Ideal) (X m c) (YH m c) (YA m c) (W m c) (G m c) (T m c) := by
  funext y
  obtain ⟨n, l, rfl⟩ := eq_pair (n := 8192) (m := 2048) y
  rw [v58_apply]
  simp only [rowCt_eq]
  rfl

theorem row_lt (t : Fin cfg0.N) (r : ℕ) (hr : r < 512) : 512 * t.val + r < 8192 := by have := lt16 t; omega

theorem lossPt_eq (t : Fin cfg0.N) (l : Fin 2048) : lossPt m c t l =
    ((∑ r : Fin 256, sqErr (arow m c ⟨512 * t.val + (0 + r.val), row_lt t _ (by omega)⟩) (gain m c)
        (tgt m c ⟨512 * t.val + (0 + r.val), row_lt t _ (by omega)⟩) l)
      + ∑ r : Fin 256, sqErr (arow m c ⟨512 * t.val + (256 + r.val), row_lt t _ (by omega)⟩) (gain m c)
        (tgt m c ⟨512 * t.val + (256 + r.val), row_lt t _ (by omega)⟩) l) * Ideal.ofBits .f32 0x39800000#32 := by
  unfold lossPt lossBlk
  simp only [brow_iblk, grow_iblk, btgt_iblk]
  rw [cInv4096, EReal.right_distrib_of_nonneg_of_ne_top (EReal.coe_nonneg.mpr (by norm_num)) (EReal.coe_ne_top _)]

theorem gainPt_eq (t : Fin cfg0.N) (l : Fin 2048) : gainPt m c t l =
    ((∑ r : Fin 256, gainGrad (arow m c ⟨512 * t.val + (0 + r.val), row_lt t _ (by omega)⟩) (gain m c)
        (tgt m c ⟨512 * t.val + (0 + r.val), row_lt t _ (by omega)⟩) l)
      + ∑ r : Fin 256, gainGrad (arow m c ⟨512 * t.val + (256 + r.val), row_lt t _ (by omega)⟩) (gain m c)
        (tgt m c ⟨512 * t.val + (256 + r.val), row_lt t _ (by omega)⟩) l) := by
  unfold gainPt gainBlk
  simp only [brow_iblk, grow_iblk, btgt_iblk]

theorem loss_eq : lossArr m c = val_main_v30 (F := Ideal) (X m c) (YH m c) (YA m c) (W m c) (G m c) (T m c) := by
  funext y
  obtain ⟨n, l, rfl⟩ := eq_pair (n := 1) (m := 2048) y
  obtain rfl : n = 0 := Subsingleton.elim _ _
  show ∑ t : Fin cfg0.N, lossPt m c t l = _
  rw [v30_apply, loss_scale, Finset.sum_congr rfl fun t _ => lossPt_eq m c t l, cInv4096,
    ← sum_mul_real _ _ (by norm_num : (0 : ℝ) ≤ 1 / 4096)]
  exact congrArg (· * _) (sum_rows (fun n => sqErr (arow m c n) (gain m c) (tgt m c n) l)
    Cert.KernelIdeal.Gen.N_0 row_lt)

theorem gain_eq : gainArr m c = val_main_v41 (F := Ideal) (X m c) (YH m c) (YA m c) (W m c) (G m c) (T m c) := by
  funext y
  obtain ⟨n, l, rfl⟩ := eq_pair (n := 1) (m := 2048) y
  obtain rfl : n = 0 := Subsingleton.elim _ _
  show ∑ t : Fin cfg0.N, gainPt m c t l = _
  rw [v41_apply, Finset.sum_congr rfl fun t _ => gainPt_eq m c t l]
  refine (sum_rows (fun n => gainGrad (arow m c n) (gain m c) (tgt m c n) l) Cert.KernelIdeal.Gen.N_0 row_lt).trans
    (Finset.sum_congr rfl fun n _ => ?_)
  rw [outCt_eq, mul_comm]
  rfl

end Cert.Equation
-- ==== Proof.OutprojClaims.lean ====
module

public import proofs.«01_k».proof.Defs
public import proofs.«01_k».proof.Proof.Gen.Kernel
public import proofs.«01_k».proof.Proof.Gen.Kernel.Frame
public import proofs.«01_k».proof.Proof.Gen.ReferenceIdeal.Run
public import proofs.«01_k».proof.Proof.Equation
public import Idealize.ShloMosaic.Adequacy
public import Idealize.ShloMosaic.Init

/-! # The five claims about the output projection with the loss and its gradients -/

@[expose] public noncomputable section

namespace Cert.OutprojClaims

open Idealize.ShloMosaic Idealize.ShloMosaic.TcCoe Idealize.SL.Sem Cert.KernelIdeal

/-- The kernel ends with its arguments unchanged and its counters at zero. -/
theorem frame_kernel : Cert.quiescent_Kernel := fun m ρ _ => Cert.Kernel.Gen.frame m ρ

/-- So does its reading in exact arithmetic. -/
theorem frame_ideal : Cert.quiescent_KernelIdeal := fun m ρ _ => Cert.KernelIdeal.Gen.frame m ρ

/-- So does the reference, which has no counters. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- In exact arithmetic the kernel's five results are the reference's, for all arrays. -/
theorem algebraic : Cert.algebraic_KernelIdeal_ReferenceIdeal := by
  intro m ρ m' ρ' _ hagree
  refine ⟨fun c => Arrays.gradArr m c, fun c => Arrays.gradArr m c, fun c => Arrays.projArr m c,
    fun c => Finals.lossArr m c, fun c => Finals.gainArr m c, ?_, ?_⟩
  · refine (θ_run Cert.KernelIdeal.defs _ _).mono (fun r h c => ?_) (Cert.KernelIdeal.Value.run_blocks (F := Ideal) m ρ)
    obtain ⟨h0, h1, h2, h3, h4, hargs⟩ := h c
    exact ⟨h0.trans (Finals.final6 m c), h1.trans (Finals.final7 m c), h2.trans (Finals.final8 m c),
      h3.trans (Finals.final9 m c), h4.trans (Finals.final10 m c), hargs⟩
  · refine (θ_run Cert.ReferenceIdeal.defs _ _).mono (fun r h c => ?_) (Cert.ReferenceIdeal.Value.run (F := Ideal) m' ρ')
    obtain ⟨h0, h1, h2, h3, h4, hargs⟩ := h c
    obtain ⟨e0, e1, e2, e3, e4, e5⟩ := hagree c
    refine ⟨h0.trans ?_, h1.trans ?_, h2.trans ?_, h3.trans ?_, h4.trans ?_, hargs⟩
    · rw [Cert.ReferenceIdeal.Read.val_main_v57_eq, e0, e1, e2, e3, e4, e5]; exact (Equation.grad_eq m c).symm
    · rw [Cert.ReferenceIdeal.Read.val_main_v59_eq, e0, e1, e2, e3, e4, e5]; exact (Equation.grad_narrow_eq m c).symm
    · rw [Cert.ReferenceIdeal.Read.val_main_v58_eq, e0, e1, e2, e3, e4, e5]; exact (Equation.proj_eq m c).symm
    · rw [Cert.ReferenceIdeal.Read.val_main_v30_eq, e0, e1, e2, e3, e4, e5]; exact (Equation.loss_eq m c).symm
    · rw [Cert.ReferenceIdeal.Read.val_main_v41_eq, e0, e1, e2, e3, e4, e5]; exact (Equation.gain_eq m c).symm

end Cert.OutprojClaims
-- ==== Proof.Dx.Setup.lean ====
module

public import proofs.«01_k».proof.Defs
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.KitQuiescent
public import Idealize.ShloMosaic.Lib.Pipeline.Frame
public import Idealize.ShloMosaic.Lib.Ring
public import Idealize.ShloMosaic.Lib.VecWindow
public import Idealize.ShloMosaic.Lib.Tactic

/-!
# The gradient of the block's input: tiles, semaphores and transfers in flight

The kernel keeps its row tile of `x` and of the later layers' gradient in two scratch buffers, fetched by
its own copies, and sends the finished rows back by a third. This module names the eight row tiles of the
three arrays that stay in main memory, the three semaphores, and the copies while they are under way.
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

/-- The resources: the pipeline's, beside the counters that copies in flight are tracked by. -/
abbrev UU (nD : Nat) (τ : Topo) : Type := UR sig nD τ × Counters
local notation "𝕄" => MT nD τ sig Unit (Elt F) ℕ (UU nD τ) ℕ
/-- The pipeline's part of the resources. -/
abbrev EP : Emb (UR sig nD τ) (MT nD τ sig Unit (Elt F) ℕ (UU nD τ) ℕ) := embL

/-- `x` in main memory. -/
abbrev xM : Memref sig .tc .hbm S8192x2048 .f32 := Memref.whole main_arg3
/-- The gradient arriving from the later layers. -/
abbrev dM : Memref sig .tc .hbm S8192x2048 .f32 := Memref.whole main_arg5
/-- The result, the gradient of `x`. -/
abbrev gM : Memref sig .tc .hbm S8192x2048 .f32 := Memref.whole main_v0_0
/-- The accumulator of the products. -/
abbrev accM : Memref sig .tc .vmem S1024x2048 .f32 := Memref.whole cc0_scratch0
/-- The tile of `x`, overwritten by the finished rows. -/
abbrev xbM : Memref sig .tc .vmem S1024x2048 .f32 := Memref.whole cc0_scratch1
/-- The tile of the later layers' gradient. -/
abbrev dbM : Memref sig .tc .vmem S1024x2048 .f32 := Memref.whole cc0_scratch2

/-- Where row tile `j` begins. -/
abbrev tileOff (j : Fin 8) : Fin 2 → Nat := ![1024 * j.val, 0]
theorem tileOff_inb (j : Fin 8) : ∀ a, tileOff j a + S1024x2048.size a ≤ S8192x2048.size a := by
  have := j.isLt; intro a; fin_cases a
  · show 1024 * j.val + 1024 ≤ 8192; omega
  · show 0 + 2048 ≤ 2048; omega

/-- The 1024 rows of an array in main memory from an offset on. -/
abbrev rowsAt (M : Memref sig .tc .hbm S8192x2048 .f32) (o : Fin 2 → Nat) (hi : ∀ a, o a + S1024x2048.size a ≤ S8192x2048.size a) :
    Memref sig .tc .hbm S1024x2048 .f32 :=
  M.slice (Rect.unit (s := S8192x2048) o S1024x2048.size hi) (fun _ => rfl)
/-- Row tile `j` of an array in main memory. -/
abbrev tile (M : Memref sig .tc .hbm S8192x2048 .f32) (j : Fin 8) : Memref sig .tc .hbm S1024x2048 .f32 :=
  rowsAt M (tileOff j) (tileOff_inb j)

/-- Semaphore `k` of the three. -/
abbrev semOff (k : Fin 3) : Fin 1 → Nat := ![k.val]
theorem semOff_inb (k : Fin 3) : ∀ a, semOff k a + S1.size a ≤ S3.size a := by
  have := k.isLt; intro a; fin_cases a; show k.val + 1 ≤ 3; omega
abbrev csm (k : Fin 3) : DmaSems sig S_ :=
  (cc0_scratch3.slice (Rect.unit (s := S3) (semOff k) S1.size (semOff_inb k))).squeeze S_ squeezes_S1_S_

section Pieces
variable (c : Dev nD)

/-- A semaphore with nothing on it. -/
abbrev cellP (k : Fin 3) : sProp 𝕄 := semVal (c.tc, SemLoc.dma (csm k).sem) 0
/-- A tile of an array in main memory, held at the array's contents `X`. -/
abbrev homeP (T : Memref sig .tc .hbm S1024x2048 .f32) (X : Buf (Elt F) (T.view.loc (c : Thread nD τ))) : sProp 𝕄 :=
  T.view.loc c.tc ↦[T.view.set]{fullShare} X
/-- A scratch buffer held at contents `f`. -/
abbrev bufP (B : Memref sig .tc .vmem S1024x2048 .f32) (f : Buf (Elt F) (B.view.loc (c : Thread nD τ))) : sProp 𝕄 :=
  B.view.loc c.tc ↦[B.view.set]{fullShare} f
/-- A fetch under way through semaphore `k`: it hands back the scratch buffer `B` at `f`, and the tile `T`. -/
abbrev fetchP (k : Fin 3) (B : Memref sig .tc .vmem S1024x2048 .f32) (f : Buf (Elt F) (B.view.loc (c : Thread nD τ)))
    (T : Memref sig .tc .hbm S1024x2048 .f32) (X : Buf (Elt F) (T.view.loc (c : Thread nD τ))) : sProp 𝕄 :=
  Transfers.Flight countersEmb c.tc (SemLoc.dma (csm k).sem) () 262144 iprop(bufP c B f ∗ homeP c T X)
/-- A store under way: it hands back the tile `T` at `G`, and the scratch buffer `B`. -/
abbrev storeP (T : Memref sig .tc .hbm S1024x2048 .f32) (G : Buf (Elt F) (T.view.loc (c : Thread nD τ)))
    (B : Memref sig .tc .vmem S1024x2048 .f32) (f : Buf (Elt F) (B.view.loc (c : Thread nD τ))) : sProp 𝕄 :=
  Transfers.Flight countersEmb c.tc (SemLoc.dma (csm 2).sem) () 262144 iprop(homeP c T G ∗ bufP c B f)

end Pieces

end Cert.Dx

end
-- ==== Proof.Dx.Conds.lean ====
module

public import proofs.«01_k».proof.Proof.Dx.Setup

/-!
# When each part of the step runs

The printed conditions of the step at grid point `t`, each in closed form: the row tile is `t / 8`, the
block of the product is `t % 8`.
-/

@[expose] public noncomputable section

namespace Cert.Dx

open Cert.Kernel2Ideal Cert.Kernel2Ideal.Gen
open Idealize.ShloMosaic
open Idealize.ShloMosaic.TcCoe

/-- The condition of the first block at the first row tile. -/
abbrev condFirst (i : grid0.Coords) : BitVec 1 :=
  Scalar.cmpi .ne (Scalar.extui (Scalar.andi (Scalar.cmpi .eq (BitVec.ofNat 32 (i 1).val) 0#32) (Scalar.cmpi .eq (BitVec.ofNat 32 (i 0).val) 0#32)) : BitVec 32) 0#32
/-- The condition of a later block: the product is added. -/
abbrev condAdd (i : grid0.Coords) : BitVec 1 :=
  Scalar.cmpi .ne (Scalar.extui (Scalar.cmpi .sgt (BitVec.ofNat 32 (i 1).val) 0#32) : BitVec 32) 0#32
/-- The block is one of the recurrence's four. -/
abbrev condLow (i : grid0.Coords) : BitVec 1 :=
  Scalar.cmpi .ne (Scalar.extui (Scalar.cmpi .slt (BitVec.ofNat 32 (i 1).val) 4#32) : BitVec 32) 0#32
/-- The block is one of the attention's four. -/
abbrev condHigh (i : grid0.Coords) : BitVec 1 :=
  Scalar.cmpi .ne (Scalar.extui (Scalar.cmpi .sge (BitVec.ofNat 32 (i 1).val) 4#32) : BitVec 32) 0#32

theorem cond1_iff : ∀ t : Fin cfg0.N, k0_cond1 (grid0.coords t) = 1#1 ↔ t.val = 0 := by decide
theorem cond2_iff : ∀ t : Fin cfg0.N, k0_cond2 (grid0.coords t) = 1#1 ↔ t.val % 8 = 2 ∧ 8 ≤ t.val := by decide
theorem cond3_iff : ∀ t : Fin cfg0.N, k0_cond3 (grid0.coords t) = 1#1 ↔ t.val % 8 = 2 := by decide
theorem condFirst_iff : ∀ t : Fin cfg0.N, condFirst (grid0.coords t) = 1#1 ↔ t.val = 0 := by decide
theorem cond5_iff : ∀ t : Fin cfg0.N, k0_cond5 (grid0.coords t) = 1#1 ↔ t.val % 8 = 0 ∧ 8 ≤ t.val := by decide
theorem condAdd_iff : ∀ t : Fin cfg0.N, condAdd (grid0.coords t) = 1#1 ↔ t.val % 8 ≠ 0 := by decide
theorem condLow_iff : ∀ t : Fin cfg0.N, condLow (grid0.coords t) = 1#1 ↔ t.val % 8 < 4 := by decide
theorem condHigh_iff : ∀ t : Fin cfg0.N, condHigh (grid0.coords t) = 1#1 ↔ 4 ≤ t.val % 8 := by decide
theorem cond9_iff : ∀ t : Fin cfg0.N, k0_cond9 (grid0.coords t) = 1#1 ↔ t.val = 63 := by decide

/-- The row tile of point `t`. -/
abbrev row (t : Fin cfg0.N) : Fin 8 := ⟨t.val / 8, by have : t.val < 64 := lt_of_lt_of_eq t.isLt (show cfg0.N = 64 from N_0); omega⟩
/-- The row tile before that of point `t`. -/
abbrev rowPred (t : Fin cfg0.N) : Fin 8 := ⟨t.val / 8 - 1, by have : t.val < 64 := lt_of_lt_of_eq t.isLt (show cfg0.N = 64 from N_0); omega⟩

theorem off2_eq : ∀ t : Fin cfg0.N, k0_off2 (grid0.coords t) = tileOff (row t) := by decide
theorem off4_eq : ∀ t : Fin cfg0.N, 8 ≤ t.val → k0_off4 (grid0.coords t) = tileOff (rowPred t) := by decide
theorem off5_eq : ∀ t : Fin cfg0.N, t.val = 63 → k0_off5 (grid0.coords t) = tileOff 7 := by decide

end Cert.Dx

end
-- ==== Proof.Dx.Tile.lean ====
module

public import proofs.«01_k».proof.Proof.Dx.Conds

/-!
# What finishing one row tile computes

The accumulated products `a` of 1024 rows, the rows `x` and the later layers' gradient `d` become the rows
of the gradient of `x`, eight times 128 rows; the gradient of the gain grows by what each 128 rows add.
-/

@[expose] public noncomputable section

namespace Cert.Dx

open Cert.Kernel2Ideal Cert.Kernel2Ideal.Gen
open Idealize.ShloMosaic

variable {F : FTy → Type} [FloatOps F]

/-- Where the `k`-th 128 rows of a tile begin. -/
abbrev chunkOff (k : Fin 8) : Fin 2 → Nat := ![128 * k.val, 0]
theorem chunkOff_inb (k : Fin 8) : ∀ a, chunkOff k a + S128x2048.size a ≤ S1024x2048.size a := by
  have := k.isLt; intro a; fin_cases a
  · show 128 * k.val + 128 ≤ 1024; omega
  · show 0 + 2048 ≤ 2048; omega

/-- The `k`-th 128 rows of a tile. -/
abbrev chunk (k : Fin 8) (v : Vec F S1024x2048 .f32) : Vec F S128x2048 .f32 :=
  VecWindow.window v (chunkOff k) S128x2048.size (chunkOff_inb k)

/-- 128 rows of the gradient of `x`. -/
abbrev rowChunk (g : Vec F S1x2048 .f32) (a x d : Vec F S1024x2048 .f32) (k : Fin 8) : Vec F S128x2048 .f32 :=
  k0_pay3 g (chunk k a) (chunk k x) (chunk k d)
/-- The gain's gradient `o`, with what 128 rows add. -/
abbrev gainChunk (a x : Vec F S1024x2048 .f32) (k : Fin 8) (o : Vec F S1x2048 .f32) : Vec F S1x2048 .f32 :=
  k0_pay4 (chunk k a) (k0_pay2 (chunk k x)) o

/-- `b` with the `k`-th 128 rows of the gradient of `x` put in place. -/
abbrev putChunk (g : Vec F S1x2048 .f32) (a x d : Vec F S1024x2048 .f32) (k : Fin 8) (b : Vec F S1024x2048 .f32) : Vec F S1024x2048 .f32 :=
  VecWindow.put b (chunkOff k) S128x2048.size (rowChunk g a x d k)

/-- The 1024 rows of the gradient of `x`. -/
def rowsOut (g : Vec F S1x2048 .f32) (a x d : Vec F S1024x2048 .f32) : Vec F S1024x2048 .f32 :=
  putChunk g a x d 7 (putChunk g a x d 6 (putChunk g a x d 5 (putChunk g a x d 4
    (putChunk g a x d 3 (putChunk g a x d 2 (putChunk g a x d 1 (putChunk g a x d 0 x)))))))

/-- The gain's gradient after one row tile. -/
def gainOut (a x : Vec F S1024x2048 .f32) (o : Vec F S1x2048 .f32) : Vec F S1x2048 .f32 :=
  gainChunk a x 7 (gainChunk a x 6 (gainChunk a x 5 (gainChunk a x 4
    (gainChunk a x 3 (gainChunk a x 2 (gainChunk a x 1 (gainChunk a x 0 o)))))))

/-- The second 128 rows' sum, as the step spells it. -/
theorem gain_one (a x : Vec F S1024x2048 .f32) (o : Vec F S1x2048 .f32) :
    k0_pay10 (k0_pay8 o) (k0_pay9 (chunk 1 a) (chunk 1 x)) = gainChunk a x 1 o := rfl

/-- The first and the second 128 rows' sums, as the last step spells them. -/
theorem gain_zero_last (a x : Vec F S1024x2048 .f32) (o : Vec F S1x2048 .f32) :
    k0_pay42 (chunk 0 a) (k0_pay39 (chunk 0 x)) (k0_pay41 o) = gainChunk a x 0 o := rfl
theorem gain_one_last (a x : Vec F S1024x2048 .f32) (o : Vec F S1x2048 .f32) :
    k0_pay48 (k0_pay46 o) (k0_pay47 (chunk 1 a) (chunk 1 x)) = gainChunk a x 1 o := rfl

/-- A store of the `k`-th 128 rows over earlier stores. -/
theorem read_put {κ : Kind} {sp : Space} (v : View sig κ sp S1024x2048 .f32) (f : v.ty.Contents (Elt F))
    (L : List (View.Piece (Elt F) S1024x2048 .f32)) (k : Fin 8) {off : Fin 2 → Nat} (ho : off = chunkOff k)
    (inb : ∀ a, off a + S128x2048.size a ≤ S1024x2048.size a) (w : (Rect.unit (s := S1024x2048) off S128x2048.size inb).shape.Idx → Elt F .f32)
    (g : Vec F S1x2048 .f32) (a x d b : Vec F S1024x2048 .f32) (hw : w = rowChunk g a x d k)
    (hb : v.read (Elt F) (v.writes (Elt F) f L) = b) :
    v.read (Elt F) (v.writes (Elt F) f (⟨Rect.unit (s := S1024x2048) off S128x2048.size inb, w⟩ :: L)) = putChunk g a x d k b := by
  subst hw hb
  exact View.read_writes_cons_put v f inb _ L ho

end Cert.Dx

end
-- ==== Proof.Dx.State.lean ====
module

public import proofs.«01_k».proof.Proof.Gen.Kernel2Ideal.Frame
public import proofs.«01_k».proof.Proof.Dx.Tile

/-!
# What holds between the steps

The accumulator, the gain's gradient and the finished rows as functions of the point, and what the kernel holds
of its buffers, tiles and semaphores between two steps: nothing under way before the first fetch and after the
last step, a store of finished rows under way after the first block of a row tile, and both fetches of
the row tile under way from its third block on.
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## The values -/

/-- The blocks at a point: of the recurrence's four gradients, of the attention's four, of the projection, and the gain. -/
abbrev zhB (c : Dev nD) (t : Fin cfg0.N) : Vec F S1x1024x1024 .bf16 := iblk m c 0 t
abbrev zaB (c : Dev nD) (t : Fin cfg0.N) : Vec F S1x1024x1024 .bf16 := iblk m c 1 t
abbrev wB (c : Dev nD) (t : Fin cfg0.N) : Vec F S1x2048x1024 .bf16 := iblk m c 2 t
abbrev gB (c : Dev nD) (t : Fin cfg0.N) : Vec F S1x2048 .f32 := iblk m c 3 t

/-- Point `n` of the grid. -/
abbrev pt (n : ℕ) (h : n < 64) : Fin cfg0.N := ⟨n, lt_of_lt_of_eq h (show cfg0.N = 64 from N_0).symm⟩

/-- The accumulator before step `n`. -/
def accA (c : Dev nD) : ℕ → Vec F S1024x2048 .f32
  | 0 => k0_pay78 (zhB m c (pt 0 (by decide))) (wB m c (pt 0 (by decide)))
  | n + 1 => if h : n < 64 then
      (if n % 8 = 0 then k0_pay78 (zhB m c (pt n h)) (wB m c (pt n h))
       else if n % 8 < 4 then k0_pay80 (zhB m c (pt n h)) (accA c n) (wB m c (pt n h))
       else k0_pay81 (zaB m c (pt n h)) (accA c n) (wB m c (pt n h)))
    else accA c n

theorem accA_first (c : Dev nD) (t : Fin cfg0.N) (h : t.val % 8 = 0) : accA m c (t.val + 1) = k0_pay78 (zhB m c t) (wB m c t) := by
  have hN : t.val < 64 := lt_of_lt_of_eq t.isLt (show cfg0.N = 64 from N_0)
  unfold accA; rw [dif_pos hN, if_pos h]
theorem accA_low (c : Dev nD) (t : Fin cfg0.N) (h : t.val % 8 ≠ 0) (h4 : t.val % 8 < 4) :
    accA m c (t.val + 1) = k0_pay80 (zhB m c t) (accA m c t.val) (wB m c t) := by
  have hN : t.val < 64 := lt_of_lt_of_eq t.isLt (show cfg0.N = 64 from N_0)
  rw [accA, dif_pos hN, if_neg h, if_pos h4]
theorem accA_high (c : Dev nD) (t : Fin cfg0.N) (h4 : 4 ≤ t.val % 8) :
    accA m c (t.val + 1) = k0_pay81 (zaB m c t) (accA m c t.val) (wB m c t) := by
  have hN : t.val < 64 := lt_of_lt_of_eq t.isLt (show cfg0.N = 64 from N_0)
  rw [accA, dif_pos hN, if_neg (by omega), if_neg (by omega)]

/-- `x` and the later layers' gradient, as launched, and their row tiles. -/
abbrev xA (c : Dev nD) : Buf (Elt F) (xM.view.loc (c : Thread nD τ)) := m ((c : Thread nD τ).loc main_arg3)
abbrev dA (c : Dev nD) : Buf (Elt F) (dM.view.loc (c : Thread nD τ)) := m ((c : Thread nD τ).loc main_arg5)
abbrev xTile (c : Dev nD) (j : Fin 8) : Vec F S1024x2048 .f32 := (tile xM j).view.read (Elt F) (xA m c)
abbrev dTile (c : Dev nD) (j : Fin 8) : Vec F S1024x2048 .f32 := (tile dM j).view.read (Elt F) (dA m c)

/-- The finished rows of tile `j`. -/
def gv (c : Dev nD) (j : Fin 8) : Vec F S1024x2048 .f32 :=
  rowsOut (gB m c (pt 0 (by decide))) (accA m c (8 * (j.val + 1))) (xTile m c j) (dTile m c j)

/-- The gain's gradient after step `n`. -/
def dgA (c : Dev nD) : ℕ → Vec F S1x2048 .f32
  | 0 => k0_pay77 (F := F)
  | n + 1 => if h : (n + 1) % 8 = 0 ∧ n + 1 < 64 then gainOut (accA m c (n + 1)) (xTile m c ⟨(n + 1) / 8 - 1, by omega⟩) (dgA c n)
      else if n + 1 = 63 then gainOut (accA m c 64) (xTile m c 7) (dgA c n)
      else dgA c n

theorem dgA_first (c : Dev nD) (t : Fin cfg0.N) (h : t.val = 0) : dgA m c t.val = k0_pay77 (F := F) := by
  rw [h, dgA]
theorem dgA_tile (c : Dev nD) (t : Fin cfg0.N) (h : t.val % 8 = 0) (h8 : 8 ≤ t.val) :
    dgA m c t.val = gainOut (accA m c t.val) (xTile m c (rowPred t)) (dgA m c (t.val - 1)) := by
  obtain ⟨n, hn⟩ := t
  have hN : n < 64 := lt_of_lt_of_eq hn (show cfg0.N = 64 from N_0)
  cases n with
  | zero => exact absurd h8 (by simp)
  | succ n => simp only [Nat.add_sub_cancel]; rw [dgA, dif_pos ⟨h, hN⟩]
theorem dgA_last (c : Dev nD) (t : Fin cfg0.N) (h : t.val = 63) :
    dgA m c t.val = gainOut (accA m c 64) (xTile m c 7) (dgA m c (t.val - 1)) := by
  rw [h, dgA, dif_neg (by omega), if_pos rfl]
theorem dgA_same (c : Dev nD) (t : Fin cfg0.N) (h : t.val % 8 ≠ 0) (h' : t.val ≠ 63) : dgA m c t.val = dgA m c (t.val - 1) := by
  obtain ⟨n, hn⟩ := t
  cases n with
  | zero => exact absurd rfl h
  | succ n => simp only [Nat.add_sub_cancel]; rw [dgA, dif_neg (fun a => h a.1), if_neg h']

/-! ## The resources -/

/-- The rows of tile `j` are finished and stored before step `n`. -/
abbrev done (n : ℕ) (j : Fin 8) : Prop := 8 * (j.val + 1) < n ∨ n = 64

/-- Row tile `j` of the result, at the finished rows once they are stored. -/
abbrev outP (c : Dev nD) (n : ℕ) (j : Fin 8) : sProp 𝕄 :=
  iprop(∃ G : Buf (Elt F) (gM.view.loc c.tc), ⌜done n j → (tile gM j).view.read (Elt F) G = gv m c j⌝ ∗ homeP c (tile gM j) G)
/-- Row tile `j` of `x`, and of the later layers' gradient. -/
abbrev xP (c : Dev nD) (j : Fin 8) : sProp 𝕄 := homeP c (tile xM j) (xA m c)
abbrev dP (c : Dev nD) (j : Fin 8) : sProp 𝕄 := homeP c (tile dM j) (dA m c)

/-- Nothing under way. -/
def idleP (c : Dev nD) (n : ℕ) : sProp 𝕄 :=
  iprop((∃ d, owns c.tc xbM fullShare d) ∗ (∃ d, owns c.tc dbM fullShare d)
    ∗ bigSep Finset.univ (xP m c) ∗ bigSep Finset.univ (dP m c) ∗ bigSep Finset.univ (outP m c n) ∗ cellP c 0 ∗ cellP c 1 ∗ cellP c 2)
/-- The store of the rows of tile `k` under way. -/
def storingP (c : Dev nD) (n : ℕ) (k : Fin 8) : sProp 𝕄 :=
  iprop((∃ (G : Buf (Elt F) (gM.view.loc c.tc)) (f : _), ⌜(tile gM k).view.read (Elt F) G = gv m c k⌝ ∗ storeP c (tile gM k) G xbM f)
    ∗ (∃ d, owns c.tc dbM fullShare d)
    ∗ bigSep Finset.univ (xP m c) ∗ bigSep Finset.univ (dP m c) ∗ bigSep (Finset.univ.erase k) (outP m c n) ∗ cellP c 0 ∗ cellP c 1)
/-- Both fetches of row tile `r` under way. -/
def fetchingP (c : Dev nD) (n : ℕ) (r : Fin 8) : sProp 𝕄 :=
  iprop((∃ f, ⌜xbM.view.read (Elt F) f = xTile m c r⌝ ∗ fetchP c 0 xbM f (tile xM r) (xA m c))
    ∗ (∃ f, ⌜dbM.view.read (Elt F) f = dTile m c r⌝ ∗ fetchP c 1 dbM f (tile dM r) (dA m c))
    ∗ bigSep (Finset.univ.erase r) (xP m c) ∗ bigSep (Finset.univ.erase r) (dP m c) ∗ bigSep Finset.univ (outP m c n) ∗ cellP c 2)

/-- A tile number, from a natural number. -/
abbrev tileNo (k : ℕ) : Fin 8 := ⟨k % 8, Nat.mod_lt _ (by decide)⟩

/-- The copies before step `n`. -/
def copiesP (c : Dev nD) (n : ℕ) : sProp 𝕄 :=
  if (n % 8 = 1 ∨ n % 8 = 2) ∧ 8 < n then storingP m c n (tileNo (n / 8 - 1))
  else if 3 ≤ n % 8 ∨ (n % 8 = 0 ∧ 8 ≤ n ∧ n < 64) then fetchingP m c n (tileNo ((n - 1) / 8))
  else idleP m c n

/-- The accumulator before step `n`: at anything before the first. -/
def accP (c : Dev nD) (n : ℕ) : sProp 𝕄 := iprop(∃ a, ⌜n ≠ 0 → a = accA m c n⌝ ∗ owns c.tc accM fullShare a)

/-- What holds before step `n`. -/
def inv (c : Dev nD) (n : ℕ) : sProp 𝕄 := iprop(accP m c n ∗ copiesP m c n)

theorem copiesP_storing (c : Dev nD) (n : ℕ) (h : (n % 8 = 1 ∨ n % 8 = 2) ∧ 8 < n) : copiesP m c n = storingP m c n (tileNo (n / 8 - 1)) :=
  if_pos h
theorem copiesP_fetching (c : Dev nD) (n : ℕ) (h : 3 ≤ n % 8 ∨ (n % 8 = 0 ∧ 8 ≤ n ∧ n < 64)) :
    copiesP m c n = fetchingP m c n (tileNo ((n - 1) / 8)) := by
  unfold copiesP; rw [if_neg (by omega), if_pos h]
theorem copiesP_idle (c : Dev nD) (n : ℕ) (h : n < 3 ∨ n = 64) : copiesP m c n = idleP m c n := by
  unfold copiesP; rw [if_neg (by omega), if_neg (by omega)]

/-- The tiles of the result, from one step to another. -/
theorem out_mono (c : Dev nD) (n n' : ℕ) (s : Finset (Fin 8)) (h : ∀ j ∈ s, done n' j → done n j) :
    bigSep s (outP m c n) ⊢ bigSep s (outP m c n') :=
  BI.bigSep_mono fun j hj => by
    show (outP m c n j : sProp 𝕄) ⊢ outP m c n' j
    iintro ⟨%G, %hG, H⟩
    iexists G; isplitr; · ipureintro; exact fun hd => hG (h j hj hd)
    iexact H

/-- A step without a copy keeps the copies as they are. -/
theorem copiesP_keep (c : Dev nD) (n : ℕ) (hn : n < 63) (h : n % 8 ≠ 0 ∧ n % 8 ≠ 2 ∨ n = 0) : copiesP m c n ⊢ copiesP m c (n + 1) := by
  have hd : ∀ j : Fin 8, done (n + 1) j → done n j := fun j => by have := j.isLt; unfold done; omega
  by_cases h1 : n % 8 = 1 ∧ 8 < n
  · rw [copiesP_storing m c n (by omega), copiesP_storing m c (n + 1) (by omega), show (n + 1) / 8 - 1 = n / 8 - 1 by omega]
    unfold storingP
    iintro ⟨HS, Hd, HX, HD, HO, H0, H1⟩
    isplitl [HS]; · iexact HS
    isplitl [Hd]; · iexact Hd
    isplitl [HX]; · iexact HX
    isplitl [HD]; · iexact HD
    isplitl [HO]; · iapply (out_mono m c n (n + 1) _ fun j _ => hd j); iexact HO
    isplitl [H0]; · iexact H0
    iexact H1
  by_cases h3 : 3 ≤ n % 8
  · rw [copiesP_fetching m c n (by omega), copiesP_fetching m c (n + 1) (by omega), show (n + 1 - 1) / 8 = (n - 1) / 8 by omega]
    unfold fetchingP
    iintro ⟨HX, HD, HXs, HDs, HO, H2⟩
    isplitl [HX]; · iexact HX
    isplitl [HD]; · iexact HD
    isplitl [HXs]; · iexact HXs
    isplitl [HDs]; · iexact HDs
    isplitl [HO]; · iapply (out_mono m c n (n + 1) _ fun j _ => hd j); iexact HO
    iexact H2
  · rw [copiesP_idle m c n (by omega), copiesP_idle m c (n + 1) (by omega)]
    unfold idleP
    iintro ⟨Hx, Hd, HX, HD, HO, H0, H1, H2⟩
    isplitl [Hx]; · iexact Hx
    isplitl [Hd]; · iexact Hd
    isplitl [HX]; · iexact HX
    isplitl [HD]; · iexact HD
    isplitl [HO]; · iapply (out_mono m c n (n + 1) _ fun j _ => hd j); iexact HO
    isplitl [H0]; · iexact H0
    isplitl [H1]; · iexact H1
    iexact H2

end Cert.Dx

end
-- ==== Proof.Dx.Step.lean ====
module

public import proofs.«01_k».proof.Proof.Dx.Tile

/-!
# One grid step of the kernel
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

/-- The step at a grid point, on any staging buffers. -/
abbrev step (i : grid0.Coords) (a2 : Memref sig .tc .vmem S1x1024x1024 .bf16) (h2 : a2.IsWhole)
    (a3 : Memref sig .tc .vmem S1x1024x1024 .bf16) (h3 : a3.IsWhole) (a4 : Memref sig .tc .vmem S1x2048x1024 .bf16) (h4 : a4.IsWhole)
    (a6 : Memref sig .tc .vmem S1x2048 .f32) (h6 : a6.IsWhole) (a9 : Memref sig .tc .vmem S1x2048 .f32) (h9 : a9.IsWhole) :
    Prog (TpuEff nD τ sig (Elt F) Λ₀ .tc) PUnit :=
  cc0_dh_dx i a2 h2 a3 h3 a4 h4 xM (Memref.isWhole_whole _) a6 h6 dM (Memref.isWhole_whole _) gM (Memref.isWhole_whole _) a9 h9
    accM (Memref.isWhole_whole _) xbM (Memref.isWhole_whole _) dbM (Memref.isWhole_whole _) cc0_scratch3

end Cert.Dx

end
-- ==== Proof.Dx.RunPlain.lean ====
module

public import proofs.«01_k».proof.Proof.Dx.Step

/-!
# The steps without a copy
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

/-- The very first step: the gain's gradient starts at zero and the block's product begins the first tile. -/
theorem runA (c : Dev nD) (i : grid0.Coords)
    (a2 : Memref sig .tc .vmem S1x1024x1024 .bf16) (h2 : a2.IsWhole)
    (a3 : Memref sig .tc .vmem S1x1024x1024 .bf16) (h3 : a3.IsWhole) (a4 : Memref sig .tc .vmem S1x2048x1024 .bf16) (h4 : a4.IsWhole)
    (a6 : Memref sig .tc .vmem S1x2048 .f32) (h6 : a6.IsWhole) (a9 : Memref sig .tc .vmem S1x2048 .f32) (h9 : a9.IsWhole)
    (hc1 : k0_cond1 i = 1#1) (hc2 : ¬ k0_cond2 i = 1#1) (hc3 : ¬ k0_cond3 i = 1#1) (hcF : condFirst i = 1#1)
    (hc5 : ¬ k0_cond5 i = 1#1) (hcA : ¬ condAdd i = 1#1) (hc9 : ¬ k0_cond9 i = 1#1)
    (x0 : Vec F S1x1024x1024 .bf16) (x2 : Vec F S1x2048x1024 .bf16) (K : PUnit → sProp 𝕄) :
    iprop(owns c.tc a2 fullShare x0 ∗ owns c.tc a4 fullShare x2
        ∗ (∃ d, owns c.tc accM fullShare d) ∗ (∃ d, owns c.tc a9 fullShare d)
        ∗ (iprop(owns c.tc a2 fullShare x0 ∗ owns c.tc a4 fullShare x2
            ∗ owns c.tc accM fullShare (k0_pay78 x0 x2) ∗ owns c.tc a9 fullShare (k0_pay77 (F := F))) -∗ K ⟨⟩))
      ⊢ wp frame (wpE (defs₀ (F := F)) Variants.none c.tc none) Set.univ (step i a2 h2 a3 h3 a4 h4 a6 h6 a9 h9) K := by
  unfold step
  simp only [cc0_dh_dx_eq_skeleton]; unfold cc0_dh_dx_skel
  simp only [k0_part17_eq_skeleton]; unfold k0_part17_skel
  unfold owns
  iintro ⟨⟨%f0, %hf0, H0⟩, ⟨%f2, %hf2, H2⟩, ⟨%da, %fa, -, Ha⟩, ⟨%d9, %f9, -, H9⟩, Hk⟩
  obtain rfl := h2.eq_unread hf0; obtain rfl := h4.eq_unread hf2
  sl_exec (disch := first | sl_exact hc1 | sl_exact hc2 | sl_exact hc3 | sl_exact hcF | sl_exact hc5 | sl_exact hcA | sl_exact hc9)
  sl_step
  iapply Hk
  isplitl [H0]
  · iexists _; isplitr; swap; · iexact H0
    ipureintro; exact hf0
  isplitl [H2]
  · iexists _; isplitr; swap; · iexact H2
    ipureintro; exact hf2
  isplitl [Ha]
  · iexists _; isplitr; swap; · iexact Ha
    ipureintro
    rw [View.read_writes_full, View.readAt_full, View.readAt_full, hf0, hf2]
  · iexists _; isplitr; swap; · iexact H9
    ipureintro; exact View.read_writes_full _ _ _ _ _

/-- One of the recurrence's blocks: its product is added. -/
theorem runLow (c : Dev nD) (i : grid0.Coords)
    (a2 : Memref sig .tc .vmem S1x1024x1024 .bf16) (h2 : a2.IsWhole)
    (a3 : Memref sig .tc .vmem S1x1024x1024 .bf16) (h3 : a3.IsWhole) (a4 : Memref sig .tc .vmem S1x2048x1024 .bf16) (h4 : a4.IsWhole)
    (a6 : Memref sig .tc .vmem S1x2048 .f32) (h6 : a6.IsWhole) (a9 : Memref sig .tc .vmem S1x2048 .f32) (h9 : a9.IsWhole)
    (hc1 : ¬ k0_cond1 i = 1#1) (hc2 : ¬ k0_cond2 i = 1#1) (hc3 : ¬ k0_cond3 i = 1#1) (hcF : ¬ condFirst i = 1#1)
    (hc5 : ¬ k0_cond5 i = 1#1) (hcA : condAdd i = 1#1) (hcL : condLow i = 1#1) (hcH : ¬ condHigh i = 1#1) (hc9 : ¬ k0_cond9 i = 1#1)
    (x0 : Vec F S1x1024x1024 .bf16) (x2 : Vec F S1x2048x1024 .bf16) (a : Vec F S1024x2048 .f32) (K : PUnit → sProp 𝕄) :
    iprop(owns c.tc a2 fullShare x0 ∗ owns c.tc a4 fullShare x2 ∗ owns c.tc accM fullShare a
        ∗ (iprop(owns c.tc a2 fullShare x0 ∗ owns c.tc a4 fullShare x2
            ∗ owns c.tc accM fullShare (k0_pay80 x0 a x2)) -∗ K ⟨⟩))
      ⊢ wp frame (wpE (defs₀ (F := F)) Variants.none c.tc none) Set.univ (step i a2 h2 a3 h3 a4 h4 a6 h6 a9 h9) K := by
  unfold step
  simp only [cc0_dh_dx_eq_skeleton]; unfold cc0_dh_dx_skel
  simp only [k0_part17_eq_skeleton]; unfold k0_part17_skel
  unfold owns
  iintro ⟨⟨%f0, %hf0, H0⟩, ⟨%f2, %hf2, H2⟩, ⟨%fa, %hfa, Ha⟩, Hk⟩
  obtain rfl := h2.eq_unread hf0; obtain rfl := h4.eq_unread hf2
  sl_exec (disch := first | sl_exact hc1 | sl_exact hc2 | sl_exact hc3 | sl_exact hcF | sl_exact hc5 | sl_exact hcA | sl_exact hcL | sl_exact hcH | sl_exact hc9)
  sl_step
  iapply Hk
  isplitl [H0]
  · iexists _; isplitr; swap; · iexact H0
    ipureintro; exact hf0
  isplitl [H2]
  · iexists _; isplitr; swap; · iexact H2
    ipureintro; exact hf2
  · iexists _; isplitr; swap; · iexact Ha
    ipureintro
    rw [View.read_writes_full, View.readAt_full, View.readAt_full, View.readAt_full, hf0, hf2, hfa]

/-- One of the attention's blocks: its product is added. -/
theorem runHigh (c : Dev nD) (i : grid0.Coords)
    (a2 : Memref sig .tc .vmem S1x1024x1024 .bf16) (h2 : a2.IsWhole)
    (a3 : Memref sig .tc .vmem S1x1024x1024 .bf16) (h3 : a3.IsWhole) (a4 : Memref sig .tc .vmem S1x2048x1024 .bf16) (h4 : a4.IsWhole)
    (a6 : Memref sig .tc .vmem S1x2048 .f32) (h6 : a6.IsWhole) (a9 : Memref sig .tc .vmem S1x2048 .f32) (h9 : a9.IsWhole)
    (hc1 : ¬ k0_cond1 i = 1#1) (hc2 : ¬ k0_cond2 i = 1#1) (hc3 : ¬ k0_cond3 i = 1#1) (hcF : ¬ condFirst i = 1#1)
    (hc5 : ¬ k0_cond5 i = 1#1) (hcA : condAdd i = 1#1) (hcL : ¬ condLow i = 1#1) (hcH : condHigh i = 1#1) (hc9 : ¬ k0_cond9 i = 1#1)
    (x0 : Vec F S1x1024x1024 .bf16) (x2 : Vec F S1x2048x1024 .bf16) (a : Vec F S1024x2048 .f32) (K : PUnit → sProp 𝕄) :
    iprop(owns c.tc a3 fullShare x0 ∗ owns c.tc a4 fullShare x2 ∗ owns c.tc accM fullShare a
        ∗ (iprop(owns c.tc a3 fullShare x0 ∗ owns c.tc a4 fullShare x2
            ∗ owns c.tc accM fullShare (k0_pay81 x0 a x2)) -∗ K ⟨⟩))
      ⊢ wp frame (wpE (defs₀ (F := F)) Variants.none c.tc none) Set.univ (step i a2 h2 a3 h3 a4 h4 a6 h6 a9 h9) K := by
  unfold step
  simp only [cc0_dh_dx_eq_skeleton]; unfold cc0_dh_dx_skel
  simp only [k0_part17_eq_skeleton]; unfold k0_part17_skel
  unfold owns
  iintro ⟨⟨%f0, %hf0, H0⟩, ⟨%f2, %hf2, H2⟩, ⟨%fa, %hfa, Ha⟩, Hk⟩
  obtain rfl := h3.eq_unread hf0; obtain rfl := h4.eq_unread hf2
  sl_exec (disch := first | sl_exact hc1 | sl_exact hc2 | sl_exact hc3 | sl_exact hcF | sl_exact hc5 | sl_exact hcA | sl_exact hcL | sl_exact hcH | sl_exact hc9)
  sl_step
  iapply Hk
  isplitl [H0]
  · iexists _; isplitr; swap; · iexact H0
    ipureintro; exact hf0
  isplitl [H2]
  · iexists _; isplitr; swap; · iexact H2
    ipureintro; exact hf2
  · iexists _; isplitr; swap; · iexact Ha
    ipureintro
    rw [View.read_writes_full, View.readAt_full, View.readAt_full, View.readAt_full, hf0, hf2, hfa]

end Cert.Dx

end
-- ==== Proof.Dx.RunD.lean ====
module

public import proofs.«01_k».proof.Proof.Dx.Step

/-!
# The step that fetches the first row tile
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

/-- The third block of the first row tile: the first tiles are fetched, and the block's product is added. -/
theorem runD (c : Dev nD) (i : grid0.Coords)
    (a2 : Memref sig .tc .vmem S1x1024x1024 .bf16) (h2 : a2.IsWhole)
    (a3 : Memref sig .tc .vmem S1x1024x1024 .bf16) (h3 : a3.IsWhole) (a4 : Memref sig .tc .vmem S1x2048x1024 .bf16) (h4 : a4.IsWhole)
    (a6 : Memref sig .tc .vmem S1x2048 .f32) (h6 : a6.IsWhole) (a9 : Memref sig .tc .vmem S1x2048 .f32) (h9 : a9.IsWhole)
    (hc1 : ¬ k0_cond1 i = 1#1) (hc2 : ¬ k0_cond2 i = 1#1) (hc3 : k0_cond3 i = 1#1) (hcF : ¬ condFirst i = 1#1)
    (hc5 : ¬ k0_cond5 i = 1#1) (hcA : condAdd i = 1#1) (hcL : condLow i = 1#1) (hcH : ¬ condHigh i = 1#1) (hc9 : ¬ k0_cond9 i = 1#1)
    (x0 : Vec F S1x1024x1024 .bf16) (x2 : Vec F S1x2048x1024 .bf16) (a : Vec F S1024x2048 .f32)
    (X : Buf (Elt F) (xM.view.loc c.tc)) (D : Buf (Elt F) (dM.view.loc c.tc))
    (W : Waits sig Unit) (K : PUnit → sProp 𝕄) :
    iprop(owns c.tc a2 fullShare x0 ∗ owns c.tc a4 fullShare x2 ∗ owns c.tc accM fullShare a
        ∗ homeP c (rowsAt xM (k0_off2 i) (k0_off2_inb i hc3)) X ∗ homeP c (rowsAt dM (k0_off2 i) (k0_off2_inb i hc3)) D ∗ (∃ d, owns c.tc xbM fullShare d) ∗ (∃ d, owns c.tc dbM fullShare d)
        ∗ cellP c 0 ∗ cellP c 1 ∗ owes c.tc 0 W
        ∗ (iprop(owns c.tc a2 fullShare x0 ∗ owns c.tc a4 fullShare x2 ∗ owns c.tc accM fullShare (k0_pay80 x0 a x2)
            ∗ (∃ f, ⌜xbM.view.read (Elt F) f = (rowsAt xM (k0_off2 i) (k0_off2_inb i hc3)).view.read (Elt F) X⌝ ∗ fetchP c 0 xbM f (rowsAt xM (k0_off2 i) (k0_off2_inb i hc3)) X)
            ∗ (∃ f, ⌜dbM.view.read (Elt F) f = (rowsAt dM (k0_off2 i) (k0_off2_inb i hc3)).view.read (Elt F) D⌝ ∗ fetchP c 1 dbM f (rowsAt dM (k0_off2 i) (k0_off2_inb i hc3)) D)
            ∗ (∃ W', owes c.tc 0 W')) -∗ K ⟨⟩))
      ⊢ wp frame (wpE (defs₀ (F := F)) Variants.none c.tc none) Set.univ (step i a2 h2 a3 h3 a4 h4 a6 h6 a9 h9) K := by
  unfold step
  simp only [cc0_dh_dx_eq_skeleton]; unfold cc0_dh_dx_skel
  simp only [k0_part17_eq_skeleton]; unfold k0_part17_skel
  unfold owns
  iintro ⟨⟨%f0, %hf0, H0⟩, ⟨%f2, %hf2, H2⟩, ⟨%fa, %hfa, Ha⟩, Hx, Hd, ⟨%db, %fb, -, Hxb⟩, ⟨%dd, %fd, -, Hdb⟩, HC0, HC1, HW, Hk⟩
  obtain rfl := h2.eq_unread hf0; obtain rfl := h4.eq_unread hf2
  sl_exec (disch := first | sl_exact hc1 | sl_exact hc2 | sl_exact hc3 | sl_exact hcF | sl_exact hc5 | sl_exact hcA | sl_exact hcL | sl_exact hcH | sl_exact hc9)
  sl_step
  iapply Hk
  isplitl [H0]
  · iexists _; isplitr; swap; · iexact H0
    ipureintro; exact hf0
  isplitl [H2]
  · iexists _; isplitr; swap; · iexact H2
    ipureintro; exact hf2
  isplitl [Ha]
  · iexists _; isplitr; swap; · iexact Ha
    ipureintro
    rw [View.read_writes_full, View.readAt_full, View.readAt_full, View.readAt_full, hf0, hf2, hfa]
  isplitl [HC0]
  · iexists _; isplitr; swap; · iexact HC0
    ipureintro; exact View.read_writes_whole _ _ _
  isplitl [HC1]
  · iexists _; isplitr; swap; · iexact HC1
    ipureintro; exact View.read_writes_whole _ _ _
  iexists _; iexact HW

end Cert.Dx

end
-- ==== Proof.Dx.RunE.lean ====
module

public import proofs.«01_k».proof.Proof.Dx.Step

/-!
# A step that takes back the store and fetches anew
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

/-- The third block of a later row tile: the store of the tile before is waited for, the next tiles of `x` and of the
    later layers' gradient are fetched, and the block's product is added. -/
theorem runE (c : Dev nD) (i : grid0.Coords) (k : Fin 8)
    (a2 : Memref sig .tc .vmem S1x1024x1024 .bf16) (h2 : a2.IsWhole)
    (a3 : Memref sig .tc .vmem S1x1024x1024 .bf16) (h3 : a3.IsWhole) (a4 : Memref sig .tc .vmem S1x2048x1024 .bf16) (h4 : a4.IsWhole)
    (a6 : Memref sig .tc .vmem S1x2048 .f32) (h6 : a6.IsWhole) (a9 : Memref sig .tc .vmem S1x2048 .f32) (h9 : a9.IsWhole)
    (hc1 : ¬ k0_cond1 i = 1#1) (hc2 : k0_cond2 i = 1#1) (hc3 : k0_cond3 i = 1#1) (hcF : ¬ condFirst i = 1#1)
    (hc5 : ¬ k0_cond5 i = 1#1) (hcA : condAdd i = 1#1) (hcL : condLow i = 1#1) (hcH : ¬ condHigh i = 1#1) (hc9 : ¬ k0_cond9 i = 1#1)
    (x0 : Vec F S1x1024x1024 .bf16) (x2 : Vec F S1x2048x1024 .bf16) (a : Vec F S1024x2048 .f32)
    (X : Buf (Elt F) (xM.view.loc c.tc)) (D : Buf (Elt F) (dM.view.loc c.tc)) (G : Buf (Elt F) (gM.view.loc c.tc))
    (fb : Buf (Elt F) (xbM.view.loc c.tc)) (W : Waits sig Unit) (K : PUnit → sProp 𝕄) :
    iprop(owns c.tc a2 fullShare x0 ∗ owns c.tc a4 fullShare x2 ∗ owns c.tc accM fullShare a
        ∗ homeP c (rowsAt xM (k0_off2 i) (k0_off2_inb i hc3)) X ∗ homeP c (rowsAt dM (k0_off2 i) (k0_off2_inb i hc3)) D ∗ storeP c (tile gM k) G xbM fb ∗ (∃ d, owns c.tc dbM fullShare d)
        ∗ cellP c 0 ∗ cellP c 1 ∗ owes c.tc 0 W
        ∗ (iprop(owns c.tc a2 fullShare x0 ∗ owns c.tc a4 fullShare x2 ∗ owns c.tc accM fullShare (k0_pay80 x0 a x2)
            ∗ (∃ f, ⌜xbM.view.read (Elt F) f = (rowsAt xM (k0_off2 i) (k0_off2_inb i hc3)).view.read (Elt F) X⌝ ∗ fetchP c 0 xbM f (rowsAt xM (k0_off2 i) (k0_off2_inb i hc3)) X)
            ∗ (∃ f, ⌜dbM.view.read (Elt F) f = (rowsAt dM (k0_off2 i) (k0_off2_inb i hc3)).view.read (Elt F) D⌝ ∗ fetchP c 1 dbM f (rowsAt dM (k0_off2 i) (k0_off2_inb i hc3)) D)
            ∗ homeP c (tile gM k) G
            ∗ cellP c 2 ∗ (∃ W', owes c.tc 0 W')) -∗ K ⟨⟩))
      ⊢ wp frame (wpE (defs₀ (F := F)) Variants.none c.tc none) Set.univ (step i a2 h2 a3 h3 a4 h4 a6 h6 a9 h9) K := by
  unfold step
  simp only [cc0_dh_dx_eq_skeleton]; unfold cc0_dh_dx_skel
  simp only [k0_part17_eq_skeleton]; unfold k0_part17_skel
  unfold owns
  iintro ⟨⟨%f0, %hf0, H0⟩, ⟨%f2, %hf2, H2⟩, ⟨%fa, %hfa, Ha⟩, Hx, Hd, HS, ⟨%dd, %fd, -, Hdb⟩, HC0, HC1, HW, Hk⟩
  obtain rfl := h2.eq_unread hf0; obtain rfl := h4.eq_unread hf2
  sl_exec (disch := first | sl_exact hc1 | sl_exact hc2 | sl_exact hc3 | sl_exact hcF | sl_exact hc5 | sl_exact hcA | sl_exact hcL | sl_exact hcH | sl_exact hc9)
  sl_step
  iapply Hk
  isplitl [H0]
  · iexists _; isplitr; swap; · iexact H0
    ipureintro; exact hf0
  isplitl [H2]
  · iexists _; isplitr; swap; · iexact H2
    ipureintro; exact hf2
  isplitl [Ha]
  · iexists _; isplitr; swap; · iexact Ha
    ipureintro
    rw [View.read_writes_full, View.readAt_full, View.readAt_full, View.readAt_full, hf0, hf2, hfa]
  isplitl [HC0]
  · iexists _; isplitr; swap; · iexact HC0
    ipureintro; exact View.read_writes_whole _ _ _
  isplitl [HC1]
  · iexists _; isplitr; swap; · iexact HC1
    ipureintro; exact View.read_writes_whole _ _ _
  isplitl [HS_dst]; · iexact HS_dst
  isplitl [HS]; · iexact HS
  iexists _; iexact HW

end Cert.Dx

end
-- ==== Proof.Dx.RunB.lean ====
module

public import proofs.«01_k».proof.Proof.Dx.Step

/-!
# A step that finishes the row tile before
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

set_option maxHeartbeats 1000000 in
/-- The first block of a later row tile: both fetches of the tile before are waited for, its rows and its part of the
    gain's gradient are finished, the store of its rows starts, and the block's product begins the new tile. -/
theorem runB (c : Dev nD) (i : grid0.Coords)
    (a2 : Memref sig .tc .vmem S1x1024x1024 .bf16) (h2 : a2.IsWhole)
    (a3 : Memref sig .tc .vmem S1x1024x1024 .bf16) (h3 : a3.IsWhole) (a4 : Memref sig .tc .vmem S1x2048x1024 .bf16) (h4 : a4.IsWhole)
    (a6 : Memref sig .tc .vmem S1x2048 .f32) (h6 : a6.IsWhole) (a9 : Memref sig .tc .vmem S1x2048 .f32) (h9 : a9.IsWhole)
    (hc1 : ¬ k0_cond1 i = 1#1) (hc2 : ¬ k0_cond2 i = 1#1) (hc3 : ¬ k0_cond3 i = 1#1) (hcF : ¬ condFirst i = 1#1)
    (hc5 : k0_cond5 i = 1#1) (hcA : ¬ condAdd i = 1#1) (hc9 : ¬ k0_cond9 i = 1#1)
    (x0 : Vec F S1x1024x1024 .bf16) (x2 : Vec F S1x2048x1024 .bf16) (a : Vec F S1024x2048 .f32)
    (g o : Vec F S1x2048 .f32) (T : Fin 8)
    (X : Buf (Elt F) (xM.view.loc c.tc)) (D : Buf (Elt F) (dM.view.loc c.tc)) (G : Buf (Elt F) (gM.view.loc c.tc))
    (fx : Buf (Elt F) (xbM.view.loc c.tc)) (fd : Buf (Elt F) (dbM.view.loc c.tc)) (W : Waits sig Unit) (K : PUnit → sProp 𝕄) :
    iprop(owns c.tc a2 fullShare x0 ∗ owns c.tc a4 fullShare x2 ∗ owns c.tc accM fullShare a
        ∗ owns c.tc a6 fullShare g ∗ owns c.tc a9 fullShare o
        ∗ homeP c (rowsAt gM (k0_off4 i) (k0_off4_inb i hc5)) G
        ∗ fetchP c 0 xbM fx (tile xM T) X ∗ fetchP c 1 dbM fd (tile dM T) D
        ∗ cellP c 2 ∗ owes c.tc 0 W
        ∗ (iprop(owns c.tc a2 fullShare x0 ∗ owns c.tc a4 fullShare x2 ∗ owns c.tc accM fullShare (k0_pay78 x0 x2)
            ∗ owns c.tc a6 fullShare g
            ∗ owns c.tc a9 fullShare (gainOut a (xbM.view.read (Elt F) fx) o)
            ∗ (∃ G' f, ⌜(rowsAt gM (k0_off4 i) (k0_off4_inb i hc5)).view.read (Elt F) G'
                  = rowsOut g a (xbM.view.read (Elt F) fx) (dbM.view.read (Elt F) fd)⌝ ∗ storeP c (rowsAt gM (k0_off4 i) (k0_off4_inb i hc5)) G' xbM f)
            ∗ bufP c dbM fd ∗ homeP c (tile xM T) X ∗ homeP c (tile dM T) D
            ∗ cellP c 0 ∗ cellP c 1 ∗ (∃ W', owes c.tc 0 W')) -∗ K ⟨⟩))
      ⊢ wp frame (wpE (defs₀ (F := F)) Variants.none c.tc none) Set.univ (step i a2 h2 a3 h3 a4 h4 a6 h6 a9 h9) K := by
  unfold step
  simp only [cc0_dh_dx_eq_skeleton]; unfold cc0_dh_dx_skel
  simp only [k0_part17_eq_skeleton]; unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f2, %hf2, H2⟩, ⟨%fa, %hfa, Ha⟩, ⟨%f6, %hf6, H6⟩, ⟨%f9, %hf9, H9⟩, HG, HX, HD, HC2, HW, Hk⟩
  obtain rfl := h2.eq_unread hf0; obtain rfl := h4.eq_unread hf2; obtain rfl := h6.eq_unread hf6; obtain rfl := h9.eq_unread hf9
  sl_exec (disch := first | sl_exact hc1 | sl_exact hc2 | sl_exact hc3 | sl_exact hcF | sl_exact hc5 | sl_exact hcA | sl_exact hc9)
  sl_step
  iapply Hk
  isplitl [H0]
  · iexists _; isplitr; swap; · iexact H0
    ipureintro; exact hf0
  isplitl [H2]
  · iexists _; isplitr; swap; · iexact H2
    ipureintro; exact hf2
  isplitl [Ha]
  · iexists _; isplitr; swap; · iexact Ha
    ipureintro
    refine (View.read_writes_full _ _ _ _ _).trans ?_
    exact (congrArg₂ (fun u w => k0_pay79 (k0_pay37 u) w) ((View.readAt_full _ _ _).trans hf0) ((View.readAt_full _ _ _).trans hf2)).trans rfl
  isplitl [H6]
  · iexists _; isplitr; swap; · iexact H6
    ipureintro; exact hf6
  isplitl [H9]
  · iexists _; isplitr; swap; · iexact H9
    ipureintro
    refine (View.read_writes_full _ _ _ _ _).trans ?_
    subst hfa
    unfold gainOut
    refine congrArg (gainChunk (accM.view.read (Elt F) fa) (xbM.view.read (Elt F) fx) 7) ((View.readCov_full _ _ _ _ _).trans ?_)
    refine congrArg (gainChunk (accM.view.read (Elt F) fa) (xbM.view.read (Elt F) fx) 6) ((View.readCov_full _ _ _ _ _).trans ?_)
    refine congrArg (gainChunk (accM.view.read (Elt F) fa) (xbM.view.read (Elt F) fx) 5) ((View.readCov_full _ _ _ _ _).trans ?_)
    refine congrArg (gainChunk (accM.view.read (Elt F) fa) (xbM.view.read (Elt F) fx) 4) ((View.readCov_full _ _ _ _ _).trans ?_)
    refine congrArg (gainChunk (accM.view.read (Elt F) fa) (xbM.view.read (Elt F) fx) 3) ((View.readCov_full _ _ _ _ _).trans ?_)
    refine congrArg (gainChunk (accM.view.read (Elt F) fa) (xbM.view.read (Elt F) fx) 2) ((View.readCov_full _ _ _ _ _).trans ?_)
    refine (gain_one (accM.view.read (Elt F) fa) (xbM.view.read (Elt F) fx) _).trans (congrArg (gainChunk (accM.view.read (Elt F) fa) (xbM.view.read (Elt F) fx) 1) ?_)
    refine ((View.readCov_full _ _ _ _ _).trans ?_)
    exact congrArg (gainChunk (accM.view.read (Elt F) fa) (xbM.view.read (Elt F) fx) 0) ((View.readAt_full _ _ _).trans hf9)
  isplitl [HC2]
  · iexists _, _; isplitr; swap; · iexact HC2
    ipureintro
    refine (View.read_writes_whole _ _ _).trans ?_
    subst hfa
    unfold rowsOut
    have e6 : View.readAt (Elt F) a6.view (Rect.unit (s := S1x2048) ![0, 0] S1x2048.size inb_S1x2048_S1x2048_0_0).toLoadRect (h6.unread g) = g :=
      (View.readAt_full _ _ _).trans hf6
    refine read_put _ _ _ 7 rfl _ _ _ _ _ _ _ (congrArg (fun q => rowChunk q _ _ _ 7) e6) ?_
    refine read_put _ _ _ 6 rfl _ _ _ _ _ _ _ (congrArg (fun q => rowChunk q _ _ _ 6) e6) ?_
    refine read_put _ _ _ 5 rfl _ _ _ _ _ _ _ (congrArg (fun q => rowChunk q _ _ _ 5) e6) ?_
    refine read_put _ _ _ 4 rfl _ _ _ _ _ _ _ (congrArg (fun q => rowChunk q _ _ _ 4) e6) ?_
    refine read_put _ _ _ 3 rfl _ _ _ _ _ _ _ (congrArg (fun q => rowChunk q _ _ _ 3) e6) ?_
    refine read_put _ _ _ 2 rfl _ _ _ _ _ _ _ (congrArg (fun q => rowChunk q _ _ _ 2) e6) ?_
    refine read_put _ _ _ 1 rfl _ _ _ _ _ _ _ (congrArg (fun q => rowChunk q _ _ _ 1) e6) ?_
    exact read_put _ _ _ 0 rfl _ _ _ _ _ _ _ (congrArg (fun q => rowChunk q _ _ _ 0) e6) rfl
  isplitl [HD_dst]; · iexact HD_dst
  isplitl [HX_src]; · iexact HX_src
  isplitl [HD_src]; · iexact HD_src
  isplitl [HX]; · iexact HX
  isplitl [HD]; · iexact HD
  iexists _; iexact HW

end Cert.Dx

end
-- ==== Proof.Dx.RunH.lean ====
module

public import proofs.«01_k».proof.Proof.Dx.Step

/-!
# The last step
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

set_option maxHeartbeats 1000000 in
/-- The last step: the last block's product is added, the fetches of the last row tile are waited for, its rows and its
    part of the gain's gradient are finished, and its rows are stored and the store waited for. -/
theorem runH (c : Dev nD) (i : grid0.Coords)
    (a2 : Memref sig .tc .vmem S1x1024x1024 .bf16) (h2 : a2.IsWhole)
    (a3 : Memref sig .tc .vmem S1x1024x1024 .bf16) (h3 : a3.IsWhole) (a4 : Memref sig .tc .vmem S1x2048x1024 .bf16) (h4 : a4.IsWhole)
    (a6 : Memref sig .tc .vmem S1x2048 .f32) (h6 : a6.IsWhole) (a9 : Memref sig .tc .vmem S1x2048 .f32) (h9 : a9.IsWhole)
    (hc1 : ¬ k0_cond1 i = 1#1) (hc2 : ¬ k0_cond2 i = 1#1) (hc3 : ¬ k0_cond3 i = 1#1) (hcF : ¬ condFirst i = 1#1)
    (hc5 : ¬ k0_cond5 i = 1#1) (hcA : condAdd i = 1#1) (hcL : ¬ condLow i = 1#1) (hcH : condHigh i = 1#1) (hc9 : k0_cond9 i = 1#1)
    (x0 : Vec F S1x1024x1024 .bf16) (x2 : Vec F S1x2048x1024 .bf16) (a : Vec F S1024x2048 .f32)
    (g o : Vec F S1x2048 .f32) (T : Fin 8)
    (X : Buf (Elt F) (xM.view.loc c.tc)) (D : Buf (Elt F) (dM.view.loc c.tc)) (G : Buf (Elt F) (gM.view.loc c.tc))
    (fx : Buf (Elt F) (xbM.view.loc c.tc)) (fd : Buf (Elt F) (dbM.view.loc c.tc)) (W : Waits sig Unit) (K : PUnit → sProp 𝕄) :
    iprop(owns c.tc a3 fullShare x0 ∗ owns c.tc a4 fullShare x2 ∗ owns c.tc accM fullShare a
        ∗ owns c.tc a6 fullShare g ∗ owns c.tc a9 fullShare o
        ∗ homeP c (rowsAt gM (k0_off5 i) (k0_off5_inb i hc9)) G
        ∗ fetchP c 0 xbM fx (tile xM T) X ∗ fetchP c 1 dbM fd (tile dM T) D
        ∗ cellP c 2 ∗ owes c.tc 0 W
        ∗ (iprop(owns c.tc a3 fullShare x0 ∗ owns c.tc a4 fullShare x2 ∗ owns c.tc accM fullShare (k0_pay81 x0 a x2)
            ∗ owns c.tc a6 fullShare g
            ∗ owns c.tc a9 fullShare (gainOut (k0_pay81 x0 a x2) (xbM.view.read (Elt F) fx) o)
            ∗ (∃ G', ⌜(rowsAt gM (k0_off5 i) (k0_off5_inb i hc9)).view.read (Elt F) G'
                  = rowsOut g (k0_pay81 x0 a x2) (xbM.view.read (Elt F) fx) (dbM.view.read (Elt F) fd)⌝ ∗ homeP c (rowsAt gM (k0_off5 i) (k0_off5_inb i hc9)) G')
            ∗ (∃ f, bufP c xbM f)
            ∗ bufP c dbM fd ∗ homeP c (tile xM T) X ∗ homeP c (tile dM T) D
            ∗ cellP c 0 ∗ cellP c 1 ∗ cellP c 2 ∗ (∃ W', owes c.tc 0 W')) -∗ K ⟨⟩))
      ⊢ wp frame (wpE (defs₀ (F := F)) Variants.none c.tc none) Set.univ (step i a2 h2 a3 h3 a4 h4 a6 h6 a9 h9) K := by
  unfold step
  simp only [cc0_dh_dx_eq_skeleton]; unfold cc0_dh_dx_skel
  simp only [k0_part17_eq_skeleton]; unfold k0_part17_skel
  simp only [k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f2, %hf2, H2⟩, ⟨%fa, %hfa, Ha⟩, ⟨%f6, %hf6, H6⟩, ⟨%f9, %hf9, H9⟩, HG, HX, HD, HC2, HW, Hk⟩
  obtain rfl := h3.eq_unread hf0; obtain rfl := h4.eq_unread hf2; obtain rfl := h6.eq_unread hf6; obtain rfl := h9.eq_unread hf9
  sl_exec (disch := first | sl_exact hc1 | sl_exact hc2 | sl_exact hc3 | sl_exact hcF | sl_exact hc5 | sl_exact hcA | sl_exact hcL | sl_exact hcH | sl_exact hc9)
  sl_step
  subst hfa
  set a1 : Vec F S1024x2048 .f32 := accM.view.read (Elt F) (accM.view.writes (Elt F) accM.view.junk
    [⟨Rect.unit (s := S1024x2048) ![0, 0] S1024x2048.size inb_S1024x2048_S1024x2048_0_0,
      k0_pay81 (View.readAt (Elt F) a3.view (Rect.unit (s := S1x1024x1024) ![0, 0, 0] S1x1024x1024.size inb_S1x1024x1024_S1x1024x1024_0_0_0).toLoadRect (h3.unread x0))
        (View.readAt (Elt F) accM.view (Rect.unit (s := S1024x2048) ![0, 0] S1024x2048.size inb_S1024x2048_S1024x2048_0_0).toLoadRect fa)
        (View.readAt (Elt F) a4.view (Rect.unit (s := S1x2048x1024) ![0, 0, 0] S1x2048x1024.size inb_S1x2048x1024_S1x2048x1024_0_0_0).toLoadRect (h4.unread x2))⟩]) with ha1
  have e1 : k0_pay81 x0 (accM.view.read (Elt F) fa) x2 = a1 := by
    rw [ha1, View.read_writes_full, View.readAt_full, View.readAt_full, View.readAt_full, hf0, hf2]
  have e6 : View.readAt (Elt F) a6.view (Rect.unit (s := S1x2048) ![0, 0] S1x2048.size inb_S1x2048_S1x2048_0_0).toLoadRect (h6.unread g) = g :=
    (View.readAt_full _ _ _).trans hf6
  iapply Hk
  isplitl [H0]
  · iexists _; isplitr; swap; · iexact H0
    ipureintro; exact hf0
  isplitl [H2]
  · iexists _; isplitr; swap; · iexact H2
    ipureintro; exact hf2
  isplitl [Ha]
  · iexists _; isplitr; swap; · iexact Ha
    ipureintro
    refine (View.read_writes_full _ _ _ _ _).trans ?_
    rw [View.readAt_full, View.readAt_full, View.readAt_full, hf0, hf2]
  isplitl [H6]
  · iexists _; isplitr; swap; · iexact H6
    ipureintro; exact hf6
  isplitl [H9]
  · iexists _; isplitr; swap; · iexact H9
    ipureintro
    refine (View.read_writes_full _ _ _ _ _).trans ?_
    rw [e1]
    unfold gainOut
    refine congrArg (gainChunk a1 (xbM.view.read (Elt F) fx) 7) ((View.readCov_full _ _ _ _ _).trans ?_)
    refine congrArg (gainChunk a1 (xbM.view.read (Elt F) fx) 6) ((View.readCov_full _ _ _ _ _).trans ?_)
    refine congrArg (gainChunk a1 (xbM.view.read (Elt F) fx) 5) ((View.readCov_full _ _ _ _ _).trans ?_)
    refine congrArg (gainChunk a1 (xbM.view.read (Elt F) fx) 4) ((View.readCov_full _ _ _ _ _).trans ?_)
    refine congrArg (gainChunk a1 (xbM.view.read (Elt F) fx) 3) ((View.readCov_full _ _ _ _ _).trans ?_)
    refine congrArg (gainChunk a1 (xbM.view.read (Elt F) fx) 2) ((View.readCov_full _ _ _ _ _).trans ?_)
    refine (gain_one_last a1 (xbM.view.read (Elt F) fx) _).trans (congrArg (gainChunk a1 (xbM.view.read (Elt F) fx) 1) ?_)
    refine ((View.readCov_full _ _ _ _ _).trans ?_)
    exact (gain_zero_last a1 (xbM.view.read (Elt F) fx) _).trans (congrArg (gainChunk a1 (xbM.view.read (Elt F) fx) 0) ((View.readAt_full _ _ _).trans hf9))
  isplitl [HG]
  · iexists _; isplitr; swap; · iexact HG
    ipureintro
    refine (View.read_writes_whole _ _ _).trans ?_
    rw [e1]
    unfold rowsOut
    refine read_put _ _ _ 7 rfl _ _ _ _ _ _ _ (congrArg (fun q => rowChunk q a1 _ _ 7) e6) ?_
    refine read_put _ _ _ 6 rfl _ _ _ _ _ _ _ (congrArg (fun q => rowChunk q a1 _ _ 6) e6) ?_
    refine read_put _ _ _ 5 rfl _ _ _ _ _ _ _ (congrArg (fun q => rowChunk q a1 _ _ 5) e6) ?_
    refine read_put _ _ _ 4 rfl _ _ _ _ _ _ _ (congrArg (fun q => rowChunk q a1 _ _ 4) e6) ?_
    refine read_put _ _ _ 3 rfl _ _ _ _ _ _ _ (congrArg (fun q => rowChunk q a1 _ _ 3) e6) ?_
    refine read_put _ _ _ 2 rfl _ _ _ _ _ _ _ (congrArg (fun q => rowChunk q a1 _ _ 2) e6) ?_
    refine read_put _ _ _ 1 rfl _ _ _ _ _ _ _ (congrArg (fun q => rowChunk q a1 _ _ 1) e6) ?_
    exact read_put _ _ _ 0 rfl _ _ _ _ _ _ _ (congrArg (fun q => rowChunk q a1 _ _ 0) e6) rfl
  isplitl [HX_dst]; · iexists _; iexact HX_dst
  isplitl [HD_dst]; · iexact HD_dst
  isplitl [HX_src]; · iexact HX_src
  isplitl [HD_src]; · iexact HD_src
  isplitl [HX]; · iexact HX
  isplitl [HD]; · iexact HD
  isplitl [HC2]; · iexact HC2
  iexists _; iexact HW

end Cert.Dx

end
-- ==== Proof.Dx.Body.lean ====
module

public import proofs.«01_k».proof.Proof.Dx.State
public import proofs.«01_k».proof.Proof.Dx.RunPlain
public import proofs.«01_k».proof.Proof.Dx.RunD
public import proofs.«01_k».proof.Proof.Dx.RunE
public import proofs.«01_k».proof.Proof.Dx.RunB
public import proofs.«01_k».proof.Proof.Dx.RunH

/-!
# Every step keeps what holds between the steps
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-- What a step starts from: what holds before it, the blocks staged, and the gain's gradient as the step before left it. -/
def stepPre (c : Dev nD) (t : Fin cfg0.N) : sProp 𝕄 :=
  iprop(inv m c t.val ∗ (∃ W, owes c.tc 0 W)
    ∗ owns c.tc (st0_0 t) fullShare (zhB m c t) ∗ owns c.tc (st0_1 t) fullShare (zaB m c t)
    ∗ owns c.tc (st0_2 t) fullShare (wB m c t) ∗ owns c.tc (st0_3 t) fullShare (gB m c t)
    ∗ (∃ d, ⌜t.val ≠ 0 → d = dgA m c (t.val - 1)⌝ ∗ owns c.tc (st0_4 t) fullShare d))
/-- What it leaves. -/
def stepPost (c : Dev nD) (t : Fin cfg0.N) : sProp 𝕄 :=
  iprop(inv m c (t.val + 1) ∗ (∃ W, owes c.tc 0 W)
    ∗ owns c.tc (st0_0 t) fullShare (zhB m c t) ∗ owns c.tc (st0_1 t) fullShare (zaB m c t)
    ∗ owns c.tc (st0_2 t) fullShare (wB m c t) ∗ owns c.tc (st0_3 t) fullShare (gB m c t)
    ∗ owns c.tc (st0_4 t) fullShare (dgA m c t.val))

/-- The claim of one step. -/
abbrev StepOK (c : Dev nD) (t : Fin cfg0.N) : Prop :=
  stepPre m c t ⊢ wp frame (wpE (defs₀ (F := F)) Variants.none c.tc none) Set.univ (bodyAt0 t) (fun _ => stepPost m c t)

/-- The very first step. -/
theorem step_first (c : Dev nD) (t : Fin cfg0.N) (h : t.val = 0) : StepOK m c t := by
  unfold StepOK stepPre stepPost inv accP
  iintro ⟨⟨⟨%a, -, Ha⟩, HR⟩, HW, H0, H1, H2, H3, ⟨%d, -, H4⟩⟩
  iapply (runA c (grid0.coords t) _ _ _ _ _ _ _ _ _ _ ((cond1_iff t).mpr h) (fun e => by have := (cond2_iff t).mp e; omega)
    (fun e => by have := (cond3_iff t).mp e; omega) ((condFirst_iff t).mpr h) (fun e => by have := (cond5_iff t).mp e; omega)
    (fun e => by have := (condAdd_iff t).mp e; omega) (fun e => by have := (cond9_iff t).mp e; omega) (zhB m c t) (wB m c t) _)
  isplitl [H0]; · iexact H0
  isplitl [H2]; · iexact H2
  isplitl [Ha]; · iexists a; iexact Ha
  isplitl [H4]; · iexists d; iexact H4
  iintro ⟨H0, H2, Ha, H4⟩
  isplitl [Ha HR]
  · isplitl [Ha]
    · iexists _; isplitr; swap; · iexact Ha
      ipureintro; exact fun _ => (accA_first m c t (by omega)).symm
    · iapply (copiesP_keep m c t.val (by omega) (Or.inr h)); iexact HR
  isplitl [HW]; · iexact HW
  isplitl [H0]; · iexact H0
  isplitl [H1]; · iexact H1
  isplitl [H2]; · iexact H2
  isplitl [H3]; · iexact H3
  irw [dgA_first m c t h]; iexact H4

/-- A step that only adds one of the recurrence's products. -/
theorem step_low (c : Dev nD) (t : Fin cfg0.N) (h : t.val % 8 = 1 ∨ t.val % 8 = 3) : StepOK m c t := by
  have hN : t.val < 64 := lt_of_lt_of_eq t.isLt (show cfg0.N = 64 from N_0)
  unfold StepOK stepPre stepPost inv accP
  iintro ⟨⟨⟨%a, %ha, Ha⟩, HR⟩, HW, H0, H1, H2, H3, ⟨%d, %hd, H4⟩⟩
  obtain rfl := ha (by omega); obtain rfl := hd (by omega)
  iapply (runLow c (grid0.coords t) _ _ _ _ _ _ _ _ _ _ (fun e => by have := (cond1_iff t).mp e; omega) (fun e => by have := (cond2_iff t).mp e; omega)
    (fun e => by have := (cond3_iff t).mp e; omega) (fun e => by have := (condFirst_iff t).mp e; omega) (fun e => by have := (cond5_iff t).mp e; omega)
    ((condAdd_iff t).mpr (by omega)) ((condLow_iff t).mpr (by omega)) (fun e => by have := (condHigh_iff t).mp e; omega)
    (fun e => by have := (cond9_iff t).mp e; omega) (zhB m c t) (wB m c t) (accA m c t.val) _)
  isplitl [H0]; · iexact H0
  isplitl [H2]; · iexact H2
  isplitl [Ha]; · iexact Ha
  iintro ⟨H0, H2, Ha⟩
  isplitl [Ha HR]
  · isplitl [Ha]
    · iexists _; isplitr; swap; · iexact Ha
      ipureintro; exact fun _ => (accA_low m c t (by omega) (by omega)).symm
    · iapply (copiesP_keep m c t.val (by omega) (by omega)); iexact HR
  isplitl [HW]; · iexact HW
  isplitl [H0]; · iexact H0
  isplitl [H1]; · iexact H1
  isplitl [H2]; · iexact H2
  isplitl [H3]; · iexact H3
  irw [dgA_same m c t (by omega) (by omega)]; iexact H4

/-- A step that only adds one of the attention's products. -/
theorem step_high (c : Dev nD) (t : Fin cfg0.N) (h : 4 ≤ t.val % 8) (h' : t.val ≠ 63) : StepOK m c t := by
  have hN : t.val < 64 := lt_of_lt_of_eq t.isLt (show cfg0.N = 64 from N_0)
  unfold StepOK stepPre stepPost inv accP
  iintro ⟨⟨⟨%a, %ha, Ha⟩, HR⟩, HW, H0, H1, H2, H3, ⟨%d, %hd, H4⟩⟩
  obtain rfl := ha (by omega); obtain rfl := hd (by omega)
  iapply (runHigh c (grid0.coords t) _ _ _ _ _ _ _ _ _ _ (fun e => by have := (cond1_iff t).mp e; omega) (fun e => by have := (cond2_iff t).mp e; omega)
    (fun e => by have := (cond3_iff t).mp e; omega) (fun e => by have := (condFirst_iff t).mp e; omega) (fun e => by have := (cond5_iff t).mp e; omega)
    ((condAdd_iff t).mpr (by omega)) (fun e => by have := (condLow_iff t).mp e; omega) ((condHigh_iff t).mpr (by omega))
    (fun e => by have := (cond9_iff t).mp e; omega) (zaB m c t) (wB m c t) (accA m c t.val) _)
  isplitl [H1]; · iexact H1
  isplitl [H2]; · iexact H2
  isplitl [Ha]; · iexact Ha
  iintro ⟨H1, H2, Ha⟩
  isplitl [Ha HR]
  · isplitl [Ha]
    · iexists _; isplitr; swap; · iexact Ha
      ipureintro; exact fun _ => (accA_high m c t (by omega)).symm
    · iapply (copiesP_keep m c t.val (by omega) (by omega)); iexact HR
  isplitl [HW]; · iexact HW
  isplitl [H0]; · iexact H0
  isplitl [H1]; · iexact H1
  isplitl [H2]; · iexact H2
  isplitl [H3]; · iexact H3
  irw [dgA_same m c t (by omega) (by omega)]; iexact H4

end Cert.Dx

end
-- ==== Proof.Dx.Copies.lean ====
module

public import proofs.«01_k».proof.Proof.Dx.Body

/-!
# The steps with copies keep what holds between the steps
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## One tile, by either spelling of where it begins -/

variable {m}

/-- One tile apart from the seven others. -/
theorem one_apart (i : Fin 8) (Φ : Fin 8 → sProp 𝕄) : bigSep Finset.univ Φ = iprop(Φ i ∗ bigSep (Finset.univ.erase i) Φ) :=
  BI.bigSep_erase (Finset.mem_univ i)

theorem home_eq (c : Dev nD) (M : Memref sig .tc .hbm S8192x2048 .f32) {o o' : Fin 2 → Nat} (h : o = o') (hi hi') (X : Buf (Elt F) (M.view.loc c.tc)) :
    (homeP c (rowsAt M o hi) X : sProp 𝕄) = homeP c (rowsAt M o' hi') X := by subst h; rfl
theorem fetch_eq (c : Dev nD) (k : Fin 3) (B : Memref sig .tc .vmem S1024x2048 .f32) (f) (M : Memref sig .tc .hbm S8192x2048 .f32) {o o' : Fin 2 → Nat} (h : o = o') (hi hi')
    (X : Buf (Elt F) (M.view.loc c.tc)) :
    (fetchP c k B f (rowsAt M o hi) X : sProp 𝕄) = fetchP c k B f (rowsAt M o' hi') X := by subst h; rfl
theorem store_eq (c : Dev nD) (B : Memref sig .tc .vmem S1024x2048 .f32) (f) (M : Memref sig .tc .hbm S8192x2048 .f32) {o o' : Fin 2 → Nat} (h : o = o') (hi hi')
    (X : Buf (Elt F) (M.view.loc c.tc)) :
    (storeP c (rowsAt M o hi) X B f : sProp 𝕄) = storeP c (rowsAt M o' hi') X B f := by subst h; rfl
theorem read_eq (c : Dev nD) (M : Memref sig .tc .hbm S8192x2048 .f32) {o o' : Fin 2 → Nat} (h : o = o') (hi hi') (X : Buf (Elt F) (M.view.loc (c : Thread nD τ))) :
    (rowsAt M o hi).view.read (Elt F) X = (rowsAt M o' hi').view.read (Elt F) X := by subst h; rfl

variable (m)

/-- The third block of the first row tile. -/
theorem step_fetch (c : Dev nD) (t : Fin cfg0.N) (h : t.val = 2) : StepOK m c t := by
  have hN : t.val < 64 := lt_of_lt_of_eq t.isLt (show cfg0.N = 64 from N_0)
  have hr : tileNo ((t.val + 1 - 1) / 8) = row t := Fin.ext (by show (t.val + 1 - 1) / 8 % 8 = t.val / 8; omega)
  have hc3 : k0_cond3 (grid0.coords t) = 1#1 := (cond3_iff t).mpr (by omega)
  unfold StepOK stepPre stepPost inv accP
  rw [copiesP_idle m c t.val (by omega), copiesP_fetching m c (t.val + 1) (by omega), hr]
  unfold idleP fetchingP
  rw [one_apart (row t) (xP m c), one_apart (row t) (dP m c)]
  iintro ⟨⟨⟨%a, %ha, Ha⟩, Hxb, Hdb, ⟨HX, HXs⟩, ⟨HD, HDs⟩, HO, HC0, HC1, HC2⟩, ⟨%W, HW⟩, H0, H1, H2, H3, ⟨%d, %hd, H4⟩⟩
  obtain rfl := ha (by omega); obtain rfl := hd (by omega)
  iapply (runD c (grid0.coords t) _ _ _ _ _ _ _ _ _ _ (fun e => by have := (cond1_iff t).mp e; omega) (fun e => by have := (cond2_iff t).mp e; omega)
    hc3 (fun e => by have := (condFirst_iff t).mp e; omega) (fun e => by have := (cond5_iff t).mp e; omega) ((condAdd_iff t).mpr (by omega)) ((condLow_iff t).mpr (by omega)) (fun e => by have := (condHigh_iff t).mp e; omega) (fun e => by have := (cond9_iff t).mp e; omega)
    (zhB m c t) (wB m c t) (accA m c t.val) (xA m c) (dA m c) W _)
  isplitl [H0]; · iexact H0
  isplitl [H2]; · iexact H2
  isplitl [Ha]; · iexact Ha
  isplitl [HX]; · irw [home_eq c xM (off2_eq t) _ (tileOff_inb (row t)) (xA m c)]; iexact HX
  isplitl [HD]; · irw [home_eq c dM (off2_eq t) _ (tileOff_inb (row t)) (dA m c)]; iexact HD
  isplitl [Hxb]; · iexact Hxb
  isplitl [Hdb]; · iexact Hdb
  isplitl [HC0]; · iexact HC0
  isplitl [HC1]; · iexact HC1
  isplitl [HW]; · iexact HW
  iintro ⟨H0, H2, Ha, ⟨%fx, %hfx, HX⟩, ⟨%fd, %hfd, HD⟩, HW⟩
  isplitl [Ha HX HD HXs HDs HO HC2]
  · isplitl [Ha]
    · iexists _; isplitr; swap; · iexact Ha
      ipureintro; exact fun _ => (accA_low m c t (by omega) (by omega)).symm
    isplitl [HX]
    · iexists fx; isplitr
      · ipureintro; exact hfx.trans (read_eq c xM (off2_eq t) _ _ _)
      · irw [← fetch_eq c 0 xbM fx xM (off2_eq t) (k0_off2_inb _ hc3) (tileOff_inb (row t)) (xA m c)]; iexact HX
    isplitl [HD]
    · iexists fd; isplitr
      · ipureintro; exact hfd.trans (read_eq c dM (off2_eq t) _ _ _)
      · irw [← fetch_eq c 1 dbM fd dM (off2_eq t) (k0_off2_inb _ hc3) (tileOff_inb (row t)) (dA m c)]; iexact HD
    isplitl [HXs]; · iexact HXs
    isplitl [HDs]; · iexact HDs
    isplitl [HO]; · iapply (out_mono m c t.val (t.val + 1) _ fun j _ hj => by have := j.isLt; unfold done at *; omega); iexact HO
    iexact HC2
  isplitl [HW]; · iexact HW
  isplitl [H0]; · iexact H0
  isplitl [H1]; · iexact H1
  isplitl [H2]; · iexact H2
  isplitl [H3]; · iexact H3
  irw [dgA_same m c t (by omega) (by omega)]; iexact H4

/-- The third block of a later row tile. -/
theorem step_refetch (c : Dev nD) (t : Fin cfg0.N) (h : t.val % 8 = 2) (h8 : 8 ≤ t.val) : StepOK m c t := by
  have hN : t.val < 64 := lt_of_lt_of_eq t.isLt (show cfg0.N = 64 from N_0)
  have hr : tileNo ((t.val + 1 - 1) / 8) = row t := Fin.ext (by show (t.val + 1 - 1) / 8 % 8 = t.val / 8; omega)
  have hp : tileNo (t.val / 8 - 1) = rowPred t := Fin.ext (by show (t.val / 8 - 1) % 8 = t.val / 8 - 1; omega)
  have hc3 : k0_cond3 (grid0.coords t) = 1#1 := (cond3_iff t).mpr (by omega)
  unfold StepOK stepPre stepPost inv accP
  rw [copiesP_storing m c t.val (by omega), copiesP_fetching m c (t.val + 1) (by omega), hr, hp]
  unfold storingP fetchingP
  rw [one_apart (row t) (xP m c), one_apart (row t) (dP m c),
    one_apart (rowPred t) (outP m c (t.val + 1))]
  iintro ⟨⟨⟨%a, %ha, Ha⟩, ⟨%G, %fb, %hG, HS⟩, Hdb, ⟨HX, HXs⟩, ⟨HD, HDs⟩, HO, HC0, HC1⟩, ⟨%W, HW⟩, H0, H1, H2, H3, ⟨%d, %hd, H4⟩⟩
  obtain rfl := ha (by omega); obtain rfl := hd (by omega)
  iapply (runE c (grid0.coords t) (rowPred t) _ _ _ _ _ _ _ _ _ _ (fun e => by have := (cond1_iff t).mp e; omega) ((cond2_iff t).mpr (by omega))
    hc3 (fun e => by have := (condFirst_iff t).mp e; omega) (fun e => by have := (cond5_iff t).mp e; omega) ((condAdd_iff t).mpr (by omega)) ((condLow_iff t).mpr (by omega)) (fun e => by have := (condHigh_iff t).mp e; omega) (fun e => by have := (cond9_iff t).mp e; omega)
    (zhB m c t) (wB m c t) (accA m c t.val) (xA m c) (dA m c) G fb W _)
  isplitl [H0]; · iexact H0
  isplitl [H2]; · iexact H2
  isplitl [Ha]; · iexact Ha
  isplitl [HX]; · irw [home_eq c xM (off2_eq t) _ (tileOff_inb (row t)) (xA m c)]; iexact HX
  isplitl [HD]; · irw [home_eq c dM (off2_eq t) _ (tileOff_inb (row t)) (dA m c)]; iexact HD
  isplitl [HS]; · iexact HS
  isplitl [Hdb]; · iexact Hdb
  isplitl [HC0]; · iexact HC0
  isplitl [HC1]; · iexact HC1
  isplitl [HW]; · iexact HW
  iintro ⟨H0, H2, Ha, ⟨%fx, %hfx, HX⟩, ⟨%fd, %hfd, HD⟩, HG, HC2, HW⟩
  isplitl [Ha HX HD HXs HDs HG HO HC2]
  · isplitl [Ha]
    · iexists _; isplitr; swap; · iexact Ha
      ipureintro; exact fun _ => (accA_low m c t (by omega) (by omega)).symm
    isplitl [HX]
    · iexists fx; isplitr
      · ipureintro; exact hfx.trans (read_eq c xM (off2_eq t) _ _ _)
      · irw [← fetch_eq c 0 xbM fx xM (off2_eq t) (k0_off2_inb _ hc3) (tileOff_inb (row t)) (xA m c)]; iexact HX
    isplitl [HD]
    · iexists fd; isplitr
      · ipureintro; exact hfd.trans (read_eq c dM (off2_eq t) _ _ _)
      · irw [← fetch_eq c 1 dbM fd dM (off2_eq t) (k0_off2_inb _ hc3) (tileOff_inb (row t)) (dA m c)]; iexact HD
    isplitl [HXs]; · iexact HXs
    isplitl [HDs]; · iexact HDs
    isplitl [HG HO]
    · isplitl [HG]
      · iexists G; isplitr; · ipureintro; exact fun _ => hG
        iexact HG
      · iapply (out_mono m c t.val (t.val + 1) _ fun j _ hj => by have := j.isLt; unfold done at *; omega); iexact HO
    iexact HC2
  isplitl [HW]; · iexact HW
  isplitl [H0]; · iexact H0
  isplitl [H1]; · iexact H1
  isplitl [H2]; · iexact H2
  isplitl [H3]; · iexact H3
  irw [dgA_same m c t (by omega) (by omega)]; iexact H4

/-- The gain's block is the same at every point. -/
theorem gB_eq (c : Dev nD) (t : Fin cfg0.N) : gB m c t = gB m c (pt 0 (by decide)) := rfl

/-- The first block of a later row tile. -/
theorem step_finish (c : Dev nD) (t : Fin cfg0.N) (h : t.val % 8 = 0) (h8 : 8 ≤ t.val) : StepOK m c t := by
  have hN : t.val < 64 := lt_of_lt_of_eq t.isLt (show cfg0.N = 64 from N_0)
  have hr : tileNo ((t.val - 1) / 8) = rowPred t := Fin.ext (by show (t.val - 1) / 8 % 8 = t.val / 8 - 1; omega)
  have hp : tileNo ((t.val + 1) / 8 - 1) = rowPred t := Fin.ext (by show ((t.val + 1) / 8 - 1) % 8 = t.val / 8 - 1; omega)
  have hg : gv m c (rowPred t) = rowsOut (gB m c t) (accA m c t.val) (xTile m c (rowPred t)) (dTile m c (rowPred t)) := by
    unfold gv; rw [gB_eq m c t, show 8 * ((rowPred t).val + 1) = t.val from by show 8 * (t.val / 8 - 1 + 1) = t.val; omega]
  have hc5 : k0_cond5 (grid0.coords t) = 1#1 := (cond5_iff t).mpr (by omega)
  unfold StepOK stepPre stepPost inv accP
  rw [copiesP_fetching m c t.val (by omega), copiesP_storing m c (t.val + 1) (by omega), hr, hp]
  unfold storingP fetchingP
  rw [one_apart (rowPred t) (xP m c), one_apart (rowPred t) (dP m c),
    one_apart (rowPred t) (outP m c t.val)]
  iintro ⟨⟨⟨%a, %ha, Ha⟩, ⟨%fx, %hfx, HX⟩, ⟨%fd, %hfd, HD⟩, HXs, HDs, ⟨⟨%G, -, HG⟩, HO⟩, HC2⟩, ⟨%W, HW⟩, H0, H1, H2, H3, ⟨%d, %hd, H4⟩⟩
  obtain rfl := ha (by omega); obtain rfl := hd (by omega)
  iapply (runB c (grid0.coords t) _ _ _ _ _ _ _ _ _ _ (fun e => by have := (cond1_iff t).mp e; omega) (fun e => by have := (cond2_iff t).mp e; omega)
    (fun e => by have := (cond3_iff t).mp e; omega) (fun e => by have := (condFirst_iff t).mp e; omega) hc5 (fun e => by have := (condAdd_iff t).mp e; omega) (fun e => by have := (cond9_iff t).mp e; omega)
    (zhB m c t) (wB m c t) (accA m c t.val) (gB m c t) (dgA m c (t.val - 1)) (rowPred t) (xA m c) (dA m c) G fx fd W _)
  isplitl [H0]; · iexact H0
  isplitl [H2]; · iexact H2
  isplitl [Ha]; · iexact Ha
  isplitl [H3]; · iexact H3
  isplitl [H4]; · iexact H4
  isplitl [HG]; · irw [home_eq c gM (off4_eq t h8) _ (tileOff_inb (rowPred t)) G]; iexact HG
  isplitl [HX]; · iexact HX
  isplitl [HD]; · iexact HD
  isplitl [HC2]; · iexact HC2
  isplitl [HW]; · iexact HW
  iintro ⟨H0, H2, Ha, H3, H4, ⟨%G', %f, %hG', HS⟩, Hdb, HX, HD, HC0, HC1, HW⟩
  rw [hfx, hfd, ← hg] at hG'
  isplitl [Ha HS Hdb HX HD HXs HDs HO HC0 HC1]
  · isplitl [Ha]
    · iexists _; isplitr; swap; · iexact Ha
      ipureintro; exact fun _ => (accA_first m c t (by omega)).symm
    isplitl [HS]
    · iexists G'; iexists f; isplitr
      · ipureintro; exact (read_eq c gM (off4_eq t h8) _ _ _).symm.trans hG'
      · irw [← store_eq c xbM f gM (off4_eq t h8) (k0_off4_inb _ hc5) (tileOff_inb (rowPred t)) G']; iexact HS
    isplitl [Hdb]
    · unfold owns; iexists _; iexists fd; isplitr; · ipureintro; rfl
      iexact Hdb
    isplitl [HX HXs]
    · isplitl [HX]; · iexact HX
      iexact HXs
    isplitl [HD HDs]
    · isplitl [HD]; · iexact HD
      iexact HDs
    isplitl [HO]
    · iapply (out_mono m c t.val (t.val + 1) _ fun j hj hd => by
        have h1 := j.isLt; have h2 := Finset.ne_of_mem_erase hj
        have h3 : j.val ≠ t.val / 8 - 1 := fun e => h2 (Fin.ext e)
        unfold done at *; omega); iexact HO
    isplitl [HC0]; · iexact HC0
    iexact HC1
  isplitl [HW]; · iexact HW
  isplitl [H0]; · iexact H0
  isplitl [H1]; · iexact H1
  isplitl [H2]; · iexact H2
  isplitl [H3]; · iexact H3
  irw [dgA_tile m c t h h8, ← hfx]; iexact H4

/-- The last step. -/
theorem step_last (c : Dev nD) (t : Fin cfg0.N) (h : t.val = 63) : StepOK m c t := by
  have hN : t.val < 64 := lt_of_lt_of_eq t.isLt (show cfg0.N = 64 from N_0)
  have hr : tileNo ((t.val - 1) / 8) = 7 := Fin.ext (by show (t.val - 1) / 8 % 8 = 7; omega)
  have ha1 : accA m c 64 = k0_pay81 (zaB m c t) (accA m c t.val) (wB m c t) := by rw [← accA_high m c t (by omega), h]
  have hg : gv m c 7 = rowsOut (gB m c t) (k0_pay81 (zaB m c t) (accA m c t.val) (wB m c t)) (xTile m c 7) (dTile m c 7) := by
    rw [← ha1]; unfold gv; rw [gB_eq m c t]; rfl
  have hc9 : k0_cond9 (grid0.coords t) = 1#1 := (cond9_iff t).mpr (by omega)
  unfold StepOK stepPre stepPost inv accP
  rw [copiesP_fetching m c t.val (by omega), copiesP_idle m c (t.val + 1) (by omega), hr]
  unfold idleP fetchingP
  rw [one_apart (7 : Fin 8) (xP m c), one_apart (7 : Fin 8) (dP m c),
    one_apart (7 : Fin 8) (outP m c t.val), one_apart (7 : Fin 8) (outP m c (t.val + 1))]
  iintro ⟨⟨⟨%a, %ha, Ha⟩, ⟨%fx, %hfx, HX⟩, ⟨%fd, %hfd, HD⟩, HXs, HDs, ⟨⟨%G, -, HG⟩, HO⟩, HC2⟩, ⟨%W, HW⟩, H0, H1, H2, H3, ⟨%d, %hd, H4⟩⟩
  obtain rfl := ha (by omega); obtain rfl := hd (by omega)
  iapply (runH c (grid0.coords t) _ _ _ _ _ _ _ _ _ _ (fun e => by have := (cond1_iff t).mp e; omega) (fun e => by have := (cond2_iff t).mp e; omega)
    (fun e => by have := (cond3_iff t).mp e; omega) (fun e => by have := (condFirst_iff t).mp e; omega) (fun e => by have := (cond5_iff t).mp e; omega) ((condAdd_iff t).mpr (by omega)) (fun e => by have := (condLow_iff t).mp e; omega) ((condHigh_iff t).mpr (by omega)) hc9
    (zaB m c t) (wB m c t) (accA m c t.val) (gB m c t) (dgA m c (t.val - 1)) 7 (xA m c) (dA m c) G fx fd W _)
  isplitl [H1]; · iexact H1
  isplitl [H2]; · iexact H2
  isplitl [Ha]; · iexact Ha
  isplitl [H3]; · iexact H3
  isplitl [H4]; · iexact H4
  isplitl [HG]; · irw [home_eq c gM (off5_eq t h) _ (tileOff_inb 7) G]; iexact HG
  isplitl [HX]; · iexact HX
  isplitl [HD]; · iexact HD
  isplitl [HC2]; · iexact HC2
  isplitl [HW]; · iexact HW
  iintro ⟨H1, H2, Ha, H3, H4, ⟨%G', %hG', HG⟩, ⟨%f, Hxb⟩, Hdb, HX, HD, HC0, HC1, HC2, HW⟩
  rw [hfx, hfd, ← hg] at hG'
  isplitl [Ha HG Hxb Hdb HX HD HXs HDs HO HC0 HC1 HC2]
  · isplitl [Ha]
    · iexists _; isplitr; swap; · iexact Ha
      ipureintro; exact fun _ => (accA_high m c t (by omega)).symm
    isplitl [Hxb]
    · unfold owns; iexists _; iexists f; isplitr; · ipureintro; rfl
      iexact Hxb
    isplitl [Hdb]
    · unfold owns; iexists _; iexists fd; isplitr; · ipureintro; rfl
      iexact Hdb
    isplitl [HX HXs]
    · isplitl [HX]; · iexact HX
      iexact HXs
    isplitl [HD HDs]
    · isplitl [HD]; · iexact HD
      iexact HDs
    isplitl [HG HO]
    · isplitl [HG]
      · iexists G'; isplitr
        · ipureintro; exact fun _ => (read_eq c gM (off5_eq t h) _ _ _).symm.trans hG'
        · irw [← home_eq c gM (off5_eq t h) (k0_off5_inb _ hc9) (tileOff_inb 7) G']; iexact HG
      · iapply (out_mono m c t.val (t.val + 1) _ fun j hj hd => by
          have h1 := j.isLt; have h2 := Finset.ne_of_mem_erase hj
          have h3 : j.val ≠ 7 := fun e => h2 (Fin.ext e)
          unfold done at *; omega); iexact HO
    isplitl [HC0]; · iexact HC0
    isplitl [HC1]; · iexact HC1
    iexact HC2
  isplitl [HW]; · iexact HW
  isplitl [H0]; · iexact H0
  isplitl [H1]; · iexact H1
  isplitl [H2]; · iexact H2
  isplitl [H3]; · iexact H3
  irw [dgA_last m c t h, ha1, ← hfx]; iexact H4

/-- Every step. -/
theorem step_ok (c : Dev nD) (t : Fin cfg0.N) : StepOK m c t := by
  by_cases h0 : t.val = 0; · exact step_first m c t h0
  by_cases h63 : t.val = 63; · exact step_last m c t h63
  by_cases h2 : t.val = 2; · exact step_fetch m c t h2
  by_cases h2' : t.val % 8 = 2; · exact step_refetch m c t h2' (by omega)
  by_cases h8 : t.val % 8 = 0; · exact step_finish m c t h8 (by omega)
  by_cases h4 : 4 ≤ t.val % 8; · exact step_high m c t h4 h63
  exact step_low m c t (by omega)

end Cert.Dx

end
-- ==== Proof.Dx.Launch.lean ====
module

public import proofs.«01_k».proof.Proof.Dx.Copies

/-!
# The launch

The steps' claims put together: the whole call runs, and at its end the gain's gradient is in its array, the
row tiles of the result are the finished rows, and everything else is as launched.
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## The pipeline's proof data -/

/-- What each staged block holds after each step, and what holds between the steps. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dgA m c t.val
  Φ n := inv m c n.val
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dgA m c t.val := by dsimp only [dats]

/-- An input's staged block before a step is its block of the array. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans rfl

/-- The gain's gradient is written only by the first step, the steps that finish a tile and the last. -/
theorem idle_4 (t : Fin cfg0.N) : cfg0.idle 4 (cfg0.grid.coords t) = true ↔ t.val % 8 ≠ 0 ∧ t.val ≠ 63 := by
  have e : cfg0.idle 4 (cfg0.grid.coords t)
      = (!(k0_cond1 (grid0.coords t) == 1#1) && !(k0_cond5 (grid0.coords t) == 1#1) && !(k0_cond9 (grid0.coords t) == 1#1)) := rfl
  rw [e]
  simp only [Bool.and_eq_true, Bool.not_eq_true', beq_eq_false_iff_ne, ne_eq, cond1_iff, cond5_iff, cond9_iff]
  omega
/-- It is sent back after the last step alone. -/
theorem flush_4 (t : Fin cfg0.N) (h : t.val ≠ 63) : (cfg0.win 4).flush t = false := by
  have hN : t.val < 64 := lt_of_lt_of_eq t.isLt (show cfg0.N = 64 from N_0)
  exact Bool.eq_false_iff.mpr fun h' => by have := (flush0_4 t).mp h'; omega

/-- Before a later step the gain's gradient is as the step before left it. -/
theorem before_4 (c : Dev nD) (n : ℕ) : ∀ (t : Fin cfg0.N), t.val = n + 1 → ∀ d, (dats m 0 c).before 4 t d = dgA m c n := by
  induction n with
  | zero =>
    intro t ht d
    rw [Dat.before_of_pos _ 4 t (by omega) ((cfg0.win 4).fetch_out rfl t), flush_4 _ (by dsimp only; omega), if_neg Bool.false_ne_true]
    unfold Dat.left
    have hi : cfg0.idle 4 (cfg0.grid.coords ⟨t.val - 1, Nat.lt_of_le_of_lt (Nat.sub_le _ _) t.isLt⟩) = false :=
      Bool.eq_false_iff.mpr fun h => by have := ((idle_4 _).mp h).1; dsimp only at this; omega
    rw [hi]; dsimp only
    unfold Dat.kept
    rw [Pipeline.fill_of_clip_none 4 _ (fun _ => rfl) d ((dats m 0 c).after 4 _), Window.fill_cut, after_4]
    congr 1; show t.val - 1 = 0; omega
  | succ n ih =>
    intro t ht d
    have hN : t.val < 64 := lt_of_lt_of_eq t.isLt (show cfg0.N = 64 from N_0)
    rw [Dat.before_of_pos _ 4 t (by omega) ((cfg0.win 4).fetch_out rfl t), flush_4 _ (by dsimp only; omega), if_neg Bool.false_ne_true]
    unfold Dat.left
    cases hi : cfg0.idle 4 (cfg0.grid.coords ⟨t.val - 1, Nat.lt_of_le_of_lt (Nat.sub_le _ _) t.isLt⟩) with
    | true =>
      dsimp only
      have h' := (idle_4 _).mp hi
      rw [ih _ (by dsimp only; omega), ← (show (⟨t.val - 1, Nat.lt_of_le_of_lt (Nat.sub_le _ _) t.isLt⟩ : Fin cfg0.N).val = n + 1 by dsimp only; omega),
        dgA_same m c _ h'.1 h'.2]
      congr 1; show n = t.val - 1 - 1; omega
    | false =>
      dsimp only
      unfold Dat.kept
      rw [Pipeline.fill_of_clip_none 4 _ (fun _ => rfl) d ((dats m 0 c).after 4 _), Window.fill_cut, after_4]
      congr 1; show t.val - 1 = n + 1; omega

/-! ## The body obligation -/

/-- The body table's row at point `t` is the step. -/
theorem defs₀_row (t : Fin cfg0.N) : defs₀ (F := F) .tc cfg0.body (cfg0.bodyArgs t (cfg0.slots t)) = bodyAt0 t := by
  unfold defs₀; rw [Defs.onTc_tc]

/-- What the body is called with at point `t`, the windows one by one; -/
def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d)))
/-- what it returns of the gain's gradient, -/
def bodyOut (c : Dev nD) (t : Fin cfg0.N) : sProp 𝕄 :=
  match cfg0.idle 4 (cfg0.grid.coords t) with
  | true =>
    match (cfg0.win 4).flush t with
    | false => iprop(∃ d, owns c.tc (st0_4 t) fullShare ((dats m 0 c).before 4 t d))
    | true => owns c.tc (st0_4 t) fullShare ((dats m 0 c).after 4 t)
  | false => owns c.tc (st0_4 t) fullShare ((dats m 0 c).after 4 t)
/-- and of all. -/
def bodyPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ bodyOut m c t)

/-- What the step leaves of the gain's gradient is what the obligation asks for. -/
theorem out_of_step (c : Dev nD) (t : Fin cfg0.N) : (owns c.tc (st0_4 t) fullShare (dgA m c t.val) : sProp 𝕄) ⊢ bodyOut m c t := by
  have hN : t.val < 64 := lt_of_lt_of_eq t.isLt (show cfg0.N = 64 from N_0)
  unfold bodyOut
  cases hi : cfg0.idle 4 (cfg0.grid.coords t) with
  | true =>
    have h' := (idle_4 t).mp hi
    rw [flush_4 t h'.2]; dsimp only
    iintro H
    iexists dgA m c (t.val - 1)
    irw [before_4 m c (t.val - 1) t (by have := h'.1; omega), ← dgA_same m c t h'.1 h'.2]; iexact H
  | false => dsimp only; rw [after_4]

theorem sound_body (c : Dev nD) (t : Fin cfg0.N) :
    bodyPre m c t ⊢ wp frame (wpE (defs₀ (F := F)) Variants.none c.tc none) Set.univ (bodyAt0 t) (fun _ => bodyPost m c t) := by
  refine triple_restated (step_ok m c t) rfl ?_ fun _ => ?_
  · unfold bodyPre stepPre Dat.owesAt Pipeline.owesWithin
    rw [show (dats m 0 c).Φ t.castSucc = inv m c t.val from rfl, show (dats m 0 c).owed t.castSucc = 0 from rfl]
    simp only [before_0, before_1, before_2, before_3]
    iintro ⟨HΦ, ⟨%W, -, HW⟩, ⟨%d0, H0⟩, ⟨%d1, H1⟩, ⟨%d2, H2⟩, ⟨%d3, H3⟩, ⟨%d4, H4⟩⟩
    isplitl [HΦ]; · iexact HΦ
    isplitl [HW]; · iexists W; iexact HW
    isplitl [H0]; · iexact H0
    isplitl [H1]; · iexact H1
    isplitl [H2]; · iexact H2
    isplitl [H3]; · iexact H3
    iexists _; isplitr; swap; · iexact H4
    ipureintro; exact fun h => before_4 m c (t.val - 1) t (by omega) d4
  · show stepPost m c t ⊢ bodyPost m c t
    unfold bodyPost stepPost Dat.owesAt Pipeline.owesWithin
    rw [show (dats m 0 c).Φ t.succ = inv m c (t.val + 1) from rfl, show (dats m 0 c).owed t.succ = 0 from rfl, after_0, after_1, after_2, after_3]
    iintro ⟨HΦ, ⟨%W, HW⟩, H0, H1, H2, H3, H4⟩
    isplitl [HΦ]; · iexact HΦ
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iapply (out_of_step m c t); iexact H4

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Dx

end
-- ==== Proof.Dx.Run.lean ====
module

public import proofs.«01_k».proof.Proof.Dx.Launch
public import Idealize.ShloMosaic.Lib.Pointwise

/-!
# The whole call

Main memory's arrays split into their row tiles at the start and put together again at the end; the run.
-/

@[expose] public noncomputable section

namespace Cert.Dx

open Cert.Kernel2Ideal Cert.Kernel2Ideal.Gen
open Idealize.ShloMosaic TcCoe Tactic Rounds Idealize.SL RA BI BIBase Laws ProofMode Sem
open Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ)

/-! ## An array and its row tiles -/

/-- The elements of row tile `j`. -/
abbrev tileSet (j : Fin 8) : Finset S8192x2048.Idx := (Rect.unit (s := S8192x2048) (tileOff j) S1024x2048.size (tileOff_inb j)).set

theorem mem_tileSet (j : Fin 8) (y : S8192x2048.Idx) : y ∈ tileSet j ↔ (y 0).val / 1024 = j.val := by
  rw [Rect.mem_set_unit]
  have h1 : (y 1).val < 2048 := (y 1).isLt
  constructor
  · intro H; have a0 : 1024 * j.val ≤ (y 0).val ∧ (y 0).val < 1024 * j.val + 1024 := H 0; omega
  · intro H a; fin_cases a
    · show 1024 * j.val ≤ (y 0).val ∧ (y 0).val < 1024 * j.val + 1024; omega
    · show 0 ≤ (y 1).val ∧ (y 1).val < 0 + 2048; omega
theorem tileSet_disjoint : ∀ b b' : Fin 8, b ≠ b' → Disjoint (tileSet b) (tileSet b') := by
  intro b b' hne; rw [Finset.disjoint_left]; intro y hy hy'; rw [mem_tileSet] at hy hy'; exact hne (Fin.ext (hy.symm.trans hy'))
theorem tileSet_cover : (Finset.univ : Finset (Fin 8)).biUnion tileSet = Finset.univ := by
  ext y; simp only [Finset.mem_biUnion, Finset.mem_univ, true_and, iff_true]
  have h0 : (y 0).val < 8192 := (y 0).isLt
  exact ⟨⟨(y 0).val / 1024, by omega⟩, by rw [mem_tileSet]⟩

theorem x_tiles (c : Dev nD) (X : Buf (Elt F) (c.tc.loc main_arg3)) :
    ((c.tc.loc main_arg3) ↦{fullShare} X : sProp 𝕄) = bigSep Finset.univ fun j => homeP c (tile xM j) X := by
  rw [Ring.pointsTo_blocks (ℓ := c.tc.loc main_arg3) tileSet tileSet_disjoint tileSet_cover]
  exact bigSep_congr fun j _ => congrArg (fun S => ((c.tc.loc main_arg3) ↦[S]{fullShare} X : sProp 𝕄)) (View.set_slice_whole _ _ : (tile xM j).view.set = tileSet j).symm
theorem d_tiles (c : Dev nD) (X : Buf (Elt F) (c.tc.loc main_arg5)) :
    ((c.tc.loc main_arg5) ↦{fullShare} X : sProp 𝕄) = bigSep Finset.univ fun j => homeP c (tile dM j) X := by
  rw [Ring.pointsTo_blocks (ℓ := c.tc.loc main_arg5) tileSet tileSet_disjoint tileSet_cover]
  exact bigSep_congr fun j _ => congrArg (fun S => ((c.tc.loc main_arg5) ↦[S]{fullShare} X : sProp 𝕄)) (View.set_slice_whole _ _ : (tile dM j).view.set = tileSet j).symm
theorem g_tiles (c : Dev nD) (X : Buf (Elt F) (c.tc.loc main_v0_0)) :
    ((c.tc.loc main_v0_0) ↦{fullShare} X : sProp 𝕄) = bigSep Finset.univ fun j => homeP c (tile gM j) X := by
  rw [Ring.pointsTo_blocks (ℓ := c.tc.loc main_v0_0) tileSet tileSet_disjoint tileSet_cover]
  exact bigSep_congr fun j _ => congrArg (fun S => ((c.tc.loc main_v0_0) ↦[S]{fullShare} X : sProp 𝕄)) (View.set_slice_whole _ _ : (tile gM j).view.set = tileSet j).symm

/-- The result: every row of it is the finished row of its tile. -/
def gxA (c : Dev nD) : Buf (Elt F) (gM.view.loc (c : Thread nD τ)) := fun (y : S8192x2048.Idx) =>
  gv m c ⟨(y 0).val / 1024, by have h0 : (y 0).val < 8192 := (y 0).isLt; omega⟩ (ix2 ⟨(y 0).val % 1024, Nat.mod_lt _ (by decide)⟩ (y 1))

theorem gxA_read (c : Dev nD) (j : Fin 8) : (tile gM j).view.read (Elt F) (gxA m c) = gv m c j := by
  have hl := j.isLt
  funext x
  have h0 : (x 0).val < 1024 := (x 0).isLt
  show gv m c _ _ = gv m c j x
  have e0 : ((tile gM j).view.emb x 0).val = 1024 * j.val + 1 * (x 0).val := rfl
  have e1 : ((tile gM j).view.emb x 1).val = 0 + 1 * (x 1).val := rfl
  congr 1
  · exact Fin.ext (by show ((tile gM j).view.emb x 0).val / 1024 = j.val; rw [e0]; omega)
  · funext a
    fin_cases a
    · exact Fin.ext (by show ((tile gM j).view.emb x 0).val % 1024 = (x 0).val; rw [e0]; omega)
    · exact Fin.ext (by show ((tile gM j).view.emb x 1).val = (x 1).val; rw [e1]; omega)

/-- A stored tile is the result's tile. -/
theorem out_final (c : Dev nD) (j : Fin 8) : (outP m c 64 j : sProp 𝕄) ⊢ homeP c (tile gM j) (gxA m c) := by
  iintro ⟨%G, %hG, H⟩
  have e : (homeP c (tile gM j) G : sProp 𝕄) = homeP c (tile gM j) (gxA m c) :=
    pointsTo_congr fun i hi => by
      obtain ⟨x, -, rfl⟩ := Finset.mem_map.mp hi
      exact (congrFun (hG (Or.inr rfl)) x).trans (congrFun (gxA_read m c j) x).symm
  irw [← e]; iexact H

/-! ## The semaphores, and what holds before the first step and after the last -/

abbrev osem : Fin 3 → SemLoc sig := fun k => SemLoc.dma (csm k).sem
theorem ownSemFacts : Pipeline.OwnSemFacts spec0 osem := by decide

theorem ownSems_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2) := by
  unfold Pipeline.ownSems0
  exact bigSep_univ_eq_bigSepL [(0 : Fin 3), (1 : Fin 3), (2 : Fin 3)] (by decide) (by decide) _

/-- A scratch buffer at some contents, by its elements or by what is read of it. -/
theorem scratch_owns (c : Dev nD) {sp : Space} {s : Shape} {e : EltTy} (B : Memref sig .tc sp s e) (f : Buf (Elt F) (B.view.loc c.tc))
    (hs : B.view.set = Finset.univ) :
    (B.view.loc c.tc ↦{fullShare} f : sProp 𝕄) ⊢ iprop(∃ d, owns c.tc B fullShare d) := by
  iintro H
  iexists _; unfold owns; iexists f; isplitr; · ipureintro; rfl
  irw [hs]; iexact H
theorem owns_scratch (c : Dev nD) {sp : Space} {s : Shape} {e : EltTy} (B : Memref sig .tc sp s e) (d : Vec F s e)
    (hs : B.view.set = Finset.univ) :
    (owns c.tc B fullShare d : sProp 𝕄) ⊢ iprop(∃ f : Buf (Elt F) (B.view.loc c.tc), B.view.loc c.tc ↦{fullShare} f) := by
  unfold owns
  iintro ⟨%f, -, H⟩
  iexists f
  irw [← hs]; iexact H

/-! ## The run -/

variable (ρ : Dev nD → PrngReg)

/-- What the first step is given of main memory's arrays and of the semaphores; -/
def startP (c : Dev nD) : sProp 𝕄 :=
  iprop((((c.tc.loc main_arg3) ↦{fullShare} m (c.tc.loc main_arg3))
    ∗ ((c.tc.loc main_arg5) ↦{fullShare} m (c.tc.loc main_arg5))
    ∗ ((c.tc.loc main_v0_0) ↦{fullShare} m (c.tc.loc main_v0_0))) ∗ Pipeline.ownSems0 osem c)
/-- what the last step leaves of the arrays. -/
def endP (c : Dev nD) : sProp 𝕄 :=
  iprop(((c.tc.loc main_arg3) ↦{fullShare} m (c.tc.loc main_arg3))
    ∗ ((c.tc.loc main_arg5) ↦{fullShare} m (c.tc.loc main_arg5))
    ∗ ((c.tc.loc main_v0_0) ↦{fullShare} gxA m c))

theorem start_inv (c : Dev nD) : iprop(startP m c ∗ Pipeline.scopedRest spec0 c) ⊢ (inv m c 0 : sProp 𝕄) := by
  unfold inv accP startP
  rw [scopedRest0_eq, copiesP_idle m c 0 (by omega), ownSems_eq, x_tiles, d_tiles, g_tiles]
  unfold idleP
  iintro ⟨⟨⟨HX, HD, HG⟩, HC0, HC1, HC2⟩, ⟨%fa, Ha⟩, ⟨%fx, Hx⟩, ⟨%fd, Hd⟩⟩
  isplitl [Ha]
  · ihave Ha' := (scratch_owns c accM fa (View.set_whole _)) $$ Ha
    icases Ha' with ⟨%d, Ha⟩
    iexists d; isplitr; · ipureintro; exact fun h => absurd rfl h
    iexact Ha
  isplitl [Hx]; · iapply (scratch_owns c xbM fx (View.set_whole _)); iexact Hx
  isplitl [Hd]; · iapply (scratch_owns c dbM fd (View.set_whole _)); iexact Hd
  isplitl [HX]; · iexact HX
  isplitl [HD]; · iexact HD
  isplitl [HG]
  · have hmono : (bigSep Finset.univ fun j => homeP c (tile gM j) (m (c.tc.loc main_v0_0)) : sProp 𝕄) ⊢ bigSep Finset.univ (outP m c 0) :=
      BI.bigSep_mono fun j _ => by
        show (homeP c (tile gM j) (m (c.tc.loc main_v0_0)) : sProp 𝕄) ⊢ outP m c 0 j
        iintro H
        iexists _; isplitr; swap; · iexact H
        ipureintro; intro hd; exact absurd hd (by unfold done; omega)
    iapply hmono; iexact HG
  isplitl [HC0]; · iexact HC0
  isplitl [HC1]; · iexact HC1
  iexact HC2

theorem inv_end (c : Dev nD) : (inv m c 64 : sProp 𝕄) ⊢ iprop(endP m c ∗ Pipeline.ownSems0 osem c ∗ Pipeline.scopedRest spec0 c) := by
  unfold inv accP endP
  rw [scopedRest0_eq, copiesP_idle m c 64 (by omega), ownSems_eq, x_tiles, d_tiles, g_tiles]
  unfold idleP
  iintro ⟨⟨%a, -, Ha⟩, ⟨%dx, Hx⟩, ⟨%dd, Hd⟩, HX, HD, HG, HC0, HC1, HC2⟩
  isplitl [HX HD HG]
  · isplitl [HX]; · iexact HX
    isplitl [HD]; · iexact HD
    have hmono : (bigSep Finset.univ (outP m c 64) : sProp 𝕄) ⊢ bigSep Finset.univ fun j => homeP c (tile gM j) (gxA m c) :=
      BI.bigSep_mono fun j _ => out_final m c j
    iapply hmono; iexact HG
  isplitl [HC0 HC1 HC2]
  · isplitl [HC0]; · iexact HC0
    isplitl [HC1]; · iexact HC1
    iexact HC2
  isplitl [Ha]; · iapply (owns_scratch c accM a (View.set_whole _)); iexact Ha
  isplitl [Hx]; · iapply (owns_scratch c xbM dx (View.set_whole _)); iexact Hx
  iapply (owns_scratch c dbM dd (View.set_whole _)); iexact Hd

/-- The pipeline's ghost state at launch. -/
def u₀ : UU nD τ := (initOf (Pipeline.cells cfgs cellOf_inj) (Pipeline.launchToks cfgs cellOf_inj), 1)

/-- What the run leaves in the arrays no block is staged of. -/
def restQ (c : Dev nD) (s : MemSt nD τ sig (Elt F)) : Prop :=
  s.mem (c.tc.loc main_arg3) = m (c.tc.loc main_arg3)
  ∧ s.mem (c.tc.loc main_arg5) = m (c.tc.loc main_arg5)
  ∧ s.mem (c.tc.loc main_v0_0) = gxA m c

set_option backward.isDefEq.respectTransparency.types false in
/-- From any memory with zero counters every fair execution ends; then the staged arrays are what the pipeline leaves,
    the other arrays what `restQ` says, and every semaphore counter is zero. -/
theorem run_main : θ_run defs (onTc (τ := τ) (main (F := F))) ⟨m, fun _ => 0, ρ⟩ (fun r =>
    (∀ c : Dev nD, (∀ w : Fin cfg0.W, r.2.mem ((cfg0.win w).arr.view.loc c.tc) = (dats m 0 c).arrAt w cfg0.N) ∧ restQ m c r.2)
    ∧ r.2.sem = fun _ => 0) :=
  Pipeline.θ_run_region_kit_quiescent cfgs (dats m) () (0 : Fin 1) launch0 ownSemFacts EP defs₀ Variants.none m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_region cfgs 0 defs₀ Variants.none m main fun c => (main_chain c).trans rfl)
    (hA := fun _ _ => rfl)
    (X := startP m) (Y := endP m) (Z := fun _ => iprop(emp))
    (hX := fun c => by
      rw [unscopedRest0_eq]
      unfold startP
      iintro ⟨H0, HS, -, -, -⟩; imodintro
      isplitl [H0 HS]
      · isplitl [H0]; · iexact H0
        iexact HS
      iempintro)
    (hin := fun c => start_inv m c)
    (hout := fun c => inv_end m c)
    (QY := restQ m)
    (hY := fun c s' => by
      unfold endP restQ
      iintro ⟨⟨H0, H1, H2⟩, -, HSI⟩
      icombine HSI H0 gives %h0
      icombine HSI H1 gives %h1
      icombine HSI H2 gives %h2
      imodintro
      isplitr; · ipureintro; exact ⟨Buf.eq_of_forall_mem_univ h0, Buf.eq_of_forall_mem_univ h1, Buf.eq_of_forall_mem_univ h2⟩
      iexact HSI)
    (hQ := fun _ hh hz => ⟨hh, hz⟩)

/-- A staged input array is as launched. -/
theorem staged_in (c : Dev nD) (w : Fin cfg0.W) (hw : (cfg0.win w).isOut = false) :
    (dats m 0 c).arrAt w cfg0.N = m ((cfg0.win w).arr.view.loc c.tc) :=
  (dats (F := F) m 0 c).arrAt_in w hw _

end Cert.Dx

end
-- ==== Proof.Dx.Pay.lean ====
module

public import proofs.«01_k».proof.Proof.Dx.Tile
public import proofs.«01_k».proof.Proof.Rows
public import Idealize.ShloMosaic.Lib.Tactic

/-!
# What the kernel's terms compute, at a row and a column

The products of one block of the projection, and what the eight times 128 rows of a finished tile become: the
gradient of a row through its norm, and the row's part of the gain's gradient.
-/

@[expose] public noncomputable section

namespace Cert.Dx

open Cert.Kernel2Ideal Cert.Kernel2Ideal.Gen
open Idealize.ShloMosaic Cert.Rows

/-- The gradient of a row `x` through its norm, from the gradient `u` of the normalised row. -/
def backRow (x u : Fin 2048 → EReal) (l : Fin 2048) : EReal :=
  rms x * (u l - x l * rms x * Ideal.div (∑ k : Fin 2048, u k * (x k * rms x)) (Ideal.ofBits .f32 0x45000000#32))

/-- One entry of a block's product. -/
abbrev prodAt (z : Vec Ideal S1x1024x1024 .bf16) (w : Vec Ideal S1x2048x1024 .bf16) (r : Fin 1024) (l : Fin 2048) : EReal :=
  ∑ e : Fin 1024, z (ix3 0 r e) * w (ix3 0 l e)

theorem pay78_apply (z : Vec Ideal S1x1024x1024 .bf16) (w : Vec Ideal S1x2048x1024 .bf16) (r : Fin 1024) (l : Fin 2048) :
    k0_pay78 z w (ix2 r l) = prodAt z w r l := by
  unfold k0_pay78
  pointwise
theorem pay80_apply (z : Vec Ideal S1x1024x1024 .bf16) (a : Vec Ideal S1024x2048 .f32) (w : Vec Ideal S1x2048x1024 .bf16)
    (r : Fin 1024) (l : Fin 2048) : k0_pay80 z a w (ix2 r l) = a (ix2 r l) + prodAt z w r l := by
  unfold k0_pay80
  pointwise
theorem pay81_apply (z : Vec Ideal S1x1024x1024 .bf16) (a : Vec Ideal S1024x2048 .f32) (w : Vec Ideal S1x2048x1024 .bf16)
    (r : Fin 1024) (l : Fin 2048) : k0_pay81 z a w (ix2 r l) = a (ix2 r l) + prodAt z w r l := by
  unfold k0_pay81
  pointwise
theorem pay77_apply (l : Fin 2048) : (k0_pay77 (F := Ideal)) (ix2 0 l) = 0 := by
  unfold k0_pay77
  pointwise

section
variable (g : Vec Ideal S1x2048 .f32) (a x d : Vec Ideal S128x2048 .f32) (o : Vec Ideal S1x2048 .f32)

theorem pay1_apply (r : Fin 128) (l : Fin 1) : k0_pay1 x (ix2 r l) = rms (fun k => x (ix2 r k)) := by
  unfold k0_pay1
  pointwise
  rfl
theorem pay2_apply (r : Fin 128) (l : Fin 2048) : k0_pay2 x (ix2 r l) = x (ix2 r l) * rms (fun k => x (ix2 r k)) := by
  unfold k0_pay2
  pointwise [pay1_apply]
theorem pay3_apply (r : Fin 128) (l : Fin 2048) :
    k0_pay3 g a x d (ix2 r l) = d (ix2 r l) + backRow (fun k => x (ix2 r k)) (fun k => a (ix2 r k) * g (ix2 0 k)) l := by
  unfold k0_pay3
  pointwise [pay1_apply, pay2_apply]
  rfl
theorem pay4_apply (l : Fin 2048) :
    k0_pay4 a (k0_pay2 x) o (ix2 0 l) = o (ix2 0 l) + ∑ r : Fin 128, a (ix2 r l) * (x (ix2 r l) * rms (fun k => x (ix2 r k))) := by
  unfold k0_pay4
  pointwise [pay2_apply]
end

end Cert.Dx

end
-- ==== Proof.Dx.Rows.lean ====
module

public import proofs.«01_k».proof.Proof.Dx.Pay

/-!
# The finished rows of a tile

The eight stores of 128 rows each cover the tile, so every row of the finished tile is its row's gradient; and
the eight additions to the gain's gradient add up all the tile's rows.
-/

@[expose] public noncomputable section

namespace Cert.Dx

open Cert.Kernel2Ideal Cert.Kernel2Ideal.Gen
open Idealize.ShloMosaic Cert.Rows

theorem chunk_apply (k : Fin 8) (v : Vec Ideal S1024x2048 .f32) (r : Fin 128) (l : Fin 2048) :
    chunk k v (ix2 r l) = v (ix2 ⟨128 * k.val + r.val, by omega⟩ l) :=
  congrArg v (funext fun a => Fin.ext (match a with
    | ⟨0, _⟩ => by show 128 * k.val + 1 * r.val = 128 * k.val + r.val; omega
    | ⟨1, _⟩ => by show 0 + 1 * l.val = l.val; omega))

variable (g : Vec Ideal S1x2048 .f32) (a x d b : Vec Ideal S1024x2048 .f32) (o : Vec Ideal S1x2048 .f32)

/-- Row `r` of the tile's gradient. -/
def rowAt (r : Fin 1024) (l : Fin 2048) : EReal :=
  d (ix2 r l) + backRow (fun k => x (ix2 r k)) (fun k => a (ix2 r k) * g (ix2 0 k)) l

/-- Row `r`'s part of the gain's gradient. -/
def partAt (r : Fin 1024) (l : Fin 2048) : EReal := a (ix2 r l) * (x (ix2 r l) * rms (fun k => x (ix2 r k)))

/-- A row that a store covers is the row's gradient; -/
theorem put_in (k : Fin 8) (r : Fin 1024) (l : Fin 2048) (h : 128 * k.val ≤ r.val ∧ r.val < 128 * k.val + 128) :
    putChunk g a x d k b (ix2 r l) = rowAt g a x d r l := by
  have h' : ∀ i : Fin 2, chunkOff k i ≤ ((ix2 r l : S1024x2048.Idx) i).val ∧ ((ix2 r l : S1024x2048.Idx) i).val < chunkOff k i + S128x2048.size i := fun i =>
    match i with
    | ⟨0, _⟩ => h
    | ⟨1, _⟩ => ⟨Nat.zero_le _, show l.val < 0 + 2048 by omega⟩
  refine (dif_pos h').trans ?_
  obtain ⟨q, hq⟩ : ∃ q : Fin 128, r.val = 128 * k.val + q.val := ⟨⟨r.val - 128 * k.val, by omega⟩, by dsimp only; omega⟩
  have e : Rect.unitLocal (s := S1024x2048) (off := chunkOff k) (size := S128x2048.size) (ix2 r l) h' = (ix2 q l : S128x2048.Idx) :=
    funext fun i => Fin.ext (match i with
      | ⟨0, _⟩ => by show r.val - 128 * k.val = q.val; omega
      | ⟨1, _⟩ => by show l.val - 0 = l.val; omega)
  have er : (⟨128 * k.val + q.val, by omega⟩ : Fin 1024) = r := Fin.ext hq.symm
  have hc : ∀ (v : Vec Ideal S1024x2048 .f32) (l : Fin 2048), chunk k v (ix2 q l) = v (ix2 r l) := fun v l =>
    (chunk_apply k v q l).trans (congrArg (fun i => v (ix2 i l)) er)
  refine (congrArg (rowChunk g a x d k) e).trans ((pay3_apply _ _ _ _ q l).trans ?_)
  exact congrArg₂ (· + ·) (hc d l) (congrArg₂ (fun p u => backRow p u l) (funext fun i => hc x i)
    (funext fun i => congrArg (· * g (ix2 0 i)) (hc a i)))

/-- a row that a store leaves alone is as before. -/
theorem put_out (k : Fin 8) (r : Fin 1024) (l : Fin 2048) (h : ¬(128 * k.val ≤ r.val ∧ r.val < 128 * k.val + 128)) :
    putChunk g a x d k b (ix2 r l) = b (ix2 r l) :=
  dif_neg fun h' => h (h' 0)

/-- Every row of the finished tile. -/
theorem rowsOut_apply (r : Fin 1024) (l : Fin 2048) : rowsOut g a x d (ix2 r l) = rowAt g a x d r l := by
  have step : ∀ (k : Fin 8) (b : Vec Ideal S1024x2048 .f32), (r.val < 128 * k.val → b (ix2 r l) = rowAt g a x d r l) →
      r.val < 128 * k.val + 128 → putChunk g a x d k b (ix2 r l) = rowAt g a x d r l := fun k b hb h => by
    by_cases h0 : 128 * k.val ≤ r.val
    · exact put_in g a x d b k r l ⟨h0, h⟩
    · rw [put_out g a x d b k r l fun h' => h0 h'.1]; exact hb (by omega)
  unfold rowsOut
  refine step 7 _ (fun _ => step 6 _ (fun _ => step 5 _ (fun _ => step 4 _ (fun _ => step 3 _ (fun _ => step 2 _ (fun _ =>
    step 1 _ (fun _ => step 0 _ (fun h => absurd h (by simp)) ?_) ?_) ?_) ?_) ?_) ?_) ?_) ?_
  · assumption
  · assumption
  · assumption
  · assumption
  · assumption
  · assumption
  · assumption
  · exact r.isLt

/-- What 128 rows add to the gain's gradient. -/
theorem gainChunk_apply (k : Fin 8) (l : Fin 2048) :
    gainChunk a x k o (ix2 0 l) = o (ix2 0 l) + ∑ r : Fin 128, partAt a x ⟨128 * k.val + r.val, by omega⟩ l := by
  refine (pay4_apply _ _ o l).trans (congrArg (o (ix2 0 l) + ·) (Finset.sum_congr rfl fun r _ => ?_))
  exact congrArg₂ (· * ·) (chunk_apply k a r l) (congrArg₂ (· * ·) (chunk_apply k x r l)
    (congrArg rms (funext fun i => chunk_apply k x r i)))

/-- Blocks of equal length laid end to end make the whole range. -/
theorem sum_tiles (q : ℕ → EReal) (n : ℕ) : ∀ N : ℕ,
    (∑ t : Fin N, ∑ r : Fin n, q (n * t.val + r.val)) = ∑ i ∈ Finset.range (n * N), q i
  | 0 => by simp
  | N + 1 => by
    rw [Fin.sum_univ_castSucc, Nat.mul_succ, Finset.sum_range_add, Finset.sum_range (n := n)]
    exact congrArg (· + _) (sum_tiles q n N)

/-- The gain's gradient after a tile: all the tile's rows are added. -/
theorem gainOut_apply (l : Fin 2048) : gainOut a x o (ix2 0 l) = o (ix2 0 l) + ∑ r : Fin 1024, partAt a x r l := by
  have h := sum_tiles (fun i => if h : i < 1024 then partAt a x ⟨i, h⟩ l else 0) 128 8
  rw [show 128 * 8 = 1024 from rfl, Finset.sum_range] at h
  have h1 : (∑ r : Fin 1024, partAt a x r l) = ∑ k : Fin 8, ∑ r : Fin 128, partAt a x ⟨128 * k.val + r.val, by omega⟩ l := by
    refine ((Finset.sum_congr rfl fun k _ => Finset.sum_congr rfl fun r _ => ?_).trans (h.trans (Finset.sum_congr rfl fun r _ => ?_))).symm
    · rw [dif_pos]
    · rw [dif_pos r.isLt]
  rw [h1]
  unfold gainOut
  rw [gainChunk_apply, gainChunk_apply, gainChunk_apply, gainChunk_apply, gainChunk_apply, gainChunk_apply, gainChunk_apply,
    gainChunk_apply, Fin.sum_univ_eight]
  simp only [add_assoc]

end Cert.Dx

end
-- ==== Proof.Dx.Ref.lean ====
module

public import proofs.«01_k».proof.Proof.Gen.Reference2Ideal.Read
public import proofs.«01_k».proof.Proof.Gen.Reference2Ideal.Run
public import proofs.«01_k».proof.Proof.Ref
public import Idealize.ShloMosaic.Lib.Tactic

/-!
# What the reference computes for the gradient of the block's input

The reference takes the derivative of the norm and the projection; its backward pass is written here as a
function of one row of `x` and of the projection's gradient, in the order of the reference's operations.
-/

@[expose] public noncomputable section

namespace Cert.Dx.Ref

open Cert.Reference2Ideal Cert.Reference2Ideal.Read Idealize.ShloMosaic Idealize.ShloMosaic.TcCoe Idealize.SL.Sem
open Cert.Rows Cert.ReferenceIdeal.Ref

variable (zh za : Vec Ideal S4x8192x1024 .bf16) (w : Vec Ideal S8x2048x1024 .bf16) (x : Vec Ideal S8192x2048 .f32)
  (g : Vec Ideal S1x2048 .f32) (d : Vec Ideal S8192x2048 .f32)

/-- The gradient of output `e` of projection `n` at row `s`: the recurrence's four projections, then the attention's. -/
def dzAt (n : Fin 8) (s : Fin 8192) (e : Fin 1024) : EReal :=
  if h : n.val < 4 then zh (ix3 ⟨n.val, h⟩ s e) else za (ix3 ⟨n.val - 4, by omega⟩ s e)

/-- The gradient of the normalised and scaled row `s`. -/
def dhAt (s : Fin 8192) (l : Fin 2048) : EReal := ∑ n : Fin 8, ∑ e : Fin 1024, dzAt zh za n s e * w (ix3 n l e)

/-- Row `s` of `x`. -/
def xrow (s : Fin 8192) : Fin 2048 → EReal := fun k => x (ix2 s k)

/-- The gradient of the row before the gain. -/
def uAt (s : Fin 8192) (l : Fin 2048) : EReal := dhAt zh za w s l * g (ix2 0 l)

/-- The cotangent that the reciprocal root hands to each square of the row. -/
def backVar (a u : Fin 2048 → EReal) : EReal :=
  Ideal.div ((∑ k, a k * u k) * (Ideal.ofBits .f32 0xBF000000#32 * Ideal.div (rms a) (var a))) (Ideal.ofBits .f32 0x45000000#32)

theorem v1_apply (n : Fin 8) (s : Fin 8192) (e : Fin 1024) :
    val_main_v1 (F := Ideal) zh za (ix3 n s e) = dzAt zh za n s e := by
  unfold val_main_v1 val_main_v0
  pointwise
  rfl

theorem v20_apply (n : Fin 8) (e : Fin 1024) (s : Fin 8192) :
    val_main_v20 (F := Ideal) zh za (ix3 n e s) = dzAt zh za n s e := by
  unfold val_main_v20
  pointwise [v1_apply]

theorem v8_apply (n : Fin 8192) (l : Fin 1) : val_main_v8 (F := Ideal) x (ix2 n l) = var (xrow x n) := by
  unfold val_main_v8 val_main_v7 val_main_v6 val_main_v5 val_main_v4 val_main_v3 val_main_v2 val_main_cst
    val_main_cst_0 val_main_cst_1
  pointwise
  rfl

theorem v9_apply (n : Fin 8192) (l : Fin 1) : val_main_v9 (F := Ideal) x (ix2 n l) = rms (xrow x n) := by
  unfold val_main_v9
  pointwise [v8_apply]
  rfl

theorem v12_apply (n : Fin 8192) (l : Fin 1) : val_main_v12 (F := Ideal) x (ix2 n l)
    = Ideal.ofBits .f32 0xBF000000#32 * Ideal.div (rms (xrow x n)) (var (xrow x n)) := by
  unfold val_main_v12 val_main_v11 val_main_v10 val_main_cst_2
  pointwise [v8_apply, v9_apply]

theorem v14_apply (n : Fin 8192) (l : Fin 2048) : val_main_v14 (F := Ideal) x (ix2 n l) = xrow x n l * rms (xrow x n) := by
  unfold val_main_v14 val_main_v13
  pointwise [v9_apply]
  rfl

theorem v21_apply (s : Fin 8192) (l : Fin 2048) : val_main_v21 (F := Ideal) zh za w (ix2 s l) = dhAt zh za w s l := by
  unfold val_main_v21 val_main_v17
  pointwise [v20_apply]
  rfl

/-- The reference's gradient of the gain. -/
theorem v24_apply (l : Fin 2048) : val_main_v24 (F := Ideal) zh za w x (ix2 0 l)
    = ∑ s, xrow x s l * rms (xrow x s) * dhAt zh za w s l := by
  unfold val_main_v24 val_main_v23 val_main_v22 val_main_cst_3
  pointwise [v14_apply, v21_apply]

theorem v26_apply (s : Fin 8192) (l : Fin 2048) : val_main_v26 (F := Ideal) zh za w g (ix2 s l) = uAt zh za w g s l := by
  unfold val_main_v26 val_main_v25
  pointwise [v21_apply]
  rfl

theorem v35_apply (s : Fin 8192) (l : Fin 1) : val_main_v35 (F := Ideal) zh za w x g (ix2 s l)
    = backVar (xrow x s) (uAt zh za w g s) := by
  unfold val_main_v35 val_main_v34 val_main_v33 val_main_v29 val_main_v28 val_main_v27 val_main_cst_4 val_main_cst_5
  pointwise [v12_apply, v26_apply]
  rfl

theorem v37_apply (s : Fin 8192) (l : Fin 2048) : val_main_v37 (F := Ideal) zh za w x g (ix2 s l)
    = backVar (xrow x s) (uAt zh za w g s) := by
  unfold val_main_v37 val_main_v36 val_main_cst_6
  pointwise [v35_apply]
  simp only [Finset.univ_unique, Finset.sum_singleton]

/-- The reference's gradient of `x`. -/
theorem v41_apply (s : Fin 8192) (l : Fin 2048) : val_main_v41 (F := Ideal) zh za w x g d (ix2 s l)
    = d (ix2 s l) + uAt zh za w g s l * rms (xrow x s) + xrow x s l * backVar (xrow x s) (uAt zh za w g s)
      + backVar (xrow x s) (uAt zh za w g s) * xrow x s l := by
  unfold val_main_v41 val_main_v40 val_main_v39 val_main_v38 val_main_v32 val_main_v31 val_main_v30
  pointwise [v9_apply, v26_apply, v37_apply]
  rfl

end Cert.Dx.Ref

end
-- ==== Proof.Dx.Values.lean ====
module

public import proofs.«01_k».proof.Proof.Dx.Run
public import proofs.«01_k».proof.Proof.Dx.Rows
public import proofs.«01_k».proof.Proof.Dx.Ref
public import proofs.«01_k».proof.Proof.Block

/-!
# What the kernel's arrays hold after the run

The accumulator of a row tile is, after its eight blocks, the gradient of the normalised rows; the finished rows
and the gain's gradient follow from it, row by row.
-/

@[expose] public noncomputable section

namespace Cert.Dx.Values

open Cert.Kernel2Ideal Cert.Kernel2Ideal.Gen Cert.Dx
open Idealize.ShloMosaic Idealize.ShloMosaic.TcCoe Idealize.SL.Sem Cert.Rows
open Cert.KernelIdeal.Block (eq_pair)
open Cert.Dx.Ref (dzAt dhAt uAt xrow)
open Idealize.ShloMosaic.Pipeline (Dat)

variable (m : (ℓ : Loc nD τ sig) → Buf (Elt Ideal) ℓ) (c : Dev nD)

abbrev ZH : S4x8192x1024.Idx → EReal := m (c.tc.loc main_arg0)
abbrev ZA : S4x8192x1024.Idx → EReal := m (c.tc.loc main_arg1)
abbrev W : S8x2048x1024.Idx → EReal := m (c.tc.loc main_arg2)
abbrev X : S8192x2048.Idx → EReal := m (c.tc.loc main_arg3)
abbrev G : S1x2048.Idx → EReal := m (c.tc.loc main_arg4)
abbrev D : S8192x2048.Idx → EReal := m (c.tc.loc main_arg5)

/-! ## The blocks -/

theorem idx0 : ∀ t : Fin grid0.N, win0_0.index t 0 = min (t.val % 8) 3 ∧ win0_0.index t 1 = t.val / 8 ∧ win0_0.index t 2 = 0 := by decide
theorem idx1 : ∀ t : Fin grid0.N, win0_1.index t 0 = t.val % 8 - 4 ∧ win0_1.index t 1 = t.val / 8 ∧ win0_1.index t 2 = 0 := by decide
theorem idx2 : ∀ t : Fin grid0.N, win0_2.index t 0 = t.val % 8 ∧ win0_2.index t 1 = 0 ∧ win0_2.index t 2 = 0 := by decide
theorem idx3 : ∀ t : Fin grid0.N, win0_3.index t 0 = 0 ∧ win0_3.index t 1 = 0 := by decide
theorem idx4 : ∀ t : Fin grid0.N, win0_4.index t 0 = 0 ∧ win0_4.index t 1 = 0 := by decide

theorem lt64 (t : Fin cfg0.N) : t.val < 64 := lt_of_lt_of_eq t.isLt N_0

/-- Row `r` of tile `j` is row `1024 j + r` of the array. -/
abbrev at_ (j : ℕ) (h : j < 8) (r : Fin 1024) : Fin 8192 := ⟨1024 * j + r.val, by omega⟩

theorem zh_apply (t : Fin cfg0.N) (h4 : t.val % 8 < 4) (r e : Fin 1024) :
    zhB m c t (ix3 0 r e) = ZH m c (ix3 ⟨t.val % 8, h4⟩ (at_ (t.val / 8) (by have := lt64 t; omega) r) e) := by
  unfold zhB iblk
  rw [View.read_apply]
  show V m c main_arg0 _ = _
  unfold V
  refine congrArg (m (c.tc.loc main_arg0)) (funext fun a => Fin.ext ?_)
  match a with
  | ⟨0, _⟩ => show win0_0.index t 0 * 1 + 1 * 0 = t.val % 8; rw [(idx0 t).1]; omega
  | ⟨1, _⟩ => show win0_0.index t 1 * 1024 + 1 * r.val = 1024 * (t.val / 8) + r.val; rw [(idx0 t).2.1]; omega
  | ⟨2, _⟩ => show win0_0.index t 2 * 1024 + 1 * e.val = e.val; rw [(idx0 t).2.2]; omega
theorem za_apply (t : Fin cfg0.N) (h4 : 4 ≤ t.val % 8) (r e : Fin 1024) :
    zaB m c t (ix3 0 r e) = ZA m c (ix3 ⟨t.val % 8 - 4, by omega⟩ (at_ (t.val / 8) (by have := lt64 t; omega) r) e) := by
  unfold zaB iblk
  rw [View.read_apply]
  show V m c main_arg1 _ = _
  unfold V
  refine congrArg (m (c.tc.loc main_arg1)) (funext fun a => Fin.ext ?_)
  match a with
  | ⟨0, _⟩ => show win0_1.index t 0 * 1 + 1 * 0 = t.val % 8 - 4; rw [(idx1 t).1]; omega
  | ⟨1, _⟩ => show win0_1.index t 1 * 1024 + 1 * r.val = 1024 * (t.val / 8) + r.val; rw [(idx1 t).2.1]; omega
  | ⟨2, _⟩ => show win0_1.index t 2 * 1024 + 1 * e.val = e.val; rw [(idx1 t).2.2]; omega
theorem w_apply (t : Fin cfg0.N) (l : Fin 2048) (e : Fin 1024) :
    wB m c t (ix3 0 l e) = W m c (ix3 ⟨t.val % 8, by omega⟩ l e) := by
  unfold wB iblk
  rw [View.read_apply]
  show V m c main_arg2 _ = _
  unfold V
  refine congrArg (m (c.tc.loc main_arg2)) (funext fun a => Fin.ext ?_)
  match a with
  | ⟨0, _⟩ => show win0_2.index t 0 * 1 + 1 * 0 = t.val % 8; rw [(idx2 t).1]; omega
  | ⟨1, _⟩ => show win0_2.index t 1 * 2048 + 1 * l.val = l.val; rw [(idx2 t).2.1]; omega
  | ⟨2, _⟩ => show win0_2.index t 2 * 1024 + 1 * e.val = e.val; rw [(idx2 t).2.2]; omega
theorem g_apply (t : Fin cfg0.N) (l : Fin 2048) : gB m c t (ix2 0 l) = G m c (ix2 0 l) := by
  unfold gB iblk
  rw [View.read_apply]
  show V m c main_arg4 _ = _
  unfold V
  refine congrArg (m (c.tc.loc main_arg4)) (funext fun a => Fin.ext ?_)
  match a with
  | ⟨0, _⟩ => show win0_3.index t 0 * 1 + 1 * 0 = 0; rw [(idx3 t).1]
  | ⟨1, _⟩ => show win0_3.index t 1 * 2048 + 1 * l.val = l.val; rw [(idx3 t).2]; omega
theorem x_apply (j : Fin 8) (r : Fin 1024) (l : Fin 2048) : xTile m c j (ix2 r l) = X m c (ix2 (at_ j.val j.isLt r) l) := by
  refine congrArg (m (c.tc.loc main_arg3)) (funext fun a => Fin.ext ?_)
  match a with
  | ⟨0, _⟩ => show 1024 * j.val + 1 * r.val = 1024 * j.val + r.val; omega
  | ⟨1, _⟩ => show 0 + 1 * l.val = l.val; omega
theorem d_apply (j : Fin 8) (r : Fin 1024) (l : Fin 2048) : dTile m c j (ix2 r l) = D m c (ix2 (at_ j.val j.isLt r) l) := by
  refine congrArg (m (c.tc.loc main_arg5)) (funext fun a => Fin.ext ?_)
  match a with
  | ⟨0, _⟩ => show 1024 * j.val + 1 * r.val = 1024 * j.val + r.val; omega
  | ⟨1, _⟩ => show 0 + 1 * l.val = l.val; omega

/-! ## The accumulator -/

/-- What projection `n` adds to the gradient of a normalised row. -/
def termAt (s : Fin 8192) (l : Fin 2048) (n : ℕ) : EReal :=
  if h : n < 8 then ∑ e : Fin 1024, dzAt (ZH m c) (ZA m c) ⟨n, h⟩ s e * W m c (ix3 ⟨n, h⟩ l e) else 0

theorem prod_low (t : Fin cfg0.N) (h4 : t.val % 8 < 4) (r : Fin 1024) (l : Fin 2048) :
    prodAt (zhB m c t) (wB m c t) r l = termAt m c (at_ (t.val / 8) (by have := lt64 t; omega) r) l (t.val % 8) := by
  unfold termAt
  rw [dif_pos (by omega)]
  refine Finset.sum_congr rfl fun e _ => congrArg₂ (· * ·) ((zh_apply m c t h4 r e).trans ?_) (w_apply m c t l e)
  unfold dzAt
  rw [dif_pos h4]
theorem prod_high (t : Fin cfg0.N) (h4 : 4 ≤ t.val % 8) (r : Fin 1024) (l : Fin 2048) :
    prodAt (zaB m c t) (wB m c t) r l = termAt m c (at_ (t.val / 8) (by have := lt64 t; omega) r) l (t.val % 8) := by
  unfold termAt
  rw [dif_pos (by omega)]
  refine Finset.sum_congr rfl fun e _ => congrArg₂ (· * ·) ((za_apply m c t h4 r e).trans ?_) (w_apply m c t l e)
  unfold dzAt
  rw [dif_neg (by dsimp only; omega)]

/-- After `k + 1` blocks of a row tile the accumulator holds the sum of their products. -/
theorem acc_part (j : ℕ) (hj : j < 8) (r : Fin 1024) (l : Fin 2048) : ∀ k : ℕ, k < 8 →
    accA m c (8 * j + k + 1) (ix2 r l) = ∑ n ∈ Finset.range (k + 1), termAt m c (at_ j hj r) l n
  | 0, _ => by
    have ht : (pt (8 * j + 0) (by omega)).val % 8 = 0 := by dsimp only; omega
    refine (congrFun (accA_first m c (pt (8 * j + 0) (by omega)) ht) _).trans ((pay78_apply _ _ r l).trans ?_)
    rw [prod_low m c _ (by omega), Finset.sum_range_one]
    exact congrArg₂ (fun s n => termAt m c s l n) (Fin.ext (by show 1024 * ((8 * j + 0) / 8) + r.val = 1024 * j + r.val; omega)) ht
  | k + 1, hk => by
    have ih := acc_part j hj r l k (by omega)
    have ht : (pt (8 * j + (k + 1)) (by omega)).val % 8 = k + 1 := by dsimp only; omega
    have hs : at_ ((pt (8 * j + (k + 1)) (by omega)).val / 8) (by dsimp only; omega) r = at_ j hj r :=
      Fin.ext (by show 1024 * ((8 * j + (k + 1)) / 8) + r.val = 1024 * j + r.val; omega)
    rw [Finset.sum_range_succ, ← ih]
    by_cases h4 : k + 1 < 4
    · refine (congrFun (accA_low m c (pt (8 * j + (k + 1)) (by omega)) (by omega) (by omega)) _).trans ((pay80_apply _ _ _ r l).trans ?_)
      refine congrArg₂ (· + ·) rfl ((prod_low m c _ (by omega) r l).trans ?_)
      exact congrArg₂ (fun s n => termAt m c s l n) hs ht
    · refine (congrFun (accA_high m c (pt (8 * j + (k + 1)) (by omega)) (by omega)) _).trans ((pay81_apply _ _ _ r l).trans ?_)
      refine congrArg₂ (· + ·) rfl ((prod_high m c _ (by omega) r l).trans ?_)
      exact congrArg₂ (fun s n => termAt m c s l n) hs ht

/-- After a row tile's eight blocks the accumulator holds the gradient of its normalised rows. -/
theorem acc_full (j : Fin 8) (r : Fin 1024) (l : Fin 2048) :
    accA m c (8 * (j.val + 1)) (ix2 r l) = dhAt (ZH m c) (ZA m c) (W m c) (at_ j.val j.isLt r) l := by
  rw [show 8 * (j.val + 1) = 8 * j.val + 7 + 1 by omega, acc_part m c j.val j.isLt r l 7 (by omega), Finset.sum_range]
  exact Finset.sum_congr rfl fun n _ => dif_pos n.isLt

/-! ## The finished rows -/

/-- The gradient of `x`. -/
def gradAt (s : Fin 8192) (l : Fin 2048) : EReal :=
  D m c (ix2 s l) + backRow (xrow (X m c) s) (uAt (ZH m c) (ZA m c) (W m c) (G m c) s) l

theorem gv_apply (j : Fin 8) (r : Fin 1024) (l : Fin 2048) : gv m c j (ix2 r l) = gradAt m c (at_ j.val j.isLt r) l := by
  unfold gv
  rw [rowsOut_apply]
  exact congrArg₂ (· + ·) (d_apply m c j r l) (congrArg₂ (fun p u => backRow p u l) (funext fun k => x_apply m c j r k)
    (funext fun k => congrArg₂ (· * ·) (acc_full m c j r k) (g_apply m c _ k)))

theorem gx_apply (s : Fin 8192) (l : Fin 2048) : gxA m c (ix2 s l) = gradAt m c s l := by
  refine (gv_apply m c ⟨s.val / 1024, by omega⟩ ⟨s.val % 1024, by omega⟩ l).trans ?_
  congr 1
  exact Fin.ext (by show 1024 * (s.val / 1024) + s.val % 1024 = s.val; omega)

/-! ## The gain's gradient -/

/-- What row `s` adds to the gain's gradient. -/
def gainAt (l : Fin 2048) (s : Fin 8192) : EReal :=
  dhAt (ZH m c) (ZA m c) (W m c) s l * (X m c (ix2 s l) * rms (xrow (X m c) s))

/-- What row tile `i` adds. -/
def tileSum (l : Fin 2048) (i : ℕ) : EReal := if h : i < 8 then ∑ r : Fin 1024, gainAt m c l (at_ i h r) else 0

theorem tile_gain (j : Fin 8) (o : Vec Ideal S1x2048 .f32) (l : Fin 2048) :
    gainOut (accA m c (8 * (j.val + 1))) (xTile m c j) o (ix2 0 l) = o (ix2 0 l) + tileSum m c l j.val := by
  unfold tileSum
  rw [gainOut_apply, dif_pos j.isLt]
  exact congrArg (o (ix2 0 l) + ·) (Finset.sum_congr rfl fun r _ => congrArg₂ (· * ·) (acc_full m c j r l)
    (congrArg₂ (· * ·) (x_apply m c j r l) (congrArg rms (funext fun k => x_apply m c j r k))))

/-- Before the last step the gain's gradient holds the finished tiles' sums. -/
theorem dg_part (l : Fin 2048) : ∀ n : ℕ, n < 63 → dgA m c n (ix2 0 l) = ∑ i ∈ Finset.range (n / 8), tileSum m c l i
  | 0, _ => by
    unfold dgA
    rw [pay77_apply]; rfl
  | n + 1, h => by
    have ih := dg_part l n (by omega)
    by_cases h8 : (n + 1) % 8 = 0
    · have e := congrFun (dgA_tile m c (pt (n + 1) (by omega)) h8 (by dsimp only; omega)) (ix2 0 l)
      obtain ⟨j, hj⟩ : ∃ j : Fin 8, n + 1 = 8 * (j.val + 1) := ⟨⟨(n + 1) / 8 - 1, by omega⟩, by dsimp only; omega⟩
      have hr : rowPred (pt (n + 1) (by omega)) = j := Fin.ext (by show (n + 1) / 8 - 1 = j.val; omega)
      rw [hr] at e
      refine e.trans ?_
      show gainOut (accA m c (n + 1)) (xTile m c j) (dgA m c n) (ix2 0 l) = _
      rw [show (n + 1) / 8 = n / 8 + 1 by omega, Finset.sum_range_succ, ← ih, hj, tile_gain, show n / 8 = j.val by omega]
    · refine (congrFun (dgA_same m c (pt (n + 1) (by omega)) h8 (by dsimp only; omega)) (ix2 0 l)).trans ?_
      rw [show (n + 1) / 8 = n / 8 by omega]; exact ih

/-- After the last step it holds the sum over all rows. -/
theorem dg_last (l : Fin 2048) : dgA m c 63 (ix2 0 l) = ∑ s, gainAt m c l s := by
  have e := congrFun (dgA_last m c (pt 63 (by omega)) rfl) (ix2 0 l)
  refine e.trans ((tile_gain m c 7 _ l).trans ?_)
  show dgA m c 62 (ix2 0 l) + _ = _
  rw [dg_part m c l 62 (by omega)]
  refine (Finset.sum_range_succ (tileSum m c l) 7).symm.trans ?_
  have h := sum_tiles (fun i => if h : i < 8192 then gainAt m c l ⟨i, h⟩ else 0) 1024 8
  rw [show 1024 * 8 = 8192 from rfl, Finset.sum_range] at h
  rw [Finset.sum_range]
  refine (Finset.sum_congr rfl fun j _ => ?_).trans (h.trans (Finset.sum_congr rfl fun s _ => dif_pos s.isLt))
  unfold tileSum
  rw [dif_pos j.isLt]
  refine Finset.sum_congr rfl fun r _ => ?_
  rw [dif_pos (show 1024 * j.val + r.val < 8192 by omega)]

/-- The gain's gradient as an array. -/
def gainArr (y : S1x2048.Idx) : EReal := ∑ s, gainAt m c (y 1) s

/-- The last step sends back the whole row. -/
theorem wrote4 (t : Fin cfg0.N) (hf : (cfg0.win 4).flush t = true) :
    (dats m 0 c).flushed 4 t = ((cfg0.win 4).blk t).view.read (Elt Ideal) (gainArr m c) := by
  have h63 : t.val = 63 := by have := (flush0_4 t).mp hf; have := lt64 t; omega
  have h : (dats m 0 c).flushed 4 t = (cfg0.win 4).cut (grid0.coords t) (dgA m c t.val) := by
    unfold Dat.flushed; rw [after_4]
  rw [h]
  funext y
  rw [View.read_apply]
  obtain ⟨r, l, rfl⟩ := eq_pair (n := 1) (m := 2048) y
  obtain rfl : r = 0 := Subsingleton.elim _ _
  refine (show _ = dgA m c t.val (ix2 0 l) from rfl).trans ?_
  have hg : dgA m c t.val (ix2 0 l) = gainArr m c (ix2 0 l) := by rw [h63]; exact dg_last m c l
  refine hg.trans ?_
  rw [cast_eq]
  refine congrArg (gainArr m c) ?_
  refine funext fun a => Fin.ext ?_
  match a with
  | ⟨0, _⟩ => show 0 = win0_4.index t 0 * 1 + 1 * 0; rw [(idx4 t).1]
  | ⟨1, _⟩ => show l.val = win0_4.index t 1 * 2048 + 1 * l.val; rw [(idx4 t).2]; omega

/-- The gain's gradient after the run. -/
theorem final4 : (dats m 0 c).arrAt 4 cfg0.N = gainArr m c :=
  (dats m 0 c).arrAt_eq_of_cover 4 (gainArr m c) (wrote4 m c) fun i => by
    have h0 : (i 0 : Nat) < 1 := (i 0).isLt
    have h1 : (i 1 : Nat) < 2048 := (i 1).isLt
    have ht : 63 < cfg0.N := lt_of_lt_of_eq (by omega) N_0.symm
    refine ⟨⟨63, ht⟩, (flush0_4 _).mpr rfl, ?_⟩
    show i ∈ ((View.whole main_v0_1).slice (win0_4.rect ⟨63, ht⟩)).set
    rw [View.set_slice_whole, Rect.mem_set_unit]
    intro a
    match a with
    | ⟨0, _⟩ =>
      show win0_4.index _ 0 * 1 ≤ (i 0 : Nat) ∧ (i 0 : Nat) < win0_4.index _ 0 * 1 + 1
      rw [(idx4 _).1]; omega
    | ⟨1, _⟩ =>
      show win0_4.index _ 1 * 2048 ≤ (i 1 : Nat) ∧ (i 1 : Nat) < win0_4.index _ 1 * 2048 + 2048
      rw [(idx4 _).2]; omega

end Cert.Dx.Values

end
-- ==== Proof.Dx.Equation.lean ====
module

public import proofs.«01_k».proof.Proof.Dx.Values
public import proofs.«01_k».proof.Proof.Algebra

/-!
# The kernel's two arrays are the reference's

The reference differentiates the reciprocal root by itself; the kernel uses the closed form. They agree for all
arrays, because the reciprocal root is a nonnegative real.
-/

@[expose] public noncomputable section

namespace Cert.Dx.Equation

open Cert.Kernel2Ideal Cert.Dx Cert.Dx.Ref Cert.Dx.Values Cert.Algebra
open Idealize.ShloMosaic Idealize.ShloMosaic.TcCoe Idealize.SL.Sem Cert.Rows Cert.ReferenceIdeal.Ref
open Cert.Reference2Ideal.Read
open Cert.KernelIdeal.Block (eq_pair)

/-- The reference's gradient of a row, written after its own order, is the kernel's. -/
theorem back_eq (a u : Fin 2048 → EReal) (d : EReal) (l : Fin 2048) :
    d + u l * rms a + a l * backVar a u + backVar a u * a l = d + backRow a u l := by
  obtain ⟨ρ, h0, hr, hd⟩ := rms_real a
  have hsum : (∑ k, u k * (a k * (ρ : EReal))) = (∑ k, a k * u k) * (ρ : EReal) := by
    rw [sum_mul_real _ _ h0]
    exact Finset.sum_congr rfl fun k _ => by rw [← mul_assoc, mul_comm (a k)]
  unfold backVar backRow
  rw [hd, hr, div2048, div2048, hsum, cNegHalf]
  generalize (∑ k, a k * u k) = S
  generalize u l = q
  generalize a l = b
  have hW : S * (((-(1 / 2) : ℝ) : EReal) * ((ρ * ρ * ρ : ℝ) : EReal)) * ((1 / 2048 : ℝ) : EReal)
      = S * ((-(ρ * ρ * ρ / 4096) : ℝ) : EReal) := by
    rw [mul_assoc, ← EReal.coe_mul, ← EReal.coe_mul]
    congr 2; ring
  have hq : b * (ρ : EReal) * (S * (ρ : EReal) * ((1 / 2048 : ℝ) : EReal))
      = b * S * ((ρ * ρ / 2048 : ℝ) : EReal) := by
    rw [mul_assoc S, ← EReal.coe_mul, mul_mul_mul_comm, ← EReal.coe_mul]
    congr 2; ring
  rw [hW, hq, mul_comm (S * _) b, add_assoc, add_assoc, ← mul_assoc, add_self_real, sub_eq_add_neg,
    EReal.left_distrib_of_nonneg_of_ne_top (EReal.coe_nonneg.mpr h0) (EReal.coe_ne_top ρ), mul_comm q,
    ← mul_neg, ← EReal.coe_neg, mul_left_comm, ← EReal.coe_mul]
  congr 4; ring

variable (m : (ℓ : Loc nD τ sig) → Buf (Elt Ideal) ℓ) (c : Dev nD)

theorem grad_eq : gxA m c = val_main_v41 (F := Ideal) (ZH m c) (ZA m c) (W m c) (X m c) (G m c) (D m c) := by
  funext y
  obtain ⟨n, l, rfl⟩ := eq_pair (n := 8192) (m := 2048) y
  rw [Cert.Dx.Ref.v41_apply, back_eq]
  exact gx_apply m c n l

theorem gain_eq : gainArr m c = val_main_v24 (F := Ideal) (ZH m c) (ZA m c) (W m c) (X m c) := by
  funext y
  obtain ⟨n, l, rfl⟩ := eq_pair (n := 1) (m := 2048) y
  obtain rfl : n = 0 := Subsingleton.elim _ _
  rw [Cert.Dx.Ref.v24_apply]
  exact Finset.sum_congr rfl fun s _ => mul_comm _ _

end Cert.Dx.Equation

end
-- ==== Proof.Dx.Claims.lean ====
module

public import proofs.«01_k».proof.Defs
public import proofs.«01_k».proof.Proof.Gen.Kernel2
public import proofs.«01_k».proof.Proof.Dx.Equation
public import Idealize.ShloMosaic.Adequacy
public import Idealize.ShloMosaic.Init

/-! # The five claims about the gradient of the block's input -/

@[expose] public noncomputable section

namespace Cert.Dx.Claims

open Idealize.ShloMosaic Idealize.ShloMosaic.TcCoe Idealize.SL.Sem Cert.Kernel2Ideal Cert.Kernel2Ideal.Gen Cert.Dx

/-- The kernel ends with its arguments unchanged and its counters at zero, in either arithmetic. -/
theorem frame_main {F : FTy → Type} [FloatOps F] (m : (ℓ : Loc nD τ sig) → Buf (Elt F) ℓ) (ρ : Dev nD → PrngReg) :
    θ_run (defs (F := F)) (onTc (main (F := F))) ⟨m, fun _ => 0, ρ⟩ (fun r =>
      (∀ c : Dev nD, r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3)
        ∧ r.2.mem (c.tc.loc main_arg4) = m (c.tc.loc main_arg4) ∧ r.2.mem (c.tc.loc main_arg5) = m (c.tc.loc main_arg5))
      ∧ r.2.sem = fun _ => 0) :=
  (θ_run defs _ _).mono (fun r h => ⟨fun c =>
    ⟨((h.1 c).1 0).trans (staged_in m c 0 rfl), ((h.1 c).1 1).trans (staged_in m c 1 rfl), ((h.1 c).1 2).trans (staged_in m c 2 rfl),
      (h.1 c).2.1, ((h.1 c).1 3).trans (staged_in m c 3 rfl), (h.1 c).2.2.1⟩, h.2⟩) (run_main m ρ)

/-- In exact arithmetic; -/
theorem frame_ideal : Cert.quiescent_Kernel2Ideal := fun m ρ _ => frame_main (F := Ideal) m ρ

/-- The two texts run the same bodies. -/
theorem bodies_eq : Cert.Kernel2.defs₀ (F := Bits) = defs₀ (F := Bits) := by
  unfold Cert.Kernel2.defs₀ defs₀
  refine congrArg Defs.onTc ?_
  funext l x
  match l, x with
  | 0, (t, s) => rfl

theorem defs_eq : Cert.Kernel2.defs (F := Bits) = defs (F := Bits) := congrArg (Pipeline.defs pcfgs) bodies_eq

/-- and in the machine's, of which it is the same text. -/
theorem frame_kernel : Cert.quiescent_Kernel2 := fun m ρ _ => by
  have h := frame_main (F := Bits) m ρ
  rw [← defs_eq] at h
  exact h

/-- So does the reference, which has no counters. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- In exact arithmetic the kernel's two results are the reference's, for all arrays. -/
theorem algebraic : Cert.algebraic_Kernel2Ideal_Reference2Ideal := by
  intro m ρ m' ρ' _ hagree
  refine ⟨fun c => gxA m c, fun c => Values.gainArr m c, ?_, ?_⟩
  · refine (θ_run Cert.Kernel2Ideal.defs _ _).mono (fun r h c => ?_) (run_main (F := Ideal) m ρ)
    exact ⟨(h.1 c).2.2.2, ((h.1 c).1 4).trans (Values.final4 m c), ((h.1 c).1 0).trans (staged_in m c 0 rfl),
      ((h.1 c).1 1).trans (staged_in m c 1 rfl), ((h.1 c).1 2).trans (staged_in m c 2 rfl), (h.1 c).2.1,
      ((h.1 c).1 3).trans (staged_in m c 3 rfl), (h.1 c).2.2.1⟩
  · refine (θ_run Cert.Reference2Ideal.defs _ _).mono (fun r h c => ?_) (Cert.Reference2Ideal.Value.run (F := Ideal) m' ρ')
    obtain ⟨h0, h1, hargs⟩ := h c
    obtain ⟨e0, e1, e2, e3, e4, e5⟩ := hagree c
    refine ⟨h0.trans ?_, h1.trans ?_, hargs⟩
    · rw [Cert.Reference2Ideal.Read.val_main_v41_eq, e0, e1, e2, e3, e4, e5]; exact (Equation.grad_eq m c).symm
    · rw [Cert.Reference2Ideal.Read.val_main_v24_eq, e0, e1, e2, e3]; exact (Equation.gain_eq m c).symm

end Cert.Dx.Claims

end
-- ==== Proof.Opt.Step.lean ====
module

public import Idealize.ShloMosaic.Lib.ValueIdx
public import Idealize.ShloMosaic.PureOps.Ideal

/-! # One entry of the optimiser's step, as reference.py writes it -/

@[expose] public noncomputable section

namespace Cert.Opt

open Idealize.ShloMosaic

/-- The decayed first moment of an entry whose gradient is `g`. -/
def first (g m : EReal) : EReal := Ideal.ofBits .f32 0x3F666666#32 * m + Ideal.ofBits .f32 0x3DCCCCCD#32 * g
/-- The decayed second moment. -/
def second (g v : EReal) : EReal := Ideal.ofBits .f32 0x3F7FBE77#32 * v + Ideal.ofBits .f32 0x3A83126F#32 * (g * g)
/-- The step of a weight `w` whose new moments are `m` and `v`. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32)
    + Ideal.ofBits .f32 0x3C23D70A#32 * w)

/-- The gradient a device owns and what three other chips sent of it. -/
def total (o : EReal) (r : Fin 3 → EReal) : EReal := o + ∑ q, r q

end Cert.Opt

end
-- ==== Proof.Opt.In.lean ====
module

public import proofs.«01_k».proof.Proof.Block
public import proofs.«01_k».proof.Proof.Opt.Step
public import proofs.«01_k».proof.Proof.Gen.Kernel3Ideal.Value
public import proofs.«01_k».proof.Proof.Gen.Reference3Ideal.Read

/-! # The optimiser's step on the input projection's weight -/

@[expose] public noncomputable section

namespace Cert.Opt.In

open Cert.Kernel3Ideal Cert.Kernel3Ideal.Gen Idealize.ShloMosaic Idealize.ShloMosaic.TcCoe Idealize.SL.Sem
open Cert.KernelIdeal.Block (eq_pair)

section Block

variable (o w m v : Vec Ideal S256x1024 .f32) (a b d : Vec Ideal S1x256x1024 .bf16)

theorem pay2_apply (r : Fin 256) (l : Fin 1024) :
    k0_pay2 o a b d (ix2 r l) = o (ix2 r l) + a (ix3 0 r l) + b (ix3 0 r l) + d (ix3 0 r l) := by
  unfold k0_pay2
  pointwise

theorem pay3_apply (r : Fin 256) (l : Fin 1024) : k0_pay3 o a b d m (ix2 r l) = first (k0_pay2 o a b d (ix2 r l)) (m (ix2 r l)) := by
  unfold k0_pay3
  pointwise
  rfl

theorem pay4_apply (r : Fin 256) (l : Fin 1024) : k0_pay4 o a b d v (ix2 r l) = second (k0_pay2 o a b d (ix2 r l)) (v (ix2 r l)) := by
  unfold k0_pay4
  pointwise
  rfl

theorem pay1_apply (r : Fin 256) (l : Fin 1024) : k0_pay1 w (k0_pay5 o a b d m) (k0_pay6 o a b d v) (ix2 r l)
    = step (w (ix2 r l)) (k0_pay3 o a b d m (ix2 r l)) (k0_pay4 o a b d v (ix2 r l)) := by
  unfold k0_pay1 k0_pay5 k0_pay6
  pointwise
  rfl

end Block

section Ref

open Cert.Reference3Ideal.Read

variable (o : Vec Ideal S2048x1024 .f32) (q : Vec Ideal S3x2048x1024 .bf16) (w m v : Vec Ideal S2048x1024 .f32)

theorem v2_apply (r : Fin 2048) (l : Fin 1024) :
    val_main_v2 o q (ix2 r l) = total (o (ix2 r l)) fun k => q (ix3 k r l) := by
  unfold val_main_v2 val_main_v1 val_main_v0 val_main_cst
  pointwise
  rfl

theorem v7_apply (r : Fin 2048) (l : Fin 1024) : val_main_v7 o q m (ix2 r l) = first (val_main_v2 o q (ix2 r l)) (m (ix2 r l)) := by
  unfold val_main_v7 val_main_v6 val_main_v5 val_main_v4 val_main_v3 val_main_cst_0 val_main_cst_1
  pointwise
  rfl

theorem v13_apply (r : Fin 2048) (l : Fin 1024) : val_main_v13 o q v (ix2 r l) = second (val_main_v2 o q (ix2 r l)) (v (ix2 r l)) := by
  unfold val_main_v13 val_main_v12 val_main_v11 val_main_v10 val_main_v9 val_main_v8 val_main_cst_2 val_main_cst_3
  pointwise
  rfl

theorem v26_apply (r : Fin 2048) (l : Fin 1024) : val_main_v26 o q w m v (ix2 r l)
    = step (w (ix2 r l)) (val_main_v7 o q m (ix2 r l)) (val_main_v13 o q v (ix2 r l)) := by
  unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8
  pointwise
  rfl

end Ref

end Cert.Opt.In

end
-- ==== Proof.Opt.InArrays.lean ====
module

public import proofs.«01_k».proof.Defs
public import proofs.«01_k».proof.Proof.Opt.In
public import proofs.«01_k».proof.Proof.Gen.Kernel3
public import proofs.«01_k».proof.Proof.Gen.Kernel3.Frame
public import proofs.«01_k».proof.Proof.Gen.Reference3Ideal.Run
public import Idealize.ShloMosaic.Adequacy
public import Idealize.ShloMosaic.Init

/-! # The four result arrays of the input projection's step, and the claims -/

@[expose] public noncomputable section

namespace Cert.Opt.InArrays

open Cert.Kernel3Ideal Cert.Kernel3Ideal.Gen Cert.Kernel3Ideal.Value Idealize.ShloMosaic Idealize.ShloMosaic.TcCoe Idealize.SL.Sem
open Cert.KernelIdeal.Block (eq_pair)
open Cert.Reference3Ideal.Read (val_main_v2 val_main_v7 val_main_v13 val_main_v26)
open Cert.Opt.In

variable (m : (ℓ : Loc nD τ sig) → Buf (Elt Ideal) ℓ) (c : Dev nD)

abbrev O : S2048x1024.Idx → EReal := m (c.tc.loc main_arg0)
abbrev Q : S3x2048x1024.Idx → EReal := m (c.tc.loc main_arg1)
abbrev W : S2048x1024.Idx → EReal := m (c.tc.loc main_arg2)
abbrev M : S2048x1024.Idx → EReal := m (c.tc.loc main_arg3)
abbrev V2 : S2048x1024.Idx → EReal := m (c.tc.loc main_arg4)

theorem idx0 : ∀ t : Fin grid0.N, win0_0.index t 0 = t.val ∧ win0_0.index t 1 = 0 := by decide
theorem idx1 : ∀ t : Fin grid0.N, win0_1.index t 0 = 0 ∧ win0_1.index t 1 = t.val ∧ win0_1.index t 2 = 0 := by decide
theorem idx2 : ∀ t : Fin grid0.N, win0_2.index t 0 = t.val ∧ win0_2.index t 1 = 0 := by decide
theorem idx3 : ∀ t : Fin grid0.N, win0_3.index t 0 = t.val ∧ win0_3.index t 1 = 0 := by decide
theorem idx4 : ∀ t : Fin grid0.N, win0_4.index t 0 = t.val ∧ win0_4.index t 1 = 0 := by decide
theorem idx5 : ∀ t : Fin grid0.N, win0_5.index t 0 = t.val ∧ win0_5.index t 1 = 0 := by decide
theorem idx6 : ∀ t : Fin grid0.N, win0_6.index t 0 = t.val ∧ win0_6.index t 1 = 0 := by decide
theorem idx7 : ∀ t : Fin grid0.N, win0_7.index t 0 = t.val ∧ win0_7.index t 1 = 0 := by decide
theorem idx8 : ∀ t : Fin grid0.N, win0_8.index t 0 = t.val ∧ win0_8.index t 1 = 0 := by decide

theorem lt8 (t : Fin cfg0.N) : t.val < 8 := lt_of_lt_of_eq t.isLt N_0

/-- Row `r` of block `t` is row `256 t + r` of the array. -/
abbrev at_ (t : Fin cfg0.N) (r : Fin 256) : Fin 2048 := ⟨256 * t.val + r.val, by have := lt8 t; omega⟩

/-- A block whose first index is `t` and second `0` puts its entry `(r, l)` at row `256 t + r`. -/
theorem entry_at {t : Fin cfg0.N} {r : Fin 256} {l : Fin 1024} {j : S2048x1024.Idx} {k : Fin 2 → Nat} (h : k 0 = t.val ∧ k 1 = 0)
    (h0 : (j 0 : Nat) = k 0 * 256 + 1 * r.val) (h1 : (j 1 : Nat) = k 1 * 1024 + 1 * l.val) : j = ix2 (at_ t r) l :=
  funext fun a => Fin.ext <| match a with
    | ⟨0, _⟩ => h0.trans (by show _ = 256 * t.val + r.val; rw [h.1]; omega)
    | ⟨1, _⟩ => h1.trans (by show _ = l.val; rw [h.2]; omega)

theorem iblk0 (t : Fin cfg0.N) (r : Fin 256) (l : Fin 1024) : iblk m c 0 t (ix2 r l) = O m c (ix2 (at_ t r) l) := by
  unfold iblk
  rw [View.read_apply]
  show V m c main_arg0 _ = _
  unfold V
  exact congrArg (m (c.tc.loc main_arg0)) (entry_at (idx0 t) rfl rfl)
theorem iblk2 (t : Fin cfg0.N) (r : Fin 256) (l : Fin 1024) : iblk m c 2 t (ix2 r l) = W m c (ix2 (at_ t r) l) := by
  unfold iblk
  rw [View.read_apply]
  show V m c main_arg2 _ = _
  unfold V
  exact congrArg (m (c.tc.loc main_arg2)) (entry_at (idx2 t) rfl rfl)
theorem iblk3 (t : Fin cfg0.N) (r : Fin 256) (l : Fin 1024) : iblk m c 3 t (ix2 r l) = M m c (ix2 (at_ t r) l) := by
  unfold iblk
  rw [View.read_apply]
  show V m c main_arg3 _ = _
  unfold V
  exact congrArg (m (c.tc.loc main_arg3)) (entry_at (idx3 t) rfl rfl)
theorem iblk4 (t : Fin cfg0.N) (r : Fin 256) (l : Fin 1024) : iblk m c 4 t (ix2 r l) = V2 m c (ix2 (at_ t r) l) := by
  unfold iblk
  rw [View.read_apply]
  show V m c main_arg4 _ = _
  unfold V
  exact congrArg (m (c.tc.loc main_arg4)) (entry_at (idx4 t) rfl rfl)
theorem iblk1 (t : Fin cfg0.N) (q : Fin 3) (r : Fin 256) (l : Fin 1024) : iblk m c 1 t (ix3 q r l) = Q m c (ix3 q (at_ t r) l) := by
  unfold iblk
  rw [View.read_apply]
  show V m c main_arg1 _ = _
  unfold V
  refine congrArg (m (c.tc.loc main_arg1)) (funext fun a => Fin.ext ?_)
  match a with
  | ⟨0, _⟩ => show win0_1.index t 0 * 3 + 1 * q.val = q.val; rw [(idx1 t).1]; omega
  | ⟨1, _⟩ => show win0_1.index t 1 * 256 + 1 * r.val = 256 * t.val + r.val; rw [(idx1 t).2.1]; omega
  | ⟨2, _⟩ => show win0_1.index t 2 * 1024 + 1 * l.val = l.val; rw [(idx1 t).2.2]; omega

section Block

variable (x0 x2 x3 x4 : Vec Ideal S256x1024 .f32) (x1 : Vec Ideal S3x256x1024 .bf16)

theorem zeros : (![0, 0] : Fin 2 → Nat) = fun _ => 0 := funext fun a => by fin_cases a <;> rfl

theorem slab0 (r : Fin 256) (l : Fin 1024) : View.ld x1 r0_1 (ix3 0 r l) = x1 (ix3 0 r l) := by
  refine congrArg x1 (funext fun a => Fin.ext ?_)
  match a with
  | ⟨0, _⟩ => rfl
  | ⟨1, _⟩ => show 0 + 1 * r.val = r.val; omega
  | ⟨2, _⟩ => show 0 + 1 * l.val = l.val; omega
theorem slab1 (r : Fin 256) (l : Fin 1024) : View.ld x1 r0_2 (ix3 0 r l) = x1 (ix3 1 r l) := by
  refine congrArg x1 (funext fun a => Fin.ext ?_)
  match a with
  | ⟨0, _⟩ => rfl
  | ⟨1, _⟩ => show 0 + 1 * r.val = r.val; omega
  | ⟨2, _⟩ => show 0 + 1 * l.val = l.val; omega
theorem slab2 (r : Fin 256) (l : Fin 1024) : View.ld x1 r0_3 (ix3 0 r l) = x1 (ix3 2 r l) := by
  refine congrArg x1 (funext fun a => Fin.ext ?_)
  match a with
  | ⟨0, _⟩ => rfl
  | ⟨1, _⟩ => show 0 + 1 * r.val = r.val; omega
  | ⟨2, _⟩ => show 0 + 1 * l.val = l.val; omega

/-- The gradient of one entry: the device's own part and the three received ones, added in turn. -/
theorem sum_at (r : Fin 256) (l : Fin 1024) :
    k0_pay2 x0 (View.ld x1 r0_1) (View.ld x1 r0_2) (View.ld x1 r0_3) (ix2 r l) = total (x0 (ix2 r l)) fun q => x1 (ix3 q r l) := by
  rw [pay2_apply, slab0, slab1, slab2]
  show _ = x0 (ix2 r l) + ∑ q : Fin 3, x1 (ix3 q r l)
  rw [Fin.sum_univ_three, ← add_assoc, ← add_assoc]

theorem out5_at (r : Fin 256) (l : Fin 1024) : out0_5 x0 x1 x2 x3 x4 (ix2 r l) = total (x0 (ix2 r l)) fun q => x1 (ix3 q r l) := by
  unfold out0_5
  rw [View.canon_unit_zero (S := S256x1024) zeros, View.ld_unit_zero (S := S256x1024) zeros]
  exact sum_at x0 x1 r l
theorem out6_at (r : Fin 256) (l : Fin 1024) : out0_6 x0 x1 x2 x3 x4 (ix2 r l) =
    step (x2 (ix2 r l)) (first (total (x0 (ix2 r l)) fun q => x1 (ix3 q r l)) (x3 (ix2 r l)))
      (second (total (x0 (ix2 r l)) fun q => x1 (ix3 q r l)) (x4 (ix2 r l))) := by
  unfold out0_6
  rw [View.canon_unit_zero (S := S256x1024) zeros]
  simp only [View.ld_unit_zero (S := S256x1024) zeros]
  refine (pay1_apply x0 x2 x3 x4 _ _ _ r l).trans ?_
  rw [pay3_apply, pay4_apply, sum_at]
theorem out7_at (r : Fin 256) (l : Fin 1024) : out0_7 x0 x1 x2 x3 x4 (ix2 r l) =
    first (total (x0 (ix2 r l)) fun q => x1 (ix3 q r l)) (x3 (ix2 r l)) := by
  unfold out0_7
  rw [View.canon_unit_zero (S := S256x1024) zeros]
  simp only [View.ld_unit_zero (S := S256x1024) zeros]
  refine (pay3_apply x0 x3 _ _ _ r l).trans ?_
  rw [sum_at]
theorem out8_at (r : Fin 256) (l : Fin 1024) : out0_8 x0 x1 x2 x3 x4 (ix2 r l) =
    second (total (x0 (ix2 r l)) fun q => x1 (ix3 q r l)) (x4 (ix2 r l)) := by
  unfold out0_8
  rw [View.canon_unit_zero (S := S256x1024) zeros]
  simp only [View.ld_unit_zero (S := S256x1024) zeros]
  refine (pay4_apply x0 x4 _ _ _ r l).trans ?_
  rw [sum_at]

end Block

/-- The grid point whose block holds an entry. -/
def point (i : S2048x1024.Idx) : Fin cfg0.N :=
  ⟨(i 0 : Nat) / 256, lt_of_lt_of_eq (by have h0 : (i 0 : Nat) < 2048 := (i 0).isLt; omega) N_0.symm⟩

theorem in_block (i : S2048x1024.Idx) {k : Fin 2 → Nat} (h : k 0 = (point i).val ∧ k 1 = 0) (a : Fin 2) :
    k a * S256x1024.size a ≤ (i a : Nat) ∧ (i a : Nat) < k a * S256x1024.size a + S256x1024.size a := by
  have h0 : (i 0 : Nat) < 2048 := (i 0).isLt
  have h1 : (i 1 : Nat) < 1024 := (i 1).isLt
  match a with
  | ⟨0, _⟩ =>
    show k 0 * 256 ≤ (i 0 : Nat) ∧ (i 0 : Nat) < k 0 * 256 + 256
    rw [h.1]; show (i 0 : Nat) / 256 * 256 ≤ _ ∧ _ < (i 0 : Nat) / 256 * 256 + 256; omega
  | ⟨1, _⟩ =>
    show k 1 * 1024 ≤ (i 1 : Nat) ∧ (i 1 : Nat) < k 1 * 1024 + 1024
    rw [h.2]; omega

/-- What point `t` writes back to result 0 is block `t` of the reference's array. -/
theorem wrote5 (t : Fin cfg0.N) : (dats m 0 c).flushed 5 t = ((cfg0.win 5).blk t).view.read (Elt Ideal) (val_main_v2 (O m c) (Q m c)) := by
  rw [flushed5 m c t]
  funext y
  rw [View.read_apply]
  obtain ⟨r, l, rfl⟩ := eq_pair (n := 256) (m := 1024) y
  refine (show _ = out0_5 (iblk m c 0 t) (iblk m c 1 t) (iblk m c 2 t) (iblk m c 3 t) (iblk m c 4 t) (ix2 r l) from rfl).trans ?_
  rw [entry_at (j := ((cfg0.win 5).blk t).view.emb (ix2 r l)) (r := r) (l := l) (idx5 t) rfl rfl]
  rw [out5_at, v2_apply]
  simp only [iblk0, iblk1, iblk2, iblk3, iblk4]
  exact (cast_eq _ _).symm

/-- Result 0 after the run. -/
theorem final5 : (dats m 0 c).arrAt 5 cfg0.N = val_main_v2 (O m c) (Q m c) :=
  (dats m 0 c).arrAt_eq_of_cover 5 (val_main_v2 (O m c) (Q m c)) (fun t _ => wrote5 m c t) fun i => by
    refine ⟨point i, flush0_5 _, ?_⟩
    show i ∈ ((View.whole main_v0_0).slice (win0_5.rect (point i))).set
    rw [View.set_slice_whole, Rect.mem_set_unit]
    exact in_block i (idx5 _)

/-- What point `t` writes back to result 1 is block `t` of the reference's array. -/
theorem wrote6 (t : Fin cfg0.N) : (dats m 0 c).flushed 6 t = ((cfg0.win 6).blk t).view.read (Elt Ideal) (val_main_v26 (O m c) (Q m c) (W m c) (M m c) (V2 m c)) := by
  rw [flushed6 m c t]
  funext y
  rw [View.read_apply]
  obtain ⟨r, l, rfl⟩ := eq_pair (n := 256) (m := 1024) y
  refine (show _ = out0_6 (iblk m c 0 t) (iblk m c 1 t) (iblk m c 2 t) (iblk m c 3 t) (iblk m c 4 t) (ix2 r l) from rfl).trans ?_
  rw [entry_at (j := ((cfg0.win 6).blk t).view.emb (ix2 r l)) (r := r) (l := l) (idx6 t) rfl rfl]
  rw [out6_at, v26_apply, v7_apply, v13_apply, v2_apply]
  simp only [iblk0, iblk1, iblk2, iblk3, iblk4]
  exact (cast_eq _ _).symm

/-- Result 1 after the run. -/
theorem final6 : (dats m 0 c).arrAt 6 cfg0.N = val_main_v26 (O m c) (Q m c) (W m c) (M m c) (V2 m c) :=
  (dats m 0 c).arrAt_eq_of_cover 6 (val_main_v26 (O m c) (Q m c) (W m c) (M m c) (V2 m c)) (fun t _ => wrote6 m c t) fun i => by
    refine ⟨point i, flush0_6 _, ?_⟩
    show i ∈ ((View.whole main_v0_1).slice (win0_6.rect (point i))).set
    rw [View.set_slice_whole, Rect.mem_set_unit]
    exact in_block i (idx6 _)

/-- What point `t` writes back to result 2 is block `t` of the reference's array. -/
theorem wrote7 (t : Fin cfg0.N) : (dats m 0 c).flushed 7 t = ((cfg0.win 7).blk t).view.read (Elt Ideal) (val_main_v7 (O m c) (Q m c) (M m c)) := by
  rw [flushed7 m c t]
  funext y
  rw [View.read_apply]
  obtain ⟨r, l, rfl⟩ := eq_pair (n := 256) (m := 1024) y
  refine (show _ = out0_7 (iblk m c 0 t) (iblk m c 1 t) (iblk m c 2 t) (iblk m c 3 t) (iblk m c 4 t) (ix2 r l) from rfl).trans ?_
  rw [entry_at (j := ((cfg0.win 7).blk t).view.emb (ix2 r l)) (r := r) (l := l) (idx7 t) rfl rfl]
  rw [out7_at, v7_apply, v2_apply]
  simp only [iblk0, iblk1, iblk2, iblk3, iblk4]
  exact (cast_eq _ _).symm

/-- Result 2 after the run. -/
theorem final7 : (dats m 0 c).arrAt 7 cfg0.N = val_main_v7 (O m c) (Q m c) (M m c) :=
  (dats m 0 c).arrAt_eq_of_cover 7 (val_main_v7 (O m c) (Q m c) (M m c)) (fun t _ => wrote7 m c t) fun i => by
    refine ⟨point i, flush0_7 _, ?_⟩
    show i ∈ ((View.whole main_v0_2).slice (win0_7.rect (point i))).set
    rw [View.set_slice_whole, Rect.mem_set_unit]
    exact in_block i (idx7 _)

/-- What point `t` writes back to result 3 is block `t` of the reference's array. -/
theorem wrote8 (t : Fin cfg0.N) : (dats m 0 c).flushed 8 t = ((cfg0.win 8).blk t).view.read (Elt Ideal) (val_main_v13 (O m c) (Q m c) (V2 m c)) := by
  rw [flushed8 m c t]
  funext y
  rw [View.read_apply]
  obtain ⟨r, l, rfl⟩ := eq_pair (n := 256) (m := 1024) y
  refine (show _ = out0_8 (iblk m c 0 t) (iblk m c 1 t) (iblk m c 2 t) (iblk m c 3 t) (iblk m c 4 t) (ix2 r l) from rfl).trans ?_
  rw [entry_at (j := ((cfg0.win 8).blk t).view.emb (ix2 r l)) (r := r) (l := l) (idx8 t) rfl rfl]
  rw [out8_at, v13_apply, v2_apply]
  simp only [iblk0, iblk1, iblk2, iblk3, iblk4]
  exact (cast_eq _ _).symm

/-- Result 3 after the run. -/
theorem final8 : (dats m 0 c).arrAt 8 cfg0.N = val_main_v13 (O m c) (Q m c) (V2 m c) :=
  (dats m 0 c).arrAt_eq_of_cover 8 (val_main_v13 (O m c) (Q m c) (V2 m c)) (fun t _ => wrote8 m c t) fun i => by
    refine ⟨point i, flush0_8 _, ?_⟩
    show i ∈ ((View.whole main_v0_3).slice (win0_8.rect (point i))).set
    rw [View.set_slice_whole, Rect.mem_set_unit]
    exact in_block i (idx8 _)

/-! ## The claims -/

/-- The kernel ends with its arguments unchanged and its counters at zero. -/
theorem frame_kernel : Cert.quiescent_Kernel3 := fun m ρ _ => Cert.Kernel3.Gen.frame m ρ

/-- So does its reading in exact arithmetic. -/
theorem frame_ideal : Cert.quiescent_Kernel3Ideal := fun m ρ _ => Cert.Kernel3Ideal.Gen.frame m ρ

/-- So does the reference, which has no counters. -/
theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- In exact arithmetic the kernel's four results are the reference's, for all arrays. -/
theorem algebraic : Cert.algebraic_Kernel3Ideal_Reference3Ideal := by
  intro m ρ m' ρ' _ hagree
  refine ⟨fun c => val_main_v2 (O m c) (Q m c), fun c => val_main_v26 (O m c) (Q m c) (W m c) (M m c) (V2 m c),
    fun c => val_main_v7 (O m c) (Q m c) (M m c), fun c => val_main_v13 (O m c) (Q m c) (V2 m c), ?_, ?_⟩
  · refine (θ_run Cert.Kernel3Ideal.defs _ _).mono (fun r h c => ?_) (Cert.Kernel3Ideal.Value.run_blocks (F := Ideal) m ρ)
    obtain ⟨h0, h1, h2, h3, hargs⟩ := h c
    exact ⟨h0.trans (final5 m c), h1.trans (final6 m c), h2.trans (final7 m c), h3.trans (final8 m c), hargs⟩
  · refine (θ_run Cert.Reference3Ideal.defs _ _).mono (fun r h c => ?_) (Cert.Reference3Ideal.Value.run (F := Ideal) m' ρ')
    obtain ⟨h0, h1, h2, h3, hargs⟩ := h c
    obtain ⟨e0, e1, e2, e3, e4⟩ := hagree c
    refine ⟨h0.trans ?_, h1.trans ?_, h2.trans ?_, h3.trans ?_, hargs⟩
    · rw [e0, e1]; rfl
    · rw [Cert.Reference3Ideal.Read.val_main_v26_eq, e0, e1, e2, e3, e4]
    · rw [Cert.Reference3Ideal.Read.val_main_v7_eq, e0, e1, e3]
    · rw [Cert.Reference3Ideal.Read.val_main_v13_eq, e0, e1, e4]

end Cert.Opt.InArrays

end
-- ==== Proof.Opt.Out.lean ====
module

public import proofs.«01_k».proof.Defs
public import proofs.«01_k».proof.Proof.Block
public import proofs.«01_k».proof.Proof.Opt.Step
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init

/-! # The optimiser's step on the output projection's weight, one block, and the claims -/

@[expose] public noncomputable section

namespace Cert.Opt.Out

open Cert.Kernel4Ideal Cert.Kernel4Ideal.Gen Cert.Kernel4Ideal.Value Idealize.ShloMosaic Idealize.ShloMosaic.TcCoe Idealize.SL.Sem
open Cert.KernelIdeal.Block (eq_pair)
open Cert.Reference4Ideal.Read

section Entry

variable (o w m v : Vec Ideal S256x2048 .f32) (q : Vec Ideal S3x256x2048 .bf16)

theorem slab0 (r : Fin 256) (l : Fin 2048) : View.ld q r0_1 (ix3 0 r l) = q (ix3 0 r l) := by
  refine congrArg q (funext fun a => Fin.ext ?_)
  match a with
  | ⟨0, _⟩ => rfl
  | ⟨1, _⟩ => show 0 + 1 * r.val = r.val; omega
  | ⟨2, _⟩ => show 0 + 1 * l.val = l.val; omega
theorem slab1 (r : Fin 256) (l : Fin 2048) : View.ld q r0_2 (ix3 0 r l) = q (ix3 1 r l) := by
  refine congrArg q (funext fun a => Fin.ext ?_)
  match a with
  | ⟨0, _⟩ => rfl
  | ⟨1, _⟩ => show 0 + 1 * r.val = r.val; omega
  | ⟨2, _⟩ => show 0 + 1 * l.val = l.val; omega
theorem slab2 (r : Fin 256) (l : Fin 2048) : View.ld q r0_3 (ix3 0 r l) = q (ix3 2 r l) := by
  refine congrArg q (funext fun a => Fin.ext ?_)
  match a with
  | ⟨0, _⟩ => rfl
  | ⟨1, _⟩ => show 0 + 1 * r.val = r.val; omega
  | ⟨2, _⟩ => show 0 + 1 * l.val = l.val; omega

/-- The gradient: the device's own part and the three received ones, added in turn. -/
theorem grad_eq : G5 o q w m v = val_main_v2 o q := by
  funext y
  obtain ⟨r, l, rfl⟩ := eq_pair (n := 256) (m := 2048) y
  have hk : G5 o q w m v (ix2 r l)
      = o (ix2 r l) + View.ld q r0_1 (ix3 0 r l) + View.ld q r0_2 (ix3 0 r l) + View.ld q r0_3 (ix3 0 r l) := by
    show k0_pay2 o _ _ _ (ix2 r l) = _
    unfold k0_pay2
    pointwise
  have hr : val_main_v2 o q (ix2 r l) = o (ix2 r l) + ∑ k : Fin 3, q (ix3 k r l) := by
    unfold val_main_v2 val_main_v1 val_main_v0 val_main_cst
    pointwise
  rw [hk, hr, slab0, slab1, slab2, Fin.sum_univ_three, ← add_assoc, ← add_assoc]

/-- The first moment. -/
theorem first_eq : G7 o q w m v = val_main_v7 o q m := by
  funext y
  obtain ⟨r, l, rfl⟩ := eq_pair (n := 256) (m := 2048) y
  have hk : G7 o q w m v (ix2 r l) = first (G5 o q w m v (ix2 r l)) (m (ix2 r l)) := by
    show k0_pay3 o _ _ _ m (ix2 r l) = first (k0_pay2 o _ _ _ (ix2 r l)) _
    unfold k0_pay3
    pointwise
    rfl
  have hr : val_main_v7 o q m (ix2 r l) = first (val_main_v2 o q (ix2 r l)) (m (ix2 r l)) := by
    unfold val_main_v7 val_main_v6 val_main_v5 val_main_v4 val_main_v3 val_main_cst_0 val_main_cst_1
    pointwise
    rfl
  rw [hk, hr, grad_eq]

/-- The second moment. -/
theorem second_eq : G8 o q w m v = val_main_v13 o q v := by
  funext y
  obtain ⟨r, l, rfl⟩ := eq_pair (n := 256) (m := 2048) y
  have hk : G8 o q w m v (ix2 r l) = second (G5 o q w m v (ix2 r l)) (v (ix2 r l)) := by
    show k0_pay4 o _ _ _ v (ix2 r l) = second (k0_pay2 o _ _ _ (ix2 r l)) _
    unfold k0_pay4
    pointwise
    rfl
  have hr : val_main_v13 o q v (ix2 r l) = second (val_main_v2 o q (ix2 r l)) (v (ix2 r l)) := by
    unfold val_main_v13 val_main_v12 val_main_v11 val_main_v10 val_main_v9 val_main_v8 val_main_cst_2 val_main_cst_3
    pointwise
    rfl
  rw [hk, hr, grad_eq]

/-- The step. -/
theorem step_eq : G6 o q w m v = val_main_v26 o q w m v := by
  funext y
  obtain ⟨r, l, rfl⟩ := eq_pair (n := 256) (m := 2048) y
  have hk : G6 o q w m v (ix2 r l) = step (w (ix2 r l)) (G7 o q w m v (ix2 r l)) (G8 o q w m v (ix2 r l)) := by
    show k0_pay1 w (k0_pay5 o _ _ _ m) (k0_pay6 o _ _ _ v) (ix2 r l) = step _ (k0_pay3 o _ _ _ m (ix2 r l)) (k0_pay4 o _ _ _ v (ix2 r l))
    unfold k0_pay1 k0_pay5 k0_pay6
    pointwise
    rfl
  have hr : val_main_v26 o q w m v (ix2 r l)
      = step (w (ix2 r l)) (val_main_v7 o q m (ix2 r l)) (val_main_v13 o q v (ix2 r l)) := by
    unfold val_main_v26 val_main_v25 val_main_v24 val_main_v23 val_main_v22 val_main_v21 val_main_v20 val_main_v19 val_main_v18 val_main_v17 val_main_v16 val_main_v15 val_main_v14 val_main_cst_4 val_main_cst_5 val_main_cst_6 val_main_cst_7 val_main_cst_8
    pointwise
    rfl
  rw [hk, hr, first_eq, second_eq]

end Entry

/-! ## The claims -/

/-- The kernel ends with its arguments unchanged and its counters at zero. -/
theorem frame_kernel : Cert.quiescent_Kernel4 := fun m ρ _ => Cert.Kernel4.Gen.frame m ρ

/-- So does its reading in exact arithmetic. -/
theorem frame_ideal : Cert.quiescent_Kernel4Ideal := fun m ρ _ => Cert.Kernel4Ideal.Gen.frame m ρ

/-- So does the reference, which has no counters. -/
theorem frame_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- In exact arithmetic the kernel's four results are the reference's, for all arrays. -/
theorem algebraic : Cert.algebraic_Kernel4Ideal_Reference4Ideal := by
  intro m ρ m' ρ' _ hagree
  refine ⟨fun c => val_main_v2 (m (c.tc.loc main_arg0)) (m (c.tc.loc main_arg1)),
    fun c => val_main_v26 (m (c.tc.loc main_arg0)) (m (c.tc.loc main_arg1)) (m (c.tc.loc main_arg2)) (m (c.tc.loc main_arg3)) (m (c.tc.loc main_arg4)),
    fun c => val_main_v7 (m (c.tc.loc main_arg0)) (m (c.tc.loc main_arg1)) (m (c.tc.loc main_arg3)),
    fun c => val_main_v13 (m (c.tc.loc main_arg0)) (m (c.tc.loc main_arg1)) (m (c.tc.loc main_arg4)), ?_, ?_⟩
  · refine (θ_run Cert.Kernel4Ideal.defs _ _).mono (fun r h c => ?_) (Cert.Kernel4Ideal.Value.run (F := Ideal) m ρ)
    obtain ⟨h0, h1, h2, h3, hargs⟩ := h c
    exact ⟨h0.trans (grad_eq _ _ _ _ _), h1.trans (step_eq _ _ _ _ _), h2.trans (first_eq _ _ _ _ _), h3.trans (second_eq _ _ _ _ _), hargs⟩
  · refine (θ_run Cert.Reference4Ideal.defs _ _).mono (fun r h c => ?_) (Cert.Reference4Ideal.Value.run (F := Ideal) m' ρ')
    obtain ⟨h0, h1, h2, h3, hargs⟩ := h c
    obtain ⟨e0, e1, e2, e3, e4⟩ := hagree c
    refine ⟨h0.trans ?_, h1.trans ?_, h2.trans ?_, h3.trans ?_, hargs⟩
    · rw [e0, e1]; rfl
    · rw [Cert.Reference4Ideal.Read.val_main_v26_eq, e0, e1, e2, e3, e4]
    · rw [Cert.Reference4Ideal.Read.val_main_v7_eq, e0, e1, e3]
    · rw [Cert.Reference4Ideal.Read.val_main_v13_eq, e0, e1, e4]

end Cert.Opt.Out

end
-- ==== Proof.Scatter.Setup.lean ====
module

public import proofs.«01_k».proof.Defs
public import proofs.«01_k».proof.Proof.Gen.Kernel5Ideal.Launch
public import proofs.«01_k».proof.Proof.Gen.Kernel5Ideal.Skeleton
public import Idealize.ShloMosaic.Lib.Pipeline.KitQuiescent
public import Idealize.ShloMosaic.Lib.Pipeline.Frame
public import Idealize.ShloMosaic.Lib.Rounds
public import Idealize.ShloMosaic.Lib.Transfers
public import Idealize.ShloMosaic.Lib.VecWindow
public import Idealize.ShloMosaic.Lib.Tactic

/-!
# The weight gradient's exchange: the seven transfers

A device sends seven messages: four to the device that shares its chip (its partial gradients of the
blocks with an even place in its order), and three to other chips (the sums of two devices' partial
gradients). This module names, for each of the seven, the device it goes to, the staging slot it leaves
from, the slice it lands in, and its two semaphores.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

/-- The exchange's part of the resources: rounds on semaphores, one duty in each. -/
abbrev UX (nD : Nat) (τ : Topo) : Type := URounds (GSem nD τ sig) Unit
/-- The resources: the pipeline's, the exchange's, and the counters that local copies are tracked by. -/
abbrev UU (nD : Nat) (τ : Topo) : Type := UR sig nD τ × (UX nD τ × Counters)
local notation "𝕄" => MT nD τ sig Unit (Elt F) ℕ (UU nD τ) ℕ

/-- The pipeline's part of the resources. -/
abbrev EP : Emb (UR sig nD τ) (MT nD τ sig Unit (Elt F) ℕ (UU nD τ) ℕ) := embL
/-- The exchange's part. -/
def EX : Emb (UX nD τ) (MT nD τ sig Unit (Elt F) ℕ (UU nD τ) ℕ) :=
  ((Emb.inl : Emb (UX nD τ) (UX nD τ × Counters)).trans (Emb.inr : Emb (UX nD τ × Counters) (UU nD τ))).trans
    (uEmb (nD := nD) (sig := sig) (Ix := Unit) (Val := Elt F) (Name := ℕ) (U := UU nD τ) (Lvl := ℕ)).toEmb
instance EX_landsIn : (EX : Emb (UX nD τ) 𝕄).LandsIn (upEmb : UEmb _ 𝕄) := by unfold EX; infer_instance

/-! ### The devices -/

/-- The device that message `j` goes to; it also sends its own message `j` back to this one. -/
def mate (j : Fin 7) (c : Dev nD) : Dev nD :=
  ⟨c.val ^^^ (![1, 1, 1, 1, 6, 4, 2] j), Nat.xor_lt_two_pow (n := 3) c.isLt (by fin_cases j <;> decide)⟩
theorem mate_mate (j : Fin 7) (c : Dev nD) : mate j (mate j c) = c := by revert j c; decide
/-- Message `j`'s exchange of devices. -/
def mateEquiv (j : Fin 7) : Dev nD ≃ Dev nD := ⟨mate j, mate j, mate_mate j, mate_mate j⟩

/-! ### The buffers -/

abbrev ownM : Memref sig .tc .hbm S2048x1024 .f32 := Memref.whole main_v1_0
abbrev raM : Memref sig .tc .hbm S4x2048x1024 .bf16 := Memref.whole main_v1_1
abbrev rbM : Memref sig .tc .hbm S3x2048x1024 .bf16 := Memref.whole main_v1_2
abbrev accM : Memref sig .tc .vmem S2048x1024 .f32 := Memref.whole cc0_scratch0
abbrev stM : Memref sig .tc .vmem S2x2048x1024 .bf16 := Memref.whole cc0_scratch1
abbrev tmpM : Memref sig .tc .vmem S2048x1024 .bf16 := Memref.whole cc0_scratch2

/-- The rectangle of staging slot `s`. -/
abbrev slotR : Fin 2 → Rect S2x2048x1024
  | 0 => Rect.unit (s := S2x2048x1024) ![0, 0, 0] S1x2048x1024.size inb_S2x2048x1024_S1x2048x1024_0_0_0
  | 1 => Rect.unit (s := S2x2048x1024) ![1, 0, 0] S1x2048x1024.size inb_S2x2048x1024_S1x2048x1024_1_0_0
/-- Staging slot 0 and staging slot 1. -/
abbrev slot0 : Memref sig .tc .vmem S2048x1024 .bf16 :=
  (stM.slice (Rect.unit (s := S2x2048x1024) ![0, 0, 0] S1x2048x1024.size inb_S2x2048x1024_S1x2048x1024_0_0_0) (fun _ => rfl)).squeeze S2048x1024 squeezes_S1x2048x1024_S2048x1024
abbrev slot1 : Memref sig .tc .vmem S2048x1024 .bf16 :=
  (stM.slice (Rect.unit (s := S2x2048x1024) ![1, 0, 0] S1x2048x1024.size inb_S2x2048x1024_S1x2048x1024_1_0_0) (fun _ => rfl)).squeeze S2048x1024 squeezes_S1x2048x1024_S2048x1024

/-- The slot message `j` leaves from. -/
def src : Fin 7 → Memref sig .tc .vmem S2048x1024 .bf16
  | 0 => slot0 | 1 => slot0 | 2 => slot0 | 3 => slot0 | 4 => slot1 | 5 => slot1 | 6 => slot1

/-- The slice message `j` lands in, on the device it goes to. -/
def dst : Fin 7 → Memref sig .tc .hbm S2048x1024 .bf16
  | 0 => (raM.slice (Rect.unit (s := S4x2048x1024) ![0, 0, 0] S1x2048x1024.size inb_S4x2048x1024_S1x2048x1024_0_0_0) (fun _ => rfl)).squeeze S2048x1024 squeezes_S1x2048x1024_S2048x1024
  | 1 => (raM.slice (Rect.unit (s := S4x2048x1024) ![1, 0, 0] S1x2048x1024.size inb_S4x2048x1024_S1x2048x1024_1_0_0) (fun _ => rfl)).squeeze S2048x1024 squeezes_S1x2048x1024_S2048x1024
  | 2 => (raM.slice (Rect.unit (s := S4x2048x1024) ![2, 0, 0] S1x2048x1024.size inb_S4x2048x1024_S1x2048x1024_2_0_0) (fun _ => rfl)).squeeze S2048x1024 squeezes_S1x2048x1024_S2048x1024
  | 3 => (raM.slice (Rect.unit (s := S4x2048x1024) ![3, 0, 0] S1x2048x1024.size inb_S4x2048x1024_S1x2048x1024_3_0_0) (fun _ => rfl)).squeeze S2048x1024 squeezes_S1x2048x1024_S2048x1024
  | 4 => (rbM.slice (Rect.unit (s := S3x2048x1024) ![0, 0, 0] S1x2048x1024.size inb_S3x2048x1024_S1x2048x1024_0_0_0) (fun _ => rfl)).squeeze S2048x1024 squeezes_S1x2048x1024_S2048x1024
  | 5 => (rbM.slice (Rect.unit (s := S3x2048x1024) ![1, 0, 0] S1x2048x1024.size inb_S3x2048x1024_S1x2048x1024_1_0_0) (fun _ => rfl)).squeeze S2048x1024 squeezes_S1x2048x1024_S2048x1024
  | 6 => (rbM.slice (Rect.unit (s := S3x2048x1024) ![2, 0, 0] S1x2048x1024.size inb_S3x2048x1024_S1x2048x1024_2_0_0) (fun _ => rfl)).squeeze S2048x1024 squeezes_S1x2048x1024_S2048x1024

theorem src_exact : ∀ j, (src j).view.WordExact
  | 0 | 1 | 2 | 3 => ((Memref.isWhole_whole _ : stM.IsWhole).wordExact_slice rfl _ wordsbf16_S2x2048x1024_S1x2048x1024_0_0_0).reshape _ _
  | 4 | 5 | 6 => ((Memref.isWhole_whole _ : stM.IsWhole).wordExact_slice rfl _ wordsbf16_S2x2048x1024_S1x2048x1024_1_0_0).reshape _ _
theorem dst_exact : ∀ j, (dst j).view.WordExact
  | 0 => ((Memref.isWhole_whole _ : raM.IsWhole).wordExact_slice rfl _ wordsbf16_S4x2048x1024_S1x2048x1024_0_0_0).reshape _ _
  | 1 => ((Memref.isWhole_whole _ : raM.IsWhole).wordExact_slice rfl _ wordsbf16_S4x2048x1024_S1x2048x1024_1_0_0).reshape _ _
  | 2 => ((Memref.isWhole_whole _ : raM.IsWhole).wordExact_slice rfl _ wordsbf16_S4x2048x1024_S1x2048x1024_2_0_0).reshape _ _
  | 3 => ((Memref.isWhole_whole _ : raM.IsWhole).wordExact_slice rfl _ wordsbf16_S4x2048x1024_S1x2048x1024_3_0_0).reshape _ _
  | 4 => ((Memref.isWhole_whole _ : rbM.IsWhole).wordExact_slice rfl _ wordsbf16_S3x2048x1024_S1x2048x1024_0_0_0).reshape _ _
  | 5 => ((Memref.isWhole_whole _ : rbM.IsWhole).wordExact_slice rfl _ wordsbf16_S3x2048x1024_S1x2048x1024_1_0_0).reshape _ _
  | 6 => ((Memref.isWhole_whole _ : rbM.IsWhole).wordExact_slice rfl _ wordsbf16_S3x2048x1024_S1x2048x1024_2_0_0).reshape _ _
theorem dst_scratch : ∀ j, (dst j).view.ref.isScScratch = false := by intro j; fin_cases j <;> rfl

/-! ### The semaphores -/

/-- The semaphore that counts message `j`'s departure, -/
def sendQ (j : Fin 7) : DmaSem sig := (![6, 7, 8, 9, 14, 15, 16] : Fin 7 → Fin 21) j
/-- and the one that counts its arrival. -/
def recvQ (j : Fin 7) : DmaSem sig := (![10, 11, 12, 13, 17, 18, 19] : Fin 7 → Fin 21) j
/-- The semaphore of the local copies. -/
abbrev locS : DmaSems sig S_ := cc0_scratch7
abbrev locQ : DmaSem sig := locS.sem

/-- Which semaphore this is: `(false, j)` of message `j`'s departure, `(true, j)` of its arrival. -/
def dec (q : DmaSem sig) : Option (Bool × Fin 7) :=
  (![none, none, none, none, none, none, some (false, 0), some (false, 1), some (false, 2), some (false, 3),
    some (true, 0), some (true, 1), some (true, 2), some (true, 3), some (false, 4), some (false, 5), some (false, 6),
    some (true, 4), some (true, 5), some (true, 6), none] : Fin 21 → Option (Bool × Fin 7)) q
theorem dec_send (j : Fin 7) : dec (sendQ j) = some (false, j) := by revert j; decide
theorem dec_recv (j : Fin 7) : dec (recvQ j) = some (true, j) := by revert j; decide

abbrev sendCell (c : Dev nD) (j : Fin 7) : GSem nD τ sig := (c.tc, SemLoc.dma (sendQ j))
abbrev recvCell (c : Dev nD) (j : Fin 7) : GSem nD τ sig := (c.tc, SemLoc.dma (recvQ j))
abbrev locCell (c : Dev nD) : GSem nD τ sig := (c.tc, SemLoc.dma locQ)

/-- What one message credits a semaphore with. -/
abbrev NX : ℕ := tmpM.view.dmaCredit
theorem NX_pos : 0 < NX := View.dmaCredit_pos _ (by decide)
theorem dst_credit (j : Fin 7) : (dst j).view.dmaCredit = NX := by fin_cases j <;> rfl
theorem src_credit (j : Fin 7) : (src j).view.dmaCredit = NX := by fin_cases j <;> rfl

/-- The semaphores the program names, as the ones above. -/
theorem locQ_eq : locQ = (20 : Fin 21) := by decide

end Cert.Sc

end
-- ==== Proof.Scatter.Cells.lean ====
module

public import proofs.«01_k».proof.Proof.Scatter.Setup

/-!
# The weight gradient's exchange: what the semaphores promise

Each message's two semaphores are used in one round. The departure gives the staging slot back to the
sender; the arrival gives the receiver its slice, holding the message. What a device owes before grid
point `n` is the arrivals of the messages it has not yet sent; levels on the semaphores order the waits.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

/-- What device `c` sends as message `j`. -/
abbrev Sent (F : FTy → Type) : Type := Dev nD → Fin 7 → S2048x1024.Idx → Elt F .bf16

variable (V : Sent F)

/-- The staging slot of message `j`, held at anything. -/
def slotAny (c : Dev nD) (j : Fin 7) : sProp 𝕄 :=
  iprop(∃ f : Buf (Elt F) ((src j).view.loc c.tc), (src j).view.loc c.tc ↦[(src j).view.set]{fullShare} f)
/-- The slice message `j` lands in on device `c`, held at anything, -/
def dstAny (c : Dev nD) (j : Fin 7) : sProp 𝕄 :=
  iprop(∃ f : Buf (Elt F) ((dst j).view.loc c.tc), (dst j).view.loc c.tc ↦[(dst j).view.set]{fullShare} f)
/-- and held with what the device's partner sent in it. -/
def landed (c : Dev nD) (j : Fin 7) : sProp 𝕄 :=
  iprop(∃ f : Buf (Elt F) ((dst j).view.loc c.tc), ⌜(dst j).view.read (Elt F) f = V (mate j c) j⌝
    ∗ ((dst j).view.loc c.tc ↦[(dst j).view.set]{fullShare} f))

instance slotAny_storable (c : Dev nD) (j : Fin 7) : BI.Storable (upEmb : UEmb _ 𝕄) (slotAny (F := F) c j) := by
  unfold slotAny; infer_instance
instance landed_storable (c : Dev nD) (j : Fin 7) : BI.Storable (upEmb : UEmb _ 𝕄) (landed V c j) := by
  unfold landed; infer_instance

/-- What the one duty on a semaphore pays its owner. -/
def pays (c : Dev nD) : Option (Bool × Fin 7) → sProp 𝕄
  | some (false, j) => slotAny c j
  | some (true, j) => landed V c j
  | none => iprop(emp)
instance pays_storable (c : Dev nD) (o : Option (Bool × Fin 7)) : BI.Storable (upEmb : UEmb _ 𝕄) (pays V c o) := by
  match o with
  | some (false, j) => exact slotAny_storable c j
  | some (true, j) => exact landed_storable V c j
  | none => unfold pays; infer_instance

/-- The message a semaphore belongs to. -/
def decG : SemLoc sig → Option (Bool × Fin 7)
  | .dma q => dec q
  | .reg _ => none

/-- One round on each departure and each arrival, of one duty worth a message. -/
def Rd : Rounds.Schedule (GSem nD τ sig) Unit 𝕄 where
  duties g r := if r = 0 ∧ g.1.2 = .tc ∧ (decG g.2).isSome then {()} else ∅
  unitless _ := False
  amount _ _ _ := NX
  payload g _ _ := pays V g.1.1 (decG g.2)
  amount_pos _ _ _ _ := NX_pos

instance Rd_payload_storable (g : GSem nD τ sig) (r : ℕ) (d : Unit) : BI.Storable (upEmb : UEmb _ 𝕄) ((Rd V).payload g r d) :=
  pays_storable V g.1.1 _

section Sched
variable (c : Dev nD) (j : Fin 7)

theorem duties_send : (Rd V).duties (sendCell c j) 0 = {()} := by
  dsimp only [Rd]; exact if_pos ⟨rfl, rfl, by show (dec (sendQ j)).isSome = true; rw [dec_send]; rfl⟩
theorem duties_recv : (Rd V).duties (recvCell c j) 0 = {()} := by
  dsimp only [Rd]; exact if_pos ⟨rfl, rfl, by show (dec (recvQ j)).isSome = true; rw [dec_recv]; rfl⟩
theorem duties_later (g : GSem nD τ sig) : ∀ r, 1 ≤ r → (Rd V).duties g r = ∅ := fun r hr => by
  dsimp only [Rd]; exact if_neg fun h => by omega

theorem expect_send : (Rd V).expect (sendCell c j) 0 = NX := by
  unfold Schedule.expect Schedule.amountOf; rw [duties_send, Finset.sum_singleton]; rfl
theorem expect_recv : (Rd V).expect (recvCell c j) 0 = NX := by
  unfold Schedule.expect Schedule.amountOf; rw [duties_recv, Finset.sum_singleton]; rfl

theorem payload_send (u : Unit) : (Rd V).payload (sendCell c j) 0 u = slotAny c j := by
  show pays V c (dec (sendQ j)) = _; rw [dec_send]; rfl
theorem payload_recv (u : Unit) : (Rd V).payload (recvCell c j) 0 u = landed V c j := by
  show pays V c (dec (recvQ j)) = _; rw [dec_recv]; rfl

theorem rest_send : bigSep ((Rd V).duties (sendCell c j) 0 \ ∅) (fun u => (Rd V).payload (sendCell c j) 0 u) = slotAny c j := by
  rw [Finset.sdiff_empty, duties_send, bigSep_singleton, payload_send]
theorem rest_recv : bigSep ((Rd V).duties (recvCell c j) 0 \ ∅) (fun u => (Rd V).payload (recvCell c j) 0 u) = landed V c j := by
  rw [Finset.sdiff_empty, duties_recv, bigSep_singleton, payload_recv]

end Sched

/-! ### What is owed, and the levels -/

/-- The grid point at which message `j` is sent. -/
def sendAt (j : Fin 7) : ℕ := ![7, 23, 39, 55, 15, 31, 47] j

/-- What device `c` owes before grid point `n`. -/
def owedAt (c : Dev nD) (n : ℕ) : CellTallies nD τ sig Unit :=
  ∑ j ∈ Finset.univ.filter (fun j : Fin 7 => n ≤ sendAt j), tallyAt (recvCell (mate j c) j) () NX

theorem owedAt_send (c : Dev nD) (j : Fin 7) : owedAt c (sendAt j) = owedAt c (sendAt j + 1) + tallyAt (recvCell (mate j c) j) () NX := by
  have h : (Finset.univ.filter fun j' : Fin 7 => sendAt j ≤ sendAt j')
      = insert j (Finset.univ.filter fun j' : Fin 7 => sendAt j + 1 ≤ sendAt j') := by revert j; decide
  unfold owedAt
  rw [h, Finset.sum_insert (by simp), add_comm]
theorem owedAt_quiet (c : Dev nD) (n : ℕ) (h : ∀ j, sendAt j ≠ n) : owedAt c (n + 1) = owedAt c n := by
  unfold owedAt; refine Finset.sum_congr ?_ fun _ _ => rfl
  ext j; simp only [Finset.mem_filter, Finset.mem_univ, true_and]; have := h j; omega
theorem owedAt_end (c : Dev nD) (n : ℕ) (h : 56 ≤ n) : owedAt c n = 0 := by
  unfold owedAt
  rw [Finset.filter_false_of_mem fun j _ => by have : sendAt j ≤ 55 := by revert j; decide
                                               omega]
  exact Finset.sum_empty

/-- Every semaphore of a TensorCore has one level; -/
def L (g : GSem nD τ sig) : Finset Unit := if g.1.2 = .tc then {()} else ∅
/-- an arrival's is by the order of the messages, every other semaphore's is 0. -/
def lvO : Option (Bool × Fin 7) → ℕ
  | some (true, j) => (![1, 2, 3, 4, 10, 10, 10] : Fin 7 → ℕ) j
  | _ => 0
def lv (g : GSem nD τ sig) (_ : Unit) : ℕ := lvO (decG g.2)

theorem L_of_ne (g : GSem nD τ sig) (h : g.1.2 ≠ .tc) : L g = ∅ := if_neg h
theorem L_tc (c : Dev nD) (sm : SemLoc sig) : L (c.tc, sm) = {()} := if_pos rfl
theorem lv_recv (c : Dev nD) (j : Fin 7) (u : Unit) : lv (recvCell c j) u = (![1, 2, 3, 4, 10, 10, 10] : Fin 7 → ℕ) j := by
  show lvO (dec (recvQ j)) = _; rw [dec_recv]; rfl

theorem owedAt_pos {c : Dev nD} {n : ℕ} {g : GSem nD τ sig} {u : Unit} (h : 0 < owedAt c n g u) :
    ∃ j, n ≤ sendAt j ∧ g = recvCell (mate j c) j := by
  unfold owedAt at h
  rw [Finset.sum_apply, Finsupp.finset_sum_apply] at h
  obtain ⟨j, hj, hp⟩ := Finset.exists_ne_zero_of_sum_ne_zero (Nat.pos_iff_ne_zero.mp h)
  refine ⟨j, (Finset.mem_filter.mp hj).2, ?_⟩
  rw [tallyAt_apply] at hp
  by_contra hn
  exact hp (if_neg fun h' => hn h'.1)

/-- A device may wait on a semaphore below all that it owes. -/
theorem mayWait (c : Dev nD) (n : ℕ) (q : DmaSem sig) (h : ∀ j, n ≤ sendAt j → lvO (dec q) < (![1, 2, 3, 4, 10, 10, 10] : Fin 7 → ℕ) j) :
    (levAts L lv : sProp 𝕄) ⊢ MayWait c.tc (.dma q) () (owedAt c n) :=
  MayOwe.of_cut (L := L) (lev := lv) (lvO (dec q)) (fun p hp => by rw [Finset.mem_singleton.mp hp, L_tc]; exact Finset.mem_singleton_self _)
    (fun g u hg => by obtain ⟨j, -, rfl⟩ := owedAt_pos hg; exact Finset.mem_singleton_self _)
    (fun p hp => by rw [Finset.mem_singleton.mp hp]; exact le_refl _)
    (fun g u hg => by obtain ⟨j, hj, rfl⟩ := owedAt_pos hg; rw [lv_recv]; exact h j hj)

/-- A device may wait on any semaphore that is no arrival, whatever it owes; -/
theorem mayWait_low (c : Dev nD) (n : ℕ) (q : DmaSem sig) (h : lvO (dec q) = 0) :
    (levAts L lv : sProp 𝕄) ⊢ MayWait c.tc (.dma q) () (owedAt c n) :=
  mayWait c n q fun j _ => by
    rw [h]; exact (by decide : ∀ j : Fin 7, 0 < (![1, 2, 3, 4, 10, 10, 10] : Fin 7 → ℕ) j) j
/-- on the departure of a message; -/
theorem mayWait_send (c : Dev nD) (n : ℕ) (j : Fin 7) :
    (levAts L lv : sProp 𝕄) ⊢ MayWait c.tc (.dma (sendQ j)) () (owedAt c n) :=
  mayWait_low c n _ (by rw [dec_send]; rfl)
/-- on the end of a local copy; -/
theorem mayWait_loc (c : Dev nD) (n : ℕ) : (levAts L lv : sProp 𝕄) ⊢ MayWait c.tc (.dma locQ) () (owedAt c n) :=
  mayWait_low c n _ (by rw [locQ_eq]; rfl)
/-- and on the arrival of a message once its own is sent. -/
theorem mayWait_recv (c : Dev nD) (n : ℕ) (j : Fin 7) (h : ∀ j', n ≤ sendAt j' → (![1, 2, 3, 4, 10, 10, 10] : Fin 7 → ℕ) j < (![1, 2, 3, 4, 10, 10, 10] : Fin 7 → ℕ) j') :
    (levAts L lv : sProp 𝕄) ⊢ MayWait c.tc (.dma (recvQ j)) () (owedAt c n) :=
  mayWait c n _ fun j' hj' => by rw [dec_recv]; exact h j' hj'

end Cert.Sc

end
-- ==== Proof.Scatter.Step.lean ====
module

public import proofs.«01_k».proof.Proof.Scatter.Cells

/-!
# The weight gradient's exchange: one grid point's program

A grid point first adds its product to the accumulator (`front`), then does what is due there of the
exchange (`rest`): ship a partial gradient to the device on the same chip, fetch what arrived from it, or
add what arrived and send the sum on. This module names these pieces and shows that the kernel's body is
`front` and then `rest`.
-/

@[expose] public noncomputable section

namespace Cert.Sc

open Cert.Kernel5Ideal Cert.Kernel5Ideal.Gen
open Idealize.ShloMosaic Idealize.SL.Sem
open Idealize.ShloMosaic.TcCoe

variable {F : FTy → Type} [FloatOps F]

/-- A program of the kernel's. -/
abbrev Pr (F : FTy → Type) (α : Type) := Prog (TpuEff nD τ sig (Elt F) Λ₀ .tc) α

abbrev tabM : Memref sig .tc .smem S8 .i32 := Memref.whole main_arg0

abbrev accR : Rect S2048x1024 := Rect.unit (s := S2048x1024) ![0, 0] S2048x1024.size inb_S2048x1024_S2048x1024_0_0
abbrev slotR0 : Rect S2x2048x1024 := Rect.unit (s := S2x2048x1024) ![0, 0, 0] S1x2048x1024.size inb_S2x2048x1024_S1x2048x1024_0_0_0
abbrev slotR1 : Rect S2x2048x1024 := Rect.unit (s := S2x2048x1024) ![1, 0, 0] S1x2048x1024.size inb_S2x2048x1024_S1x2048x1024_1_0_0

/-- The accumulator, read. -/
abbrev loadAcc : Pr F (Vec F S2048x1024 .f32) := Prog.lift (.load accM accR.toLoadRect (View.loadsAt_vmem h_S2048x1024))
/-- The accumulator, written. -/
abbrev storeAcc (w : Vec F S2048x1024 .f32) : Pr F PUnit :=
  Prog.lift (.store accM accR w Finset.univ (View.stores_vmem_bits_univ h_S2048x1024 rfl) (.inl rfl))

/-- The accumulator, rounded, into staging slot 0, -/
def stage0 : Pr F PUnit := do
  let v ← loadAcc
  let _ ← Prog.lift (.load stM slotR0.toLoadRect (View.loadsAt_vmem h_S1x2048x1024))
  Prog.lift (.store stM slotR0 (k0_pay12 v) Finset.univ (View.stores_vmem h_S1x2048x1024 ((Memref.isWhole_whole _ : stM.IsWhole).storeExact_slice rfl _ packedbf16_S2x2048x1024_S1x2048x1024_0_0_0) (fun _ => rfl)) (.inl rfl))
/-- and into staging slot 1. -/
def stage1 : Pr F PUnit := do
  let v ← loadAcc
  let _ ← Prog.lift (.load stM slotR1.toLoadRect (View.loadsAt_vmem h_S1x2048x1024))
  Prog.lift (.store stM slotR1 (k0_pay12 v) Finset.univ (View.stores_vmem h_S1x2048x1024 ((Memref.isWhole_whole _ : stM.IsWhole).storeExact_slice rfl _ packedbf16_S2x2048x1024_S1x2048x1024_1_0_0) (fun _ => rfl)) (.inl rfl))

/-- Message `j` sent to device `n`. -/
def send (j : Fin 7) (n : Dev nD) : Pr F PUnit :=
  Prog.lift (.enqueueDma (src j) (.remote (Dev.tc n) (dst j) (.dma (sendQ j)) (dst_scratch j)) (.dma (recvQ j)) (src_exact j) (dst_exact j) ⟨⟨rfl, Or.inl rfl⟩, trivial⟩)
/-- The wait for message `j` to have left. -/
def waitSend (j : Fin 7) : Pr F PUnit := Prog.lift (.waitDma2 (sendQ j) (dst j) (src j) (dst_exact j) (src_exact j))
/-- The wait for the partner's message `j` to have come. -/
def waitRecv (j : Fin 7) : Pr F PUnit := Prog.lift (.waitDma2 (recvQ j) (src j) (dst j) (src_exact j) (dst_exact j))
/-- The copy of what came into the scratch buffer begins, -/
def pull (j : Fin 7) : Pr F PUnit :=
  Prog.lift (.enqueueDma (dst j) (.here tmpM) (.dma locQ) (dst_exact j) (Memref.isWhole_whole _ : tmpM.IsWhole).wordExact ⟨Or.inl rfl, trivial⟩)
/-- and has ended; the accumulator takes what came. -/
def addIn (j : Fin 7) : Pr F PUnit := do
  Prog.lift (.waitDma2 locQ (dst j) tmpM (dst_exact j) (Memref.isWhole_whole _ : tmpM.IsWhole).wordExact)
  let a ← loadAcc
  let b ← Prog.lift (.load tmpM accR.toLoadRect (View.loadsAt_vmem h_S2048x1024))
  let _ ← loadAcc
  storeAcc (k0_pay2 a b)
/-- The device's own sum to the result, and the end of that copy. -/
def keepOwn : Pr F PUnit := do
  Prog.lift (.enqueueDma accM (.here ownM) (.dma locQ) (Memref.isWhole_whole _ : accM.IsWhole).wordExact (Memref.isWhole_whole _ : ownM.IsWhole).wordExact ⟨Or.inl rfl, trivial⟩)
  Prog.lift (.waitDma2 locQ accM ownM (Memref.isWhole_whole _ : accM.IsWhole).wordExact (Memref.isWhole_whole _ : ownM.IsWhole).wordExact)

/-- What the last grid point does: adds the last arrival, writes the result, and waits for every message. -/
def finish : Pr F PUnit := do
  addIn 3; keepOwn; waitSend 3; waitSend 6; waitRecv 4; waitRecv 5; waitRecv 6

/-- The condition of the first step of a block. -/
abbrev condFirst (i : grid0.Coords) : BitVec 1 :=
  Scalar.cmpi .ne (Scalar.extui (Scalar.cmpi .eq (BitVec.ofNat 32 (i 1).val) 0#32) : BitVec 32) 0#32
/-- The condition of the second step of block `k`, -/
abbrev condPull (i : grid0.Coords) (k : BitVec 32) : BitVec 1 :=
  Scalar.cmpi .ne (Scalar.extui (Scalar.andi (Scalar.cmpi .eq (BitVec.ofNat 32 (i 1).val) 1#32) (Scalar.cmpi .eq (BitVec.ofNat 32 (i 0).val) k)) : BitVec 32) 0#32
/-- and of the very last step. -/
abbrev condEnd (i : grid0.Coords) : BitVec 1 :=
  Scalar.cmpi .ne (Scalar.extui (Scalar.andi (Scalar.cmpi .eq (BitVec.ofNat 32 (i 1).val) 7#32) (Scalar.cmpi .eq (BitVec.ofNat 32 (i 0).val) 7#32)) : BitVec 32) 0#32
/-- The block is one of the recurrence's four. -/
abbrev isLow (v : BitVec 32) : BitVec 1 := Scalar.cmpi .ne (Scalar.extui (Scalar.cmpi .slt v 4#32) : BitVec 32) 0#32
/-- The block is one of the attention's four. -/
abbrev isHigh (v : BitVec 32) : BitVec 1 := Scalar.cmpi .ne (Scalar.extui (Scalar.cmpi .sge v 4#32) : BitVec 32) 0#32

/-- The accumulator set to zero at the first step of a block. -/
def zeroAt (i : grid0.Coords) : Pr F PUnit :=
  if condFirst i = 1#1 then do
    let _ ← loadAcc
    storeAcc (k0_pay9 (F := F))
  else pure ⟨⟩
/-- The product with the recurrence's gradient added, if the block is of the recurrence's; -/
def addLow (v : BitVec 32) (a3 : Memref sig .tc .vmem S1x1024x1024 .bf16) (a5 : Memref sig .tc .vmem S1024x2048 .bf16) : Pr F PUnit :=
  if isLow v = 1#1 then do
    let x ← Prog.lift (.load a3 (Rect.unit (s := S1x1024x1024) ![0, 0, 0] S1x1024x1024.size inb_S1x1024x1024_S1x1024x1024_0_0_0).toLoadRect (View.loadsAt_vmem h_S1x1024x1024))
    let a ← loadAcc
    let h ← Prog.lift (.load a5 (Rect.unit (s := S1024x2048) ![0, 0] S1024x2048.size inb_S1024x2048_S1024x2048_0_0).toLoadRect (View.loadsAt_vmem h_S1024x2048))
    let _ ← loadAcc
    storeAcc (k0_pay10 x a h)
  else pure ⟨⟩
/-- with the attention's gradient, if it is of the attention's. -/
def addHigh (v : BitVec 32) (a4 : Memref sig .tc .vmem S1x1024x1024 .bf16) (a5 : Memref sig .tc .vmem S1024x2048 .bf16) : Pr F PUnit :=
  if isHigh v = 1#1 then do
    let x ← Prog.lift (.load a4 (Rect.unit (s := S1x1024x1024) ![0, 0, 0] S1x1024x1024.size inb_S1x1024x1024_S1x1024x1024_0_0_0).toLoadRect (View.loadsAt_vmem h_S1x1024x1024))
    let a ← loadAcc
    let h ← Prog.lift (.load a5 (Rect.unit (s := S1024x2048) ![0, 0] S1024x2048.size inb_S1024x2048_S1024x2048_0_0).toLoadRect (View.loadsAt_vmem h_S1024x2048))
    let _ ← loadAcc
    storeAcc (k0_pay11 x a h)
  else pure ⟨⟩

/-- The product of the point added to the accumulator, which starts a block at zero. -/
def front (i : grid0.Coords) (a3 : Memref sig .tc .vmem S1x1024x1024 .bf16) (a4 : Memref sig .tc .vmem S1x1024x1024 .bf16)
    (a5 : Memref sig .tc .vmem S1024x2048 .bf16) : Pr F (Dev nD) := do
  zeroAt i
  let v : Elt F .i32 ← smemLoad tabM (Rect.unit (s := S8) (k0_off1 i) S1.size (k0_off1_inb i)) numel1_S1 rfl
  addLow v a3 a5
  addHigh v a4 a5
  Prog.lift .deviceId

/-- What is due of the exchange at a grid point, on device `d`. -/
def rest (i : grid0.Coords) (d : Dev nD) : Pr F PUnit := do
  if h : k0_cond4 i = 1#1 then do stage0; send 0 ⟨k0_dev1 d, k0_dev1_lt i d h⟩ else pure ⟨⟩
  if condPull i 1#32 = 1#1 then do waitRecv 0; pull 0 else pure ⟨⟩
  if h : k0_cond6 i = 1#1 then do addIn 0; stage1; send 4 ⟨k0_dev2 d, k0_dev2_lt i d h⟩ else pure ⟨⟩
  if h : k0_cond7 i = 1#1 then do waitSend 0; stage0; send 1 ⟨k0_dev3 d, k0_dev3_lt i d h⟩ else pure ⟨⟩
  if condPull i 3#32 = 1#1 then do waitRecv 1; pull 1 else pure ⟨⟩
  if h : k0_cond9 i = 1#1 then do addIn 1; waitSend 4; stage1; send 5 ⟨k0_dev4 d, k0_dev4_lt i d h⟩ else pure ⟨⟩
  if h : k0_cond10 i = 1#1 then do waitSend 1; stage0; send 2 ⟨k0_dev5 d, k0_dev5_lt i d h⟩ else pure ⟨⟩
  if condPull i 5#32 = 1#1 then do waitRecv 2; pull 2 else pure ⟨⟩
  if h : k0_cond12 i = 1#1 then do addIn 2; waitSend 5; stage1; send 6 ⟨k0_dev6 d, k0_dev6_lt i d h⟩ else pure ⟨⟩
  if h : k0_cond13 i = 1#1 then do waitSend 2; stage0; send 3 ⟨k0_dev7 d, k0_dev7_lt i d h⟩ else pure ⟨⟩
  if condPull i 7#32 = 1#1 then do waitRecv 3; pull 3 else pure ⟨⟩
  if condEnd i = 1#1 then finish else pure ⟨⟩

/-- The kernel's body at a grid point, on any staging buffers. -/
abbrev step (i : grid0.Coords) (a3 : Memref sig .tc .vmem S1x1024x1024 .bf16) (h3 : a3.IsWhole)
    (a4 : Memref sig .tc .vmem S1x1024x1024 .bf16) (h4 : a4.IsWhole) (a5 : Memref sig .tc .vmem S1024x2048 .bf16) (h5 : a5.IsWhole) : Pr F PUnit :=
  cc0_dwin_scatter i tabM (Memref.isWhole_whole _) a3 h3 a4 h4 a5 h5 ownM (Memref.isWhole_whole _) raM (Memref.isWhole_whole _) rbM (Memref.isWhole_whole _)
    accM (Memref.isWhole_whole _) stM (Memref.isWhole_whole _) tmpM (Memref.isWhole_whole _) cc0_scratch3 cc0_scratch4 cc0_scratch5 cc0_scratch6 cc0_scratch7

theorem dite_andThen {α β : Type} {c : Prop} [Decidable c] (A : c → Pr F α) (B : ¬c → Pr F α) (f : α → Pr F β) :
    ((if h : c then A h else B h) >>= f) = if h : c then A h >>= f else B h >>= f := by split <;> rfl
theorem ite_andThen {α β : Type} {c : Prop} [Decidable c] (A B : Pr F α) (f : α → Pr F β) :
    ((if c then A else B) >>= f) = if c then A >>= f else B >>= f := by split <;> rfl

set_option maxRecDepth 65536 in
theorem step_eq (i : grid0.Coords) (a3 : Memref sig .tc .vmem S1x1024x1024 .bf16) (h3 : a3.IsWhole)
    (a4 : Memref sig .tc .vmem S1x1024x1024 .bf16) (h4 : a4.IsWhole) (a5 : Memref sig .tc .vmem S1024x2048 .bf16) (h5 : a5.IsWhole) :
    step (F := F) i a3 h3 a4 h4 a5 h5 = (front i a3 a4 a5 >>= fun d => rest i d) := by
  unfold step
  simp only [cc0_dwin_scatter_eq_skeleton]; unfold cc0_dwin_scatter_skel
  simp only [k0_part6_eq_skeleton, k0_part7_eq_skeleton]; unfold k0_part6_skel k0_part7_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold front zeroAt addLow addHigh rest finish addIn keepOwn stage0 stage1 send waitSend waitRecv pull
  simp only [bind_assoc, pure_bind, dite_andThen, ite_andThen]
  rfl

end Cert.Sc

end
-- ==== Proof.Scatter.State.lean ====
module

public import proofs.«01_k».proof.Proof.Scatter.Step

/-!
# The weight gradient's exchange: what a device holds

Each message is unsent, under way, or gone; each arrival is awaited, being copied into the scratch buffer, or
in hand. A device holds the staging slots and the scratch buffer while nothing is under way from or to them.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

/-- A rounded accumulator, as sent. -/
def flat (a : Vec F S2048x1024 .f32) : S2048x1024.Idx → Elt F .bf16 := truncf .bf16 a bitsLt_bf16_f32

variable (V : Sent F)

/-- Names for the exchange's semaphores. -/
abbrev Names : Type := Dev nD → Bool → Fin 7 → ℕ
variable (K : Names) (c : Dev nD)

/-- What stays known throughout. -/
def known : sProp 𝕄 :=
  iprop(levAts L lv ∗ ∀ j : Fin 7, cellInv EX (Rd V) (K c false j) (sendCell c j) ∗ cellInv EX (Rd V) (K c true j) (recvCell c j)
    ∗ cellInv EX (Rd V) (K (mate j c) true j) (recvCell (mate j c) j) ∗ reached EX (sendCell c j) 0 ∗ reached EX (recvCell (mate j c) j) 0)
instance known_persistent : BI.Persistent (known V K c) := by unfold known; infer_instance

/-- Message `j`, unsent, under way, or gone. -/
def depart (j : Fin 7) : Fin 3 → sProp 𝕄
  | 0 => iprop(dstAny (mate j c) j ∗ dutyTok EX (sendCell c j) 0 () ∗ dutyTok EX (recvCell (mate j c) j) 0 () ∗ atPos EX (sendCell c j) 0 ∅ 0)
  | 1 => iprop(cred (tallyAt (sendCell c j) () NX) ∗ atPos EX (sendCell c j) 0 ∅ 0)
  | 2 => semVal (sendCell c j) 0

/-- The slice of message `j`, at contents `f`. -/
abbrev dstP (j : Fin 7) (f : Buf (Elt F) ((dst j).view.loc (c : Thread nD τ))) : sProp 𝕄 :=
  (dst j).view.loc c.tc ↦[(dst j).view.set]{fullShare} f
/-- The scratch buffer, at contents `g`. -/
abbrev tmpP (g : Buf (Elt F) (tmpM.view.loc (c : Thread nD τ))) : sProp 𝕄 := tmpM.view.loc (c : Thread nD τ) ↦[tmpM.view.set]{fullShare} g

/-- Arrival `j` being copied into the scratch buffer. -/
def pulling (j : Fin 7) : sProp 𝕄 :=
  iprop(∃ f g, ⌜(dst j).view.read (Elt F) f = V (mate j c) j ∧ tmpM.view.read (Elt F) g = V (mate j c) j⌝
    ∗ Transfers.Flight countersEmb c.tc (SemLoc.dma locQ) () NX iprop(tmpP c g ∗ dstP c j f))

/-- Arrival `j`, awaited, being copied into the scratch buffer, or in hand. -/
def arrive (j : Fin 7) : Fin 3 → sProp 𝕄
  | 0 => iprop(cred (tallyAt (recvCell c j) () NX) ∗ atPos EX (recvCell c j) 0 ∅ 0)
  | 1 => iprop(semVal (recvCell c j) 0 ∗ pulling V c j)
  | 2 => iprop(semVal (recvCell c j) 0 ∗ landed V c j)

/-- The staging slots and the scratch buffer. -/
def home : Fin 3 → sProp 𝕄
  | 0 => slotAny c 0
  | 1 => slotAny c 4
  | 2 => iprop((∃ g, tmpP c g) ∗ semVal (locCell c) 0)
/-- One of them, if it is not in use. -/
def room (k : Fin 3) : Bool → sProp 𝕄
  | true => home c k
  | false => iprop(emp)

/-- The exchange's state on device `c`. -/
def inv (D A : Fin 7 → Fin 3) (b : Fin 3 → Bool) : sProp 𝕄 :=
  iprop(bigSep Finset.univ (fun j => depart c j (D j)) ∗ bigSep Finset.univ (fun j => arrive V c j (A j))
    ∗ bigSep Finset.univ (fun k => room (F := F) c k (b k)))

/-- The slot message `j` leaves from. -/
def slotOf (j : Fin 7) : Fin 3 := ![0, 0, 0, 0, 1, 1, 1] j
theorem home_slot (j : Fin 7) : home c (slotOf j) = (slotAny c j : sProp 𝕄) := by fin_cases j <;> rfl

/-- One of several apart from the others, at a changed value. -/
theorem bigSep_update {n : ℕ} {β : Type} (P : Fin n → β → sProp 𝕄) (f : Fin n → β) (j : Fin n) (v : β) :
    bigSep Finset.univ (fun k => P k (Function.update f j v k)) = iprop(P j v ∗ bigSep (Finset.univ.erase j) (fun k => P k (f k))) := by
  rw [BI.bigSep_erase (Finset.mem_univ j), Function.update_self]
  congr 1
  exact BI.bigSep_congr fun k hk => by rw [Function.update_of_ne (Finset.ne_of_mem_erase hk)]
theorem bigSep_at {n : ℕ} {β : Type} (P : Fin n → β → sProp 𝕄) (f : Fin n → β) (j : Fin n) {v : β} (h : f j = v) :
    bigSep Finset.univ (fun k => P k (f k)) = iprop(P j v ∗ bigSep (Finset.univ.erase j) (fun k => P k (f k))) := by
  subst h; exact BI.bigSep_erase (Finset.mem_univ j)

/-! ### When each happens -/

/-- The grid point at which the departure of message `j` is waited for, -/
def goneAt (j : Fin 7) : ℕ := ![23, 39, 55, 63, 31, 47, 63] j
/-- at which the arrival is waited for, -/
def recvAt (j : Fin 7) : ℕ := ![9, 25, 41, 57, 63, 63, 63] j
/-- and after which it is in hand. -/
def addAt (j : Fin 7) : ℕ := ![15, 31, 47, 63, 63, 63, 63] j

/-- The messages before grid point `n`, -/
def dep (n : ℕ) (j : Fin 7) : Fin 3 := if n ≤ sendAt j then 0 else if n ≤ goneAt j then 1 else 2
/-- the arrivals, -/
def arr (n : ℕ) (j : Fin 7) : Fin 3 := if n ≤ recvAt j then 0 else if n ≤ addAt j then 1 else 2
/-- and what is not in use. -/
def free (n : ℕ) : Fin 3 → Bool
  | 0 => n ≤ 7 ∨ 64 ≤ n
  | 1 => n ≤ 15 ∨ 64 ≤ n
  | 2 => ¬ ((10 ≤ n ∧ n ≤ 15) ∨ (26 ≤ n ∧ n ≤ 31) ∨ (42 ≤ n ∧ n ≤ 47) ∨ (58 ≤ n ∧ n ≤ 63))

end Cert.Sc

end
-- ==== Proof.Scatter.Rules.lean ====
module

public import proofs.«01_k».proof.Proof.Scatter.State

/-!
# The weight gradient's exchange: its pieces, run

What each piece of the exchange does to the accumulator and to the state of the messages.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

variable (V : Sent F) (K : Names) (c : Dev nD)

/-- A program run on device `c`. -/
abbrev run {α : Type} (p : Pr F α) (Q : α → sProp 𝕄) : sProp 𝕄 :=
  wp frame (wpE (defs₀ (F := F)) Variants.none c.tc none) Set.univ p Q

/-- Message `j`'s slot, filled with the rounded accumulator `a`. -/
def slotHas (j : Fin 7) (a : Vec F S2048x1024 .f32) : sProp 𝕄 :=
  iprop(∃ f : Buf (Elt F) ((src j).view.loc c.tc), ⌜(src j).view.read (Elt F) f = flat a⌝
    ∗ ((src j).view.loc c.tc ↦[(src j).view.set]{fullShare} f))

theorem unflat (a : Vec F S2048x1024 .f32) (h : S2048x1024.numel = S1x2048x1024.numel) (i : S2048x1024.Idx) :
    k0_pay12 a (Shape.reshapeEquiv h i) = flat a i := by
  unfold k0_pay12 shapeCast flat
  rw [Shape.reshapeEquiv_reshapeEquiv, Shape.reshapeEquiv_self]

/-- A staging slot, as the part of the staging buffer that a load or a store of it touches. -/
theorem slot0_eq (f : Buf (Elt F) (stM.view.loc c.tc)) :
    (((src 0).view.loc c.tc ↦[(src 0).view.set]{fullShare} f : sProp 𝕄)) = (stM.view.loc c.tc ↦[(stM.access slotR0).set]{fullShare} f) := by
  rw [show (src 0).view.set = (stM.access slotR0).set from View.set_reshape _ _]; rfl
theorem slot1_eq (f : Buf (Elt F) (stM.view.loc c.tc)) :
    (((src 4).view.loc c.tc ↦[(src 4).view.set]{fullShare} f : sProp 𝕄)) = (stM.view.loc c.tc ↦[(stM.access slotR1).set]{fullShare} f) := by
  rw [show (src 4).view.set = (stM.access slotR1).set from View.set_reshape _ _]; rfl

theorem slotAny_0 : (slotAny c 0 : sProp 𝕄)
    = iprop(∃ f : Buf (Elt F) (stM.view.loc c.tc), stM.view.loc c.tc ↦[(stM.access slotR0).set]{fullShare} f) :=
  congrArg BIBase.exists (funext fun f => slot0_eq c f)
theorem slotHas_0 (a : Vec F S2048x1024 .f32) (f : Buf (Elt F) (stM.view.loc c.tc))
    (h : (src 0).view.read (Elt F) f = flat a) :
    (stM.view.loc c.tc ↦[(stM.access slotR0).set]{fullShare} f : sProp 𝕄) ⊢ slotHas c 0 a := by
  unfold slotHas
  rw [← slot0_eq c f]
  iintro H; iexists f; isplitr; swap; · iexact H
  ipureintro; exact h

theorem slotAny_4 : (slotAny c 4 : sProp 𝕄)
    = iprop(∃ f : Buf (Elt F) (stM.view.loc c.tc), stM.view.loc c.tc ↦[(stM.access slotR1).set]{fullShare} f) :=
  congrArg BIBase.exists (funext fun f => slot1_eq c f)
theorem slotHas_4 (a : Vec F S2048x1024 .f32) (f : Buf (Elt F) (stM.view.loc c.tc))
    (h : (src 4).view.read (Elt F) f = flat a) :
    (stM.view.loc c.tc ↦[(stM.access slotR1).set]{fullShare} f : sProp 𝕄) ⊢ slotHas c 4 a := by
  unfold slotHas
  rw [← slot1_eq c f]
  iintro H; iexists f; isplitr; swap; · iexact H
  ipureintro; exact h

/-- The accumulator goes, rounded, to staging slot 0, -/
theorem run_stage0 (a : Vec F S2048x1024 .f32) (Q : PUnit → sProp 𝕄) :
    iprop(owns c.tc accM fullShare a ∗ slotAny c 0
      ∗ (iprop(owns c.tc accM fullShare a ∗ slotHas c 0 a) -∗ Q ⟨⟩)) ⊢ run c stage0 Q := by
  rw [slotAny_0]
  unfold stage0 loadAcc owns run
  simp only [Prog.lift, Prog.bind_op, Prog.bind_ret, Prog.pure_eq_ret]
  iintro ⟨⟨%fa, %ha, Ha⟩, ⟨%fs, Hs⟩, Hk⟩
  iapply (wp_load Variants.none c.tc none Set.univ (m := accM) (View.setOn_subset_set _ _)) $$ Ha; iintro Ha
  iapply (wp_load Variants.none c.tc none Set.univ (m := stM) (subset_of_eq (View.set_slice _ _).symm)) $$ Hs; iintro Hs
  iapply (wp_store Variants.none c.tc none Set.univ (m := stM) (r := slotR0) (subset_of_eq (View.setOn_univ _))) $$ Hs; iintro Hs
  rw [wp_ret]; imodintro
  iapply Hk
  isplitl [Ha]
  · iexists _; isplitr; swap; · iexact Ha
    ipureintro; exact ha
  iapply (slotHas_0 c a _ ?_) $$ Hs
  rw [View.readAt_full, ha]
  exact funext fun i => (congrFun (View.read_write_univ (v := stM.access slotR0) _ _) _).trans (unflat a _ i)

/-- and to staging slot 1. -/
theorem run_stage1 (a : Vec F S2048x1024 .f32) (Q : PUnit → sProp 𝕄) :
    iprop(owns c.tc accM fullShare a ∗ slotAny c 4
      ∗ (iprop(owns c.tc accM fullShare a ∗ slotHas c 4 a) -∗ Q ⟨⟩)) ⊢ run c stage1 Q := by
  rw [slotAny_4]
  unfold stage1 loadAcc owns run
  simp only [Prog.lift, Prog.bind_op, Prog.bind_ret, Prog.pure_eq_ret]
  iintro ⟨⟨%fa, %ha, Ha⟩, ⟨%fs, Hs⟩, Hk⟩
  iapply (wp_load Variants.none c.tc none Set.univ (m := accM) (View.setOn_subset_set _ _)) $$ Ha; iintro Ha
  iapply (wp_load Variants.none c.tc none Set.univ (m := stM) (subset_of_eq (View.set_slice _ _).symm)) $$ Hs; iintro Hs
  iapply (wp_store Variants.none c.tc none Set.univ (m := stM) (r := slotR1) (subset_of_eq (View.setOn_univ _))) $$ Hs; iintro Hs
  rw [wp_ret]; imodintro
  iapply Hk
  isplitl [Ha]
  · iexists _; isplitr; swap; · iexact Ha
    ipureintro; exact ha
  iapply (slotHas_4 c a _ ?_) $$ Hs
  rw [View.readAt_full, ha]
  exact funext fun i => (congrFun (View.read_write_univ (v := stM.access slotR1) _ _) _).trans (unflat a _ i)

/-- Message `j` is sent. -/
theorem run_send (j : Fin 7) (n : Dev nD) (hn : n = mate j c) (D A : Fin 7 → Fin 3) (b : Fin 3 → Bool) (a : Vec F S2048x1024 .f32)
    (hD : D j = 0) (hV : flat a = V c j) (O : CellTallies nD τ sig Unit) (W : Waits sig Unit) (Q : PUnit → sProp 𝕄) :
    iprop(known V K c ∗ slotHas c j a ∗ inv V c D A b ∗ owes c.tc (O + tallyAt (recvCell (mate j c) j) () NX) W
      ∗ (iprop(inv V c (Function.update D j 1) A b ∗ owes c.tc O W) -∗ Q ⟨⟩)) ⊢ run c (send j n) Q := by
  subst hn
  unfold inv
  rw [bigSep_at (fun j => depart (F := F) c j) D j hD, bigSep_update (fun j => depart (F := F) c j) D j 1]
  unfold known slotHas send run depart dstAny
  simp only [Prog.lift]
  iintro ⟨⟨#Hlev, Hkn⟩, ⟨%fs, %hs, Hs⟩, ⟨⟨⟨⟨%fd, Hd⟩, Ht, Htm, Hat⟩, HD⟩, HA, HB⟩, HO, Hk⟩
  ispecialize Hkn $$ %j
  icases Hkn with ⟨#HI, #HI2, #HIm, #Hr, #Hrm⟩
  iapply (Rounds.wp_send_pointsTo Variants.none EX (Rd V) c.tc none (κ₁ := K c false j) (κ₂ := K (mate j c) true j)
    (r₁ := 0) (r₂ := 0) (d₁ := ()) (d₂ := ()) (fs := fs) (fd := fd)
    (by rw [duties_send]; exact Finset.mem_singleton_self _) (by rw [duties_recv]; exact Finset.mem_singleton_self _)
    () () NX (show (dst j).view.amount (.dma (recvQ j)) = NX from dst_credit j) rfl rfl O rfl (W := W)
    (by rw [payload_send]; unfold slotAny; exact BI.BIClass.exists_intro fs)
    (by rw [payload_recv]; unfold landed; rw [mate_mate]
        iintro H; iexists _; isplitr; swap; · iexact H
        ipureintro; rw [View.read_write_univ, hs, hV])) $$ [Hs Hd HO Ht Htm]
  · isplitr; · iexact HI
    isplitr; · iexact HIm
    isplitl [Hs]; · iexact Hs
    isplitl [Hd]; · iexact Hd
    isplitl [HO]; · iexact HO
    isplitl [Ht]; · iexact Ht
    isplitr; · iexact Hr
    isplitl [Htm]; · iexact Htm
    iexact Hrm
  iintro ⟨Hc, HO⟩
  rw [wp_ret]; imodintro
  iapply Hk
  isplitr [HO]; swap; · iexact HO
  isplitl [Hc Hat HD]
  · isplitl [Hc Hat]
    · isplitl [Hc]; · iexact Hc
      iexact Hat
    iexact HD
  isplitl [HA]; · iexact HA
  iexact HB

end Cert.Sc

end
-- ==== Proof.Scatter.Waits.lean ====
module

public import proofs.«01_k».proof.Proof.Scatter.Rules

/-!
# The weight gradient's exchange: its waits and local copies, run

What each wait and each local copy does to the accumulator and to the state of the messages.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

variable (V : Sent F) (K : Names) (c : Dev nD)

/-- Message `j` has left: its slot comes back. -/
theorem run_waitSend (j : Fin 7) (D A : Fin 7 → Fin 3) (b : Fin 3 → Bool) (hD : D j = 1) (n : ℕ) (W : Waits sig Unit) (Q : PUnit → sProp 𝕄) :
    iprop(known V K c ∗ inv V c D A b ∗ owes c.tc (owedAt c n) W
      ∗ (iprop(slotAny c j ∗ inv V c (Function.update D j 2) A b ∗ (∃ W, owes c.tc (owedAt c n) W)) -∗ Q ⟨⟩)) ⊢ run c (waitSend j) Q := by
  unfold inv
  rw [bigSep_at (fun j => depart (F := F) c j) D j hD, bigSep_update (fun j => depart (F := F) c j) D j 2]
  unfold known waitSend run depart
  simp only [Prog.lift]
  iintro ⟨⟨#Hlev, Hkn⟩, ⟨⟨⟨Hc, Hat⟩, HD⟩, HA, HB⟩, HO, Hk⟩
  ispecialize Hkn $$ %j
  icases Hkn with ⟨#HI, #HI2, #HIm, #Hr, #Hrm⟩
  iapply (Rounds.wp_wait_rest_token Variants.none EX (Rd V) c.tc none (κ := K c false j)
      (wpE_waitDma2_eq Variants.none c.tc none Set.univ) (Set.mem_univ _) () (O := owedAt c n) (W := W) (R := 0) (m := 0) (T := ∅)
      (by rw [Nat.zero_add, expect_send, src_credit])) $$ [Hc HO Hat]
  · isplitr; · iexact HI
    isplitl [Hc]; · irw [src_credit j]; iexact Hc
    isplitl [HO]; · iexact HO
    isplitr; · iapply (mayWait_send c n j); iexact Hlev
    iexact Hat
  iintro ⟨HO, Hat, -, Hpay⟩
  ihave Hs := (Entails.of_eq (rest_send V c j)) $$ Hpay
  imod (Rounds.cell_close EX (Rd V) (Set.mem_univ (K c false j)) (fun h => h) (R := 0 + 1) (duties_later V (sendCell c j))) $$ [Hat] with Hz
  · isplitr; · iexact HI
    iexact Hat
  rw [wp_ret]; imodintro
  iapply Hk
  isplitl [Hs]; · iexact Hs
  isplitr [HO]; swap; · iexists _; iexact HO
  isplitl [Hz HD]
  · isplitl [Hz]; · iexact Hz
    iexact HD
  isplitl [HA]; · iexact HA
  iexact HB

/-- The partner's message `j` has come: what it brought is in hand. -/
theorem run_waitRecv (j : Fin 7) (D A : Fin 7 → Fin 3) (b : Fin 3 → Bool) (hA : A j = 0) (n : ℕ)
    (hn : ∀ j', n ≤ sendAt j' → (![1, 2, 3, 4, 10, 10, 10] : Fin 7 → ℕ) j < (![1, 2, 3, 4, 10, 10, 10] : Fin 7 → ℕ) j')
    (W : Waits sig Unit) (Q : PUnit → sProp 𝕄) :
    iprop(known V K c ∗ inv V c D A b ∗ owes c.tc (owedAt c n) W
      ∗ (iprop(inv V c D (Function.update A j 2) b ∗ (∃ W, owes c.tc (owedAt c n) W)) -∗ Q ⟨⟩)) ⊢ run c (waitRecv j) Q := by
  unfold inv
  rw [bigSep_at (fun j => arrive V c j) A j hA, bigSep_update (fun j => arrive V c j) A j 2]
  unfold known waitRecv run arrive
  simp only [Prog.lift]
  iintro ⟨⟨#Hlev, Hkn⟩, ⟨HD, ⟨⟨Hc, Hat⟩, HA⟩, HB⟩, HO, Hk⟩
  ispecialize Hkn $$ %j
  icases Hkn with ⟨#HI, #HI2, #HIm, #Hr, #Hrm⟩
  iapply (Rounds.wp_wait_rest_token Variants.none EX (Rd V) c.tc none (κ := K c true j)
      (wpE_waitDma2_eq Variants.none c.tc none Set.univ) (Set.mem_univ _) () (O := owedAt c n) (W := W) (R := 0) (m := 0) (T := ∅)
      (by rw [Nat.zero_add, expect_recv, dst_credit])) $$ [Hc HO Hat]
  · isplitr; · iexact HI2
    isplitl [Hc]; · irw [dst_credit j]; iexact Hc
    isplitl [HO]; · iexact HO
    isplitr; · iapply (mayWait_recv c n j hn); iexact Hlev
    iexact Hat
  iintro ⟨HO, Hat, -, Hpay⟩
  ihave Hs := (Entails.of_eq (rest_recv V c j)) $$ Hpay
  imod (Rounds.cell_close EX (Rd V) (Set.mem_univ (K c true j)) (fun h => h) (R := 0 + 1) (duties_later V (recvCell c j))) $$ [Hat] with Hz
  · isplitr; · iexact HI2
    iexact Hat
  rw [wp_ret]; imodintro
  iapply Hk
  isplitr [HO]; swap; · iexists _; iexact HO
  isplitl [HD]; · iexact HD
  isplitl [Hz Hs HA]
  · isplitl [Hz Hs]
    · isplitl [Hz]; · iexact Hz
      iexact Hs
    iexact HA
  iexact HB

/-- What came begins to be copied into the scratch buffer. -/
theorem run_pull (j : Fin 7) (D A : Fin 7 → Fin 3) (b : Fin 3 → Bool) (hA : A j = 2) (hb : b 2 = true) (Q : PUnit → sProp 𝕄) :
    iprop(inv V c D A b ∗ (inv V c D (Function.update A j 1) (Function.update b 2 false) -∗ Q ⟨⟩)) ⊢ run c (pull j) Q := by
  unfold inv
  rw [bigSep_at (fun j => arrive V c j) A j hA, bigSep_update (fun j => arrive V c j) A j 1,
    bigSep_at (fun k => room (F := F) c k) b 2 hb, bigSep_update (fun k => room (F := F) c k) b 2 false]
  unfold pull run arrive landed pulling room home
  simp only [Prog.lift]
  iintro ⟨⟨HD, ⟨⟨Hz, ⟨%f, %hf, Hf⟩⟩, HA⟩, ⟨⟨⟨%g, Hg⟩, Hv⟩, HB⟩⟩, Hk⟩
  iapply (Transfers.wp_dmaLocal countersEmb Variants.none c.tc none () NX rfl NX_pos (subset_refl _)) $$ [Hf Hg Hv]
  · isplitl [Hf]; · iexact Hf
    isplitl [Hg]; · iexact Hg
    iexact Hv
  iintro HF
  rw [wp_ret]; imodintro
  iapply Hk
  isplitl [HD]; · iexact HD
  isplitl [Hz HF HA]
  · isplitl [Hz HF]
    · isplitl [Hz]; · iexact Hz
      iexists f, _
      isplitr; swap; · iexact HF
      ipureintro
      exact ⟨hf, (View.read_write_univ _ _).trans hf⟩
    iexact HA
  isplitr; · iempintro
  iexact HB

/-- The copy has ended: the accumulator takes what came. -/
theorem run_addIn (j : Fin 7) (D A : Fin 7 → Fin 3) (b : Fin 3 → Bool) (hA : A j = 1) (hb : b 2 = false) (a : Vec F S2048x1024 .f32)
    (n : ℕ) (W : Waits sig Unit) (Q : PUnit → sProp 𝕄) :
    iprop(known V K c ∗ owns (c : Thread nD τ) accM fullShare a ∗ inv V c D A b ∗ owes (c : Thread nD τ) (owedAt c n) W
      ∗ (iprop(owns (c : Thread nD τ) accM fullShare (k0_pay2 a (V (mate j c) j)) ∗ inv V c D (Function.update A j 2) (Function.update b 2 true)
          ∗ (∃ W, owes (c : Thread nD τ) (owedAt c n) W)) -∗ Q ⟨⟩)) ⊢ run c (addIn j) Q := by
  unfold inv
  rw [bigSep_at (fun j => arrive V c j) A j hA, bigSep_update (fun j => arrive V c j) A j 2,
    bigSep_at (fun k => room (F := F) c k) b 2 hb, bigSep_update (fun k => room (F := F) c k) b 2 true]
  unfold known addIn loadAcc storeAcc owns run arrive landed pulling room home
  simp only [Prog.lift, Prog.bind_op, Prog.bind_ret, Prog.pure_eq_ret]
  iintro ⟨⟨#Hlev, -⟩, ⟨%fa, %ha, Ha⟩, ⟨HD, ⟨⟨Hz, ⟨%f, %g, %hfg, HF⟩⟩, HA⟩, ⟨-, HB⟩⟩, HO, Hk⟩
  iapply (Transfers.wp_waitLocalO countersEmb Variants.none (c : Thread nD τ) none () (N := NX) rfl) $$ [HF HO]
  · isplitl [HF]; · iexact HF
    isplitl [HO]; · iexact HO
    iapply (mayWait_loc c n); iexact Hlev
  iintro ⟨⟨Hg, Hf⟩, Hv, HO⟩
  iapply (wp_load Variants.none (c : Thread nD τ) none Set.univ (m := accM) (View.setOn_subset_set _ _)) $$ Ha; iintro Ha
  iapply (wp_load Variants.none (c : Thread nD τ) none Set.univ (m := tmpM) (View.setOn_subset_set _ _)) $$ Hg; iintro Hg
  iapply (wp_load Variants.none (c : Thread nD τ) none Set.univ (m := accM) (View.setOn_subset_set _ _)) $$ Ha; iintro Ha
  iapply (wp_store Variants.none (c : Thread nD τ) none Set.univ (m := accM) (r := accR) (View.set_slice_subset _ _)) $$ Ha; iintro Ha
  rw [wp_ret]; imodintro
  iapply Hk
  isplitl [Ha]
  · iexists _; isplitr; swap; · iexact Ha
    ipureintro
    rw [View.readAt_full, View.readAt_full, ha, hfg.2]
    exact View.read_writes_full _ _ inb_S2048x1024_S2048x1024_0_0 _ []
  isplitr [HO]; swap; · iexists _; iexact HO
  isplitl [HD]; · iexact HD
  isplitl [Hz Hf HA]
  · isplitl [Hz Hf]
    · isplitl [Hz]; · iexact Hz
      iexists f; isplitr; · ipureintro; exact hfg.1
      iexact Hf
    iexact HA
  isplitl [Hg Hv]
  · isplitl [Hg]; · iexists g; iexact Hg
    iexact Hv
  iexact HB

/-- The device's own sum is written to the result. -/
theorem run_keepOwn (D A : Fin 7 → Fin 3) (b : Fin 3 → Bool) (hb : b 2 = true) (a : Vec F S2048x1024 .f32)
    (n : ℕ) (W : Waits sig Unit) (Q : PUnit → sProp 𝕄) :
    iprop(known V K c ∗ owns (c : Thread nD τ) accM fullShare a ∗ (∃ d, owns (c : Thread nD τ) ownM fullShare d) ∗ inv V c D A b ∗ owes (c : Thread nD τ) (owedAt c n) W
      ∗ (iprop(owns (c : Thread nD τ) accM fullShare a ∗ owns (c : Thread nD τ) ownM fullShare a ∗ inv V c D A b
          ∗ (∃ W, owes c.tc (owedAt c n) W)) -∗ Q ⟨⟩)) ⊢ run c keepOwn Q := by
  unfold inv
  rw [bigSep_at (fun k => room (F := F) c k) b 2 hb]
  unfold known keepOwn owns run room home
  simp only [Prog.lift, Prog.bind_op, Prog.bind_ret, Prog.pure_eq_ret]
  iintro ⟨⟨#Hlev, -⟩, ⟨%fa, %ha, Ha⟩, ⟨%d, %fo, -, Ho⟩, ⟨HD, HA, ⟨⟨Hg, Hv⟩, HB⟩⟩, HO, Hk⟩
  iapply (Transfers.wp_dmaLocal countersEmb Variants.none c.tc none () ownM.view.dmaCredit rfl (View.dmaCredit_pos _ (by decide)) (subset_refl _)) $$ [Ha Ho Hv]
  · isplitl [Ha]; · iexact Ha
    isplitl [Ho]; · iexact Ho
    iexact Hv
  iintro HF
  iapply (Transfers.wp_waitLocalO countersEmb Variants.none c.tc none () (N := ownM.view.dmaCredit) rfl) $$ [HF HO]
  · isplitl [HF]; · iexact HF
    isplitl [HO]; · iexact HO
    iapply (mayWait_loc c n); iexact Hlev
  iintro ⟨⟨Ho, Ha⟩, Hv, HO⟩
  rw [wp_ret]; imodintro
  iapply Hk
  isplitl [Ha]
  · iexists _; isplitr; swap; · iexact Ha
    ipureintro; exact ha
  isplitl [Ho]
  · iexists _; isplitr; swap; · iexact Ho
    ipureintro; exact (View.read_write_univ _ _).trans ha
  isplitr [HO]; swap; · iexists _; iexact HO
  isplitl [HD]; · iexact HD
  isplitl [HA]; · iexact HA
  isplitl [Hg Hv]
  · isplitl [Hg]; · iexact Hg
    iexact Hv
  iexact HB

end Cert.Sc

end
-- ==== Proof.Scatter.Conds.lean ====
module

public import proofs.«01_k».proof.Proof.Scatter.Waits

/-!
# The weight gradient's exchange: when each piece is due

The printed conditions at grid point `t` in closed form (its block is `t / 8`, its step `t % 8`), and the
devices that the messages go to.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

theorem cond4_iff : ∀ t : Fin grid0.N, k0_cond4 (grid0.coords t) = 1#1 ↔ t.val = 7 := by decide
theorem cond6_iff : ∀ t : Fin grid0.N, k0_cond6 (grid0.coords t) = 1#1 ↔ t.val = 15 := by decide
theorem cond7_iff : ∀ t : Fin grid0.N, k0_cond7 (grid0.coords t) = 1#1 ↔ t.val = 23 := by decide
theorem cond9_iff : ∀ t : Fin grid0.N, k0_cond9 (grid0.coords t) = 1#1 ↔ t.val = 31 := by decide
theorem cond10_iff : ∀ t : Fin grid0.N, k0_cond10 (grid0.coords t) = 1#1 ↔ t.val = 39 := by decide
theorem cond12_iff : ∀ t : Fin grid0.N, k0_cond12 (grid0.coords t) = 1#1 ↔ t.val = 47 := by decide
theorem cond13_iff : ∀ t : Fin grid0.N, k0_cond13 (grid0.coords t) = 1#1 ↔ t.val = 55 := by decide
theorem pull0_iff : ∀ t : Fin grid0.N, condPull (grid0.coords t) 1#32 = 1#1 ↔ t.val = 9 := by decide
theorem pull1_iff : ∀ t : Fin grid0.N, condPull (grid0.coords t) 3#32 = 1#1 ↔ t.val = 25 := by decide
theorem pull2_iff : ∀ t : Fin grid0.N, condPull (grid0.coords t) 5#32 = 1#1 ↔ t.val = 41 := by decide
theorem pull3_iff : ∀ t : Fin grid0.N, condPull (grid0.coords t) 7#32 = 1#1 ↔ t.val = 57 := by decide
theorem end_iff : ∀ t : Fin grid0.N, condEnd (grid0.coords t) = 1#1 ↔ t.val = 63 := by decide
theorem first_iff : ∀ t : Fin grid0.N, condFirst (grid0.coords t) = 1#1 ↔ t.val % 8 = 0 := by decide

theorem dev1_lt (d : Dev nD) : k0_dev1 d = (mate 0 d).val := by revert d; decide +kernel
theorem dev3_lt (d : Dev nD) : k0_dev3 d = (mate 1 d).val := by revert d; decide +kernel
theorem dev5_lt (d : Dev nD) : k0_dev5 d = (mate 2 d).val := by revert d; decide +kernel
theorem dev7_lt (d : Dev nD) : k0_dev7 d = (mate 3 d).val := by revert d; decide +kernel
theorem dev2_lt (d : Dev nD) : k0_dev2 d = (mate 4 d).val := by revert d; decide +kernel
theorem dev4_lt (d : Dev nD) : k0_dev4 d = (mate 5 d).val := by revert d; decide +kernel
theorem dev6_lt (d : Dev nD) : k0_dev6 d = (mate 6 d).val := by revert d; decide +kernel

theorem flag_iff : ∀ b : BitVec 1, Scalar.cmpi .ne (Scalar.extui b : BitVec 32) 0#32 = 1#1 ↔ b = 1#1 := by decide
theorem isLow_iff (v : BitVec 32) : isLow v = 1#1 ↔ v.toInt < 4 := (flag_iff _).trans IntOp.cmpi_slt
/-- A block is of the recurrence's or of the attention's, never of both. -/
theorem isHigh_iff (v : BitVec 32) : isHigh v = 1#1 ↔ ¬ isLow v = 1#1 := by
  rw [isLow_iff, not_lt]; exact (flag_iff _).trans IntOp.cmpi_sge

end Cert.Sc

end
-- ==== Proof.Scatter.Values.lean ====
module

public import proofs.«01_k».proof.Proof.Scatter.Conds

/-!
# The weight gradient's exchange: what is sent

The accumulator of a block of columns after each of its eight steps, the sums of two devices' partial
gradients, and from these the seven messages.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

/-- What the staged blocks of the launch hold, by device and grid point: the recurrence's gradient, the attention's
    and the normalized rows; and each device's order of its blocks. -/
structure Data (F : FTy → Type) where
  tab : Dev nD → S8.Idx → Elt F .i32
  zh : Dev nD → Fin grid0.N → Vec F S1x1024x1024 .bf16
  za : Dev nD → Fin grid0.N → Vec F S1x1024x1024 .bf16
  h : Dev nD → Fin grid0.N → Vec F S1024x2048 .bf16

variable (x : Data F) (c : Dev nD)

/-- The block of columns that device `c` does at a grid point. -/
def entry (f : S8.Idx → Elt F .i32) (i : grid0.Coords) : BitVec 32 :=
  f ((Rect.unit (s := S8) (k0_off1 i) S1.size (k0_off1_inb i)).emb (Shape.Idx.first (numel1_S1.symm ▸ Nat.one_pos)))

/-- The accumulator with the product of grid point `t` added. -/
def added (t : Fin grid0.N) (a : Vec F S2048x1024 .f32) : Vec F S2048x1024 .f32 :=
  if isLow (entry (x.tab c) (grid0.coords t)) = 1#1 then k0_pay10 (x.zh c t) a (x.h c t) else k0_pay11 (x.za c t) a (x.h c t)

/-- Step `s` of block `k`. -/
abbrev pt (k : ℕ) (s : ℕ) (h : 8 * k + s < 64) : Fin grid0.N := ⟨8 * k + s, lt_of_lt_of_eq h N_0.symm⟩

/-- The accumulator of block `k` after `s` steps. -/
def part (k : ℕ) : ℕ → Vec F S2048x1024 .f32
  | 0 => k0_pay9 (F := F)
  | s + 1 => if h : 8 * k + s < 64 then added x c (pt k s h) (part k s) else part k s

/-- A device's partial gradient of its `k`-th block, -/
def grad (k : ℕ) : Vec F S2048x1024 .f32 := part x c k 8
/-- what it sends of an even one to the device on its chip, -/
def even (t : ℕ) : Vec F S2048x1024 .bf16 := flat (grad x c (2 * t))
/-- and its odd one with what came from there added. -/
def both (t : ℕ) : Vec F S2048x1024 .f32 := k0_pay2 (grad x c (2 * t + 1)) (even x (mate 0 c) t)

/-- The seven messages. -/
def msg : Sent F := fun c j => match j with
  | 0 => even x c 0
  | 1 => even x c 1
  | 2 => even x c 2
  | 3 => even x c 3
  | 4 => flat (both x c 0)
  | 5 => flat (both x c 1)
  | 6 => flat (both x c 2)

theorem part_step (t : Fin grid0.N) :
    part x c (t.val / 8) (t.val % 8 + 1) = added x c t (part x c (t.val / 8) (t.val % 8)) := by
  have hN : t.val < 64 := lt_of_lt_of_eq t.isLt N_0
  have e : 8 * (t.val / 8) + t.val % 8 = t.val := Nat.div_add_mod _ _
  rw [part, dif_pos (by omega)]
  congr 1; exact Fin.ext e

end Cert.Sc

end
-- ==== Proof.Scatter.Front.lean ====
module

public import proofs.«01_k».proof.Proof.Scatter.Values

/-!
# The weight gradient's exchange: the product of a grid point

A grid point's first part adds the product of its staged blocks to the accumulator.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

variable (x : Data F) (c : Dev nD)

/-- The order of the blocks, as the kernel reads it. -/
def tabP (f : S8.Idx → Elt F .i32) : sProp 𝕄 := (tabM.view.loc (c : Thread nD τ)) ↦{fullShare.right} f

/-- The accumulator before grid point `n`: at the first step of a block anything. -/
def accP (n : ℕ) : sProp 𝕄 :=
  iprop(∃ a, ⌜n % 8 ≠ 0 → a = part x c (n / 8) (n % 8)⌝ ∗ owns (c : Thread nD τ) accM fullShare a)

theorem run_zero (n : ℕ) (i : grid0.Coords) (hi : condFirst i = 1#1 ↔ n % 8 = 0) (Q : PUnit → sProp 𝕄) :
    iprop(accP x c n ∗ (owns (c : Thread nD τ) accM fullShare (part x c (n / 8) (n % 8)) -∗ Q ⟨⟩))
      ⊢ run c (zeroAt i) Q := by
  unfold accP run zeroAt
  by_cases h : n % 8 = 0
  · rw [if_pos (hi.mpr h), h]
    unfold loadAcc storeAcc owns
    simp only [Prog.lift, Prog.bind_op, Prog.bind_ret, Prog.pure_eq_ret]
    iintro ⟨⟨%a, %ha, %f, %hf, Ha⟩, Hk⟩
    iapply (wp_load Variants.none (c : Thread nD τ) none Set.univ (m := accM) (View.setOn_subset_set _ _)) $$ Ha; iintro Ha
    iapply (wp_store Variants.none (c : Thread nD τ) none Set.univ (m := accM) (r := accR) (View.set_slice_subset _ _)) $$ Ha; iintro Ha
    rw [wp_ret]; imodintro
    iapply Hk
    iexists _; isplitr; swap; · iexact Ha
    ipureintro
    exact View.read_writes_full _ _ inb_S2048x1024_S2048x1024_0_0 _ []
  · rw [if_neg fun h' => h (hi.mp h')]
    simp only [Prog.pure_eq_ret]
    rw [wp_ret]
    iintro ⟨⟨%a, %ha, Ha⟩, Hk⟩
    imodintro
    iapply Hk
    rw [← ha h]; iexact Ha

theorem run_addLow (v : BitVec 32) (a3 : Memref sig .tc .vmem S1x1024x1024 .bf16) (a5 : Memref sig .tc .vmem S1024x2048 .bf16)
    (z : Vec F S1x1024x1024 .bf16) (h : Vec F S1024x2048 .bf16) (a : Vec F S2048x1024 .f32) (Q : PUnit → sProp 𝕄) :
    iprop(owns (c : Thread nD τ) a3 fullShare z ∗ owns (c : Thread nD τ) a5 fullShare h ∗ owns (c : Thread nD τ) accM fullShare a
      ∗ (iprop(owns (c : Thread nD τ) a3 fullShare z ∗ owns (c : Thread nD τ) a5 fullShare h
          ∗ owns (c : Thread nD τ) accM fullShare (if isLow v = 1#1 then k0_pay10 z a h else a)) -∗ Q ⟨⟩))
      ⊢ run c (addLow v a3 a5) Q := by
  unfold run addLow
  by_cases hv : isLow v = 1#1
  · rw [if_pos hv, if_pos hv]
    unfold loadAcc storeAcc owns
    simp only [Prog.lift, Prog.bind_op, Prog.bind_ret, Prog.pure_eq_ret]
    iintro ⟨⟨%f3, %h3, H3⟩, ⟨%f5, %h5, H5⟩, ⟨%f, %hf, Ha⟩, Hk⟩
    iapply (wp_load Variants.none (c : Thread nD τ) none Set.univ (m := a3) (View.setOn_subset_set _ _)) $$ H3; iintro H3
    iapply (wp_load Variants.none (c : Thread nD τ) none Set.univ (m := accM) (View.setOn_subset_set _ _)) $$ Ha; iintro Ha
    iapply (wp_load Variants.none (c : Thread nD τ) none Set.univ (m := a5) (View.setOn_subset_set _ _)) $$ H5; iintro H5
    iapply (wp_load Variants.none (c : Thread nD τ) none Set.univ (m := accM) (View.setOn_subset_set _ _)) $$ Ha; iintro Ha
    iapply (wp_store Variants.none (c : Thread nD τ) none Set.univ (m := accM) (r := accR) (View.set_slice_subset _ _)) $$ Ha; iintro Ha
    rw [wp_ret]; imodintro
    iapply Hk
    isplitl [H3]
    · iexists _; isplitr; swap; · iexact H3
      ipureintro; exact h3
    isplitl [H5]
    · iexists _; isplitr; swap; · iexact H5
      ipureintro; exact h5
    iexists _; isplitr; swap; · iexact Ha
    ipureintro
    rw [View.readAt_full, View.readAt_full, View.readAt_full, h3, h5, hf]
    exact View.read_writes_full _ _ inb_S2048x1024_S2048x1024_0_0 _ []
  · rw [if_neg hv, if_neg hv]
    simp only [Prog.pure_eq_ret]
    rw [wp_ret]
    iintro ⟨H3, H5, Ha, Hk⟩
    imodintro
    iapply Hk
    isplitl [H3]; · iexact H3
    isplitl [H5]; · iexact H5
    iexact Ha

theorem run_addHigh (v : BitVec 32) (a4 : Memref sig .tc .vmem S1x1024x1024 .bf16) (a5 : Memref sig .tc .vmem S1024x2048 .bf16)
    (z : Vec F S1x1024x1024 .bf16) (h : Vec F S1024x2048 .bf16) (a : Vec F S2048x1024 .f32) (Q : PUnit → sProp 𝕄) :
    iprop(owns (c : Thread nD τ) a4 fullShare z ∗ owns (c : Thread nD τ) a5 fullShare h ∗ owns (c : Thread nD τ) accM fullShare a
      ∗ (iprop(owns (c : Thread nD τ) a4 fullShare z ∗ owns (c : Thread nD τ) a5 fullShare h
          ∗ owns (c : Thread nD τ) accM fullShare (if isHigh v = 1#1 then k0_pay11 z a h else a)) -∗ Q ⟨⟩))
      ⊢ run c (addHigh v a4 a5) Q := by
  unfold run addHigh
  by_cases hv : isHigh v = 1#1
  · rw [if_pos hv, if_pos hv]
    unfold loadAcc storeAcc owns
    simp only [Prog.lift, Prog.bind_op, Prog.bind_ret, Prog.pure_eq_ret]
    iintro ⟨⟨%f4, %h4, H4⟩, ⟨%f5, %h5, H5⟩, ⟨%f, %hf, Ha⟩, Hk⟩
    iapply (wp_load Variants.none (c : Thread nD τ) none Set.univ (m := a4) (View.setOn_subset_set _ _)) $$ H4; iintro H4
    iapply (wp_load Variants.none (c : Thread nD τ) none Set.univ (m := accM) (View.setOn_subset_set _ _)) $$ Ha; iintro Ha
    iapply (wp_load Variants.none (c : Thread nD τ) none Set.univ (m := a5) (View.setOn_subset_set _ _)) $$ H5; iintro H5
    iapply (wp_load Variants.none (c : Thread nD τ) none Set.univ (m := accM) (View.setOn_subset_set _ _)) $$ Ha; iintro Ha
    iapply (wp_store Variants.none (c : Thread nD τ) none Set.univ (m := accM) (r := accR) (View.set_slice_subset _ _)) $$ Ha; iintro Ha
    rw [wp_ret]; imodintro
    iapply Hk
    isplitl [H4]
    · iexists _; isplitr; swap; · iexact H4
      ipureintro; exact h4
    isplitl [H5]
    · iexists _; isplitr; swap; · iexact H5
      ipureintro; exact h5
    iexists _; isplitr; swap; · iexact Ha
    ipureintro
    rw [View.readAt_full, View.readAt_full, View.readAt_full, h4, h5, hf]
    exact View.read_writes_full _ _ inb_S2048x1024_S2048x1024_0_0 _ []
  · rw [if_neg hv, if_neg hv]
    simp only [Prog.pure_eq_ret]
    rw [wp_ret]
    iintro ⟨H4, H5, Ha, Hk⟩
    imodintro
    iapply Hk
    isplitl [H4]; · iexact H4
    isplitl [H5]; · iexact H5
    iexact Ha

theorem entry_read (f : S8.Idx → Elt F .i32) (i : grid0.Coords) :
    View.read (Elt F) (tabM.access (Rect.unit (s := S8) (k0_off1 i) S1.size (k0_off1_inb i))) f (Shape.Idx.first (numel1_S1.symm ▸ Nat.one_pos)) = entry f i := rfl
/-- The order's entry of a grid point, read. -/
theorem run_entry (f : S8.Idx → Elt F .i32) (i : grid0.Coords) (Q : Elt F .i32 → sProp 𝕄) :
    iprop(tabP c f ∗ (tabP c f -∗ Q (entry f i)))
      ⊢ run c (smemLoad tabM (Rect.unit (s := S8) (k0_off1 i) S1.size (k0_off1_inb i)) numel1_S1 rfl) Q := by
  unfold run tabP smemLoad
  iintro ⟨H, Hk⟩
  iapply (wp_smemLoadElt Variants.none (c : Thread nD τ) none Set.univ (m := tabM) (r := Rect.unit (s := S8) (k0_off1 i) S1.size (k0_off1_inb i)) (f := f) (Finset.subset_univ _)) $$ H
  iintro H
  rw [wp_ret, entry_read]; imodintro
  iapply Hk; iexact H

/-- The staged blocks of grid point `t`. -/
def staged (t : Fin grid0.N) (a3 a4 : Memref sig .tc .vmem S1x1024x1024 .bf16) (a5 : Memref sig .tc .vmem S1024x2048 .bf16) : sProp 𝕄 :=
  iprop(owns (c : Thread nD τ) a3 fullShare (x.zh c t) ∗ owns (c : Thread nD τ) a4 fullShare (x.za c t) ∗ owns (c : Thread nD τ) a5 fullShare (x.h c t))

theorem run_front (t : Fin grid0.N) (a3 a4 : Memref sig .tc .vmem S1x1024x1024 .bf16) (a5 : Memref sig .tc .vmem S1024x2048 .bf16) (Q : Dev nD → sProp 𝕄) :
    iprop(staged x c t a3 a4 a5 ∗ accP x c t.val ∗ tabP c (x.tab c)
      ∗ (iprop(staged x c t a3 a4 a5 ∗ owns (c : Thread nD τ) accM fullShare (part x c (t.val / 8) (t.val % 8 + 1)) ∗ tabP c (x.tab c)) -∗ Q c))
      ⊢ run c (front (grid0.coords t) a3 a4 a5) Q := by
  unfold front staged
  rw [part_step]
  iintro ⟨⟨H3, H4, H5⟩, Hacc, Htab, Hk⟩
  unfold run
  rw [wp_bind]
  iapply (run_zero x c t.val (grid0.coords t) (first_iff t)) $$ [-]
  isplitl [Hacc]; · iexact Hacc
  iintro Hacc
  rw [wp_bind]
  iapply (run_entry c (x.tab c) (grid0.coords t)) $$ [-]
  isplitl [Htab]; · iexact Htab
  iintro Htab
  rw [wp_bind]
  iapply (run_addLow c (entry (x.tab c) (grid0.coords t)) a3 a5 (x.zh c t) (x.h c t)) $$ [-]
  isplitl [H3]; · iexact H3
  isplitl [H5]; · iexact H5
  isplitl [Hacc]; · iexact Hacc
  iintro ⟨H3, H5, Hacc⟩
  rw [wp_bind]
  iapply (run_addHigh c (entry (x.tab c) (grid0.coords t)) a4 a5 (x.za c t) (x.h c t)) $$ [-]
  isplitl [H4]; · iexact H4
  isplitl [H5]; · iexact H5
  isplitl [Hacc]; · iexact Hacc
  iintro ⟨H4, H5, Hacc⟩
  simp only [Prog.lift, wp_deviceId]
  rw [wp_ret]; imodintro
  iapply Hk
  isplitl [H3 H4 H5]
  · isplitl [H3]; · iexact H3
    isplitl [H4]; · iexact H4
    iexact H5
  isplitl [Hacc]
  · unfold added
    by_cases hv : isLow (entry (x.tab c) (grid0.coords t)) = 1#1
    · simp only [if_pos hv, if_neg (fun h => (isHigh_iff _).mp h hv)]
      iexact Hacc
    · simp only [if_neg hv, if_pos ((isHigh_iff _).mpr hv)]
      iexact Hacc
  iexact Htab

end Cert.Sc

end
-- ==== Proof.Scatter.Events.lean ====
module

public import proofs.«01_k».proof.Proof.Scatter.Front

/-!
# The weight gradient's exchange: its events

Each thing that is due of the exchange at some grid point carries the state before that point to the state
before the next.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

variable (V : Sent F) (K : Names) (c : Dev nD)

/-- A slot, or the scratch buffer, taken from the state, -/
theorem inv_take (D A : Fin 7 → Fin 3) (b : Fin 3 → Bool) (k : Fin 3) (hb : b k = true) :
    inv V c D A b ⊢ iprop(home c k ∗ inv V c D A (Function.update b k false)) := by
  unfold inv
  rw [bigSep_at (fun k => room (F := F) c k) b k hb, bigSep_update (fun k => room (F := F) c k) b k false]
  rw [show room (F := F) c k true = home c k from rfl, show room (F := F) c k false = iprop(emp) from rfl]
  iintro ⟨HD, HA, Hk, HB⟩
  isplitl [Hk]; · iexact Hk
  isplitl [HD]; · iexact HD
  isplitl [HA]; · iexact HA
  isplitr; · itrivial
  iexact HB
/-- and put back. -/
theorem inv_put (D A : Fin 7 → Fin 3) (b : Fin 3 → Bool) (k : Fin 3) (hb : b k = false) :
    iprop(home c k ∗ inv V c D A b) ⊢ inv V c D A (Function.update b k true) := by
  unfold inv
  rw [bigSep_at (fun k => room (F := F) c k) b k hb, bigSep_update (fun k => room (F := F) c k) b k true]
  rw [show room (F := F) c k true = home c k from rfl, show room (F := F) c k false = iprop(emp) from rfl]
  iintro ⟨Hk, HD, HA, -, HB⟩
  isplitl [HD]; · iexact HD
  isplitl [HA]; · iexact HA
  isplitl [Hk]; · iexact Hk
  iexact HB

theorem slotHas_of (j : Fin 7) (h : slotOf j = 0) (a : Vec F S2048x1024 .f32) : (slotHas c j a : sProp 𝕄) = slotHas c 0 a := by
  revert h; fin_cases j <;> intro h <;> first | rfl | exact absurd h (by decide)
theorem slotHas_of1 (j : Fin 7) (h : slotOf j = 1) (a : Vec F S2048x1024 .f32) : (slotHas c j a : sProp 𝕄) = slotHas c 4 a := by
  revert h; fin_cases j <;> intro h <;> first | rfl | exact absurd h (by decide)

/-- The accumulator is rounded to slot 0 and sent as message `j`, -/
theorem run_ship0 (j : Fin 7) (hj : slotOf j = 0) (n : Dev nD) (hn : n = mate j c) (D A : Fin 7 → Fin 3) (b : Fin 3 → Bool) (a : Vec F S2048x1024 .f32)
    (hD : D j = 0) (hV : flat a = V c j) (W : Waits sig Unit) (Q : PUnit → sProp 𝕄) :
    iprop(known V K c ∗ owns c.tc accM fullShare a ∗ home c 0 ∗ inv V c D A b ∗ owes c.tc (owedAt c (sendAt j)) W
      ∗ (iprop(owns c.tc accM fullShare a ∗ inv V c (Function.update D j 1) A b ∗ owes c.tc (owedAt c (sendAt j + 1)) W) -∗ Q ⟨⟩))
      ⊢ run c (stage0 >>= fun _ => send j n) Q := by
  unfold run
  rw [wp_bind, owedAt_send]
  iintro ⟨#Hk, Ha, Hs, Hi, HO, HQ⟩
  iapply (run_stage0 c a) $$ [-]
  isplitl [Ha]; · iexact Ha
  isplitl [Hs]; · unfold home; iexact Hs
  iintro ⟨Ha, Hs⟩
  iapply (run_send V K c j n hn D A b a hD hV (owedAt c (sendAt j + 1)) W) $$ [-]
  isplitr; · iexact Hk
  isplitl [Hs]; · irw [slotHas_of c j hj a]; iexact Hs
  isplitl [Hi]; · iexact Hi
  isplitl [HO]; · iexact HO
  iintro ⟨Hi, HO⟩
  iapply HQ
  isplitl [Ha]; · iexact Ha
  isplitl [Hi]; · iexact Hi
  iexact HO
/-- or to slot 1. -/
theorem run_ship1 (j : Fin 7) (hj : slotOf j = 1) (n : Dev nD) (hn : n = mate j c) (D A : Fin 7 → Fin 3) (b : Fin 3 → Bool) (a : Vec F S2048x1024 .f32)
    (hD : D j = 0) (hV : flat a = V c j) (W : Waits sig Unit) (Q : PUnit → sProp 𝕄) :
    iprop(known V K c ∗ owns c.tc accM fullShare a ∗ home c 1 ∗ inv V c D A b ∗ owes c.tc (owedAt c (sendAt j)) W
      ∗ (iprop(owns c.tc accM fullShare a ∗ inv V c (Function.update D j 1) A b ∗ owes c.tc (owedAt c (sendAt j + 1)) W) -∗ Q ⟨⟩))
      ⊢ run c (stage1 >>= fun _ => send j n) Q := by
  unfold run
  rw [wp_bind, owedAt_send]
  iintro ⟨#Hk, Ha, Hs, Hi, HO, HQ⟩
  iapply (run_stage1 c a) $$ [-]
  isplitl [Ha]; · iexact Ha
  isplitl [Hs]; · unfold home; iexact Hs
  iintro ⟨Ha, Hs⟩
  iapply (run_send V K c j n hn D A b a hD hV (owedAt c (sendAt j + 1)) W) $$ [-]
  isplitr; · iexact Hk
  isplitl [Hs]; · irw [slotHas_of1 c j hj a]; iexact Hs
  isplitl [Hi]; · iexact Hi
  isplitl [HO]; · iexact HO
  iintro ⟨Hi, HO⟩
  iapply HQ
  isplitl [Ha]; · iexact Ha
  isplitl [Hi]; · iexact Hi
  iexact HO

/-- The state before grid point `n`. -/
abbrev stateAt (n : ℕ) : sProp 𝕄 := inv V c (dep n) (arr n) (free n)

theorem pull_facts : ∀ j : Fin 7, j.val < 4 → arr (recvAt j) j = 0 ∧ free (recvAt j) 2 = true
    ∧ Function.update (Function.update (arr (recvAt j)) j 2) j 1 = arr (recvAt j + 1)
    ∧ Function.update (free (recvAt j)) 2 false = free (recvAt j + 1) ∧ dep (recvAt j) = dep (recvAt j + 1)
    ∧ (∀ j', recvAt j ≤ sendAt j' → (![1, 2, 3, 4, 10, 10, 10] : Fin 7 → ℕ) j < (![1, 2, 3, 4, 10, 10, 10] : Fin 7 → ℕ) j')
    ∧ ∀ j', sendAt j' ≠ recvAt j := by decide

/-- Arrival `j` is waited for and its copy begins. -/
theorem ev_pull (j : Fin 7) (hj : j.val < 4) (W : Waits sig Unit) (Q : PUnit → sProp 𝕄) :
    iprop(known V K c ∗ stateAt V c (recvAt j) ∗ owes c.tc (owedAt c (recvAt j)) W
      ∗ (iprop(stateAt V c (recvAt j + 1) ∗ (∃ W, owes c.tc (owedAt c (recvAt j + 1)) W)) -∗ Q ⟨⟩))
      ⊢ run c (waitRecv j >>= fun _ => pull j) Q := by
  obtain ⟨h1, h2, h3, h4, h5, h6, h7⟩ := pull_facts j hj
  unfold run stateAt
  rw [wp_bind, owedAt_quiet c _ h7, ← h3, ← h4, ← h5]
  iintro ⟨#Hk, Hi, HO, HQ⟩
  iapply (run_waitRecv V K c j _ _ _ h1 (recvAt j) h6 W) $$ [-]
  isplitr; · iexact Hk
  isplitl [Hi]; · iexact Hi
  isplitl [HO]; · iexact HO
  iintro ⟨Hi, HO⟩
  iapply (run_pull V c j _ _ _ (Function.update_self _ _ _) h2) $$ [-]
  isplitl [Hi]; · iexact Hi
  iintro Hi
  iapply HQ
  isplitl [Hi]; · iexact Hi
  iexact HO

theorem first_facts : slotOf 0 = 0 ∧ dep 7 0 = 0 ∧ free 7 0 = true ∧ Function.update (dep 7) 0 1 = dep 8 ∧ arr 7 = arr 8
    ∧ Function.update (free 7) 0 false = free 8 := by decide
/-- The first message leaves. -/
theorem ev_first (n : Dev nD) (hn : n = mate 0 c) (a : Vec F S2048x1024 .f32) (hV : flat a = V c 0) (W : Waits sig Unit) (Q : PUnit → sProp 𝕄) :
    iprop(known V K c ∗ owns c.tc accM fullShare a ∗ stateAt V c 7 ∗ owes c.tc (owedAt c 7) W
      ∗ (iprop(owns c.tc accM fullShare a ∗ stateAt V c 8 ∗ (∃ W, owes c.tc (owedAt c 8) W)) -∗ Q ⟨⟩))
      ⊢ run c (stage0 >>= fun _ => send 0 n) Q := by
  obtain ⟨h1, h2, h3, h4, h5, h6⟩ := first_facts
  unfold stateAt
  rw [← h4, ← h5, ← h6]
  iintro ⟨#Hk, Ha, Hi, HO, HQ⟩
  ihave Hi := (inv_take V c _ _ _ 0 h3) $$ Hi
  icases Hi with ⟨Hs, Hi⟩
  iapply (run_ship0 V K c 0 h1 n hn _ _ _ a h2 hV W) $$ [-]
  isplitr; · iexact Hk
  isplitl [Ha]; · iexact Ha
  isplitl [Hs]; · iexact Hs
  isplitl [Hi]; · iexact Hi
  isplitl [HO]; · iexact HO
  iintro ⟨Ha, Hi, HO⟩
  iapply HQ
  isplitl [Ha]; · iexact Ha
  isplitl [Hi]; · iexact Hi
  iexists W; iexact HO

theorem next_facts : ∀ i : Fin 7, i.val < 3 → slotOf i = 0 ∧ slotOf (i + 1) = 0 ∧ dep (sendAt (i + 1)) i = 1
    ∧ Function.update (dep (sendAt (i + 1))) i 2 (i + 1) = 0
    ∧ Function.update (Function.update (dep (sendAt (i + 1))) i 2) (i + 1) 1 = dep (sendAt (i + 1) + 1)
    ∧ arr (sendAt (i + 1)) = arr (sendAt (i + 1) + 1) ∧ free (sendAt (i + 1)) = free (sendAt (i + 1) + 1) := by decide
/-- A later message to the device on the same chip leaves once the one before it has left. -/
theorem ev_next (i : Fin 7) (hi : i.val < 3) (n : Dev nD) (hn : n = mate (i + 1) c) (a : Vec F S2048x1024 .f32) (hV : flat a = V c (i + 1))
    (W : Waits sig Unit) (Q : PUnit → sProp 𝕄) :
    iprop(known V K c ∗ owns c.tc accM fullShare a ∗ stateAt V c (sendAt (i + 1)) ∗ owes c.tc (owedAt c (sendAt (i + 1))) W
      ∗ (iprop(owns c.tc accM fullShare a ∗ stateAt V c (sendAt (i + 1) + 1) ∗ (∃ W, owes c.tc (owedAt c (sendAt (i + 1) + 1)) W)) -∗ Q ⟨⟩))
      ⊢ run c (waitSend i >>= fun _ => stage0 >>= fun _ => send (i + 1) n) Q := by
  obtain ⟨h1, h1', h2, h3, h4, h5, h6⟩ := next_facts i hi
  unfold run stateAt
  rw [wp_bind, ← h4, ← h5, ← h6]
  iintro ⟨#Hk, Ha, Hi, HO, HQ⟩
  iapply (run_waitSend V K c i _ _ _ h2 (sendAt (i + 1)) W) $$ [-]
  isplitr; · iexact Hk
  isplitl [Hi]; · iexact Hi
  isplitl [HO]; · iexact HO
  iintro ⟨Hs, Hi, ⟨%W', HO⟩⟩
  iapply (run_ship0 V K c (i + 1) h1' n hn _ _ _ a h3 hV W') $$ [-]
  isplitr; · iexact Hk
  isplitl [Ha]; · iexact Ha
  isplitl [Hs]; · irw [← h1, home_slot]; iexact Hs
  isplitl [Hi]; · iexact Hi
  isplitl [HO]; · iexact HO
  iintro ⟨Ha, Hi, HO⟩
  iapply HQ
  isplitl [Ha]; · iexact Ha
  isplitl [Hi]; · iexact Hi
  iexists W'; iexact HO

theorem sum_facts : slotOf 4 = 1 ∧ arr 15 0 = 1 ∧ free 15 2 = false ∧ Function.update (free 15) 2 true 1 = true ∧ dep 15 4 = 0
    ∧ Function.update (dep 15) 4 1 = dep 16 ∧ Function.update (arr 15) 0 2 = arr 16
    ∧ Function.update (Function.update (free 15) 2 true) 1 false = free 16 := by decide
/-- The first sum is made and leaves for another chip. -/
theorem ev_sum (n : Dev nD) (hn : n = mate 4 c) (a : Vec F S2048x1024 .f32) (hV : flat (k0_pay2 a (V (mate 0 c) 0)) = V c 4)
    (W : Waits sig Unit) (Q : PUnit → sProp 𝕄) :
    iprop(known V K c ∗ owns c.tc accM fullShare a ∗ stateAt V c 15 ∗ owes c.tc (owedAt c 15) W
      ∗ (iprop(owns c.tc accM fullShare (k0_pay2 a (V (mate 0 c) 0)) ∗ stateAt V c 16 ∗ (∃ W, owes c.tc (owedAt c 16) W)) -∗ Q ⟨⟩))
      ⊢ run c (addIn 0 >>= fun _ => stage1 >>= fun _ => send 4 n) Q := by
  obtain ⟨h1, h2, h3, h4, h5, h6, h7, h8⟩ := sum_facts
  unfold run stateAt
  rw [wp_bind, ← h6, ← h7, ← h8]
  iintro ⟨#Hk, Ha, Hi, HO, HQ⟩
  iapply (run_addIn V K c 0 _ _ _ h2 h3 a 15 W) $$ [-]
  isplitr; · iexact Hk
  isplitl [Ha]; · iexact Ha
  isplitl [Hi]; · iexact Hi
  isplitl [HO]; · iexact HO
  iintro ⟨Ha, Hi, ⟨%W', HO⟩⟩
  ihave Hi := (inv_take V c _ _ _ 1 h4) $$ Hi
  icases Hi with ⟨Hs, Hi⟩
  iapply (run_ship1 V K c 4 h1 n hn _ _ _ _ h5 hV W') $$ [-]
  isplitr; · iexact Hk
  isplitl [Ha]; · iexact Ha
  isplitl [Hs]; · iexact Hs
  isplitl [Hi]; · iexact Hi
  isplitl [HO]; · iexact HO
  iintro ⟨Ha, Hi, HO⟩
  iapply HQ
  isplitl [Ha]; · iexact Ha
  isplitl [Hi]; · iexact Hi
  iexists W'; iexact HO

theorem sumNext_facts : ∀ i : Fin 7, i.val < 2 → slotOf (i + 4) = 1 ∧ slotOf (i + 5) = 1 ∧ arr (sendAt (i + 5)) (i + 1) = 1 ∧ free (sendAt (i + 5)) 2 = false
    ∧ dep (sendAt (i + 5)) (i + 4) = 1 ∧ Function.update (dep (sendAt (i + 5))) (i + 4) 2 (i + 5) = 0
    ∧ Function.update (Function.update (dep (sendAt (i + 5))) (i + 4) 2) (i + 5) 1 = dep (sendAt (i + 5) + 1)
    ∧ Function.update (arr (sendAt (i + 5))) (i + 1) 2 = arr (sendAt (i + 5) + 1)
    ∧ Function.update (free (sendAt (i + 5))) 2 true = free (sendAt (i + 5) + 1) := by decide
/-- A later sum is made and leaves once the one before it has left. -/
theorem ev_sumNext (i : Fin 7) (hi : i.val < 2) (n : Dev nD) (hn : n = mate (i + 5) c) (a : Vec F S2048x1024 .f32)
    (hV : flat (k0_pay2 a (V (mate (i + 1) c) (i + 1))) = V c (i + 5)) (W : Waits sig Unit) (Q : PUnit → sProp 𝕄) :
    iprop(known V K c ∗ owns c.tc accM fullShare a ∗ stateAt V c (sendAt (i + 5)) ∗ owes c.tc (owedAt c (sendAt (i + 5))) W
      ∗ (iprop(owns c.tc accM fullShare (k0_pay2 a (V (mate (i + 1) c) (i + 1))) ∗ stateAt V c (sendAt (i + 5) + 1)
          ∗ (∃ W, owes c.tc (owedAt c (sendAt (i + 5) + 1)) W)) -∗ Q ⟨⟩))
      ⊢ run c (addIn (i + 1) >>= fun _ => waitSend (i + 4) >>= fun _ => stage1 >>= fun _ => send (i + 5) n) Q := by
  obtain ⟨h1, h1', h2, h3, h4, h5, h6, h7, h8⟩ := sumNext_facts i hi
  unfold run stateAt
  rw [wp_bind, ← h6, ← h7, ← h8]
  iintro ⟨#Hk, Ha, Hi, HO, HQ⟩
  iapply (run_addIn V K c (i + 1) _ _ _ h2 h3 a (sendAt (i + 5)) W) $$ [-]
  isplitr; · iexact Hk
  isplitl [Ha]; · iexact Ha
  isplitl [Hi]; · iexact Hi
  isplitl [HO]; · iexact HO
  iintro ⟨Ha, Hi, ⟨%W', HO⟩⟩
  rw [wp_bind]
  iapply (run_waitSend V K c (i + 4) _ _ _ h4 (sendAt (i + 5)) W') $$ [-]
  isplitr; · iexact Hk
  isplitl [Hi]; · iexact Hi
  isplitl [HO]; · iexact HO
  iintro ⟨Hs, Hi, ⟨%W2, HO⟩⟩
  iapply (run_ship1 V K c (i + 5) h1' n hn _ _ _ _ h5 hV W2) $$ [-]
  isplitr; · iexact Hk
  isplitl [Ha]; · iexact Ha
  isplitl [Hs]; · irw [← h1, home_slot]; iexact Hs
  isplitl [Hi]; · iexact Hi
  isplitl [HO]; · iexact HO
  iintro ⟨Ha, Hi, HO⟩
  iapply HQ
  isplitl [Ha]; · iexact Ha
  isplitl [Hi]; · iexact Hi
  iexists W2; iexact HO

theorem end_facts : arr 63 3 = 1 ∧ free 63 2 = false ∧ Function.update (free 63) 2 true 2 = true ∧ dep 63 3 = 1
    ∧ Function.update (dep 63) 3 2 6 = 1 ∧ Function.update (arr 63) 3 2 4 = 0 ∧ Function.update (Function.update (arr 63) 3 2) 4 2 5 = 0
    ∧ Function.update (Function.update (Function.update (arr 63) 3 2) 4 2) 5 2 6 = 0
    ∧ Function.update (Function.update (dep 63) 3 2) 6 2 = dep 64
    ∧ Function.update (Function.update (Function.update (Function.update (arr 63) 3 2) 4 2) 5 2) 6 2 = arr 64
    ∧ Function.update (free 63) 2 true 0 = false ∧ Function.update (Function.update (free 63) 2 true) 0 true 1 = false
    ∧ Function.update (Function.update (Function.update (free 63) 2 true) 0 true) 1 true = free 64
    ∧ (∀ j j' : Fin 7, 63 ≤ sendAt j' → (![1, 2, 3, 4, 10, 10, 10] : Fin 7 → ℕ) j < (![1, 2, 3, 4, 10, 10, 10] : Fin 7 → ℕ) j') := by decide
/-- The last sum is made and kept, and all messages have left and come. -/
theorem ev_end (a : Vec F S2048x1024 .f32) (W : Waits sig Unit) (Q : PUnit → sProp 𝕄) :
    iprop(known V K c ∗ owns c.tc accM fullShare a ∗ (∃ d, owns c.tc ownM fullShare d) ∗ stateAt V c 63
      ∗ owes c.tc (owedAt c 63) W
      ∗ (iprop(owns c.tc accM fullShare (k0_pay2 a (V (mate 3 c) 3)) ∗ owns c.tc ownM fullShare (k0_pay2 a (V (mate 3 c) 3))
          ∗ stateAt V c 64 ∗ (∃ W, owes c.tc (owedAt c 64) W)) -∗ Q ⟨⟩))
      ⊢ run c finish Q := by
  obtain ⟨h1, h2, h3, h4, h5, h6, h7, h8, h9, h10, h11, h12, h13, h14⟩ := end_facts
  unfold run stateAt finish
  rw [wp_bind, ← h9, ← h10, ← h13, owedAt_quiet c 63 (by decide)]
  iintro ⟨#Hk, Ha, Hown, Hi, HO, HQ⟩
  iapply (run_addIn V K c 3 _ _ _ h1 h2 a 63 W) $$ [-]
  isplitr; · iexact Hk
  isplitl [Ha]; · iexact Ha
  isplitl [Hi]; · iexact Hi
  isplitl [HO]; · iexact HO
  iintro ⟨Ha, Hi, ⟨%W1, HO⟩⟩
  rw [wp_bind]
  iapply (run_keepOwn V K c _ _ _ h3 _ 63 W1) $$ [-]
  isplitr; · iexact Hk
  isplitl [Ha]; · iexact Ha
  isplitl [Hown]; · iexact Hown
  isplitl [Hi]; · iexact Hi
  isplitl [HO]; · iexact HO
  iintro ⟨Ha, Hown, Hi, ⟨%W2, HO⟩⟩
  rw [wp_bind]
  iapply (run_waitSend V K c 3 _ _ _ h4 63 W2) $$ [-]
  isplitr; · iexact Hk
  isplitl [Hi]; · iexact Hi
  isplitl [HO]; · iexact HO
  iintro ⟨Hs, Hi, ⟨%W3, HO⟩⟩
  rw [wp_bind]
  iapply (run_waitSend V K c 6 _ _ _ h5 63 W3) $$ [-]
  isplitr; · iexact Hk
  isplitl [Hi]; · iexact Hi
  isplitl [HO]; · iexact HO
  iintro ⟨Hs', Hi, ⟨%W4, HO⟩⟩
  rw [wp_bind]
  iapply (run_waitRecv V K c 4 _ _ _ h6 63 (h14 4) W4) $$ [-]
  isplitr; · iexact Hk
  isplitl [Hi]; · iexact Hi
  isplitl [HO]; · iexact HO
  iintro ⟨Hi, ⟨%W5, HO⟩⟩
  rw [wp_bind]
  iapply (run_waitRecv V K c 5 _ _ _ h7 63 (h14 5) W5) $$ [-]
  isplitr; · iexact Hk
  isplitl [Hi]; · iexact Hi
  isplitl [HO]; · iexact HO
  iintro ⟨Hi, ⟨%W6, HO⟩⟩
  iapply (run_waitRecv V K c 6 _ _ _ h8 63 (h14 6) W6) $$ [-]
  isplitr; · iexact Hk
  isplitl [Hi]; · iexact Hi
  isplitl [HO]; · iexact HO
  iintro ⟨Hi, HO⟩
  ihave Hi := (inv_put V c _ _ _ 0 h11) $$ [Hs Hi]
  · isplitl [Hs]; · irw [show home (F := F) c 0 = slotAny c 3 from home_slot c 3]; iexact Hs
    iexact Hi
  ihave Hi := (inv_put V c _ _ _ 1 h12) $$ [Hs' Hi]
  · isplitl [Hs']; · irw [show home (F := F) c 1 = slotAny c 6 from home_slot c 6]; iexact Hs'
    iexact Hi
  iapply HQ
  isplitl [Ha]; · iexact Ha
  isplitl [Hown]; · iexact Hown
  isplitl [Hi]; · iexact Hi
  iexact HO

end Cert.Sc

end
-- ==== Proof.Scatter.Rest.lean ====
module

public import proofs.«01_k».proof.Proof.Scatter.Events

/-!
# The weight gradient's exchange: a grid point's second part

At twelve of the 64 grid points something of the exchange is due; at the others nothing is.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

variable (x : Data F) (K : Names) (c : Dev nD)

/-! ### What is due at each grid point -/

section Due
variable (t : Fin grid0.N) (d : Dev nD)
attribute [local simp] cond4_iff pull0_iff cond6_iff cond7_iff pull1_iff cond9_iff cond10_iff pull2_iff cond12_iff cond13_iff pull3_iff end_iff bind_pure_unit

theorem due_first (h : t.val = 7) : rest (F := F) (grid0.coords t) d = (stage0 >>= fun _ => send 0 ⟨k0_dev1 d, (dev1_lt d).trans_lt (mate 0 d).isLt⟩) := by simp [rest, h, -Prog.pure_eq_ret]
theorem due_pull0 (h : t.val = 9) : rest (F := F) (grid0.coords t) d = (waitRecv 0 >>= fun _ => pull 0) := by simp [rest, h, -Prog.pure_eq_ret]
theorem due_pull1 (h : t.val = 25) : rest (F := F) (grid0.coords t) d = (waitRecv 1 >>= fun _ => pull 1) := by simp [rest, h, -Prog.pure_eq_ret]
theorem due_pull2 (h : t.val = 41) : rest (F := F) (grid0.coords t) d = (waitRecv 2 >>= fun _ => pull 2) := by simp [rest, h, -Prog.pure_eq_ret]
theorem due_pull3 (h : t.val = 57) : rest (F := F) (grid0.coords t) d = (waitRecv 3 >>= fun _ => pull 3) := by simp [rest, h, -Prog.pure_eq_ret]
theorem due_sum0 (h : t.val = 15) : rest (F := F) (grid0.coords t) d = (addIn 0 >>= fun _ => stage1 >>= fun _ => send 4 ⟨k0_dev2 d, (dev2_lt d).trans_lt (mate 4 d).isLt⟩) := by simp [rest, h, -Prog.pure_eq_ret]
theorem due_sum1 (h : t.val = 31) : rest (F := F) (grid0.coords t) d = (addIn 1 >>= fun _ => waitSend 4 >>= fun _ => stage1 >>= fun _ => send 5 ⟨k0_dev4 d, (dev4_lt d).trans_lt (mate 5 d).isLt⟩) := by simp [rest, h, -Prog.pure_eq_ret]
theorem due_sum2 (h : t.val = 47) : rest (F := F) (grid0.coords t) d = (addIn 2 >>= fun _ => waitSend 5 >>= fun _ => stage1 >>= fun _ => send 6 ⟨k0_dev6 d, (dev6_lt d).trans_lt (mate 6 d).isLt⟩) := by simp [rest, h, -Prog.pure_eq_ret]
theorem due_next1 (h : t.val = 23) : rest (F := F) (grid0.coords t) d = (waitSend 0 >>= fun _ => stage0 >>= fun _ => send 1 ⟨k0_dev3 d, (dev3_lt d).trans_lt (mate 1 d).isLt⟩) := by simp [rest, h, -Prog.pure_eq_ret]
theorem due_next2 (h : t.val = 39) : rest (F := F) (grid0.coords t) d = (waitSend 1 >>= fun _ => stage0 >>= fun _ => send 2 ⟨k0_dev5 d, (dev5_lt d).trans_lt (mate 2 d).isLt⟩) := by simp [rest, h, -Prog.pure_eq_ret]
theorem due_next3 (h : t.val = 55) : rest (F := F) (grid0.coords t) d = (waitSend 2 >>= fun _ => stage0 >>= fun _ => send 3 ⟨k0_dev7 d, (dev7_lt d).trans_lt (mate 3 d).isLt⟩) := by simp [rest, h, -Prog.pure_eq_ret]
theorem due_end (h : t.val = 63) : rest (F := F) (grid0.coords t) d = finish := by simp [rest, h, -Prog.pure_eq_ret]

/-- The grid points at which something is due. -/
def events : List ℕ := [7, 9, 15, 23, 25, 31, 39, 41, 47, 55, 57, 63]
theorem due_none (h : t.val ∉ events) : rest (F := F) (grid0.coords t) d = pure ⟨⟩ := by
  simp only [events, List.mem_cons, List.not_mem_nil, or_false, not_or] at h
  obtain ⟨h1, h2, h3, h4, h5, h6, h7, h8, h9, h10, h11, h12⟩ := h
  unfold rest
  simp only [cond4_iff, pull0_iff, cond6_iff, cond7_iff, pull1_iff, cond9_iff, cond10_iff, pull2_iff, cond12_iff, cond13_iff, pull3_iff, end_iff, h1, h2, h3, h4, h5, h6, h7, h8, h9, h10, h11, h12, ↓reduceDIte, ↓reduceIte, dite_false, pure_bind, bind_pure_unit, bind_pure]
end Due

theorem quiet_facts : ∀ t : Fin grid0.N, t.val ∉ events → dep t.val = dep (t.val + 1) ∧ arr t.val = arr (t.val + 1) ∧ free t.val = free (t.val + 1)
    ∧ ∀ j, sendAt j ≠ t.val := by decide

/-- The device's own sum, once all is done. -/
def ownP (n : ℕ) : sProp 𝕄 := iprop(∃ d, ⌜n = 64 → d = both x c 3⌝ ∗ owns c.tc ownM fullShare d)

/-- What holds before grid point `n` of the exchange, of the accumulator and of the result. -/
def heldAt (n : ℕ) : sProp 𝕄 := iprop(accP x c n ∗ ownP x c n ∗ stateAt (msg x) c n ∗ (∃ W, owes c.tc (owedAt c n) W))

theorem accP_intro (n : ℕ) (a : Vec F S2048x1024 .f32) (h : n % 8 ≠ 0 → a = part x c (n / 8) (n % 8)) :
    (owns c.tc accM fullShare a : sProp 𝕄) ⊢ accP x c n := by
  unfold accP; iintro H; iexists a; isplitr; swap; · iexact H
  ipureintro; exact h
theorem ownP_later (n : ℕ) (h : n ≠ 63) (h' : n ≠ 64) : ownP x c n ⊢ ownP x c (n + 1) := by
  unfold ownP; iintro ⟨%d, -, H⟩; iexists d; isplitr; swap; · iexact H
  ipureintro; intro h2; omega

theorem heldAt_intro (n : ℕ) (h0 : n ≠ 63) (h1 : n ≠ 64) (a : Vec F S2048x1024 .f32) (h : (n + 1) % 8 ≠ 0 → a = part x c ((n + 1) / 8) ((n + 1) % 8)) :
    iprop(owns c.tc accM fullShare a ∗ ownP x c n ∗ stateAt (msg x) c (n + 1) ∗ (∃ W, owes c.tc (owedAt c (n + 1)) W)) ⊢ heldAt x c (n + 1) := by
  unfold heldAt
  iintro ⟨Ha, Hown, Hi, HO⟩
  isplitl [Ha]; · iapply (accP_intro x c (n + 1) a h); iexact Ha
  isplitl [Hown]; · iapply (ownP_later x c n h0 h1); iexact Hown
  isplitl [Hi]; · iexact Hi
  iexact HO

variable (t : Fin grid0.N)

theorem run_rest (W : Waits sig Unit) (Q : PUnit → sProp 𝕄) :
    iprop(known (msg x) K c ∗ owns c.tc accM fullShare (part x c (t.val / 8) (t.val % 8 + 1)) ∗ ownP x c t.val
      ∗ stateAt (msg x) c t.val ∗ owes c.tc (owedAt c t.val) W ∗ (heldAt x c (t.val + 1) -∗ Q ⟨⟩))
      ⊢ run c (rest (grid0.coords t) c) Q := by
  have hN : t.val < 64 := lt_of_lt_of_eq t.isLt N_0
  by_cases hq : t.val ∉ events
  · obtain ⟨h1, h2, h3, h4⟩ := quiet_facts t hq
    rw [due_none t c hq]
    unfold run stateAt heldAt
    simp only [Prog.pure_eq_ret]
    rw [wp_ret, h1, h2, h3, ← owedAt_quiet c t.val h4]
    iintro ⟨-, Ha, Hown, Hi, HO, HQ⟩
    imodintro
    iapply HQ
    isplitl [Ha]; · iapply (accP_intro x c (t.val + 1) _ (fun h => by rw [show (t.val + 1) / 8 = t.val / 8 by omega, show (t.val + 1) % 8 = t.val % 8 + 1 by omega])); iexact Ha
    isplitl [Hown]; · iapply (ownP_later x c t.val (fun h => hq (by rw [h]; decide)) (by omega)); iexact Hown
    isplitl [Hi]; · iexact Hi
    iexists W; iexact HO
  · have he : t.val = 7 ∨ t.val = 9 ∨ t.val = 15 ∨ t.val = 23 ∨ t.val = 25 ∨ t.val = 31 ∨ t.val = 39 ∨ t.val = 41 ∨ t.val = 47 ∨ t.val = 55 ∨ t.val = 57 ∨ t.val = 63 := by
      rw [not_not] at hq; simpa [events] using hq
    rcases he with h | h | h | h | h | h | h | h | h | h | h | h
    · rw [due_first t c h, h]
      iintro ⟨#Hk, Ha, Hown, Hi, HO, HQ⟩
      iapply (ev_first (msg x) K c _ (Fin.ext (dev1_lt c)) _ rfl W) $$ [-]
      isplitr; · iexact Hk
      isplitl [Ha]; · iexact Ha
      isplitl [Hi]; · iexact Hi
      isplitl [HO]; · iexact HO
      iintro ⟨Ha, Hi, HO⟩
      iapply HQ
      iapply (heldAt_intro x c 7 (by decide) (by decide) _ (fun h => absurd rfl h))
      isplitl [Ha]; · iexact Ha
      isplitl [Hown]; · iexact Hown
      isplitl [Hi]; · iexact Hi
      iexact HO
    · rw [due_pull0 t c h, h]
      iintro ⟨#Hk, Ha, Hown, Hi, HO, HQ⟩
      iapply (ev_pull (msg x) K c 0 (by decide) W) $$ [-]
      isplitr; · iexact Hk
      isplitl [Hi]; · iexact Hi
      isplitl [HO]; · iexact HO
      iintro ⟨Hi, HO⟩
      iapply HQ
      iapply (heldAt_intro x c 9 (by decide) (by decide) _ (fun _ => rfl))
      isplitl [Ha]; · iexact Ha
      isplitl [Hown]; · iexact Hown
      isplitl [Hi]; · iexact Hi
      iexact HO
    · rw [due_sum0 t c h, h]
      iintro ⟨#Hk, Ha, Hown, Hi, HO, HQ⟩
      iapply (ev_sum (msg x) K c _ (Fin.ext (dev2_lt c)) _ rfl W) $$ [-]
      isplitr; · iexact Hk
      isplitl [Ha]; · iexact Ha
      isplitl [Hi]; · iexact Hi
      isplitl [HO]; · iexact HO
      iintro ⟨Ha, Hi, HO⟩
      iapply HQ
      iapply (heldAt_intro x c 15 (by decide) (by decide) _ (fun h => absurd rfl h))
      isplitl [Ha]; · iexact Ha
      isplitl [Hown]; · iexact Hown
      isplitl [Hi]; · iexact Hi
      iexact HO
    · rw [due_next1 t c h, h]
      iintro ⟨#Hk, Ha, Hown, Hi, HO, HQ⟩
      iapply (ev_next (msg x) K c 0 (by decide) _ (Fin.ext (dev3_lt c)) _ rfl W) $$ [-]
      isplitr; · iexact Hk
      isplitl [Ha]; · iexact Ha
      isplitl [Hi]; · iexact Hi
      isplitl [HO]; · iexact HO
      iintro ⟨Ha, Hi, HO⟩
      iapply HQ
      iapply (heldAt_intro x c 23 (by decide) (by decide) _ (fun h => absurd rfl h))
      isplitl [Ha]; · iexact Ha
      isplitl [Hown]; · iexact Hown
      isplitl [Hi]; · iexact Hi
      iexact HO
    · rw [due_pull1 t c h, h]
      iintro ⟨#Hk, Ha, Hown, Hi, HO, HQ⟩
      iapply (ev_pull (msg x) K c 1 (by decide) W) $$ [-]
      isplitr; · iexact Hk
      isplitl [Hi]; · iexact Hi
      isplitl [HO]; · iexact HO
      iintro ⟨Hi, HO⟩
      iapply HQ
      iapply (heldAt_intro x c 25 (by decide) (by decide) _ (fun _ => rfl))
      isplitl [Ha]; · iexact Ha
      isplitl [Hown]; · iexact Hown
      isplitl [Hi]; · iexact Hi
      iexact HO
    · rw [due_sum1 t c h, h]
      iintro ⟨#Hk, Ha, Hown, Hi, HO, HQ⟩
      iapply (ev_sumNext (msg x) K c 0 (by decide) _ (Fin.ext (dev4_lt c)) _ rfl W) $$ [-]
      isplitr; · iexact Hk
      isplitl [Ha]; · iexact Ha
      isplitl [Hi]; · iexact Hi
      isplitl [HO]; · iexact HO
      iintro ⟨Ha, Hi, HO⟩
      iapply HQ
      iapply (heldAt_intro x c 31 (by decide) (by decide) _ (fun h => absurd rfl h))
      isplitl [Ha]; · iexact Ha
      isplitl [Hown]; · iexact Hown
      isplitl [Hi]; · iexact Hi
      iexact HO
    · rw [due_next2 t c h, h]
      iintro ⟨#Hk, Ha, Hown, Hi, HO, HQ⟩
      iapply (ev_next (msg x) K c 1 (by decide) _ (Fin.ext (dev5_lt c)) _ rfl W) $$ [-]
      isplitr; · iexact Hk
      isplitl [Ha]; · iexact Ha
      isplitl [Hi]; · iexact Hi
      isplitl [HO]; · iexact HO
      iintro ⟨Ha, Hi, HO⟩
      iapply HQ
      iapply (heldAt_intro x c 39 (by decide) (by decide) _ (fun h => absurd rfl h))
      isplitl [Ha]; · iexact Ha
      isplitl [Hown]; · iexact Hown
      isplitl [Hi]; · iexact Hi
      iexact HO
    · rw [due_pull2 t c h, h]
      iintro ⟨#Hk, Ha, Hown, Hi, HO, HQ⟩
      iapply (ev_pull (msg x) K c 2 (by decide) W) $$ [-]
      isplitr; · iexact Hk
      isplitl [Hi]; · iexact Hi
      isplitl [HO]; · iexact HO
      iintro ⟨Hi, HO⟩
      iapply HQ
      iapply (heldAt_intro x c 41 (by decide) (by decide) _ (fun _ => rfl))
      isplitl [Ha]; · iexact Ha
      isplitl [Hown]; · iexact Hown
      isplitl [Hi]; · iexact Hi
      iexact HO
    · rw [due_sum2 t c h, h]
      iintro ⟨#Hk, Ha, Hown, Hi, HO, HQ⟩
      iapply (ev_sumNext (msg x) K c 1 (by decide) _ (Fin.ext (dev6_lt c)) _ rfl W) $$ [-]
      isplitr; · iexact Hk
      isplitl [Ha]; · iexact Ha
      isplitl [Hi]; · iexact Hi
      isplitl [HO]; · iexact HO
      iintro ⟨Ha, Hi, HO⟩
      iapply HQ
      iapply (heldAt_intro x c 47 (by decide) (by decide) _ (fun h => absurd rfl h))
      isplitl [Ha]; · iexact Ha
      isplitl [Hown]; · iexact Hown
      isplitl [Hi]; · iexact Hi
      iexact HO
    · rw [due_next3 t c h, h]
      iintro ⟨#Hk, Ha, Hown, Hi, HO, HQ⟩
      iapply (ev_next (msg x) K c 2 (by decide) _ (Fin.ext (dev7_lt c)) _ rfl W) $$ [-]
      isplitr; · iexact Hk
      isplitl [Ha]; · iexact Ha
      isplitl [Hi]; · iexact Hi
      isplitl [HO]; · iexact HO
      iintro ⟨Ha, Hi, HO⟩
      iapply HQ
      iapply (heldAt_intro x c 55 (by decide) (by decide) _ (fun h => absurd rfl h))
      isplitl [Ha]; · iexact Ha
      isplitl [Hown]; · iexact Hown
      isplitl [Hi]; · iexact Hi
      iexact HO
    · rw [due_pull3 t c h, h]
      iintro ⟨#Hk, Ha, Hown, Hi, HO, HQ⟩
      iapply (ev_pull (msg x) K c 3 (by decide) W) $$ [-]
      isplitr; · iexact Hk
      isplitl [Hi]; · iexact Hi
      isplitl [HO]; · iexact HO
      iintro ⟨Hi, HO⟩
      iapply HQ
      iapply (heldAt_intro x c 57 (by decide) (by decide) _ (fun _ => rfl))
      isplitl [Ha]; · iexact Ha
      isplitl [Hown]; · iexact Hown
      isplitl [Hi]; · iexact Hi
      iexact HO
    · rw [due_end t c h, h]
      unfold ownP
      iintro ⟨#Hk, Ha, ⟨%d, -, Hown⟩, Hi, HO, HQ⟩
      iapply (ev_end (msg x) K c _ W) $$ [-]
      isplitr; · iexact Hk
      isplitl [Ha]; · iexact Ha
      isplitl [Hown]; · iexists d; iexact Hown
      isplitl [Hi]; · iexact Hi
      isplitl [HO]; · iexact HO
      iintro ⟨Ha, Hown, Hi, HO⟩
      iapply HQ
      unfold heldAt ownP
      isplitl [Ha]; · iapply (accP_intro x c 64 _ (fun h => absurd rfl h)); iexact Ha
      isplitl [Hown]
      · iexists _; isplitr; swap; · iexact Hown
        ipureintro; exact fun _ => rfl
      isplitl [Hi]; · iexact Hi
      iexact HO

end Cert.Sc

end
-- ==== Proof.Scatter.Body.lean ====
module

public import proofs.«01_k».proof.Proof.Scatter.Rest

/-!
# The weight gradient's exchange: one grid point

Every order of the blocks keeps the staged blocks inside their arrays. A grid point carries what holds before
it to what holds before the next.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (Dat Cfg Window BodyObligation cellOf)

/-! ### The order of the blocks keeps every staged block inside its array -/

theorem clamp_lt (v : BitVec 32) : (Scalar.minsi 3#32 (Scalar.maxsi 0#32 v)).toNat ≤ 3 := by
  have h0 : ¬ BitVec.slt (Scalar.maxsi 0#32 v) 0#32 = true := by
    simp only [Scalar.maxsi, IntOp.maxsi]
    by_cases h : BitVec.slt v 0#32 = true
    · rw [if_pos h]; decide
    · rw [if_neg h]; exact h
  simp only [Scalar.minsi, IntOp.minsi]
  revert h0
  generalize Scalar.maxsi 0#32 v = w
  intro h0
  by_cases h : BitVec.slt 3#32 w = true
  · rw [if_pos h]; decide
  · rw [if_neg h]
    rw [BitVec.slt_iff_toInt_lt] at h h0
    rw [show (3#32 : BitVec 32).toInt = 3 from by decide] at h
    rw [show (0#32 : BitVec 32).toInt = 0 from by decide] at h0
    have hw := BitVec.toInt_eq_toNat_cond w
    have hl := w.isLt
    split at hw <;> omega

theorem step_lt (i : grid0.Coords) : (BitVec.ofNat 32 (i 1).val).toNat < 8 := by
  rw [BitVec.toNat_ofNat]; exact (Nat.mod_le _ _).trans_lt (i 1).isLt

/-- Any order of the blocks is admissible. -/
theorem ok_any (pf : pre0.Contents (Elt F)) : ok0 pf := by
  constructor
  · intro i
    have h : ∀ a, (cc0_transform_0 k0_off1_inb numel1_S1 pf i a + 1) * S1x1024x1024.size a ≤ S4x8192x1024.size a := by
      intro a
      match a with
      | ⟨0, _⟩ => exact Nat.mul_le_mul_right 1 (Nat.succ_le_succ (clamp_lt _))
      | ⟨1, _⟩ => exact Nat.mul_le_mul_right 1024 (step_lt i)
      | ⟨2, _⟩ => exact le_refl _
    exact ⟨h, .inr (Affine.block_words_dvd (of_decide_eq_true rfl) (by decide))⟩
  · intro i
    have h : ∀ a, (cc0_transform_1 k0_off1_inb numel1_S1 pf i a + 1) * S1x1024x1024.size a ≤ S4x8192x1024.size a := by
      intro a
      match a with
      | ⟨0, _⟩ => exact Nat.mul_le_mul_right 1 (Nat.succ_le_succ (clamp_lt _))
      | ⟨1, _⟩ => exact Nat.mul_le_mul_right 1024 (step_lt i)
      | ⟨2, _⟩ => exact le_refl _
    exact ⟨h, .inr (Affine.block_words_dvd (of_decide_eq_true rfl) (by decide))⟩

variable (m : (ℓ : Loc nD τ sig) → Buf (Elt F) ℓ)

/-- A device's order of the blocks, as launched. -/
def tabs (c : Dev nD) : pre0.Contents (Elt F) := fun k => m (c.tc.loc (pre0.ref k))
/-- It is admissible. -/
def adm (c : Dev nD) : (pcfg0 (F := F)).Adm := ⟨tabs m c, ok_any _⟩

/-- A window's block of its array at a grid point, as launched. -/
def blkAt (c : Dev nD) (w : Fin 3) (t : Fin grid0.N) : ((win0 (adm m c) w).xblock (grid0.coords t)).Idx → Elt F (win0 (adm m c) w).elt :=
  ((win0 (adm m c) w).blk t).view.read (Elt F) (m (c.tc.loc (Pipeline.arrRef spec0 w)))

/-- What the launch stages. -/
def data : Data F where
  tab c := tabs m c 0
  zh c t := blkAt m c 0 t
  za c t := blkAt m c 1 t
  h c t := blkAt m c 2 t

/-- What holds before grid point `n`. -/
def Phi (c : Dev nD) (n : ℕ) : sProp 𝕄 :=
  iprop((∃ K, known (msg (data m)) K c) ∗ accP (data m) c n ∗ ownP (data m) c n ∗ stateAt (msg (data m)) c n ∗ tabP c ((data m).tab c))

/-- What each staged block holds after each point, and what holds between the points. -/
def dats (_ : Fin 1) (c : Dev nD) : Dat τ (Elt F) Unit ℕ (UU nD τ) ℕ (cfg0 (adm m c)) c where
  A w := m (c.tc.loc (Pipeline.arrRef spec0 w))
  after w t := blkAt m c w t
  Φ n := Phi m c n.val
  q _ := fullShare
  owed n := owedAt c n.val

theorem before_0 (c : Dev nD) (t : Fin grid0.N) (d) : (dats m 0 c).before 0 t d = (data m).zh c t :=
  ((dats m 0 c).before_in_eq_fetched 0 rfl (fun _ => rfl) (fun _ _ _ => rfl) (fun _ => rfl) t d).trans rfl
theorem before_1 (c : Dev nD) (t : Fin grid0.N) (d) : (dats m 0 c).before 1 t d = (data m).za c t :=
  ((dats m 0 c).before_in_eq_fetched 1 rfl (fun _ => rfl) (fun _ _ _ => rfl) (fun _ => rfl) t d).trans rfl
theorem before_2 (c : Dev nD) (t : Fin grid0.N) (d) : (dats m 0 c).before 2 t d = (data m).h c t :=
  ((dats m 0 c).before_in_eq_fetched 2 rfl (fun _ => rfl) (fun _ _ _ => rfl) (fun _ => rfl) t d).trans rfl

/-! ### The body obligation -/

variable (c : Dev nD) (t : Fin grid0.N)

/-- The body at point `t`, on the staging buffers of that point. -/
abbrev slot (w : Fin 3) : Fin (spec0 w).nbuf := (cfg0 (adm m c)).slots t w
abbrev bodyAt : Pr F PUnit :=
  step (grid0.coords t) (spec0_0.stage (slot m c t 0)) (hstage0_0 ((slot m c t 0).cast nbuf0_0))
    (spec0_1.stage (slot m c t 1)) (hstage0_1 ((slot m c t 1).cast nbuf0_1))
    (spec0_2.stage (slot m c t 2)) (hstage0_2 ((slot m c t 2).cast nbuf0_2))

theorem defs₀_row : defs₀ (F := F) .tc (cfg0 (adm m c)).body ((cfg0 (adm m c)).bodyArgs t ((cfg0 (adm m c)).slots t)) = bodyAt m c t := by
  unfold defs₀; rw [Defs.onTc_tc]

theorem run_body (W : Waits sig Unit) (Q : PUnit → sProp 𝕄) :
    iprop(Phi m c t.val ∗ owes c.tc (owedAt c t.val) W
      ∗ staged (data m) c t (spec0_0.stage (slot m c t 0)) (spec0_1.stage (slot m c t 1)) (spec0_2.stage (slot m c t 2))
      ∗ (iprop(Phi m c (t.val + 1) ∗ (∃ W, owes c.tc (owedAt c (t.val + 1)) W)
          ∗ staged (data m) c t (spec0_0.stage (slot m c t 0)) (spec0_1.stage (slot m c t 1)) (spec0_2.stage (slot m c t 2))) -∗ Q ⟨⟩))
      ⊢ run c (bodyAt m c t) Q := by
  unfold bodyAt
  rw [step_eq]
  unfold run Phi
  rw [wp_bind]
  iintro ⟨⟨⟨%K, #Hk⟩, Ha, Hown, Hi, Ht⟩, HO, Hst, HQ⟩
  iapply (run_front (data m) c t) $$ [-]
  isplitl [Hst]; · iexact Hst
  isplitl [Ha]; · iexact Ha
  isplitl [Ht]; · iexact Ht
  iintro ⟨Hst, Ha, Ht⟩
  iapply (run_rest (data m) K c t W) $$ [-]
  isplitr; · iexact Hk
  isplitl [Ha]; · iexact Ha
  isplitl [Hown]; · iexact Hown
  isplitl [Hi]; · iexact Hi
  isplitl [HO]; · iexact HO
  unfold heldAt
  iintro ⟨Ha, Hown, Hi, HO⟩
  iapply HQ
  isplitr [HO Hst]
  · isplitr; · iexists K; iexact Hk
    isplitl [Ha]; · iexact Ha
    isplitl [Hown]; · iexact Hown
    isplitl [Hi]; · iexact Hi
    iexact Ht
  isplitl [HO]; · iexact HO
  iexact Hst

/-- What the body is called with, and what it returns. -/
def bodyPre : sProp 𝕄 :=
  iprop((dats m 0 c).Φ t.castSucc ∗ (dats m 0 c).owesAt () t.castSucc
    ∗ (∃ d, owns c.tc (spec0_0.stage (slot m c t 0)) fullShare ((dats m 0 c).before 0 t d))
    ∗ (∃ d, owns c.tc (spec0_1.stage (slot m c t 1)) fullShare ((dats m 0 c).before 1 t d))
    ∗ (∃ d, owns c.tc (spec0_2.stage (slot m c t 2)) fullShare ((dats m 0 c).before 2 t d)))
def bodyPost : sProp 𝕄 :=
  iprop((dats m 0 c).Φ t.succ ∗ (dats m 0 c).owesAt () t.succ
    ∗ owns c.tc (spec0_0.stage (slot m c t 0)) fullShare ((dats m 0 c).after 0 t)
    ∗ owns c.tc (spec0_1.stage (slot m c t 1)) fullShare ((dats m 0 c).after 1 t)
    ∗ owns c.tc (spec0_2.stage (slot m c t 2)) fullShare ((dats m 0 c).after 2 t))

theorem sound_body : bodyPre m c t ⊢ wp frame (wpE (defs₀ (F := F)) Variants.none c.tc none) Set.univ (bodyAt m c t) (fun _ => bodyPost m c t) := by
  unfold bodyPre Dat.owesAt Pipeline.owesWithin
  rw [show (dats m 0 c).Φ t.castSucc = Phi m c t.val from rfl, show (dats m 0 c).owed t.castSucc = owedAt c t.val from rfl]
  simp only [before_0, before_1, before_2]
  iintro ⟨HΦ, ⟨%W, -, HW⟩, ⟨%d0, H0⟩, ⟨%d1, H1⟩, ⟨%d2, H2⟩⟩
  iapply (run_body m c t W) $$ [-]
  isplitl [HΦ]; · iexact HΦ
  isplitl [HW]; · iexact HW
  isplitl [H0 H1 H2]
  · unfold staged
    isplitl [H0]; · iexact H0
    isplitl [H1]; · iexact H1
    iexact H2
  unfold bodyPost Dat.owesAt Pipeline.owesWithin staged
  rw [show (dats m 0 c).Φ t.succ = Phi m c (t.val + 1) from rfl, show (dats m 0 c).owed t.succ = owedAt c (t.val + 1) from rfl,
    show (dats m 0 c).after 0 t = (data m).zh c t from rfl, show (dats m 0 c).after 1 t = (data m).za c t from rfl, show (dats m 0 c).after 2 t = (data m).h c t from rfl]
  iintro ⟨HΦ, ⟨%W', HW⟩, H0, H1, H2⟩
  isplitl [HΦ]; · iexact HΦ
  isplitl [HW]
  · iexists W'; isplitr; · ipureintro; exact fun _ _ => Or.inl trivial
    iexact HW
  isplitl [H0]; · iexact H0
  isplitl [H1]; · iexact H1
  iexact H2

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

end Cert.Sc

end
-- ==== Proof.Scatter.Split.lean ====
module

public import proofs.«01_k».proof.Proof.Scatter.Body
public import Idealize.ShloMosaic.Lib.Ring

/-!
# The weight gradient's exchange: buffers in pieces

The arrays that messages land in, slice by slice; the staging buffer, slot by slot.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Idealize.ShloMosaic.Ring (pointsTo_blocks pointsTo_blocks_join_exists)

/-- Conjunctions over few, one by one. -/
theorem bigSep_two {M : Type} [URA M] (Φ : Fin 2 → sProp M) : bigSep Finset.univ Φ = iprop(Φ 0 ∗ Φ 1) :=
  bigSep_univ_eq_bigSepL [(0 : Fin 2), 1] (by decide) (by decide) Φ
theorem bigSep_three {M : Type} [URA M] (Φ : Fin 3 → sProp M) : bigSep Finset.univ Φ = iprop(Φ 0 ∗ Φ 1 ∗ Φ 2) :=
  bigSep_univ_eq_bigSepL [(0 : Fin 3), 1, 2] (by decide) (by decide) Φ
theorem bigSep_four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ
theorem bigSep_seven {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-! ### The receivers' slices -/

abbrev raRect (j : Fin 4) : Rect S4x2048x1024 := match j with
  | 0 => Rect.unit (s := S4x2048x1024) ![0, 0, 0] S1x2048x1024.size inb_S4x2048x1024_S1x2048x1024_0_0_0
  | 1 => Rect.unit (s := S4x2048x1024) ![1, 0, 0] S1x2048x1024.size inb_S4x2048x1024_S1x2048x1024_1_0_0
  | 2 => Rect.unit (s := S4x2048x1024) ![2, 0, 0] S1x2048x1024.size inb_S4x2048x1024_S1x2048x1024_2_0_0
  | 3 => Rect.unit (s := S4x2048x1024) ![3, 0, 0] S1x2048x1024.size inb_S4x2048x1024_S1x2048x1024_3_0_0
abbrev rbRect (j : Fin 3) : Rect S3x2048x1024 := match j with
  | 0 => Rect.unit (s := S3x2048x1024) ![0, 0, 0] S1x2048x1024.size inb_S3x2048x1024_S1x2048x1024_0_0_0
  | 1 => Rect.unit (s := S3x2048x1024) ![1, 0, 0] S1x2048x1024.size inb_S3x2048x1024_S1x2048x1024_1_0_0
  | 2 => Rect.unit (s := S3x2048x1024) ![2, 0, 0] S1x2048x1024.size inb_S3x2048x1024_S1x2048x1024_2_0_0

/-- A slab of leading extent one holds the elements whose leading index is its offset. -/
theorem mem_slab {n : ℕ} (k : Fin n) (inb : ∀ a, (![k.val, 0, 0] : Fin 3 → ℕ) a + S1x2048x1024.size a ≤ (⟨3, ![n, 2048, 1024]⟩ : Shape).size a)
    (i : (⟨3, ![n, 2048, 1024]⟩ : Shape).Idx) : i ∈ (Rect.unit (s := ⟨3, ![n, 2048, 1024]⟩) ![k.val, 0, 0] S1x2048x1024.size inb).set ↔ (i 0).val = k.val := by
  rw [Rect.mem_set_unit]
  constructor
  · intro h; have := h 0
    simp only [Matrix.cons_val_zero] at this
    have h1 : S1x2048x1024.size 0 = 1 := rfl
    omega
  · intro h a
    match a with
    | ⟨0, _⟩ => exact ⟨h.ge, by show (i 0).val < k.val + 1; omega⟩
    | ⟨1, _⟩ => exact ⟨Nat.zero_le _, (by have := (i 1).isLt; exact this.trans_eq (Nat.zero_add 2048).symm)⟩
    | ⟨2, _⟩ => exact ⟨Nat.zero_le _, (by have := (i 2).isLt; exact this.trans_eq (Nat.zero_add 1024).symm)⟩

/-- The slices of the first array, by their leading index. -/
theorem mem_ra (j : Fin 4) (i : S4x2048x1024.Idx) : i ∈ (raRect j).set ↔ (i 0).val = j.val := by
  match j with
  | 0 => exact mem_slab (n := 4) 0 _ i
  | 1 => exact mem_slab (n := 4) 1 _ i
  | 2 => exact mem_slab (n := 4) 2 _ i
  | 3 => exact mem_slab (n := 4) 3 _ i
theorem mem_rb (j : Fin 3) (i : S3x2048x1024.Idx) : i ∈ (rbRect j).set ↔ (i 0).val = j.val := by
  match j with
  | 0 => exact mem_slab (n := 3) 0 _ i
  | 1 => exact mem_slab (n := 3) 1 _ i
  | 2 => exact mem_slab (n := 3) 2 _ i
theorem mem_slot (j : Fin 2) (i : S2x2048x1024.Idx) : i ∈ (slotR j).set ↔ (i 0).val = j.val := by
  match j with
  | 0 => exact mem_slab (n := 2) 0 _ i
  | 1 => exact mem_slab (n := 2) 1 _ i

theorem ra_disj (b b' : Fin 4) (h : b ≠ b') : Disjoint (raRect b).set (raRect b').set :=
  Finset.disjoint_left.mpr fun i hi hi' => h (Fin.ext (((mem_ra b i).mp hi).symm.trans ((mem_ra b' i).mp hi')))
theorem rb_disj (b b' : Fin 3) (h : b ≠ b') : Disjoint (rbRect b).set (rbRect b').set :=
  Finset.disjoint_left.mpr fun i hi hi' => h (Fin.ext (((mem_rb b i).mp hi).symm.trans ((mem_rb b' i).mp hi')))
theorem slot_disj (b b' : Fin 2) (h : b ≠ b') : Disjoint (slotR b).set (slotR b').set :=
  Finset.disjoint_left.mpr fun i hi hi' => h (Fin.ext (((mem_slot b i).mp hi).symm.trans ((mem_slot b' i).mp hi')))
theorem ra_cover : Finset.univ.biUnion (fun j => (raRect j).set) = (Finset.univ : Finset S4x2048x1024.Idx) :=
  Finset.eq_univ_iff_forall.mpr fun i => Finset.mem_biUnion.mpr ⟨i 0, Finset.mem_univ _, (mem_ra (i 0) i).mpr rfl⟩
theorem rb_cover : Finset.univ.biUnion (fun j => (rbRect j).set) = (Finset.univ : Finset S3x2048x1024.Idx) :=
  Finset.eq_univ_iff_forall.mpr fun i => Finset.mem_biUnion.mpr ⟨i 0, Finset.mem_univ _, (mem_rb (i 0) i).mpr rfl⟩
theorem slot_cover : Finset.univ.biUnion (fun j => (slotR j).set) = (Finset.univ : Finset S2x2048x1024.Idx) :=
  Finset.eq_univ_iff_forall.mpr fun i => Finset.mem_biUnion.mpr ⟨i 0, Finset.mem_univ _, (mem_slot (i 0) i).mpr rfl⟩

/-- The elements of each slice and slot. -/
abbrev raSet (j : Fin 4) : Finset S4x2048x1024.Idx := match j with
  | 0 => (dst 0).view.set | 1 => (dst 1).view.set | 2 => (dst 2).view.set | 3 => (dst 3).view.set
abbrev rbSet (j : Fin 3) : Finset S3x2048x1024.Idx := match j with
  | 0 => (dst 4).view.set | 1 => (dst 5).view.set | 2 => (dst 6).view.set
abbrev slotSet (j : Fin 2) : Finset S2x2048x1024.Idx := match j with
  | 0 => (src 0).view.set | 1 => (src 4).view.set
theorem raSet_eq : raSet = fun j => (raRect j).set := funext fun j => by
  match j with
  | 0 => exact (View.set_reshape _ _).trans (View.set_slice_whole main_v1_1 (raRect 0))
  | 1 => exact (View.set_reshape _ _).trans (View.set_slice_whole main_v1_1 (raRect 1))
  | 2 => exact (View.set_reshape _ _).trans (View.set_slice_whole main_v1_1 (raRect 2))
  | 3 => exact (View.set_reshape _ _).trans (View.set_slice_whole main_v1_1 (raRect 3))
theorem rbSet_eq : rbSet = fun j => (rbRect j).set := funext fun j => by
  match j with
  | 0 => exact (View.set_reshape _ _).trans (View.set_slice_whole main_v1_2 (rbRect 0))
  | 1 => exact (View.set_reshape _ _).trans (View.set_slice_whole main_v1_2 (rbRect 1))
  | 2 => exact (View.set_reshape _ _).trans (View.set_slice_whole main_v1_2 (rbRect 2))
theorem slotSet_eq : slotSet = fun j => (slotR j).set := funext fun j => by
  match j with
  | 0 => exact (View.set_reshape _ _).trans (View.set_slice_whole cc0_scratch1 (slotR 0))
  | 1 => exact (View.set_reshape _ _).trans (View.set_slice_whole cc0_scratch1 (slotR 1))

variable (c : Dev nD)

/-- The receivers' arrays, slice by slice. -/
theorem split_dst (f : Buf (Elt F) (c.tc.loc main_v1_1)) (g : Buf (Elt F) (c.tc.loc main_v1_2)) :
    iprop((c.tc.loc main_v1_1 ↦{fullShare} f) ∗ (c.tc.loc main_v1_2 ↦{fullShare} g))
      ⊢ (bigSep Finset.univ (fun j => dstAny (F := F) c j) : sProp 𝕄) := by
  rw [pointsTo_blocks (ℓ := c.tc.loc main_v1_1) raSet (by rw [raSet_eq]; exact ra_disj) (by rw [raSet_eq]; exact ra_cover),
    pointsTo_blocks (ℓ := c.tc.loc main_v1_2) rbSet (by rw [rbSet_eq]; exact rb_disj) (by rw [rbSet_eq]; exact rb_cover)]
  rw [bigSep_four, bigSep_three, bigSep_seven]
  unfold dstAny
  iintro ⟨⟨H0, H1, H2, H3⟩, H4, H5, H6⟩
  isplitl [H0]; · iexists f; iexact H0
  isplitl [H1]; · iexists f; iexact H1
  isplitl [H2]; · iexists f; iexact H2
  isplitl [H3]; · iexists f; iexact H3
  isplitl [H4]; · iexists g; iexact H4
  isplitl [H5]; · iexists g; iexact H5
  iexists g; iexact H6

/-- The staging buffer as its two slots, -/
theorem split_slots : iprop(∃ f, c.tc.loc cc0_scratch1 ↦{fullShare} f) ⊢ (iprop(slotAny c 0 ∗ slotAny c 4) : sProp 𝕄) := by
  iintro ⟨%f, H⟩
  ihave H' := (Entails.of_eq (pointsTo_blocks (ℓ := c.tc.loc cc0_scratch1) slotSet (by rw [slotSet_eq]; exact slot_disj) (by rw [slotSet_eq]; exact slot_cover) f)) $$ H
  ihave H2 := (Entails.of_eq (bigSep_two _)) $$ H'
  unfold slotAny
  icases H2 with ⟨H0, H1⟩
  isplitl [H0]; · iexists f; iexact H0
  iexists f; iexact H1

/-- and the two slots as the buffer. -/
theorem join_slots : (iprop(slotAny c 0 ∗ slotAny c 4) : sProp 𝕄) ⊢ iprop(∃ f : Buf (Elt F) (c.tc.loc cc0_scratch1), c.tc.loc cc0_scratch1 ↦{fullShare} f) := by
  unfold slotAny
  iintro ⟨⟨%f, H0⟩, ⟨%g, H1⟩⟩
  iapply (pointsTo_blocks_join_exists (ℓ := c.tc.loc cc0_scratch1) slotSet (by rw [slotSet_eq]; exact slot_disj) (by rw [slotSet_eq]; exact slot_cover) f)
  rw [bigSep_two]
  isplitl [H0]; · iexists f; iexact H0
  iexists g; iexact H1

end Cert.Sc

end
-- ==== Proof.Scatter.Deal.lean ====
module

public import proofs.«01_k».proof.Proof.Scatter.Split

/-!
# The weight gradient's exchange: what each device starts from

At launch the exchange's semaphores get their invariants, every device the slices and the tokens of the
messages that it sends, and the credit of the messages that it awaits.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (Dat ownSems0 unscopedRestP launchCred owing)

/-! ### The semaphores of the exchange -/

/-- Message `j`'s departure and arrival, and the local copies. -/
def osem : Unit ⊕ (Bool × Fin 7) → SemLoc sig
  | .inl _ => .dma locQ
  | .inr (false, j) => .dma (sendQ j)
  | .inr (true, j) => .dma (recvQ j)

theorem ownSemFacts : Pipeline.OwnSemFacts spec0 osem where
  isScoped := by decide
  inj := by decide
  disj := by decide

/-- The exchange's semaphores on all devices. -/
def exCell (x : Dev nD × (Bool × Fin 7)) : GSem nD τ sig := ((x.1 : Thread nD τ), osem (.inr x.2))
theorem exCell_inj : Function.Injective exCell := fun x y h => by
  obtain ⟨c, k⟩ := x; obtain ⟨c', k'⟩ := y
  have h1 : c.tc = c'.tc := congrArg Prod.fst h
  have h2 : osem (.inr k) = osem (.inr k') := congrArg Prod.snd h
  have h3 : c = c' := congrArg (fun t : Thread nD τ => t.1) h1
  rw [h3, Sum.inr.inj (ownSemFacts.inj h2)]
def exEmb : Dev nD × (Bool × Fin 7) ↪ GSem nD τ sig := ⟨exCell, exCell_inj⟩
def tokEmb : Dev nD × (Bool × Fin 7) ↪ GSem nD τ sig × ℕ × Unit := ⟨fun x => (exCell x, 0, ()), fun _ _ h => exCell_inj (congrArg Prod.fst h)⟩
def exCells : Finset (GSem nD τ sig) := Finset.univ.map exEmb
def exToks : Finset (GSem nD τ sig × ℕ × Unit) := Finset.univ.map tokEmb

/-- A family over a device's semaphores: departures and arrivals. -/
theorem by_kind (Φ : Bool × Fin 7 → sProp 𝕄) : bigSep Finset.univ Φ
    = iprop(bigSep Finset.univ (fun j => Φ (false, j)) ∗ bigSep Finset.univ (fun j => Φ (true, j))) := by
  rw [BI.bigSep_univ_prod, show (Finset.univ : Finset Bool) = {false, true} by decide, BI.bigSep_insert (by decide), BI.bigSep_singleton]; rfl

/-- Each device's share of message `j`, dealt to the device's partner in it. -/
theorem dealt (Φ : Dev nD → Fin 7 → sProp 𝕄) :
    (bigSep Finset.univ fun c : Dev nD => bigSep Finset.univ fun j => Φ c j) = bigSep Finset.univ fun c : Dev nD => bigSep Finset.univ fun j => Φ (mate j c) j := by
  rw [Pipeline.bigSep_univ_comm, Pipeline.bigSep_univ_comm (fun (c : Dev nD) j => Φ (mate j c) j)]
  exact BI.bigSep_congr fun j _ => BI.bigSep_univ_equiv (mateEquiv j) (fun c => Φ c j)

/-! ### What the devices start from -/

variable (V : Sent F)

/-- What device `c` starts from. -/
def start (c : Dev nD) : sProp 𝕄 :=
  iprop((∃ K, known V K c) ∗ bigSep Finset.univ (fun j => depart (F := F) c j 0)
    ∗ bigSep Finset.univ (fun j => atPos EX (recvCell c j) 0 ∅ 0) ∗ semVal (locCell c) 0 ∗ ∃ d, owns c.tc ownM fullShare d)

/-- What every device may consult. -/
def records (K : Dev nD × (Bool × Fin 7) → ℕ) : sProp 𝕄 :=
  iprop(levAts L lv ∗ (bigSep Finset.univ fun x => cellInv EX (Rd V) (K x) (exCell x)) ∗ bigSep Finset.univ fun x => reached EX (exCell x) 0)
instance records_persistent (K : Dev nD × (Bool × Fin 7) → ℕ) : BI.Persistent (records V K) := by unfold records; infer_instance

theorem records_known (K : Dev nD × (Bool × Fin 7) → ℕ) (c : Dev nD) :
    records V K ⊢ known V (fun c b j => K (c, (b, j))) c := by
  have hI : ∀ x, (bigSep Finset.univ fun x => (cellInv EX (Rd V) (K x) (exCell x) : sProp 𝕄)) ⊢ cellInv EX (Rd V) (K x) (exCell x) := fun x => bigSep_elim (Finset.mem_univ x)
  have hR : ∀ x, (bigSep Finset.univ fun x => (reached EX (exCell x) 0 : sProp 𝕄)) ⊢ reached EX (exCell x) 0 := fun x => bigSep_elim (Finset.mem_univ x)
  unfold records known
  iintro ⟨#HL, #HI, #HR⟩
  isplitr; · iexact HL
  iintro %j
  isplitr; · iapply (hI (c, (false, j))); iexact HI
  isplitr; · iapply (hI (c, (true, j))); iexact HI
  isplitr; · iapply (hI (mate j c, (true, j))); iexact HI
  isplitr; · iapply (hR (c, (false, j))); iexact HR
  iapply (hR (mate j c, (true, j))); iexact HR

/-- What goes to one device only. -/
def goods (c : Dev nD) : sProp 𝕄 :=
  iprop((bigSep Finset.univ fun j => dstAny (F := F) (mate j c) j) ∗ (bigSep Finset.univ fun j => dutyTok EX (sendCell c j) 0 ())
    ∗ (bigSep Finset.univ fun j => dutyTok EX (recvCell (mate j c) j) 0 ())
    ∗ (bigSep Finset.univ fun j => atPos EX (sendCell c j) 0 ∅ 0) ∗ (bigSep Finset.univ fun j => atPos EX (recvCell c j) 0 ∅ 0)
    ∗ semVal (locCell c) 0 ∗ ∃ d, owns c.tc ownM fullShare d)

theorem start_intro (K : Dev nD × (Bool × Fin 7) → ℕ) (c : Dev nD) : iprop(records V K ∗ goods c) ⊢ start V c := by
  unfold goods start
  rw [show (fun j => depart (F := F) c j 0) = fun j => iprop(dstAny (F := F) (mate j c) j ∗ dutyTok EX (sendCell c j) 0 () ∗ dutyTok EX (recvCell (mate j c) j) 0 () ∗ atPos EX (sendCell c j) 0 ∅ 0) from rfl]
  simp only [BI.bigSep_sep']
  iintro ⟨#HK, Hd, Hs, Hr, Ha, Hp, Hl, Ho⟩
  isplitr; · iexists _; iapply (records_known V K c); iexact HK
  isplitr [Hp Hl Ho]
  · isplitl [Hd]; · iexact Hd
    isplitl [Hs]; · iexact Hs
    isplitl [Hr]; · iexact Hr
    iexact Ha
  isplitl [Hp]; · iexact Hp
  isplitl [Hl]; · iexact Hl
  iexact Ho

variable (m : (ℓ : Loc nD τ sig) → Buf (Elt F) ℓ)

/-- A device's arrays of results: its own, and the slices that messages land in. -/
theorem results_split (c : Dev nD) : (unscopedRestP pre0 spec0 c (fun b => m (c.tc.loc b)) : sProp 𝕄)
    ⊢ iprop((∃ d, owns c.tc ownM fullShare d) ∗ bigSep Finset.univ (fun j => dstAny (F := F) c j)) := by
  rw [unscopedRestP0_eq]
  iintro ⟨H0, H1, H2⟩
  isplitl [H0]
  · iexists _
    iapply (owns_intro c.tc ownM fullShare)
    rw [View.set_whole]; iexact H0
  iapply (split_dst c _ _)
  isplitl [H1]; · iexact H1
  iexact H2

/-- The semaphores at zero: that of the local copies, and the exchange's. -/
theorem sems_split (c : Dev nD) : (ownSems0 osem c : sProp 𝕄)
    = iprop(semVal (locCell c) 0 ∗ bigSep Finset.univ (fun k => semVal (exCell (c, k)) 0)) := by
  unfold ownSems0
  rw [BI.bigSep_univ_sum, Finset.univ_unique, BI.bigSep_singleton]; rfl

/-- The exchange's invariants made, its tokens and slices dealt. -/
theorem deal : iprop(levAts L lv ∗ (bigSep Finset.univ fun c : Dev nD => ownSems0 osem c)
      ∗ (bigSep Finset.univ fun c : Dev nD => unscopedRestP pre0 spec0 c (fun b => m (c.tc.loc b)))
      ∗ BI.own ((EX : Emb (UX nD τ) 𝕄) (initOf exCells exToks)))
    ⊢ |={Set.univ}=> (bigSep Finset.univ (start V) : sProp 𝕄) := by
  have hres : (bigSep Finset.univ fun c : Dev nD => (unscopedRestP pre0 spec0 c (fun b => m (c.tc.loc b)) : sProp 𝕄))
      ⊢ iprop((bigSep Finset.univ fun c : Dev nD => iprop(∃ d, owns c.tc ownM fullShare d)) ∗ bigSep Finset.univ (fun c : Dev nD => bigSep Finset.univ (fun j => dstAny (F := F) c j))) :=
    (bigSep_mono fun c _ => results_split m c).trans (Entails.of_eq (BI.bigSep_sep' _ _ _))
  have hfund : BI.own ((EX : Emb (UX nD τ) 𝕄) (initOf exCells exToks)) ⊢ |==> (iprop((bigSep Finset.univ fun x => roundState EX (Rd V) (exCell x) 0)
      ∗ (bigSep Finset.univ fun x => reached EX (exCell x) 0) ∗ (bigSep Finset.univ fun x => atPos EX (exCell x) 0 ∅ 0) ∗ (bigSep Finset.univ fun x => dutyTok EX (exCell x) 0 ())) : sProp 𝕄) := by
    refine (Rounds.fund EX (Rd V) exCells exToks).trans (bupd_mono (Entails.of_eq ?_))
    unfold exCells exToks
    simp only [BI.bigSep_map]; rfl
  have hinv : iprop((bigSep Finset.univ fun x : Dev nD × (Bool × Fin 7) => semVal (exCell x) 0) ∗ (bigSep Finset.univ fun x => roundState EX (Rd V) (exCell x) 0))
      ⊢ |={Set.univ}=> (iprop(∃ K : Dev nD × (Bool × Fin 7) → ℕ, bigSep Finset.univ fun x => cellInv EX (Rd V) (K x) (exCell x)) : sProp 𝕄) :=
    (Entails.of_eq (BI.bigSep_sep' _ _ _).symm).trans
      (((bigSep_mono fun x _ => (Rounds.body_intro EX (Rd V) (exCell x)).trans inv_alloc).trans (bigSep_fupd Finset.univ _)).trans
        (fupd_mono (BI.bigSep_exists_pi Finset.univ (fun (x : Dev nD × (Bool × Fin 7)) (κ : ℕ) => (cellInv EX (Rd V) κ (exCell x) : sProp 𝕄)))))
  simp only [sems_split, BI.bigSep_sep']
  iintro ⟨#HL, ⟨Hloc, Hsem⟩, Hres, Hu⟩
  ihave Hres2 := hres $$ Hres
  icases Hres2 with ⟨Hown, Hdst⟩
  imod hfund $$ Hu with ⟨Hst, Hr, Hat, Htok⟩
  ihave Hsem' := (Entails.of_eq (BI.bigSep_univ_prod (fun x : Dev nD × (Bool × Fin 7) => (semVal (exCell x) 0 : sProp 𝕄))).symm) $$ Hsem
  imod hinv $$ [Hsem' Hst] with ⟨%K, #HI⟩
  · isplitl [Hsem']; · iexact Hsem'
    iexact Hst
  ihave Hat' := (Entails.of_eq (BI.bigSep_univ_prod (fun x : Dev nD × (Bool × Fin 7) => (atPos EX (exCell x) 0 ∅ 0 : sProp 𝕄)))) $$ Hat
  ihave Htok' := (Entails.of_eq (BI.bigSep_univ_prod (fun x : Dev nD × (Bool × Fin 7) => (dutyTok EX (exCell x) 0 () : sProp 𝕄)))) $$ Htok
  simp only [by_kind, BI.bigSep_sep']
  icases Hat' with ⟨Has, Har⟩
  icases Htok' with ⟨Hts, Htr⟩
  ihave Htr' := (Entails.of_eq (dealt fun c j => (dutyTok EX (exCell (c, (true, j))) 0 () : sProp 𝕄))) $$ Htr
  ihave Hdst' := (Entails.of_eq (dealt fun c j => (dstAny (F := F) c j : sProp 𝕄))) $$ Hdst
  ihave #HR : records V K $$ [HI Hr]
  · unfold records
    isplitr; · iexact HL
    isplitr; · iexact HI
    iexact Hr
  imodintro
  iapply ((sep_mono_left (BI.bigSep_of_persistent Finset.univ (records V K))).trans
    ((Entails.of_eq (BI.bigSep_sep' Finset.univ (fun _ : Dev nD => records V K) goods).symm).trans (bigSep_mono fun c _ => start_intro V K c)))
  isplitr; · iexact HR
  unfold goods
  simp only [BI.bigSep_sep']
  isplitl [Hdst']; · iexact Hdst'
  isplitl [Hts]; · iexact Hts
  isplitl [Htr']; · iexact Htr'
  isplitl [Has]; · iexact Has
  isplitl [Har]; · iexact Har
  isplitl [Hloc]; · iexact Hloc
  iexact Hown

/-! ### The credit that the launch deals -/

/-- What is owed to device `c` for message `j`. -/
theorem cred_of (c : Dev nD) : (launchCred (fun d => owedAt d 0) c : sProp 𝕄) ⊢ bigSep Finset.univ fun j => cred (tallyAt (recvCell c j) () NX) := by
  rw [show (fun d => owedAt d 0) = fun d => ∑ j ∈ (Finset.univ : Finset (Fin 7)), tallyAt (recvCell (mate j d) j) () NX from
    funext fun d => Finset.sum_congr (Finset.filter_true_of_mem fun j _ => Nat.zero_le _) fun _ _ => rfl,
    Pipeline.launchCred_sum Finset.univ (fun (j : Fin 7) (d : Dev nD) => (tallyAt (recvCell (mate j d) j) () NX : CellTallies nD τ sig Unit)) c]
  refine bigSep_mono fun j _ => ?_
  refine (Pipeline.launchCred_elim _ c (SemLoc.dma (recvQ j))).trans (Entails.of_eq ?_)
  rw [Pipeline.tallyOn_launchCredit_owing]
  congr 1
  unfold tallyAt
  refine congrArg _ ?_
  refine Finsupp.ext fun u => ?_
  rw [Finset.sum_apply, Finsupp.finset_sum_apply, Finset.sum_eq_single (mate j c)]
  · show tallyAt (recvCell (mate j (mate j c)) j) () NX (recvCell c j) u = _
    rw [mate_mate]; cases u; rw [tallyAt_apply]; simp
  · intro d _ hd
    show tallyAt (recvCell (mate j d) j) () NX (recvCell c j) u = 0
    cases u; rw [tallyAt_apply, if_neg]
    rintro ⟨h, -⟩
    have h1 : c = mate j d := congrArg (fun g : GSem nD τ sig => g.1.1) h
    exact hd (by rw [h1, mate_mate])
  · intro h; exact absurd (Finset.mem_univ _) h

end Cert.Sc

end
-- ==== Proof.Scatter.Launch.lean ====
module

public import proofs.«01_k».proof.Proof.Scatter.Deal
public import Idealize.ShloMosaic.Lib.Quiescent

/-!
# The weight gradient's exchange: the launch

What the launch gives each device: its own buffers and semaphores, the levels of the semaphores, the ghost
state of its pipeline, and what the exchange deals it.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (Dat PCfg ownSems0 unscopedRestP launchCred owing prefHeld scopedRest arrRef pinD)
open Idealize.ShloMosaic.Pipeline.PerCore (cellsSems0 idleSems0 cellsWaits cellsInit cellsGhost toksInit cells launchToks EntryPre EntryPost)

variable (m : (ℓ : Loc nD τ sig) → Buf (Elt F) ℓ)

/-! ### The launch's pipeline, on every device at the contents of its own table -/

def adms (c : Dev nD) : (p : Fin 1) → (pcfgs (F := F) p).Adm
  | 0 => adm m c
  | ⟨_ + 1, h⟩ => absurd h (Nat.not_lt.2 (Nat.le_add_left _ _))
abbrev cfgs : Dev nD → Fin 1 → Pipeline.Cfg sig Λ₀ := pinD (pcfgs (F := F)) (adms m)
def pdats : (p : Fin 1) → (c : Dev nD) → Dat τ (Elt F) Unit ℕ (UU nD τ) ℕ (cfgs m c p) c
  | 0, c => dats m 0 c
  | ⟨_ + 1, h⟩, _ => absurd h (Nat.not_lt.2 (Nat.le_add_left _ _))
theorem cells_inj : Function.Injective (Pipeline.PerCore.cellOf (nD := nD) (τ := τ) (cfgs m)) :=
  Pipeline.PerCore.cellOf_injective (cfgs m) (fun _ p => match p with | 0 => Pipeline.specSemsDistinct_of_nodup spec0 (semsDistinct 0))
    fun _ p p' h => absurd (Subsingleton.elim p p') h
theorem ownFacts (c : Dev nD) : Pipeline.OwnSemFacts (cfgs m c 0).spec osem := ownSemFacts
theorem winFacts₀ (c : Dev nD) : Pipeline.WinFacts₀ (cfgs m c 0).spec := winFacts0.to₀

abbrev idle (c : Dev nD) : sProp 𝕄 := idleSems0 (cfgs m) (cells_inj m) 0 (ownFacts m) c

theorem sems_eq (c : Dev nD) : (scopedSems0 c.tc : sProp 𝕄) = iprop((cellsSems0 (cfgs m) 0 c ∗ ownSems0 osem c) ∗ idle m c) :=
  Pipeline.PerCore.scopedSems0_split (cfgs m) (cells_inj m) 0 (winFacts₀ m) (ownFacts m) c
theorem bufs_eq (c : Dev nD) : (scopedBufs c.tc : sProp 𝕄) = iprop(Pipeline.Dat.staging (cfgs m c 0) c ∗ scopedRest spec0 c) :=
  Pipeline.PerCore.scopedBufs_split (cfgs m) 0 c winFacts0.stage_scoped winFacts0.stage_inj stage_whole0
theorem arrs_eq (c : Dev nD) : (unscopedBufs c (fun b => m (c.tc.loc b)) : sProp 𝕄)
    = iprop((bigSep Finset.univ fun w => (c.tc.loc (arrRef spec0 w)) ↦{fullShare} m (c.tc.loc (arrRef spec0 w)))
      ∗ prefHeld pre0 c (fun _ => fullShare) (tabs m c) ∗ unscopedRestP pre0 spec0 c (fun b => m (c.tc.loc b))) :=
  (Pipeline.PerCore.unscopedBufs_split (cfgs m) 0 c winFacts0.arr_unscoped winFacts0.arr_inj _).trans
    (congrArg _ (Pipeline.unscopedRest_split preFacts0 c _))

/-! ### What a device holds at the start of the launch -/

/-- A device's holdings, but for those that the exchange deals. -/
def mine (c : Dev nD) : sProp 𝕄 :=
  iprop(scopedBufs c.tc ∗ cellsSems0 (cfgs m) 0 c ∗ idle m c
    ∗ (bigSep Finset.univ fun w => (c.tc.loc (arrRef spec0 w)) ↦{fullShare} m (c.tc.loc (arrRef spec0 w)))
    ∗ prefHeld pre0 c (fun _ => fullShare) (tabs m c) ∗ owes c.tc (owedAt c 0) ∅ ∗ launchCred (fun d => owedAt d 0) c)

theorem core_split (g : Dev nD → PrngReg) (c : Dev nD) :
    (coreInit (owing fun d => owedAt d 0) 0 (⟨m, fun _ => 0, g⟩ : MemSt nD τ sig (Elt F)) c.tc : sProp 𝕄)
      ⊢ iprop(mine m c ∗ ownSems0 osem c ∗ unscopedRestP pre0 spec0 c (fun b => m (c.tc.loc b)) ∗ levels0 c) := by
  refine (Pipeline.coreInit_boundary_owing (fun d => owedAt d 0) m g c).trans ?_
  unfold boundary mine
  rw [sems_eq m c, arrs_eq m c]
  iintro ⟨⟨Hb, ⟨⟨Hc, Ho⟩, Hi⟩, -⟩, ⟨Ha, Hp, Hr⟩, -, HO, Hl, -, Hcr⟩
  isplitr [Ho Hr Hl]
  · isplitl [Hb]; · iexact Hb
    isplitl [Hc]; · iexact Hc
    isplitl [Hi]; · iexact Hi
    isplitl [Ha]; · iexact Ha
    isplitl [Hp]; · iexact Hp
    isplitl [HO]; · iexact HO
    iexact Hcr
  isplitl [Ho]; · iexact Ho
  isplitl [Hr]; · iexact Hr
  iexact Hl

/-- The levels of the machine's semaphores are set. -/
theorem levels_set : (bigSep Finset.univ fun c : Dev nD => (levels0 c : sProp 𝕄)) ⊢ |==> levAts L lv := by
  have h1 : (levAts L lv : sProp 𝕄) = bigSep Finset.univ fun c : Dev nD => coreLevAts c.tc L lv := by
    have h0 : (levAts L lv : sProp 𝕄) = bigSep Finset.univ fun c : Thread nD τ => coreLevAts c L lv :=
      BI.bigSep_univ_prod fun g : GSem nD τ sig => bigSep (L g) fun ι => levAt g ι (lv g ι)
    have hz (d : Dev nD) : (bigSep (Finset.univ.erase Proc.tc) fun p => (coreLevAts ((d, p) : Thread nD τ) L lv : sProp 𝕄)) = BI.emp :=
      (BI.bigSep_congr (Ψ := fun _ : Proc τ => (BI.emp : sProp 𝕄)) fun p hp =>
        (BI.bigSep_congr (Ψ := fun _ : SemLoc sig => (BI.emp : sProp 𝕄)) fun sm _ => by
          rw [L_of_ne (((d, p) : Thread nD τ), sm) (Finset.ne_of_mem_erase hp), BI.bigSep_empty]).trans (BI.bigSep_emp_const _)).trans (BI.bigSep_emp_const _)
    rw [h0, bigSep_threads (fun c : Thread nD τ => coreLevAts c L lv)]
    simp only [hz, BI.bigSep_emp_const]
    exact equiv_iff.mp BI.sep_emp
  have h2 (c : Dev nD) : (iprop((bigSep Finset.univ fun sm : SemLoc sig => levels (c.tc, sm) (L (c.tc, sm))) ∗ coreLevAts c.tc L lv) : sProp 𝕄)
      ⊢ coreLevAts c.tc L lv := by iintro ⟨-, H⟩; iexact H
  rw [h1]
  exact (bigSep_mono fun (c : Dev nD) _ => (lev_assign_cells c.tc L lv).trans (BI.bupd_mono (h2 c))).trans (BI.bigSep_bupd _ _)

/-- The ghost state of the launch: the pipelines', and the exchange's. -/
def u₀ : UU nD τ := (initOf (cells (cfgs m) (cells_inj m)) (launchToks (cfgs m) (cells_inj m)), (initOf exCells exToks, 1))

theorem own_split (a : UR sig nD τ) (b : UX nD τ) :
    (ownU ((a, (b, 1)) : UU nD τ) : sProp 𝕄) ⊢ iprop(BI.own ((EP : Emb (UR sig nD τ) 𝕄) a) ∗ BI.own ((EX : Emb (UX nD τ) 𝕄) b)) :=
  BI.own_op_elim ((uEmb (nD := nD) (sig := sig) (Ix := Unit) (Val := Elt F) (Name := ℕ) (U := UU nD τ) (Lvl := ℕ)).toEmb.op_of_mem
    (Prod.mk_mem_op (URA.mem_op_one a) (URA.mem_one_op (b, 1))))

/-- What device `c` runs from. -/
def pre (c : Dev nD) : sProp 𝕄 :=
  iprop(mine m c ∗ levAts L lv ∗ cellsGhost (cfgs m) EP 0 c ∗ toksInit (cfgs m) EP 0 c ∗ start (msg (data m)) c)

theorem launched (g : Dev nD → PrngReg) :
    iprop((bigSep Finset.univ fun c : Dev nD => (coreInit (owing fun d => owedAt d 0) 0 (⟨m, fun _ => 0, g⟩ : MemSt nD τ sig (Elt F)) c.tc : sProp 𝕄)) ∗ ownU (u₀ m))
      ⊢ |={Set.univ}=> (bigSep Finset.univ (pre m) : sProp 𝕄) := by
  have hc : (bigSep Finset.univ fun c : Dev nD => (coreInit (owing fun d => owedAt d 0) 0 (⟨m, fun _ => 0, g⟩ : MemSt nD τ sig (Elt F)) c.tc : sProp 𝕄))
      ⊢ iprop((bigSep Finset.univ (mine m)) ∗ (bigSep Finset.univ fun c : Dev nD => ownSems0 osem c)
        ∗ (bigSep Finset.univ fun c : Dev nD => unscopedRestP pre0 spec0 c (fun b => m (c.tc.loc b))) ∗ (bigSep Finset.univ fun c : Dev nD => levels0 c)) := by
    refine (bigSep_mono fun c _ => core_split m g c).trans ?_
    simp only [BI.bigSep_sep']
    exact BI.Entails.refl _
  have hone (Φ : Fin 1 → Dev nD → sProp 𝕄) : (bigSep Finset.univ fun c : Dev nD => bigSep Finset.univ fun p => Φ p c) ⊢ bigSep Finset.univ fun c : Dev nD => Φ 0 c :=
    bigSep_mono fun c _ => bigSep_elim (Finset.mem_univ 0)
  unfold u₀
  iintro ⟨Hcores, Hu⟩
  ihave H := hc $$ Hcores
  icases H with ⟨Hm, Hs, Hr, Hl⟩
  ihave H := (own_split _ _) $$ Hu
  icases H with ⟨HP, HX⟩
  imod (levels_set (F := F)) $$ Hl with #HL
  imod (Pipeline.PerCore.fund_ghost (cfgs m) EP (cells_inj m)) $$ HP with ⟨Hg, Ht⟩
  imod (deal (msg (data m)) m) $$ [Hs Hr HX] with Hst
  · isplitr; · iexact HL
    isplitl [Hs]; · iexact Hs
    isplitl [Hr]; · iexact Hr
    iexact HX
  imodintro
  unfold pre
  simp only [BI.bigSep_sep']
  isplitl [Hm]; · iexact Hm
  isplitr; · iapply (BI.bigSep_of_persistent (Finset.univ : Finset (Dev nD)) (levAts L lv)); iexact HL
  isplitl [Hg]; · iapply (hone fun p c => cellsGhost (cfgs m) EP p c); iexact Hg
  isplitl [Ht]; · iapply (hone fun p c => toksInit (cfgs m) EP p c); iexact Ht
  iexact Hst

end Cert.Sc

end
-- ==== Proof.Scatter.Ends.lean ====
module

public import proofs.«01_k».proof.Proof.Scatter.Deal

/-!
# The weight gradient's exchange: the launch's two ends

What each device is given makes what holds before its first grid point. After its last its own sums are
there, everything that was sent to it is there, and every semaphore is back at zero.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (ownSems0 launchCred prefHeld scopedRest)

variable (m : (ℓ : Loc nD τ sig) → Buf (Elt F) ℓ) (c : Dev nD)

/-! ### Before the first grid point and after the last -/

theorem dep_first : dep 0 = fun _ => 0 := by decide
theorem arr_first : arr 0 = fun _ => 0 := by decide
theorem free_first : free 0 = fun _ => true := by decide
theorem dep_last : dep 64 = fun _ => 2 := by decide
theorem arr_last : arr 64 = fun _ => 2 := by decide
theorem free_last : free 64 = fun _ => true := by decide

/-- Nothing in use. -/
theorem rooms (b : Fin 3 → Bool) (h : b = fun _ => true) : bigSep Finset.univ (fun k => room (F := F) c k (b k))
    = iprop(slotAny c 0 ∗ slotAny c 4 ∗ (∃ g, tmpP c g) ∗ semVal (locCell c) 0) := by
  subst h; rw [bigSep_three]; rfl

/-- What the launch deals is what holds before the first grid point. -/
theorem begins : iprop((start (msg (data m)) c ∗ launchCred (fun d => owedAt d 0) c) ∗ prefHeld pre0 c (fun _ => fullShare.right) (tabs m c) ∗ scopedRest spec0 c)
    ⊢ Phi m c 0 := by
  have ht : (prefHeld pre0 c (fun _ => fullShare.right) (tabs m c) : sProp 𝕄) ⊢ tabP c ((data m).tab c) := bigSep_elim (Finset.mem_univ (0 : Fin 1))
  unfold Phi stateAt inv start
  rw [scopedRest0_eq, dep_first, arr_first, rooms c _ free_first]
  rw [show (fun j => arrive (msg (data m)) c j 0) = fun j => iprop(cred (tallyAt (recvCell c j) () NX) ∗ atPos EX (recvCell c j) 0 ∅ 0) from rfl, BI.bigSep_sep']
  iintro ⟨⟨⟨HK, Hd, Ha, Hl, Ho⟩, Hcr⟩, Hp, ⟨%f0, H0⟩, H1, ⟨%f2, H2⟩⟩
  ihave Hc := (cred_of (F := F) c) $$ Hcr
  ihave Hs := (split_slots (F := F) c) $$ H1
  icases Hs with ⟨Hs0, Hs4⟩
  isplitl [HK]; · iexact HK
  isplitl [H0]
  · iapply (accP_intro (data m) c 0 _ (fun h => absurd rfl h))
    iapply (owns_intro c.tc accM fullShare)
    rw [View.set_whole]; iexact H0
  isplitl [Ho]
  · unfold ownP
    icases Ho with ⟨%d, Ho⟩
    iexists d
    isplitr; swap; · iexact Ho
    ipureintro; exact fun h => absurd h (by decide)
  isplitr [Hp]; swap; · iapply ht; iexact Hp
  isplitl [Hd]; · iexact Hd
  isplitl [Hc Ha]
  · isplitl [Hc]; · iexact Hc
    iexact Ha
  isplitl [Hs0]; · iexact Hs0
  isplitl [Hs4]; · iexact Hs4
  isplitr [Hl]; swap; · iexact Hl
  iexists f2
  unfold tmpP; rw [View.set_whole]; iexact H2

/-- What the launch leaves on a device: its own sums, and what it was sent. -/
def result : sProp 𝕄 :=
  iprop(owns c.tc ownM fullShare (both (data m) c 3) ∗ bigSep Finset.univ (fun j => landed (msg (data m)) c j))

theorem ends : Phi m c 64 ⊢ iprop(result m c ∗ ownSems0 osem c ∗ scopedRest spec0 c) := by
  unfold Phi stateAt inv result
  rw [scopedRest0_eq, sems_split, by_kind, dep_last, arr_last, rooms c _ free_last]
  rw [show (fun j => arrive (msg (data m)) c j 2) = fun j => iprop(semVal (recvCell c j) 0 ∗ landed (msg (data m)) c j) from rfl, BI.bigSep_sep']
  unfold accP ownP
  iintro ⟨-, ⟨%a, -, Ha⟩, ⟨%d, %hd, Ho⟩, ⟨Hd, ⟨Hr, Hland⟩, Hs0, Hs4, ⟨%g, Hg⟩, Hl⟩, -⟩
  rw [hd rfl]
  isplitl [Ho Hland]
  · isplitl [Ho]; · iexact Ho
    iexact Hland
  isplitl [Hd Hr Hl]
  · isplitl [Hl]; · iexact Hl
    isplitl [Hd]; · iexact Hd
    iexact Hr
  isplitl [Ha]
  · unfold owns
    icases Ha with ⟨%f, -, H⟩
    iexists f
    rw [View.set_whole]; iexact H
  isplitl [Hs0 Hs4]
  · iapply (join_slots (F := F) c)
    isplitl [Hs0]; · iexact Hs0
    iexact Hs4
  iexists g
  unfold tmpP; rw [View.set_whole]; iexact Hg

end Cert.Sc

end
-- ==== Proof.Scatter.CoreRun.lean ====
module

public import proofs.«01_k».proof.Proof.Scatter.Launch
public import proofs.«01_k».proof.Proof.Scatter.Ends

/-!
# The weight gradient's exchange: one device's run

From what the launch gives a device, its run through the grid leaves its sums and what it was sent.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (Dat ownSems0 launchCred prefHeld scopedRest arrRef owing)
open Idealize.ShloMosaic.Pipeline.PerCore (cellsSems0 cellsWaits cellsInit cellsGhost toksInit EntryPre EntryPost)

variable (m : (ℓ : Loc nD τ sig) → Buf (Elt F) ℓ) (c : Dev nD)

theorem stage_low : ∀ (w : Fin 3) (s : Fin (spec0 w).nbuf), lvO (dec ((spec0 w).sem s)) = 0 := by decide

/-- A device may wait for its staged blocks whatever it owes. -/
theorem may_stage : (levAts L lv : sProp 𝕄) ⊢ cellsWaits (cfgs m) (pdats m) () 0 c :=
  Pipeline.PerCore.cellsWaits_intro (cfgs m) (pdats m) () 0 c fun w s t => mayWait_low c t.val _ (stage_low w s)

/-- The arrays that blocks are staged from. -/
abbrev sources : sProp 𝕄 := bigSep Finset.univ fun w : Fin 3 => (c.tc.loc (arrRef spec0 w)) ↦{fullShare} m (c.tc.loc (arrRef spec0 w))

theorem sources_eq : (pdats m 0 c).arrays (pdats m 0 c).A = sources m c :=
  Pipeline.PerCore.arrays_eq (cfgs m) (pdats m) 0 c arr_whole0 (fun w => match w with | 0 => rfl | 1 => rfl | 2 => rfl | ⟨_ + 3, h⟩ => absurd h (Nat.not_lt.2 (Nat.le_add_left _ _))) _

/-- Blocks are only read from them. -/
theorem sources_last (w : Fin 3) : (pdats m 0 c).arrAt w (cfgs m c 0).N = (pdats m 0 c).A w :=
  match w with
  | 0 => (dats m 0 c).arrAt_in 0 rfl _
  | 1 => (dats m 0 c).arrAt_in 1 rfl _
  | 2 => (dats m 0 c).arrAt_in 2 rfl _
  | ⟨_ + 3, h⟩ => absurd h (Nat.not_lt.2 (Nat.le_add_left _ _))

/-- What is read of device `c` when every device has run. -/
def fin : sProp 𝕄 :=
  iprop(sources m c ∗ prefHeld pre0 c (fun _ => fullShare.left) (tabs m c) ∗ result m c ∗ scopedSems0 c.tc)

theorem main_eq : main (F := F) c = .op (.customCall (Pipeline.entry 0) ()) fun _ => .ret ⟨⟩ := rfl

theorem Phi_first : (pdats m 0 c).Φ 0 = Phi m c 0 := rfl
theorem Phi_last : (pdats m 0 c).Φ (Fin.last (cfgs m c 0).N) = Phi m c 64 := congrArg (Phi m c) N_0
theorem owed_first : (pdats m 0 c).owed 0 = owedAt c 0 := rfl
theorem owed_last : (pdats m 0 c).owed (Fin.last (cfgs m c 0).N) = 0 := (congrArg (owedAt c) N_0).trans (owedAt_end c 64 (by decide))

/-- After the last grid point the device's semaphores and scratch buffers are back. -/
theorem leave : iprop((pdats m 0 c).Φ (Fin.last (cfgs m c 0).N) ∗ cellsSems0 (cfgs m) 0 c ∗ Pipeline.Dat.staging (cfgs m c 0) c ∗ idle m c)
    ⊢ iprop(result m c ∗ scopedSems0 c.tc ∗ scopedBufs c.tc) := by
  rw [sems_eq m c, bufs_eq m c, Phi_last m c]
  iintro ⟨HΦ, Hcells, Hst, Hidle⟩
  ihave H := (ends m c) $$ HΦ
  icases H with ⟨HY, Hos, Hrest⟩
  isplitl [HY]; · iexact HY
  isplitl [Hcells Hos Hidle]
  · isplitl [Hcells Hos]
    · isplitl [Hcells]; · iexact Hcells
      iexact Hos
    iexact Hidle
  isplitl [Hst]; · iexact Hst
  iexact Hrest

/-- What the launch gives a device is what its pipeline enters with. -/
theorem enter (κ : GSem nD τ sig → ℕ) :
    iprop(sources m c ∗ owes c.tc (owedAt c 0) ∅ ∗ levAts L lv ∗ cellsInit (cfgs m) (pdats m) EP κ 0 c ∗ toksInit (cfgs m) EP 0 c)
      ⊢ EntryPre (cfgs m) (pdats m) () EP κ 0 c := by
  unfold EntryPre Dat.owesAt Pipeline.owesWithin
  iintro ⟨Harr, HO, HL, Hinit, Ht⟩
  isplitl [Harr]; · iapply (Entails.of_eq (sources_eq m c).symm); iexact Harr
  isplitl [HO]
  · iexists ∅
    isplitr; swap; · iexact HO
    ipureintro; rw [Finset.coe_empty]; exact Set.empty_subset _
  isplitl [HL]; · iapply (may_stage m c); iexact HL
  isplitl [Hinit]; · iexact Hinit
  iexact Ht

/-- What the pipeline leaves. -/
theorem left : EntryPost (cfgs m) (pdats m) () 0 c ⊢ iprop(sources m c ∗ ∃ W, owes c.tc 0 W) := by
  unfold EntryPost Dat.owesAt Pipeline.owesWithin
  rw [owed_last m c, show (fun w => (pdats m 0 c).arrAt w (cfgs m c 0).N) = (pdats m 0 c).A from funext (sources_last m c), sources_eq m c]
  iintro ⟨Ha, ⟨%W, -, HW⟩⟩
  isplitl [Ha]; · iexact Ha
  iexists W; iexact HW

/-- Device `c`'s run. -/
theorem core_run : pre m c ⊢ wp frame (wpE (defs (F := F)) (Variants.lift Variants.none) c.tc none) Set.univ (main c)
    (fun _ => post (liftTc (fin m) BI.emp) c.tc) := by
  have hrun (κ : GSem nD τ sig → ℕ) := Pipeline.PerCore.wp_customCall_entry_frame (pcfgs (F := F)) (adms m) (pdats m) () EP κ (cells_inj m) 0 (defs₀ (F := F)) Variants.none
      (fun _ => fullShare.right) c Set.univ (fun _ _ => Set.mem_univ _) (body_obligation m c).loose block_pos0 none (fun u h => nomatch h)
      (X := iprop(start (msg (data m)) c ∗ launchCred (fun d => owedAt d 0) c)) (Y := result m c) (R := scopedRest spec0 c) (I := idle m c)
      (Entails.of_eq (bufs_eq m c)) (begins m c) (leave m c)
      (k := fun _ => .ret PUnit.unit) (Q := fun _ => post (liftTc (fin m) BI.emp) c.tc)
  rw [main_eq]
  unfold pre mine
  iintro ⟨⟨Hb, Hcells, Hidle, Harr, Hp, HO, Hcr⟩, #HL, Hg, Ht, Hst⟩
  ihave Hp2 := ((Pipeline.prefHeld_share pre0 c (PosShare.mem_left_op_right fullShare) (tabs m c)).1) $$ Hp
  icases Hp2 with ⟨Hpl, Hpr⟩
  iapply (fupd_wp frame (wpE (defs (F := F)) (Variants.lift Variants.none) c.tc none) Set.univ _ _)
  imod (Pipeline.PerCore.cellsInit_alloc (cfgs m) (pdats m) EP (cells_inj m) 0 c) $$ [Hcells Hg] with ⟨%κ, -, Hinit⟩
  · isplitl [Hcells]; · iexact Hcells
    iexact Hg
  ihave He := (enter m c κ) $$ [Harr HO Hinit Ht]
  · isplitl [Harr]; · iexact Harr
    isplitl [HO]; · iexact HO
    isplitr; · iexact HL
    isplitl [Hinit]; · iexact Hinit
    iexact Ht
  imodintro
  iapply (hrun κ) $$ [He Hpr Hst Hcr Hidle Hb]
  · isplitl [He]; · iexact He
    isplitl [Hpr]; · iexact Hpr
    isplitl [Hst Hcr]
    · isplitl [Hst]; · iexact Hst
      iexact Hcr
    isplitl [Hidle]; · iexact Hidle
    iexact Hb
  iintro ⟨Hpost, HY, Hss, -⟩
  ihave H := (left m c) $$ Hpost
  icases H with ⟨Ha, HW⟩
  rw [wp_ret]; imodintro
  unfold post
  simp only [liftTc_tc, fin]
  isplitr [HW]; swap; · iexact HW
  isplitl [Ha]; · iexact Ha
  isplitl [Hpl]; · iexact Hpl
  isplitl [HY]; · iexact HY
  iexact Hss

end Cert.Sc

end
-- ==== Proof.Scatter.Run.lean ====
module

public import proofs.«01_k».proof.Proof.Scatter.CoreRun

/-!
# The weight gradient's exchange: its runs

Every run ends with its arguments as they were, every semaphore at zero, each device's sums in its result
and in every slice what its partner sent.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (prefHeld arrRef owing)

variable (m : (ℓ : Loc nD τ sig) → Buf (Elt F) ℓ) (c : Dev nD)

/-! ### Reading the memory that the devices leave -/

section Reads
variable (s' : Phys nD τ sig (Elt F))

theorem read_at {ℓ : Loc nD τ sig} {I : Finset (Idx ℓ)} {q : PosShare TreeShare} {f : Buf (Elt F) ℓ} :
    (iprop((ℓ ↦[I]{q} f) ∗ SI s') : sProp 𝕄) ⊢ (⌜∀ i ∈ I, s'.mem.mem ℓ i = f i⌝ : sProp 𝕄) := sep_comm.1.trans SI_pointsTo_agree

theorem read_source (w : Fin 3) : (iprop(fin m c ∗ SI s') : sProp 𝕄) ⊢ (⌜s'.mem.mem (c.tc.loc (arrRef spec0 w)) = m (c.tc.loc (arrRef spec0 w))⌝ : sProp 𝕄) := by
  refine (show _ ⊢ iprop(((c.tc.loc (arrRef spec0 w)) ↦{fullShare} m (c.tc.loc (arrRef spec0 w))) ∗ SI s') from ?_).trans
    ((read_at s').trans (BI.pure_mono fun h => funext fun i => h i (Finset.mem_univ i)))
  have hw : (sources m c : sProp 𝕄) ⊢ ((c.tc.loc (arrRef spec0 w)) ↦{fullShare} m (c.tc.loc (arrRef spec0 w))) := bigSep_elim (Finset.mem_univ w)
  unfold fin
  iintro ⟨⟨H, -⟩, HS⟩
  isplitl [H]; · iapply hw; iexact H
  iexact HS

theorem read_table : (iprop(fin m c ∗ SI s') : sProp 𝕄) ⊢ (⌜s'.mem.mem (c.tc.loc main_arg0) = m (c.tc.loc main_arg0)⌝ : sProp 𝕄) := by
  refine (show _ ⊢ iprop(((c.tc.loc main_arg0) ↦{fullShare.left} m (c.tc.loc main_arg0)) ∗ SI s') from ?_).trans
    ((read_at s').trans (BI.pure_mono fun h => funext fun i => h i (Finset.mem_univ i)))
  have hw : (prefHeld pre0 c (fun _ => fullShare.left) (tabs m c) : sProp 𝕄) ⊢ ((c.tc.loc main_arg0) ↦{fullShare.left} m (c.tc.loc main_arg0)) :=
    bigSep_elim (Finset.mem_univ (0 : Fin 1))
  unfold fin
  iintro ⟨⟨-, H, -⟩, HS⟩
  isplitl [H]; · iapply hw; iexact H
  iexact HS

theorem read_own : (iprop(fin m c ∗ SI s') : sProp 𝕄) ⊢ (⌜s'.mem.mem (c.tc.loc main_v1_0) = both (data m) c 3⌝ : sProp 𝕄) := by
  unfold fin result owns
  iintro ⟨⟨-, -, ⟨⟨%f, %hf, H⟩, -⟩, -⟩, HS⟩
  ihave %h := (read_at s') $$ [H HS]
  · isplitl [H]; · iexact H
    iexact HS
  ipureintro
  rw [View.set_whole] at h
  rw [← hf, View.read_whole]
  exact funext fun i => h i (Finset.mem_univ i)

theorem read_landed (j : Fin 7) : (iprop(fin m c ∗ SI s') : sProp 𝕄)
    ⊢ (⌜(dst j).view.read (Elt F) (s'.mem.mem ((dst j).view.loc c.tc)) = msg (data m) (mate j c) j⌝ : sProp 𝕄) := by
  have hj : (bigSep Finset.univ (fun j => landed (msg (data m)) c j) : sProp 𝕄) ⊢ landed (msg (data m)) c j := bigSep_elim (Finset.mem_univ j)
  unfold fin result
  iintro ⟨⟨-, -, ⟨-, H⟩, -⟩, HS⟩
  ihave H' := hj $$ H
  unfold landed
  icases H' with ⟨%f, %hf, H⟩
  ihave %h := (read_at s') $$ [H HS]
  · isplitl [H]; · iexact H
    iexact HS
  ipureintro
  rw [← hf]
  exact View.read_congr h

theorem read_sems : (iprop(fin m c ∗ SI s') : sProp 𝕄) ⊢ (⌜∀ sm : SemLoc sig, sm.isScoped .tc = true → s'.mem.sem (c.tc, sm) = 0⌝ : sProp 𝕄) := by
  refine (show _ ⊢ iprop(scopedSems0 c.tc ∗ SI s') from ?_).trans (tcScoped_read c s')
  unfold fin
  iintro ⟨⟨-, -, -, H⟩, HS⟩
  isplitl [H]; · iexact H
  iexact HS

end Reads

/-! ### The run -/

/-- What a run leaves: its arguments as they were, each device's sums, and what each device was sent. -/
def left_by (s : MemSt nD τ sig (Elt F)) : Prop :=
  (∀ c : Dev nD, (∀ w : Fin 3, s.mem (c.tc.loc (arrRef spec0 w)) = m (c.tc.loc (arrRef spec0 w)))
    ∧ s.mem (c.tc.loc main_arg0) = m (c.tc.loc main_arg0)
    ∧ s.mem (c.tc.loc main_v1_0) = both (data m) c 3
    ∧ ∀ j : Fin 7, (dst j).view.read (Elt F) (s.mem ((dst j).view.loc c.tc)) = msg (data m) (mate j c) j)
  ∧ s.sem = fun _ => 0

theorem all_scoped : ∀ sm : SemLoc sig, sm.isScoped .tc = true := by decide

/-- Every run ends, and ends so. -/
theorem run_all (g : Dev nD → PrngReg) : θ_run (defs (F := F)) (onTc (τ := τ) (main (F := F))) ⟨m, fun _ => 0, g⟩ (fun r => left_by m r.2) := by
  refine adequate_tpu (defs (F := F)) _ _ _
    (reflect_intro_fupd_tc_sems (Ix := Unit) (Name := ℕ) (U := UU nD τ) (Lvl := ℕ) (X := Unit) (Variants.lift Variants.none) (owing fun d => owedAt d 0) 0 (noBookings fun _ => le_rfl)
      (Pipeline.owing_of_ne fun d => owedAt d 0) (u₀ m) (fun _ => pre m) (fun _ => fin m) (fun _ => iprop(emp)) Set.univ ?_ (fun _ c => core_run m c) fun _ => ?_)
  · iintro H
    imod (launched m g) $$ H with Hp
    imodintro
    iexists ()
    isplitl [Hp]; · iexact Hp
    iempintro
  · have hall (s' : Phys nD τ sig (Elt F)) : (iprop(bigSep Finset.univ (fin m) ∗ SI s') : sProp 𝕄)
        ⊢ (⌜∀ c : Dev nD, ((∀ w : Fin 3, s'.mem.mem (c.tc.loc (arrRef spec0 w)) = m (c.tc.loc (arrRef spec0 w)))
          ∧ s'.mem.mem (c.tc.loc main_arg0) = m (c.tc.loc main_arg0)
          ∧ s'.mem.mem (c.tc.loc main_v1_0) = both (data m) c 3
          ∧ ∀ j : Fin 7, (dst j).view.read (Elt F) (s'.mem.mem ((dst j).view.loc c.tc)) = msg (data m) (mate j c) j)
          ∧ ∀ sm : SemLoc sig, sm.isScoped .tc = true → s'.mem.sem (c.tc, sm) = 0⌝ : sProp 𝕄) :=
      fun x hx c =>
        have hc : (iprop(bigSep Finset.univ (fin m) ∗ SI s') : sProp 𝕄) ⊢ iprop(fin m c ∗ SI s') := sep_mono (bigSep_elim (Finset.mem_univ c)) .rfl
        ⟨⟨fun w => (hc.trans (read_source m c s' w)) x hx, (hc.trans (read_table m c s')) x hx, (hc.trans (read_own m c s')) x hx,
          fun j => (hc.trans (read_landed m c s' j)) x hx⟩, (hc.trans (read_sems m c s')) x hx⟩
    have hall' (s' : Phys nD τ sig (Elt F)) := (hall s').trans Laws.persistently_pure.2
    iintro ⟨H, -, Hsc⟩ %s' HSI
    ihave %hsc := (scSems_read_zero m g s') $$ [Hsc HSI]
    · isplitl [Hsc]; · iexact Hsc
      iexact HSI
    ihave %h := (hall' s') $$ [H HSI]
    · isplitl [H]; · iexact H
      iexact HSI
    imodintro
    ipureintro
    exact ⟨fun c => (h c).1, sem_eq_zero_of_scoped all_scoped (sems_of_reads (fun c => (h c).2) hsc)⟩

end Cert.Sc

end
-- ==== Proof.Scatter.Ref.lean ====
module

public import proofs.«01_k».proof.Proof.Gen.Reference5Ideal.Read
public import proofs.«01_k».proof.Proof.Gen.Reference5Ideal.Run
public import Idealize.ShloMosaic.Lib.Tactic
public import Idealize.ShloMosaic.Lib.Pointwise

/-!
# What the reference computes for the gradient of the input projection's weight

Every device's rows of `h` against the eight blocks of columns of the projection's gradient; the blocks of a
device in the order of its table; and the sums over the two devices of a chip, where they are taken to.
-/

@[expose] public noncomputable section

namespace Cert.Sc.Ref

open Cert.Reference5Ideal Cert.Reference5Ideal.Read Idealize.ShloMosaic Idealize.ShloMosaic.TcCoe Idealize.SL.Sem

variable (o : IVec S64 32) (h : Vec Ideal S65536x2048 .bf16) (zh za : Vec Ideal S4x65536x1024 .bf16)

/-- Row `s` of device `p`. -/
def row (p : Fin 8) (s : Fin 8192) : Fin 65536 := ⟨p.val * 8192 + s.val, by omega⟩

/-- The gradient of output `e` of projection `n` at row `r`: the recurrence's four projections, then the attention's. -/
def dzAt (n : Fin 8) (r : Fin 65536) (e : Fin 1024) : EReal :=
  if hn : n.val < 4 then zh (ix3 ⟨n.val, hn⟩ r e) else za (ix3 ⟨n.val - 4, by omega⟩ r e)

/-- Device `p`'s share of the gradient of weight `(d, e)` of projection `n`. -/
def partAt (p n : Fin 8) (d : Fin 2048) (e : Fin 1024) : EReal :=
  ∑ s : Fin 8192, dzAt zh za n (row p s) e * h (ix2 (row p s) d)

/-- An entry of the order, taken to the nearest block there is. -/
def clampTo (v : BitVec 32) : Fin 8 := ⟨(max 0 (min 7 v.toInt)).toNat, by omega⟩

/-- The block that device `p` takes in its turn `k`. -/
def blockOf (p k : Fin 8) : Fin 8 := clampTo (o (ix1 ⟨8 * p.val + k.val, by omega⟩))

/-- Device `p`'s share of that block. -/
def mineAt (p k : Fin 8) (d : Fin 2048) (e : Fin 1024) : EReal := partAt h zh za p (blockOf o p k) d e

/-- What the two devices of a chip have of one block together. -/
def chipAt (p : Fin 8) (t : Fin 4) (d : Fin 2048) (e : Fin 1024) : EReal :=
  mineAt o h zh za p ⟨2 * t.val + 1, by omega⟩ d e + mineAt o h zh za (p ^^^ 1) ⟨2 * t.val, by omega⟩ d e

theorem v1_apply (n : Fin 8) (r : Fin 65536) (e : Fin 1024) :
    val_main_v1 (F := Ideal) zh za (ix3 n r e) = dzAt zh za n r e := by
  unfold val_main_v1 val_main_v0
  pointwise
  rfl

theorem v2_apply (n p : Fin 8) (s : Fin 8192) (e : Fin 1024) :
    val_main_v2 (F := Ideal) zh za (ix4 n p s e) = dzAt zh za n (row p s) e := by
  rw [val_main_v2_apply, ← v1_apply]
  refine congrArg _ (funext fun a => Fin.ext ?_)
  match a with
  | ⟨0, _⟩ => show (((n.val * 8 + p.val) * 8192 + s.val) * 1024 + e.val) / 67108864 = n.val; omega
  | ⟨1, _⟩ => show (((n.val * 8 + p.val) * 8192 + s.val) * 1024 + e.val) / 1024 % 65536 = p.val * 8192 + s.val; omega
  | ⟨2, _⟩ => show (((n.val * 8 + p.val) * 8192 + s.val) * 1024 + e.val) % 1024 = e.val; omega

theorem v4_apply (p : Fin 8) (s : Fin 8192) (d : Fin 2048) :
    val_main_v4 (F := Ideal) h (ix3 p s d) = h (ix2 (row p s) d) := by
  rw [val_main_v4_apply, val_main_v3_apply]
  refine congrArg h (funext fun a => Fin.ext ?_)
  match a with
  | ⟨0, _⟩ => show ((p.val * 8192 + s.val) * 2048 + d.val) / 2048 = p.val * 8192 + s.val; omega
  | ⟨1, _⟩ => show ((p.val * 8192 + s.val) * 2048 + d.val) % 2048 = d.val; omega

theorem v6_apply (p n : Fin 8) (d : Fin 2048) (e : Fin 1024) :
    val_main_v6 (F := Ideal) h zh za (ix4 p n d e) = partAt h zh za p n d e := by
  unfold val_main_v6 val_main_v5
  pointwise [v2_apply, v4_apply]
  rfl

theorem v7_apply (p n : Fin 8) (d : Fin 2048) (e : Fin 1024) :
    val_main_v7 (F := Ideal) h zh za (ix3 ⟨8 * p.val + n.val, by omega⟩ d e) = partAt h zh za p n d e := by
  rw [val_main_v7_apply, ← v6_apply]
  refine congrArg _ (funext fun a => Fin.ext ?_)
  match a with
  | ⟨0, _⟩ => show (((8 * p.val + n.val) * 2048 + d.val) * 1024 + e.val) / 16777216 = p.val; omega
  | ⟨1, _⟩ => show (((8 * p.val + n.val) * 2048 + d.val) * 1024 + e.val) / 2097152 % 8 = n.val; omega
  | ⟨2, _⟩ => show (((8 * p.val + n.val) * 2048 + d.val) * 1024 + e.val) / 1024 % 2048 = d.val; omega
  | ⟨3, _⟩ => show (((8 * p.val + n.val) * 2048 + d.val) * 1024 + e.val) % 1024 = e.val; omega

/-! ### The order -/

theorem clamped (v : BitVec 32) : (IntOp.minsi 7#32 (IntOp.maxsi 0#32 v)).toInt = ((clampTo v).val : ℤ) := by
  show _ = ((max 0 (min 7 v.toInt)).toNat : ℤ)
  have h0 : (0#32 : BitVec 32).toInt = 0 := by decide
  have h7 : (7#32 : BitVec 32).toInt = 7 := by decide
  unfold IntOp.minsi IntOp.maxsi
  split <;> split <;> simp_all [BitVec.slt_iff_toInt_lt] <;> omega

theorem word_sum (p n : Fin 8) (w : BitVec 32) (hw : w.toInt = (n.val : ℤ)) :
    (IntOp.addi w (IntOp.muli 8#32 (BitVec.ofNat 32 p.val))).toInt = 8 * (p.val : ℤ) + (n.val : ℤ) := by
  have h : ∀ n : Fin 8, (BitVec.ofNat 32 n.val).toInt = (n.val : ℤ) := by decide
  obtain rfl : w = BitVec.ofNat 32 n.val := BitVec.eq_of_toInt_eq (hw.trans (h n).symm)
  revert p n; decide

theorem v16_apply (p k : Fin 8) (l : Fin 1) : (val_main_v16 (F := Ideal) o (ix3 p k l)).toInt = 8 * (p.val : ℤ) + ((blockOf o p k).val : ℤ) := by
  unfold val_main_v16 val_main_v15 val_main_v14 val_main_v13 val_main_v12 val_main_v11 val_main_v10 val_main_v9 val_main_v8
    val_main_call0_v4 val_main_call0_v3 val_main_call0_v2 val_main_call0_v1 val_main_call0_v0 val_main_c val_main_c_0 val_main_c_1
  pointwise
  refine word_sum p (blockOf o p k) _ ((clamped _).trans ?_)
  have e : (⟨p.val * 8 + k.val, by omega⟩ : Fin 64) = ⟨8 * p.val + k.val, by omega⟩ := Fin.ext (by show p.val * 8 + k.val = 8 * p.val + k.val; omega)
  rw [e]
  rfl

/-- A row of slices taken by a table: the slice at each entry. -/
theorem taken {x : (⟨3, ![64, 2048, 1024]⟩ : Shape).Idx → EReal} {idx : IVec ⟨3, ![8, 8, 1]⟩ 32} (p k : Fin 8) (d : Fin 2048) (e : Fin 1024)
    {n : ℕ} (hn : n < 64) (h : (idx (ix3 p k 0)).toInt = n) :
    Host.gather gather_S64x2048x1024_S8x8x1_S8x8x2048x1024_23_0_n_n_0_2_120481024 x idx (ix4 p k d e) = x (ix3 ⟨n, hn⟩ d e) := by
  unfold Host.gather
  refine congrArg x (funext fun a => Fin.ext ?_)
  show gather_S64x2048x1024_S8x8x1_S8x8x2048x1024_23_0_n_n_0_2_120481024.start (ix4 p k d e) idx a
    + gather_S64x2048x1024_S8x8x1_S8x8x2048x1024_23_0_n_n_0_2_120481024.batchCoord (ix4 p k d e) a
    + gather_S64x2048x1024_S8x8x1_S8x8x2048x1024_23_0_n_n_0_2_120481024.offCoord (ix4 p k d e) a = _
  rw [GatherDims.batchCoord_eq_zero _ _ _ List.not_mem_nil]
  unfold GatherDims.start
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [dif_pos (show (0 : Fin 3) ∈ gather_S64x2048x1024_S8x8x1_S8x8x2048x1024_23_0_n_n_0_2_120481024.startIndexMap from List.mem_singleton.mpr rfl), GatherDims.offCoord_eq_zero _ _ _ (fun h => ((GatherDims.mem_sKept _ _).mp h).1 (List.mem_singleton.mpr rfl))]
    have hsi : gather_S64x2048x1024_S8x8x1_S8x8x2048x1024_23_0_n_n_0_2_120481024.siIdx (ix4 p k d e)
        ⟨List.idxOf (0 : Fin 3) gather_S64x2048x1024_S8x8x1_S8x8x2048x1024_23_0_n_n_0_2_120481024.startIndexMap,
          List.idxOf_lt_length_iff.2 (List.mem_singleton.mpr rfl)⟩ = ix3 p k 0 := by
      funext b; refine Fin.ext ?_
      match b with
      | ⟨0, _⟩ => rfl
      | ⟨1, _⟩ => rfl
      | ⟨2, _⟩ => rfl
    erw [hsi, h]
    show min ((n : ℤ).toNat) 63 + 0 + 0 = n
    omega
  · rw [dif_neg (show (1 : Fin 3) ∉ gather_S64x2048x1024_S8x8x1_S8x8x2048x1024_23_0_n_n_0_2_120481024.startIndexMap from (by decide : (1 : Fin 3) ∉ [(0 : Fin 3)]))]
    show 0 + 0 + d.val = d.val
    omega
  · rw [dif_neg (show (2 : Fin 3) ∉ gather_S64x2048x1024_S8x8x1_S8x8x2048x1024_23_0_n_n_0_2_120481024.startIndexMap from (by decide : (2 : Fin 3) ∉ [(0 : Fin 3)]))]
    show 0 + 0 + e.val = e.val
    omega

theorem v17_apply (p k : Fin 8) (d : Fin 2048) (e : Fin 1024) :
    val_main_v17 (F := Ideal) o h zh za (ix4 p k d e) = mineAt o h zh za p k d e := by
  unfold val_main_v17 mineAt
  rw [← v7_apply]
  exact taken p k d e (by omega) (by rw [v16_apply]; push_cast; rfl)

/-! ### The two devices of a chip -/

theorem flip_pair (p : Fin 8) : (p ^^^ 1).val = 2 * (p.val / 2) + (1 - p.val % 2) := by revert p; decide
theorem flip_both (p : Fin 8) : (p ^^^ 6).val = 2 * (3 - p.val / 2) + p.val % 2 := by revert p; decide
theorem flip_x (p : Fin 8) : (p ^^^ 4).val = 4 * (1 - p.val / 4) + p.val % 4 := by revert p; decide
theorem flip_y (p : Fin 8) : (p ^^^ 2).val = 4 * (p.val / 4) + 2 * (1 - p.val / 2 % 2) + p.val % 2 := by revert p; decide

theorem v20_apply (p k : Fin 8) (d : Fin 2048) (e : Fin 1024) :
    val_main_v20 (F := Ideal) o h zh za (ix4 p k d e) = mineAt o h zh za (p ^^^ 1) k d e := by
  have e1 : idx_main_v20 (ix4 p k d e) = ix5 (⟨p.val / 2, by omega⟩ : Fin 4) (⟨p.val % 2, by omega⟩ : Fin 2) k d e := by
    refine funext fun a => Fin.ext ?_
    match a with
    | ⟨0, _⟩ => show (((p.val * 8 + k.val) * 2048 + d.val) * 1024 + e.val) / 33554432 = p.val / 2; omega
    | ⟨1, _⟩ => show (((p.val * 8 + k.val) * 2048 + d.val) * 1024 + e.val) / 16777216 % 2 = p.val % 2; omega
    | ⟨2, _⟩ => show (((p.val * 8 + k.val) * 2048 + d.val) * 1024 + e.val) / 2097152 % 8 = k.val; omega
    | ⟨3, _⟩ => show (((p.val * 8 + k.val) * 2048 + d.val) * 1024 + e.val) / 1024 % 2048 = d.val; omega
    | ⟨4, _⟩ => show (((p.val * 8 + k.val) * 2048 + d.val) * 1024 + e.val) % 1024 = e.val; omega
  rw [val_main_v20_apply, e1, ← v17_apply]
  show val_main_v18 (F := Ideal) o h zh za (ix5 (⟨p.val / 2, by omega⟩ : Fin 4) (Fin.rev (⟨p.val % 2, by omega⟩ : Fin 2)) k d e) = _
  rw [val_main_v18_apply]
  refine congrArg _ (funext fun a => Fin.ext ?_)
  have hp := flip_pair p
  have hr : (Fin.rev (⟨p.val % 2, by omega⟩ : Fin 2)).val = 1 - p.val % 2 := by rw [Fin.val_rev]; show 2 - (p.val % 2 + 1) = _; omega
  generalize (Fin.rev (⟨p.val % 2, by omega⟩ : Fin 2)) = q at hr ⊢
  match a with
  | ⟨0, _⟩ => show ((((p.val / 2 * 2 + q.val) * 8 + k.val) * 2048 + d.val) * 1024 + e.val) / 16777216 = (p ^^^ 1).val; omega
  | ⟨1, _⟩ => show ((((p.val / 2 * 2 + q.val) * 8 + k.val) * 2048 + d.val) * 1024 + e.val) / 2097152 % 8 = k.val; omega
  | ⟨2, _⟩ => show ((((p.val / 2 * 2 + q.val) * 8 + k.val) * 2048 + d.val) * 1024 + e.val) / 1024 % 2048 = d.val; omega
  | ⟨3, _⟩ => show ((((p.val / 2 * 2 + q.val) * 8 + k.val) * 2048 + d.val) * 1024 + e.val) % 1024 = e.val; omega

theorem v23_apply (p : Fin 8) (t : Fin 4) (d : Fin 2048) (e : Fin 1024) :
    val_main_v23 (F := Ideal) o h zh za (ix4 p t d e) = chipAt o h zh za p t d e := by
  have e1 : val_main_v21 (F := Ideal) o h zh za (ix4 p t d e) = val_main_v17 (F := Ideal) o h zh za (ix4 p ⟨2 * t.val + 1, by omega⟩ d e) := by
    unfold val_main_v21
    generalize val_main_v17 (F := Ideal) o h zh za = y
    unfold Host.slice
    refine congrArg y (funext fun a => Fin.ext ?_)
    match a with
    | ⟨0, _⟩ => show 0 + 1 * p.val = p.val; omega
    | ⟨1, _⟩ => show 1 + 2 * t.val = 2 * t.val + 1; omega
    | ⟨2, _⟩ => show 0 + 1 * d.val = d.val; omega
    | ⟨3, _⟩ => show 0 + 1 * e.val = e.val; omega
  have e2 : val_main_v22 (F := Ideal) o h zh za (ix4 p t d e) = val_main_v20 (F := Ideal) o h zh za (ix4 p ⟨2 * t.val, by omega⟩ d e) := by
    unfold val_main_v22
    generalize val_main_v20 (F := Ideal) o h zh za = y
    unfold Host.slice
    refine congrArg y (funext fun a => Fin.ext ?_)
    match a with
    | ⟨0, _⟩ => show 0 + 1 * p.val = p.val; omega
    | ⟨1, _⟩ => show 0 + 2 * t.val = 2 * t.val; omega
    | ⟨2, _⟩ => show 0 + 1 * d.val = d.val; omega
    | ⟨3, _⟩ => show 0 + 1 * e.val = e.val; omega
  rw [val_main_v23_apply, e1, e2, v17_apply, v20_apply]
  rfl

/-- Row `d` of device `p`'s block of the result. -/
def outRow (p : Fin 8) (d : Fin 2048) : Fin 16384 := ⟨2048 * p.val + d.val, by omega⟩

/-- The reference's sums of the block that each device keeps. -/
theorem v41_apply (p : Fin 8) (d : Fin 2048) (e : Fin 1024) :
    val_main_v41 (F := Ideal) o h zh za (ix2 (outRow p d) e) = chipAt o h zh za p 3 d e := by
  rw [val_main_v41_apply, val_main_v40_apply, val_main_v39_apply, ← v23_apply]
  refine congrArg _ (funext fun a => Fin.ext ?_)
  match a with
  | ⟨0, _⟩ => show _ = p.val; simp [outRow]; omega
  | ⟨1, _⟩ => show _ = 3; simp [outRow]
  | ⟨2, _⟩ => show _ = d.val; simp [outRow]; omega
  | ⟨3, _⟩ => show _ = e.val; simp [outRow]

/-! ### Over the chips -/

theorem v25_apply (p : Fin 8) (d : Fin 2048) (e : Fin 1024) :
    val_main_v25 (F := Ideal) o h zh za (ix3 p d e) = chipAt o h zh za p 0 d e := by
  rw [val_main_v25_apply, val_main_v24_apply, ← v23_apply]
  refine congrArg _ (funext fun a => Fin.ext ?_)
  match a with
  | ⟨0, _⟩ => show ((p.val * 2048 + d.val) * 1024 + e.val) / 2097152 + 0 = p.val; omega
  | ⟨1, _⟩ => show 0 + 0 = 0; rfl
  | ⟨2, _⟩ => show ((p.val * 2048 + d.val) * 1024 + e.val) / 1024 % 2048 + 0 = d.val; omega
  | ⟨3, _⟩ => show ((p.val * 2048 + d.val) * 1024 + e.val) % 1024 + 0 = e.val; omega

theorem v30_apply (p : Fin 8) (d : Fin 2048) (e : Fin 1024) :
    val_main_v30 (F := Ideal) o h zh za (ix3 p d e) = chipAt o h zh za p 1 d e := by
  rw [val_main_v30_apply, val_main_v29_apply, ← v23_apply]
  refine congrArg _ (funext fun a => Fin.ext ?_)
  match a with
  | ⟨0, _⟩ => show ((p.val * 2048 + d.val) * 1024 + e.val) / 2097152 + 0 = p.val; omega
  | ⟨1, _⟩ => show 0 + 1 = 1; rfl
  | ⟨2, _⟩ => show ((p.val * 2048 + d.val) * 1024 + e.val) / 1024 % 2048 + 0 = d.val; omega
  | ⟨3, _⟩ => show ((p.val * 2048 + d.val) * 1024 + e.val) % 1024 + 0 = e.val; omega

theorem v35_apply (p : Fin 8) (d : Fin 2048) (e : Fin 1024) :
    val_main_v35 (F := Ideal) o h zh za (ix3 p d e) = chipAt o h zh za p 2 d e := by
  rw [val_main_v35_apply, val_main_v34_apply, ← v23_apply]
  refine congrArg _ (funext fun a => Fin.ext ?_)
  match a with
  | ⟨0, _⟩ => show ((p.val * 2048 + d.val) * 1024 + e.val) / 2097152 + 0 = p.val; omega
  | ⟨1, _⟩ => show 0 + 2 = 2; rfl
  | ⟨2, _⟩ => show ((p.val * 2048 + d.val) * 1024 + e.val) / 1024 % 2048 + 0 = d.val; omega
  | ⟨3, _⟩ => show ((p.val * 2048 + d.val) * 1024 + e.val) % 1024 + 0 = e.val; omega

theorem v28_apply (p : Fin 8) (d : Fin 2048) (e : Fin 1024) :
    val_main_v28 (F := Ideal) o h zh za (ix2 (outRow p d) e) = chipAt o h zh za (p ^^^ 6) 0 d e := by
  have e1 : idx_main_v28 (ix2 (outRow p d) e) = ix4 (⟨p.val / 2, by omega⟩ : Fin 4) (⟨p.val % 2, by omega⟩ : Fin 2) d e := by
    refine funext fun a => Fin.ext ?_
    match a with
    | ⟨0, _⟩ => show ((2048 * p.val + d.val) * 1024 + e.val) / 4194304 = p.val / 2; omega
    | ⟨1, _⟩ => show ((2048 * p.val + d.val) * 1024 + e.val) / 2097152 % 2 = p.val % 2; omega
    | ⟨2, _⟩ => show ((2048 * p.val + d.val) * 1024 + e.val) / 1024 % 2048 = d.val; omega
    | ⟨3, _⟩ => show ((2048 * p.val + d.val) * 1024 + e.val) % 1024 = e.val; omega
  rw [val_main_v28_apply, e1, ← v25_apply]
  show val_main_v26 (F := Ideal) o h zh za (ix4 (Fin.rev (⟨p.val / 2, by omega⟩ : Fin 4)) (⟨p.val % 2, by omega⟩ : Fin 2) d e) = _
  rw [val_main_v26_apply]
  refine congrArg _ (funext fun a => Fin.ext ?_)
  have hp := flip_both p
  have hr : (Fin.rev (⟨p.val / 2, by omega⟩ : Fin 4)).val = 3 - p.val / 2 := by rw [Fin.val_rev]; show 4 - (p.val / 2 + 1) = _; omega
  generalize (Fin.rev (⟨p.val / 2, by omega⟩ : Fin 4)) = q at hr ⊢
  match a with
  | ⟨0, _⟩ => show (((q.val * 2 + p.val % 2) * 2048 + d.val) * 1024 + e.val) / 2097152 = (p ^^^ 6).val; omega
  | ⟨1, _⟩ => show (((q.val * 2 + p.val % 2) * 2048 + d.val) * 1024 + e.val) / 1024 % 2048 = d.val; omega
  | ⟨2, _⟩ => show (((q.val * 2 + p.val % 2) * 2048 + d.val) * 1024 + e.val) % 1024 = e.val; omega

theorem v33_apply (p : Fin 8) (d : Fin 2048) (e : Fin 1024) :
    val_main_v33 (F := Ideal) o h zh za (ix2 (outRow p d) e) = chipAt o h zh za (p ^^^ 4) 1 d e := by
  have e1 : idx_main_v33 (ix2 (outRow p d) e) = ix4 (⟨p.val / 4, by omega⟩ : Fin 2) (⟨p.val % 4, by omega⟩ : Fin 4) d e := by
    refine funext fun a => Fin.ext ?_
    match a with
    | ⟨0, _⟩ => show ((2048 * p.val + d.val) * 1024 + e.val) / 8388608 = p.val / 4; omega
    | ⟨1, _⟩ => show ((2048 * p.val + d.val) * 1024 + e.val) / 2097152 % 4 = p.val % 4; omega
    | ⟨2, _⟩ => show ((2048 * p.val + d.val) * 1024 + e.val) / 1024 % 2048 = d.val; omega
    | ⟨3, _⟩ => show ((2048 * p.val + d.val) * 1024 + e.val) % 1024 = e.val; omega
  rw [val_main_v33_apply, e1, ← v30_apply]
  show val_main_v31 (F := Ideal) o h zh za (ix4 (Fin.rev (⟨p.val / 4, by omega⟩ : Fin 2)) (⟨p.val % 4, by omega⟩ : Fin 4) d e) = _
  rw [val_main_v31_apply]
  refine congrArg _ (funext fun a => Fin.ext ?_)
  have hp := flip_x p
  have hr : (Fin.rev (⟨p.val / 4, by omega⟩ : Fin 2)).val = 1 - p.val / 4 := by rw [Fin.val_rev]; show 2 - (p.val / 4 + 1) = _; omega
  generalize (Fin.rev (⟨p.val / 4, by omega⟩ : Fin 2)) = q at hr ⊢
  match a with
  | ⟨0, _⟩ => show (((q.val * 4 + p.val % 4) * 2048 + d.val) * 1024 + e.val) / 2097152 = (p ^^^ 4).val; omega
  | ⟨1, _⟩ => show (((q.val * 4 + p.val % 4) * 2048 + d.val) * 1024 + e.val) / 1024 % 2048 = d.val; omega
  | ⟨2, _⟩ => show (((q.val * 4 + p.val % 4) * 2048 + d.val) * 1024 + e.val) % 1024 = e.val; omega

theorem v38_apply (p : Fin 8) (d : Fin 2048) (e : Fin 1024) :
    val_main_v38 (F := Ideal) o h zh za (ix2 (outRow p d) e) = chipAt o h zh za (p ^^^ 2) 2 d e := by
  have e1 : idx_main_v38 (ix2 (outRow p d) e)
      = ix5 (⟨p.val / 4, by omega⟩ : Fin 2) (⟨p.val / 2 % 2, by omega⟩ : Fin 2) (⟨p.val % 2, by omega⟩ : Fin 2) d e := by
    refine funext fun a => Fin.ext ?_
    match a with
    | ⟨0, _⟩ => show ((2048 * p.val + d.val) * 1024 + e.val) / 8388608 = p.val / 4; omega
    | ⟨1, _⟩ => show ((2048 * p.val + d.val) * 1024 + e.val) / 4194304 % 2 = p.val / 2 % 2; omega
    | ⟨2, _⟩ => show ((2048 * p.val + d.val) * 1024 + e.val) / 2097152 % 2 = p.val % 2; omega
    | ⟨3, _⟩ => show ((2048 * p.val + d.val) * 1024 + e.val) / 1024 % 2048 = d.val; omega
    | ⟨4, _⟩ => show ((2048 * p.val + d.val) * 1024 + e.val) % 1024 = e.val; omega
  rw [val_main_v38_apply, e1, ← v35_apply]
  show val_main_v36 (F := Ideal) o h zh za (ix5 (⟨p.val / 4, by omega⟩ : Fin 2) (Fin.rev (⟨p.val / 2 % 2, by omega⟩ : Fin 2)) (⟨p.val % 2, by omega⟩ : Fin 2) d e) = _
  rw [val_main_v36_apply]
  refine congrArg _ (funext fun a => Fin.ext ?_)
  have hp := flip_y p
  have hr : (Fin.rev (⟨p.val / 2 % 2, by omega⟩ : Fin 2)).val = 1 - p.val / 2 % 2 := by rw [Fin.val_rev]; show 2 - (p.val / 2 % 2 + 1) = _; omega
  generalize (Fin.rev (⟨p.val / 2 % 2, by omega⟩ : Fin 2)) = q at hr ⊢
  match a with
  | ⟨0, _⟩ => show ((((p.val / 4 * 2 + q.val) * 2 + p.val % 2) * 2048 + d.val) * 1024 + e.val) / 2097152 = (p ^^^ 2).val; omega
  | ⟨1, _⟩ => show ((((p.val / 4 * 2 + q.val) * 2 + p.val % 2) * 2048 + d.val) * 1024 + e.val) / 1024 % 2048 = d.val; omega
  | ⟨2, _⟩ => show ((((p.val / 4 * 2 + q.val) * 2 + p.val % 2) * 2048 + d.val) * 1024 + e.val) % 1024 = e.val; omega

/-- The device whose sums of its block `t` come to device `p`. -/
def sender (t : Fin 3) (p : Fin 8) : Fin 8 := p ^^^ ![6, 4, 2] t

/-- The reference's sums that come from the other chips. -/
theorem v46_apply (t : Fin 3) (p : Fin 8) (d : Fin 2048) (e : Fin 1024) :
    val_main_v46 (F := Ideal) o h zh za (ix3 t (outRow p d) e) = chipAt o h zh za (sender t p) (t.castSucc) d e := by
  unfold val_main_v46 val_main_v45 val_main_v44 val_main_v43 val_main_v42
  match t with
  | ⟨0, _⟩ => pointwise [v28_apply]; rfl
  | ⟨1, _⟩ => pointwise [v33_apply]; rfl
  | ⟨2, _⟩ => pointwise [v38_apply]; rfl

end Cert.Sc.Ref

end
-- ==== Proof.Scatter.Sums.lean ====
module

public import proofs.«01_k».proof.Proof.Scatter.Run
public import proofs.«01_k».proof.Proof.Scatter.Ref
public import Idealize.ShloMosaic.Lib.Tactic
public import Idealize.ShloMosaic.Lib.Pointwise

/-!
# The weight gradient's exchange: the sums

What the staged blocks hold of the arguments, and what the accumulator holds of them after the eight steps of
a block: the device's share of the gradient of that block's weights.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

open Ref (clampTo)

/-! ### The order's entries -/

/-- The block index a window stages. -/
abbrev staged3 (v : BitVec 32) : BitVec 32 := Scalar.minsi 3#32 (Scalar.maxsi 0#32 v)

theorem staged3_toNat (v : BitVec 32) : (staged3 v).toNat = (max 0 (min 3 v.toInt)).toNat := by
  have h0 : (0#32 : BitVec 32).toInt = 0 := by decide
  have h3 : (3#32 : BitVec 32).toInt = 3 := by decide
  have n0 : (0#32 : BitVec 32).toNat = 0 := by decide
  have n3 : (3#32 : BitVec 32).toNat = 3 := by decide
  have hc := BitVec.toInt_eq_toNat_cond v
  have hl := v.isLt
  simp only [staged3, Scalar.minsi, Scalar.maxsi, IntOp.minsi, IntOp.maxsi]
  split at hc <;> split <;> split <;> simp_all [BitVec.slt_iff_toInt_lt] <;> omega

theorem low_block (v : BitVec 32) (h : v.toInt < 4) : (staged3 (Scalar.subi v 0#32)).toNat = (clampTo v).val := by
  rw [show Scalar.subi v 0#32 = v from BitVec.sub_zero v, staged3_toNat]
  show _ = (max 0 (min 7 v.toInt)).toNat
  omega

theorem high_block (v : BitVec 32) (h : ¬ v.toInt < 4) : (staged3 (Scalar.subi v 4#32)).toNat + 4 = (clampTo v).val := by
  have e : (Scalar.subi v 4#32).toInt = v.toInt - 4 := by
    show (v - 4#32).toInt = _
    have h4 : (4#32 : BitVec 32).toInt = 4 := by decide
    have := v.toInt_lt
    rw [BitVec.toInt_sub, h4]
    apply Int.bmod_eq_of_le <;> omega
  rw [staged3_toNat, e]
  show _ = (max 0 (min 7 v.toInt)).toNat
  omega

/-! ### The staged blocks -/

variable (m : (ℓ : Loc nD τ sig) → Buf (Elt Ideal) ℓ) (c : Dev nD)

/-- The device's order, its rows, and the gradients of the two halves of the projection. -/
abbrev O : S8.Idx → BitVec 32 := m (c.tc.loc main_arg0)
abbrev H : S8192x2048.Idx → EReal := m (c.tc.loc main_arg1)
abbrev ZH : S4x8192x1024.Idx → EReal := m (c.tc.loc main_arg2)
abbrev ZA : S4x8192x1024.Idx → EReal := m (c.tc.loc main_arg3)

/-- The gradient of output `e` of projection `n` at row `r`. -/
def dz (n : Fin 8) (r : Fin 8192) (e : Fin 1024) : EReal :=
  if hn : n.val < 4 then ZH m c (ix3 ⟨n.val, hn⟩ r e) else ZA m c (ix3 ⟨n.val - 4, by omega⟩ r e)

theorem lt64 (t : Fin grid0.N) : t.val < 64 := lt_of_lt_of_eq t.isLt N_0
theorem coord0 : ∀ t : Fin grid0.N, (grid0.coords t 0).val = t.val / 8 := by decide
theorem coord1 : ∀ t : Fin grid0.N, (grid0.coords t 1).val = t.val % 8 := by decide
theorem word0 : ∀ t : Fin grid0.N, (BitVec.ofNat 32 (grid0.coords t 0).val).toNat = t.val / 8 := by decide
theorem word1 : ∀ t : Fin grid0.N, (BitVec.ofNat 32 (grid0.coords t 1).val).toNat = t.val % 8 := by decide

/-- Row `r` of step `t`. -/
abbrev at_ (t : Fin grid0.N) (r : Fin 1024) : Fin 8192 := ⟨1024 * (t.val % 8) + r.val, by omega⟩

/-- The block done at a grid point. -/
abbrev turn (t : Fin grid0.N) : BitVec 32 := O m c (ix1 ⟨t.val / 8, by have := lt64 t; omega⟩)

theorem entry_eq (f : S8.Idx → BitVec 32) (t : Fin grid0.N) :
    entry (F := Ideal) f (grid0.coords t) = f (ix1 ⟨t.val / 8, by have := lt64 t; omega⟩) := by
  unfold entry
  refine congrArg f (funext fun a => Fin.ext ?_)
  match a with
  | ⟨0, _⟩ => show (BitVec.ofNat 32 (grid0.coords t 0).val).toNat + 1 * 0 = t.val / 8; rw [word0]; omega

theorem h_apply (t : Fin grid0.N) (r : Fin 1024) (d : Fin 2048) : (data m).h c t (ix2 r d) = H m c (ix2 (at_ t r) d) := by
  show blkAt m c 2 t (ix2 r d) = _
  unfold blkAt
  rw [View.read_apply]
  refine (cast_eq _ _).trans (congrArg (m (c.tc.loc main_arg1)) (funext fun a => Fin.ext ?_))
  match a with
  | ⟨0, _⟩ => show (BitVec.ofNat 32 (grid0.coords t 1).val).toNat * 1024 + 1 * r.val = 1024 * (t.val % 8) + r.val; rw [word1]; omega
  | ⟨1, _⟩ => show 0 * 2048 + 1 * d.val = d.val; omega

theorem zh_apply (t : Fin grid0.N) (r e : Fin 1024) {n : ℕ} (hn : n < 4) (h : (staged3 (Scalar.subi (turn m c t) 0#32)).toNat = n) :
    (data m).zh c t (ix3 0 r e) = ZH m c (ix3 ⟨n, hn⟩ (at_ t r) e) := by
  show blkAt m c 0 t (ix3 0 r e) = _
  unfold blkAt
  rw [View.read_apply]
  refine (cast_eq _ _).trans (congrArg (m (c.tc.loc main_arg2)) (funext fun a => Fin.ext ?_))
  match a with
  | ⟨0, _⟩ =>
    show (staged3 (Scalar.subi (entry (F := Ideal) (O m c) (grid0.coords t)) 0#32)).toNat * 1 + 1 * 0 = n
    rw [entry_eq, h]; omega
  | ⟨1, _⟩ => show (BitVec.ofNat 32 (grid0.coords t 1).val).toNat * 1024 + 1 * r.val = 1024 * (t.val % 8) + r.val; rw [word1]; omega
  | ⟨2, _⟩ => show 0 * 1024 + 1 * e.val = e.val; omega

theorem za_apply (t : Fin grid0.N) (r e : Fin 1024) {n : ℕ} (hn : n < 4) (h : (staged3 (Scalar.subi (turn m c t) 4#32)).toNat = n) :
    (data m).za c t (ix3 0 r e) = ZA m c (ix3 ⟨n, hn⟩ (at_ t r) e) := by
  show blkAt m c 1 t (ix3 0 r e) = _
  unfold blkAt
  rw [View.read_apply]
  refine (cast_eq _ _).trans (congrArg (m (c.tc.loc main_arg3)) (funext fun a => Fin.ext ?_))
  match a with
  | ⟨0, _⟩ =>
    show (staged3 (Scalar.subi (entry (F := Ideal) (O m c) (grid0.coords t)) 4#32)).toNat * 1 + 1 * 0 = n
    rw [entry_eq, h]; omega
  | ⟨1, _⟩ => show (BitVec.ofNat 32 (grid0.coords t 1).val).toNat * 1024 + 1 * r.val = 1024 * (t.val % 8) + r.val; rw [word1]; omega
  | ⟨2, _⟩ => show 0 * 1024 + 1 * e.val = e.val; omega

/-! ### The sums -/

theorem pay10_apply (z : Vec Ideal S1x1024x1024 .bf16) (a : Vec Ideal S2048x1024 .f32) (b : Vec Ideal S1024x2048 .bf16) (d : Fin 2048) (e : Fin 1024) :
    k0_pay10 z a b (ix2 d e) = a (ix2 d e) + ∑ r : Fin 1024, b (ix2 r d) * z (ix3 0 r e) := by
  unfold k0_pay10
  pointwise
theorem pay11_apply (z : Vec Ideal S1x1024x1024 .bf16) (a : Vec Ideal S2048x1024 .f32) (b : Vec Ideal S1024x2048 .bf16) (d : Fin 2048) (e : Fin 1024) :
    k0_pay11 z a b (ix2 d e) = a (ix2 d e) + ∑ r : Fin 1024, b (ix2 r d) * z (ix3 0 r e) := by
  unfold k0_pay11
  pointwise
theorem pay9_apply (d : Fin 2048) (e : Fin 1024) : (k0_pay9 (F := Ideal)) (ix2 d e) = 0 := by
  unfold k0_pay9
  pointwise

/-- One step's part of a sum. -/
def stepSum (n : Fin 8) (s : Fin 8) (d : Fin 2048) (e : Fin 1024) : EReal :=
  ∑ r : Fin 1024, dz m c n ⟨1024 * s.val + r.val, by omega⟩ e * H m c (ix2 ⟨1024 * s.val + r.val, by omega⟩ d)

theorem added_apply (t : Fin grid0.N) (a : Vec Ideal S2048x1024 .f32) (d : Fin 2048) (e : Fin 1024) :
    added (data m) c t a (ix2 d e) = a (ix2 d e) + stepSum m c (clampTo (turn m c t)) ⟨t.val % 8, by omega⟩ d e := by
  unfold added
  rw [show entry ((data m).tab c) (grid0.coords t) = turn m c t from entry_eq _ t]
  unfold stepSum dz
  by_cases h : isLow (turn m c t) = 1#1
  · rw [if_pos h, pay10_apply]
    have hb := low_block _ ((isLow_iff _).mp h)
    have hn : (clampTo (turn m c t)).val < 4 := by
      have := (isLow_iff _).mp h
      show (max 0 (min 7 (turn m c t).toInt)).toNat < 4
      omega
    refine congrArg (a (ix2 d e) + ·) (Finset.sum_congr rfl fun r _ => ?_)
    rw [dif_pos hn, h_apply, zh_apply m c t r e hn hb, mul_comm]
  · rw [if_neg h, pay11_apply]
    have hb := high_block _ (fun h' => h ((isLow_iff _).mpr h'))
    have hn : ¬ (clampTo (turn m c t)).val < 4 := by omega
    refine congrArg (a (ix2 d e) + ·) (Finset.sum_congr rfl fun r _ => ?_)
    rw [dif_neg hn, h_apply, za_apply m c t r e (n := (clampTo (turn m c t)).val - 4) (by omega) (by omega), mul_comm]

/-- A device's turn, as the block it takes. -/
def nth (k : Fin 8) : Fin 8 := clampTo (O m c (ix1 k))

theorem part_apply (k : Fin 8) (d : Fin 2048) (e : Fin 1024) (s : ℕ) (hs : s ≤ 8) :
    part (data m) c k.val s (ix2 d e) = ∑ i : Fin s, stepSum m c (nth m c k) ⟨i.val, by omega⟩ d e := by
  induction s with
  | zero => rw [part, pay9_apply]; rfl
  | succ s ih =>
    have h : 8 * k.val + s < 64 := by omega
    rw [part, dif_pos h, added_apply, ih (by omega), Fin.sum_univ_castSucc]
    congr 1
    have e1 : (8 * k.val + s) / 8 = k.val := by omega
    have e2 : (8 * k.val + s) % 8 = s := by omega
    unfold nth turn
    congr 1
    · congr 3; exact Fin.ext e1
    · exact Fin.ext e2

/-- A device's share of the gradient of weight `(d, e)` of projection `n`. -/
def share (n : Fin 8) (d : Fin 2048) (e : Fin 1024) : EReal := ∑ r : Fin 8192, dz m c n r e * H m c (ix2 r d)

theorem steps_sum (n : Fin 8) (d : Fin 2048) (e : Fin 1024) : ∑ s : Fin 8, stepSum m c n s d e = share m c n d e := by
  unfold stepSum share
  rw [← Fintype.sum_prod_type' (f := fun (s : Fin 8) (r : Fin 1024) => dz m c n ⟨1024 * s.val + r.val, by omega⟩ e * H m c (ix2 ⟨1024 * s.val + r.val, by omega⟩ d))]
  refine Fintype.sum_equiv (finProdFinEquiv (m := 8) (n := 1024)) _ _ fun x => ?_
  have hx : (⟨1024 * x.1.val + x.2.val, by omega⟩ : Fin 8192) = finProdFinEquiv x := Fin.ext (show 1024 * x.1.val + x.2.val = x.2.val + 1024 * x.1.val from Nat.add_comm _ _)
  rw [hx]

theorem grad_apply (k : Fin 8) (d : Fin 2048) (e : Fin 1024) :
    grad (data m) c k.val (ix2 d e) = share m c (nth m c k) d e := by
  unfold grad
  rw [part_apply m c k d e 8 le_rfl, ← steps_sum]

theorem both_apply (t : Fin 4) (d : Fin 2048) (e : Fin 1024) :
    both (data m) c t.val (ix2 d e)
      = share m c (nth m c ⟨2 * t.val + 1, by omega⟩) d e + share m (mate 0 c) (nth m (mate 0 c) ⟨2 * t.val, by omega⟩) d e := by
  have h1 := grad_apply m c ⟨2 * t.val + 1, by omega⟩ d e
  have h2 := grad_apply m (mate 0 c) ⟨2 * t.val, by omega⟩ d e
  rw [← h1, ← h2]
  unfold both even flat k0_pay2
  pointwise

end Cert.Sc

end
-- ==== Proof.Scatter.Equation.lean ====
module

public import proofs.«01_k».proof.Proof.Scatter.Sums

/-!
# The weight gradient's exchange: the equation

On devices that hold the blocks of the whole arrays, what a device keeps and what it gets from the other chips
are its blocks of the reference's two results.
-/

@[expose] public noncomputable section

namespace Cert.Sc

open Cert.Kernel5Ideal Cert.Kernel5Ideal.Gen
open Idealize.ShloMosaic TcCoe Tactic Rounds Idealize.SL RA BI BIBase Laws ProofMode Sem

variable {F : FTy → Type} [FloatOps F]

variable (m : (ℓ : Loc nD τ sig) → Buf (Elt Ideal) ℓ)
  (o : IVec ⟨1, ![64]⟩ 32) (h : Vec Ideal ⟨2, ![65536, 2048]⟩ .bf16) (zh za : Vec Ideal ⟨3, ![4, 65536, 1024]⟩ .bf16)

/-- The devices hold the blocks of the whole arrays. -/
structure Cut : Prop where
  o : ∀ c : Dev nD, O m c = Layout.block ⟨1, ![8]⟩ ⟨1, ![64]⟩ 0 8 c o
  h : ∀ c : Dev nD, H m c = Layout.block ⟨2, ![8192, 2048]⟩ ⟨2, ![65536, 2048]⟩ 0 8 c h
  zh : ∀ c : Dev nD, ZH m c = Layout.block ⟨3, ![4, 8192, 1024]⟩ ⟨3, ![4, 65536, 1024]⟩ 1 8 c zh
  za : ∀ c : Dev nD, ZA m c = Layout.block ⟨3, ![4, 8192, 1024]⟩ ⟨3, ![4, 65536, 1024]⟩ 1 8 c za

variable {m o h zh za} (cut : Cut m o h zh za) (c : Dev nD)
include cut

theorem nth_eq (k : Fin 8) : nth m c k = Ref.blockOf o c k := by
  unfold nth Ref.blockOf
  rw [cut.o, Layout.block_apply]
  refine congrArg (fun i => Ref.clampTo (o i)) (funext fun a => Fin.ext ?_)
  match a with
  | ⟨0, _⟩ => show c.val * 8 + k.val = 8 * c.val + k.val; omega

theorem h_eq (r : Fin 8192) (d : Fin 2048) : H m c (ix2 r d) = h (ix2 (Ref.row c r) d) := by
  rw [cut.h, Layout.block_apply]
  refine congrArg h (funext fun a => Fin.ext ?_)
  match a with
  | ⟨0, _⟩ => rfl
  | ⟨1, _⟩ => rfl

theorem dz_eq (n : Fin 8) (r : Fin 8192) (e : Fin 1024) : dz m c n r e = Ref.dzAt zh za n (Ref.row c r) e := by
  unfold dz Ref.dzAt
  by_cases hn : n.val < 4
  · rw [dif_pos hn, dif_pos hn, cut.zh, Layout.block_apply]
    refine congrArg zh (funext fun a => Fin.ext ?_)
    match a with
    | ⟨0, _⟩ => rfl
    | ⟨1, _⟩ => rfl
    | ⟨2, _⟩ => rfl
  · rw [dif_neg hn, dif_neg hn, cut.za, Layout.block_apply]
    refine congrArg za (funext fun a => Fin.ext ?_)
    match a with
    | ⟨0, _⟩ => rfl
    | ⟨1, _⟩ => rfl
    | ⟨2, _⟩ => rfl

theorem share_eq (n : Fin 8) (d : Fin 2048) (e : Fin 1024) : share m c n d e = Ref.partAt h zh za c n d e := by
  unfold share Ref.partAt
  exact Finset.sum_congr rfl fun r _ => by rw [dz_eq cut, h_eq cut]

omit cut in
theorem mate_chip : ∀ c : Dev nD, mate 0 c = c ^^^ 1 := by decide
omit cut in
/-- The chips' exchanges pair the devices that the reference pairs. -/
theorem mate_sender : ∀ c : Dev nD, mate 4 c = Ref.sender 0 c ∧ mate 5 c = Ref.sender 1 c ∧ mate 6 c = Ref.sender 2 c := by decide

/-- The sums of the two devices of a chip are the reference's. -/
theorem both_eq (t : Fin 4) (d : Fin 2048) (e : Fin 1024) : both (data m) c t.val (ix2 d e) = Ref.chipAt o h zh za c t d e := by
  rw [both_apply, share_eq cut, share_eq cut, nth_eq cut, nth_eq cut, mate_chip]
  rfl

/-- What a device keeps is its block of the reference's first result. -/
theorem own_eq : both (data m) c 3 = Layout.block ⟨2, ![2048, 1024]⟩ ⟨2, ![16384, 1024]⟩ 0 8 c (Cert.Reference5Ideal.Read.val_main_v41 (F := Ideal) o h zh za) := by
  have e : ∀ (d : Fin 2048) (e : Fin 1024), both (data m) c 3 (ix2 d e)
      = (Layout.block ⟨2, ![2048, 1024]⟩ ⟨2, ![16384, 1024]⟩ 0 8 c (Cert.Reference5Ideal.Read.val_main_v41 (F := Ideal) o h zh za)) (ix2 d e) := fun d e => by
    refine (both_eq cut c 3 d e).trans ((Ref.v41_apply o h zh za c d e).symm.trans ?_)
    rw [Layout.block_apply]
    refine congrArg _ (funext fun a => Fin.ext ?_)
    match a with
    | ⟨0, _⟩ => show 2048 * c.val + d.val = c.val * 2048 + d.val; omega
    | ⟨1, _⟩ => rfl
  exact funext fun i => by rw [eq_ix2 i]; exact e (i 0) (i 1)

omit cut in
/-- A slice of the sums that a device gets, read through its window. -/
theorem slab_read (t : Fin 3) (hb : ∀ a, (![t.val, 0, 0] : Fin 3 → ℕ) a + S1x2048x1024.size a ≤ S3x2048x1024.size a)
    (f : S3x2048x1024.Idx → EReal) (d : Fin 2048) (e : Fin 1024) :
    ((rbM.slice (Rect.unit (s := S3x2048x1024) ![t.val, 0, 0] S1x2048x1024.size hb) (fun _ => rfl)).squeeze S2048x1024
      squeezes_S1x2048x1024_S2048x1024).view.read (Elt Ideal) f (ix2 d e) = f (ix3 t d e) := by
  have hc : S1x2048x1024.ShapeCasts S2048x1024 := squeezes_S1x2048x1024_S2048x1024.numel_eq
  have hk : (S1x2048x1024.rowMajor (ix3 0 d e)).val = (S2048x1024.rowMajor (ix2 d e)).val := by
    rw [Shape.rowMajor_val_three, Shape.rowMajor_val_two]
    show (0 * 2048 + d.val) * 1024 + e.val = d.val * 1024 + e.val
    omega
  show shapeCast S2048x1024 (rbM.view.readAt (Elt Ideal) (Rect.unit (s := S3x2048x1024) ![t.val, 0, 0] S1x2048x1024.size hb).toLoadRect f) hc (ix2 d e) = _
  refine (shapeCast_apply _ hc (ix2 d e) (ix3 0 d e) hk).trans ?_
  show f ((Rect.unit (s := S3x2048x1024) ![t.val, 0, 0] S1x2048x1024.size hb).toLoadRect.idx (ix3 0 d e)) = _
  refine congrArg f (funext fun a => Fin.ext ?_)
  match a with
  | ⟨0, _⟩ => show t.val + 1 * 0 = t.val; omega
  | ⟨1, _⟩ => show 0 + 1 * d.val = d.val; omega
  | ⟨2, _⟩ => show 0 + 1 * e.val = e.val; omega

/-- What a device gets is its block of the reference's second result. -/
theorem got_eq {s : MemSt nD τ sig (Elt Ideal)}
    (hs : ∀ j : Fin 7, (dst j).view.read (Elt Ideal) (s.mem ((dst j).view.loc c.tc)) = msg (data m) (mate j c) j) :
    s.mem (c.tc.loc main_v1_2)
      = Layout.block ⟨3, ![3, 2048, 1024]⟩ ⟨3, ![3, 16384, 1024]⟩ 1 8 c (Cert.Reference5Ideal.Read.val_main_v46 (F := Ideal) o h zh za) := by
  have got : ∀ (t : Fin 3) (d : Fin 2048) (e : Fin 1024), s.mem (c.tc.loc main_v1_2) (ix3 t d e)
      = both (data m) (Ref.sender t c) t.castSucc.val (ix2 d e) := fun t d e =>
    match t with
    | 0 => (slab_read 0 inb_S3x2048x1024_S1x2048x1024_0_0_0 _ d e).symm.trans ((congrFun (hs 4) (ix2 d e)).trans (congrArg (fun q => both (data m) q 0 (ix2 d e)) (mate_sender c).1))
    | 1 => (slab_read 1 inb_S3x2048x1024_S1x2048x1024_1_0_0 _ d e).symm.trans ((congrFun (hs 5) (ix2 d e)).trans (congrArg (fun q => both (data m) q 1 (ix2 d e)) (mate_sender c).2.1))
    | 2 => (slab_read 2 inb_S3x2048x1024_S1x2048x1024_2_0_0 _ d e).symm.trans ((congrFun (hs 6) (ix2 d e)).trans (congrArg (fun q => both (data m) q 2 (ix2 d e)) (mate_sender c).2.2))
  have e : ∀ (t : Fin 3) (d : Fin 2048) (e : Fin 1024), s.mem (c.tc.loc main_v1_2) (ix3 t d e)
      = (Layout.block ⟨3, ![3, 2048, 1024]⟩ ⟨3, ![3, 16384, 1024]⟩ 1 8 c (Cert.Reference5Ideal.Read.val_main_v46 (F := Ideal) o h zh za)) (ix3 t d e) := fun t d e => by
    refine (got t d e).trans ((both_eq cut (Ref.sender t c) t.castSucc d e).trans ((Ref.v46_apply o h zh za t c d e).symm.trans ?_))
    rw [Layout.block_apply]
    refine congrArg _ (funext fun a => Fin.ext ?_)
    match a with
    | ⟨0, _⟩ => rfl
    | ⟨1, _⟩ => show 2048 * c.val + d.val = c.val * 2048 + d.val; omega
    | ⟨2, _⟩ => rfl
  exact funext fun i => by rw [eq_ix3 i]; exact e (i 0) (i 1) (i 2)

end Cert.Sc

end
-- ==== Proof.Scatter.Claims.lean ====
module

public import proofs.«01_k».proof.Proof.Scatter.Equation
public import proofs.«01_k».proof.Defs
public import proofs.«01_k».proof.Proof.Gen.Kernel5
public import Idealize.ShloMosaic.Adequacy
public import Idealize.ShloMosaic.Init

/-!
# The five claims about the weight gradient's exchange
-/

@[expose] public noncomputable section

namespace Cert.Sc.Claims

open Cert.Kernel5Ideal Cert.Kernel5Ideal.Gen
open Idealize.ShloMosaic TcCoe Tactic Rounds Idealize.SL RA BI BIBase Laws ProofMode Sem

variable {F : FTy → Type} [FloatOps F]

/-- The kernel ends with its arguments unchanged and its counters at zero, in either arithmetic. -/
theorem frame_main {F : FTy → Type} [FloatOps F] (m : (ℓ : Loc nD τ sig) → Buf (Elt F) ℓ) (ρ : Dev nD → PrngReg) :
    θ_run (defs (F := F)) (onTc (main (F := F))) ⟨m, fun _ => 0, ρ⟩ (fun r =>
      (∀ c : Dev nD, r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3))
      ∧ r.2.sem = fun _ => 0) :=
  (θ_run defs _ _).mono (fun _ h => ⟨fun c => ⟨(h.1 c).2.1, (h.1 c).1 2, (h.1 c).1 0, (h.1 c).1 1⟩, h.2⟩) (run_all m ρ)

/-- In exact arithmetic; -/
theorem frame_ideal : Cert.quiescent_Kernel5Ideal := fun m ρ _ => frame_main (F := Ideal) m ρ

/-- The two texts run the same bodies. -/
theorem bodies_eq : Cert.Kernel5.defs₀ (F := Bits) = defs₀ (F := Bits) := by
  unfold Cert.Kernel5.defs₀ defs₀
  refine congrArg Defs.onTc ?_
  funext l x
  match l, x with
  | 0, (t, s) => rfl

theorem defs_eq : Cert.Kernel5.defs (F := Bits) = defs (F := Bits) := congrArg (Pipeline.defs pcfgs) bodies_eq

/-- and in the machine's, of which it is the same text. -/
theorem frame_kernel : Cert.quiescent_Kernel5 := fun m ρ _ => by
  have h := frame_main (F := Bits) m ρ
  rw [← defs_eq] at h
  exact h

/-- So does the reference, which has no counters. -/
theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- In exact arithmetic every device ends with its blocks of the reference's two results, for all arrays and every order. -/
theorem algebraic : Cert.algebraic_Kernel5Ideal_Reference5Ideal := by
  intro m ρ m' ρ' _ hagree
  have cut : Cut m _ _ _ _ := ⟨fun c => (hagree c).1, fun c => (hagree c).2.1, fun c => (hagree c).2.2.1, fun c => (hagree c).2.2.2⟩
  refine ⟨Cert.Reference5Ideal.Read.val_main_v41 (F := Ideal) (m' (((0 : Dev Cert.Reference5Ideal.nD).tc).loc Cert.Reference5Ideal.main_arg0)) (m' (((0 : Dev Cert.Reference5Ideal.nD).tc).loc Cert.Reference5Ideal.main_arg1))
      (m' (((0 : Dev Cert.Reference5Ideal.nD).tc).loc Cert.Reference5Ideal.main_arg2)) (m' (((0 : Dev Cert.Reference5Ideal.nD).tc).loc Cert.Reference5Ideal.main_arg3)),
    Cert.Reference5Ideal.Read.val_main_v46 (F := Ideal) (m' (((0 : Dev Cert.Reference5Ideal.nD).tc).loc Cert.Reference5Ideal.main_arg0)) (m' (((0 : Dev Cert.Reference5Ideal.nD).tc).loc Cert.Reference5Ideal.main_arg1))
      (m' (((0 : Dev Cert.Reference5Ideal.nD).tc).loc Cert.Reference5Ideal.main_arg2)) (m' (((0 : Dev Cert.Reference5Ideal.nD).tc).loc Cert.Reference5Ideal.main_arg3)),
    (θ_run Cert.Kernel5Ideal.defs _ _).mono (fun r h c => ?_) (run_all (F := Ideal) m ρ),
    (θ_run Cert.Reference5Ideal.defs _ _).mono (fun r h => ?_) (Cert.Reference5Ideal.Value.run (F := Ideal) m' ρ')⟩
  · exact ⟨((h.1 c).2.2.1).trans (own_eq cut c), got_eq cut c (h.1 c).2.2.2, (h.1 c).2.1, (h.1 c).1 2, (h.1 c).1 0, (h.1 c).1 1⟩
  · obtain ⟨h0, h1, hargs⟩ := h 0
    exact ⟨h0.trans (Cert.Reference5Ideal.Read.val_main_v41_eq _ _ _ _), h1.trans (Cert.Reference5Ideal.Read.val_main_v46_eq _ _), hargs⟩

end Cert.Sc.Claims

end
-- ==== Proof.Gather.Setup.lean ====
module

public import proofs.«01_k».proof.Defs
public import proofs.«01_k».proof.Proof.Gen.Kernel6Ideal.Launch
public import proofs.«01_k».proof.Proof.Gen.Kernel6Ideal.Skeleton
public import Idealize.ShloMosaic.Lib.Pipeline.KitQuiescent
public import Idealize.ShloMosaic.Lib.Pipeline.Frame
public import Idealize.ShloMosaic.Lib.Rounds
public import Idealize.ShloMosaic.Lib.Transfers
public import Idealize.ShloMosaic.Lib.ShareLeaves
public import Idealize.ShloMosaic.Lib.VecWindow
public import Idealize.ShloMosaic.Lib.Tactic

/-!
# The gather of the weights: its messages

A device sends fourteen messages: seven with columns of the input weights, of which the last three pass on
what came to it, and its rows of the output weights to each of the seven others. This module names, for each
message, the device it goes to, the slab it leaves from, the slab it lands in, and its two semaphores.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

/-- The exchange's part of the resources: rounds on semaphores, one duty in each. -/
abbrev UX (nD : Nat) (τ : Topo) : Type := URounds (GSem nD τ sig) Unit
/-- The resources: the pipeline's, the exchange's, and the counters that local copies are tracked by. -/
abbrev UU (nD : Nat) (τ : Topo) : Type := UR sig nD τ × (UX nD τ × Counters)
local notation "𝕄" => MT nD τ sig Unit (Elt F) ℕ (UU nD τ) ℕ

/-- The pipeline's part of the resources. -/
abbrev EP : Emb (UR sig nD τ) (MT nD τ sig Unit (Elt F) ℕ (UU nD τ) ℕ) := embL
/-- The exchange's part. -/
def EX : Emb (UX nD τ) (MT nD τ sig Unit (Elt F) ℕ (UU nD τ) ℕ) :=
  ((Emb.inl : Emb (UX nD τ) (UX nD τ × Counters)).trans (Emb.inr : Emb (UX nD τ × Counters) (UU nD τ))).trans
    (uEmb (nD := nD) (sig := sig) (Ix := Unit) (Val := Elt F) (Name := ℕ) (U := UU nD τ) (Lvl := ℕ)).toEmb
instance EX_landsIn : (EX : Emb (UX nD τ) 𝕄).LandsIn (upEmb : UEmb _ 𝕄) := by unfold EX; infer_instance

/-! ### The messages -/

/-- A message: one of seven with columns of the input weights, or one of seven with rows of the output weights. -/
abbrev Msg : Type := Bool × Fin 7
/-- What it brings has one of two shapes. -/
abbrev shp : Bool → Shape
  | false => S2048x1024
  | true => S256x2048

/-- The bits of the device's number that a message changes. -/
def maskOf : Msg → ℕ
  | (false, j) => (![1, 4, 2, 6, 1, 1, 1] : Fin 7 → ℕ) j
  | (true, k) => k.val + 1
theorem maskOf_lt : ∀ m : Msg, maskOf m < 8 := by decide
/-- The device that a message goes to; it also sends its own such message back to this one. -/
def mate (m : Msg) (c : Dev nD) : Dev nD := ⟨c.val ^^^ maskOf m, Nat.xor_lt_two_pow (n := 3) c.isLt (maskOf_lt m)⟩
theorem mate_mate (m : Msg) (c : Dev nD) : mate m (mate m c) = c := by revert m c; decide
/-- The message's exchange of devices. -/
def mateEquiv (m : Msg) : Dev nD ≃ Dev nD := ⟨mate m, mate m, mate_mate m, mate_mate m⟩

/-! ### The buffers -/

abbrev wInM : Memref sig .tc .hbm S2048x1024 .bf16 := Memref.whole main_arg2
abbrev wOutM : Memref sig .tc .hbm S256x2048 .bf16 := Memref.whole main_arg3
abbrev wfM : Memref sig .tc .hbm S8x2048x1024 .bf16 := Memref.whole main_v1_1
abbrev wofM : Memref sig .tc .hbm S8x256x2048 .bf16 := Memref.whole main_v1_2
abbrev bufM : Memref sig .tc .vmem S2x2048x1024 .bf16 := Memref.whole cc0_scratch0

/-- The slab at an offset of the gathered input weights, -/
abbrev wfOff (o : Fin 3 → ℕ) (h : ∀ a, o a + S1x2048x1024.size a ≤ S8x2048x1024.size a) : Memref sig .tc .hbm S2048x1024 .bf16 :=
  (wfM.slice (Rect.unit (s := S8x2048x1024) o S1x2048x1024.size h) (fun _ => rfl)).squeeze S2048x1024 squeezes_S1x2048x1024_S2048x1024
/-- and of the gathered output weights. -/
abbrev wofOff (o : Fin 3 → ℕ) (h : ∀ a, o a + S1x256x2048.size a ≤ S8x256x2048.size a) : Memref sig .tc .hbm S256x2048 .bf16 :=
  (wofM.slice (Rect.unit (s := S8x256x2048) o S1x256x2048.size h) (fun _ => rfl)).squeeze S256x2048 squeezes_S1x256x2048_S256x2048

theorem inb_wf : ∀ b : Fin 8, ∀ a, (![b.val, 0, 0] : Fin 3 → ℕ) a + S1x2048x1024.size a ≤ S8x2048x1024.size a := by decide
theorem inb_wof : ∀ b : Fin 8, ∀ a, (![b.val, 0, 0] : Fin 3 → ℕ) a + S1x256x2048.size a ≤ S8x256x2048.size a := by decide
/-- Device `b`'s slab of the gathered input weights, -/
def wfAt (b : Fin 8) : Memref sig .tc .hbm S2048x1024 .bf16 := wfOff ![b.val, 0, 0] (inb_wf b)
/-- and of the gathered output weights. -/
def wofAt (b : Fin 8) : Memref sig .tc .hbm S256x2048 .bf16 := wofOff ![b.val, 0, 0] (inb_wof b)
theorem wfOff_eq {o : Fin 3 → ℕ} {h : ∀ a, o a + S1x2048x1024.size a ≤ S8x2048x1024.size a} {b : Fin 8} (e : o = ![b.val, 0, 0]) : wfOff o h = wfAt b := by
  subst e; rfl
theorem wofOff_eq {o : Fin 3 → ℕ} {h : ∀ a, o a + S1x256x2048.size a ≤ S8x256x2048.size a} {b : Fin 8} (e : o = ![b.val, 0, 0]) : wofOff o h = wofAt b := by
  subst e; rfl

/-- The two slots that a block of the input weights is loaded to. -/
abbrev slot0 : Memref sig .tc .vmem S2048x1024 .bf16 :=
  (bufM.slice (Rect.unit (s := S2x2048x1024) ![0, 0, 0] S1x2048x1024.size inb_S2x2048x1024_S1x2048x1024_0_0_0) (fun _ => rfl)).squeeze S2048x1024 squeezes_S1x2048x1024_S2048x1024
abbrev slot1 : Memref sig .tc .vmem S2048x1024 .bf16 :=
  (bufM.slice (Rect.unit (s := S2x2048x1024) ![1, 0, 0] S1x2048x1024.size inb_S2x2048x1024_S1x2048x1024_1_0_0) (fun _ => rfl)).squeeze S2048x1024 squeezes_S1x2048x1024_S2048x1024
def slotM : Fin 2 → Memref sig .tc .vmem S2048x1024 .bf16
  | 0 => slot0
  | 1 => slot1

/-! ### What goes where -/

/-- Whose columns message `j` brings. -/
def blk (c : Dev nD) : Fin 7 → Fin 8
  | 0 => c | 1 => c | 2 => c | 3 => c | 4 => mate (false, 1) c | 5 => mate (false, 2) c | 6 => mate (false, 3) c
/-- Where a message leaves from: its sender's own weights, or a slab that came to it. -/
def src (c : Dev nD) : (m : Msg) → Memref sig .tc .hbm (shp m.1) .bf16
  | (false, 0) => wInM | (false, 1) => wInM | (false, 2) => wInM | (false, 3) => wInM
  | (false, 4) => wfAt (mate (false, 1) c) | (false, 5) => wfAt (mate (false, 2) c) | (false, 6) => wfAt (mate (false, 3) c)
  | (true, _) => wOutM
/-- Where it lands, on the device it goes to. -/
def dst (c : Dev nD) : (m : Msg) → Memref sig .tc .hbm (shp m.1) .bf16
  | (false, j) => wfAt (blk c j)
  | (true, _) => wofAt c
theorem dst_scratch (c : Dev nD) : ∀ m, (dst c m).view.ref.isScScratch = false
  | (false, _) => rfl
  | (true, _) => rfl
/-- The message leaves from its sender's own weights. -/
def own (m : Msg) : Bool := m.1 || decide (m.2.val < 4)

/-! ### The semaphores -/

/-- The semaphore that counts a message's departure, -/
def sendQ : Msg → DmaSem sig
  | (false, j) => (![4, 5, 6, 7, 8, 9, 10] : Fin 7 → Fin 36) j
  | (true, k) => (![18, 19, 20, 21, 22, 23, 24] : Fin 7 → Fin 36) k
/-- and the one that counts its arrival. -/
def recvQ : Msg → DmaSem sig
  | (false, j) => (![11, 12, 13, 14, 15, 16, 17] : Fin 7 → Fin 36) j
  | (true, k) => (![25, 26, 27, 28, 29, 30, 31] : Fin 7 → Fin 36) k
/-- The semaphores of the copies of the device's own weights, -/
def ownQ : Bool → DmaSem sig
  | false => (32 : Fin 36)
  | true => (33 : Fin 36)
/-- and of the loads to the two slots. -/
def slotQ : Fin 2 → DmaSem sig := (![34, 35] : Fin 2 → Fin 36)

/-- Which semaphore this is: `(false, m)` of message `m`'s departure, `(true, m)` of its arrival. -/
def dec (q : DmaSem sig) : Option (Bool × Msg) :=
  (![none, none, none, none,
    some (false, (false, 0)), some (false, (false, 1)), some (false, (false, 2)), some (false, (false, 3)), some (false, (false, 4)), some (false, (false, 5)), some (false, (false, 6)),
    some (true, (false, 0)), some (true, (false, 1)), some (true, (false, 2)), some (true, (false, 3)), some (true, (false, 4)), some (true, (false, 5)), some (true, (false, 6)),
    some (false, (true, 0)), some (false, (true, 1)), some (false, (true, 2)), some (false, (true, 3)), some (false, (true, 4)), some (false, (true, 5)), some (false, (true, 6)),
    some (true, (true, 0)), some (true, (true, 1)), some (true, (true, 2)), some (true, (true, 3)), some (true, (true, 4)), some (true, (true, 5)), some (true, (true, 6)),
    none, none, none, none] : Fin 36 → Option (Bool × Msg)) q
theorem dec_send (m : Msg) : dec (sendQ m) = some (false, m) := by revert m; decide
theorem dec_recv (m : Msg) : dec (recvQ m) = some (true, m) := by revert m; decide
theorem dec_own (b : Bool) : dec (ownQ b) = none := by revert b; decide
theorem dec_slot (s : Fin 2) : dec (slotQ s) = none := by revert s; decide

abbrev sendCell (c : Dev nD) (m : Msg) : GSem nD τ sig := (c.tc, SemLoc.dma (sendQ m))
abbrev recvCell (c : Dev nD) (m : Msg) : GSem nD τ sig := (c.tc, SemLoc.dma (recvQ m))

/-- What a message credits a semaphore with. -/
def NX (b : Bool) : ℕ := RefSig.tileCredit (shp b) .bf16
theorem NX_pos (b : Bool) : 0 < NX b := RefSig.tileCredit_pos _ _ (by cases b <;> decide)
theorem credit_eq {sp : Space} {s : Shape} (M : Memref sig .tc sp s .bf16) : M.view.dmaCredit = RefSig.tileCredit s .bf16 := rfl
theorem dst_credit (c : Dev nD) (m : Msg) : (dst c m).view.dmaCredit = NX m.1 := credit_eq _

end Cert.Ga

end
-- ==== Proof.Gather.Step.lean ====
module

public import proofs.«01_k».proof.Proof.Gather.Setup

/-!
# The gather: one grid point's program

A grid point first does what is due of the exchange (`exch`), then multiplies (`product`); the last one also
waits for every message to end (`finish`). This module names these pieces and shows that the kernel's body is
these in turn.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

/-- A program of the kernel's. -/
abbrev Pr (F : FTy → Type) (α : Type) := Prog (TpuEff nD τ sig (Elt F) Λ₀ .tc) α

abbrev tabM : Memref sig .tc .smem S8 .i32 := Memref.whole main_arg0

theorem wIn_exact : wInM.view.WordExact := (Memref.isWhole_whole _ : wInM.IsWhole).wordExact
theorem wOut_exact : wOutM.view.WordExact := (Memref.isWhole_whole _ : wOutM.IsWhole).wordExact
theorem wfOff_exact {o : Fin 3 → ℕ} {h : ∀ a, o a + S1x2048x1024.size a ≤ S8x2048x1024.size a}
    (w : (Rect.unit (s := S8x2048x1024) o S1x2048x1024.size h).WholeWords (EltTy.packing .bf16)) : (wfOff o h).view.WordExact :=
  ((Memref.isWhole_whole _ : wfM.IsWhole).wordExact_slice rfl _ w).reshape _ _
theorem wofOff_exact {o : Fin 3 → ℕ} {h : ∀ a, o a + S1x256x2048.size a ≤ S8x256x2048.size a}
    (w : (Rect.unit (s := S8x256x2048) o S1x256x2048.size h).WholeWords (EltTy.packing .bf16)) : (wofOff o h).view.WordExact :=
  ((Memref.isWhole_whole _ : wofM.IsWhole).wordExact_slice rfl _ w).reshape _ _
theorem slot0_exact : slot0.view.WordExact :=
  ((Memref.isWhole_whole _ : bufM.IsWhole).wordExact_slice rfl _ wordsbf16_S2x2048x1024_S1x2048x1024_0_0_0).reshape _ _
theorem slot1_exact : slot1.view.WordExact :=
  ((Memref.isWhole_whole _ : bufM.IsWhole).wordExact_slice rfl _ wordsbf16_S2x2048x1024_S1x2048x1024_1_0_0).reshape _ _

section Pieces
variable {sp sp' : Space} {s : Shape} (a : Memref sig .tc sp s .bf16) (b : Memref sig .tc sp' s .bf16)

/-- A message from `a` to `b` on device `n`. -/
def sendP (a b : Memref sig .tc .hbm s .bf16) (n : Dev nD) (q r : DmaSem sig) (ha : a.view.WordExact) (hb : b.view.WordExact) (hs : b.view.ref.isScScratch = false) : Pr F PUnit :=
  Prog.lift (.enqueueDma a (.remote (Dev.tc n) b (.dma q) hs) (.dma r) ha hb ⟨⟨rfl, Or.inl rfl⟩, trivial⟩)
/-- A copy on the device itself, begun. -/
def hereP (a : Memref sig .tc .hbm s .bf16) (q : DmaSem sig) (ha : a.view.WordExact) (hb : b.view.WordExact)
    (ht : DmaTarget.Typed (nD := nD) (τ := τ) (p := .tc) Space.hbm (SemLoc.dma q) (.here b)) : Pr F PUnit :=
  Prog.lift (.enqueueDma a (.here b) (.dma q) ha hb ht)
/-- A wait. -/
def waitP (q : DmaSem sig) (ha : a.view.WordExact) (hb : b.view.WordExact) : Pr F PUnit := Prog.lift (.waitDma2 q a b ha hb)
end Pieces

/-- The condition of the wait for load `k`. -/
abbrev condW (i : grid0.Coords) (k : BitVec 32) : BitVec 1 :=
  Scalar.cmpi .ne (Scalar.extui (Scalar.andi (Scalar.cmpi .eq (BitVec.ofNat 32 (i 0).val) k) (Scalar.cmpi .eq (BitVec.ofNat 32 (i 1).val) 0#32)) : BitVec 32) 0#32

/-- The first grid point: the device copies its own weights, sends them, and loads its own columns. -/
def begin (i : grid0.Coords) (d : Dev nD) (h : k0_cond1 i = 1#1) : Pr F PUnit := do
  hereP (wfOff (k0_off2 d) (k0_off2_inb i d h)) wInM (ownQ false) wIn_exact (wfOff_exact (k0_off2_wordsbf16 i d h)) ⟨Or.inl rfl, trivial⟩
  hereP (wofOff (k0_off3 d) (k0_off3_inb i d h)) wOutM (ownQ true) wOut_exact (wofOff_exact (k0_off3_wordsbf16 i d h)) ⟨Or.inl rfl, trivial⟩
  sendP wInM (wfOff (k0_off2 d) (k0_off2_inb i d h)) ⟨k0_dev1 d, k0_dev1_lt i d h⟩ (sendQ (false, 0)) (recvQ (false, 0)) wIn_exact (wfOff_exact (k0_off2_wordsbf16 i d h)) rfl
  sendP wInM (wfOff (k0_off2 d) (k0_off2_inb i d h)) ⟨k0_dev2 d, k0_dev2_lt i d h⟩ (sendQ (false, 1)) (recvQ (false, 1)) wIn_exact (wfOff_exact (k0_off2_wordsbf16 i d h)) rfl
  sendP wInM (wfOff (k0_off2 d) (k0_off2_inb i d h)) ⟨k0_dev3 d, k0_dev3_lt i d h⟩ (sendQ (false, 2)) (recvQ (false, 2)) wIn_exact (wfOff_exact (k0_off2_wordsbf16 i d h)) rfl
  sendP wInM (wfOff (k0_off2 d) (k0_off2_inb i d h)) ⟨k0_dev4 d, k0_dev4_lt i d h⟩ (sendQ (false, 3)) (recvQ (false, 3)) wIn_exact (wfOff_exact (k0_off2_wordsbf16 i d h)) rfl
  sendP wOutM (wofOff (k0_off3 d) (k0_off3_inb i d h)) ⟨k0_dev5 d, k0_dev5_lt i d h⟩ (sendQ (true, 0)) (recvQ (true, 0)) wOut_exact (wofOff_exact (k0_off3_wordsbf16 i d h)) rfl
  sendP wOutM (wofOff (k0_off3 d) (k0_off3_inb i d h)) ⟨k0_dev6 d, k0_dev6_lt i d h⟩ (sendQ (true, 1)) (recvQ (true, 1)) wOut_exact (wofOff_exact (k0_off3_wordsbf16 i d h)) rfl
  sendP wOutM (wofOff (k0_off3 d) (k0_off3_inb i d h)) ⟨k0_dev7 d, k0_dev7_lt i d h⟩ (sendQ (true, 2)) (recvQ (true, 2)) wOut_exact (wofOff_exact (k0_off3_wordsbf16 i d h)) rfl
  sendP wOutM (wofOff (k0_off3 d) (k0_off3_inb i d h)) ⟨k0_dev8 d, k0_dev8_lt i d h⟩ (sendQ (true, 3)) (recvQ (true, 3)) wOut_exact (wofOff_exact (k0_off3_wordsbf16 i d h)) rfl
  sendP wOutM (wofOff (k0_off3 d) (k0_off3_inb i d h)) ⟨k0_dev9 d, k0_dev9_lt i d h⟩ (sendQ (true, 4)) (recvQ (true, 4)) wOut_exact (wofOff_exact (k0_off3_wordsbf16 i d h)) rfl
  sendP wOutM (wofOff (k0_off3 d) (k0_off3_inb i d h)) ⟨k0_dev10 d, k0_dev10_lt i d h⟩ (sendQ (true, 5)) (recvQ (true, 5)) wOut_exact (wofOff_exact (k0_off3_wordsbf16 i d h)) rfl
  sendP wOutM (wofOff (k0_off3 d) (k0_off3_inb i d h)) ⟨k0_dev11 d, k0_dev11_lt i d h⟩ (sendQ (true, 6)) (recvQ (true, 6)) wOut_exact (wofOff_exact (k0_off3_wordsbf16 i d h)) rfl
  hereP slot0 wInM (slotQ 0) wIn_exact slot0_exact ⟨Or.inl rfl, trivial⟩

/-- Columns come, and are loaded for block 1. -/
def take1 (i : grid0.Coords) (d : Dev nD) (h : k0_cond3 i = 1#1) : Pr F PUnit := do
  waitP (wfOff (k0_off4 d) (k0_off4_inb i d h)) (wfOff (k0_off4 d) (k0_off4_inb i d h)) (recvQ (false, 0)) (wfOff_exact (k0_off4_wordsbf16 i d h)) (wfOff_exact (k0_off4_wordsbf16 i d h))
  hereP slot1 (wfOff (k0_off4 d) (k0_off4_inb i d h)) (slotQ 1) (wfOff_exact (k0_off4_wordsbf16 i d h)) slot1_exact ⟨Or.inl rfl, trivial⟩

/-- Columns come, are sent on, and are loaded for block 2. -/
def take2 (i : grid0.Coords) (d : Dev nD) (h : k0_cond5 i = 1#1) : Pr F PUnit := do
  waitP (wfOff (k0_off5 d) (k0_off5_inb i d h)) (wfOff (k0_off5 d) (k0_off5_inb i d h)) (recvQ (false, 1)) (wfOff_exact (k0_off5_wordsbf16 i d h)) (wfOff_exact (k0_off5_wordsbf16 i d h))
  sendP (wfOff (k0_off5 d) (k0_off5_inb i d h)) (wfOff (k0_off5 d) (k0_off5_inb i d h)) ⟨k0_dev12 d, k0_dev12_lt i d h⟩ (sendQ (false, 4)) (recvQ (false, 4)) (wfOff_exact (k0_off5_wordsbf16 i d h)) (wfOff_exact (k0_off5_wordsbf16 i d h)) rfl
  hereP slot0 (wfOff (k0_off5 d) (k0_off5_inb i d h)) (slotQ 0) (wfOff_exact (k0_off5_wordsbf16 i d h)) slot0_exact ⟨Or.inl rfl, trivial⟩

/-- Columns come, and are loaded for block 3. -/
def take3 (i : grid0.Coords) (d : Dev nD) (h : k0_cond7 i = 1#1) : Pr F PUnit := do
  waitP (wfOff (k0_off6 d) (k0_off6_inb i d h)) (wfOff (k0_off6 d) (k0_off6_inb i d h)) (recvQ (false, 4)) (wfOff_exact (k0_off6_wordsbf16 i d h)) (wfOff_exact (k0_off6_wordsbf16 i d h))
  hereP slot1 (wfOff (k0_off6 d) (k0_off6_inb i d h)) (slotQ 1) (wfOff_exact (k0_off6_wordsbf16 i d h)) slot1_exact ⟨Or.inl rfl, trivial⟩

/-- Columns come, are sent on, and are loaded for block 4. -/
def take4 (i : grid0.Coords) (d : Dev nD) (h : k0_cond9 i = 1#1) : Pr F PUnit := do
  waitP (wfOff (k0_off7 d) (k0_off7_inb i d h)) (wfOff (k0_off7 d) (k0_off7_inb i d h)) (recvQ (false, 2)) (wfOff_exact (k0_off7_wordsbf16 i d h)) (wfOff_exact (k0_off7_wordsbf16 i d h))
  sendP (wfOff (k0_off7 d) (k0_off7_inb i d h)) (wfOff (k0_off7 d) (k0_off7_inb i d h)) ⟨k0_dev13 d, k0_dev13_lt i d h⟩ (sendQ (false, 5)) (recvQ (false, 5)) (wfOff_exact (k0_off7_wordsbf16 i d h)) (wfOff_exact (k0_off7_wordsbf16 i d h)) rfl
  hereP slot0 (wfOff (k0_off7 d) (k0_off7_inb i d h)) (slotQ 0) (wfOff_exact (k0_off7_wordsbf16 i d h)) slot0_exact ⟨Or.inl rfl, trivial⟩

/-- Columns come, and are loaded for block 5. -/
def take5 (i : grid0.Coords) (d : Dev nD) (h : k0_cond11 i = 1#1) : Pr F PUnit := do
  waitP (wfOff (k0_off8 d) (k0_off8_inb i d h)) (wfOff (k0_off8 d) (k0_off8_inb i d h)) (recvQ (false, 5)) (wfOff_exact (k0_off8_wordsbf16 i d h)) (wfOff_exact (k0_off8_wordsbf16 i d h))
  hereP slot1 (wfOff (k0_off8 d) (k0_off8_inb i d h)) (slotQ 1) (wfOff_exact (k0_off8_wordsbf16 i d h)) slot1_exact ⟨Or.inl rfl, trivial⟩

/-- Columns come, are sent on, and are loaded for block 6. -/
def take6 (i : grid0.Coords) (d : Dev nD) (h : k0_cond13 i = 1#1) : Pr F PUnit := do
  waitP (wfOff (k0_off9 d) (k0_off9_inb i d h)) (wfOff (k0_off9 d) (k0_off9_inb i d h)) (recvQ (false, 3)) (wfOff_exact (k0_off9_wordsbf16 i d h)) (wfOff_exact (k0_off9_wordsbf16 i d h))
  sendP (wfOff (k0_off9 d) (k0_off9_inb i d h)) (wfOff (k0_off9 d) (k0_off9_inb i d h)) ⟨k0_dev14 d, k0_dev14_lt i d h⟩ (sendQ (false, 6)) (recvQ (false, 6)) (wfOff_exact (k0_off9_wordsbf16 i d h)) (wfOff_exact (k0_off9_wordsbf16 i d h)) rfl
  hereP slot0 (wfOff (k0_off9 d) (k0_off9_inb i d h)) (slotQ 0) (wfOff_exact (k0_off9_wordsbf16 i d h)) slot0_exact ⟨Or.inl rfl, trivial⟩

/-- Columns come, and are loaded for block 7. -/
def take7 (i : grid0.Coords) (d : Dev nD) (h : k0_cond15 i = 1#1) : Pr F PUnit := do
  waitP (wfOff (k0_off10 d) (k0_off10_inb i d h)) (wfOff (k0_off10 d) (k0_off10_inb i d h)) (recvQ (false, 6)) (wfOff_exact (k0_off10_wordsbf16 i d h)) (wfOff_exact (k0_off10_wordsbf16 i d h))
  hereP slot1 (wfOff (k0_off10 d) (k0_off10_inb i d h)) (slotQ 1) (wfOff_exact (k0_off10_wordsbf16 i d h)) slot1_exact ⟨Or.inl rfl, trivial⟩

/-- At the end the device waits for its messages with columns to have left, -/
def endIn (i : grid0.Coords) (d : Dev nD) (h : k0_cond17 i = 1#1) : Pr F PUnit := do
  waitP (wfOff (k0_off12 d) (k0_off12_inb i d h)) wInM (sendQ (false, 0)) (wfOff_exact (k0_off12_wordsbf16 i d h)) wIn_exact
  waitP (wfOff (k0_off12 d) (k0_off12_inb i d h)) wInM (sendQ (false, 1)) (wfOff_exact (k0_off12_wordsbf16 i d h)) wIn_exact
  waitP (wfOff (k0_off12 d) (k0_off12_inb i d h)) wInM (sendQ (false, 2)) (wfOff_exact (k0_off12_wordsbf16 i d h)) wIn_exact
  waitP (wfOff (k0_off12 d) (k0_off12_inb i d h)) wInM (sendQ (false, 3)) (wfOff_exact (k0_off12_wordsbf16 i d h)) wIn_exact
  waitP (wfOff (k0_off13 d) (k0_off13_inb i d h)) (wfOff (k0_off13 d) (k0_off13_inb i d h)) (sendQ (false, 4)) (wfOff_exact (k0_off13_wordsbf16 i d h)) (wfOff_exact (k0_off13_wordsbf16 i d h))
  waitP (wfOff (k0_off14 d) (k0_off14_inb i d h)) (wfOff (k0_off14 d) (k0_off14_inb i d h)) (sendQ (false, 5)) (wfOff_exact (k0_off14_wordsbf16 i d h)) (wfOff_exact (k0_off14_wordsbf16 i d h))
  waitP (wfOff (k0_off15 d) (k0_off15_inb i d h)) (wfOff (k0_off15 d) (k0_off15_inb i d h)) (sendQ (false, 6)) (wfOff_exact (k0_off15_wordsbf16 i d h)) (wfOff_exact (k0_off15_wordsbf16 i d h))

/-- for its messages with rows to have left and to have come, -/
def endOut (i : grid0.Coords) (d : Dev nD) (h : k0_cond17 i = 1#1) : Pr F PUnit := do
  waitP (wofOff (k0_off16 d) (k0_off16_inb i d h)) wOutM (sendQ (true, 0)) (wofOff_exact (k0_off16_wordsbf16 i d h)) wOut_exact
  waitP wOutM (wofOff (k0_off16 d) (k0_off16_inb i d h)) (recvQ (true, 0)) wOut_exact (wofOff_exact (k0_off16_wordsbf16 i d h))
  waitP (wofOff (k0_off16 d) (k0_off16_inb i d h)) wOutM (sendQ (true, 1)) (wofOff_exact (k0_off16_wordsbf16 i d h)) wOut_exact
  waitP wOutM (wofOff (k0_off16 d) (k0_off16_inb i d h)) (recvQ (true, 1)) wOut_exact (wofOff_exact (k0_off16_wordsbf16 i d h))
  waitP (wofOff (k0_off16 d) (k0_off16_inb i d h)) wOutM (sendQ (true, 2)) (wofOff_exact (k0_off16_wordsbf16 i d h)) wOut_exact
  waitP wOutM (wofOff (k0_off16 d) (k0_off16_inb i d h)) (recvQ (true, 2)) wOut_exact (wofOff_exact (k0_off16_wordsbf16 i d h))
  waitP (wofOff (k0_off16 d) (k0_off16_inb i d h)) wOutM (sendQ (true, 3)) (wofOff_exact (k0_off16_wordsbf16 i d h)) wOut_exact
  waitP wOutM (wofOff (k0_off16 d) (k0_off16_inb i d h)) (recvQ (true, 3)) wOut_exact (wofOff_exact (k0_off16_wordsbf16 i d h))
  waitP (wofOff (k0_off16 d) (k0_off16_inb i d h)) wOutM (sendQ (true, 4)) (wofOff_exact (k0_off16_wordsbf16 i d h)) wOut_exact
  waitP wOutM (wofOff (k0_off16 d) (k0_off16_inb i d h)) (recvQ (true, 4)) wOut_exact (wofOff_exact (k0_off16_wordsbf16 i d h))
  waitP (wofOff (k0_off16 d) (k0_off16_inb i d h)) wOutM (sendQ (true, 5)) (wofOff_exact (k0_off16_wordsbf16 i d h)) wOut_exact
  waitP wOutM (wofOff (k0_off16 d) (k0_off16_inb i d h)) (recvQ (true, 5)) wOut_exact (wofOff_exact (k0_off16_wordsbf16 i d h))
  waitP (wofOff (k0_off16 d) (k0_off16_inb i d h)) wOutM (sendQ (true, 6)) (wofOff_exact (k0_off16_wordsbf16 i d h)) wOut_exact
  waitP wOutM (wofOff (k0_off16 d) (k0_off16_inb i d h)) (recvQ (true, 6)) wOut_exact (wofOff_exact (k0_off16_wordsbf16 i d h))

/-- and for its own copies. -/
def endOwn (i : grid0.Coords) (d : Dev nD) (h : k0_cond17 i = 1#1) : Pr F PUnit := do
  waitP wInM (wfOff (k0_off12 d) (k0_off12_inb i d h)) (ownQ false) wIn_exact (wfOff_exact (k0_off12_wordsbf16 i d h))
  waitP wOutM (wofOff (k0_off16 d) (k0_off16_inb i d h)) (ownQ true) wOut_exact (wofOff_exact (k0_off16_wordsbf16 i d h))

/-- What is due of the exchange at a grid point. -/
def exch (i : grid0.Coords) (d : Dev nD) : Pr F PUnit :=
  (if h : k0_cond1 i = 1#1 then begin i d h else pure ⟨⟩) >>= fun _ =>
  (if condW i 0#32 = 1#1 then waitP wInM slot0 (slotQ 0) wIn_exact slot0_exact else pure ⟨⟩) >>= fun _ =>
  (if h : k0_cond3 i = 1#1 then take1 i d h else pure ⟨⟩) >>= fun _ =>
  (if condW i 1#32 = 1#1 then waitP wInM slot1 (slotQ 1) wIn_exact slot1_exact else pure ⟨⟩) >>= fun _ =>
  (if h : k0_cond5 i = 1#1 then take2 i d h else pure ⟨⟩) >>= fun _ =>
  (if condW i 2#32 = 1#1 then waitP wInM slot0 (slotQ 0) wIn_exact slot0_exact else pure ⟨⟩) >>= fun _ =>
  (if h : k0_cond7 i = 1#1 then take3 i d h else pure ⟨⟩) >>= fun _ =>
  (if condW i 3#32 = 1#1 then waitP wInM slot1 (slotQ 1) wIn_exact slot1_exact else pure ⟨⟩) >>= fun _ =>
  (if h : k0_cond9 i = 1#1 then take4 i d h else pure ⟨⟩) >>= fun _ =>
  (if condW i 4#32 = 1#1 then waitP wInM slot0 (slotQ 0) wIn_exact slot0_exact else pure ⟨⟩) >>= fun _ =>
  (if h : k0_cond11 i = 1#1 then take5 i d h else pure ⟨⟩) >>= fun _ =>
  (if condW i 5#32 = 1#1 then waitP wInM slot1 (slotQ 1) wIn_exact slot1_exact else pure ⟨⟩) >>= fun _ =>
  (if h : k0_cond13 i = 1#1 then take6 i d h else pure ⟨⟩) >>= fun _ =>
  (if condW i 6#32 = 1#1 then waitP wInM slot0 (slotQ 0) wIn_exact slot0_exact else pure ⟨⟩) >>= fun _ =>
  (if h : k0_cond15 i = 1#1 then take7 i d h else pure ⟨⟩) >>= fun _ =>
  (if condW i 7#32 = 1#1 then waitP wInM slot1 (slotQ 1) wIn_exact slot1_exact else pure ⟨⟩)

/-- The product of a grid point. -/
def product (i : grid0.Coords) (a3 : Memref sig .tc .vmem S1024x2048 .bf16) (a6 : Memref sig .tc .vmem S1024x1024 .f32) : Pr F PUnit := do
  let x ← Prog.lift (.load a3 (Rect.unit (s := S1024x2048) ![0, 0] S1024x2048.size inb_S1024x2048_S1024x2048_0_0).toLoadRect (View.loadsAt_vmem h_S1024x2048))
  let w ← Prog.lift (.load bufM (Rect.unit (s := S2x2048x1024) (k0_off11 i) S1x2048x1024.size (k0_off11_inb i)).toLoadRect (View.loadsAt_vmem h_S1x2048x1024))
  let _ ← Prog.lift (.load a6 (Rect.unit (s := S1024x1024) ![0, 0] S1024x1024.size inb_S1024x1024_S1024x1024_0_0).toLoadRect (View.loadsAt_vmem h_S1024x1024))
  Prog.lift (.store a6 (Rect.unit (s := S1024x1024) ![0, 0] S1024x1024.size inb_S1024x1024_S1024x1024_0_0) (k0_pay2 (k0_pay1 x) w) Finset.univ (View.stores_vmem_bits_univ h_S1024x1024 rfl) (.inl rfl))

/-- The end of the last grid point. -/
def finish (i : grid0.Coords) (d : Dev nD) : Pr F PUnit :=
  if h : k0_cond17 i = 1#1 then do endIn i d h; endOut i d h; endOwn i d h else pure ⟨⟩

/-- The kernel's body at a grid point, on any staging buffers. -/
abbrev step (i : grid0.Coords) (a3 : Memref sig .tc .vmem S1024x2048 .bf16) (h3 : a3.IsWhole) (a6 : Memref sig .tc .vmem S1024x1024 .f32) (h6 : a6.IsWhole) : Pr F PUnit :=
  cc0_inproj_gather i tabM (Memref.isWhole_whole _) a3 h3 wInM (Memref.isWhole_whole _) wOutM (Memref.isWhole_whole _) a6 h6 wfM (Memref.isWhole_whole _) wofM (Memref.isWhole_whole _)
    bufM (Memref.isWhole_whole _) cc0_scratch1 cc0_scratch2 cc0_scratch3 cc0_scratch4 cc0_scratch5 cc0_scratch6

theorem dite_andThen {α β : Type} {c : Prop} [Decidable c] (A : c → Pr F α) (B : ¬c → Pr F α) (f : α → Pr F β) :
    ((if h : c then A h else B h) >>= f) = if h : c then A h >>= f else B h >>= f := by split <;> rfl
theorem ite_andThen {α β : Type} {c : Prop} [Decidable c] (A B : Pr F α) (f : α → Pr F β) :
    ((if c then A else B) >>= f) = if c then A >>= f else B >>= f := by split <;> rfl

set_option maxRecDepth 65536 in
set_option maxHeartbeats 4000000 in
theorem step_eq (i : grid0.Coords) (a3 : Memref sig .tc .vmem S1024x2048 .bf16) (h3 : a3.IsWhole) (a6 : Memref sig .tc .vmem S1024x1024 .f32) (h6 : a6.IsWhole) :
    step (F := F) i a3 h3 a6 h6 = (Prog.lift .deviceId >>= fun d => exch i d >>= fun _ => product i a3 a6 >>= fun _ => finish i d) := by
  unfold step
  simp only [cc0_inproj_gather_eq_skeleton]; unfold cc0_inproj_gather_skel
  simp only [k0_part18_eq_skeleton]; unfold k0_part18_skel
  simp only [k0_part11_eq_skeleton, k0_part12_eq_skeleton, k0_part13_eq_skeleton, k0_part14_eq_skeleton, k0_part15_eq_skeleton, k0_part16_eq_skeleton, k0_part17_eq_skeleton,
    k0_part7_eq_skeleton, k0_part8_eq_skeleton, k0_part9_eq_skeleton, k0_part10_eq_skeleton]
  unfold k0_part11_skel k0_part12_skel k0_part13_skel k0_part14_skel k0_part15_skel k0_part16_skel k0_part17_skel k0_part7_skel k0_part8_skel k0_part9_skel k0_part10_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold exch begin take1 take2 take3 take4 take5 take6 take7 product finish endIn endOut endOwn sendP hereP waitP
  simp only [bind_assoc, pure_bind, dite_andThen, ite_andThen]
  rfl

end Cert.Ga

end
-- ==== Proof.Gather.Cells.lean ====
module

public import proofs.«01_k».proof.Proof.Gather.Step

/-!
# The gather: what a semaphore pays

Each message's departure and arrival has one round; an arrival pays the slab with what was sent.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

/-- What the devices start from: their columns of the input weights and their rows of the output weights. -/
structure Data (F : FTy → Type) where
  w : Dev nD → S2048x1024.Idx → Elt F .bf16
  wo : Dev nD → S256x2048.Idx → Elt F .bf16

variable (x : Data F)

/-- What device `c` sends as message `m`. -/
def msg (c : Dev nD) : (m : Msg) → (shp m.1).Idx → Elt F .bf16
  | (false, j) => x.w (blk c j)
  | (true, _) => x.wo c

/-- The slab that message `m` lands in on device `c`, with what was sent in it. -/
def landed (c : Dev nD) (m : Msg) : sProp 𝕄 := owns c.tc (dst (mate m c) m) fullShare (msg x (mate m c) m)
instance landed_storable (c : Dev nD) (m : Msg) : BI.Storable (upEmb : UEmb _ 𝕄) (landed x c m) := by
  unfold landed; infer_instance

/-- What the one duty on a semaphore pays its owner. -/
def pays (c : Dev nD) : Option (Bool × Msg) → sProp 𝕄
  | some (true, m) => landed x c m
  | some (false, _) => iprop(emp)
  | none => iprop(emp)
instance pays_storable (c : Dev nD) (o : Option (Bool × Msg)) : BI.Storable (upEmb : UEmb _ 𝕄) (pays x c o) := by
  match o with
  | some (true, m) => exact landed_storable x c m
  | some (false, _) => unfold pays; infer_instance
  | none => unfold pays; infer_instance

/-- The message a semaphore belongs to. -/
def decG : SemLoc sig → Option (Bool × Msg)
  | .dma q => dec q
  | .reg _ => none
/-- What it is worth. -/
def worth : Option (Bool × Msg) → ℕ
  | some (_, m) => NX m.1
  | none => 1
theorem worth_pos : ∀ o, 0 < worth o
  | some (_, m) => NX_pos m.1
  | none => Nat.one_pos

/-- One round on each departure and each arrival, of one duty worth a message. -/
def Rd : Rounds.Schedule (GSem nD τ sig) Unit 𝕄 where
  duties g r := if r = 0 ∧ g.1.2 = .tc ∧ (decG g.2).isSome then {()} else ∅
  unitless _ := False
  amount g _ _ := worth (decG g.2)
  payload g _ _ := pays x g.1.1 (decG g.2)
  amount_pos _ _ _ _ := worth_pos _

instance Rd_payload_storable (g : GSem nD τ sig) (r : ℕ) (d : Unit) : BI.Storable (upEmb : UEmb _ 𝕄) ((Rd x).payload g r d) :=
  pays_storable x g.1.1 _

section Sched
variable (c : Dev nD) (m : Msg)

theorem duties_send : (Rd x).duties (sendCell c m) 0 = {()} := by
  dsimp only [Rd]; exact if_pos ⟨rfl, rfl, by show (dec (sendQ m)).isSome = true; rw [dec_send]; rfl⟩
theorem duties_recv : (Rd x).duties (recvCell c m) 0 = {()} := by
  dsimp only [Rd]; exact if_pos ⟨rfl, rfl, by show (dec (recvQ m)).isSome = true; rw [dec_recv]; rfl⟩
theorem duties_later (g : GSem nD τ sig) : ∀ r, 1 ≤ r → (Rd x).duties g r = ∅ := fun r hr => by
  dsimp only [Rd]; exact if_neg fun h => by omega

theorem amount_send (r : ℕ) (u : Unit) : (Rd x).amount (sendCell c m) r u = NX m.1 := by
  show worth (dec (sendQ m)) = _; rw [dec_send]; rfl
theorem amount_recv (r : ℕ) (u : Unit) : (Rd x).amount (recvCell c m) r u = NX m.1 := by
  show worth (dec (recvQ m)) = _; rw [dec_recv]; rfl
theorem expect_send : (Rd x).expect (sendCell c m) 0 = NX m.1 := by
  unfold Schedule.expect Schedule.amountOf; rw [duties_send, Finset.sum_singleton]; exact amount_send x c m 0 ()
theorem expect_recv : (Rd x).expect (recvCell c m) 0 = NX m.1 := by
  unfold Schedule.expect Schedule.amountOf; rw [duties_recv, Finset.sum_singleton]; exact amount_recv x c m 0 ()

theorem payload_send (u : Unit) : (Rd x).payload (sendCell c m) 0 u = iprop(emp) := by
  show pays x c (dec (sendQ m)) = _; rw [dec_send]; rfl
theorem payload_recv (u : Unit) : (Rd x).payload (recvCell c m) 0 u = landed x c m := by
  show pays x c (dec (recvQ m)) = _; rw [dec_recv]; rfl
theorem rest_recv : bigSep ((Rd x).duties (recvCell c m) 0 \ ∅) (fun u => (Rd x).payload (recvCell c m) 0 u) = landed x c m := by
  rw [Finset.sdiff_empty, duties_recv, bigSep_singleton, payload_recv]

end Sched

/-! ### What is owed, and the levels -/

/-- What device `c` owes, when the messages are at the stages `D`. -/
def owed (c : Dev nD) (D : Msg → Fin 3) : CellTallies nD τ sig Unit :=
  ∑ m ∈ Finset.univ.filter (fun m => D m = 0), tallyAt (recvCell (mate m c) m) () (NX m.1)

theorem owed_send (c : Dev nD) (D : Msg → Fin 3) (m : Msg) (h : D m = 0) :
    owed c D = owed c (Function.update D m 1) + tallyAt (recvCell (mate m c) m) () (NX m.1) := by
  have h1 : (Finset.univ.filter fun m' => D m' = 0) = insert m (Finset.univ.filter fun m' => Function.update D m 1 m' = 0) := by
    ext m'
    simp only [Finset.mem_insert, Finset.mem_filter, Finset.mem_univ, true_and]
    by_cases e : m' = m
    · subst e; simp [h]
    · simp [e]
  unfold owed
  rw [h1, Finset.sum_insert (by simp), add_comm]
theorem owed_gone (c : Dev nD) (D : Msg → Fin 3) (m : Msg) (h : D m = 1) : owed c (Function.update D m 2) = owed c D := by
  unfold owed
  refine Finset.sum_congr ?_ fun _ _ => rfl
  ext m'
  simp only [Finset.mem_filter, Finset.mem_univ, true_and]
  by_cases e : m' = m
  · subst e; simp [h]
  · simp [e]
theorem owed_none (c : Dev nD) (D : Msg → Fin 3) (h : ∀ m, D m ≠ 0) : owed c D = 0 := by
  unfold owed; rw [Finset.filter_false_of_mem fun m _ => h m]; exact Finset.sum_empty

/-- Every semaphore of a TensorCore has one level; -/
def L (g : GSem nD τ sig) : Finset Unit := if g.1.2 = .tc then {()} else ∅
/-- an arrival's is by the order of the messages, every other semaphore's is 0. -/
def lvR : Msg → ℕ
  | (false, j) => (![1, 1, 1, 1, 4, 5, 6] : Fin 7 → ℕ) j
  | (true, _) => 9
def lvO : Option (Bool × Msg) → ℕ
  | some (true, m) => lvR m
  | _ => 0
def lv (g : GSem nD τ sig) (_ : Unit) : ℕ := lvO (decG g.2)
theorem lvR_pos : ∀ m, 0 < lvR m := by decide

theorem L_of_ne (g : GSem nD τ sig) (h : g.1.2 ≠ .tc) : L g = ∅ := if_neg h
theorem L_tc (c : Dev nD) (sm : SemLoc sig) : L (c.tc, sm) = {()} := if_pos rfl
theorem lv_recv (c : Dev nD) (m : Msg) (u : Unit) : lv (recvCell c m) u = lvR m := by
  show lvO (dec (recvQ m)) = _; rw [dec_recv]; rfl

theorem owed_pos {c : Dev nD} {D : Msg → Fin 3} {g : GSem nD τ sig} {u : Unit} (h : 0 < owed c D g u) :
    ∃ m, D m = 0 ∧ g = recvCell (mate m c) m := by
  unfold owed at h
  rw [Finset.sum_apply, Finsupp.finset_sum_apply] at h
  obtain ⟨m, hm, hp⟩ := Finset.exists_ne_zero_of_sum_ne_zero (Nat.pos_iff_ne_zero.mp h)
  refine ⟨m, (Finset.mem_filter.mp hm).2, ?_⟩
  rw [tallyAt_apply] at hp
  by_contra hn
  exact hp (if_neg fun h' => hn h'.1)

/-- A device may wait on a semaphore below all that it owes. -/
theorem mayWait (c : Dev nD) (D : Msg → Fin 3) (q : DmaSem sig) (h : ∀ m, D m = 0 → lvO (dec q) < lvR m) :
    (levAts L lv : sProp 𝕄) ⊢ MayWait c.tc (.dma q) () (owed c D) :=
  MayOwe.of_cut (L := L) (lev := lv) (lvO (dec q)) (fun p hp => by rw [Finset.mem_singleton.mp hp, L_tc]; exact Finset.mem_singleton_self _)
    (fun g u hg => by obtain ⟨m, -, rfl⟩ := owed_pos hg; exact Finset.mem_singleton_self _)
    (fun p hp => by rw [Finset.mem_singleton.mp hp]; exact le_refl _)
    (fun g u hg => by obtain ⟨m, hm, rfl⟩ := owed_pos hg; rw [lv_recv]; exact h m hm)
/-- A device may wait on any semaphore that is no arrival, whatever it owes, -/
theorem mayWait_low (c : Dev nD) (D : Msg → Fin 3) (q : DmaSem sig) (h : lvO (dec q) = 0) :
    (levAts L lv : sProp 𝕄) ⊢ MayWait c.tc (.dma q) () (owed c D) :=
  mayWait c D q fun m _ => by rw [h]; exact lvR_pos m
/-- and on the arrival of a message once all that come before are sent. -/
theorem mayWait_recv (c : Dev nD) (D : Msg → Fin 3) (m : Msg) (h : ∀ m', D m' = 0 → lvR m < lvR m') :
    (levAts L lv : sProp 𝕄) ⊢ MayWait c.tc (.dma (recvQ m)) () (owed c D) :=
  mayWait c D _ fun m' hm' => by rw [dec_recv]; exact h m' hm'

end Cert.Ga

end
-- ==== Proof.Gather.State.lean ====
module

public import proofs.«01_k».proof.Proof.Gather.Cells

/-!
# The gather: its state on a device

The messages, arrivals, loads and copies, each at one of a few stages, and what it means for a piece of the
program to take them from some stages to others.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

variable (x : Data F)

/-- Names for the exchange's semaphores. -/
abbrev Names : Type := Dev nD → Bool → Msg → ℕ
variable (K : Names) (c : Dev nD)

/-- What stays known throughout. -/
def known : sProp 𝕄 :=
  iprop(levAts L lv ∗ ∀ m : Msg, cellInv EX (Rd x) (K c false m) (sendCell c m) ∗ cellInv EX (Rd x) (K c true m) (recvCell c m)
    ∗ cellInv EX (Rd x) (K (mate m c) true m) (recvCell (mate m c) m) ∗ reached EX (sendCell c m) 0 ∗ reached EX (recvCell (mate m c) m) 0)
instance known_persistent : BI.Persistent (known x K c) := by unfold known; infer_instance

/-- A sixteenth of the whole. -/
abbrev part (k : Fin 16) : PosShare TreeShare := Idealize.ShloMosaic.ShareLeaves.leaf 4 fullShare k
/-- The share of the device's own weights that a message leaves from. -/
def partOf (m : Msg) : Fin 16 := ⟨m.2.val, by omega⟩

/-- The weights that a message with the device's own leaves from. -/
def lent (m : Msg) : sProp 𝕄 :=
  if own m then owns c.tc (src c m) (part (partOf m)) (msg x c m) else iprop(emp)

/-- Message `m`, unsent, under way, or gone. -/
def depart (m : Msg) : Fin 3 → sProp 𝕄
  | 0 => iprop((∃ y, owns (mate m c : Thread nD τ) (dst c m) fullShare y) ∗ dutyTok EX (sendCell c m) 0 () ∗ dutyTok EX (recvCell (mate m c) m) 0 ()
      ∗ atPos EX (sendCell c m) 0 ∅ 0 ∗ lent x c m)
  | 1 => iprop(cred (tallyAt (sendCell c m) () (NX m.1)) ∗ atPos EX (sendCell c m) 0 ∅ 0)
  | 2 => semVal (sendCell c m) 0

/-- What comes as message `m`: awaited, here, here and lent for sending it on, or here and lent for loading it. -/
def arrive (m : Msg) : Fin 4 → sProp 𝕄
  | 0 => iprop(cred (tallyAt (recvCell c m) () (NX m.1)) ∗ atPos EX (recvCell c m) 0 ∅ 0)
  | 1 => iprop(semVal (recvCell c m) 0 ∗ owns c.tc (dst (mate m c) m) fullShare.left (msg x (mate m c) m)
      ∗ owns c.tc (dst (mate m c) m) fullShare.right (msg x (mate m c) m))
  | 2 => iprop(semVal (recvCell c m) 0 ∗ owns c.tc (dst (mate m c) m) fullShare.right (msg x (mate m c) m))
  | 3 => semVal (recvCell c m) 0

/-- A copy under way. -/
def flying {sp sp' : Space} {s : Shape} (a : Memref sig .tc sp s .bf16) (b : Memref sig .tc sp' s .bf16) (q : PosShare TreeShare)
    (y : s.Idx → Elt F .bf16) (z : DmaSem sig) : sProp 𝕄 :=
  iprop(∃ (f : Buf (Elt F) (a.view.loc c.tc)) (g : Buf (Elt F) (b.view.loc c.tc)), ⌜a.view.read (Elt F) f = y ∧ b.view.read (Elt F) g = y⌝
    ∗ Transfers.Flight countersEmb c.tc (SemLoc.dma z) () (RefSig.tileCredit s .bf16)
        iprop((b.view.loc c.tc ↦[b.view.set]{fullShare} g) ∗ (a.view.loc c.tc ↦[a.view.set]{q} f)))

/-- The arrival that load `r + 1` loads. -/
def la : Fin 7 → Fin 7 := ![0, 1, 4, 2, 5, 3, 6]
/-- Whose columns load `k` loads, -/
def gm : Fin 8 → Dev nD := Fin.cases c fun r => blk (mate (false, la r) c) (la r)
/-- from where, -/
def loadM : (k : Fin 8) → Memref sig .tc .hbm S2048x1024 .bf16 := Fin.cases wInM fun r => wfAt (blk (mate (false, la r) c) (la r))
/-- by which share, -/
def loadS : Fin 8 → PosShare TreeShare := Fin.cases (part 8) fun _ => fullShare.right
/-- and to which slot. -/
def par (k : Fin 8) : Fin 2 := ⟨k.val % 2, Nat.mod_lt _ (by decide)⟩

/-- A slot that is not in use. -/
def idleSlot (s : Fin 2) : sProp 𝕄 := iprop((∃ y, owns c.tc (slotM s) fullShare y) ∗ semVal (c.tc, SemLoc.dma (slotQ s)) 0)
/-- The source of a load. -/
def from_ (k : Fin 8) : sProp 𝕄 := owns c.tc (loadM c k) (loadS k) (x.w (gm c k))

/-- Load `k`: not due, under way, loaded, done with, or with its slot ready. -/
def load (k : Fin 8) : Fin 5 → sProp 𝕄
  | 0 => iprop(emp)
  | 1 => flying c (loadM c k) (slotM (par k)) (loadS k) (x.w (gm c k)) (slotQ (par k))
  | 2 => iprop(owns c.tc (slotM (par k)) fullShare (x.w (gm c k)) ∗ semVal (c.tc, SemLoc.dma (slotQ (par k))) 0 ∗ from_ x c k)
  | 3 => from_ x c k
  | 4 => iprop(idleSlot c (par k) ∗ if k = 0 then from_ x c k else emp)

/-- The device's own weights, -/
def mineM : (b : Bool) → Memref sig .tc .hbm (shp b) .bf16
  | false => wInM
  | true => wOutM
/-- the slab that they are copied to, -/
def slabM : (b : Bool) → Memref sig .tc .hbm (shp b) .bf16
  | false => wfAt c
  | true => wofAt c
/-- and their contents. -/
def mineV : (b : Bool) → (shp b).Idx → Elt F .bf16
  | false => x.w c
  | true => x.wo c
/-- The copy of the device's own weights: not begun, under way, or ended. -/
def copy (b : Bool) : Fin 3 → sProp 𝕄
  | 0 => iprop((∃ y, owns c.tc (slabM c b) fullShare y) ∗ owns c.tc (mineM b) (part 7) (mineV x c b) ∗ semVal (c.tc, SemLoc.dma (ownQ b)) 0)
  | 1 => flying c (mineM b) (slabM c b) (part 7) (mineV x c b) (ownQ b)
  | 2 => iprop(owns c.tc (slabM c b) fullShare (mineV x c b) ∗ semVal (c.tc, SemLoc.dma (ownQ b)) 0)

/-- The stages of the messages, the arrivals, the loads and the copies. -/
structure St where
  D : Msg → Fin 3
  A : Msg → Fin 4
  L : Fin 8 → Fin 5
  C : Bool → Fin 3

/-- The exchange on device `c` at stages `σ`. -/
def st (σ : St) : sProp 𝕄 :=
  iprop(bigSep Finset.univ (fun m => depart x c m (σ.D m)) ∗ bigSep Finset.univ (fun m => arrive x c m (σ.A m))
    ∗ bigSep Finset.univ (fun k => load x c k (σ.L k)) ∗ bigSep Finset.univ (fun b => copy x c b (σ.C b)) ∗ ∃ W, owes c.tc (owed c σ.D) W)

/-- One of several apart from the others, at a changed value. -/
theorem bigSep_update {ι β : Type} [Fintype ι] [DecidableEq ι] (P : ι → β → sProp 𝕄) (f : ι → β) (j : ι) (v : β) :
    bigSep Finset.univ (fun k => P k (Function.update f j v k)) = iprop(P j v ∗ bigSep (Finset.univ.erase j) (fun k => P k (f k))) := by
  rw [BI.bigSep_erase (Finset.mem_univ j), Function.update_self]
  congr 1
  exact BI.bigSep_congr fun k hk => by rw [Function.update_of_ne (Finset.ne_of_mem_erase hk)]
theorem bigSep_at {ι β : Type} [Fintype ι] [DecidableEq ι] (P : ι → β → sProp 𝕄) (f : ι → β) (j : ι) {v : β} (h : f j = v) :
    bigSep Finset.univ (fun k => P k (f k)) = iprop(P j v ∗ bigSep (Finset.univ.erase j) (fun k => P k (f k))) := by
  subst h; exact BI.bigSep_erase (Finset.mem_univ j)

/-! ### Running a piece -/

/-- A program run on device `c`. -/
abbrev run {α : Type} (p : Pr F α) (Q : α → sProp 𝕄) : sProp 𝕄 :=
  wp frame (wpE (defs₀ (F := F)) Variants.none c.tc none) Set.univ p Q

/-- The program takes the exchange from one set of stages to another. -/
def Goes (p : Pr F PUnit) (σ σ' : St) : Prop :=
  ∀ Q : PUnit → sProp 𝕄, iprop(known x K c ∗ st x c σ ∗ (st x c σ' -∗ Q ⟨⟩)) ⊢ run c p Q

variable {x K c}

theorem Goes.seq {p q : Pr F PUnit} {σ σ₁ σ₂ : St} (hp : Goes x K c p σ σ₁) (hq : Goes x K c q σ₁ σ₂) : Goes x K c (p >>= fun _ => q) σ σ₂ := fun Q => by
  unfold run
  rw [wp_bind]
  iintro ⟨#Hk, Hs, HQ⟩
  iapply (hp _) $$ [-]
  isplitr; · iexact Hk
  isplitl [Hs]; · iexact Hs
  iintro Hs
  iapply (hq Q) $$ [-]
  isplitr; · iexact Hk
  isplitl [Hs]; · iexact Hs
  iexact HQ
theorem Goes.nil (σ : St) : Goes x K c (pure ⟨⟩) σ σ := fun Q => by
  unfold run
  simp only [Prog.pure_eq_ret]
  rw [wp_ret]
  iintro ⟨-, Hs, HQ⟩
  imodintro
  iapply HQ; iexact Hs
/-- Stages may be changed where what is held allows it. -/
theorem Goes.from {p : Pr F PUnit} {σ σ₁ σ₂ : St} (h : (st x c σ : sProp 𝕄) ⊢ st x c σ₁) (hp : Goes x K c p σ₁ σ₂) : Goes x K c p σ σ₂ := fun Q => by
  iintro ⟨#Hk, Hs, HQ⟩
  iapply (hp Q) $$ [-]
  isplitr; · iexact Hk
  isplitl [Hs]; · iapply h; iexact Hs
  iexact HQ

end Cert.Ga

end
-- ==== Proof.Gather.Rules.lean ====
module

public import proofs.«01_k».proof.Proof.Gather.State

/-!
# The gather: messages

What sending a message and waiting for one does to the state.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

variable {x : Data F} {K : Names} {c : Dev nD}

/-- What is owned is owned by halves. -/
theorem owns_halves {sp : Space} {s : Shape} (c : Dev nD) (M : Memref sig .tc sp s .bf16) (y : s.Idx → Elt F .bf16) :
    (owns c.tc M fullShare y : sProp 𝕄) ⊢ iprop(owns c.tc M fullShare.left y ∗ owns c.tc M fullShare.right y) := by
  unfold owns
  iintro ⟨%f, %hf, H⟩
  ihave H := (pointsTo_share (PosShare.mem_left_op_right fullShare)).1 $$ H
  icases H with ⟨H1, H2⟩
  isplitl [H1]
  · iexists f; isplitr; swap; · iexact H1
    ipureintro; exact hf
  iexists f; isplitr; swap; · iexact H2
  ipureintro; exact hf

/-- Message `m` is sent, from contents held at some share. -/
theorem run_send (m : Msg) (n : Dev nD) (hn : n = mate m c) (ha : (src c m).view.WordExact) (hb : (dst c m).view.WordExact)
    (hs : (dst c m).view.ref.isScScratch = false) (q : PosShare TreeShare)
    (O : CellTallies nD τ sig Unit) (W : Waits sig Unit) (Q : PUnit → sProp 𝕄) :
    iprop(known x K c ∗ owns c.tc (src c m) q (msg x c m) ∗ (∃ y, owns (mate m c : Thread nD τ) (dst c m) fullShare y)
      ∗ dutyTok EX (sendCell c m) 0 () ∗ dutyTok EX (recvCell (mate m c) m) 0 () ∗ owes c.tc (O + tallyAt (recvCell (mate m c) m) () (NX m.1)) W
      ∗ (iprop(cred (tallyAt (sendCell c m) () (NX m.1)) ∗ owes c.tc O W) -∗ Q ⟨⟩))
    ⊢ run c (sendP (src c m) (dst c m) n (sendQ m) (recvQ m) ha hb hs) Q := by
  subst hn
  unfold known owns sendP run
  simp only [Prog.lift]
  iintro ⟨⟨#Hlev, Hkn⟩, ⟨%fs, %hs, Hs⟩, ⟨%y, %fd, -, Hd⟩, Ht, Htm, HO, Hk⟩
  ispecialize Hkn $$ %m
  icases Hkn with ⟨#HI, #HI2, #HIm, #Hr, #Hrm⟩
  iapply (Rounds.wp_send_pointsTo Variants.none EX (Rd x) c.tc none (κ₁ := K c false m) (κ₂ := K (mate m c) true m)
    (r₁ := 0) (r₂ := 0) (d₁ := ()) (d₂ := ()) (q := q) (fs := fs) (fd := fd)
    (by rw [duties_send]; exact Finset.mem_singleton_self _) (by rw [duties_recv]; exact Finset.mem_singleton_self _)
    () () (NX m.1) (show (dst c m).view.amount (.dma (recvQ m)) = NX m.1 from dst_credit c m) (amount_send x c m 0 ()) (amount_recv x (mate m c) m 0 ()) O rfl (W := W)
    (by rw [payload_send]; iintro H; iempintro)
    (by rw [payload_recv]; unfold landed owns; rw [mate_mate]
        iintro H; iexists _; isplitr; swap; · iexact H
        ipureintro; exact (View.read_write_univ _ _).trans hs)) $$ [Hs Hd HO Ht Htm]
  · isplitr; · iexact HI
    isplitr; · iexact HIm
    isplitl [Hs]; · iexact Hs
    isplitl [Hd]; · iexact Hd
    isplitl [HO]; · iexact HO
    isplitl [Ht]; · iexact Ht
    isplitr; · iexact Hr
    isplitl [Htm]; · iexact Htm
    iexact Hrm
  iintro ⟨Hc, HO⟩
  rw [wp_ret]; imodintro
  iapply Hk
  isplitl [Hc]; · iexact Hc
  iexact HO

/-- A message with the device's own weights is sent; -/
theorem goes_send (m : Msg) {s d : Memref sig .tc .hbm (shp m.1) .bf16} {n : Dev nD} {ha : s.view.WordExact} {hb : d.view.WordExact}
    {hs : d.view.ref.isScScratch = false} (es : s = src c m) (ed : d = dst c m) (hn : n = mate m c) (σ : St) (ho : own m = true) (hD : σ.D m = 0) :
    Goes x K c (sendP s d n (sendQ m) (recvQ m) ha hb hs) σ { σ with D := Function.update σ.D m 1 } := fun Q => by
  subst es ed
  unfold st
  rw [bigSep_at (fun m => depart x c m) σ.D m hD, bigSep_update (fun m => depart x c m) σ.D m 1, owed_send c σ.D m hD]
  unfold depart lent
  rw [if_pos ho]
  iintro ⟨#Hk, ⟨⟨⟨Hd, Ht, Htm, Hat, Hs⟩, HD⟩, HA, HL, HC, ⟨%W, HO⟩⟩, HQ⟩
  iapply (run_send (x := x) (K := K) m n hn ha hb hs (part (partOf m)) (owed c (Function.update σ.D m 1)) W Q) $$ [-]
  isplitr; · iexact Hk
  isplitl [Hs]; · iexact Hs
  isplitl [Hd]; · iexact Hd
  isplitl [Ht]; · iexact Ht
  isplitl [Htm]; · iexact Htm
  isplitl [HO]; · iexact HO
  iintro ⟨Hc, HO⟩
  iapply HQ
  isplitl [Hc Hat HD]
  · isplitl [Hc Hat]
    · isplitl [Hc]; · iexact Hc
      iexact Hat
    iexact HD
  isplitl [HA]; · iexact HA
  isplitl [HL]; · iexact HL
  isplitl [HC]; · iexact HC
  iexists W; iexact HO

/-- and one with what came as message `a`. -/
theorem goes_pass (m a : Msg) {s d : Memref sig .tc .hbm (shp m.1) .bf16} {n : Dev nD} {ha : s.view.WordExact} {hb : d.view.WordExact}
    {hs : d.view.ref.isScScratch = false} (es : s = src c m) (ed : d = dst c m) (hn : n = mate m c) (σ : St)
    (e : (owns c.tc (dst (mate a c) a) fullShare.left (msg x (mate a c) a) : sProp 𝕄) = owns c.tc (src c m) fullShare.left (msg x c m))
    (hD : σ.D m = 0) (hA : σ.A a = 1) :
    Goes x K c (sendP s d n (sendQ m) (recvQ m) ha hb hs) σ { σ with D := Function.update σ.D m 1, A := Function.update σ.A a 2 } := fun Q => by
  subst es ed
  unfold st
  rw [bigSep_at (fun m => depart x c m) σ.D m hD, bigSep_update (fun m => depart x c m) σ.D m 1, owed_send c σ.D m hD,
    bigSep_at (fun m => arrive x c m) σ.A a hA, bigSep_update (fun m => arrive x c m) σ.A a 2]
  unfold depart arrive
  rw [e]
  iintro ⟨#Hk, ⟨⟨⟨Hd, Ht, Htm, Hat, -⟩, HD⟩, ⟨⟨Hz, Hs, Hr⟩, HA⟩, HL, HC, ⟨%W, HO⟩⟩, HQ⟩
  iapply (run_send (x := x) (K := K) m n hn ha hb hs fullShare.left (owed c (Function.update σ.D m 1)) W Q) $$ [-]
  isplitr; · iexact Hk
  isplitl [Hs]; · iexact Hs
  isplitl [Hd]; · iexact Hd
  isplitl [Ht]; · iexact Ht
  isplitl [Htm]; · iexact Htm
  isplitl [HO]; · iexact HO
  iintro ⟨Hc, HO⟩
  iapply HQ
  isplitl [Hc Hat HD]
  · isplitl [Hc Hat]
    · isplitl [Hc]; · iexact Hc
      iexact Hat
    iexact HD
  isplitl [Hz Hr HA]
  · isplitl [Hz Hr]
    · isplitl [Hz]; · iexact Hz
      iexact Hr
    iexact HA
  isplitl [HL]; · iexact HL
  isplitl [HC]; · iexact HC
  iexists W; iexact HO

/-- Message `m` has left. -/
theorem goes_left (m : Msg) {s d : Memref sig .tc .hbm (shp m.1) .bf16} {ha : s.view.WordExact} {hb : d.view.WordExact} (σ : St) (hD : σ.D m = 1) :
    Goes x K c (waitP s d (sendQ m) ha hb) σ { σ with D := Function.update σ.D m 2 } := fun Q => by
  unfold st
  rw [bigSep_at (fun m => depart x c m) σ.D m hD, bigSep_update (fun m => depart x c m) σ.D m 2, owed_gone c σ.D m hD]
  unfold known waitP run depart
  simp only [Prog.lift]
  iintro ⟨⟨#Hlev, Hkn⟩, ⟨⟨⟨Hc, Hat⟩, HD⟩, HA, HL, HC, ⟨%W, HO⟩⟩, HQ⟩
  ispecialize Hkn $$ %m
  icases Hkn with ⟨#HI, #HI2, #HIm, #Hr, #Hrm⟩
  iapply (Rounds.wp_wait_rest_token Variants.none EX (Rd x) c.tc none (κ := K c false m)
      (wpE_waitDma2_eq Variants.none c.tc none Set.univ) (Set.mem_univ _) () (O := owed c σ.D) (W := W) (R := 0) (m := 0) (T := ∅)
      (by rw [Nat.zero_add, expect_send]; exact credit_eq d)) $$ [Hc HO Hat]
  · isplitr; · iexact HI
    isplitl [Hc]; · irw [show d.view.dmaCredit = NX m.1 from credit_eq d]; iexact Hc
    isplitl [HO]; · iexact HO
    isplitr; · iapply (mayWait_low c σ.D (sendQ m) (by rw [dec_send]; rfl)); iexact Hlev
    iexact Hat
  iintro ⟨HO, Hat, -, -⟩
  imod (Rounds.cell_close EX (Rd x) (Set.mem_univ (K c false m)) (fun h => h) (R := 0 + 1) (duties_later x (sendCell c m))) $$ [Hat] with Hz
  · isplitr; · iexact HI
    iexact Hat
  rw [wp_ret]; imodintro
  iapply HQ
  isplitl [Hz HD]
  · isplitl [Hz]; · iexact Hz
    iexact HD
  isplitl [HA]; · iexact HA
  isplitl [HL]; · iexact HL
  isplitl [HC]; · iexact HC
  iexists _; iexact HO

/-- Message `m` has come. -/
theorem goes_come (m : Msg) {s d : Memref sig .tc .hbm (shp m.1) .bf16} {ha : s.view.WordExact} {hb : d.view.WordExact} (σ : St) (hA : σ.A m = 0)
    (hl : ∀ m', σ.D m' = 0 → lvR m < lvR m') :
    Goes x K c (waitP s d (recvQ m) ha hb) σ { σ with A := Function.update σ.A m 1 } := fun Q => by
  unfold st
  rw [bigSep_at (fun m => arrive x c m) σ.A m hA, bigSep_update (fun m => arrive x c m) σ.A m 1]
  unfold known waitP run arrive
  simp only [Prog.lift]
  iintro ⟨⟨#Hlev, Hkn⟩, ⟨HD, ⟨⟨Hc, Hat⟩, HA⟩, HL, HC, ⟨%W, HO⟩⟩, HQ⟩
  ispecialize Hkn $$ %m
  icases Hkn with ⟨#HI, #HI2, #HIm, #Hr, #Hrm⟩
  iapply (Rounds.wp_wait_rest_token Variants.none EX (Rd x) c.tc none (κ := K c true m)
      (wpE_waitDma2_eq Variants.none c.tc none Set.univ) (Set.mem_univ _) () (O := owed c σ.D) (W := W) (R := 0) (m := 0) (T := ∅)
      (by rw [Nat.zero_add, expect_recv]; exact credit_eq d)) $$ [Hc HO Hat]
  · isplitr; · iexact HI2
    isplitl [Hc]; · irw [show d.view.dmaCredit = NX m.1 from credit_eq d]; iexact Hc
    isplitl [HO]; · iexact HO
    isplitr; · iapply (mayWait_recv c σ.D m hl); iexact Hlev
    iexact Hat
  iintro ⟨HO, Hat, -, Hpay⟩
  ihave Hs := (Entails.of_eq (rest_recv x c m)) $$ Hpay
  imod (Rounds.cell_close EX (Rd x) (Set.mem_univ (K c true m)) (fun h => h) (R := 0 + 1) (duties_later x (recvCell c m))) $$ [Hat] with Hz
  · isplitr; · iexact HI2
    iexact Hat
  rw [wp_ret]; imodintro
  iapply HQ
  isplitl [HD]; · iexact HD
  isplitl [Hz Hs HA]
  · isplitl [Hz Hs]
    · isplitl [Hz]; · iexact Hz
      unfold landed
      iapply (owns_halves c (dst (mate m c) m) (msg x (mate m c) m)); iexact Hs
    iexact HA
  isplitl [HL]; · iexact HL
  isplitl [HC]; · iexact HC
  iexists _; iexact HO

end Cert.Ga

end
-- ==== Proof.Gather.Conds.lean ====
module

public import proofs.«01_k».proof.Proof.Gather.Rules

/-!
# The gather: conditions and offsets

When each piece is due, and which slabs and devices the computed offsets and numbers are.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

theorem begin_iff : ∀ t : Fin grid0.N, k0_cond1 (grid0.coords t) = 1#1 ↔ t.val = 0 := by decide
theorem take1_iff : ∀ t : Fin grid0.N, k0_cond3 (grid0.coords t) = 1#1 ↔ t.val = 6 := by decide
theorem take2_iff : ∀ t : Fin grid0.N, k0_cond5 (grid0.coords t) = 1#1 ↔ t.val = 14 := by decide
theorem take3_iff : ∀ t : Fin grid0.N, k0_cond7 (grid0.coords t) = 1#1 ↔ t.val = 22 := by decide
theorem take4_iff : ∀ t : Fin grid0.N, k0_cond9 (grid0.coords t) = 1#1 ↔ t.val = 30 := by decide
theorem take5_iff : ∀ t : Fin grid0.N, k0_cond11 (grid0.coords t) = 1#1 ↔ t.val = 38 := by decide
theorem take6_iff : ∀ t : Fin grid0.N, k0_cond13 (grid0.coords t) = 1#1 ↔ t.val = 46 := by decide
theorem take7_iff : ∀ t : Fin grid0.N, k0_cond15 (grid0.coords t) = 1#1 ↔ t.val = 54 := by decide
theorem end_iff : ∀ t : Fin grid0.N, k0_cond17 (grid0.coords t) = 1#1 ↔ t.val = 63 := by decide
theorem wait0_iff : ∀ t : Fin grid0.N, condW (grid0.coords t) 0#32 = 1#1 ↔ t.val = 0 := by decide
theorem wait1_iff : ∀ t : Fin grid0.N, condW (grid0.coords t) 1#32 = 1#1 ↔ t.val = 8 := by decide
theorem wait2_iff : ∀ t : Fin grid0.N, condW (grid0.coords t) 2#32 = 1#1 ↔ t.val = 16 := by decide
theorem wait3_iff : ∀ t : Fin grid0.N, condW (grid0.coords t) 3#32 = 1#1 ↔ t.val = 24 := by decide
theorem wait4_iff : ∀ t : Fin grid0.N, condW (grid0.coords t) 4#32 = 1#1 ↔ t.val = 32 := by decide
theorem wait5_iff : ∀ t : Fin grid0.N, condW (grid0.coords t) 5#32 = 1#1 ↔ t.val = 40 := by decide
theorem wait6_iff : ∀ t : Fin grid0.N, condW (grid0.coords t) 6#32 = 1#1 ↔ t.val = 48 := by decide
theorem wait7_iff : ∀ t : Fin grid0.N, condW (grid0.coords t) 7#32 = 1#1 ↔ t.val = 56 := by decide

theorem off2 (d : Dev nD) : k0_off2 d = ![d.val, 0, 0] := by revert d; decide +kernel
theorem off3 (d : Dev nD) : k0_off3 d = ![d.val, 0, 0] := by revert d; decide +kernel
theorem off4 (d : Dev nD) : k0_off4 d = ![(blk (mate (false, 0) d) 0).val, 0, 0] := by revert d; decide +kernel
theorem off5 (d : Dev nD) : k0_off5 d = ![(blk (mate (false, 1) d) 1).val, 0, 0] := by revert d; decide +kernel
theorem off6 (d : Dev nD) : k0_off6 d = ![(blk (mate (false, 4) d) 4).val, 0, 0] := by revert d; decide +kernel
theorem off7 (d : Dev nD) : k0_off7 d = ![(blk (mate (false, 2) d) 2).val, 0, 0] := by revert d; decide +kernel
theorem off8 (d : Dev nD) : k0_off8 d = ![(blk (mate (false, 5) d) 5).val, 0, 0] := by revert d; decide +kernel
theorem off9 (d : Dev nD) : k0_off9 d = ![(blk (mate (false, 3) d) 3).val, 0, 0] := by revert d; decide +kernel
theorem off10 (d : Dev nD) : k0_off10 d = ![(blk (mate (false, 6) d) 6).val, 0, 0] := by revert d; decide +kernel
theorem dev1 (d : Dev nD) : k0_dev1 d = (mate (false, 0) d).val := by revert d; decide +kernel
theorem dev2 (d : Dev nD) : k0_dev2 d = (mate (false, 1) d).val := by revert d; decide +kernel
theorem dev3 (d : Dev nD) : k0_dev3 d = (mate (false, 2) d).val := by revert d; decide +kernel
theorem dev4 (d : Dev nD) : k0_dev4 d = (mate (false, 3) d).val := by revert d; decide +kernel
theorem dev5 (d : Dev nD) : k0_dev5 d = (mate (true, 0) d).val := by revert d; decide +kernel
theorem dev6 (d : Dev nD) : k0_dev6 d = (mate (true, 1) d).val := by revert d; decide +kernel
theorem dev7 (d : Dev nD) : k0_dev7 d = (mate (true, 2) d).val := by revert d; decide +kernel
theorem dev8 (d : Dev nD) : k0_dev8 d = (mate (true, 3) d).val := by revert d; decide +kernel
theorem dev9 (d : Dev nD) : k0_dev9 d = (mate (true, 4) d).val := by revert d; decide +kernel
theorem dev10 (d : Dev nD) : k0_dev10 d = (mate (true, 5) d).val := by revert d; decide +kernel
theorem dev11 (d : Dev nD) : k0_dev11 d = (mate (true, 6) d).val := by revert d; decide +kernel
theorem dev12 (d : Dev nD) : k0_dev12 d = (mate (false, 4) d).val := by revert d; decide +kernel
theorem dev13 (d : Dev nD) : k0_dev13 d = (mate (false, 5) d).val := by revert d; decide +kernel
theorem dev14 (d : Dev nD) : k0_dev14 d = (mate (false, 6) d).val := by revert d; decide +kernel

end Cert.Ga

end
-- ==== Proof.Gather.Loads.lean ====
module

public import proofs.«01_k».proof.Proof.Gather.State

/-!
# The gather: copies on the device

What beginning a copy on the device and waiting for one does to the state.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

variable {x : Data F} {K : Names} {c : Dev nD}

/-- A copy on the device begins. -/
theorem run_here {sp' : Space} {s : Shape} (a : Memref sig .tc .hbm s .bf16) (b : Memref sig .tc sp' s .bf16) (z : DmaSem sig)
    (ha : a.view.WordExact) (hb : b.view.WordExact) (ht : DmaTarget.Typed (nD := nD) (τ := τ) (p := .tc) Space.hbm (SemLoc.dma z) (.here b))
    (h0 : 0 < RefSig.tileCredit s .bf16) (q : PosShare TreeShare) (y : s.Idx → Elt F .bf16) (Q : PUnit → sProp 𝕄) :
    iprop(owns c.tc a q y ∗ (∃ w, owns c.tc b fullShare w) ∗ semVal (c.tc, SemLoc.dma z) 0 ∗ (flying c a b q y z -∗ Q ⟨⟩))
    ⊢ run c (hereP b a z ha hb ht) Q := by
  unfold owns hereP run flying
  simp only [Prog.lift]
  iintro ⟨⟨%f, %hf, Hf⟩, ⟨%w, %g, -, Hg⟩, Hv, HQ⟩
  iapply (Transfers.wp_dmaLocal countersEmb Variants.none c.tc none () (RefSig.tileCredit s .bf16) (show b.view.amount (SemLoc.dma z) = RefSig.tileCredit s .bf16 from credit_eq b) h0 (subset_refl _)) $$ [Hf Hg Hv]
  · isplitl [Hf]; · iexact Hf
    isplitl [Hg]; · iexact Hg
    iexact Hv
  iintro HF
  rw [wp_ret]; imodintro
  iapply HQ
  iexists f, _
  isplitr; swap; · iexact HF
  ipureintro
  exact ⟨hf, (View.read_write_univ _ _).trans hf⟩

/-- A copy on the device ends. -/
theorem run_ended {sp' sp1 sp2 : Space} {s : Shape} (a : Memref sig .tc .hbm s .bf16) (b : Memref sig .tc sp' s .bf16) (z : DmaSem sig)
    (a' : Memref sig .tc sp1 s .bf16) (b' : Memref sig .tc sp2 s .bf16) (ha : a'.view.WordExact) (hb : b'.view.WordExact)
    (q : PosShare TreeShare) (y : s.Idx → Elt F .bf16) (D : Msg → Fin 3) (hz : dec z = none) (W : Waits sig Unit) (Q : PUnit → sProp 𝕄) :
    iprop(known x K c ∗ flying c a b q y z ∗ owes c.tc (owed c D) W
      ∗ (iprop(owns c.tc b fullShare y ∗ owns c.tc a q y ∗ semVal (c.tc, SemLoc.dma z) 0 ∗ ∃ W, owes c.tc (owed c D) W) -∗ Q ⟨⟩))
    ⊢ run c (waitP a' b' z ha hb) Q := by
  unfold known waitP run flying owns
  simp only [Prog.lift]
  iintro ⟨⟨#Hlev, -⟩, ⟨%f, %g, %hfg, HF⟩, HO, HQ⟩
  iapply (Transfers.wp_waitLocalO countersEmb Variants.none c.tc none () (N := RefSig.tileCredit s .bf16) (credit_eq b')) $$ [HF HO]
  · isplitl [HF]; · iexact HF
    isplitl [HO]; · iexact HO
    iapply (mayWait_low c D z (by rw [hz]; rfl)); iexact Hlev
  iintro ⟨⟨Hg, Hf⟩, Hv, HO⟩
  rw [wp_ret]; imodintro
  iapply HQ
  isplitl [Hg]
  · iexists g; isplitr; swap; · iexact Hg
    ipureintro; exact hfg.2
  isplitl [Hf]
  · iexists f; isplitr; swap; · iexact Hf
    ipureintro; exact hfg.1
  isplitl [Hv]; · iexact Hv
  iexists _; iexact HO

theorem pos_of (b : Bool) : 0 < RefSig.tileCredit (shp b) .bf16 := NX_pos b

/-- The device's own weights begin to be copied to their slab, -/
theorem goes_own (b : Bool) {s d : Memref sig .tc .hbm (shp b) .bf16} {ha : s.view.WordExact} {hb : d.view.WordExact}
    {ht : DmaTarget.Typed (nD := nD) (τ := τ) (p := .tc) Space.hbm (SemLoc.dma (ownQ b)) (.here d)} (es : s = mineM b) (ed : d = slabM c b) (σ : St) (hC : σ.C b = 0) :
    Goes x K c (hereP d s (ownQ b) ha hb ht) σ { σ with C := Function.update σ.C b 1 } := fun Q => by
  subst es ed
  unfold st
  rw [bigSep_at (fun b => copy x c b) σ.C b hC, bigSep_update (fun b => copy x c b) σ.C b 1]
  unfold copy
  iintro ⟨-, ⟨HD, HA, HL, ⟨⟨Hd, Hs, Hv⟩, HC⟩, HO⟩, HQ⟩
  iapply (run_here (mineM b) (slabM c b) (ownQ b) ha hb ht (pos_of b) (part 7) (mineV x c b) Q) $$ [-]
  isplitl [Hs]; · iexact Hs
  isplitl [Hd]; · iexact Hd
  isplitl [Hv]; · iexact Hv
  iintro HF
  iapply HQ
  isplitl [HD]; · iexact HD
  isplitl [HA]; · iexact HA
  isplitl [HL]; · iexact HL
  isplitr [HO]; swap; · iexact HO
  isplitl [HF]; · iexact HF
  iexact HC

/-- and have been. -/
theorem goes_owned (b : Bool) {s d : Memref sig .tc .hbm (shp b) .bf16} {ha : s.view.WordExact} {hb : d.view.WordExact} (σ : St) (hC : σ.C b = 1) :
    Goes x K c (waitP s d (ownQ b) ha hb) σ { σ with C := Function.update σ.C b 2 } := fun Q => by
  unfold st
  rw [bigSep_at (fun b => copy x c b) σ.C b hC, bigSep_update (fun b => copy x c b) σ.C b 2]
  unfold copy
  iintro ⟨#Hk, ⟨HD, HA, HL, ⟨HF, HC⟩, ⟨%W, HO⟩⟩, HQ⟩
  iapply (run_ended (x := x) (K := K) (mineM b) (slabM c b) (ownQ b) s d ha hb (part 7) (mineV x c b) σ.D (dec_own b) W Q) $$ [-]
  isplitr; · iexact Hk
  isplitl [HF]; · iexact HF
  isplitl [HO]; · iexact HO
  iintro ⟨Hd, -, Hv, HO⟩
  iapply HQ
  isplitl [HD]; · iexact HD
  isplitl [HA]; · iexact HA
  isplitl [HL]; · iexact HL
  isplitr [HO]; swap; · iexact HO
  isplitl [Hd Hv]
  · isplitl [Hd]; · iexact Hd
    iexact Hv
  iexact HC

/-- The device's own columns begin to be loaded, -/
theorem goes_load0 {s : Memref sig .tc .hbm S2048x1024 .bf16} {d : Memref sig .tc .vmem S2048x1024 .bf16} {ha : s.view.WordExact} {hb : d.view.WordExact}
    {ht : DmaTarget.Typed (nD := nD) (τ := τ) (p := .tc) Space.hbm (SemLoc.dma (slotQ 0)) (.here d)} (es : s = loadM c 0) (ed : d = slotM (par 0)) (σ : St) (hL : σ.L 0 = 4) :
    Goes x K c (hereP d s (slotQ 0) ha hb ht) σ { σ with L := Function.update σ.L 0 1 } := fun Q => by
  subst es ed
  unfold st
  rw [bigSep_at (fun k => load x c k) σ.L 0 hL, bigSep_update (fun k => load x c k) σ.L 0 1]
  unfold load idleSlot from_
  rw [if_pos rfl]
  iintro ⟨-, ⟨HD, HA, ⟨⟨⟨Hd, Hv⟩, Hs⟩, HL⟩, HC, HO⟩, HQ⟩
  iapply (run_here (loadM c 0) (slotM (par 0)) (slotQ 0) ha hb ht (pos_of false) (loadS 0) (x.w (gm c 0)) Q) $$ [-]
  isplitl [Hs]; · iexact Hs
  isplitl [Hd]; · iexact Hd
  isplitl [Hv]; · iexact Hv
  iintro HF
  iapply HQ
  isplitl [HD]; · iexact HD
  isplitl [HA]; · iexact HA
  isplitr [HC HO]; swap
  · isplitl [HC]; · iexact HC
    iexact HO
  isplitl [HF]; · iexact HF
  iexact HL

/-- and columns that came; -/
theorem goes_load (r : Fin 7) (p : Fin 2) (hp : par r.succ = p) {s : Memref sig .tc .hbm S2048x1024 .bf16} {d : Memref sig .tc .vmem S2048x1024 .bf16} {ha : s.view.WordExact} {hb : d.view.WordExact}
    {ht : DmaTarget.Typed (nD := nD) (τ := τ) (p := .tc) Space.hbm (SemLoc.dma (slotQ p)) (.here d)} (es : s = loadM c r.succ) (ed : d = slotM p)
    (σ : St) (e : (owns c.tc (dst (mate (false, la r) c) (false, la r)) fullShare.right (msg x (mate (false, la r) c) (false, la r)) : sProp 𝕄) = from_ x c r.succ)
    (hA : σ.A (false, la r) = 1 ∨ σ.A (false, la r) = 2) (hL : σ.L r.succ = 4) :
    Goes x K c (hereP d s (slotQ p) ha hb ht) σ { σ with A := Function.update σ.A (false, la r) 3, L := Function.update σ.L r.succ 1 } := fun Q => by
  subst hp es ed
  unfold st
  have h2 : (arrive x c (false, la r) (σ.A (false, la r)) : sProp 𝕄) ⊢ arrive x c (false, la r) 2 := by
    rcases hA with h | h <;> rw [h]
    · unfold arrive; iintro ⟨Hz, -, Hr⟩
      isplitl [Hz]; · iexact Hz
      iexact Hr
  rw [bigSep_at (fun k => load x c k) σ.L r.succ hL, bigSep_update (fun k => load x c k) σ.L r.succ 1,
    bigSep_at (fun m => arrive x c m) σ.A (false, la r) rfl, bigSep_update (fun m => arrive x c m) σ.A (false, la r) 3]
  have h3 : (arrive x c (false, la r) 2 : sProp 𝕄) ⊢ iprop(semVal (recvCell c (false, la r)) 0 ∗ from_ x c r.succ) := by
    rw [← e]; exact Entails.refl _
  have h4 : (arrive x c (false, la r) 3 : sProp 𝕄) = semVal (recvCell c (false, la r)) 0 := rfl
  rw [h4]
  iintro ⟨-, ⟨HD, ⟨Ha, HA⟩, ⟨Hl, HL⟩, HC, HO⟩, HQ⟩
  ihave Ha := h2 $$ Ha
  ihave Ha := h3 $$ Ha
  icases Ha with ⟨Hz, Hs⟩
  unfold load idleSlot from_
  icases Hl with ⟨⟨Hd, Hv⟩, -⟩
  iapply (run_here (loadM c r.succ) (slotM (par r.succ)) (slotQ (par r.succ)) ha hb ht (pos_of false) fullShare.right (x.w (gm c r.succ)) Q) $$ [-]
  isplitl [Hs]; · iexact Hs
  isplitl [Hd]; · iexact Hd
  isplitl [Hv]; · iexact Hv
  iintro HF
  iapply HQ
  isplitl [HD]; · iexact HD
  isplitl [Hz HA]
  · isplitl [Hz]; · iexact Hz
    iexact HA
  isplitr [HC HO]; swap
  · isplitl [HC]; · iexact HC
    iexact HO
  isplitl [HF]; · iexact HF
  iexact HL

/-- load `k` has ended. -/
theorem goes_loaded (k : Fin 8) (p : Fin 2) (hp : par k = p) {sp1 sp2 : Space} {s : Memref sig .tc sp1 S2048x1024 .bf16} {d : Memref sig .tc sp2 S2048x1024 .bf16} {ha : s.view.WordExact} {hb : d.view.WordExact} (σ : St)
    (hL : σ.L k = 1) : Goes x K c (waitP s d (slotQ p) ha hb) σ { σ with L := Function.update σ.L k 2 } := fun Q => by
  subst hp
  unfold st
  rw [bigSep_at (fun k => load x c k) σ.L k hL, bigSep_update (fun k => load x c k) σ.L k 2]
  unfold load from_
  iintro ⟨#Hk, ⟨HD, HA, ⟨HF, HL⟩, HC, ⟨%W, HO⟩⟩, HQ⟩
  iapply (run_ended (x := x) (K := K) (loadM c k) (slotM (par k)) (slotQ (par k)) s d ha hb (loadS k) (x.w (gm c k)) σ.D (dec_slot _) W Q) $$ [-]
  isplitr; · iexact Hk
  isplitl [HF]; · iexact HF
  isplitl [HO]; · iexact HO
  iintro ⟨Hd, Hs, Hv, HO⟩
  iapply HQ
  isplitl [HD]; · iexact HD
  isplitl [HA]; · iexact HA
  isplitr [HC HO]; swap
  · isplitl [HC]; · iexact HC
    iexact HO
  isplitr [HL]; swap; · iexact HL
  isplitl [Hd]; · iexact Hd
  isplitl [Hv]; · iexact Hv
  iexact Hs

/-- A slot is given from a load that is done with to the one after next. -/
theorem turn (k l : Fin 8) (hkl : k ≠ l) (hp : par k = par l) (h0 : l ≠ 0) (σ : St) (hk : σ.L k = 2) (hl : σ.L l = 0) :
    (st x c σ : sProp 𝕄) ⊢ st x c { σ with L := Function.update (Function.update σ.L k 3) l 4 } := by
  have hl' : Function.update σ.L k 3 l = 0 := by rw [Function.update_of_ne (Ne.symm hkl)]; exact hl
  have h1 : (bigSep Finset.univ (fun i => load x c i (σ.L i)) : sProp 𝕄) ⊢ bigSep Finset.univ (fun i => load x c i (Function.update (Function.update σ.L k 3) l 4 i)) := by
    have e1 : (bigSep Finset.univ (fun i => load x c i (Function.update σ.L k 3 i)) : sProp 𝕄)
        = bigSep (Finset.univ.erase l) (fun i => load x c i (Function.update σ.L k 3 i)) := by
      rw [bigSep_at (fun i => load x c i) (Function.update σ.L k 3) l hl']
      exact emp_sep_eq _
    have e2 := bigSep_update (fun i => load x c i) σ.L k 3
    have e3 := bigSep_update (fun i => load x c i) (Function.update σ.L k 3) l 4
    rw [e3, ← e1, e2, bigSep_at (fun i => load x c i) σ.L k hk]
    unfold load idleSlot
    rw [hp]
    iintro ⟨⟨Hd, Hv, Hs⟩, HL⟩
    isplitl [Hd Hv]
    · isplitl [Hd Hv]
      · isplitl [Hd]; · iexists _; iexact Hd
        iexact Hv
      rw [if_neg h0]; iempintro
    isplitl [Hs]; · iexact Hs
    iexact HL
  unfold st
  iintro ⟨HD, HA, HL, HC, HO⟩
  isplitl [HD]; · iexact HD
  isplitl [HA]; · iexact HA
  isplitl [HL]; · iapply h1; iexact HL
  isplitl [HC]; · iexact HC
  iexact HO

end Cert.Ga

end
-- ==== Proof.Gather.Stages.lean ====
module

public import proofs.«01_k».proof.Proof.Gather.State

/-!
# The gather: the stages at each grid point

How the pieces of the exchange take the stages from grid point to grid point.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

namespace St
variable (σ : St)

/-- The steps that the stages go by. -/
def send (m : Msg) : St := { σ with D := Function.update σ.D m 1 }
def pass (m a : Msg) : St := { σ with D := Function.update σ.D m 1, A := Function.update σ.A a 2 }
def left (m : Msg) : St := { σ with D := Function.update σ.D m 2 }
def come (m : Msg) : St := { σ with A := Function.update σ.A m 1 }
def own (b : Bool) : St := { σ with C := Function.update σ.C b 1 }
def owned (b : Bool) : St := { σ with C := Function.update σ.C b 2 }
def load0 : St := { σ with L := Function.update σ.L 0 1 }
def load (r : Fin 7) : St := { σ with A := Function.update σ.A (false, la r) 3, L := Function.update σ.L r.succ 1 }
def loaded (k : Fin 8) : St := { σ with L := Function.update σ.L k 2 }
def turn (k l : Fin 8) : St := { σ with L := Function.update (Function.update σ.L k 3) l 4 }
end St

/-- Before grid point `n`. -/
def before (n : ℕ) : St where
  D m := if n = 0 ∨ (m.1 = false ∧ n ≤ (![0, 0, 0, 0, 14, 30, 46] : Fin 7 → ℕ) m.2) then 0 else if n ≤ 63 then 1 else 2
  A m := match m with
    | (false, j) => if n ≤ (![6, 14, 30, 46, 22, 38, 54] : Fin 7 → ℕ) j then 0 else 3
    | (true, _) => if n ≤ 63 then 0 else 1
  L k := if k = 0 then (if n = 0 then 4 else if n ≤ 14 then 2 else 3)
    else if n ≤ 8 * k.val - 2 then (if k = 1 then 4 else 0) else if n ≤ 8 * k.val then 1 else if n ≤ 8 * k.val + 14 ∨ 6 ≤ k.val then 2 else 3
  C _ := if n = 0 then 0 else if n ≤ 63 then 1 else 2

/-- What the first grid point begins. -/
def started (σ : St) : St :=
  ((((((((((((((σ.own false).own true).send (false, 0)).send (false, 1)).send (false, 2)).send (false, 3)).send (true, 0)).send (true, 1)).send (true, 2)).send (true, 3)).send
    (true, 4)).send (true, 5)).send (true, 6)).load0)
/-- What comes, is sent on, and is loaded. -/
def taken (σ : St) : ℕ → St
  | 1 => (σ.come (false, 0)).load 0
  | 2 => (((σ.come (false, 1)).pass (false, 4) (false, 1)).turn 0 2).load 1
  | 3 => ((σ.come (false, 4)).turn 1 3).load 2
  | 4 => (((σ.come (false, 2)).pass (false, 5) (false, 2)).turn 2 4).load 3
  | 5 => ((σ.come (false, 5)).turn 3 5).load 4
  | 6 => (((σ.come (false, 3)).pass (false, 6) (false, 3)).turn 4 6).load 5
  | 7 => ((σ.come (false, 6)).turn 5 7).load 6
  | _ => σ

/-- When each piece of the exchange is due, -/
def due : ℕ → ℕ
  | 0 => 0 | 1 => 0 | 2 => 6 | 3 => 8 | 4 => 14 | 5 => 16 | 6 => 22 | 7 => 24 | 8 => 30 | 9 => 32 | 10 => 38 | 11 => 40 | 12 => 46 | 13 => 48 | 14 => 54 | 15 => 56 | _ => 64
/-- and what it does. -/
def act (σ : St) : ℕ → St
  | 0 => started σ
  | 1 => σ.loaded 0 | 2 => taken σ 1 | 3 => σ.loaded 1 | 4 => taken σ 2 | 5 => σ.loaded 2 | 6 => taken σ 3 | 7 => σ.loaded 3 | 8 => taken σ 4
  | 9 => σ.loaded 4 | 10 => taken σ 5 | 11 => σ.loaded 5 | 12 => taken σ 6 | 13 => σ.loaded 6 | 14 => taken σ 7 | 15 => σ.loaded 7
  | _ => σ
/-- At grid point `t`, after `k` pieces. -/
def stage (t : ℕ) : ℕ → St
  | 0 => before t
  | k + 1 => if t = due k then act (stage t k) k else stage t k

theorem St.ext {σ τ : St} (hD : ∀ m, σ.D m = τ.D m) (hA : ∀ m, σ.A m = τ.A m) (hL : ∀ k, σ.L k = τ.L k) (hC : ∀ b, σ.C b = τ.C b) : σ = τ := by
  cases σ; cases τ
  congr
  · exact funext hD
  · exact funext hA
  · exact funext hL
  · exact funext hC

theorem stage_last_D : ∀ t : Fin grid0.N, t.val ≠ 63 → ∀ m, (stage t.val 16).D m = (before (t.val + 1)).D m := by decide +kernel
theorem stage_last_A : ∀ t : Fin grid0.N, t.val ≠ 63 → ∀ m, (stage t.val 16).A m = (before (t.val + 1)).A m := by decide +kernel
theorem stage_last_L : ∀ t : Fin grid0.N, t.val ≠ 63 → ∀ k, (stage t.val 16).L k = (before (t.val + 1)).L k := by decide +kernel
theorem stage_last_C : ∀ t : Fin grid0.N, t.val ≠ 63 → ∀ b, (stage t.val 16).C b = (before (t.val + 1)).C b := by decide +kernel
/-- The pieces of a grid point take the stages to those before the next. -/
theorem stage_last (t : Fin grid0.N) (h : t.val ≠ 63) : stage t.val 16 = before (t.val + 1) :=
  St.ext (stage_last_D t h) (stage_last_A t h) (stage_last_L t h) (stage_last_C t h)
/-- The columns that a grid point multiplies with are loaded. -/
theorem stage_load : ∀ t : Fin grid0.N, (stage t.val 16).L ⟨t.val / 8, by have := t.isLt; change t.val < 64 at this; omega⟩ = 2 := by decide +kernel

/-- After the last grid point. -/
def finished (σ : St) : St :=
  ((((((((((((((((((((((σ.left (false, 0)).left (false, 1)).left (false, 2)).left (false, 3)).left (false, 4)).left (false, 5)).left (false, 6)).left (true, 0)).come (true, 0)).left (true, 1)).come
    (true, 1)).left (true, 2)).come (true, 2)).left (true, 3)).come (true, 3)).left (true, 4)).come (true, 4)).left (true, 5)).come (true, 5)).left (true, 6)).come (true, 6)).owned false).owned true
theorem stage_end : finished (stage 63 16) = before 64 :=
  St.ext (by decide +kernel) (by decide +kernel) (by decide +kernel) (by decide +kernel)

end Cert.Ga

end
-- ==== Proof.Gather.Events.lean ====
module

public import proofs.«01_k».proof.Proof.Gather.Conds
public import proofs.«01_k».proof.Proof.Gather.Loads
public import proofs.«01_k».proof.Proof.Gather.Stages

/-!
# The gather: what happens at each grid point

Each piece of the exchange takes the stages on by what it is due to do.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

variable {x : Data F} {K : Names} {c : Dev nD}

theorem Goes.to {p : Pr F PUnit} {σ σ₁ σ₂ : St} (h : Goes x K c p σ σ₁) (e : σ₁ = σ₂) : Goes x K c p σ σ₂ := e ▸ h
/-- A piece that is due at one grid point. -/
theorem Goes.piece {b : Prop} [Decidable b] {p : b → Pr F PUnit} {t k n : ℕ} (hn : due k = n) (hb : b ↔ t = n)
    (h : ∀ hb, Goes x K c (p hb) (stage n k) (act (stage n k) k)) : Goes x K c (if hb : b then p hb else pure ⟨⟩) (stage t k) (stage t (k + 1)) := by
  subst hn
  by_cases ht : t = due k
  · subst ht
    rw [dif_pos (hb.mpr rfl), show stage (due k) (k + 1) = act (stage (due k) k) k from if_pos rfl]; exact h _
  · rw [dif_neg fun h' => ht (hb.mp h'), show stage t (k + 1) = stage t k from if_neg ht]; exact Goes.nil _
theorem Goes.piece' {b : Prop} [Decidable b] {p : Pr F PUnit} {t k n : ℕ} (hn : due k = n) (hb : b ↔ t = n)
    (h : Goes x K c p (stage n k) (act (stage n k) k)) : Goes x K c (if b then p else pure ⟨⟩) (stage t k) (stage t (k + 1)) :=
  Goes.piece (p := fun _ => p) hn hb fun _ => h

/-- What a load loads is what came. -/
theorem load_from (c : Dev nD) (r : Fin 7) :
    (owns c.tc (dst (mate (false, la r) c) (false, la r)) fullShare.right (msg x (mate (false, la r) c) (false, la r)) : sProp 𝕄) = from_ x c r.succ := rfl

variable (i : grid0.Coords)

/-- The first grid point copies, sends and loads the device's own weights. -/
theorem goes_begin (h : k0_cond1 i = 1#1) : Goes x K c (begin i c h) (stage 0 0) (started (stage 0 0)) := by
  unfold begin
  refine Goes.seq (goes_own false rfl (wfOff_eq (off2 c)) _ (by decide +kernel)) ?_
  refine Goes.seq (goes_own true rfl (wofOff_eq (off3 c)) _ (by decide +kernel)) ?_
  refine Goes.seq (goes_send (false, 0) rfl (wfOff_eq (off2 c)) (Fin.ext (dev1 c)) _ rfl (by decide +kernel)) ?_
  refine Goes.seq (goes_send (false, 1) rfl (wfOff_eq (off2 c)) (Fin.ext (dev2 c)) _ rfl (by decide +kernel)) ?_
  refine Goes.seq (goes_send (false, 2) rfl (wfOff_eq (off2 c)) (Fin.ext (dev3 c)) _ rfl (by decide +kernel)) ?_
  refine Goes.seq (goes_send (false, 3) rfl (wfOff_eq (off2 c)) (Fin.ext (dev4 c)) _ rfl (by decide +kernel)) ?_
  refine Goes.seq (goes_send (true, 0) rfl (wofOff_eq (off3 c)) (Fin.ext (dev5 c)) _ rfl (by decide +kernel)) ?_
  refine Goes.seq (goes_send (true, 1) rfl (wofOff_eq (off3 c)) (Fin.ext (dev6 c)) _ rfl (by decide +kernel)) ?_
  refine Goes.seq (goes_send (true, 2) rfl (wofOff_eq (off3 c)) (Fin.ext (dev7 c)) _ rfl (by decide +kernel)) ?_
  refine Goes.seq (goes_send (true, 3) rfl (wofOff_eq (off3 c)) (Fin.ext (dev8 c)) _ rfl (by decide +kernel)) ?_
  refine Goes.seq (goes_send (true, 4) rfl (wofOff_eq (off3 c)) (Fin.ext (dev9 c)) _ rfl (by decide +kernel)) ?_
  refine Goes.seq (goes_send (true, 5) rfl (wofOff_eq (off3 c)) (Fin.ext (dev10 c)) _ rfl (by decide +kernel)) ?_
  refine Goes.seq (goes_send (true, 6) rfl (wofOff_eq (off3 c)) (Fin.ext (dev11 c)) _ rfl (by decide +kernel)) ?_
  exact goes_load0 rfl rfl _ (by decide +kernel)

theorem goes_take1 (h : k0_cond3 i = 1#1) : Goes x K c (take1 i c h) (stage 6 2) (taken (stage 6 2) 1) := by
  unfold take1
  refine Goes.seq (goes_come (false, 0) _ (by decide +kernel) (by decide +kernel)) ?_
  exact goes_load 0 1 rfl (wfOff_eq (off4 c)) rfl _ (load_from c 0) (Or.inl (by decide +kernel)) (by decide +kernel)
theorem goes_take2 (h : k0_cond5 i = 1#1) : Goes x K c (take2 i c h) (stage 14 4) (taken (stage 14 4) 2) := by
  unfold take2
  refine Goes.seq (goes_come (false, 1) _ (by decide +kernel) (by decide +kernel)) ?_
  refine Goes.seq (goes_pass (false, 4) (false, 1) (wfOff_eq (off5 c)) (wfOff_eq (off5 c)) (Fin.ext (dev12 c)) _ (rfl) (by decide +kernel) (by decide +kernel)) ?_
  exact Goes.from (turn 0 2 (by decide) rfl (by decide) _ (by decide +kernel) (by decide +kernel)) (goes_load 1 0 rfl (wfOff_eq (off5 c)) rfl _ (load_from c 1) (Or.inr (by decide +kernel)) (by decide +kernel))
theorem goes_take3 (h : k0_cond7 i = 1#1) : Goes x K c (take3 i c h) (stage 22 6) (taken (stage 22 6) 3) := by
  unfold take3
  refine Goes.seq (goes_come (false, 4) _ (by decide +kernel) (by decide +kernel)) ?_
  exact Goes.from (turn 1 3 (by decide) rfl (by decide) _ (by decide +kernel) (by decide +kernel)) (goes_load 2 1 rfl (wfOff_eq (off6 c)) rfl _ (load_from c 2) (Or.inl (by decide +kernel)) (by decide +kernel))
theorem goes_take4 (h : k0_cond9 i = 1#1) : Goes x K c (take4 i c h) (stage 30 8) (taken (stage 30 8) 4) := by
  unfold take4
  refine Goes.seq (goes_come (false, 2) _ (by decide +kernel) (by decide +kernel)) ?_
  refine Goes.seq (goes_pass (false, 5) (false, 2) (wfOff_eq (off7 c)) (wfOff_eq (off7 c)) (Fin.ext (dev13 c)) _ (rfl) (by decide +kernel) (by decide +kernel)) ?_
  exact Goes.from (turn 2 4 (by decide) rfl (by decide) _ (by decide +kernel) (by decide +kernel)) (goes_load 3 0 rfl (wfOff_eq (off7 c)) rfl _ (load_from c 3) (Or.inr (by decide +kernel)) (by decide +kernel))
theorem goes_take5 (h : k0_cond11 i = 1#1) : Goes x K c (take5 i c h) (stage 38 10) (taken (stage 38 10) 5) := by
  unfold take5
  refine Goes.seq (goes_come (false, 5) _ (by decide +kernel) (by decide +kernel)) ?_
  exact Goes.from (turn 3 5 (by decide) rfl (by decide) _ (by decide +kernel) (by decide +kernel)) (goes_load 4 1 rfl (wfOff_eq (off8 c)) rfl _ (load_from c 4) (Or.inl (by decide +kernel)) (by decide +kernel))
theorem goes_take6 (h : k0_cond13 i = 1#1) : Goes x K c (take6 i c h) (stage 46 12) (taken (stage 46 12) 6) := by
  unfold take6
  refine Goes.seq (goes_come (false, 3) _ (by decide +kernel) (by decide +kernel)) ?_
  refine Goes.seq (goes_pass (false, 6) (false, 3) (wfOff_eq (off9 c)) (wfOff_eq (off9 c)) (Fin.ext (dev14 c)) _ (rfl) (by decide +kernel) (by decide +kernel)) ?_
  exact Goes.from (turn 4 6 (by decide) rfl (by decide) _ (by decide +kernel) (by decide +kernel)) (goes_load 5 0 rfl (wfOff_eq (off9 c)) rfl _ (load_from c 5) (Or.inr (by decide +kernel)) (by decide +kernel))
theorem goes_take7 (h : k0_cond15 i = 1#1) : Goes x K c (take7 i c h) (stage 54 14) (taken (stage 54 14) 7) := by
  unfold take7
  refine Goes.seq (goes_come (false, 6) _ (by decide +kernel) (by decide +kernel)) ?_
  exact Goes.from (turn 5 7 (by decide) rfl (by decide) _ (by decide +kernel) (by decide +kernel)) (goes_load 6 1 rfl (wfOff_eq (off10 c)) rfl _ (load_from c 6) (Or.inl (by decide +kernel)) (by decide +kernel))

/-- What is due of the exchange at grid point `t`. -/
theorem goes_exch (t : Fin grid0.N) : Goes x K c (exch (grid0.coords t) c) (before t.val) (stage t.val 16) := by
  unfold exch
  refine Goes.seq (Goes.piece (k := 0) rfl (begin_iff t) fun h => by exact goes_begin _ h) ?_
  refine Goes.seq (Goes.piece' (k := 1) rfl (wait0_iff t) (by exact goes_loaded 0 0 rfl _ (by decide +kernel))) ?_
  refine Goes.seq (Goes.piece (k := 2) rfl (take1_iff t) fun h => by exact goes_take1 _ h) ?_
  refine Goes.seq (Goes.piece' (k := 3) rfl (wait1_iff t) (by exact goes_loaded 1 1 rfl _ (by decide +kernel))) ?_
  refine Goes.seq (Goes.piece (k := 4) rfl (take2_iff t) fun h => by exact goes_take2 _ h) ?_
  refine Goes.seq (Goes.piece' (k := 5) rfl (wait2_iff t) (by exact goes_loaded 2 0 rfl _ (by decide +kernel))) ?_
  refine Goes.seq (Goes.piece (k := 6) rfl (take3_iff t) fun h => by exact goes_take3 _ h) ?_
  refine Goes.seq (Goes.piece' (k := 7) rfl (wait3_iff t) (by exact goes_loaded 3 1 rfl _ (by decide +kernel))) ?_
  refine Goes.seq (Goes.piece (k := 8) rfl (take4_iff t) fun h => by exact goes_take4 _ h) ?_
  refine Goes.seq (Goes.piece' (k := 9) rfl (wait4_iff t) (by exact goes_loaded 4 0 rfl _ (by decide +kernel))) ?_
  refine Goes.seq (Goes.piece (k := 10) rfl (take5_iff t) fun h => by exact goes_take5 _ h) ?_
  refine Goes.seq (Goes.piece' (k := 11) rfl (wait5_iff t) (by exact goes_loaded 5 1 rfl _ (by decide +kernel))) ?_
  refine Goes.seq (Goes.piece (k := 12) rfl (take6_iff t) fun h => by exact goes_take6 _ h) ?_
  refine Goes.seq (Goes.piece' (k := 13) rfl (wait6_iff t) (by exact goes_loaded 6 0 rfl _ (by decide +kernel))) ?_
  refine Goes.seq (Goes.piece (k := 14) rfl (take7_iff t) fun h => by exact goes_take7 _ h) ?_
  exact Goes.piece' (k := 15) rfl (wait7_iff t) (by exact goes_loaded 7 1 rfl _ (by decide +kernel))

/-- The last grid point waits for what has not been waited for. -/
theorem goes_finish (h : k0_cond17 i = 1#1) : Goes x K c (do endIn i c h; endOut i c h; endOwn i c h) (stage 63 16) (before 64) := by
  refine Goes.to (σ₁ := finished (stage 63 16)) ?_ stage_end
  unfold endIn endOut endOwn
  simp only [bind_assoc]
  refine Goes.seq (goes_left (false, 0) _ (by decide +kernel)) ?_
  refine Goes.seq (goes_left (false, 1) _ (by decide +kernel)) ?_
  refine Goes.seq (goes_left (false, 2) _ (by decide +kernel)) ?_
  refine Goes.seq (goes_left (false, 3) _ (by decide +kernel)) ?_
  refine Goes.seq (goes_left (false, 4) _ (by decide +kernel)) ?_
  refine Goes.seq (goes_left (false, 5) _ (by decide +kernel)) ?_
  refine Goes.seq (goes_left (false, 6) _ (by decide +kernel)) ?_
  refine Goes.seq (goes_left (true, 0) _ (by decide +kernel)) ?_
  refine Goes.seq (goes_come (true, 0) _ (by decide +kernel) (by decide +kernel)) ?_
  refine Goes.seq (goes_left (true, 1) _ (by decide +kernel)) ?_
  refine Goes.seq (goes_come (true, 1) _ (by decide +kernel) (by decide +kernel)) ?_
  refine Goes.seq (goes_left (true, 2) _ (by decide +kernel)) ?_
  refine Goes.seq (goes_come (true, 2) _ (by decide +kernel) (by decide +kernel)) ?_
  refine Goes.seq (goes_left (true, 3) _ (by decide +kernel)) ?_
  refine Goes.seq (goes_come (true, 3) _ (by decide +kernel) (by decide +kernel)) ?_
  refine Goes.seq (goes_left (true, 4) _ (by decide +kernel)) ?_
  refine Goes.seq (goes_come (true, 4) _ (by decide +kernel) (by decide +kernel)) ?_
  refine Goes.seq (goes_left (true, 5) _ (by decide +kernel)) ?_
  refine Goes.seq (goes_come (true, 5) _ (by decide +kernel) (by decide +kernel)) ?_
  refine Goes.seq (goes_left (true, 6) _ (by decide +kernel)) ?_
  refine Goes.seq (goes_come (true, 6) _ (by decide +kernel) (by decide +kernel)) ?_
  refine Goes.seq (goes_owned false _ (by decide +kernel)) ?_
  exact goes_owned true _ (by decide +kernel)

end Cert.Ga

end
-- ==== Proof.Gather.Product.lean ====
module

public import proofs.«01_k».proof.Proof.Gather.Events
public import Idealize.ShloMosaic.Lib.Pipeline.Value

/-!
# The gathering product: a grid point

The block of the input that is staged times the columns in the slot, between what is due of the exchange.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

/-- The load that a grid point multiplies with. -/
def lk (t : Fin grid0.N) : Fin 8 := ⟨t.val / 8, by have := t.isLt; change t.val < 64 at this; omega⟩
/-- The slot that it reads. -/
theorem off11 : ∀ t : Fin grid0.N, k0_off11 (grid0.coords t) = ![(par (lk t)).val, 0, 0] := by decide +kernel

/-- A block of the input times a block of the weights. -/
def prodOf (h : Vec F S1024x2048 .bf16) (w : Vec F S2048x1024 .bf16) : Vec F S1024x1024 .f32 :=
  matmul dot_S1024x2048_S2048x1024_S1024x1024_1_0_0_1_n_n none h w (constant S1024x1024 .f32 0x00000000#32)
theorem pay_eq (x : Vec F S1024x2048 .bf16) (v : Vec F S1x2048x1024 .bf16) :
    k0_pay2 (k0_pay1 x) v = prodOf x (shapeCast S2048x1024 v shapeCasts_S1x2048x1024_S2048x1024) := by
  unfold k0_pay1 k0_pay2 prodOf
  rw [show shapeCast S1024x2048 x shapeCasts_S1024x2048_S1024x2048 = x from shapeCast_self x _]

theorem slot_owns0 (c : Dev nD) (w : Vec F S2048x1024 .bf16) :
    (owns c.tc slot0 fullShare w : sProp 𝕄)
      = iprop(∃ f : Buf (Elt F) (bufM.view.loc c.tc), ⌜shapeCast S2048x1024 ((bufM.access (Rect.unit (s := S2x2048x1024) ![0, 0, 0] S1x2048x1024.size inb_S2x2048x1024_S1x2048x1024_0_0_0)).read (Elt F) f) shapeCasts_S1x2048x1024_S2048x1024 = w⌝
        ∗ (bufM.view.loc c.tc ↦[(bufM.access (Rect.unit (s := S2x2048x1024) ![0, 0, 0] S1x2048x1024.size inb_S2x2048x1024_S1x2048x1024_0_0_0)).set]{fullShare} f)) := by
  unfold owns
  refine congrArg BIBase.exists (funext fun f => ?_)
  rw [show slot0.view.set = (bufM.access (Rect.unit (s := S2x2048x1024) ![0, 0, 0] S1x2048x1024.size inb_S2x2048x1024_S1x2048x1024_0_0_0)).set from View.set_reshape _ _]
  rfl
theorem slot_owns1 (c : Dev nD) (w : Vec F S2048x1024 .bf16) :
    (owns c.tc slot1 fullShare w : sProp 𝕄)
      = iprop(∃ f : Buf (Elt F) (bufM.view.loc c.tc), ⌜shapeCast S2048x1024 ((bufM.access (Rect.unit (s := S2x2048x1024) ![1, 0, 0] S1x2048x1024.size inb_S2x2048x1024_S1x2048x1024_1_0_0)).read (Elt F) f) shapeCasts_S1x2048x1024_S2048x1024 = w⌝
        ∗ (bufM.view.loc c.tc ↦[(bufM.access (Rect.unit (s := S2x2048x1024) ![1, 0, 0] S1x2048x1024.size inb_S2x2048x1024_S1x2048x1024_1_0_0)).set]{fullShare} f)) := by
  unfold owns
  refine congrArg BIBase.exists (funext fun f => ?_)
  rw [show slot1.view.set = (bufM.access (Rect.unit (s := S2x2048x1024) ![1, 0, 0] S1x2048x1024.size inb_S2x2048x1024_S1x2048x1024_1_0_0)).set from View.set_reshape _ _]
  rfl

variable (c : Dev nD)

/-- What a slot holds, as the part of the buffer that a load of it reads. -/
theorem slot_owns (s : Fin 2) {o : Fin 3 → ℕ} {h : ∀ a, o a + S1x2048x1024.size a ≤ S2x2048x1024.size a} (e : o = ![s.val, 0, 0]) (w : Vec F S2048x1024 .bf16) :
    (owns c.tc (slotM s) fullShare w : sProp 𝕄)
      = iprop(∃ f : Buf (Elt F) (bufM.view.loc c.tc), ⌜shapeCast S2048x1024 ((bufM.access (Rect.unit (s := S2x2048x1024) o S1x2048x1024.size h)).read (Elt F) f) shapeCasts_S1x2048x1024_S2048x1024 = w⌝
        ∗ (bufM.view.loc c.tc ↦[(bufM.access (Rect.unit (s := S2x2048x1024) o S1x2048x1024.size h)).set]{fullShare} f)) := by
  subst e
  match s with
  | 0 => exact slot_owns0 c w
  | 1 => exact slot_owns1 c w

theorem run_product (t : Fin grid0.N) (a3 : Memref sig .tc .vmem S1024x2048 .bf16) (a6 : Memref sig .tc .vmem S1024x1024 .f32)
    (h : Vec F S1024x2048 .bf16) (w : Vec F S2048x1024 .bf16) (Q : PUnit → sProp 𝕄) :
    iprop(owns c.tc a3 fullShare h ∗ (∃ d, owns c.tc a6 fullShare d) ∗ owns c.tc (slotM (par (lk t))) fullShare w
      ∗ (iprop(owns c.tc a3 fullShare h ∗ owns c.tc a6 fullShare (prodOf h w) ∗ owns c.tc (slotM (par (lk t))) fullShare w) -∗ Q ⟨⟩))
      ⊢ run c (product (grid0.coords t) a3 a6) Q := by
  rw [slot_owns c (par (lk t)) (h := k0_off11_inb (grid0.coords t)) (off11 t) w]
  unfold run product owns
  simp only [Prog.lift, Prog.bind_op, Prog.bind_ret, Prog.pure_eq_ret]
  iintro ⟨⟨%f3, %h3, H3⟩, ⟨%d, %f6, %h6, H6⟩, ⟨%f, %hf, Hs⟩, Hk⟩
  iapply (wp_load Variants.none c.tc none Set.univ (m := a3) (View.setOn_subset_set _ _)) $$ H3; iintro H3
  iapply (wp_load_rect Variants.none c.tc none Set.univ (m := bufM) (r := Rect.unit (s := S2x2048x1024) (k0_off11 (grid0.coords t)) S1x2048x1024.size (k0_off11_inb (grid0.coords t))) subset_rfl) $$ Hs; iintro Hs
  iapply (wp_load Variants.none c.tc none Set.univ (m := a6) (View.setOn_subset_set _ _)) $$ H6; iintro H6
  iapply (wp_store Variants.none c.tc none Set.univ (m := a6) (r := Rect.unit (s := S1024x1024) ![0, 0] S1024x1024.size inb_S1024x1024_S1024x1024_0_0) (View.set_slice_subset _ _)) $$ H6; iintro H6
  rw [wp_ret]; imodintro
  iapply Hk
  isplitl [H3]
  · iexists _; isplitr; swap; · iexact H3
    ipureintro; exact h3
  isplitl [H6]
  · iexists _; isplitr; swap; · iexact H6
    ipureintro
    rw [View.readAt_full, h3, pay_eq, ← hf]
    exact View.read_writes_full _ _ inb_S1024x1024_S1024x1024_0_0 _ []
  iexists f
  isplitr; swap; · iexact Hs
  ipureintro; exact hf

variable (x : Data F) (K : Names)

/-- A loaded slot can be used and put back. -/
theorem st_slot (σ : St) (k : Fin 8) (h : σ.L k = 2) :
    (st x c σ : sProp 𝕄) ⊢ iprop(owns c.tc (slotM (par k)) fullShare (x.w (gm c k)) ∗ (owns c.tc (slotM (par k)) fullShare (x.w (gm c k)) -∗ st x c σ)) := by
  unfold st
  rw [bigSep_at (fun k => load x c k) σ.L k h]
  unfold load
  iintro ⟨HD, HA, ⟨⟨Hs, Hv, Hf⟩, HL⟩, HC, HO⟩
  isplitl [Hs]; · iexact Hs
  iintro Hs
  isplitl [HD]; · iexact HD
  isplitl [HA]; · iexact HA
  isplitl [HL Hs Hv Hf]
  · isplitl [Hs Hv Hf]
    · isplitl [Hs]; · iexact Hs
      isplitl [Hv]; · iexact Hv
      iexact Hf
    iexact HL
  isplitl [HC]; · iexact HC
  iexact HO

variable {x K c}

/-- After a grid point's product the exchange is as before the next grid point. -/
theorem goes_end (t : Fin grid0.N) : Goes x K c (finish (grid0.coords t) c) (stage t.val 16) (before (t.val + 1)) := by
  unfold finish
  by_cases h : k0_cond17 (grid0.coords t) = 1#1
  · rw [dif_pos h]
    have e : t.val = 63 := (end_iff t).mp h
    rw [e]
    exact goes_finish _ h
  · rw [dif_neg h, stage_last t (fun e => h ((end_iff t).mpr e))]
    exact Goes.nil _

/-- A grid point. -/
theorem run_step (t : Fin grid0.N) (a3 : Memref sig .tc .vmem S1024x2048 .bf16) (h3 : a3.IsWhole) (a6 : Memref sig .tc .vmem S1024x1024 .f32) (h6 : a6.IsWhole)
    (h : Vec F S1024x2048 .bf16) (Q : PUnit → sProp 𝕄) :
    iprop(known x K c ∗ st x c (before t.val) ∗ owns c.tc a3 fullShare h ∗ (∃ d, owns c.tc a6 fullShare d)
      ∗ (iprop(st x c (before (t.val + 1)) ∗ owns c.tc a3 fullShare h ∗ owns c.tc a6 fullShare (prodOf h (x.w (gm c (lk t))))) -∗ Q ⟨⟩))
      ⊢ run c (step (grid0.coords t) a3 h3 a6 h6) Q := by
  rw [step_eq]
  unfold run
  rw [wp_bind]
  simp only [Prog.lift, wp_deviceId]
  rw [wp_ret]
  iintro ⟨#Hk, Hs, H3, H6, HQ⟩
  imodintro
  rw [wp_bind]
  iapply (goes_exch (x := x) (K := K) (c := c) t _) $$ [-]
  isplitr; · iexact Hk
  isplitl [Hs]; · iexact Hs
  iintro Hs
  ihave Hs2 := (st_slot c x (stage t.val 16) (lk t) (stage_load t)) $$ Hs
  icases Hs2 with ⟨Hslot, Hback⟩
  rw [wp_bind]
  iapply (run_product c t a3 a6 h (x.w (gm c (lk t))) _) $$ [-]
  isplitl [H3]; · iexact H3
  isplitl [H6]; · iexact H6
  isplitl [Hslot]; · iexact Hslot
  iintro ⟨H3, H6, Hslot⟩
  iapply (goes_end (x := x) (K := K) (c := c) t Q) $$ [-]
  isplitr; · iexact Hk
  isplitl [Hslot Hback]
  · iapply Hback; iexact Hslot
  iintro Hs
  iapply HQ
  isplitl [Hs]; · iexact Hs
  isplitl [H3]; · iexact H3
  iexact H6

end Cert.Ga

end
-- ==== Proof.Gather.Body.lean ====
module

public import proofs.«01_k».proof.Proof.Gather.Product

/-!
# The gathering product: between the grid points

What holds before each grid point, and that a grid point carries it on.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (Dat Cfg Window BodyObligation cellOf)

variable (m : (ℓ : Loc nD τ sig) → Buf (Elt F) ℓ)

/-- A device's order of the column blocks, as launched. -/
def tabs (c : Dev nD) : pre0.Contents (Elt F) := fun k => m (c.tc.loc (pre0.ref k))
/-- Every device's order names blocks. -/
def Named : Prop := ∀ c : Dev nD, ok0 (tabs m c)

variable (hok : Named m)

/-- It is admissible. -/
def adm (c : Dev nD) : (pcfg0 (F := F)).Adm := ⟨tabs m c, hok c⟩

/-- The rows of a device's input that are staged at a grid point. -/
def rows (c : Dev nD) (t : Fin grid0.N) : ((win0 (adm m hok c) 0).xblock (grid0.coords t)).Idx → Elt F (win0 (adm m hok c) 0).elt :=
  ((win0 (adm m hok c) 0).blk t).view.read (Elt F) (m (c.tc.loc (Pipeline.arrRef spec0 0)))

/-- The weights that the launch gathers. -/
def data : Data F where
  w c := m (c.tc.loc main_arg2)
  wo c := m (c.tc.loc main_arg3)

/-- The product of a grid point. -/
def prod (c : Dev nD) (t : Fin grid0.N) : Vec F S1024x1024 .f32 := prodOf (rows m hok c t) ((data m).w (gm c (lk t)))

/-- The exchange but for what is owed. -/
def held (x : Data F) (c : Dev nD) (σ : St) : sProp 𝕄 :=
  iprop(bigSep Finset.univ (fun m => depart x c m (σ.D m)) ∗ bigSep Finset.univ (fun m => arrive x c m (σ.A m))
    ∗ bigSep Finset.univ (fun k => load x c k (σ.L k)) ∗ bigSep Finset.univ (fun b => copy x c b (σ.C b)))
theorem st_join (x : Data F) (c : Dev nD) (σ : St) (W : Waits sig Unit) : (iprop(held x c σ ∗ owes c.tc (owed c σ.D) W) : sProp 𝕄) ⊢ st x c σ := by
  unfold held st
  iintro ⟨⟨HD, HA, HL, HC⟩, HO⟩
  isplitl [HD]; · iexact HD
  isplitl [HA]; · iexact HA
  isplitl [HL]; · iexact HL
  isplitl [HC]; · iexact HC
  iexists W; iexact HO
theorem st_split (x : Data F) (c : Dev nD) (σ : St) : (st x c σ : sProp 𝕄) ⊢ iprop(held x c σ ∗ ∃ W, owes c.tc (owed c σ.D) W) := by
  unfold held st
  iintro ⟨HD, HA, HL, HC, HO⟩
  isplitr [HO]; swap; · iexact HO
  isplitl [HD]; · iexact HD
  isplitl [HA]; · iexact HA
  isplitl [HL]; · iexact HL
  iexact HC

/-- A share of the device's own weights, kept to the end. -/
def keptP (x : Data F) (c : Dev nD) : sProp 𝕄 :=
  iprop(owns c.tc wInM (part 9) (x.w c) ∗ owns c.tc wOutM (part 9) (x.wo c))

/-- What holds before grid point `n`. -/
def Phi (c : Dev nD) (n : ℕ) : sProp 𝕄 := iprop((∃ K, known (data m) K c) ∗ held (data m) c (before n) ∗ keptP (data m) c)

/-- What each staged block holds after each point, and what holds between the points. -/
def dats (_ : Fin 1) (c : Dev nD) : Dat τ (Elt F) Unit ℕ (UU nD τ) ℕ (cfg0 (adm m hok c)) c where
  A w := m (c.tc.loc (Pipeline.arrRef spec0 w))
  after w t := match w with
    | 0 => rows m hok c t
    | 1 => prod m hok c t
    | ⟨_ + 2, h⟩ => absurd h (Nat.not_lt.2 (Nat.le_add_left _ _))
  Φ n := Phi m c n.val
  q _ := fullShare
  owed n := owed c (before n.val).D

theorem before_0 (c : Dev nD) (t : Fin grid0.N) (d) : (dats m hok 0 c).before 0 t d = rows m hok c t :=
  ((dats m hok 0 c).before_in_eq_fetched 0 rfl (fun _ => rfl) (fun _ _ _ => rfl) (fun _ => rfl) t d).trans rfl

/-! ### The body obligation -/

variable (c : Dev nD) (t : Fin grid0.N)

/-- The body at point `t`, on the staging buffers of that point. -/
abbrev stg (w : Fin 2) : Fin (spec0 w).nbuf := (cfg0 (adm m hok c)).slots t w
abbrev bodyAt : Pr F PUnit :=
  step (grid0.coords t) (spec0_0.stage (stg m hok c t 0)) (hstage0_0 ((stg m hok c t 0).cast nbuf0_0))
    (spec0_1.stage (stg m hok c t 1)) (hstage0_1 ((stg m hok c t 1).cast nbuf0_1))

theorem defs₀_row : defs₀ (F := F) .tc (cfg0 (adm m hok c)).body ((cfg0 (adm m hok c)).bodyArgs t ((cfg0 (adm m hok c)).slots t)) = bodyAt m hok c t := by
  unfold defs₀; rw [Defs.onTc_tc]

/-- What the body is called with, and what it returns. -/
def bodyPre : sProp 𝕄 :=
  iprop((dats m hok 0 c).Φ t.castSucc ∗ (dats m hok 0 c).owesAt () t.castSucc
    ∗ (∃ d, owns c.tc (spec0_0.stage (stg m hok c t 0)) fullShare ((dats m hok 0 c).before 0 t d))
    ∗ (∃ d, owns c.tc (spec0_1.stage (stg m hok c t 1)) fullShare ((dats m hok 0 c).before 1 t d)))
def bodyPost : sProp 𝕄 :=
  iprop((dats m hok 0 c).Φ t.succ ∗ (dats m hok 0 c).owesAt () t.succ
    ∗ owns c.tc (spec0_0.stage (stg m hok c t 0)) fullShare ((dats m hok 0 c).after 0 t)
    ∗ owns c.tc (spec0_1.stage (stg m hok c t 1)) fullShare ((dats m hok 0 c).after 1 t))

theorem sound_body : bodyPre m hok c t ⊢ wp frame (wpE (defs₀ (F := F)) Variants.none c.tc none) Set.univ (bodyAt m hok c t) (fun _ => bodyPost m hok c t) := by
  unfold bodyPre Dat.owesAt Pipeline.owesWithin
  rw [show (dats m hok 0 c).Φ t.castSucc = Phi m c t.val from rfl, show (dats m hok 0 c).owed t.castSucc = owed c (before t.val).D from rfl]
  simp only [before_0]
  unfold Phi
  iintro ⟨⟨⟨%K, #Hk⟩, Hh, Hkept⟩, ⟨%W, -, HW⟩, ⟨%d0, H0⟩, ⟨%d1, H1⟩⟩
  iapply (run_step (x := data m) (K := K) (c := c) t _ _ _ _ (rows m hok c t) _) $$ [-]
  isplitr; · iexact Hk
  isplitl [Hh HW]
  · iapply (st_join (data m) c (before t.val) W)
    isplitl [Hh]; · iexact Hh
    iexact HW
  isplitl [H0]; · iexact H0
  isplitl [H1]; · iexists _; iexact H1
  unfold bodyPost Dat.owesAt Pipeline.owesWithin
  rw [show (dats m hok 0 c).Φ t.succ = Phi m c (t.val + 1) from rfl, show (dats m hok 0 c).owed t.succ = owed c (before (t.val + 1)).D from rfl,
    show (dats m hok 0 c).after 0 t = rows m hok c t from rfl, show (dats m hok 0 c).after 1 t = prod m hok c t from rfl]
  iintro ⟨Hs, H0, H1⟩
  ihave Hs2 := (st_split (data m) c (before (t.val + 1))) $$ Hs
  icases Hs2 with ⟨Hh, ⟨%W', HW⟩⟩
  isplitl [Hh Hkept]
  · unfold Phi
    isplitr; · iexists K; iexact Hk
    isplitl [Hh]; · iexact Hh
    iexact Hkept
  isplitl [HW]
  · iexists W'; isplitr; · ipureintro; exact fun _ _ => Or.inl trivial
    iexact HW
  isplitl [H0]; · iexact H0
  iexact H1

theorem body_obligation (c : Dev nD) : BodyObligation (dats m hok 0 c) (defs₀ (F := F)) Variants.none () Set.univ := fun t => by
  rw [bigSep_W0, bigSep_W0, defs₀_row]
  exact triple_restated (sound_body m hok c t) rfl .rfl fun _ => .rfl

end Cert.Ga

end
-- ==== Proof.Gather.Split.lean ====
module

public import proofs.«01_k».proof.Proof.Gather.Body
public import Idealize.ShloMosaic.Lib.Ring

/-!
# The gathering product: buffers in pieces

The gathered weights slab by slab, the loading buffer slot by slot, the device's own weights share by share.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Idealize.ShloMosaic.Ring (pointsTo_blocks pointsTo_blocks_join_exists)

/-- Conjunctions over few, one by one. -/
theorem bigSep_bool {M : Type} [URA M] (Φ : Bool → sProp M) : bigSep Finset.univ Φ = iprop(Φ false ∗ Φ true) :=
  bigSep_univ_eq_bigSepL [false, true] (by decide) (by decide) Φ
theorem bigSep_two {M : Type} [URA M] (Φ : Fin 2 → sProp M) : bigSep Finset.univ Φ = iprop(Φ 0 ∗ Φ 1) :=
  bigSep_univ_eq_bigSepL [(0 : Fin 2), 1] (by decide) (by decide) Φ
theorem bigSep_seven {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ
theorem bigSep_eight {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem bigSep_next {M : Type} [URA M] (Φ : Fin 8 → sProp M) : bigSep Finset.univ Φ = iprop(Φ 0 ∗ bigSep Finset.univ fun j : Fin 7 => Φ j.succ) := by
  rw [bigSep_eight, bigSep_seven]; rfl
theorem bigSep_sixteen {M : Type} [URA M] (Φ : Fin 16 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ
/-- Over the messages: those with input weights, and those with output weights. -/
theorem bigSep_msg {M : Type} [URA M] (Φ : Msg → sProp M) : bigSep Finset.univ Φ
    = iprop((bigSep Finset.univ fun j => Φ (false, j)) ∗ bigSep Finset.univ fun j => Φ (true, j)) := by
  rw [BI.bigSep_univ_prod, bigSep_bool]

/-! ### The slabs -/

/-- A slab of leading extent one holds the elements whose leading index is its offset. -/
theorem mem_slab {n a b : ℕ} (k : Fin n) (inb : ∀ i, (![k.val, 0, 0] : Fin 3 → ℕ) i + (![1, a, b] : Fin 3 → ℕ) i ≤ (⟨3, ![n, a, b]⟩ : Shape).size i)
    (i : (⟨3, ![n, a, b]⟩ : Shape).Idx) : i ∈ (Rect.unit (s := ⟨3, ![n, a, b]⟩) ![k.val, 0, 0] ![1, a, b] inb).set ↔ (i 0).val = k.val := by
  rw [Rect.mem_set_unit]
  constructor
  · intro h; have := h 0
    simp only [Matrix.cons_val_zero] at this
    omega
  · intro h j
    match j with
    | ⟨0, _⟩ => exact ⟨h.ge, by show (i 0).val < k.val + 1; omega⟩
    | ⟨1, _⟩ => exact ⟨Nat.zero_le _, (by have := (i 1).isLt; exact this.trans_eq (Nat.zero_add a).symm)⟩
    | ⟨2, _⟩ => exact ⟨Nat.zero_le _, (by have := (i 2).isLt; exact this.trans_eq (Nat.zero_add b).symm)⟩

abbrev wfSet (b : Fin 8) : Finset S8x2048x1024.Idx := (wfAt b).view.set
abbrev wofSet (b : Fin 8) : Finset S8x256x2048.Idx := (wofAt b).view.set
abbrev slotSet (s : Fin 2) : Finset S2x2048x1024.Idx := match s with
  | 0 => slot0.view.set
  | 1 => slot1.view.set
theorem mem_wf (b : Fin 8) (i : S8x2048x1024.Idx) : i ∈ wfSet b ↔ (i 0).val = b.val := by
  rw [show wfSet b = (Rect.unit (s := S8x2048x1024) ![b.val, 0, 0] S1x2048x1024.size (inb_wf b)).set from (View.set_reshape _ _).trans (View.set_slice_whole main_v1_1 _)]
  exact mem_slab (n := 8) b _ i
theorem mem_wof (b : Fin 8) (i : S8x256x2048.Idx) : i ∈ wofSet b ↔ (i 0).val = b.val := by
  rw [show wofSet b = (Rect.unit (s := S8x256x2048) ![b.val, 0, 0] S1x256x2048.size (inb_wof b)).set from (View.set_reshape _ _).trans (View.set_slice_whole main_v1_2 _)]
  exact mem_slab (n := 8) b _ i
theorem mem_slot (s : Fin 2) (i : S2x2048x1024.Idx) : i ∈ slotSet s ↔ (i 0).val = s.val := by
  match s with
  | 0 =>
    rw [show slotSet 0 = (Rect.unit (s := S2x2048x1024) ![0, 0, 0] S1x2048x1024.size inb_S2x2048x1024_S1x2048x1024_0_0_0).set from (View.set_reshape _ _).trans (View.set_slice_whole cc0_scratch0 _)]
    exact mem_slab (n := 2) 0 _ i
  | 1 =>
    rw [show slotSet 1 = (Rect.unit (s := S2x2048x1024) ![1, 0, 0] S1x2048x1024.size inb_S2x2048x1024_S1x2048x1024_1_0_0).set from (View.set_reshape _ _).trans (View.set_slice_whole cc0_scratch0 _)]
    exact mem_slab (n := 2) 1 _ i

theorem slot_disj (b b' : Fin 2) (h : b ≠ b') : Disjoint (slotSet b) (slotSet b') :=
  Finset.disjoint_left.mpr fun i hi hi' => h (Fin.ext (((mem_slot b i).mp hi).symm.trans ((mem_slot b' i).mp hi')))
theorem slot_cover : Finset.univ.biUnion slotSet = (Finset.univ : Finset S2x2048x1024.Idx) :=
  Finset.eq_univ_iff_forall.mpr fun i => Finset.mem_biUnion.mpr ⟨i 0, Finset.mem_univ _, (mem_slot (i 0) i).mpr rfl⟩

/-- Whose slab of the gathered weights comes how: the device's own first, then message by message. -/
def whose (b : Bool) (c : Dev nD) : Fin 8 → Fin 8 := Fin.cases c fun j => match b with
  | false => blk (mate (false, j) c) j
  | true => mate (true, j) c
theorem whose_inj : ∀ b c k k', whose b c k = whose b c k' → k = k' := by decide
theorem whose_onto : ∀ b c j, ∃ k, whose b c k = j := by decide

variable (c : Dev nD)

theorem wf_disj (k k' : Fin 8) (h : k ≠ k') : Disjoint (wfSet (whose false c k)) (wfSet (whose false c k')) :=
  Finset.disjoint_left.mpr fun i hi hi' => h (whose_inj _ _ _ _ (Fin.ext (((mem_wf _ i).mp hi).symm.trans ((mem_wf _ i).mp hi'))))
theorem wf_cover : Finset.univ.biUnion (fun k => wfSet (whose false c k)) = (Finset.univ : Finset S8x2048x1024.Idx) :=
  Finset.eq_univ_iff_forall.mpr fun i => by
    obtain ⟨k, hk⟩ := whose_onto false c (i 0)
    exact Finset.mem_biUnion.mpr ⟨k, Finset.mem_univ _, (mem_wf _ i).mpr (by rw [hk])⟩
theorem wof_disj (k k' : Fin 8) (h : k ≠ k') : Disjoint (wofSet (whose true c k)) (wofSet (whose true c k')) :=
  Finset.disjoint_left.mpr fun i hi hi' => h (whose_inj _ _ _ _ (Fin.ext (((mem_wof _ i).mp hi).symm.trans ((mem_wof _ i).mp hi'))))
theorem wof_cover : Finset.univ.biUnion (fun k => wofSet (whose true c k)) = (Finset.univ : Finset S8x256x2048.Idx) :=
  Finset.eq_univ_iff_forall.mpr fun i => by
    obtain ⟨k, hk⟩ := whose_onto true c (i 0)
    exact Finset.mem_biUnion.mpr ⟨k, Finset.mem_univ _, (mem_wof _ i).mpr (by rw [hk])⟩

/-- The slab that a message lands in, at any contents, -/
def slabAny (m : Msg) : sProp 𝕄 := iprop(∃ y, owns c.tc (dst (mate m c) m) fullShare y)
/-- and the slab of the device's own weights. -/
def ownAny (b : Bool) : sProp 𝕄 := iprop(∃ y, owns c.tc (slabM c b) fullShare y)

/-- The gathered weights, slab by slab. -/
theorem split_gathered (f : Buf (Elt F) (c.tc.loc main_v1_1)) (g : Buf (Elt F) (c.tc.loc main_v1_2)) :
    iprop((c.tc.loc main_v1_1 ↦{fullShare} f) ∗ (c.tc.loc main_v1_2 ↦{fullShare} g))
      ⊢ (iprop(bigSep Finset.univ (fun b => ownAny (F := F) c b) ∗ bigSep Finset.univ (fun m => slabAny (F := F) c m)) : sProp 𝕄) := by
  have hf : ∀ b : Fin 8, (c.tc.loc main_v1_1 ↦[wfSet b]{fullShare} f : sProp 𝕄) ⊢ iprop(∃ y, owns c.tc (wfAt b) fullShare y) := fun b => by
    iintro H; iexists _; iapply (owns_intro c.tc (wfAt b) fullShare); iexact H
  have hg : ∀ b : Fin 8, (c.tc.loc main_v1_2 ↦[wofSet b]{fullShare} g : sProp 𝕄) ⊢ iprop(∃ y, owns c.tc (wofAt b) fullShare y) := fun b => by
    iintro H; iexists _; iapply (owns_intro c.tc (wofAt b) fullShare); iexact H
  have hf0 : (c.tc.loc main_v1_1 ↦[wfSet (whose false c 0)]{fullShare} f : sProp 𝕄) ⊢ ownAny c false := hf c
  have hg0 : (c.tc.loc main_v1_2 ↦[wofSet (whose true c 0)]{fullShare} g : sProp 𝕄) ⊢ ownAny c true := hg c
  have hfs : (bigSep Finset.univ fun j : Fin 7 => (c.tc.loc main_v1_1 ↦[wfSet (whose false c j.succ)]{fullShare} f : sProp 𝕄)) ⊢ bigSep Finset.univ fun j => slabAny c (false, j) :=
    bigSep_mono fun j _ => hf _
  have hgs : (bigSep Finset.univ fun j : Fin 7 => (c.tc.loc main_v1_2 ↦[wofSet (whose true c j.succ)]{fullShare} g : sProp 𝕄)) ⊢ bigSep Finset.univ fun j => slabAny c (true, j) :=
    bigSep_mono fun j _ => hg _
  rw [pointsTo_blocks (ℓ := c.tc.loc main_v1_1) (fun k => wfSet (whose false c k)) (wf_disj c) (wf_cover c),
    pointsTo_blocks (ℓ := c.tc.loc main_v1_2) (fun k => wofSet (whose true c k)) (wof_disj c) (wof_cover c),
    bigSep_next, bigSep_next, bigSep_bool, bigSep_msg]
  iintro ⟨⟨H0, H1⟩, G0, G1⟩
  isplitl [H0 G0]
  · isplitl [H0]
    · iapply hf0; iexact H0
    iapply hg0; iexact G0
  isplitl [H1]
  · iapply hfs
    iexact H1
  · iapply hgs
    iexact G1

/-- A slot of the buffer that blocks are loaded to, at any contents. -/
def slotAny (s : Fin 2) : sProp 𝕄 := iprop(∃ y, owns c.tc (slotM s) fullShare y)

/-- The buffer as its two slots, -/
theorem split_slots : iprop(∃ f, c.tc.loc cc0_scratch0 ↦{fullShare} f) ⊢ (iprop(slotAny c 0 ∗ slotAny c 1) : sProp 𝕄) := by
  iintro ⟨%f, H⟩
  ihave H' := (Entails.of_eq (pointsTo_blocks (ℓ := c.tc.loc cc0_scratch0) slotSet slot_disj slot_cover f)) $$ H
  ihave H2 := (Entails.of_eq (bigSep_two _)) $$ H'
  unfold slotAny
  icases H2 with ⟨H0, H1⟩
  isplitl [H0]
  · iexists _; iapply (owns_intro c.tc slot0 fullShare); iexact H0
  iexists _; iapply (owns_intro c.tc slot1 fullShare); iexact H1
/-- and the two slots as the buffer. -/
theorem join_slots : (iprop(slotAny c 0 ∗ slotAny c 1) : sProp 𝕄) ⊢ iprop(∃ f : Buf (Elt F) (c.tc.loc cc0_scratch0), c.tc.loc cc0_scratch0 ↦{fullShare} f) := by
  unfold slotAny owns
  iintro ⟨⟨%y, %f, -, H0⟩, ⟨%y', %g, -, H1⟩⟩
  iapply (pointsTo_blocks_join_exists (ℓ := c.tc.loc cc0_scratch0) slotSet slot_disj slot_cover f)
  rw [bigSep_two]
  isplitl [H0]; · iexists f; iexact H0
  iexists g; iexact H1

/-! ### The device's own weights, in sixteen shares -/

theorem split_own (b : Bool) (f : (shp b).Idx → Elt F .bf16) :
    (owns c.tc (mineM b) fullShare f : sProp 𝕄) ⊢ bigSep Finset.univ fun i : Fin 16 => owns c.tc (mineM b) (part i) f := by
  have h : ∀ (g : Buf (Elt F) ((mineM b).view.loc c.tc)), (mineM b).view.read (Elt F) g = f → ∀ i : Fin 16,
      ((mineM b).view.loc c.tc ↦[(mineM b).view.set]{part i} g : sProp 𝕄) ⊢ owns c.tc (mineM b) (part i) f := fun g hg i => by
    unfold owns; iintro H; iexists g; isplitr
    · ipureintro; exact hg
    iexact H
  have hs (g : Buf (Elt F) ((mineM b).view.loc c.tc)) (hg : (mineM b).view.read (Elt F) g = f) :
      (bigSep Finset.univ fun i : Fin 16 => ((mineM b).view.loc c.tc ↦[(mineM b).view.set]{part i} g : sProp 𝕄)) ⊢ bigSep Finset.univ fun i : Fin 16 => owns c.tc (mineM b) (part i) f :=
    bigSep_mono fun i _ => h g hg i
  have ho : (owns c.tc (mineM b) fullShare f : sProp 𝕄) = iprop(∃ g, ⌜(mineM b).view.read (Elt F) g = f⌝ ∗ ((mineM b).view.loc c.tc ↦[(mineM b).view.set]{fullShare} g)) := rfl
  rw [ho]
  iintro ⟨%g, %hg, H⟩
  iapply (hs g hg)
  iapply (Entails.of_eq (Idealize.ShloMosaic.ShareLeaves.pointsTo_leaves (mineM b).view.set g 4 fullShare))
  iexact H

end Cert.Ga

end
-- ==== Proof.Gather.Deal.lean ====
module

public import proofs.«01_k».proof.Proof.Gather.Split

/-!
# The gathering product: what each device starts from

At launch the exchange's semaphores get their invariants, every device the slabs and the tokens of the
messages that it sends, the shares of its weights, and the credit of the messages that it awaits.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (Dat ownSems0 unscopedRestP launchCred owing)

/-! ### The semaphores of the exchange -/

/-- The copies' and the loads' semaphores, then each message's departure and arrival. -/
def osem : (Bool ⊕ Fin 2) ⊕ (Bool × Msg) → SemLoc sig
  | .inl (.inl b) => .dma (ownQ b)
  | .inl (.inr s) => .dma (slotQ s)
  | .inr (false, m) => .dma (sendQ m)
  | .inr (true, m) => .dma (recvQ m)

theorem ownSemFacts : Pipeline.OwnSemFacts spec0 osem where
  isScoped := by decide
  inj := by decide +kernel
  disj := by decide +kernel

/-- The messages' semaphores on all devices. -/
def exCell (x : Dev nD × (Bool × Msg)) : GSem nD τ sig := ((x.1 : Thread nD τ), osem (.inr x.2))
theorem exCell_inj : Function.Injective exCell := fun x y h => by
  obtain ⟨c, k⟩ := x; obtain ⟨c', k'⟩ := y
  have h1 : c.tc = c'.tc := congrArg Prod.fst h
  have h2 : osem (.inr k) = osem (.inr k') := congrArg Prod.snd h
  have h3 : c = c' := congrArg (fun t : Thread nD τ => t.1) h1
  rw [h3, Sum.inr.inj (ownSemFacts.inj h2)]
def exEmb : Dev nD × (Bool × Msg) ↪ GSem nD τ sig := ⟨exCell, exCell_inj⟩
def tokEmb : Dev nD × (Bool × Msg) ↪ GSem nD τ sig × ℕ × Unit := ⟨fun x => (exCell x, 0, ()), fun _ _ h => exCell_inj (congrArg Prod.fst h)⟩
def exCells : Finset (GSem nD τ sig) := Finset.univ.map exEmb
def exToks : Finset (GSem nD τ sig × ℕ × Unit) := Finset.univ.map tokEmb

/-- A family over a device's semaphores: departures and arrivals. -/
theorem by_kind (Φ : Bool × Msg → sProp 𝕄) : bigSep Finset.univ Φ
    = iprop(bigSep Finset.univ (fun j => Φ (false, j)) ∗ bigSep Finset.univ (fun j => Φ (true, j))) := by
  rw [BI.bigSep_univ_prod, bigSep_bool]

/-- Each device's share of message `j`, dealt to the device that it exchanges the message with. -/
theorem dealt (Φ : Dev nD → Msg → sProp 𝕄) :
    (bigSep Finset.univ fun c : Dev nD => bigSep Finset.univ fun j => Φ c j) = bigSep Finset.univ fun c : Dev nD => bigSep Finset.univ fun j => Φ (mate j c) j := by
  rw [Pipeline.bigSep_univ_comm, Pipeline.bigSep_univ_comm (fun (c : Dev nD) j => Φ (mate j c) j)]
  exact BI.bigSep_congr fun j _ => BI.bigSep_univ_equiv (mateEquiv j) (fun c => Φ c j)

/-! ### What the devices start from -/

variable (x : Data F)

/-- The shares of a device's own weights. -/
def weightsP (c : Dev nD) : sProp 𝕄 :=
  iprop(bigSep Finset.univ (fun m => lent x c m) ∗ bigSep Finset.univ (fun b => owns c.tc (mineM b) (part 7) (mineV x c b)) ∗ from_ x c 0 ∗ keptP x c)

theorem weights_split (c : Dev nD) : (iprop(owns c.tc (mineM false) fullShare (x.w c) ∗ owns c.tc (mineM true) fullShare (x.wo c)) : sProp 𝕄) ⊢ weightsP x c := by
  have hA := split_own c false (x.w c)
  have hB := split_own c true (x.wo c)
  rw [bigSep_sixteen] at hA hB
  unfold weightsP keptP
  have e0 : lent x c (false, 0) = owns c.tc wInM (part 0) (x.w c) := rfl
  have e1 : lent x c (false, 1) = owns c.tc wInM (part 1) (x.w c) := rfl
  have e2 : lent x c (false, 2) = owns c.tc wInM (part 2) (x.w c) := rfl
  have e3 : lent x c (false, 3) = owns c.tc wInM (part 3) (x.w c) := rfl
  have e4 : lent x c (false, 4) = iprop(emp) := rfl
  have e5 : lent x c (false, 5) = iprop(emp) := rfl
  have e6 : lent x c (false, 6) = iprop(emp) := rfl
  have ek : ∀ k, lent x c (true, k) = owns c.tc wOutM (part ⟨k.val, by omega⟩) (x.wo c) := fun _ => rfl
  simp only [bigSep_msg, bigSep_seven, bigSep_bool, ek, e0, e1, e2, e3, e4, e5, e6]
  iintro ⟨HA, HB⟩
  ihave HA' := hA $$ HA
  ihave HB' := hB $$ HB
  icases HA' with ⟨A0, A1, A2, A3, -, -, -, A7, A8, A9, -⟩
  icases HB' with ⟨B0, B1, B2, B3, B4, B5, B6, B7, -, B9, -⟩
  isplitl [A0 A1 A2 A3 B0 B1 B2 B3 B4 B5 B6]
  · isplitl [A0 A1 A2 A3]
    · isplitl [A0]; · iexact A0
      isplitl [A1]; · iexact A1
      isplitl [A2]; · iexact A2
      isplitl [A3]; · iexact A3
      isplitr; · iempintro
      isplitr; · iempintro
      iempintro
    isplitl [B0]; · iexact B0
    isplitl [B1]; · iexact B1
    isplitl [B2]; · iexact B2
    isplitl [B3]; · iexact B3
    isplitl [B4]; · iexact B4
    isplitl [B5]; · iexact B5
    iexact B6
  isplitl [A7 B7]
  · isplitl [A7]; · iexact A7
    iexact B7
  isplitl [A8]; · iapply (Entails.of_eq (show owns c.tc (mineM false) (part 8) (x.w c) = from_ x c 0 from rfl)); iexact A8
  isplitl [A9]; · iexact A9
  iexact B9

/-- The semaphores that only the device itself uses, at zero. -/
def localSems (c : Dev nD) : sProp 𝕄 :=
  iprop(bigSep Finset.univ (fun b => semVal (c.tc, SemLoc.dma (ownQ b)) 0) ∗ bigSep Finset.univ (fun s => semVal (c.tc, SemLoc.dma (slotQ s)) 0))

/-- What device `c` starts from. -/
def start (c : Dev nD) : sProp 𝕄 :=
  iprop((∃ K, known x K c) ∗ bigSep Finset.univ (fun j => depart x c j 0)
    ∗ bigSep Finset.univ (fun j => atPos EX (recvCell c j) 0 ∅ 0) ∗ bigSep Finset.univ (fun b => copy x c b 0)
    ∗ bigSep Finset.univ (fun s => semVal (c.tc, SemLoc.dma (slotQ s)) 0) ∗ from_ x c 0 ∗ keptP x c)

/-- What every device may consult. -/
def records (K : Dev nD × (Bool × Msg) → ℕ) : sProp 𝕄 :=
  iprop(levAts L lv ∗ (bigSep Finset.univ fun y => cellInv EX (Rd x) (K y) (exCell y)) ∗ bigSep Finset.univ fun y => reached EX (exCell y) 0)
instance records_persistent (K : Dev nD × (Bool × Msg) → ℕ) : BI.Persistent (records x K) := by unfold records; infer_instance

theorem records_known (K : Dev nD × (Bool × Msg) → ℕ) (c : Dev nD) :
    records x K ⊢ known x (fun c b j => K (c, (b, j))) c := by
  have hI : ∀ y, (bigSep Finset.univ fun y => (cellInv EX (Rd x) (K y) (exCell y) : sProp 𝕄)) ⊢ cellInv EX (Rd x) (K y) (exCell y) := fun y => bigSep_elim (Finset.mem_univ y)
  have hR : ∀ y, (bigSep Finset.univ fun y => (reached EX (exCell y) 0 : sProp 𝕄)) ⊢ reached EX (exCell y) 0 := fun y => bigSep_elim (Finset.mem_univ y)
  unfold records known
  iintro ⟨#HL, #HI, #HR⟩
  isplitr; · iexact HL
  iintro %j
  isplitr; · iapply (hI (c, (false, j))); iexact HI
  isplitr; · iapply (hI (c, (true, j))); iexact HI
  isplitr; · iapply (hI (mate j c, (true, j))); iexact HI
  isplitr; · iapply (hR (c, (false, j))); iexact HR
  iapply (hR (mate j c, (true, j))); iexact HR

/-- What goes to one device only. -/
def goods (c : Dev nD) : sProp 𝕄 :=
  iprop((bigSep Finset.univ fun j => slabAny (F := F) (mate j c) j) ∗ (bigSep Finset.univ fun j => dutyTok EX (sendCell c j) 0 ())
    ∗ (bigSep Finset.univ fun j => dutyTok EX (recvCell (mate j c) j) 0 ())
    ∗ (bigSep Finset.univ fun j => atPos EX (sendCell c j) 0 ∅ 0) ∗ (bigSep Finset.univ fun j => atPos EX (recvCell c j) 0 ∅ 0)
    ∗ localSems c ∗ (bigSep Finset.univ fun b => ownAny (F := F) c b) ∗ weightsP x c)

theorem slab_mate (c : Dev nD) (j : Msg) : slabAny (F := F) (mate j c) j = iprop(∃ y, owns (mate j c : Thread nD τ) (dst c j) fullShare y) := by
  unfold slabAny; rw [mate_mate]

theorem start_intro (K : Dev nD × (Bool × Msg) → ℕ) (c : Dev nD) : iprop(records x K ∗ goods x c) ⊢ start x c := by
  unfold goods start localSems weightsP
  rw [show (fun j => depart x c j 0) = fun j => iprop((∃ y, owns (mate j c : Thread nD τ) (dst c j) fullShare y) ∗ dutyTok EX (sendCell c j) 0 () ∗ dutyTok EX (recvCell (mate j c) j) 0 () ∗ atPos EX (sendCell c j) 0 ∅ 0 ∗ lent x c j) from rfl,
    show (fun b => copy x c b 0) = fun b => iprop(ownAny c b ∗ owns c.tc (mineM b) (part 7) (mineV x c b) ∗ semVal (c.tc, SemLoc.dma (ownQ b)) 0) from rfl]
  simp only [BI.bigSep_sep', slab_mate]
  iintro ⟨#HK, Hd, Hs, Hr, Ha, Hp, ⟨Hq, Hl⟩, Ho, Hw, Hm, Hf, Hk⟩
  isplitr; · iexists _; iapply (records_known x K c); iexact HK
  isplitl [Hd Hs Hr Ha Hw]
  · isplitl [Hd]; · iexact Hd
    isplitl [Hs]; · iexact Hs
    isplitl [Hr]; · iexact Hr
    isplitl [Ha]; · iexact Ha
    iexact Hw
  isplitl [Hp]; · iexact Hp
  isplitl [Ho Hm Hq]
  · isplitl [Ho]; · iexact Ho
    isplitl [Hm]; · iexact Hm
    iexact Hq
  isplitl [Hl]; · iexact Hl
  isplitl [Hf]; · iexact Hf
  iexact Hk

variable (m : (ℓ : Loc nD τ sig) → Buf (Elt F) ℓ)

/-- A device's weights and its arrays of results, in their pieces. -/
theorem results_split (c : Dev nD) : (unscopedRestP pre0 spec0 c (fun b => m (c.tc.loc b)) : sProp 𝕄)
    ⊢ iprop(weightsP (data m) c ∗ bigSep Finset.univ (fun b => ownAny (F := F) c b) ∗ bigSep Finset.univ (fun j => slabAny (F := F) c j)) := by
  have h2 : ((c.tc.loc main_arg2) ↦{fullShare} m (c.tc.loc main_arg2) : sProp 𝕄) ⊢ owns c.tc (mineM false) fullShare ((data m).w c) := by
    have h := owns_intro (c : Thread nD τ) wInM fullShare (m ((c : Thread nD τ).loc main_arg2)) (Ix := Unit) (Name := ℕ) (U := UU nD τ) (Lvl := ℕ)
    rw [View.set_whole] at h; exact h
  have h3 : ((c.tc.loc main_arg3) ↦{fullShare} m (c.tc.loc main_arg3) : sProp 𝕄) ⊢ owns c.tc (mineM true) fullShare ((data m).wo c) := by
    have h := owns_intro (c : Thread nD τ) wOutM fullShare (m ((c : Thread nD τ).loc main_arg3)) (Ix := Unit) (Name := ℕ) (U := UU nD τ) (Lvl := ℕ)
    rw [View.set_whole] at h; exact h
  rw [unscopedRestP0_eq]
  iintro ⟨H2, H3, H⟩
  isplitl [H2 H3]
  · iapply (weights_split (data m) c)
    isplitl [H2]; · iapply h2; iexact H2
    iapply h3; iexact H3
  iapply (split_gathered c _ _)
  iexact H

/-- The semaphores at zero: the device's own, and the messages'. -/
theorem sems_split (c : Dev nD) : (ownSems0 osem c : sProp 𝕄)
    = iprop(localSems c ∗ bigSep Finset.univ (fun k => semVal (exCell (c, k)) 0)) := by
  unfold ownSems0 localSems
  rw [BI.bigSep_univ_sum, BI.bigSep_univ_sum]; rfl

/-- The exchange's invariants made, its tokens, slabs and weights dealt. -/
theorem deal : iprop(levAts L lv ∗ (bigSep Finset.univ fun c : Dev nD => ownSems0 osem c)
      ∗ (bigSep Finset.univ fun c : Dev nD => unscopedRestP pre0 spec0 c (fun b => m (c.tc.loc b)))
      ∗ BI.own ((EX : Emb (UX nD τ) 𝕄) (initOf exCells exToks)))
    ⊢ |={Set.univ}=> (bigSep Finset.univ (start (data m)) : sProp 𝕄) := by
  have hres : (bigSep Finset.univ fun c : Dev nD => (unscopedRestP pre0 spec0 c (fun b => m (c.tc.loc b)) : sProp 𝕄))
      ⊢ iprop((bigSep Finset.univ fun c : Dev nD => weightsP (data m) c) ∗ (bigSep Finset.univ fun c : Dev nD => bigSep Finset.univ fun b => ownAny (F := F) c b)
        ∗ bigSep Finset.univ (fun c : Dev nD => bigSep Finset.univ (fun j => slabAny (F := F) c j))) :=
by
    have h : (bigSep Finset.univ fun c : Dev nD => (unscopedRestP pre0 spec0 c (fun b => m (c.tc.loc b)) : sProp 𝕄)) ⊢ bigSep Finset.univ fun c : Dev nD =>
      iprop(weightsP (data m) c ∗ bigSep Finset.univ (fun b => ownAny (F := F) c b) ∗ bigSep Finset.univ (fun j => slabAny (F := F) c j)) := bigSep_mono fun c _ => results_split m c
    rw [BI.bigSep_sep', BI.bigSep_sep'] at h
    exact h
  have hfund : BI.own ((EX : Emb (UX nD τ) 𝕄) (initOf exCells exToks)) ⊢ |==> (iprop((bigSep Finset.univ fun y => roundState EX (Rd (data m)) (exCell y) 0)
      ∗ (bigSep Finset.univ fun y => reached EX (exCell y) 0) ∗ (bigSep Finset.univ fun y => atPos EX (exCell y) 0 ∅ 0) ∗ (bigSep Finset.univ fun y => dutyTok EX (exCell y) 0 ())) : sProp 𝕄) := by
    refine (Rounds.fund EX (Rd (data m)) exCells exToks).trans (bupd_mono (Entails.of_eq ?_))
    unfold exCells exToks
    simp only [BI.bigSep_map]; rfl
  have hinv : iprop((bigSep Finset.univ fun y : Dev nD × (Bool × Msg) => semVal (exCell y) 0) ∗ (bigSep Finset.univ fun y => roundState EX (Rd (data m)) (exCell y) 0))
      ⊢ |={Set.univ}=> (iprop(∃ K : Dev nD × (Bool × Msg) → ℕ, bigSep Finset.univ fun y => cellInv EX (Rd (data m)) (K y) (exCell y)) : sProp 𝕄) :=
    (Entails.of_eq (BI.bigSep_sep' _ _ _).symm).trans
      (((bigSep_mono fun y _ => (Rounds.body_intro EX (Rd (data m)) (exCell y)).trans inv_alloc).trans (bigSep_fupd Finset.univ _)).trans
        (fupd_mono (BI.bigSep_exists_pi Finset.univ (fun (y : Dev nD × (Bool × Msg)) (κ : ℕ) => (cellInv EX (Rd (data m)) κ (exCell y) : sProp 𝕄)))))
  simp only [sems_split, BI.bigSep_sep']
  iintro ⟨#HL, ⟨Hloc, Hsem⟩, Hres, Hu⟩
  ihave Hres2 := hres $$ Hres
  icases Hres2 with ⟨Hw, Hown, Hdst⟩
  imod hfund $$ Hu with ⟨Hst, Hr, Hat, Htok⟩
  ihave Hsem' := (Entails.of_eq (BI.bigSep_univ_prod (fun y : Dev nD × (Bool × Msg) => (semVal (exCell y) 0 : sProp 𝕄))).symm) $$ Hsem
  imod hinv $$ [Hsem' Hst] with ⟨%K, #HI⟩
  · isplitl [Hsem']; · iexact Hsem'
    iexact Hst
  ihave Hat' := (Entails.of_eq (BI.bigSep_univ_prod (fun y : Dev nD × (Bool × Msg) => (atPos EX (exCell y) 0 ∅ 0 : sProp 𝕄)))) $$ Hat
  ihave Htok' := (Entails.of_eq (BI.bigSep_univ_prod (fun y : Dev nD × (Bool × Msg) => (dutyTok EX (exCell y) 0 () : sProp 𝕄)))) $$ Htok
  simp only [by_kind, BI.bigSep_sep']
  icases Hat' with ⟨Has, Har⟩
  icases Htok' with ⟨Hts, Htr⟩
  ihave Htr' := (Entails.of_eq (dealt fun c j => (dutyTok EX (exCell (c, (true, j))) 0 () : sProp 𝕄))) $$ Htr
  ihave Hdst' := (Entails.of_eq (dealt fun c j => (slabAny (F := F) c j : sProp 𝕄))) $$ Hdst
  ihave #HR : records (data m) K $$ [HI Hr]
  · unfold records
    isplitr; · iexact HL
    isplitr; · iexact HI
    iexact Hr
  imodintro
  iapply ((sep_mono_left (BI.bigSep_of_persistent Finset.univ (records (data m) K))).trans
    ((Entails.of_eq (BI.bigSep_sep' Finset.univ (fun _ : Dev nD => records (data m) K) (goods (data m))).symm).trans (bigSep_mono fun c _ => start_intro (data m) K c)))
  isplitr; · iexact HR
  unfold goods
  simp only [BI.bigSep_sep']
  isplitl [Hdst']; · iexact Hdst'
  isplitl [Hts]; · iexact Hts
  isplitl [Htr']; · iexact Htr'
  isplitl [Has]; · iexact Has
  isplitl [Har]; · iexact Har
  isplitl [Hloc]; · iexact Hloc
  isplitl [Hown]; · iexact Hown
  iexact Hw

/-! ### The credit that the launch deals -/

/-- What a device owes at first. -/
abbrev owed0 (c : Dev nD) : CellTallies nD τ sig Unit := owed c (before 0).D

/-- What is owed to device `c` for message `j`. -/
theorem cred_of (c : Dev nD) : (launchCred owed0 c : sProp 𝕄) ⊢ bigSep Finset.univ fun j : Msg => cred (tallyAt (recvCell c j) () (NX j.1)) := by
  rw [show owed0 = fun d => ∑ j ∈ (Finset.univ : Finset Msg), tallyAt (recvCell (mate j d) j) () (NX j.1) from
    funext fun d => Finset.sum_congr (Finset.filter_true_of_mem fun j _ => rfl) fun _ _ => rfl,
    Pipeline.launchCred_sum Finset.univ (fun (j : Msg) (d : Dev nD) => (tallyAt (recvCell (mate j d) j) () (NX j.1) : CellTallies nD τ sig Unit)) c]
  refine bigSep_mono fun j _ => ?_
  refine (Pipeline.launchCred_elim _ c (SemLoc.dma (recvQ j))).trans (Entails.of_eq ?_)
  rw [Pipeline.tallyOn_launchCredit_owing]
  congr 1
  unfold tallyAt
  refine congrArg _ ?_
  refine Finsupp.ext fun u => ?_
  rw [Finset.sum_apply, Finsupp.finset_sum_apply, Finset.sum_eq_single (mate j c)]
  · show tallyAt (recvCell (mate j (mate j c)) j) () (NX j.1) (recvCell c j) u = _
    rw [mate_mate]; cases u; rw [tallyAt_apply]; simp
  · intro d _ hd
    show tallyAt (recvCell (mate j d) j) () (NX j.1) (recvCell c j) u = 0
    cases u; rw [tallyAt_apply, if_neg]
    rintro ⟨h, -⟩
    have h1 : c = mate j d := congrArg (fun g : GSem nD τ sig => g.1.1) h
    exact hd (by rw [h1, mate_mate])
  · intro h; exact absurd (Finset.mem_univ _) h

end Cert.Ga

end
-- ==== Proof.Gather.Launch.lean ====
module

public import proofs.«01_k».proof.Proof.Gather.Body
public import proofs.«01_k».proof.Proof.Gather.Deal

/-!
# The gathering product: the launch

Each device's holdings at the launch, sorted into those of its pipeline and those that the exchange deals.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (Dat PCfg ownSems0 unscopedRestP launchCred owing prefHeld scopedRest arrRef pinD)
open Idealize.ShloMosaic.Pipeline.PerCore (cellsSems0 idleSems0 cellsWaits cellsInit cellsGhost toksInit cells launchToks EntryPre EntryPost)

variable (m : (ℓ : Loc nD τ sig) → Buf (Elt F) ℓ) (hok : Named m)

/-! ### The launch's pipeline, on every device at the contents of its own table -/

def adms (c : Dev nD) : (p : Fin 1) → (pcfgs (F := F) p).Adm
  | 0 => adm m hok c
  | ⟨_ + 1, h⟩ => absurd h (Nat.not_lt.2 (Nat.le_add_left _ _))
abbrev cfgs : Dev nD → Fin 1 → Pipeline.Cfg sig Λ₀ := pinD (pcfgs (F := F)) (adms m hok)
def pdats : (p : Fin 1) → (c : Dev nD) → Dat τ (Elt F) Unit ℕ (UU nD τ) ℕ (cfgs m hok c p) c
  | 0, c => dats m hok 0 c
  | ⟨_ + 1, h⟩, _ => absurd h (Nat.not_lt.2 (Nat.le_add_left _ _))
theorem cells_inj : Function.Injective (Pipeline.PerCore.cellOf (nD := nD) (τ := τ) (cfgs m hok)) :=
  Pipeline.PerCore.cellOf_injective (cfgs m hok) (fun _ p => match p with | 0 => Pipeline.specSemsDistinct_of_nodup spec0 (semsDistinct 0))
    fun _ p p' h => absurd (Subsingleton.elim p p') h
theorem ownFacts (c : Dev nD) : Pipeline.OwnSemFacts (cfgs m hok c 0).spec osem := ownSemFacts
theorem winFacts₀ (c : Dev nD) : Pipeline.WinFacts₀ (cfgs m hok c 0).spec := winFacts0.to₀

abbrev idle (c : Dev nD) : sProp 𝕄 := idleSems0 (cfgs m hok) (cells_inj m hok) 0 (ownFacts m hok) c

theorem sems_eq (c : Dev nD) : (scopedSems0 c.tc : sProp 𝕄) = iprop((cellsSems0 (cfgs m hok) 0 c ∗ ownSems0 osem c) ∗ idle m hok c) :=
  Pipeline.PerCore.scopedSems0_split (cfgs m hok) (cells_inj m hok) 0 (winFacts₀ m hok) (ownFacts m hok) c
theorem bufs_eq (c : Dev nD) : (scopedBufs c.tc : sProp 𝕄) = iprop(Pipeline.Dat.staging (cfgs m hok c 0) c ∗ scopedRest spec0 c) :=
  Pipeline.PerCore.scopedBufs_split (cfgs m hok) 0 c winFacts0.stage_scoped winFacts0.stage_inj stage_whole0
include hok in
theorem arrs_eq (c : Dev nD) : (unscopedBufs c (fun b => m (c.tc.loc b)) : sProp 𝕄)
    = iprop((bigSep Finset.univ fun w => (c.tc.loc (arrRef spec0 w)) ↦{fullShare} m (c.tc.loc (arrRef spec0 w)))
      ∗ prefHeld pre0 c (fun _ => fullShare) (tabs m c) ∗ unscopedRestP pre0 spec0 c (fun b => m (c.tc.loc b))) :=
  (Pipeline.PerCore.unscopedBufs_split (cfgs m hok) 0 c winFacts0.arr_unscoped winFacts0.arr_inj _).trans
    (congrArg _ (Pipeline.unscopedRest_split preFacts0 c _))

/-! ### What a device holds at the start of the launch -/

/-- A device's holdings, but for those that the exchange deals. -/
def mine (c : Dev nD) : sProp 𝕄 :=
  iprop(scopedBufs c.tc ∗ cellsSems0 (cfgs m hok) 0 c ∗ idle m hok c
    ∗ (bigSep Finset.univ fun w => (c.tc.loc (arrRef spec0 w)) ↦{fullShare} m (c.tc.loc (arrRef spec0 w)))
    ∗ prefHeld pre0 c (fun _ => fullShare) (tabs m c) ∗ owes c.tc (owed0 c) ∅ ∗ launchCred owed0 c)

theorem core_split (g : Dev nD → PrngReg) (c : Dev nD) :
    (coreInit (owing owed0) 0 (⟨m, fun _ => 0, g⟩ : MemSt nD τ sig (Elt F)) c.tc : sProp 𝕄)
      ⊢ iprop(mine m hok c ∗ ownSems0 osem c ∗ unscopedRestP pre0 spec0 c (fun b => m (c.tc.loc b)) ∗ levels0 c) := by
  refine (Pipeline.coreInit_boundary_owing owed0 m g c).trans ?_
  unfold boundary mine
  rw [sems_eq m hok c, arrs_eq m hok c]
  iintro ⟨⟨Hb, ⟨⟨Hc, Ho⟩, Hi⟩, -⟩, ⟨Ha, Hp, Hr⟩, -, HO, Hl, -, Hcr⟩
  isplitr [Ho Hr Hl]
  · isplitl [Hb]; · iexact Hb
    isplitl [Hc]; · iexact Hc
    isplitl [Hi]; · iexact Hi
    isplitl [Ha]; · iexact Ha
    isplitl [Hp]; · iexact Hp
    isplitl [HO]; · iexact HO
    iexact Hcr
  isplitl [Ho]; · iexact Ho
  isplitl [Hr]; · iexact Hr
  iexact Hl

/-- The levels of the machine's semaphores are set. -/
theorem levels_set : (bigSep Finset.univ fun c : Dev nD => (levels0 c : sProp 𝕄)) ⊢ |==> levAts L lv := by
  have h1 : (levAts L lv : sProp 𝕄) = bigSep Finset.univ fun c : Dev nD => coreLevAts c.tc L lv := by
    have h0 : (levAts L lv : sProp 𝕄) = bigSep Finset.univ fun c : Thread nD τ => coreLevAts c L lv :=
      BI.bigSep_univ_prod fun g : GSem nD τ sig => bigSep (L g) fun ι => levAt g ι (lv g ι)
    have hz (d : Dev nD) : (bigSep (Finset.univ.erase Proc.tc) fun p => (coreLevAts ((d, p) : Thread nD τ) L lv : sProp 𝕄)) = BI.emp :=
      (BI.bigSep_congr (Ψ := fun _ : Proc τ => (BI.emp : sProp 𝕄)) fun p hp =>
        (BI.bigSep_congr (Ψ := fun _ : SemLoc sig => (BI.emp : sProp 𝕄)) fun sm _ => by
          rw [L_of_ne (((d, p) : Thread nD τ), sm) (Finset.ne_of_mem_erase hp), BI.bigSep_empty]).trans (BI.bigSep_emp_const _)).trans (BI.bigSep_emp_const _)
    rw [h0, bigSep_threads (fun c : Thread nD τ => coreLevAts c L lv)]
    simp only [hz, BI.bigSep_emp_const]
    exact equiv_iff.mp BI.sep_emp
  have h2 (c : Dev nD) : (iprop((bigSep Finset.univ fun sm : SemLoc sig => levels (c.tc, sm) (L (c.tc, sm))) ∗ coreLevAts c.tc L lv) : sProp 𝕄)
      ⊢ coreLevAts c.tc L lv := by iintro ⟨-, H⟩; iexact H
  rw [h1]
  exact (bigSep_mono fun (c : Dev nD) _ => (lev_assign_cells c.tc L lv).trans (BI.bupd_mono (h2 c))).trans (BI.bigSep_bupd _ _)

/-- The ghost state of the launch: the pipelines', and the exchange's. -/
def u₀ : UU nD τ := (initOf (cells (cfgs m hok) (cells_inj m hok)) (launchToks (cfgs m hok) (cells_inj m hok)), (initOf exCells exToks, 1))

theorem own_split (a : UR sig nD τ) (b : UX nD τ) :
    (ownU ((a, (b, 1)) : UU nD τ) : sProp 𝕄) ⊢ iprop(BI.own ((EP : Emb (UR sig nD τ) 𝕄) a) ∗ BI.own ((EX : Emb (UX nD τ) 𝕄) b)) :=
  BI.own_op_elim ((uEmb (nD := nD) (sig := sig) (Ix := Unit) (Val := Elt F) (Name := ℕ) (U := UU nD τ) (Lvl := ℕ)).toEmb.op_of_mem
    (Prod.mk_mem_op (URA.mem_op_one a) (URA.mem_one_op (b, 1))))

/-- What device `c` runs from. -/
def pre (c : Dev nD) : sProp 𝕄 :=
  iprop(mine m hok c ∗ levAts L lv ∗ cellsGhost (cfgs m hok) EP 0 c ∗ toksInit (cfgs m hok) EP 0 c ∗ start (data m) c)

theorem launched (g : Dev nD → PrngReg) :
    iprop((bigSep Finset.univ fun c : Dev nD => (coreInit (owing owed0) 0 (⟨m, fun _ => 0, g⟩ : MemSt nD τ sig (Elt F)) c.tc : sProp 𝕄)) ∗ ownU (u₀ m hok))
      ⊢ |={Set.univ}=> (bigSep Finset.univ (pre m hok) : sProp 𝕄) := by
  have hc : (bigSep Finset.univ fun c : Dev nD => (coreInit (owing owed0) 0 (⟨m, fun _ => 0, g⟩ : MemSt nD τ sig (Elt F)) c.tc : sProp 𝕄))
      ⊢ iprop((bigSep Finset.univ (mine m hok)) ∗ (bigSep Finset.univ fun c : Dev nD => ownSems0 osem c)
        ∗ (bigSep Finset.univ fun c : Dev nD => unscopedRestP pre0 spec0 c (fun b => m (c.tc.loc b))) ∗ (bigSep Finset.univ fun c : Dev nD => levels0 c)) := by
    refine (bigSep_mono fun c _ => core_split m hok g c).trans ?_
    simp only [BI.bigSep_sep']
    exact BI.Entails.refl _
  have hone (Φ : Fin 1 → Dev nD → sProp 𝕄) : (bigSep Finset.univ fun c : Dev nD => bigSep Finset.univ fun p => Φ p c) ⊢ bigSep Finset.univ fun c : Dev nD => Φ 0 c :=
    bigSep_mono fun c _ => bigSep_elim (Finset.mem_univ 0)
  unfold u₀
  iintro ⟨Hcores, Hu⟩
  ihave H := hc $$ Hcores
  icases H with ⟨Hm, Hs, Hr, Hl⟩
  ihave H := (own_split _ _) $$ Hu
  icases H with ⟨HP, HX⟩
  imod (levels_set (F := F)) $$ Hl with #HL
  imod (Pipeline.PerCore.fund_ghost (cfgs m hok) EP (cells_inj m hok)) $$ HP with ⟨Hg, Ht⟩
  imod (deal m) $$ [Hs Hr HX] with Hst
  · isplitr; · iexact HL
    isplitl [Hs]; · iexact Hs
    isplitl [Hr]; · iexact Hr
    iexact HX
  imodintro
  unfold pre
  simp only [BI.bigSep_sep']
  isplitl [Hm]; · iexact Hm
  isplitr; · iapply (BI.bigSep_of_persistent (Finset.univ : Finset (Dev nD)) (levAts L lv)); iexact HL
  isplitl [Hg]; · iapply (hone fun p c => cellsGhost (cfgs m hok) EP p c); iexact Hg
  isplitl [Ht]; · iapply (hone fun p c => toksInit (cfgs m hok) EP p c); iexact Ht
  iexact Hst

end Cert.Ga

end
-- ==== Proof.Gather.Ends.lean ====
module

public import proofs.«01_k».proof.Proof.Gather.Launch

/-!
# The gathering product: the first grid point and the last

What the launch deals is what the grid begins with, and what it ends with goes back to the launch.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (ownSems0 launchCred prefHeld scopedRest)

variable (m : (ℓ : Loc nD τ sig) → Buf (Elt F) ℓ) (c : Dev nD)

/-! ### Before the first grid point and after the last -/

theorem msgs_first : (before 0).D = fun _ => 0 := by decide
theorem arrs_first : (before 0).A = fun _ => 0 := by decide
theorem loads_first : (before 0).L = ![4, 4, 0, 0, 0, 0, 0, 0] := by decide
theorem copies_first : (before 0).C = fun _ => 0 := by decide
theorem msgs_last : (before 64).D = fun _ => 2 := by decide
theorem arrs_last : (before 64).A = fun j => if j.1 then 1 else 3 := by decide
theorem loads_last : (before 64).L = ![3, 3, 3, 3, 3, 3, 2, 2] := by decide
theorem copies_last : (before 64).C = fun _ => 2 := by decide

/-- The loads before the first point: two free slots, and the device's own weights to load from. -/
theorem loads_begin (x : Data F) : iprop(idleSlot (F := F) c 0 ∗ idleSlot (F := F) c 1 ∗ from_ x c 0) ⊢ bigSep Finset.univ (fun k => load x c k ((before 0).L k)) := by
  have e0 : load x c 0 (![4, 4, 0, 0, 0, 0, 0, 0] 0) = iprop(idleSlot (F := F) c 0 ∗ from_ x c 0) := rfl
  have e1 : load x c 1 (![4, 4, 0, 0, 0, 0, 0, 0] 1) = iprop(idleSlot (F := F) c 1 ∗ emp) := rfl
  have e2 : load x c 2 (![4, 4, 0, 0, 0, 0, 0, 0] 2) = iprop(emp) := rfl
  have e3 : load x c 3 (![4, 4, 0, 0, 0, 0, 0, 0] 3) = iprop(emp) := rfl
  have e4 : load x c 4 (![4, 4, 0, 0, 0, 0, 0, 0] 4) = iprop(emp) := rfl
  have e5 : load x c 5 (![4, 4, 0, 0, 0, 0, 0, 0] 5) = iprop(emp) := rfl
  have e6 : load x c 6 (![4, 4, 0, 0, 0, 0, 0, 0] 6) = iprop(emp) := rfl
  have e7 : load x c 7 (![4, 4, 0, 0, 0, 0, 0, 0] 7) = iprop(emp) := rfl
  rw [loads_first, bigSep_eight, e0, e1, e2, e3, e4, e5, e6, e7]
  iintro ⟨H0, H1, Hf⟩
  isplitl [H0 Hf]
  · isplitl [H0]; · iexact H0
    iexact Hf
  isplitl [H1]
  · isplitl [H1]; · iexact H1
    iempintro
  isplitr; · iempintro
  isplitr; · iempintro
  isplitr; · iempintro
  isplitr; · iempintro
  isplitr; · iempintro
  iempintro

/-- What the launch deals is what holds before the first grid point. -/
theorem begins : iprop((start (data m) c ∗ launchCred owed0 c) ∗ prefHeld pre0 c (fun _ => fullShare.right) (tabs m c) ∗ scopedRest spec0 c)
    ⊢ Phi m c 0 := by
  unfold Phi held start
  rw [scopedRest0_eq, msgs_first, arrs_first, copies_first]
  rw [show (fun j => arrive (data m) c j 0) = fun j => iprop(cred (tallyAt (recvCell c j) () (NX j.1)) ∗ atPos EX (recvCell c j) 0 ∅ 0) from rfl, BI.bigSep_sep', bigSep_two]
  iintro ⟨⟨⟨HK, Hd, Ha, Hc, ⟨Hq0, Hq1⟩, Hf, Hkept⟩, Hcr⟩, -, Hs⟩
  ihave Hcr' := (cred_of (F := F) c) $$ Hcr
  ihave Hs' := (split_slots (F := F) c) $$ Hs
  icases Hs' with ⟨Hs0, Hs1⟩
  isplitl [HK]; · iexact HK
  isplitr [Hkept]; swap; · iexact Hkept
  isplitl [Hd]; · iexact Hd
  isplitl [Hcr' Ha]
  · isplitl [Hcr']; · iexact Hcr'
    iexact Ha
  isplitr [Hc]; swap; · iexact Hc
  iapply (loads_begin c (data m))
  unfold idleSlot slotAny
  isplitl [Hs0 Hq0]
  · isplitl [Hs0]; · iexact Hs0
    iexact Hq0
  isplitl [Hs1 Hq1]
  · isplitl [Hs1]; · iexact Hs1
    iexact Hq1
  iexact Hf

/-- What the launch leaves on a device: its copies of its own weights, those that it was sent, and its weights. -/
def result : sProp 𝕄 :=
  iprop(bigSep Finset.univ (fun b => owns c.tc (slabM c b) fullShare (mineV (data m) c b))
    ∗ bigSep Finset.univ (fun r : Fin 7 => from_ (data m) c r.succ)
    ∗ bigSep Finset.univ (fun r : Fin 7 => owns c.tc (dst (mate (true, r) c) (true, r)) fullShare.right (msg (data m) (mate (true, r) c) (true, r)))
    ∗ keptP (data m) c)

/-- The loads after the last point. -/
theorem loads_end (x : Data F) : bigSep Finset.univ (fun k => load x c k ((before 64).L k))
    ⊢ iprop(bigSep Finset.univ (fun r : Fin 7 => from_ x c r.succ) ∗ (slotAny (F := F) c 0 ∗ slotAny (F := F) c 1)
      ∗ semVal (c.tc, SemLoc.dma (slotQ 0)) 0 ∗ semVal (c.tc, SemLoc.dma (slotQ 1)) 0) := by
  have e0 : load x c 0 (![3, 3, 3, 3, 3, 3, 2, 2] 0) = from_ x c 0 := rfl
  have e1 : load x c 1 (![3, 3, 3, 3, 3, 3, 2, 2] 1) = from_ x c 1 := rfl
  have e2 : load x c 2 (![3, 3, 3, 3, 3, 3, 2, 2] 2) = from_ x c 2 := rfl
  have e3 : load x c 3 (![3, 3, 3, 3, 3, 3, 2, 2] 3) = from_ x c 3 := rfl
  have e4 : load x c 4 (![3, 3, 3, 3, 3, 3, 2, 2] 4) = from_ x c 4 := rfl
  have e5 : load x c 5 (![3, 3, 3, 3, 3, 3, 2, 2] 5) = from_ x c 5 := rfl
  have e6 : load x c 6 (![3, 3, 3, 3, 3, 3, 2, 2] 6) = iprop(owns c.tc (slotM 0) fullShare (x.w (gm c 6)) ∗ semVal (c.tc, SemLoc.dma (slotQ 0)) 0 ∗ from_ x c 6) := rfl
  have e7 : load x c 7 (![3, 3, 3, 3, 3, 3, 2, 2] 7) = iprop(owns c.tc (slotM 1) fullShare (x.w (gm c 7)) ∗ semVal (c.tc, SemLoc.dma (slotQ 1)) 0 ∗ from_ x c 7) := rfl
  rw [loads_last, bigSep_eight, e0, e1, e2, e3, e4, e5, e6, e7, bigSep_seven]
  unfold slotAny
  iintro ⟨-, H1, H2, H3, H4, H5, ⟨Hs0, Hq0, H6⟩, ⟨Hs1, Hq1, H7⟩⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [Hs0 Hs1]
  · isplitl [Hs0]; · iexists _; iexact Hs0
    iexists _; iexact Hs1
  isplitl [Hq0]; · iexact Hq0
  iexact Hq1

/-- The arrivals after the last point. -/
theorem arrs_end (x : Data F) : bigSep Finset.univ (fun j => arrive x c j ((before 64).A j))
    ⊢ iprop(bigSep Finset.univ (fun j => semVal (recvCell c j) 0)
      ∗ bigSep Finset.univ (fun r : Fin 7 => owns c.tc (dst (mate (true, r) c) (true, r)) fullShare.right (msg x (mate (true, r) c) (true, r)))) := by
  rw [arrs_last, bigSep_msg, bigSep_msg]
  rw [show (fun r : Fin 7 => arrive x c (false, r) (if (false, r).1 then 1 else 3)) = fun r => semVal (recvCell c (false, r)) 0 from rfl,
    show (fun r : Fin 7 => arrive x c (true, r) (if (true, r).1 then 1 else 3)) = fun r => iprop(semVal (recvCell c (true, r)) 0
      ∗ owns c.tc (dst (mate (true, r) c) (true, r)) fullShare.left (msg x (mate (true, r) c) (true, r))
      ∗ owns c.tc (dst (mate (true, r) c) (true, r)) fullShare.right (msg x (mate (true, r) c) (true, r))) from rfl, BI.bigSep_sep', BI.bigSep_sep']
  iintro ⟨Hf, Ht, -, Hr⟩
  isplitl [Hf Ht]
  · isplitl [Hf]; · iexact Hf
    iexact Ht
  iexact Hr

theorem ends : Phi m c 64 ⊢ iprop(result m c ∗ ownSems0 osem c ∗ scopedRest spec0 c) := by
  unfold Phi held result
  rw [scopedRest0_eq, sems_split, by_kind, msgs_last, copies_last]
  rw [show (fun b => copy (data m) c b 2) = fun b => iprop(owns c.tc (slabM c b) fullShare (mineV (data m) c b) ∗ semVal (c.tc, SemLoc.dma (ownQ b)) 0) from rfl, BI.bigSep_sep']
  unfold localSems
  rw [bigSep_two]
  iintro ⟨-, ⟨Hd, Ha, Hl, ⟨Ho, Hoq⟩⟩, Hkept⟩
  ihave Ha' := (arrs_end c (data m)) $$ Ha
  icases Ha' with ⟨Har, Hland⟩
  ihave Hl' := (loads_end c (data m)) $$ Hl
  icases Hl' with ⟨Hfrom, Hslots, Hq0, Hq1⟩
  isplitl [Ho Hland Hfrom Hkept]
  · isplitl [Ho]; · iexact Ho
    isplitl [Hfrom]; · iexact Hfrom
    isplitl [Hland]; · iexact Hland
    iexact Hkept
  isplitl [Hd Har Hoq Hq0 Hq1]
  · isplitl [Hoq Hq0 Hq1]
    · isplitl [Hoq]; · iexact Hoq
      isplitl [Hq0]; · iexact Hq0
      iexact Hq1
    isplitl [Hd]; · iexact Hd
    iexact Har
  iapply (join_slots (F := F) c)
  iexact Hslots

end Cert.Ga

end
-- ==== Proof.Gather.CoreRun.lean ====
module

public import proofs.«01_k».proof.Proof.Gather.Ends

/-!
# The gathering product: one device's run

A device's run from what the launch gives it.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (Dat ownSems0 launchCred prefHeld scopedRest arrRef owing)
open Idealize.ShloMosaic.Pipeline.PerCore (cellsSems0 cellsWaits cellsInit cellsGhost toksInit EntryPre EntryPost)

variable (m : (ℓ : Loc nD τ sig) → Buf (Elt F) ℓ) (hok : Named m) (c : Dev nD)

theorem stage_low : ∀ (w : Fin 2) (s : Fin (spec0 w).nbuf), lvO (dec ((spec0 w).sem s)) = 0 := by decide

/-- A device may wait for its staged blocks whatever it owes. -/
theorem may_stage : (levAts L lv : sProp 𝕄) ⊢ cellsWaits (cfgs m hok) (pdats m hok) () 0 c :=
  Pipeline.PerCore.cellsWaits_intro (cfgs m hok) (pdats m hok) () 0 c fun w s t => mayWait_low c (before t.val).D _ (stage_low w s)

/-- The input that blocks are staged from and the product that they are staged to, at contents `A`. -/
abbrev staged (A : (w : Fin 2) → Buf (Elt F) ((c : Thread nD τ).loc (arrRef spec0 w))) : sProp 𝕄 := bigSep Finset.univ fun w : Fin 2 => ((c : Thread nD τ).loc (arrRef spec0 w)) ↦{fullShare} A w

theorem staged_eq (A : (w : Fin 2) → Buf (Elt F) ((c : Thread nD τ).loc (arrRef spec0 w))) : (pdats m hok 0 c).arrays A = staged c A :=
  Pipeline.PerCore.arrays_eq (cfgs m hok) (pdats m hok) 0 c arr_whole0 (fun w => match w with | 0 => rfl | 1 => rfl | ⟨_ + 2, h⟩ => absurd h (Nat.not_lt.2 (Nat.le_add_left _ _))) _

/-- Their contents at the end. -/
abbrev ended (w : Fin 2) : Buf (Elt F) ((c : Thread nD τ).loc (arrRef spec0 w)) := (dats m hok 0 c).arrAt w grid0.N

/-- The input is only read. -/
theorem ended_input : ended m hok c 0 = m (c.tc.loc main_arg1) := (dats m hok 0 c).arrAt_in 0 rfl _

/-- What is read of device `c` when every device has run. -/
def fin : sProp 𝕄 :=
  iprop(staged c (ended m hok c) ∗ prefHeld pre0 c (fun _ => fullShare.left) (tabs m c) ∗ result m c ∗ scopedSems0 c.tc)

theorem main_eq : main (F := F) c = .op (.customCall (Pipeline.entry 0) ()) fun _ => .ret ⟨⟩ := rfl

theorem Phi_first : (pdats m hok 0 c).Φ 0 = Phi m c 0 := rfl
theorem Phi_last : (pdats m hok 0 c).Φ (Fin.last (cfgs m hok c 0).N) = Phi m c 64 := congrArg (Phi m c) N_0
theorem owed_first : (pdats m hok 0 c).owed 0 = owed0 c := rfl
theorem owed_last : (pdats m hok 0 c).owed (Fin.last (cfgs m hok c 0).N) = 0 :=
  (congrArg (fun n => owed c (before n).D) N_0).trans (owed_none c _ fun j => by rw [msgs_last]; exact (by decide : (2 : Fin 3) ≠ 0))

/-- After the last grid point the device's semaphores and scratch buffers are back. -/
theorem leave : iprop((pdats m hok 0 c).Φ (Fin.last (cfgs m hok c 0).N) ∗ cellsSems0 (cfgs m hok) 0 c ∗ Pipeline.Dat.staging (cfgs m hok c 0) c ∗ idle m hok c)
    ⊢ iprop(result m c ∗ scopedSems0 c.tc ∗ scopedBufs c.tc) := by
  rw [sems_eq m hok c, bufs_eq m hok c, Phi_last m hok c]
  iintro ⟨HΦ, Hcells, Hst, Hidle⟩
  ihave H := (ends m c) $$ HΦ
  icases H with ⟨HY, Hos, Hrest⟩
  isplitl [HY]; · iexact HY
  isplitl [Hcells Hos Hidle]
  · isplitl [Hcells Hos]
    · isplitl [Hcells]; · iexact Hcells
      iexact Hos
    iexact Hidle
  isplitl [Hst]; · iexact Hst
  iexact Hrest

/-- What the launch gives a device is what its pipeline enters with. -/
theorem enter (κ : GSem nD τ sig → ℕ) :
    iprop(staged c (fun w => m (c.tc.loc (arrRef spec0 w))) ∗ owes c.tc (owed0 c) ∅ ∗ levAts L lv ∗ cellsInit (cfgs m hok) (pdats m hok) EP κ 0 c ∗ toksInit (cfgs m hok) EP 0 c)
      ⊢ EntryPre (cfgs m hok) (pdats m hok) () EP κ 0 c := by
  unfold EntryPre Dat.owesAt Pipeline.owesWithin
  iintro ⟨Harr, HO, HL, Hinit, Ht⟩
  isplitl [Harr]; · iapply (Entails.of_eq (staged_eq m hok c _).symm); iexact Harr
  isplitl [HO]
  · iexists ∅
    isplitr; swap; · iexact HO
    ipureintro; rw [Finset.coe_empty]; exact Set.empty_subset _
  isplitl [HL]; · iapply (may_stage m hok c); iexact HL
  isplitl [Hinit]; · iexact Hinit
  iexact Ht

/-- What the pipeline leaves. -/
theorem left : EntryPost (cfgs m hok) (pdats m hok) () 0 c ⊢ iprop(staged c (ended m hok c) ∗ ∃ W, owes c.tc 0 W) := by
  unfold EntryPost Dat.owesAt Pipeline.owesWithin
  rw [owed_last m hok c, staged_eq m hok c]
  iintro ⟨Ha, ⟨%W, -, HW⟩⟩
  isplitl [Ha]; · iexact Ha
  iexists W; iexact HW

/-- Device `c`'s run. -/
theorem core_run : pre m hok c ⊢ wp frame (wpE (defs (F := F)) (Variants.lift Variants.none) c.tc none) Set.univ (main c)
    (fun _ => post (liftTc (fin m hok) BI.emp) c.tc) := by
  have hrun (κ : GSem nD τ sig → ℕ) := Pipeline.PerCore.wp_customCall_entry_frame (pcfgs (F := F)) (adms m hok) (pdats m hok) () EP κ (cells_inj m hok) 0 (defs₀ (F := F)) Variants.none
      (fun _ => fullShare.right) c Set.univ (fun _ _ => Set.mem_univ _) (body_obligation m hok c).loose block_pos0 none (fun u h => nomatch h)
      (X := iprop(start (data m) c ∗ launchCred owed0 c)) (Y := result m c) (R := scopedRest spec0 c) (I := idle m hok c)
      (Entails.of_eq (bufs_eq m hok c)) (begins m c) (leave m hok c)
      (k := fun _ => .ret PUnit.unit) (Q := fun _ => post (liftTc (fin m hok) BI.emp) c.tc)
  rw [main_eq]
  unfold pre mine
  iintro ⟨⟨Hb, Hcells, Hidle, Harr, Hp, HO, Hcr⟩, #HL, Hg, Ht, Hst⟩
  ihave Hp2 := ((Pipeline.prefHeld_share pre0 c (PosShare.mem_left_op_right fullShare) (tabs m c)).1) $$ Hp
  icases Hp2 with ⟨Hpl, Hpr⟩
  iapply (fupd_wp frame (wpE (defs (F := F)) (Variants.lift Variants.none) c.tc none) Set.univ _ _)
  imod (Pipeline.PerCore.cellsInit_alloc (cfgs m hok) (pdats m hok) EP (cells_inj m hok) 0 c) $$ [Hcells Hg] with ⟨%κ, -, Hinit⟩
  · isplitl [Hcells]; · iexact Hcells
    iexact Hg
  ihave He := (enter m hok c κ) $$ [Harr HO Hinit Ht]
  · isplitl [Harr]; · iexact Harr
    isplitl [HO]; · iexact HO
    isplitr; · iexact HL
    isplitl [Hinit]; · iexact Hinit
    iexact Ht
  imodintro
  iapply (hrun κ) $$ [He Hpr Hst Hcr Hidle Hb]
  · isplitl [He]; · iexact He
    isplitl [Hpr]; · iexact Hpr
    isplitl [Hst Hcr]
    · isplitl [Hst]; · iexact Hst
      iexact Hcr
    isplitl [Hidle]; · iexact Hidle
    iexact Hb
  iintro ⟨Hpost, HY, Hss, -⟩
  ihave H := (left m hok c) $$ Hpost
  icases H with ⟨Ha, HW⟩
  rw [wp_ret]; imodintro
  unfold post
  simp only [liftTc_tc, fin]
  isplitr [HW]; swap; · iexact HW
  isplitl [Ha]; · iexact Ha
  isplitl [Hpl]; · iexact Hpl
  isplitl [HY]; · iexact HY
  iexact Hss

end Cert.Ga

end
-- ==== Proof.Gather.Run.lean ====
module

public import proofs.«01_k».proof.Proof.Gather.CoreRun
public import Idealize.ShloMosaic.Lib.Quiescent

/-!
# The gathering product: the run

What every run of the launch leaves.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

local notation "𝕄" => MT nD τ sig Unit (Elt F) ℕ (UU nD τ) ℕ

open Pipeline (prefHeld arrRef owing)

variable (m : (ℓ : Loc nD τ sig) → Buf (Elt F) ℓ) (hok : Named m) (c : Dev nD)

/-! ### Reading the memory that the devices leave -/

section Reads
variable (s' : Phys nD τ sig (Elt F))

theorem read_at {ℓ : Loc nD τ sig} {I : Finset (Idx ℓ)} {q : PosShare TreeShare} {f : Buf (Elt F) ℓ} :
    (iprop((ℓ ↦[I]{q} f) ∗ SI s') : sProp 𝕄) ⊢ (⌜∀ i ∈ I, s'.mem.mem ℓ i = f i⌝ : sProp 𝕄) := sep_comm.1.trans SI_pointsTo_agree

theorem read_owns {sp : Space} {s : Shape} (M : Memref sig .tc sp s .bf16) (q : PosShare TreeShare) (y : s.Idx → Elt F .bf16) :
    (iprop(owns (c : Thread nD τ) M q y ∗ SI s') : sProp 𝕄) ⊢ (⌜M.view.read (Elt F) (s'.mem.mem (M.view.loc (c : Thread nD τ))) = y⌝ : sProp 𝕄) := by
  unfold owns
  iintro ⟨⟨%f, %hf, H⟩, HS⟩
  ihave %h := (read_at s') $$ [H HS]
  · isplitl [H]; · iexact H
    iexact HS
  ipureintro
  rw [← hf]
  exact View.read_congr h

theorem read_staged (w : Fin 2) : (iprop(fin m hok c ∗ SI s') : sProp 𝕄) ⊢ (⌜s'.mem.mem ((c : Thread nD τ).loc (arrRef spec0 w)) = ended m hok c w⌝ : sProp 𝕄) := by
  refine (show _ ⊢ iprop((((c : Thread nD τ).loc (arrRef spec0 w)) ↦{fullShare} ended m hok c w) ∗ SI s') from ?_).trans
    ((read_at s').trans (BI.pure_mono fun h => funext fun i => h i (Finset.mem_univ i)))
  have hw : (staged c (ended m hok c) : sProp 𝕄) ⊢ (((c : Thread nD τ).loc (arrRef spec0 w)) ↦{fullShare} ended m hok c w) := bigSep_elim (Finset.mem_univ w)
  unfold fin
  iintro ⟨⟨H, -⟩, HS⟩
  isplitl [H]; · iapply hw; iexact H
  iexact HS

theorem read_table : (iprop(fin m hok c ∗ SI s') : sProp 𝕄) ⊢ (⌜s'.mem.mem ((c : Thread nD τ).loc main_arg0) = m ((c : Thread nD τ).loc main_arg0)⌝ : sProp 𝕄) := by
  refine (show _ ⊢ iprop((((c : Thread nD τ).loc main_arg0) ↦{fullShare.left} m ((c : Thread nD τ).loc main_arg0)) ∗ SI s') from ?_).trans
    ((read_at s').trans (BI.pure_mono fun h => funext fun i => h i (Finset.mem_univ i)))
  have hw : (prefHeld pre0 c (fun _ => fullShare.left) (tabs m c) : sProp 𝕄) ⊢ (((c : Thread nD τ).loc main_arg0) ↦{fullShare.left} m ((c : Thread nD τ).loc main_arg0)) :=
    bigSep_elim (Finset.mem_univ (0 : Fin 1))
  unfold fin
  iintro ⟨⟨-, H, -⟩, HS⟩
  isplitl [H]; · iapply hw; iexact H
  iexact HS

/-- The device's weights as they were. -/
theorem read_in : (iprop(fin m hok c ∗ SI s') : sProp 𝕄) ⊢ (⌜s'.mem.mem ((c : Thread nD τ).loc main_arg2) = m ((c : Thread nD τ).loc main_arg2)⌝ : sProp 𝕄) := by
  refine (show _ ⊢ iprop(owns (c : Thread nD τ) wInM (part 9) ((data m).w c) ∗ SI s') from ?_).trans ((read_owns c s' wInM _ _).trans (BI.pure_mono fun h => ?_))
  · unfold fin result keptP
    iintro ⟨⟨-, -, ⟨-, -, -, H, -⟩, -⟩, HS⟩
    isplitl [H]; · iexact H
    iexact HS
  · rw [View.read_whole] at h; exact h
theorem read_out : (iprop(fin m hok c ∗ SI s') : sProp 𝕄) ⊢ (⌜s'.mem.mem ((c : Thread nD τ).loc main_arg3) = m ((c : Thread nD τ).loc main_arg3)⌝ : sProp 𝕄) := by
  refine (show _ ⊢ iprop(owns (c : Thread nD τ) wOutM (part 9) ((data m).wo c) ∗ SI s') from ?_).trans ((read_owns c s' wOutM _ _).trans (BI.pure_mono fun h => ?_))
  · unfold fin result keptP
    iintro ⟨⟨-, -, ⟨-, -, -, -, H⟩, -⟩, HS⟩
    isplitl [H]; · iexact H
    iexact HS
  · rw [View.read_whole] at h; exact h

theorem in_onto : ∀ (c : Dev nD) (b : Fin 8), b = c ∨ ∃ r : Fin 7, b = gm c r.succ := by decide
theorem out_onto : ∀ (c : Dev nD) (b : Fin 8), b = c ∨ ∃ r : Fin 7, b = mate (true, r) c := by decide

/-- The gathered input weights: its own slab, or one that was sent to it. -/
theorem read_wf (b : Fin 8) : (iprop(fin m hok c ∗ SI s') : sProp 𝕄)
    ⊢ (⌜(wfAt b).view.read (Elt F) (s'.mem.mem ((wfAt b).view.loc (c : Thread nD τ))) = (data m).w b⌝ : sProp 𝕄) := by
  rcases in_onto c b with rfl | ⟨r, rfl⟩
  · have hb : (bigSep Finset.univ (fun k => owns (b : Thread nD τ) (slabM b k) fullShare (mineV (data m) b k)) : sProp 𝕄) ⊢ owns (b : Thread nD τ) (wfAt b) fullShare ((data m).w b) := bigSep_elim (Finset.mem_univ false)
    refine (show _ ⊢ iprop(owns (b : Thread nD τ) (wfAt b) fullShare ((data m).w b) ∗ SI s') from ?_).trans (read_owns b s' (wfAt b) _ _)
    unfold fin result
    iintro ⟨⟨-, -, ⟨H, -⟩, -⟩, HS⟩
    isplitl [H]; · iapply hb; iexact H
    iexact HS
  · have hb : (bigSep Finset.univ (fun r : Fin 7 => from_ (data m) c r.succ) : sProp 𝕄) ⊢ owns (c : Thread nD τ) (wfAt (gm c r.succ)) fullShare.right ((data m).w (gm c r.succ)) := bigSep_elim (Finset.mem_univ r)
    refine (show _ ⊢ iprop(owns (c : Thread nD τ) (wfAt (gm c r.succ)) fullShare.right ((data m).w (gm c r.succ)) ∗ SI s') from ?_).trans (read_owns c s' (wfAt (gm c r.succ)) _ _)
    unfold fin result
    iintro ⟨⟨-, -, ⟨-, H, -⟩, -⟩, HS⟩
    isplitl [H]; · iapply hb; iexact H
    iexact HS
/-- The gathered output weights. -/
theorem read_wof (b : Fin 8) : (iprop(fin m hok c ∗ SI s') : sProp 𝕄)
    ⊢ (⌜(wofAt b).view.read (Elt F) (s'.mem.mem ((wofAt b).view.loc (c : Thread nD τ))) = (data m).wo b⌝ : sProp 𝕄) := by
  rcases out_onto c b with rfl | ⟨r, rfl⟩
  · have hb : (bigSep Finset.univ (fun k => owns (b : Thread nD τ) (slabM b k) fullShare (mineV (data m) b k)) : sProp 𝕄) ⊢ owns (b : Thread nD τ) (wofAt b) fullShare ((data m).wo b) := bigSep_elim (Finset.mem_univ true)
    refine (show _ ⊢ iprop(owns (b : Thread nD τ) (wofAt b) fullShare ((data m).wo b) ∗ SI s') from ?_).trans (read_owns b s' (wofAt b) _ _)
    unfold fin result
    iintro ⟨⟨-, -, ⟨H, -⟩, -⟩, HS⟩
    isplitl [H]; · iapply hb; iexact H
    iexact HS
  · have hb : (bigSep Finset.univ (fun r : Fin 7 => owns (c : Thread nD τ) (dst (mate (true, r) c) (true, r)) fullShare.right (msg (data m) (mate (true, r) c) (true, r))) : sProp 𝕄)
        ⊢ owns (c : Thread nD τ) (wofAt (mate (true, r) c)) fullShare.right ((data m).wo (mate (true, r) c)) := bigSep_elim (Finset.mem_univ r)
    refine (show _ ⊢ iprop(owns (c : Thread nD τ) (wofAt (mate (true, r) c)) fullShare.right ((data m).wo (mate (true, r) c)) ∗ SI s') from ?_).trans (read_owns c s' (wofAt (mate (true, r) c)) _ _)
    unfold fin result
    iintro ⟨⟨-, -, ⟨-, -, H, -⟩, -⟩, HS⟩
    isplitl [H]; · iapply hb; iexact H
    iexact HS

theorem read_sems : (iprop(fin m hok c ∗ SI s') : sProp 𝕄) ⊢ (⌜∀ sm : SemLoc sig, sm.isScoped .tc = true → s'.mem.sem ((c : Thread nD τ), sm) = 0⌝ : sProp 𝕄) := by
  refine (show _ ⊢ iprop(scopedSems0 (c : Thread nD τ) ∗ SI s') from ?_).trans (tcScoped_read c s')
  unfold fin
  iintro ⟨⟨-, -, -, H⟩, HS⟩
  isplitl [H]; · iexact H
  iexact HS

end Reads

/-! ### The run -/

/-- What a run leaves on a device: its arguments as they were, the product's blocks, and every device's weights. -/
def leaves (mem : (ℓ : Loc nD τ sig) → Buf (Elt F) ℓ) : Prop :=
  mem ((c : Thread nD τ).loc main_arg0) = m ((c : Thread nD τ).loc main_arg0) ∧ mem ((c : Thread nD τ).loc main_arg1) = m ((c : Thread nD τ).loc main_arg1)
  ∧ mem ((c : Thread nD τ).loc main_arg2) = m ((c : Thread nD τ).loc main_arg2) ∧ mem ((c : Thread nD τ).loc main_arg3) = m ((c : Thread nD τ).loc main_arg3)
  ∧ mem ((c : Thread nD τ).loc main_v1_0) = ended m hok c 1
  ∧ (∀ b, (wfAt b).view.read (Elt F) (mem ((wfAt b).view.loc (c : Thread nD τ))) = (data m).w b)
  ∧ ∀ b, (wofAt b).view.read (Elt F) (mem ((wofAt b).view.loc (c : Thread nD τ))) = (data m).wo b

theorem all_scoped : ∀ sm : SemLoc sig, sm.isScoped .tc = true := by decide

/-- Every run ends, and ends so. -/
theorem run_all (g : Dev nD → PrngReg) : θ_run (defs (F := F)) (onTc (τ := τ) (main (F := F))) ⟨m, fun _ => 0, g⟩ (fun r => (∀ c : Dev nD, leaves m hok c r.2.mem) ∧ r.2.sem = fun _ => 0) := by
  refine adequate_tpu (defs (F := F)) _ _ _
    (reflect_intro_fupd_tc_sems (Ix := Unit) (Name := ℕ) (U := UU nD τ) (Lvl := ℕ) (X := Unit) (Variants.lift Variants.none) (owing owed0) 0 (noBookings fun _ => le_rfl)
      (Pipeline.owing_of_ne owed0) (u₀ m hok) (fun _ => pre m hok) (fun _ => fin m hok) (fun _ => iprop(emp)) Set.univ ?_ (fun _ c => core_run m hok c) fun _ => ?_)
  · iintro H
    imod (launched m hok g) $$ H with Hp
    imodintro
    iexists ()
    isplitl [Hp]; · iexact Hp
    iempintro
  · have hall (s' : Phys nD τ sig (Elt F)) : (iprop(bigSep Finset.univ (fin m hok) ∗ SI s') : sProp 𝕄)
        ⊢ (⌜∀ c : Dev nD, leaves m hok c s'.mem.mem ∧ ∀ sm : SemLoc sig, sm.isScoped .tc = true → s'.mem.sem ((c : Thread nD τ), sm) = 0⌝ : sProp 𝕄) :=
      fun x hx c =>
        have hc : (iprop(bigSep Finset.univ (fin m hok) ∗ SI s') : sProp 𝕄) ⊢ iprop(fin m hok c ∗ SI s') := sep_mono (bigSep_elim (Finset.mem_univ c)) .rfl
        ⟨⟨(hc.trans (read_table m hok c s')) x hx, ((hc.trans (read_staged m hok c s' 0)) x hx).trans (ended_input m hok c), (hc.trans (read_in m hok c s')) x hx,
          (hc.trans (read_out m hok c s')) x hx, (hc.trans (read_staged m hok c s' 1)) x hx, fun b => (hc.trans (read_wf m hok c s' b)) x hx,
          fun b => (hc.trans (read_wof m hok c s' b)) x hx⟩, (hc.trans (read_sems m hok c s')) x hx⟩
    have hall' (s' : Phys nD τ sig (Elt F)) := (hall s').trans Laws.persistently_pure.2
    iintro ⟨H, -, Hsc⟩ %s' HSI
    ihave %hsc := (scSems_read_zero m g s') $$ [Hsc HSI]
    · isplitl [Hsc]; · iexact Hsc
      iexact HSI
    ihave %h := (hall' s') $$ [H HSI]
    · isplitl [H]; · iexact H
      iexact HSI
    imodintro
    ipureintro
    exact ⟨fun c => (h c).1, sem_eq_zero_of_scoped all_scoped (sems_of_reads (fun c => (h c).2) hsc)⟩

end Cert.Ga

end
-- ==== Proof.Gather.Order.lean ====
module

public import proofs.«01_k».proof.Proof.Gather.Run
public import proofs.«01_k».proof.Pre_names_blocks_Kernel6
public import Idealize.ShloMosaic.Lib.Pointwise

/-!
# The gathering product: the order

What a device's order of its blocks must say for the launch to run.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

variable (m : (ℓ : Loc nD τ sig) → Buf (Elt F) ℓ) (c : Dev nD)

/-- A device's order of the column blocks. -/
abbrev O : S8.Idx → BitVec 32 := m (c.tc.loc main_arg0)

theorem word_of {n : ℕ} (h : n < 8) : (BitVec.ofNat 32 n).toNat = n := by
  rw [BitVec.toNat_ofNat]; exact Nat.mod_eq_of_lt (by omega)

/-- The column block that a grid point's product goes to is the order's entry. -/
theorem col_at (i : grid0.Coords) : cc0_transform_3 k0_off1_inb numel1_S1 (tabs m c) i 1 = (O m c (ix1 ⟨(i 0).val, (i 0).isLt⟩)).toNat := by
  refine congrArg (fun j => BitVec.toNat (O m c j)) (funext fun a => Fin.ext ?_)
  match a with
  | ⟨0, _⟩ => show (BitVec.ofNat 32 (i 0).val).toNat + 1 * 0 = (i 0).val; rw [word_of (i 0).isLt]; omega
theorem row_at (i : grid0.Coords) : cc0_transform_3 k0_off1_inb numel1_S1 (tabs m c) i 0 = (i 1).val := word_of (i 1).isLt

/-- Entries below eight name blocks. -/
theorem ok_of (h : ∀ j : Fin 8, (O m c (ix1 j)).toNat < 8) : ok0 (tabs m c) := fun i =>
  ⟨fun a => match a with
    | ⟨0, _⟩ => Nat.mul_le_mul_right 1024 (show _ + 1 ≤ 8 from Nat.succ_le_of_lt (lt_of_eq_of_lt (row_at m c i) (i 1).isLt))
    | ⟨1, _⟩ => Nat.mul_le_mul_right 1024 (show _ + 1 ≤ 8 from Nat.succ_le_of_lt (lt_of_eq_of_lt (col_at m c i) (h _))), .inl rfl⟩

/-- What the precondition says of an entry. -/
theorem lt_of_between {v : BitVec 32} (h : IntOp.andi (IntOp.cmpi .sge v 0#32) (IntOp.cmpi .slt v 8#32) = 1#1) : v.toNat < 8 := by
  have both : ∀ a b : Bool, BitVec.ofBool a &&& BitVec.ofBool b = 1#1 → a = true ∧ b = true := by decide
  obtain ⟨h0, h1⟩ := both _ _ h
  rw [BitVec.sle_iff_toInt_le] at h0
  rw [BitVec.slt_iff_toInt_lt] at h1
  have z : (0#32 : BitVec 32).toInt = 0 := by decide
  have e : (8#32 : BitVec 32).toInt = 8 := by decide
  have hc := BitVec.toInt_eq_toNat_cond v
  have hl := v.isLt
  split at hc <;> omega

/-- Under the precondition every device's order names blocks. -/
theorem named_of [Cert.Pre_names_blocks_Kernel6.Facts]
    (h : ∀ c : Dev nD, Cert.Pre_names_blocks_Kernel6.fn (F := F) (m (c.tc.loc main_arg0)) (m (c.tc.loc main_arg1))
      (m (c.tc.loc main_arg2)) (m (c.tc.loc main_arg3)) = fun _ => 1#1) : Named m :=
  fun c => ok_of m c fun j => lt_of_between (congrFun (h c) (ix1 j))

end Cert.Ga

end
-- ==== Proof.Gather.Values.lean ====
module

public import proofs.«01_k».proof.Proof.Gather.Order
public import Idealize.ShloMosaic.Lib.Tactic
public import Idealize.ShloMosaic.Lib.Pipeline.TableIdle

/-!
# The gathering product: the first result

On a device whose order is the one that its exchange gathers in, the first result is its rows times all columns.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

variable (m : (ℓ : Loc nD τ sig) → Buf (Elt Ideal) ℓ) (hok : Named m) (c : Dev nD)

/-- The device's rows, its columns of the input weights, and its rows of the output weights. -/
abbrev H : S8192x2048.Idx → EReal := m (c.tc.loc main_arg1)
abbrev W : S2048x1024.Idx → EReal := m (c.tc.loc main_arg2)
abbrev WO : S256x2048.Idx → EReal := m (c.tc.loc main_arg3)

/-- The device's rows times all columns. -/
def full : S8192x8192.Idx → EReal := fun i =>
  ∑ k : Fin 2048, H m c (ix2 ⟨(i 0).val, (i 0).isLt⟩ k)
    * W m ⟨(i 1).val / 1024, by have h : (i 1).val < 8192 := (i 1).isLt; show _ < 8; omega⟩ (ix2 k ⟨(i 1).val % 1024, Nat.mod_lt _ (by decide)⟩)

theorem prodOf_apply (h : Vec Ideal S1024x2048 .bf16) (w : Vec Ideal S2048x1024 .bf16) (r e : Fin 1024) :
    prodOf h w (ix2 r e) = ∑ k : Fin 2048, h (ix2 r k) * w (ix2 k e) := by
  unfold prodOf
  pointwise

theorem coord0 : ∀ t : Fin grid0.N, (grid0.coords t 0).val = t.val / 8 := by decide
theorem coord1 : ∀ t : Fin grid0.N, (grid0.coords t 1).val = t.val % 8 := by decide
theorem lt64 (t : Fin grid0.N) : t.val < 64 := lt_of_lt_of_eq t.isLt N_0

theorem rows_apply (t : Fin grid0.N) (r : Fin 1024) (k : Fin 2048) :
    rows m hok c t (ix2 r k) = H m c (ix2 ⟨1024 * (t.val % 8) + r.val, by omega⟩ k) := by
  unfold rows
  rw [View.read_apply]
  refine (cast_eq _ _).trans (congrArg (m (c.tc.loc main_arg1)) (funext fun a => Fin.ext ?_))
  match a with
  | ⟨0, _⟩ =>
    show (BitVec.ofNat 32 (grid0.coords t 1).val).toNat * 1024 + 1 * r.val = 1024 * (t.val % 8) + r.val
    rw [word_of (grid0.coords t 1).isLt, coord1]; omega
  | ⟨1, _⟩ => show 0 * 2048 + 1 * k.val = k.val; omega

/-- The block of the result that a grid point's product goes to. -/
theorem at_row (t : Fin grid0.N) : (win0 (adm m hok c) 1).index t 0 = t.val % 8 := (row_at m c (grid0.coords t)).trans (coord1 t)

/-- Every product is written back. -/
theorem flush1 (t : Fin grid0.N) : (win0 (adm m hok c) 1).flush t = true := by
  rw [Pipeline.Window.flush_eq_flushF]
  unfold Pipeline.Window.flushF
  rw [show (win0 (adm m hok c) 1).isOut = true from rfl, Bool.true_and]
  by_cases h : t.val + 1 = grid0.N
  · exact Bool.or_eq_true_iff.mpr (.inl (decide_eq_true h))
  · have h' : t.val + 1 < grid0.N := lt_of_le_of_ne (Nat.succ_le_of_lt t.isLt) h
    refine Bool.or_eq_true_iff.mpr (.inr (decide_eq_true ⟨h', 0, ?_⟩))
    rw [at_row, at_row]
    show (t.val + 1) % 8 ≠ t.val % 8
    omega

/-- The order is the one that the exchange gathers in. -/
def Own : Prop := ∀ j : Fin 8, (O m c (ix1 j)).toNat = (gm c j).val

variable {m c} (own : Own m c)
include own

theorem at_col (t : Fin grid0.N) : (win0 (adm m hok c) 1).index t 1 = (gm c (lk t)).val := by
  refine (col_at m c (grid0.coords t)).trans ((own _).trans ?_)
  exact congrArg (fun j => (gm c j).val) (Fin.ext (coord0 t))

theorem wrote_at (t : Fin grid0.N) (r e : Fin 1024) : prod m hok c t (ix2 r e) = ((win0 (adm m hok c) 1).blk t).view.read (Elt Ideal) (full m c) (ix2 r e) := by
  rw [View.read_apply]
  unfold prod
  rw [prodOf_apply]
  refine Eq.trans ?_ (cast_eq _ _).symm
  have h0 : (((win0 (adm m hok c) 1).blk t).view.emb (ix2 r e) 0).val = t.val % 8 * 1024 + 1 * r.val :=
    congrArg (· * 1024 + 1 * r.val) (at_row m hok c t)
  have h1 : (((win0 (adm m hok c) 1).blk t).view.emb (ix2 r e) 1).val = (gm c (lk t)).val * 1024 + 1 * e.val :=
    congrArg (· * 1024 + 1 * e.val) (at_col hok own t)
  unfold full
  refine Finset.sum_congr rfl fun k _ => ?_
  rw [rows_apply]
  refine congrArg₂ (· * ·) (congrArg (fun a => H m c (ix2 a k)) (Fin.ext (by rw [h0]; show 1024 * (t.val % 8) + r.val = _; omega))) ?_
  refine (show (data m).w (gm c (lk t)) (ix2 k e) = W m (gm c (lk t)) (ix2 k e) from rfl).trans ?_
  exact congrArg₂ (fun d a => W m d (ix2 k a)) (Fin.ext (by show (gm c (lk t)).val = _ / 1024; rw [h1]; omega)) (Fin.ext (by show e.val = _ % 1024; rw [h1]; omega))

theorem wrote (t : Fin grid0.N) : (dats m hok 0 c).flushed 1 t = ((win0 (adm m hok c) 1).blk t).view.read (Elt Ideal) (full m c) :=
  funext fun (y : S1024x1024.Idx) => by
    obtain ⟨r, e, rfl⟩ : ∃ r e : Fin 1024, y = ix2 r e := ⟨y 0, y 1, eq_ix2 y⟩
    exact wrote_at hok own t r e

omit own in
theorem gm_onto : ∀ (c : Dev nD) (b : Fin 8), ∃ j : Fin 8, (gm c j).val = b.val := by decide

theorem covered (i : S8192x8192.Idx) : ∃ t : Fin grid0.N, ∀ a, (win0 (adm m hok c) 1).index t a * S1024x1024.size a ≤ (i a : ℕ)
    ∧ (i a : ℕ) < (win0 (adm m hok c) 1).index t a * S1024x1024.size a + S1024x1024.size a := by
  have h0 : (i 0).val < 8192 := (i 0).isLt
  have h1 : (i 1).val < 8192 := (i 1).isLt
  obtain ⟨j, hj⟩ := gm_onto c ⟨(i 1).val / 1024, by omega⟩
  have hj' : (gm c j).val = (i 1).val / 1024 := hj
  refine ⟨⟨8 * j.val + (i 0).val / 1024, lt_of_lt_of_eq (by omega) N_0.symm⟩, fun a => ?_⟩
  match a with
  | ⟨0, _⟩ =>
    show (win0 (adm m hok c) 1).index _ 0 * 1024 ≤ (i 0).val ∧ (i 0).val < (win0 (adm m hok c) 1).index _ 0 * 1024 + 1024
    rw [at_row]; show (8 * j.val + (i 0).val / 1024) % 8 * 1024 ≤ _ ∧ _ < (8 * j.val + (i 0).val / 1024) % 8 * 1024 + 1024; omega
  | ⟨1, _⟩ =>
    show (win0 (adm m hok c) 1).index _ 1 * 1024 ≤ (i 1).val ∧ (i 1).val < (win0 (adm m hok c) 1).index _ 1 * 1024 + 1024
    rw [at_col hok own, show lk ⟨8 * j.val + (i 0).val / 1024, lt_of_lt_of_eq (by omega) N_0.symm⟩ = j from Fin.ext (by show (8 * j.val + (i 0).val / 1024) / 8 = j.val; omega), hj']
    omega

/-- The first result after the run. -/
theorem ended_eq : ended m hok c 1 = full m c :=
  (dats m hok 0 c).arrAt_eq_of_cover 1 (full m c) (fun t _ => wrote hok own t) fun i => by
    obtain ⟨t, ht⟩ := covered hok own i
    refine ⟨t, flush1 m hok c t, ?_⟩
    show i ∈ ((View.whole main_v1_0).slice ((win0 (adm m hok c) 1).xrect (grid0.coords t))).set
    rw [View.set_slice_whole]
    exact Rect.mem_set_unit.mpr ht

end Cert.Ga

end
-- ==== Proof.Gather.Mask.lean ====
module

public import proofs.«01_k».proof.Proof.Gather.Setup
public import proofs.«01_k».proof.On_own_order
public import Idealize.ShloMosaic.Lib.Pipeline.Value
public import Idealize.ShloMosaic.Lib.Pointwise

/-!
# The gathering product: where the result is named

What the mask of the value claim says of a device's order.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

open Cert.On_own_order (lit0)

variable [Cert.On_own_order.Facts] (o : IVec ⟨1, ![64]⟩ 32) (h : Vec Ideal ⟨2, ![65536, 2048]⟩ .bf16)
  (w : Vec Ideal ⟨2, ![2048, 8192]⟩ .bf16) (wo : Vec Ideal ⟨2, ![2048, 2048]⟩ .bf16)

omit [Cert.On_own_order.Facts] in
theorem both_set : ∀ a b : BitVec 1, IntOp.andi a b = 1#1 → a = 1#1 ∧ b = 1#1 := by decide
omit [Cert.On_own_order.Facts] in
theorem eq_of_set {a b : BitVec 32} (h : IntOp.cmpi .eq a b = 1#1) : a = b := by
  have t : ∀ x : Bool, BitVec.ofBool x = 1#1 → x = true := by decide
  exact eq_of_beq (t _ h)

omit [Cert.On_own_order.Facts] in
/-- Column `j` of a table, as a vector. -/
theorem column (v : IVec ⟨2, ![8, 8]⟩ 1) (j p : Fin 8) (hs : (⟨2, ![8, 8]⟩ : Shape).Slices ![0, j.val] ⟨2, ![8, 1]⟩)
    (hc : (⟨2, ![8, 1]⟩ : Shape).ShapeCasts ⟨1, ![8]⟩) :
    shapeCast ⟨1, ![8]⟩ (extractStridedSlice ⟨2, ![8, 1]⟩ ![0, j.val] v hs) hc (ix1 p) = v (ix2 p j) := by
  refine (shapeCast_apply _ hc (ix1 p) (ix2 p 0) (by rw [Shape.rowMajor_val_two, Shape.rowMajor_val_one]; show p.val * 1 + 0 = p.val; omega)).trans ?_
  exact extractStridedSlice_apply _ v hs _ _ fun a => match a with
    | ⟨0, _⟩ => (Nat.zero_add _).symm
    | ⟨1, _⟩ => (Nat.add_zero _).symm

/-- Row `r` of device `p`. -/
def rowAt (p : Fin 8) (r : Fin 8192) : Fin 65536 := ⟨p.val * 8192 + r.val, by omega⟩

/-- Where the mask is set, the device of the row has the order that its exchange gathers in. -/
theorem own_of_mask (p : Fin 8) (r e : Fin 8192) (hm : (Cert.On_own_order.fn (F := Ideal) o h w wo).1 (ix2 (rowAt p r) e) = 1#1) (j : Fin 8) :
    o (ix1 ⟨8 * p.val + j.val, by omega⟩) = lit0 ⟨8 * p.val + j.val, by omega⟩ := by
  unfold Cert.On_own_order.fn Cert.On_own_order.fn_part1 at hm
  dsimp only at hm
  rw [shapeCast_apply _ _ (ix2 (rowAt p r) e) (ix3 p r e) (by
      rw [Shape.rowMajor_val_two, Shape.rowMajor_val_three]; rfl),
    broadcastInDim_apply _ _ _ (ix3 p r e) (ix1 p) (fun a => match a with | ⟨0, _⟩ => rfl)] at hm
  obtain ⟨hm, h7⟩ := both_set _ _ hm
  obtain ⟨hm, h6⟩ := both_set _ _ hm
  obtain ⟨hm, h5⟩ := both_set _ _ hm
  obtain ⟨hm, h4⟩ := both_set _ _ hm
  obtain ⟨hm, h3⟩ := both_set _ _ hm
  obtain ⟨hm, h2⟩ := both_set _ _ hm
  obtain ⟨h0, h1⟩ := both_set _ _ hm
  have key : ∀ j : Fin 8, IntOp.cmpi .eq (shapeCast ⟨2, ![8, 8]⟩ o Cert.On_own_order.Facts.shapeCasts_S64_S8x8 (ix2 p j))
      (lit0 ((⟨2, ![8, 8]⟩ : Shape).rowMajor (ix2 p j))) = 1#1 := fun j => match j with
    | 0 => (column _ 0 p _ _).symm.trans h0 | 1 => (column _ 1 p _ _).symm.trans h1
    | 2 => (column _ 2 p _ _).symm.trans h2 | 3 => (column _ 3 p _ _).symm.trans h3
    | 4 => (column _ 4 p _ _).symm.trans h4 | 5 => (column _ 5 p _ _).symm.trans h5
    | 6 => (column _ 6 p _ _).symm.trans h6 | 7 => (column _ 7 p _ _).symm.trans h7
  have e := eq_of_set (key j)
  have hr : ((⟨2, ![8, 8]⟩ : Shape).rowMajor (ix2 p j)).val = 8 * p.val + j.val := by
    rw [Shape.rowMajor_val_two]; show p.val * 8 + j.val = _; omega
  rw [shapeCast_apply o _ (ix2 p j) (ix1 ⟨8 * p.val + j.val, by omega⟩) (by
      rw [hr]; exact Shape.rowMajor_val_one _)] at e
  exact e.trans (congrArg lit0 (Fin.ext hr))

end Cert.Ga

end
-- ==== Proof.Gather.Equation.lean ====
module

public import proofs.«01_k».proof.Proof.Gather.Values
public import proofs.«01_k».proof.Proof.Gather.Mask
public import proofs.«01_k».proof.Proof.Gen.Reference6Ideal.Read

/-!
# The gathering product: the equation

On devices that hold the blocks of the whole arrays, the results are the reference's: the gathered weights always, the
product on every device whose order is the one that its exchange gathers in.
-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

open Cert.Reference6Ideal.Read

variable (m : (ℓ : Loc nD τ sig) → Buf (Elt Ideal) ℓ)
  (o : IVec ⟨1, ![64]⟩ 32) (h : Vec Ideal ⟨2, ![65536, 2048]⟩ .bf16) (w : Vec Ideal ⟨2, ![2048, 8192]⟩ .bf16) (wo : Vec Ideal ⟨2, ![2048, 2048]⟩ .bf16)

/-- The devices hold the blocks of the whole arrays. -/
structure Cut : Prop where
  o : ∀ c : Dev nD, O m c = Layout.block ⟨1, ![8]⟩ ⟨1, ![64]⟩ 0 8 c o
  h : ∀ c : Dev nD, H m c = Layout.block ⟨2, ![8192, 2048]⟩ ⟨2, ![65536, 2048]⟩ 0 8 c h
  w : ∀ c : Dev nD, W m c = Layout.block ⟨2, ![2048, 1024]⟩ ⟨2, ![2048, 8192]⟩ 1 8 c w
  wo : ∀ c : Dev nD, WO m c = Layout.block ⟨2, ![256, 2048]⟩ ⟨2, ![2048, 2048]⟩ 0 8 c wo

variable {m o h w wo} (cut : Cut m o h w wo) (c : Dev nD)

theorem order_of : ∀ (c : Dev nD) (j : Fin 8), (Cert.On_own_order.lit0 ⟨8 * c.val + j.val, by have := c.isLt; change c.val < 8 at this; omega⟩).toNat = (gm c j).val := by decide

include cut

/-- Where the mask is set, the device of the row has its own order. -/
theorem own_of [Cert.On_own_order.Facts] (r e : Fin 8192) (hm : (Cert.On_own_order.fn (F := Ideal) o h w wo).1 (ix2 (rowAt c r) e) = 1#1) : Own m c := by
  intro j
  rw [cut.o, Layout.block_apply]
  refine Eq.trans ?_ (order_of c j)
  refine congrArg BitVec.toNat (Eq.trans ?_ (own_of_mask o h w wo c r e hm j))
  refine congrArg o (funext fun a => Fin.ext ?_)
  match a with
  | ⟨0, _⟩ => show c.val * 8 + j.val = 8 * c.val + j.val; omega

theorem h_eq (r : Fin 8192) (k : Fin 2048) : H m c (ix2 r k) = h (ix2 (rowAt c r) k) := by
  rw [cut.h, Layout.block_apply]
  refine congrArg h (funext fun a => Fin.ext ?_)
  match a with
  | ⟨0, _⟩ => rfl
  | ⟨1, _⟩ => rfl
theorem w_eq (k : Fin 2048) (e : Fin 1024) : W m c (ix2 k e) = w (ix2 k ⟨c.val * 1024 + e.val, by have := c.isLt; change c.val < 8 at this; omega⟩) := by
  rw [cut.w, Layout.block_apply]
  refine congrArg w (funext fun a => Fin.ext ?_)
  match a with
  | ⟨0, _⟩ => rfl
  | ⟨1, _⟩ => rfl
theorem wo_eq (d : Fin 256) (k : Fin 2048) : WO m c (ix2 d k) = wo (ix2 ⟨c.val * 256 + d.val, by have := c.isLt; change c.val < 8 at this; omega⟩ k) := by
  rw [cut.wo, Layout.block_apply]
  refine congrArg wo (funext fun a => Fin.ext ?_)
  match a with
  | ⟨0, _⟩ => rfl
  | ⟨1, _⟩ => rfl

/-- A device's rows times all columns are its rows of the reference's product. -/
theorem full_eq (r e : Fin 8192) : full m c (ix2 r e) = val_main_v0 (F := Ideal) h w (ix2 (rowAt c r) e) := by
  rw [val_main_v0_apply]
  refine Finset.sum_congr rfl fun k _ => ?_
  refine congrArg₂ (· * ·) ((h_eq cut c _ _).trans (congrArg h (funext fun a => Fin.ext ?_))) ((w_eq cut _ _ _).trans (congrArg w (funext fun a => Fin.ext ?_)))
  · match a with
    | ⟨0, _⟩ => rfl
    | ⟨1, _⟩ => rfl
  · match a with
    | ⟨0, _⟩ => rfl
    | ⟨1, _⟩ => show e.val / 1024 * 1024 + e.val % 1024 = e.val; omega

/-- The first result, where it is named. -/
theorem z_eq [Cert.On_own_order.Facts] (hok : Named m) (i : S8192x8192.Idx)
    (hm : (Layout.block ⟨2, ![8192, 8192]⟩ ⟨2, ![65536, 8192]⟩ 0 8 c (Cert.On_own_order.fn (F := Ideal) o h w wo).1 : S8192x8192.Idx → _) i = 1#1) :
    ended m hok c 1 i = (Layout.block ⟨2, ![8192, 8192]⟩ ⟨2, ![65536, 8192]⟩ 0 8 c (val_main_v0 (F := Ideal) h w) : S8192x8192.Idx → _) i := by
  obtain ⟨r, e, rfl⟩ : ∃ r e : Fin 8192, i = ix2 r e := ⟨i 0, i 1, eq_ix2 i⟩
  have at_ : ∀ {α : Type} (f : (⟨2, ![65536, 8192]⟩ : Shape).Idx → α),
      (Layout.block ⟨2, ![8192, 8192]⟩ ⟨2, ![65536, 8192]⟩ 0 8 c f : S8192x8192.Idx → α) (ix2 r e) = f (ix2 (rowAt c r) e) := fun f => by
    rw [Layout.block_apply]
    refine congrArg f (funext fun a => Fin.ext ?_)
    match a with
    | ⟨0, _⟩ => rfl
    | ⟨1, _⟩ => rfl
  rw [at_] at hm ⊢
  rw [ended_eq hok (own_of cut c r e hm)]
  exact full_eq cut c r e

omit cut in
/-- A slab of the gathered input weights, read through its window; -/
theorem wf_read (b : Fin 8) (f : S8x2048x1024.Idx → EReal) (d : Fin 2048) (e : Fin 1024) : (wfAt b).view.read (Elt Ideal) f (ix2 d e) = f (ix3 b d e) := by
  have hc : S1x2048x1024.ShapeCasts S2048x1024 := squeezes_S1x2048x1024_S2048x1024.numel_eq
  refine (show _ = shapeCast S2048x1024 (wfM.view.readAt (Elt Ideal) (Rect.unit (s := S8x2048x1024) ![b.val, 0, 0] S1x2048x1024.size (inb_wf b)).toLoadRect f) hc (ix2 d e) from rfl).trans ?_
  refine (shapeCast_apply _ hc (ix2 d e) (ix3 0 d e) (by
    rw [Shape.rowMajor_val_three, Shape.rowMajor_val_two]
    show (0 * 2048 + d.val) * 1024 + e.val = d.val * 1024 + e.val
    omega)).trans ?_
  refine congrArg f (funext fun a => Fin.ext ?_)
  match a with
  | ⟨0, _⟩ => show b.val + 1 * 0 = b.val; omega
  | ⟨1, _⟩ => show 0 + 1 * d.val = d.val; omega
  | ⟨2, _⟩ => show 0 + 1 * e.val = e.val; omega
omit cut in
/-- and of the gathered output weights. -/
theorem wof_read (b : Fin 8) (f : S8x256x2048.Idx → EReal) (d : Fin 256) (e : Fin 2048) : (wofAt b).view.read (Elt Ideal) f (ix2 d e) = f (ix3 b d e) := by
  have hc : S1x256x2048.ShapeCasts S256x2048 := squeezes_S1x256x2048_S256x2048.numel_eq
  refine (show _ = shapeCast S256x2048 (wofM.view.readAt (Elt Ideal) (Rect.unit (s := S8x256x2048) ![b.val, 0, 0] S1x256x2048.size (inb_wof b)).toLoadRect f) hc (ix2 d e) from rfl).trans ?_
  refine (shapeCast_apply _ hc (ix2 d e) (ix3 0 d e) (by
    rw [Shape.rowMajor_val_three, Shape.rowMajor_val_two]
    show (0 * 256 + d.val) * 2048 + e.val = d.val * 2048 + e.val
    omega)).trans ?_
  refine congrArg f (funext fun a => Fin.ext ?_)
  match a with
  | ⟨0, _⟩ => show b.val + 1 * 0 = b.val; omega
  | ⟨1, _⟩ => show 0 + 1 * d.val = d.val; omega
  | ⟨2, _⟩ => show 0 + 1 * e.val = e.val; omega

/-- The gathered input weights are the reference's. -/
theorem wf_eq {f : S8x2048x1024.Idx → EReal} (hf : ∀ b : Fin 8, (wfAt b).view.read (Elt Ideal) f = W m b) : f = val_main_v2 (F := Ideal) w := by
  have e : ∀ (b : Fin 8) (d : Fin 2048) (k : Fin 1024), f (ix3 b d k) = val_main_v2 (F := Ideal) w (ix3 b d k) := fun b d k => by
    rw [← wf_read b f d k, hf, w_eq cut, val_main_v2_apply, val_main_v1_apply]
    refine congrArg w (funext fun a => Fin.ext ?_)
    match a with
    | ⟨0, _⟩ => show d.val = ((d.val * 8 + b.val) * 1024 + k.val) / 8192; omega
    | ⟨1, _⟩ => show b.val * 1024 + k.val = ((d.val * 8 + b.val) * 1024 + k.val) % 8192; omega
  exact funext fun i => by rw [eq_ix3 i]; exact e (i 0) (i 1) (i 2)
/-- So are the gathered output weights. -/
theorem wof_eq {f : S8x256x2048.Idx → EReal} (hf : ∀ b : Fin 8, (wofAt b).view.read (Elt Ideal) f = WO m b) : f = val_main_v3 (F := Ideal) wo := by
  have e : ∀ (b : Fin 8) (d : Fin 256) (k : Fin 2048), f (ix3 b d k) = val_main_v3 (F := Ideal) wo (ix3 b d k) := fun b d k => by
    rw [← wof_read b f d k, hf, wo_eq cut, val_main_v3_apply]
    refine congrArg wo (funext fun a => Fin.ext ?_)
    match a with
    | ⟨0, _⟩ => show b.val * 256 + d.val = ((b.val * 256 + d.val) * 2048 + k.val) / 2048; omega
    | ⟨1, _⟩ => show k.val = ((b.val * 256 + d.val) * 2048 + k.val) % 2048; omega
  exact funext fun i => by rw [eq_ix3 i]; exact e (i 0) (i 1) (i 2)

end Cert.Ga

end
-- ==== Proof.Gather.Claims.lean ====
module

public import proofs.«01_k».proof.Proof.Gather.Equation
public import proofs.«01_k».proof.Defs
public import proofs.«01_k».proof.Proof.Gen.Kernel6
public import Idealize.ShloMosaic.Adequacy
public import Idealize.ShloMosaic.Init

/-!
# The claims about the gathering product

-/

@[expose] public noncomputable section

namespace Cert.Ga

open Cert.Kernel6Ideal Cert.Kernel6Ideal.Gen
open Idealize.ShloMosaic TcCoe Tactic Rounds Idealize.SL RA BI BIBase Laws ProofMode Sem

variable {F : FTy → Type} [FloatOps F]

instance pre_facts : Cert.Pre_names_blocks_Kernel6.Facts := ⟨by decide⟩
instance ref_facts : Cert.Pre_names_blocks_Reference6Ideal.Facts := ⟨by decide⟩
instance mask_facts : Cert.On_own_order.Facts where
  shapeCasts_S64_S8x8 := by decide
  slices_S8x8_S8x1_0_0 := by decide
  shapeCasts_S8x1_S8 := by decide
  slices_S8x8_S8x1_0_1 := by decide
  slices_S8x8_S8x1_0_2 := by decide
  slices_S8x8_S8x1_0_3 := by decide
  slices_S8x8_S8x1_0_4 := by decide
  slices_S8x8_S8x1_0_5 := by decide
  slices_S8x8_S8x1_0_6 := by decide
  slices_S8x8_S8x1_0_7 := by decide
  bcast_S8_S8x8192x8192_0 := by decide
  shapeCasts_S8x8192x8192_S65536x8192 := by decide
  bcast_S_S8x2048x1024 := by decide
  bcast_S_S8x256x2048 := by decide

/-- The kernel ends with its arguments unchanged and its counters at zero, in either arithmetic, when every order names blocks. -/
theorem frame_main {F : FTy → Type} [FloatOps F] (m : (ℓ : Loc nD τ sig) → Buf (Elt F) ℓ) (hok : Named m) (ρ : Dev nD → PrngReg) :
    θ_run (defs (F := F)) (onTc (main (F := F))) ⟨m, fun _ => 0, ρ⟩ (fun r =>
      (∀ c : Dev nD, r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3))
      ∧ r.2.sem = fun _ => 0) :=
  (θ_run defs _ _).mono (fun _ h => ⟨fun c => ⟨(h.1 c).1, (h.1 c).2.1, (h.1 c).2.2.1, (h.1 c).2.2.2.1⟩, h.2⟩) (run_all m hok ρ)

/-- In exact arithmetic; -/
theorem frame_ideal : Cert.quiescent_Kernel6Ideal := fun m ρ h => frame_main (F := Ideal) m (named_of m h) ρ

/-- The two texts run the same bodies. -/
theorem bodies_eq : Cert.Kernel6.defs₀ (F := Bits) = defs₀ (F := Bits) := by
  unfold Cert.Kernel6.defs₀ defs₀
  refine congrArg Defs.onTc ?_
  funext l x
  match l, x with
  | 0, (t, s) => rfl

theorem defs_eq : Cert.Kernel6.defs (F := Bits) = defs (F := Bits) := congrArg (Pipeline.defs pcfgs) bodies_eq

/-- and in the machine's, of which it is the same text. -/
theorem frame_kernel : Cert.quiescent_Kernel6 := fun m ρ hp => by
  have h := frame_main (F := Bits) m (named_of m hp) ρ
  rw [← defs_eq] at h
  exact h

/-- So does the reference, which has no counters; -/
theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)
/-- in particular on orders that name blocks. -/
theorem frame_reference_pre : Cert.quiescent_Reference6Ideal_pre_names_blocks_Reference6Ideal := fun m ρ _ => frame_reference m ρ trivial

/-- In exact arithmetic every device ends with the reference's gathered weights, and with its rows of the reference's product if its
    order is the one that its exchange gathers in. -/
theorem algebraic : Cert.algebraic_Kernel6Ideal_Reference6Ideal_on_own_order := by
  intro m ρ m' ρ' hp hagree
  have cut : Cut m _ _ _ _ := ⟨fun c => (hagree c).1, fun c => (hagree c).2.1, fun c => (hagree c).2.2.1, fun c => (hagree c).2.2.2⟩
  refine ⟨Cert.Reference6Ideal.Read.val_main_v0 (F := Ideal) (m' (((0 : Dev Cert.Reference6Ideal.nD).tc).loc Cert.Reference6Ideal.main_arg1)) (m' (((0 : Dev Cert.Reference6Ideal.nD).tc).loc Cert.Reference6Ideal.main_arg2)),
    Cert.Reference6Ideal.Read.val_main_v2 (F := Ideal) (m' (((0 : Dev Cert.Reference6Ideal.nD).tc).loc Cert.Reference6Ideal.main_arg2)),
    Cert.Reference6Ideal.Read.val_main_v3 (F := Ideal) (m' (((0 : Dev Cert.Reference6Ideal.nD).tc).loc Cert.Reference6Ideal.main_arg3)),
    (θ_run Cert.Kernel6Ideal.defs _ _).mono (fun r h c => ?_) (run_all (F := Ideal) m (named_of m hp) ρ),
    (θ_run Cert.Reference6Ideal.defs _ _).mono (fun r h => ?_) (Cert.Reference6Ideal.Value.run (F := Ideal) m' ρ')⟩
  · obtain ⟨a0, a1, a2, a3, z, wf, wof⟩ := h.1 c
    exact ⟨fun i hm => (congrFun z i).trans (z_eq cut c _ i hm), fun i _ => congrFun (wf_eq cut wf) i, fun i _ => congrFun (wof_eq cut wof) i, a0, a1, a2, a3⟩
  · obtain ⟨h0, h1, h2, hargs⟩ := h 0
    exact ⟨fun i _ => congrFun (h0.trans (Cert.Reference6Ideal.Read.val_main_v0_eq _ _)) i, fun i _ => congrFun (h1.trans (Cert.Reference6Ideal.Read.val_main_v2_eq _)) i,
      fun i _ => congrFun (h2.trans (Cert.Reference6Ideal.Read.val_main_v3_eq _)) i, hargs⟩

end Cert.Ga

end
-- ==== Proof.lean ====
module

public import proofs.«01_k».proof.Proof.OutprojClaims
public import proofs.«01_k».proof.Proof.Dx.Claims
public import proofs.«01_k».proof.Proof.Opt.InArrays
public import proofs.«01_k».proof.Proof.Opt.Out
public import proofs.«01_k».proof.Proof.Scatter.Claims
public import proofs.«01_k».proof.Proof.Gather.Claims

@[expose] public section

noncomputable section

namespace Cert.Proof

/-- All claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Ga.pre_facts, Ga.ref_facts, Ga.mask_facts,
    OutprojClaims.frame_kernel, OutprojClaims.frame_ideal, OutprojClaims.frame_reference,
    Dx.Claims.frame_kernel, Dx.Claims.frame_ideal, Dx.Claims.frame_reference,
    Opt.InArrays.frame_kernel, Opt.InArrays.frame_ideal, Opt.InArrays.frame_reference,
    Opt.Out.frame_kernel, Opt.Out.frame_ideal, Opt.Out.frame_reference,
    Sc.Claims.frame_kernel, Sc.Claims.frame_ideal, Sc.Claims.frame_reference,
    Ga.frame_kernel, Ga.frame_ideal, Ga.frame_reference, Ga.frame_reference_pre,
    trivial, OutprojClaims.algebraic, trivial, Dx.Claims.algebraic,
    trivial, Opt.InArrays.algebraic, trivial, Opt.Out.algebraic,
    trivial, Sc.Claims.algebraic, trivial, Ga.algebraic⟩

end Cert.Proof

end
